-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelDu (m : (ℓ : Loc Cert.KernelDu.nD Cert.KernelDu.τ Cert.KernelDu.sig) → Buf (Elt Bits) ℓ) : Prop :=
  True

def Pre_KernelDuIdeal (m : (ℓ : Loc Cert.KernelDuIdeal.nD Cert.KernelDuIdeal.τ Cert.KernelDuIdeal.sig) → Buf (Elt Ideal) ℓ) : Prop :=
  True

def Pre_ReferenceDuIdeal (m : (ℓ : Loc Cert.ReferenceDuIdeal.nD Cert.ReferenceDuIdeal.τ Cert.ReferenceDuIdeal.sig) → Buf (Elt Ideal) ℓ) : Prop :=
  True

def Pre_KernelGdown (m : (ℓ : Loc Cert.KernelGdown.nD Cert.KernelGdown.τ Cert.KernelGdown.sig) → Buf (Elt Bits) ℓ) : Prop :=
  True

def Pre_KernelGdownIdeal (m : (ℓ : Loc Cert.KernelGdownIdeal.nD Cert.KernelGdownIdeal.τ Cert.KernelGdownIdeal.sig) → Buf (Elt Ideal) ℓ) : Prop :=
  True

def Pre_ReferenceGdownIdeal (m : (ℓ : Loc Cert.ReferenceGdownIdeal.nD Cert.ReferenceGdownIdeal.τ Cert.ReferenceGdownIdeal.sig) → Buf (Elt Ideal) ℓ) : Prop :=
  True

def Pre_KernelGup (m : (ℓ : Loc Cert.KernelGup.nD Cert.KernelGup.τ Cert.KernelGup.sig) → Buf (Elt Bits) ℓ) : Prop :=
  True

def Pre_KernelGupIdeal (m : (ℓ : Loc Cert.KernelGupIdeal.nD Cert.KernelGupIdeal.τ Cert.KernelGupIdeal.sig) → Buf (Elt Ideal) ℓ) : Prop :=
  True

def Pre_ReferenceGupIdeal (m : (ℓ : Loc Cert.ReferenceGupIdeal.nD Cert.ReferenceGupIdeal.τ Cert.ReferenceGupIdeal.sig) → Buf (Elt Ideal) ℓ) : Prop :=
  True

def Pre_KernelDh (m : (ℓ : Loc Cert.KernelDh.nD Cert.KernelDh.τ Cert.KernelDh.sig) → Buf (Elt Bits) ℓ) : Prop :=
  True

def Pre_KernelDhIdeal (m : (ℓ : Loc Cert.KernelDhIdeal.nD Cert.KernelDhIdeal.τ Cert.KernelDhIdeal.sig) → Buf (Elt Ideal) ℓ) : Prop :=
  True

def Pre_ReferenceDhIdeal (m : (ℓ : Loc Cert.ReferenceDhIdeal.nD Cert.ReferenceDhIdeal.τ Cert.ReferenceDhIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelDu [hKernelDu : Cert.KernelDu.Facts] : Prop :=
  ∀ (m : (ℓ : Loc Cert.KernelDu.nD Cert.KernelDu.τ Cert.KernelDu.sig) → Buf (Elt Bits) ℓ) (g : Dev Cert.KernelDu.nD → PrngReg), Pre_KernelDu m →
    θ_run (Cert.KernelDu.defs (F := Bits)) (onTc (τ := Cert.KernelDu.τ) (Cert.KernelDu.main (F := Bits))) ⟨m, fun _ => 0, g⟩ (fun r => (∀ c : Dev Cert.KernelDu.nD,
      r.2.mem ((c.tc : Thread Cert.KernelDu.nD Cert.KernelDu.τ).loc Cert.KernelDu.main_arg0) = m ((c.tc : Thread Cert.KernelDu.nD Cert.KernelDu.τ).loc Cert.KernelDu.main_arg0)
      ∧ r.2.mem ((c.tc : Thread Cert.KernelDu.nD Cert.KernelDu.τ).loc Cert.KernelDu.main_arg1) = m ((c.tc : Thread Cert.KernelDu.nD Cert.KernelDu.τ).loc Cert.KernelDu.main_arg1)
      ∧ r.2.mem ((c.tc : Thread Cert.KernelDu.nD Cert.KernelDu.τ).loc Cert.KernelDu.main_arg2) = m ((c.tc : Thread Cert.KernelDu.nD Cert.KernelDu.τ).loc Cert.KernelDu.main_arg2))
      ∧ r.2.sem = fun _ => 0)

def quiescent_KernelDuIdeal [hKernelDuIdeal : Cert.KernelDuIdeal.Facts] : Prop :=
  ∀ (m : (ℓ : Loc Cert.KernelDuIdeal.nD Cert.KernelDuIdeal.τ Cert.KernelDuIdeal.sig) → Buf (Elt Ideal) ℓ) (g : Dev Cert.KernelDuIdeal.nD → PrngReg), Pre_KernelDuIdeal m →
    θ_run (Cert.KernelDuIdeal.defs (F := Ideal)) (onTc (τ := Cert.KernelDuIdeal.τ) (Cert.KernelDuIdeal.main (F := Ideal))) ⟨m, fun _ => 0, g⟩ (fun r => (∀ c : Dev Cert.KernelDuIdeal.nD,
      r.2.mem ((c.tc : Thread Cert.KernelDuIdeal.nD Cert.KernelDuIdeal.τ).loc Cert.KernelDuIdeal.main_arg0) = m ((c.tc : Thread Cert.KernelDuIdeal.nD Cert.KernelDuIdeal.τ).loc Cert.KernelDuIdeal.main_arg0)
      ∧ r.2.mem ((c.tc : Thread Cert.KernelDuIdeal.nD Cert.KernelDuIdeal.τ).loc Cert.KernelDuIdeal.main_arg1) = m ((c.tc : Thread Cert.KernelDuIdeal.nD Cert.KernelDuIdeal.τ).loc Cert.KernelDuIdeal.main_arg1)
      ∧ r.2.mem ((c.tc : Thread Cert.KernelDuIdeal.nD Cert.KernelDuIdeal.τ).loc Cert.KernelDuIdeal.main_arg2) = m ((c.tc : Thread Cert.KernelDuIdeal.nD Cert.KernelDuIdeal.τ).loc Cert.KernelDuIdeal.main_arg2))
      ∧ r.2.sem = fun _ => 0)

def quiescent_ReferenceDuIdeal [hReferenceDuIdeal : Cert.ReferenceDuIdeal.Facts] : Prop :=
  ∀ (m : (ℓ : Loc Cert.ReferenceDuIdeal.nD Cert.ReferenceDuIdeal.τ Cert.ReferenceDuIdeal.sig) → Buf (Elt Ideal) ℓ) (g : Dev Cert.ReferenceDuIdeal.nD → PrngReg), Pre_ReferenceDuIdeal m →
    θ_run (Cert.ReferenceDuIdeal.defs (F := Ideal)) (onTc (τ := Cert.ReferenceDuIdeal.τ) (Cert.ReferenceDuIdeal.main (F := Ideal))) ⟨m, fun _ => 0, g⟩ (fun r => (∀ c : Dev Cert.ReferenceDuIdeal.nD,
      r.2.mem ((c.tc : Thread Cert.ReferenceDuIdeal.nD Cert.ReferenceDuIdeal.τ).loc Cert.ReferenceDuIdeal.main_arg0) = m ((c.tc : Thread Cert.ReferenceDuIdeal.nD Cert.ReferenceDuIdeal.τ).loc Cert.ReferenceDuIdeal.main_arg0)
      ∧ r.2.mem ((c.tc : Thread Cert.ReferenceDuIdeal.nD Cert.ReferenceDuIdeal.τ).loc Cert.ReferenceDuIdeal.main_arg1) = m ((c.tc : Thread Cert.ReferenceDuIdeal.nD Cert.ReferenceDuIdeal.τ).loc Cert.ReferenceDuIdeal.main_arg1)
      ∧ r.2.mem ((c.tc : Thread Cert.ReferenceDuIdeal.nD Cert.ReferenceDuIdeal.τ).loc Cert.ReferenceDuIdeal.main_arg2) = m ((c.tc : Thread Cert.ReferenceDuIdeal.nD Cert.ReferenceDuIdeal.τ).loc Cert.ReferenceDuIdeal.main_arg2))
      ∧ r.2.sem = fun _ => 0)

def quiescent_KernelGdown [hKernelGdown : Cert.KernelGdown.Facts] : Prop :=
  ∀ (m : (ℓ : Loc Cert.KernelGdown.nD Cert.KernelGdown.τ Cert.KernelGdown.sig) → Buf (Elt Bits) ℓ) (g : Dev Cert.KernelGdown.nD → PrngReg), Pre_KernelGdown m →
    θ_run (Cert.KernelGdown.defs (F := Bits)) (onTc (τ := Cert.KernelGdown.τ) (Cert.KernelGdown.main (F := Bits))) ⟨m, fun _ => 0, g⟩ (fun r => (∀ c : Dev Cert.KernelGdown.nD,
      r.2.mem ((c.tc : Thread Cert.KernelGdown.nD Cert.KernelGdown.τ).loc Cert.KernelGdown.main_arg0) = m ((c.tc : Thread Cert.KernelGdown.nD Cert.KernelGdown.τ).loc Cert.KernelGdown.main_arg0)
      ∧ r.2.mem ((c.tc : Thread Cert.KernelGdown.nD Cert.KernelGdown.τ).loc Cert.KernelGdown.main_arg1) = m ((c.tc : Thread Cert.KernelGdown.nD Cert.KernelGdown.τ).loc Cert.KernelGdown.main_arg1)
      ∧ r.2.mem ((c.tc : Thread Cert.KernelGdown.nD Cert.KernelGdown.τ).loc Cert.KernelGdown.main_arg2) = m ((c.tc : Thread Cert.KernelGdown.nD Cert.KernelGdown.τ).loc Cert.KernelGdown.main_arg2))
      ∧ r.2.sem = fun _ => 0)

def quiescent_KernelGdownIdeal [hKernelGdownIdeal : Cert.KernelGdownIdeal.Facts] : Prop :=
  ∀ (m : (ℓ : Loc Cert.KernelGdownIdeal.nD Cert.KernelGdownIdeal.τ Cert.KernelGdownIdeal.sig) → Buf (Elt Ideal) ℓ) (g : Dev Cert.KernelGdownIdeal.nD → PrngReg), Pre_KernelGdownIdeal m →
    θ_run (Cert.KernelGdownIdeal.defs (F := Ideal)) (onTc (τ := Cert.KernelGdownIdeal.τ) (Cert.KernelGdownIdeal.main (F := Ideal))) ⟨m, fun _ => 0, g⟩ (fun r => (∀ c : Dev Cert.KernelGdownIdeal.nD,
      r.2.mem ((c.tc : Thread Cert.KernelGdownIdeal.nD Cert.KernelGdownIdeal.τ).loc Cert.KernelGdownIdeal.main_arg0) = m ((c.tc : Thread Cert.KernelGdownIdeal.nD Cert.KernelGdownIdeal.τ).loc Cert.KernelGdownIdeal.main_arg0)
      ∧ r.2.mem ((c.tc : Thread Cert.KernelGdownIdeal.nD Cert.KernelGdownIdeal.τ).loc Cert.KernelGdownIdeal.main_arg1) = m ((c.tc : Thread Cert.KernelGdownIdeal.nD Cert.KernelGdownIdeal.τ).loc Cert.KernelGdownIdeal.main_arg1)
      ∧ r.2.mem ((c.tc : Thread Cert.KernelGdownIdeal.nD Cert.KernelGdownIdeal.τ).loc Cert.KernelGdownIdeal.main_arg2) = m ((c.tc : Thread Cert.KernelGdownIdeal.nD Cert.KernelGdownIdeal.τ).loc Cert.KernelGdownIdeal.main_arg2))
      ∧ r.2.sem = fun _ => 0)

def quiescent_ReferenceGdownIdeal [hReferenceGdownIdeal : Cert.ReferenceGdownIdeal.Facts] : Prop :=
  ∀ (m : (ℓ : Loc Cert.ReferenceGdownIdeal.nD Cert.ReferenceGdownIdeal.τ Cert.ReferenceGdownIdeal.sig) → Buf (Elt Ideal) ℓ) (g : Dev Cert.ReferenceGdownIdeal.nD → PrngReg), Pre_ReferenceGdownIdeal m →
    θ_run (Cert.ReferenceGdownIdeal.defs (F := Ideal)) (onTc (τ := Cert.ReferenceGdownIdeal.τ) (Cert.ReferenceGdownIdeal.main (F := Ideal))) ⟨m, fun _ => 0, g⟩ (fun r => (∀ c : Dev Cert.ReferenceGdownIdeal.nD,
      r.2.mem ((c.tc : Thread Cert.ReferenceGdownIdeal.nD Cert.ReferenceGdownIdeal.τ).loc Cert.ReferenceGdownIdeal.main_arg0) = m ((c.tc : Thread Cert.ReferenceGdownIdeal.nD Cert.ReferenceGdownIdeal.τ).loc Cert.ReferenceGdownIdeal.main_arg0)
      ∧ r.2.mem ((c.tc : Thread Cert.ReferenceGdownIdeal.nD Cert.ReferenceGdownIdeal.τ).loc Cert.ReferenceGdownIdeal.main_arg1) = m ((c.tc : Thread Cert.ReferenceGdownIdeal.nD Cert.ReferenceGdownIdeal.τ).loc Cert.ReferenceGdownIdeal.main_arg1)
      ∧ r.2.mem ((c.tc : Thread Cert.ReferenceGdownIdeal.nD Cert.ReferenceGdownIdeal.τ).loc Cert.ReferenceGdownIdeal.main_arg2) = m ((c.tc : Thread Cert.ReferenceGdownIdeal.nD Cert.ReferenceGdownIdeal.τ).loc Cert.ReferenceGdownIdeal.main_arg2))
      ∧ r.2.sem = fun _ => 0)

def quiescent_KernelGup [hKernelGup : Cert.KernelGup.Facts] : Prop :=
  ∀ (m : (ℓ : Loc Cert.KernelGup.nD Cert.KernelGup.τ Cert.KernelGup.sig) → Buf (Elt Bits) ℓ) (g : Dev Cert.KernelGup.nD → PrngReg), Pre_KernelGup m →
    θ_run (Cert.KernelGup.defs (F := Bits)) (onTc (τ := Cert.KernelGup.τ) (Cert.KernelGup.main (F := Bits))) ⟨m, fun _ => 0, g⟩ (fun r => (∀ c : Dev Cert.KernelGup.nD,
      r.2.mem ((c.tc : Thread Cert.KernelGup.nD Cert.KernelGup.τ).loc Cert.KernelGup.main_arg0) = m ((c.tc : Thread Cert.KernelGup.nD Cert.KernelGup.τ).loc Cert.KernelGup.main_arg0)
      ∧ r.2.mem ((c.tc : Thread Cert.KernelGup.nD Cert.KernelGup.τ).loc Cert.KernelGup.main_arg1) = m ((c.tc : Thread Cert.KernelGup.nD Cert.KernelGup.τ).loc Cert.KernelGup.main_arg1)
      ∧ r.2.mem ((c.tc : Thread Cert.KernelGup.nD Cert.KernelGup.τ).loc Cert.KernelGup.main_arg2) = m ((c.tc : Thread Cert.KernelGup.nD Cert.KernelGup.τ).loc Cert.KernelGup.main_arg2))
      ∧ r.2.sem = fun _ => 0)

def quiescent_KernelGupIdeal [hKernelGupIdeal : Cert.KernelGupIdeal.Facts] : Prop :=
  ∀ (m : (ℓ : Loc Cert.KernelGupIdeal.nD Cert.KernelGupIdeal.τ Cert.KernelGupIdeal.sig) → Buf (Elt Ideal) ℓ) (g : Dev Cert.KernelGupIdeal.nD → PrngReg), Pre_KernelGupIdeal m →
    θ_run (Cert.KernelGupIdeal.defs (F := Ideal)) (onTc (τ := Cert.KernelGupIdeal.τ) (Cert.KernelGupIdeal.main (F := Ideal))) ⟨m, fun _ => 0, g⟩ (fun r => (∀ c : Dev Cert.KernelGupIdeal.nD,
      r.2.mem ((c.tc : Thread Cert.KernelGupIdeal.nD Cert.KernelGupIdeal.τ).loc Cert.KernelGupIdeal.main_arg0) = m ((c.tc : Thread Cert.KernelGupIdeal.nD Cert.KernelGupIdeal.τ).loc Cert.KernelGupIdeal.main_arg0)
      ∧ r.2.mem ((c.tc : Thread Cert.KernelGupIdeal.nD Cert.KernelGupIdeal.τ).loc Cert.KernelGupIdeal.main_arg1) = m ((c.tc : Thread Cert.KernelGupIdeal.nD Cert.KernelGupIdeal.τ).loc Cert.KernelGupIdeal.main_arg1)
      ∧ r.2.mem ((c.tc : Thread Cert.KernelGupIdeal.nD Cert.KernelGupIdeal.τ).loc Cert.KernelGupIdeal.main_arg2) = m ((c.tc : Thread Cert.KernelGupIdeal.nD Cert.KernelGupIdeal.τ).loc Cert.KernelGupIdeal.main_arg2))
      ∧ r.2.sem = fun _ => 0)

def quiescent_ReferenceGupIdeal [hReferenceGupIdeal : Cert.ReferenceGupIdeal.Facts] : Prop :=
  ∀ (m : (ℓ : Loc Cert.ReferenceGupIdeal.nD Cert.ReferenceGupIdeal.τ Cert.ReferenceGupIdeal.sig) → Buf (Elt Ideal) ℓ) (g : Dev Cert.ReferenceGupIdeal.nD → PrngReg), Pre_ReferenceGupIdeal m →
    θ_run (Cert.ReferenceGupIdeal.defs (F := Ideal)) (onTc (τ := Cert.ReferenceGupIdeal.τ) (Cert.ReferenceGupIdeal.main (F := Ideal))) ⟨m, fun _ => 0, g⟩ (fun r => (∀ c : Dev Cert.ReferenceGupIdeal.nD,
      r.2.mem ((c.tc : Thread Cert.ReferenceGupIdeal.nD Cert.ReferenceGupIdeal.τ).loc Cert.ReferenceGupIdeal.main_arg0) = m ((c.tc : Thread Cert.ReferenceGupIdeal.nD Cert.ReferenceGupIdeal.τ).loc Cert.ReferenceGupIdeal.main_arg0)
      ∧ r.2.mem ((c.tc : Thread Cert.ReferenceGupIdeal.nD Cert.ReferenceGupIdeal.τ).loc Cert.ReferenceGupIdeal.main_arg1) = m ((c.tc : Thread Cert.ReferenceGupIdeal.nD Cert.ReferenceGupIdeal.τ).loc Cert.ReferenceGupIdeal.main_arg1)
      ∧ r.2.mem ((c.tc : Thread Cert.ReferenceGupIdeal.nD Cert.ReferenceGupIdeal.τ).loc Cert.ReferenceGupIdeal.main_arg2) = m ((c.tc : Thread Cert.ReferenceGupIdeal.nD Cert.ReferenceGupIdeal.τ).loc Cert.ReferenceGupIdeal.main_arg2))
      ∧ r.2.sem = fun _ => 0)

def quiescent_KernelDh [hKernelDh : Cert.KernelDh.Facts] : Prop :=
  ∀ (m : (ℓ : Loc Cert.KernelDh.nD Cert.KernelDh.τ Cert.KernelDh.sig) → Buf (Elt Bits) ℓ) (g : Dev Cert.KernelDh.nD → PrngReg), Pre_KernelDh m →
    θ_run (Cert.KernelDh.defs (F := Bits)) (onTc (τ := Cert.KernelDh.τ) (Cert.KernelDh.main (F := Bits))) ⟨m, fun _ => 0, g⟩ (fun r => (∀ c : Dev Cert.KernelDh.nD,
      r.2.mem ((c.tc : Thread Cert.KernelDh.nD Cert.KernelDh.τ).loc Cert.KernelDh.main_arg0) = m ((c.tc : Thread Cert.KernelDh.nD Cert.KernelDh.τ).loc Cert.KernelDh.main_arg0)
      ∧ r.2.mem ((c.tc : Thread Cert.KernelDh.nD Cert.KernelDh.τ).loc Cert.KernelDh.main_arg1) = m ((c.tc : Thread Cert.KernelDh.nD Cert.KernelDh.τ).loc Cert.KernelDh.main_arg1)
      ∧ r.2.mem ((c.tc : Thread Cert.KernelDh.nD Cert.KernelDh.τ).loc Cert.KernelDh.main_arg2) = m ((c.tc : Thread Cert.KernelDh.nD Cert.KernelDh.τ).loc Cert.KernelDh.main_arg2))
      ∧ r.2.sem = fun _ => 0)

def quiescent_KernelDhIdeal [hKernelDhIdeal : Cert.KernelDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
      ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1)
      ∧ r.2.mem ((c.tc : Thread Cert.ReferenceDhIdeal.nD Cert.ReferenceDhIdeal.τ).loc Cert.ReferenceDhIdeal.main_arg2) = m ((c.tc : Thread Cert.ReferenceDhIdeal.nD Cert.ReferenceDhIdeal.τ).loc Cert.ReferenceDhIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v243_1)) (v1 : (c : Dev Cert.KernelIdeal.nD) → Buf (Elt Ideal) ((c.tc : Thread Cert.KernelIdeal.nD Cert.KernelIdeal.τ).loc Cert.KernelIdeal.main_v243_2)) (v2 : (c : Dev Cert.KernelIdeal.nD) → Buf (Elt Ideal) ((c.tc : Thread Cert.KernelIdeal.nD Cert.KernelIdeal.τ).loc Cert.KernelIdeal.main_v243_3)) (v3 : (c : Dev Cert.KernelIdeal.nD) → Buf (Elt Ideal) ((c.tc : Thread Cert.KernelIdeal.nD Cert.KernelIdeal.τ).loc Cert.KernelIdeal.main_v243_7)) (v4 : (c : Dev Cert.KernelIdeal.nD) → Buf (Elt Ideal) ((c.tc : Thread Cert.KernelIdeal.nD Cert.KernelIdeal.τ).loc Cert.KernelIdeal.main_v243_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v243_1) = v0 c
          ∧ r.2.mem ((c.tc : Thread Cert.KernelIdeal.nD Cert.KernelIdeal.τ).loc Cert.KernelIdeal.main_v243_2) = v1 c
          ∧ r.2.mem ((c.tc : Thread Cert.KernelIdeal.nD Cert.KernelIdeal.τ).loc Cert.KernelIdeal.main_v243_3) = v2 c
          ∧ r.2.mem ((c.tc : Thread Cert.KernelIdeal.nD Cert.KernelIdeal.τ).loc Cert.KernelIdeal.main_v243_7) = v3 c
          ∧ r.2.mem ((c.tc : Thread Cert.KernelIdeal.nD Cert.KernelIdeal.τ).loc Cert.KernelIdeal.main_v243_8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v646) = v0 c
          ∧ r.2.mem ((c.tc : Thread Cert.ReferenceIdeal.nD Cert.ReferenceIdeal.τ).loc Cert.ReferenceIdeal.main_v647) = v1 c
          ∧ r.2.mem ((c.tc : Thread Cert.ReferenceIdeal.nD Cert.ReferenceIdeal.τ).loc Cert.ReferenceIdeal.main_v648) = v2 c
          ∧ r.2.mem ((c.tc : Thread Cert.ReferenceIdeal.nD Cert.ReferenceIdeal.τ).loc Cert.ReferenceIdeal.main_v662) = v3 c
          ∧ r.2.mem ((c.tc : Thread Cert.ReferenceIdeal.nD Cert.ReferenceIdeal.τ).loc Cert.ReferenceIdeal.main_v663) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v4_0)) (v1 : (c : Dev Cert.KernelUpIdeal.nD) → Buf (Elt Ideal) ((c.tc : Thread Cert.KernelUpIdeal.nD Cert.KernelUpIdeal.τ).loc Cert.KernelUpIdeal.main_v4_1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v4_0) = v0 c
          ∧ r.2.mem ((c.tc : Thread Cert.KernelUpIdeal.nD Cert.KernelUpIdeal.τ).loc Cert.KernelUpIdeal.main_v4_1) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v2) = v0 c
          ∧ r.2.mem ((c.tc : Thread Cert.ReferenceUpIdeal.nD Cert.ReferenceUpIdeal.τ).loc Cert.ReferenceUpIdeal.main_v4) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v4)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v4) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v2) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelDu_KernelDuIdeal : Prop :=
  True

def algebraic_KernelDuIdeal_ReferenceDuIdeal [hKernelDuIdeal : Cert.KernelDuIdeal.Facts] [hReferenceDuIdeal : Cert.ReferenceDuIdeal.Facts] : Prop :=
  ∀ (m : (ℓ : Loc Cert.KernelDuIdeal.nD Cert.KernelDuIdeal.τ Cert.KernelDuIdeal.sig) → Buf (Elt Ideal) ℓ) (g : Dev Cert.KernelDuIdeal.nD → PrngReg)
    (m' : (ℓ : Loc Cert.ReferenceDuIdeal.nD Cert.ReferenceDuIdeal.τ Cert.ReferenceDuIdeal.sig) → Buf (Elt Ideal) ℓ) (g' : Dev Cert.ReferenceDuIdeal.nD → PrngReg), Pre_KernelDuIdeal m →
    (∀ c : Dev Cert.KernelDuIdeal.nD,
      m' ((c.tc : Thread Cert.ReferenceDuIdeal.nD Cert.ReferenceDuIdeal.τ).loc Cert.ReferenceDuIdeal.main_arg0) = m ((c.tc : Thread Cert.KernelDuIdeal.nD Cert.KernelDuIdeal.τ).loc Cert.KernelDuIdeal.main_arg0)
      ∧ m' ((c.tc : Thread Cert.ReferenceDuIdeal.nD Cert.ReferenceDuIdeal.τ).loc Cert.ReferenceDuIdeal.main_arg1) = m ((c.tc : Thread Cert.KernelDuIdeal.nD Cert.KernelDuIdeal.τ).loc Cert.KernelDuIdeal.main_arg1)
      ∧ m' ((c.tc : Thread Cert.ReferenceDuIdeal.nD Cert.ReferenceDuIdeal.τ).loc Cert.ReferenceDuIdeal.main_arg2) = m ((c.tc : Thread Cert.KernelDuIdeal.nD Cert.KernelDuIdeal.τ).loc Cert.KernelDuIdeal.main_arg2)) →
    ∃ (v0 : (c : Dev Cert.KernelDuIdeal.nD) → Buf (Elt Ideal) ((c.tc : Thread Cert.KernelDuIdeal.nD Cert.KernelDuIdeal.τ).loc Cert.KernelDuIdeal.main_v3)),
      θ_run (Cert.KernelDuIdeal.defs (F := Ideal)) (onTc (τ := Cert.KernelDuIdeal.τ) (Cert.KernelDuIdeal.main (F := Ideal))) ⟨m, fun _ => 0, g⟩ (fun r => ∀ c : Dev Cert.KernelDuIdeal.nD,
          r.2.mem ((c.tc : Thread Cert.KernelDuIdeal.nD Cert.KernelDuIdeal.τ).loc Cert.KernelDuIdeal.main_v3) = v0 c
          ∧ r.2.mem ((c.tc : Thread Cert.KernelDuIdeal.nD Cert.KernelDuIdeal.τ).loc Cert.KernelDuIdeal.main_arg0) = m ((c.tc : Thread Cert.KernelDuIdeal.nD Cert.KernelDuIdeal.τ).loc Cert.KernelDuIdeal.main_arg0)
          ∧ r.2.mem ((c.tc : Thread Cert.KernelDuIdeal.nD Cert.KernelDuIdeal.τ).loc Cert.KernelDuIdeal.main_arg1) = m ((c.tc : Thread Cert.KernelDuIdeal.nD Cert.KernelDuIdeal.τ).loc Cert.KernelDuIdeal.main_arg1)
          ∧ r.2.mem ((c.tc : Thread Cert.KernelDuIdeal.nD Cert.KernelDuIdeal.τ).loc Cert.KernelDuIdeal.main_arg2) = m ((c.tc : Thread Cert.KernelDuIdeal.nD Cert.KernelDuIdeal.τ).loc Cert.KernelDuIdeal.main_arg2))
      ∧ θ_run (Cert.ReferenceDuIdeal.defs (F := Ideal)) (onTc (τ := Cert.ReferenceDuIdeal.τ) (Cert.ReferenceDuIdeal.main (F := Ideal))) ⟨m', fun _ => 0, g'⟩ (fun r => ∀ c : Dev Cert.ReferenceDuIdeal.nD,
          r.2.mem ((c.tc : Thread Cert.ReferenceDuIdeal.nD Cert.ReferenceDuIdeal.τ).loc Cert.ReferenceDuIdeal.main_v14) = v0 c
          ∧ r.2.mem ((c.tc : Thread Cert.ReferenceDuIdeal.nD Cert.ReferenceDuIdeal.τ).loc Cert.ReferenceDuIdeal.main_arg0) = m' ((c.tc : Thread Cert.ReferenceDuIdeal.nD Cert.ReferenceDuIdeal.τ).loc Cert.ReferenceDuIdeal.main_arg0)
          ∧ r.2.mem ((c.tc : Thread Cert.ReferenceDuIdeal.nD Cert.ReferenceDuIdeal.τ).loc Cert.ReferenceDuIdeal.main_arg1) = m' ((c.tc : Thread Cert.ReferenceDuIdeal.nD Cert.ReferenceDuIdeal.τ).loc Cert.ReferenceDuIdeal.main_arg1)
          ∧ r.2.mem ((c.tc : Thread Cert.ReferenceDuIdeal.nD Cert.ReferenceDuIdeal.τ).loc Cert.ReferenceDuIdeal.main_arg2) = m' ((c.tc : Thread Cert.ReferenceDuIdeal.nD Cert.ReferenceDuIdeal.τ).loc Cert.ReferenceDuIdeal.main_arg2))

def preserves_KernelGdown_KernelGdownIdeal : Prop :=
  True

def algebraic_KernelGdownIdeal_ReferenceGdownIdeal [hKernelGdownIdeal : Cert.KernelGdownIdeal.Facts] [hReferenceGdownIdeal : Cert.ReferenceGdownIdeal.Facts] : Prop :=
  ∀ (m : (ℓ : Loc Cert.KernelGdownIdeal.nD Cert.KernelGdownIdeal.τ Cert.KernelGdownIdeal.sig) → Buf (Elt Ideal) ℓ) (g : Dev Cert.KernelGdownIdeal.nD → PrngReg)
    (m' : (ℓ : Loc Cert.ReferenceGdownIdeal.nD Cert.ReferenceGdownIdeal.τ Cert.ReferenceGdownIdeal.sig) → Buf (Elt Ideal) ℓ) (g' : Dev Cert.ReferenceGdownIdeal.nD → PrngReg), Pre_KernelGdownIdeal m →
    (∀ c : Dev Cert.KernelGdownIdeal.nD,
      m' ((c.tc : Thread Cert.ReferenceGdownIdeal.nD Cert.ReferenceGdownIdeal.τ).loc Cert.ReferenceGdownIdeal.main_arg0) = m ((c.tc : Thread Cert.KernelGdownIdeal.nD Cert.KernelGdownIdeal.τ).loc Cert.KernelGdownIdeal.main_arg0)
      ∧ m' ((c.tc : Thread Cert.ReferenceGdownIdeal.nD Cert.ReferenceGdownIdeal.τ).loc Cert.ReferenceGdownIdeal.main_arg1) = m ((c.tc : Thread Cert.KernelGdownIdeal.nD Cert.KernelGdownIdeal.τ).loc Cert.KernelGdownIdeal.main_arg1)
      ∧ m' ((c.tc : Thread Cert.ReferenceGdownIdeal.nD Cert.ReferenceGdownIdeal.τ).loc Cert.ReferenceGdownIdeal.main_arg2) = m ((c.tc : Thread Cert.KernelGdownIdeal.nD Cert.KernelGdownIdeal.τ).loc Cert.KernelGdownIdeal.main_arg2)) →
    ∃ (v0 : (c : Dev Cert.KernelGdownIdeal.nD) → Buf (Elt Ideal) ((c.tc : Thread Cert.KernelGdownIdeal.nD Cert.KernelGdownIdeal.τ).loc Cert.KernelGdownIdeal.main_v4)),
      θ_run (Cert.KernelGdownIdeal.defs (F := Ideal)) (onTc (τ := Cert.KernelGdownIdeal.τ) (Cert.KernelGdownIdeal.main (F := Ideal))) ⟨m, fun _ => 0, g⟩ (fun r => ∀ c : Dev Cert.KernelGdownIdeal.nD,
          r.2.mem ((c.tc : Thread Cert.KernelGdownIdeal.nD Cert.KernelGdownIdeal.τ).loc Cert.KernelGdownIdeal.main_v4) = v0 c
          ∧ r.2.mem ((c.tc : Thread Cert.KernelGdownIdeal.nD Cert.KernelGdownIdeal.τ).loc Cert.KernelGdownIdeal.main_arg0) = m ((c.tc : Thread Cert.KernelGdownIdeal.nD Cert.KernelGdownIdeal.τ).loc Cert.KernelGdownIdeal.main_arg0)
          ∧ r.2.mem ((c.tc : Thread Cert.KernelGdownIdeal.nD Cert.KernelGdownIdeal.τ).loc Cert.KernelGdownIdeal.main_arg1) = m ((c.tc : Thread Cert.KernelGdownIdeal.nD Cert.KernelGdownIdeal.τ).loc Cert.KernelGdownIdeal.main_arg1)
          ∧ r.2.mem ((c.tc : Thread Cert.KernelGdownIdeal.nD Cert.KernelGdownIdeal.τ).loc Cert.KernelGdownIdeal.main_arg2) = m ((c.tc : Thread Cert.KernelGdownIdeal.nD Cert.KernelGdownIdeal.τ).loc Cert.KernelGdownIdeal.main_arg2))
      ∧ θ_run (Cert.ReferenceGdownIdeal.defs (F := Ideal)) (onTc (τ := Cert.ReferenceGdownIdeal.τ) (Cert.ReferenceGdownIdeal.main (F := Ideal))) ⟨m', fun _ => 0, g'⟩ (fun r => ∀ c : Dev Cert.ReferenceGdownIdeal.nD,
          r.2.mem ((c.tc : Thread Cert.ReferenceGdownIdeal.nD Cert.ReferenceGdownIdeal.τ).loc Cert.ReferenceGdownIdeal.main_v14) = v0 c
          ∧ r.2.mem ((c.tc : Thread Cert.ReferenceGdownIdeal.nD Cert.ReferenceGdownIdeal.τ).loc Cert.ReferenceGdownIdeal.main_arg0) = m' ((c.tc : Thread Cert.ReferenceGdownIdeal.nD Cert.ReferenceGdownIdeal.τ).loc Cert.ReferenceGdownIdeal.main_arg0)
          ∧ r.2.mem ((c.tc : Thread Cert.ReferenceGdownIdeal.nD Cert.ReferenceGdownIdeal.τ).loc Cert.ReferenceGdownIdeal.main_arg1) = m' ((c.tc : Thread Cert.ReferenceGdownIdeal.nD Cert.ReferenceGdownIdeal.τ).loc Cert.ReferenceGdownIdeal.main_arg1)
          ∧ r.2.mem ((c.tc : Thread Cert.ReferenceGdownIdeal.nD Cert.ReferenceGdownIdeal.τ).loc Cert.ReferenceGdownIdeal.main_arg2) = m' ((c.tc : Thread Cert.ReferenceGdownIdeal.nD Cert.ReferenceGdownIdeal.τ).loc Cert.ReferenceGdownIdeal.main_arg2))

def preserves_KernelGup_KernelGupIdeal : Prop :=
  True

def algebraic_KernelGupIdeal_ReferenceGupIdeal [hKernelGupIdeal : Cert.KernelGupIdeal.Facts] [hReferenceGupIdeal : Cert.ReferenceGupIdeal.Facts] : Prop :=
  ∀ (m : (ℓ : Loc Cert.KernelGupIdeal.nD Cert.KernelGupIdeal.τ Cert.KernelGupIdeal.sig) → Buf (Elt Ideal) ℓ) (g : Dev Cert.KernelGupIdeal.nD → PrngReg)
    (m' : (ℓ : Loc Cert.ReferenceGupIdeal.nD Cert.ReferenceGupIdeal.τ Cert.ReferenceGupIdeal.sig) → Buf (Elt Ideal) ℓ) (g' : Dev Cert.ReferenceGupIdeal.nD → PrngReg), Pre_KernelGupIdeal m →
    (∀ c : Dev Cert.KernelGupIdeal.nD,
      m' ((c.tc : Thread Cert.ReferenceGupIdeal.nD Cert.ReferenceGupIdeal.τ).loc Cert.ReferenceGupIdeal.main_arg0) = m ((c.tc : Thread Cert.KernelGupIdeal.nD Cert.KernelGupIdeal.τ).loc Cert.KernelGupIdeal.main_arg0)
      ∧ m' ((c.tc : Thread Cert.ReferenceGupIdeal.nD Cert.ReferenceGupIdeal.τ).loc Cert.ReferenceGupIdeal.main_arg1) = m ((c.tc : Thread Cert.KernelGupIdeal.nD Cert.KernelGupIdeal.τ).loc Cert.KernelGupIdeal.main_arg1)
      ∧ m' ((c.tc : Thread Cert.ReferenceGupIdeal.nD Cert.ReferenceGupIdeal.τ).loc Cert.ReferenceGupIdeal.main_arg2) = m ((c.tc : Thread Cert.KernelGupIdeal.nD Cert.KernelGupIdeal.τ).loc Cert.KernelGupIdeal.main_arg2)) →
    ∃ (v0 : (c : Dev Cert.KernelGupIdeal.nD) → Buf (Elt Ideal) ((c.tc : Thread Cert.KernelGupIdeal.nD Cert.KernelGupIdeal.τ).loc Cert.KernelGupIdeal.main_v2)),
      θ_run (Cert.KernelGupIdeal.defs (F := Ideal)) (onTc (τ := Cert.KernelGupIdeal.τ) (Cert.KernelGupIdeal.main (F := Ideal))) ⟨m, fun _ => 0, g⟩ (fun r => ∀ c : Dev Cert.KernelGupIdeal.nD,
          r.2.mem ((c.tc : Thread Cert.KernelGupIdeal.nD Cert.KernelGupIdeal.τ).loc Cert.KernelGupIdeal.main_v2) = v0 c
          ∧ r.2.mem ((c.tc : Thread Cert.KernelGupIdeal.nD Cert.KernelGupIdeal.τ).loc Cert.KernelGupIdeal.main_arg0) = m ((c.tc : Thread Cert.KernelGupIdeal.nD Cert.KernelGupIdeal.τ).loc Cert.KernelGupIdeal.main_arg0)
          ∧ r.2.mem ((c.tc : Thread Cert.KernelGupIdeal.nD Cert.KernelGupIdeal.τ).loc Cert.KernelGupIdeal.main_arg1) = m ((c.tc : Thread Cert.KernelGupIdeal.nD Cert.KernelGupIdeal.τ).loc Cert.KernelGupIdeal.main_arg1)
          ∧ r.2.mem ((c.tc : Thread Cert.KernelGupIdeal.nD Cert.KernelGupIdeal.τ).loc Cert.KernelGupIdeal.main_arg2) = m ((c.tc : Thread Cert.KernelGupIdeal.nD Cert.KernelGupIdeal.τ).loc Cert.KernelGupIdeal.main_arg2))
      ∧ θ_run (Cert.ReferenceGupIdeal.defs (F := Ideal)) (onTc (τ := Cert.ReferenceGupIdeal.τ) (Cert.ReferenceGupIdeal.main (F := Ideal))) ⟨m', fun _ => 0, g'⟩ (fun r => ∀ c : Dev Cert.ReferenceGupIdeal.nD,
          r.2.mem ((c.tc : Thread Cert.ReferenceGupIdeal.nD Cert.ReferenceGupIdeal.τ).loc Cert.ReferenceGupIdeal.main_v6) = v0 c
          ∧ r.2.mem ((c.tc : Thread Cert.ReferenceGupIdeal.nD Cert.ReferenceGupIdeal.τ).loc Cert.ReferenceGupIdeal.main_arg0) = m' ((c.tc : Thread Cert.ReferenceGupIdeal.nD Cert.ReferenceGupIdeal.τ).loc Cert.ReferenceGupIdeal.main_arg0)
          ∧ r.2.mem ((c.tc : Thread Cert.ReferenceGupIdeal.nD Cert.ReferenceGupIdeal.τ).loc Cert.ReferenceGupIdeal.main_arg1) = m' ((c.tc : Thread Cert.ReferenceGupIdeal.nD Cert.ReferenceGupIdeal.τ).loc Cert.ReferenceGupIdeal.main_arg1)
          ∧ r.2.mem ((c.tc : Thread Cert.ReferenceGupIdeal.nD Cert.ReferenceGupIdeal.τ).loc Cert.ReferenceGupIdeal.main_arg2) = m' ((c.tc : Thread Cert.ReferenceGupIdeal.nD Cert.ReferenceGupIdeal.τ).loc Cert.ReferenceGupIdeal.main_arg2))

def preserves_KernelDh_KernelDhIdeal : Prop :=
  True

def algebraic_KernelDhIdeal_ReferenceDhIdeal [hKernelDhIdeal : Cert.KernelDhIdeal.Facts] [hReferenceDhIdeal : Cert.ReferenceDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_KernelDhIdeal m →
    (∀ c : Dev Cert.KernelDhIdeal.nD,
      m' ((c.tc : Thread Cert.ReferenceDhIdeal.nD Cert.ReferenceDhIdeal.τ).loc Cert.ReferenceDhIdeal.main_arg0) = m ((c.tc : Thread Cert.KernelDhIdeal.nD Cert.KernelDhIdeal.τ).loc Cert.KernelDhIdeal.main_arg0)
      ∧ m' ((c.tc : Thread Cert.ReferenceDhIdeal.nD Cert.ReferenceDhIdeal.τ).loc Cert.ReferenceDhIdeal.main_arg1) = m ((c.tc : Thread Cert.KernelDhIdeal.nD Cert.KernelDhIdeal.τ).loc Cert.KernelDhIdeal.main_arg1)
      ∧ m' ((c.tc : Thread Cert.ReferenceDhIdeal.nD Cert.ReferenceDhIdeal.τ).loc Cert.ReferenceDhIdeal.main_arg2) = m ((c.tc : Thread Cert.KernelDhIdeal.nD Cert.KernelDhIdeal.τ).loc Cert.KernelDhIdeal.main_arg2)) →
    ∃ (v0 : (c : Dev Cert.KernelDhIdeal.nD) → Buf (Elt Ideal) ((c.tc : Thread Cert.KernelDhIdeal.nD Cert.KernelDhIdeal.τ).loc Cert.KernelDhIdeal.main_v4)),
      θ_run (Cert.KernelDhIdeal.defs (F := Ideal)) (onTc (τ := Cert.KernelDhIdeal.τ) (Cert.KernelDhIdeal.main (F := Ideal))) ⟨m, fun _ => 0, g⟩ (fun r => ∀ c : Dev Cert.KernelDhIdeal.nD,
          r.2.mem ((c.tc : Thread Cert.KernelDhIdeal.nD Cert.KernelDhIdeal.τ).loc Cert.KernelDhIdeal.main_v4) = v0 c
          ∧ r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
          ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
          ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v3) = v0 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1)
          ∧ r.2.mem ((c.tc : Thread Cert.ReferenceDhIdeal.nD Cert.ReferenceDhIdeal.τ).loc Cert.ReferenceDhIdeal.main_arg2) = m' ((c.tc : Thread Cert.ReferenceDhIdeal.nD Cert.ReferenceDhIdeal.τ).loc Cert.ReferenceDhIdeal.main_arg2))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelDu : Cert.KernelDu.Facts) (hKernelDuIdeal : Cert.KernelDuIdeal.Facts) (hReferenceDuIdeal : Cert.ReferenceDuIdeal.Facts) (hKernelGdown : Cert.KernelGdown.Facts) (hKernelGdownIdeal : Cert.KernelGdownIdeal.Facts) (hReferenceGdownIdeal : Cert.ReferenceGdownIdeal.Facts) (hKernelGup : Cert.KernelGup.Facts) (hKernelGupIdeal : Cert.KernelGupIdeal.Facts) (hReferenceGupIdeal : Cert.ReferenceGupIdeal.Facts) (hKernelDh : Cert.KernelDh.Facts) (hKernelDhIdeal : Cert.KernelDhIdeal.Facts) (hReferenceDhIdeal : Cert.ReferenceDhIdeal.Facts),
    quiescent_Kernel (hKernel := hKernel)
    ∧ quiescent_KernelIdeal (hKernelIdeal := hKernelIdeal)
    ∧ quiescent_ReferenceIdeal (hReferenceIdeal := hReferenceIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelDu (hKernelDu := hKernelDu)
    ∧ quiescent_KernelDuIdeal (hKernelDuIdeal := hKernelDuIdeal)
    ∧ quiescent_ReferenceDuIdeal (hReferenceDuIdeal := hReferenceDuIdeal)
    ∧ quiescent_KernelGdown (hKernelGdown := hKernelGdown)
    ∧ quiescent_KernelGdownIdeal (hKernelGdownIdeal := hKernelGdownIdeal)
    ∧ quiescent_ReferenceGdownIdeal (hReferenceGdownIdeal := hReferenceGdownIdeal)
    ∧ quiescent_KernelGup (hKernelGup := hKernelGup)
    ∧ quiescent_KernelGupIdeal (hKernelGupIdeal := hKernelGupIdeal)
    ∧ quiescent_ReferenceGupIdeal (hReferenceGupIdeal := hReferenceGupIdeal)
    ∧ quiescent_KernelDh (hKernelDh := hKernelDh)
    ∧ quiescent_KernelDhIdeal (hKernelDhIdeal := hKernelDhIdeal)
    ∧ quiescent_ReferenceDhIdeal (hReferenceDhIdeal := hReferenceDhIdeal)
    ∧ preserves_Kernel_KernelIdeal
    ∧ algebraic_KernelIdeal_ReferenceIdeal (hKernelIdeal := hKernelIdeal) (hReferenceIdeal := hReferenceIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelDu_KernelDuIdeal
    ∧ algebraic_KernelDuIdeal_ReferenceDuIdeal (hKernelDuIdeal := hKernelDuIdeal) (hReferenceDuIdeal := hReferenceDuIdeal)
    ∧ preserves_KernelGdown_KernelGdownIdeal
    ∧ algebraic_KernelGdownIdeal_ReferenceGdownIdeal (hKernelGdownIdeal := hKernelGdownIdeal) (hReferenceGdownIdeal := hReferenceGdownIdeal)
    ∧ preserves_KernelGup_KernelGupIdeal
    ∧ algebraic_KernelGupIdeal_ReferenceGupIdeal (hKernelGupIdeal := hKernelGupIdeal) (hReferenceGupIdeal := hReferenceGupIdeal)
    ∧ preserves_KernelDh_KernelDhIdeal
    ∧ algebraic_KernelDhIdeal_ReferenceDhIdeal (hKernelDhIdeal := hKernelDhIdeal) (hReferenceDhIdeal := hReferenceDhIdeal)
-- ==== Kernel.lean ====
abbrev S2048x5152 : Shape := ⟨2, ![2048, 5152]⟩
abbrev S2048x3072 : Shape := ⟨2, ![2048, 3072]⟩
abbrev S32 : Shape := ⟨1, ![32]⟩
abbrev S2048 : Shape := ⟨1, ![2048]⟩
abbrev S2048x2048 : Shape := ⟨2, ![2048, 2048]⟩
abbrev S2048x4x8x64 : Shape := ⟨4, ![2048, 4, 8, 64]⟩
abbrev S2048x512 : Shape := ⟨2, ![2048, 512]⟩
abbrev S2048x4x128 : Shape := ⟨3, ![2048, 4, 128]⟩
abbrev S2048x32 : Shape := ⟨2, ![2048, 32]⟩
abbrev S1x32 : Shape := ⟨2, ![1, 32]⟩
abbrev S_ : Shape := ⟨0, ![]⟩
abbrev S4x8 : Shape := ⟨2, ![4, 8]⟩
abbrev S2048x4x8 : Shape := ⟨3, ![2048, 4, 8]⟩
abbrev S16x128x4x8x64 : Shape := ⟨5, ![16, 128, 4, 8, 64]⟩
abbrev S16x128x4x8 : Shape := ⟨4, ![16, 128, 4, 8]⟩
abbrev S16x128x4x128 : Shape := ⟨4, ![16, 128, 4, 128]⟩
abbrev S16x128x4x8x1 : Shape := ⟨5, ![16, 128, 4, 8, 1]⟩
abbrev S1x1x4x8 : Shape := ⟨4, ![1, 1, 4, 8]⟩
abbrev S128x128 : Shape := ⟨2, ![128, 128]⟩
abbrev S128x128x1x1 : Shape := ⟨4, ![128, 128, 1, 1]⟩
abbrev S16x128x1x4x8 : Shape := ⟨5, ![16, 128, 1, 4, 8]⟩
abbrev S16x1x128x4x8 : Shape := ⟨5, ![16, 1, 128, 4, 8]⟩
abbrev S16x128x128x4x8 : Shape := ⟨5, ![16, 128, 128, 4, 8]⟩
abbrev S16x4x128x128 : Shape := ⟨4, ![16, 4, 128, 128]⟩
abbrev S16x128x128x4 : Shape := ⟨4, ![16, 128, 128, 4]⟩
abbrev S16x128x128x4x1 : Shape := ⟨5, ![16, 128, 128, 4, 1]⟩
abbrev S16x4x8x64x128 : Shape := ⟨5, ![16, 4, 8, 64, 128]⟩
abbrev S16x1x4x8 : Shape := ⟨4, ![16, 1, 4, 8]⟩
abbrev S16x4x8 : Shape := ⟨3, ![16, 4, 8]⟩
abbrev S4x8x64x128 : Shape := ⟨4, ![4, 8, 64, 128]⟩
abbrev S0x4x8x64x128 : Shape := ⟨5, ![0, 4, 8, 64, 128]⟩
abbrev S0x4x8 : Shape := ⟨3, ![0, 4, 8]⟩
abbrev S1x4x8x64x128 : Shape := ⟨5, ![1, 4, 8, 64, 128]⟩
abbrev S1x4x8 : Shape := ⟨3, ![1, 4, 8]⟩
abbrev S4x8x1x1 : Shape := ⟨4, ![4, 8, 1, 1]⟩
abbrev S4x8x1 : Shape := ⟨3, ![4, 8, 1]⟩
abbrev S1x4x8x1 : Shape := ⟨4, ![1, 4, 8, 1]⟩
abbrev S2048x128 : Shape := ⟨2, ![2048, 128]⟩
abbrev S16x128x128 : Shape := ⟨3, ![16, 128, 128]⟩
abbrev S16x1x128 : Shape := ⟨3, ![16, 1, 128]⟩
abbrev S16x4x128x8x64 : Shape := ⟨5, ![16, 4, 128, 8, 64]⟩
abbrev S16x4x128x512 : Shape := ⟨4, ![16, 4, 128, 512]⟩
abbrev S2048x5632 : Shape := ⟨2, ![2048, 5632]⟩
abbrev S128 : Shape := ⟨1, ![128]⟩
abbrev S1x128 : Shape := ⟨2, ![1, 128]⟩
abbrev S32x64 : Shape := ⟨2, ![32, 64]⟩
abbrev S4x1x512 : Shape := ⟨3, ![4, 1, 512]⟩
abbrev S4x2048x128 : Shape := ⟨3, ![4, 2048, 128]⟩
abbrev S4x1x128 : Shape := ⟨3, ![4, 1, 128]⟩
abbrev S128x512 : Shape := ⟨2, ![128, 512]⟩
abbrev S1x1x128x512 : Shape := ⟨4, ![1, 1, 128, 512]⟩
abbrev S1x128x128 : Shape := ⟨3, ![1, 128, 128]⟩
abbrev S1x1x128 : Shape := ⟨3, ![1, 1, 128]⟩
abbrev S1x1x512 : Shape := ⟨3, ![1, 1, 512]⟩
abbrev S1x512 : Shape := ⟨2, ![1, 512]⟩
abbrev S16x512 : Shape := ⟨2, ![16, 512]⟩
abbrev S16 : Shape := ⟨1, ![16]⟩
abbrev S16x1 : Shape := ⟨2, ![16, 1]⟩
abbrev S512 : Shape := ⟨1, ![512]⟩
abbrev S128x1 : Shape := ⟨2, ![128, 1]⟩
abbrev S1 : Shape := ⟨1, ![1]⟩
abbrev S1x1 : Shape := ⟨2, ![1, 1]⟩
abbrev S1x1x128x128 : Shape := ⟨4, ![1, 1, 128, 128]⟩

abbrev nBuf : Space → Nat
  | .hbm => 301
  | .vmem => 50
  | .smem => 0
  | _ => 0

abbrev hbmTy0_0 (i : Nat) : BufTy := match i % 128 with
  | 0 => ⟨S2048x5152, .f32⟩
  | 1 => ⟨S2048x3072, .f32⟩
  | 2 => ⟨S32, .f32⟩
  | 3 => ⟨S32, .f32⟩
  | 4 => ⟨S32, .f32⟩
  | 5 => ⟨S2048, .f32⟩
  | 6 => ⟨S2048x2048, .f32⟩
  | 7 => ⟨S2048x2048, .f32⟩
  | 8 => ⟨S2048x4x8x64, .f32⟩
  | 9 => ⟨S2048x512, .f32⟩
  | 10 => ⟨S2048x4x128, .f32⟩
  | 11 => ⟨S2048x512, .f32⟩
  | 12 => ⟨S2048x4x128, .f32⟩
  | 13 => ⟨S2048x32, .f32⟩
  | 14 => ⟨S1x32, .f32⟩
  | 15 => ⟨S2048x32, .f32⟩
  | 16 => ⟨S2048x32, .f32⟩
  | 17 => ⟨S_, .f32⟩
  | 18 => ⟨S2048x32, .f32⟩
  | 19 => ⟨S2048x32, .f32⟩
  | 20 => ⟨S2048x32, .f32⟩
  | 21 => ⟨S2048x32, .f32⟩
  | 22 => ⟨S2048x32, .i1⟩
  | 23 => ⟨S2048x32, .f32⟩
  | 24 => ⟨S2048x32, .f32⟩
  | 25 => ⟨S2048x32, .f32⟩
  | 26 => ⟨S2048x32, .f32⟩
  | 27 => ⟨S2048x32, .f32⟩
  | 28 => ⟨S2048x32, .f32⟩
  | 29 => ⟨S2048x32, .f32⟩
  | 30 => ⟨S2048x32, .f32⟩
  | 31 => ⟨S32, .f32⟩
  | 32 => ⟨S4x8, .f32⟩
  | 33 => ⟨S4x8, .f32⟩
  | 34 => ⟨S2048x4x8, .f32⟩
  | 35 => ⟨S16x128x4x8x64, .f32⟩
  | 36 => ⟨S16x128x4x8, .f32⟩
  | 37 => ⟨S16x128x4x128, .f32⟩
  | 38 => ⟨S16x128x4x128, .f32⟩
  | 39 => ⟨S16x128x4x8x1, .f32⟩
  | 40 => ⟨S16x128x4x8x64, .f32⟩
  | 41 => ⟨S16x128x4x8x64, .f32⟩
  | 42 => ⟨S1x1x4x8, .f32⟩
  | 43 => ⟨S16x128x4x8, .f32⟩
  | 44 => ⟨S16x128x4x8, .f32⟩
  | 45 => ⟨S_, .f32⟩
  | 46 => ⟨S_, .f32⟩
  | 47 => ⟨S16x128x4x8, .f32⟩
  | 48 => ⟨S_, .i1⟩
  | 49 => ⟨S128x128, .i1⟩
  | 50 => ⟨S128x128, .i32⟩
  | 51 => ⟨S_, .i32⟩
  | 52 => ⟨S128x128, .i32⟩
  | 53 => ⟨S128x128, .i32⟩
  | 54 => ⟨S128x128, .i32⟩
  | 55 => ⟨S128x128, .i1⟩
  | 56 => ⟨S_, .i1⟩
  | 57 => ⟨S128x128, .i1⟩
  | 58 => ⟨S128x128, .i1⟩
  | 59 => ⟨S128x128x1x1, .i1⟩
  | 60 => ⟨S16x128x1x4x8, .f32⟩
  | 61 => ⟨S16x1x128x4x8, .f32⟩
  | 62 => ⟨S16x128x128x4x8, .f32⟩
  | 63 => ⟨S16x128x128x4x8, .f32⟩
  | 64 => ⟨S16x128x128x4x8, .f32⟩
  | 65 => ⟨S_, .f32⟩
  | 66 => ⟨S_, .f32⟩
  | 67 => ⟨S16x128x128x4x8, .i1⟩
  | 68 => ⟨S16x128x128x4x8, .f32⟩
  | 69 => ⟨S16x128x128x4x8, .f32⟩
  | 70 => ⟨S16x128x128x4x8, .f32⟩
  | 71 => ⟨S16x4x128x128, .f32⟩
  | 72 => ⟨S16x128x128x4, .f32⟩
  | 73 => ⟨S16x128x128x4x1, .f32⟩
  | 74 => ⟨S16x128x128x4x8, .f32⟩
  | 75 => ⟨S16x128x128x4x8, .f32⟩
  | 76 => ⟨S16x4x8x64x128, .f32⟩
  | 77 => ⟨S16x128x4x8x64, .f32⟩
  | 78 => ⟨S16x1x4x8, .f32⟩
  | 79 => ⟨S16x128x4x8, .f32⟩
  | 80 => ⟨S16x128x4x8, .f32⟩
  | 81 => ⟨S16x128x4x8, .f32⟩
  | 82 => ⟨S16x128x4x8x1, .f32⟩
  | 83 => ⟨S16x128x4x8x64, .f32⟩
  | 84 => ⟨S16x128x4x8x64, .f32⟩
  | 85 => ⟨S16x4x8x64x128, .f32⟩
  | 86 => ⟨S16x1x4x8, .f32⟩
  | 87 => ⟨S16x4x8, .f32⟩
  | 88 => ⟨S16x4x8, .f32⟩
  | 89 => ⟨S_, .f32⟩
  | 90 => ⟨S4x8x64x128, .f32⟩
  | 91 => ⟨S0x4x8x64x128, .f32⟩
  | 92 => ⟨S16x4x8x64x128, .f32⟩
  | 93 => ⟨S0x4x8, .f32⟩
  | 94 => ⟨S16x4x8, .f32⟩
  | 95 => ⟨S_, .f32⟩
  | 96 => ⟨S0x4x8x64x128, .f32⟩
  | 97 => ⟨S1x4x8x64x128, .f32⟩
  | 98 => ⟨S4x8x64x128, .f32⟩
  | 99 => ⟨S1x4x8, .f32⟩
  | 100 => ⟨S4x8, .f32⟩
  | 101 => ⟨S4x8x1x1, .f32⟩
  | 102 => ⟨S4x8x64x128, .f32⟩
  | 103 => ⟨S4x8x64x128, .f32⟩
  | 104 => ⟨S4x8x64x128, .f32⟩
  | 105 => ⟨S1x4x8x64x128, .f32⟩
  | 106 => ⟨S4x8x64x128, .f32⟩
  | 107 => ⟨S1x4x8, .f32⟩
  | 108 => ⟨S4x8, .f32⟩
  | 109 => ⟨S4x8x1x1, .f32⟩
  | 110 => ⟨S4x8x64x128, .f32⟩
  | 111 => ⟨S4x8x64x128, .f32⟩
  | 112 => ⟨S4x8x64x128, .f32⟩
  | 113 => ⟨S1x4x8x64x128, .f32⟩
  | 114 => ⟨S4x8x64x128, .f32⟩
  | 115 => ⟨S1x4x8, .f32⟩
  | 116 => ⟨S4x8, .f32⟩
  | 117 => ⟨S4x8x1x1, .f32⟩
  | 118 => ⟨S4x8x64x128, .f32⟩
  | 119 => ⟨S4x8x64x128, .f32⟩
  | 120 => ⟨S4x8x64x128, .f32⟩
  | 121 => ⟨S1x4x8x64x128, .f32⟩
  | 122 => ⟨S4x8x64x128, .f32⟩
  | 123 => ⟨S1x4x8, .f32⟩
  | 124 => ⟨S4x8, .f32⟩
  | 125 => ⟨S4x8x1x1, .f32⟩
  | 126 => ⟨S4x8x64x128, .f32⟩
  | 127 => ⟨S4x8x64x128, .f32⟩
  | _ => ⟨S2048x5152, .f32⟩

abbrev hbmTy0_1 (i : Nat) : BufTy := match i % 128 with
  | 0 => ⟨S4x8x64x128, .f32⟩
  | 1 => ⟨S1x4x8x64x128, .f32⟩
  | 2 => ⟨S4x8x64x128, .f32⟩
  | 3 => ⟨S1x4x8, .f32⟩
  | 4 => ⟨S4x8, .f32⟩
  | 5 => ⟨S4x8x1x1, .f32⟩
  | 6 => ⟨S4x8x64x128, .f32⟩
  | 7 => ⟨S4x8x64x128, .f32⟩
  | 8 => ⟨S4x8x64x128, .f32⟩
  | 9 => ⟨S1x4x8x64x128, .f32⟩
  | 10 => ⟨S4x8x64x128, .f32⟩
  | 11 => ⟨S1x4x8, .f32⟩
  | 12 => ⟨S4x8, .f32⟩
  | 13 => ⟨S4x8x1x1, .f32⟩
  | 14 => ⟨S4x8x64x128, .f32⟩
  | 15 => ⟨S4x8x64x128, .f32⟩
  | 16 => ⟨S4x8x64x128, .f32⟩
  | 17 => ⟨S1x4x8x64x128, .f32⟩
  | 18 => ⟨S4x8x64x128, .f32⟩
  | 19 => ⟨S1x4x8, .f32⟩
  | 20 => ⟨S4x8, .f32⟩
  | 21 => ⟨S4x8x1x1, .f32⟩
  | 22 => ⟨S4x8x64x128, .f32⟩
  | 23 => ⟨S4x8x64x128, .f32⟩
  | 24 => ⟨S4x8x64x128, .f32⟩
  | 25 => ⟨S1x4x8x64x128, .f32⟩
  | 26 => ⟨S4x8x64x128, .f32⟩
  | 27 => ⟨S1x4x8, .f32⟩
  | 28 => ⟨S4x8, .f32⟩
  | 29 => ⟨S4x8x1x1, .f32⟩
  | 30 => ⟨S4x8x64x128, .f32⟩
  | 31 => ⟨S4x8x64x128, .f32⟩
  | 32 => ⟨S4x8x64x128, .f32⟩
  | 33 => ⟨S1x4x8x64x128, .f32⟩
  | 34 => ⟨S4x8x64x128, .f32⟩
  | 35 => ⟨S1x4x8, .f32⟩
  | 36 => ⟨S4x8, .f32⟩
  | 37 => ⟨S4x8x1x1, .f32⟩
  | 38 => ⟨S4x8x64x128, .f32⟩
  | 39 => ⟨S4x8x64x128, .f32⟩
  | 40 => ⟨S4x8x64x128, .f32⟩
  | 41 => ⟨S1x4x8x64x128, .f32⟩
  | 42 => ⟨S4x8x64x128, .f32⟩
  | 43 => ⟨S1x4x8, .f32⟩
  | 44 => ⟨S4x8, .f32⟩
  | 45 => ⟨S4x8x1x1, .f32⟩
  | 46 => ⟨S4x8x64x128, .f32⟩
  | 47 => ⟨S4x8x64x128, .f32⟩
  | 48 => ⟨S4x8x64x128, .f32⟩
  | 49 => ⟨S1x4x8x64x128, .f32⟩
  | 50 => ⟨S4x8x64x128, .f32⟩
  | 51 => ⟨S1x4x8, .f32⟩
  | 52 => ⟨S4x8, .f32⟩
  | 53 => ⟨S4x8x1x1, .f32⟩
  | 54 => ⟨S4x8x64x128, .f32⟩
  | 55 => ⟨S4x8x64x128, .f32⟩
  | 56 => ⟨S4x8x64x128, .f32⟩
  | 57 => ⟨S1x4x8x64x128, .f32⟩
  | 58 => ⟨S4x8x64x128, .f32⟩
  | 59 => ⟨S1x4x8, .f32⟩
  | 60 => ⟨S4x8, .f32⟩
  | 61 => ⟨S4x8x1x1, .f32⟩
  | 62 => ⟨S4x8x64x128, .f32⟩
  | 63 => ⟨S4x8x64x128, .f32⟩
  | 64 => ⟨S4x8x64x128, .f32⟩
  | 65 => ⟨S1x4x8x64x128, .f32⟩
  | 66 => ⟨S4x8x64x128, .f32⟩
  | 67 => ⟨S1x4x8, .f32⟩
  | 68 => ⟨S4x8, .f32⟩
  | 69 => ⟨S4x8x1x1, .f32⟩
  | 70 => ⟨S4x8x64x128, .f32⟩
  | 71 => ⟨S4x8x64x128, .f32⟩
  | 72 => ⟨S4x8x64x128, .f32⟩
  | 73 => ⟨S1x4x8x64x128, .f32⟩
  | 74 => ⟨S4x8x64x128, .f32⟩
  | 75 => ⟨S1x4x8, .f32⟩
  | 76 => ⟨S4x8, .f32⟩
  | 77 => ⟨S4x8x1x1, .f32⟩
  | 78 => ⟨S4x8x64x128, .f32⟩
  | 79 => ⟨S4x8x64x128, .f32⟩
  | 80 => ⟨S4x8x64x128, .f32⟩
  | 81 => ⟨S1x4x8x64x128, .f32⟩
  | 82 => ⟨S4x8x64x128, .f32⟩
  | 83 => ⟨S1x4x8, .f32⟩
  | 84 => ⟨S4x8, .f32⟩
  | 85 => ⟨S4x8x1x1, .f32⟩
  | 86 => ⟨S4x8x64x128, .f32⟩
  | 87 => ⟨S4x8x64x128, .f32⟩
  | 88 => ⟨S4x8x64x128, .f32⟩
  | 89 => ⟨S1x4x8x64x128, .f32⟩
  | 90 => ⟨S4x8x64x128, .f32⟩
  | 91 => ⟨S1x4x8, .f32⟩
  | 92 => ⟨S4x8, .f32⟩
  | 93 => ⟨S4x8x1x1, .f32⟩
  | 94 => ⟨S4x8x64x128, .f32⟩
  | 95 => ⟨S4x8x64x128, .f32⟩
  | 96 => ⟨S4x8x64x128, .f32⟩
  | 97 => ⟨S1x4x8x64x128, .f32⟩
  | 98 => ⟨S1x4x8x64x128, .f32⟩
  | 99 => ⟨S1x4x8x64x128, .f32⟩
  | 100 => ⟨S1x4x8x64x128, .f32⟩
  | 101 => ⟨S1x4x8x64x128, .f32⟩
  | 102 => ⟨S1x4x8x64x128, .f32⟩
  | 103 => ⟨S1x4x8x64x128, .f32⟩
  | 104 => ⟨S1x4x8x64x128, .f32⟩
  | 105 => ⟨S1x4x8x64x128, .f32⟩
  | 106 => ⟨S1x4x8x64x128, .f32⟩
  | 107 => ⟨S1x4x8x64x128, .f32⟩
  | 108 => ⟨S1x4x8x64x128, .f32⟩
  | 109 => ⟨S1x4x8x64x128, .f32⟩
  | 110 => ⟨S1x4x8x64x128, .f32⟩
  | 111 => ⟨S1x4x8x64x128, .f32⟩
  | 112 => ⟨S1x4x8x64x128, .f32⟩
  | 113 => ⟨S16x4x8x64x128, .f32⟩
  | 114 => ⟨S16x4x8x64x128, .f32⟩
  | 115 => ⟨S16x4x8x64x128, .f32⟩
  | 116 => ⟨S16x128x4x8x64, .f32⟩
  | 117 => ⟨S16x128x4x8, .f32⟩
  | 118 => ⟨S16x128x4x8x1, .f32⟩
  | 119 => ⟨S16x128x4x8x64, .f32⟩
  | 120 => ⟨S16x128x4x8x64, .f32⟩
  | 121 => ⟨S16x128x4x8x64, .f32⟩
  | 122 => ⟨S2048x4x8x64, .f32⟩
  | 123 => ⟨S4x8x1, .f32⟩
  | 124 => ⟨S1x4x8x1, .f32⟩
  | 125 => ⟨S2048x4x8x64, .f32⟩
  | 126 => ⟨S2048x4x8x64, .f32⟩
  | 127 => ⟨S2048x4x8x64, .f32⟩
  | _ => ⟨S2048x5152, .f32⟩

abbrev hbmTy0_2 (i : Nat) : BufTy := match i % 128 with
  | 0 => ⟨S2048x2048, .f32⟩
  | 1 => ⟨S2048x32, .f32⟩
  | 2 => ⟨S_, .i32⟩
  | 3 => ⟨S_, .f32⟩
  | 4 => ⟨S2048x128, .f32⟩
  | 5 => ⟨S_, .i32⟩
  | 6 => ⟨S_, .f32⟩
  | 7 => ⟨S2048x128, .f32⟩
  | 8 => ⟨S2048x32, .f32⟩
  | 9 => ⟨S2048x32, .f32⟩
  | 10 => ⟨S_, .f32⟩
  | 11 => ⟨S2048x32, .f32⟩
  | 12 => ⟨S2048x32, .f32⟩
  | 13 => ⟨S_, .f32⟩
  | 14 => ⟨S2048x32, .f32⟩
  | 15 => ⟨S2048x32, .f32⟩
  | 16 => ⟨S_, .i32⟩
  | 17 => ⟨S_, .f32⟩
  | 18 => ⟨S2048x128, .f32⟩
  | 19 => ⟨S16x128x128, .f32⟩
  | 20 => ⟨S16x128x128, .f32⟩
  | 21 => ⟨S16x128x128, .f32⟩
  | 22 => ⟨S16x1x128, .f32⟩
  | 23 => ⟨S16x4x128x8x64, .f32⟩
  | 24 => ⟨S16x4x128x512, .f32⟩
  | 25 => ⟨S_, .i32⟩
  | 26 => ⟨S_, .f32⟩
  | 27 => ⟨S2048x5632, .f32⟩
  | 28 => ⟨S_, .i32⟩
  | 29 => ⟨S_, .f32⟩
  | 30 => ⟨S128, .f32⟩
  | 31 => ⟨S1x128, .f32⟩
  | 32 => ⟨S32x64, .f32⟩
  | 33 => ⟨S2048, .f32⟩
  | 34 => ⟨S4x1x512, .f32⟩
  | 35 => ⟨S4x1x512, .f32⟩
  | 36 => ⟨S2048x5632, .bf16⟩
  | 37 => ⟨S2048x2048, .f32⟩
  | 38 => ⟨S2048x512, .f32⟩
  | 39 => ⟨S2048x512, .f32⟩
  | 40 => ⟨S4x2048x128, .f32⟩
  | 41 => ⟨S4x1x128, .f32⟩
  | 42 => ⟨S4x1x128, .f32⟩
  | 43 => ⟨S4x1x128, .f32⟩
  | 44 => ⟨S4x1x512, .f32⟩
  | _ => ⟨S2048x5152, .f32⟩

abbrev hbmTy (i : Nat) : BufTy := match i / 128 with
  | 0 => hbmTy0_0 i
  | 1 => hbmTy0_1 i
  | 2 => hbmTy0_2 i
  | _ => ⟨S2048x5152, .f32⟩

abbrev bufTy : (tb : Table) → Fin (tcTables nBuf tb) → BufTy
  | .hbm, ⟨i, _⟩ => hbmTy i
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S1x1x128x512, .f32⟩
  | .local _ .vmem, ⟨13, _⟩ => ⟨S1x1x128x512, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S1x128x128, .f32⟩
  | .local _ .vmem, ⟨21, _⟩ => ⟨S1x128x128, .f32⟩
  | .local _ .vmem, ⟨22, _⟩ => ⟨S1x1x128, .f32⟩
  | .local _ .vmem, ⟨23, _⟩ => ⟨S1x1x128, .f32⟩
  | .local _ .vmem, ⟨24, _⟩ => ⟨S1x128, .f32⟩
  | .local _ .vmem, ⟨25, _⟩ => ⟨S1x1x512, .f32⟩
  | .local _ .vmem, ⟨26, _⟩ => ⟨S1x1x512, .f32⟩
  | .local _ .vmem, ⟨27, _⟩ => ⟨S1x1x512, .f32⟩
  | .local _ .vmem, ⟨28, _⟩ => ⟨S1x1x512, .f32⟩
  | .local _ .vmem, ⟨29, _⟩ => ⟨S128x512, .bf16⟩
  | .local _ .vmem, ⟨30, _⟩ => ⟨S128x512, .bf16⟩
  | .local _ .vmem, ⟨31, _⟩ => ⟨S128x512, .f32⟩
  | .local _ .vmem, ⟨32, _⟩ => ⟨S128x512, .f32⟩
  | .local _ .vmem, ⟨33, _⟩ => ⟨S128x128, .f32⟩
  | .local _ .vmem, ⟨34, _⟩ => ⟨S128x128, .f32⟩
  | .local _ .vmem, ⟨35, _⟩ => ⟨S128x128, .f32⟩
  | .local _ .vmem, ⟨36, _⟩ => ⟨S128x128, .f32⟩
  | .local _ .vmem, ⟨37, _⟩ => ⟨S1x128x128, .f32⟩
  | .local _ .vmem, ⟨38, _⟩ => ⟨S1x128x128, .f32⟩
  | .local _ .vmem, ⟨39, _⟩ => ⟨S1x1x128, .f32⟩
  | .local _ .vmem, ⟨40, _⟩ => ⟨S1x1x128, .f32⟩
  | .local _ .vmem, ⟨41, _⟩ => ⟨S1x1x128, .f32⟩
  | .local _ .vmem, ⟨42, _⟩ => ⟨S1x1x128, .f32⟩
  | .local _ .vmem, ⟨43, _⟩ => ⟨S1x1x128, .f32⟩
  | .local _ .vmem, ⟨44, _⟩ => ⟨S1x1x128, .f32⟩
  | .local _ .vmem, ⟨45, _⟩ => ⟨S1x1x512, .f32⟩
  | .local _ .vmem, ⟨46, _⟩ => ⟨S1x1x512, .f32⟩
  | .local _ .vmem, ⟨47, _⟩ => ⟨S128x512, .f32⟩
  | .local _ .vmem, ⟨48, _⟩ => ⟨S128x128, .f32⟩
  | .local _ .vmem, ⟨49, _⟩ => ⟨S128x512, .f32⟩
  | _, _ => ⟨S2048x5152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call1_call0_cst : Ref sig .tc := ⟨.hbm, 45, rfl⟩
abbrev main_call1_call0_v0 : Ref sig .tc := ⟨.hbm, 46, rfl⟩
abbrev main_v25 : Ref sig .tc := ⟨.hbm, 47, rfl⟩
abbrev main_c : Ref sig .tc := ⟨.hbm, 48, rfl⟩
abbrev main_v26 : Ref sig .tc := ⟨.hbm, 49, rfl⟩
abbrev main_call2_v0 : Ref sig .tc := ⟨.hbm, 50, rfl⟩
abbrev main_call2_c : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_c_0 : Ref sig .tc := ⟨.hbm, 56, rfl⟩
abbrev main_call2_v5 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_0 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_1 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_v217 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_c_2 : Ref sig .tc := ⟨.hbm, 258, rfl⟩
abbrev main_call4_v0 : Ref sig .tc := ⟨.hbm, 259, rfl⟩
abbrev main_v221 : Ref sig .tc := ⟨.hbm, 260, rfl⟩
abbrev main_c_3 : Ref sig .tc := ⟨.hbm, 261, rfl⟩
abbrev main_call5_v0 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_cst_4 : Ref sig .tc := ⟨.hbm, 266, rfl⟩
abbrev main_v225 : Ref sig .tc := ⟨.hbm, 267, rfl⟩
abbrev main_v226 : Ref sig .tc := ⟨.hbm, 268, rfl⟩
abbrev main_cst_5 : Ref sig .tc := ⟨.hbm, 269, rfl⟩
abbrev main_v227 : Ref sig .tc := ⟨.hbm, 270, rfl⟩
abbrev main_v228 : Ref sig .tc := ⟨.hbm, 271, rfl⟩
abbrev main_c_6 : Ref sig .tc := ⟨.hbm, 272, rfl⟩
abbrev main_call6_v0 : Ref sig .tc := ⟨.hbm, 273, rfl⟩
abbrev main_v229 : Ref sig .tc := ⟨.hbm, 274, rfl⟩
abbrev main_v230 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_v235 : Ref sig .tc := ⟨.hbm, 280, rfl⟩
abbrev main_c_7 : Ref sig .tc := ⟨.hbm, 281, rfl⟩
abbrev main_call7_v0 : Ref sig .tc := ⟨.hbm, 282, rfl⟩
abbrev main_v236 : Ref sig .tc := ⟨.hbm, 283, rfl⟩
abbrev main_c_8 : Ref sig .tc := ⟨.hbm, 284, rfl⟩
abbrev main_call8_v0 : Ref sig .tc := ⟨.hbm, 285, rfl⟩
abbrev main_v237 : Ref sig .tc := ⟨.hbm, 286, rfl⟩
abbrev main_v238 : Ref sig .tc := ⟨.hbm, 287, rfl⟩
abbrev main_v239 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_v243_0 : Ref sig .tc := ⟨.hbm, 292, rfl⟩
abbrev main_v243_1 : Ref sig .tc := ⟨.hbm, 293, rfl⟩
abbrev main_v243_2 : Ref sig .tc := ⟨.hbm, 294, rfl⟩
abbrev main_v243_3 : Ref sig .tc := ⟨.hbm, 295, rfl⟩
abbrev main_v243_4 : Ref sig .tc := ⟨.hbm, 296, rfl⟩
abbrev main_v243_5 : Ref sig .tc := ⟨.hbm, 297, rfl⟩
abbrev main_v243_6 : Ref sig .tc := ⟨.hbm, 298, rfl⟩
abbrev main_v243_7 : Ref sig .tc := ⟨.hbm, 299, rfl⟩
abbrev main_v243_8 : Ref sig .tc := ⟨.hbm, 300, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_stg21_0 : Ref sig .tc := ⟨.vmem, 41, rfl⟩
abbrev cc0_stg21_1 : Ref sig .tc := ⟨.vmem, 42, rfl⟩
abbrev cc0_stg22_0 : Ref sig .tc := ⟨.vmem, 43, rfl⟩
abbrev cc0_stg22_1 : Ref sig .tc := ⟨.vmem, 44, rfl⟩
abbrev cc0_stg23_0 : Ref sig .tc := ⟨.vmem, 45, rfl⟩
abbrev cc0_stg23_1 : Ref sig .tc := ⟨.vmem, 46, rfl⟩
abbrev cc0_scratch0 : Ref sig .tc := ⟨.vmem, 47, rfl⟩
abbrev cc0_scratch1 : Ref sig .tc := ⟨.vmem, 48, rfl⟩
abbrev cc0_scratch2 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40
abbrev cc0_sem21_0 : DmaSem sig := 41
abbrev cc0_sem21_1 : DmaSem sig := 42
abbrev cc0_sem22_0 : DmaSem sig := 43
abbrev cc0_sem22_1 : DmaSem sig := 44
abbrev cc0_sem23_0 : DmaSem sig := 45
abbrev cc0_sem23_1 : DmaSem sig := 46

abbrev nD : Nat := 1
abbrev τ : Topo := Topo.v7x

variable {F : FTy → Type} [FloatOps F]

abbrev grid0 : Pipeline.Grid := ⟨2, ![4, 16], ![false, false]⟩

def k0_off1 (i : grid0.Coords) (c0_i32_195 : BitVec 32) : Fin 3 → Nat :=
  let c0_200 : Index := 0#32
  let arg0 : BitVec 32 := BitVec.ofNat 32 (i 0).val
  let c8_i32 : BitVec 32 := 8#32
  let v25 : BitVec 32 := Scalar.muli arg0 c8_i32
  let v485 : BitVec 32 := Scalar.addi v25 c0_i32_195
  let v496 : Index := Scalar.indexCast v485
  let c0_201 : Index := 0#32
  ![0, v496.toNat, 0]
def k0_off2 (i : grid0.Coords) (c0_i32_195 : BitVec 32) : Fin 3 → Nat :=
  let c0_209 : Index := 0#32
  let arg0 : BitVec 32 := BitVec.ofNat 32 (i 0).val
  let c8_i32 : BitVec 32 := 8#32
  let v25 : BitVec 32 := Scalar.muli arg0 c8_i32
  let v485 : BitVec 32 := Scalar.addi v25 c0_i32_195
  let c1_i32_197 : BitVec 32 := 1#32
  let v489 : BitVec 32 := Scalar.addi v485 c1_i32_197
  let v523 : Index := Scalar.indexCast v489
  let c0_210 : Index := 0#32
  ![0, v523.toNat, 0]
def k0_off3 (i : grid0.Coords) (c0_i32_195 : BitVec 32) : Fin 2 → Nat :=
  let arg0 : BitVec 32 := BitVec.ofNat 32 (i 0).val
  let c8_i32 : BitVec 32 := 8#32
  let v25 : BitVec 32 := Scalar.muli arg0 c8_i32
  let v485 : BitVec 32 := Scalar.addi v25 c0_i32_195
  let v703 : Index := Scalar.indexCast v485
  let c0_269 : Index := 0#32
  ![v703.toNat, 0]
def k0_off4 (i : grid0.Coords) (c0_i32_196 : BitVec 32) : Fin 2 → Nat :=
  let arg0 : BitVec 32 := BitVec.ofNat 32 (i 0).val
  let c8_i32 : BitVec 32 := 8#32
  let v25 : BitVec 32 := Scalar.muli arg0 c8_i32
  let v486 : BitVec 32 := Scalar.addi v25 c0_i32_196
  let c1_i32 : BitVec 32 := 1#32
  let v487 : BitVec 32 := Scalar.addi v486 c1_i32
  let v715 : Index := Scalar.indexCast v487
  let c0_272 : Index := 0#32
  ![v715.toNat, 0]
def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c16_i32 : BitVec 32 := 16#32
  let v1 : BitVec 32 := Scalar.addi c16_i32 arg0
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c20_i32 : BitVec 32 := 20#32
  let v1 : BitVec 32 := Scalar.addi c20_i32 arg0
  let c0_i32 : BitVec 32 := 0#32
  ![v0.toNat, v1.toNat]

def cc0_transform_6 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_10 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![v0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![v0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_16 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_17 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_18 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_19 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S128x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S128x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x128x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S1x1x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]

abbrev stage0_22 : Fin 2 → Memref sig .tc .vmem S1x1x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, false]

abbrev stage0_23 : Fin 2 → Memref sig .tc .vmem S1x1x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S2048x5152 : Shape := ⟨2, ![2048, 5152]⟩
abbrev S2048x3072 : Shape := ⟨2, ![2048, 3072]⟩
abbrev S32 : Shape := ⟨1, ![32]⟩
abbrev S2048 : Shape := ⟨1, ![2048]⟩
abbrev S2048x2048 : Shape := ⟨2, ![2048, 2048]⟩
abbrev S2048x32 : Shape := ⟨2, ![2048, 32]⟩
abbrev S2048x4x8x64 : Shape := ⟨4, ![2048, 4, 8, 64]⟩
abbrev S2048x512 : Shape := ⟨2, ![2048, 512]⟩
abbrev S2048x4x128 : Shape := ⟨3, ![2048, 4, 128]⟩
abbrev S1x32 : Shape := ⟨2, ![1, 32]⟩
abbrev S_ : Shape := ⟨0, ![]⟩
abbrev S2048x4x8 : Shape := ⟨3, ![2048, 4, 8]⟩
abbrev S4x8 : Shape := ⟨2, ![4, 8]⟩
abbrev S16x128x4x8x64 : Shape := ⟨5, ![16, 128, 4, 8, 64]⟩
abbrev S16x128x4x8 : Shape := ⟨4, ![16, 128, 4, 8]⟩
abbrev S16x128x4x128 : Shape := ⟨4, ![16, 128, 4, 128]⟩
abbrev S16x128x4x8x1 : Shape := ⟨5, ![16, 128, 4, 8, 1]⟩
abbrev S1x1x4x8 : Shape := ⟨4, ![1, 1, 4, 8]⟩
abbrev S128x128 : Shape := ⟨2, ![128, 128]⟩
abbrev S128x128x1x1 : Shape := ⟨4, ![128, 128, 1, 1]⟩
abbrev S16x128x1x4x8 : Shape := ⟨5, ![16, 128, 1, 4, 8]⟩
abbrev S16x1x128x4x8 : Shape := ⟨5, ![16, 1, 128, 4, 8]⟩
abbrev S16x128x128x4x8 : Shape := ⟨5, ![16, 128, 128, 4, 8]⟩
abbrev S16x4x128x128 : Shape := ⟨4, ![16, 4, 128, 128]⟩
abbrev S16x128x128x4 : Shape := ⟨4, ![16, 128, 128, 4]⟩
abbrev S16x128x128x4x1 : Shape := ⟨5, ![16, 128, 128, 4, 1]⟩
abbrev S16x4x8x64x128 : Shape := ⟨5, ![16, 4, 8, 64, 128]⟩
abbrev S16x1x4x8 : Shape := ⟨4, ![16, 1, 4, 8]⟩
abbrev S16x4x8 : Shape := ⟨3, ![16, 4, 8]⟩
abbrev S4x8x64x128 : Shape := ⟨4, ![4, 8, 64, 128]⟩
abbrev S0x4x8x64x128 : Shape := ⟨5, ![0, 4, 8, 64, 128]⟩
abbrev S0x4x8 : Shape := ⟨3, ![0, 4, 8]⟩
abbrev S0x4x8x1x1 : Shape := ⟨5, ![0, 4, 8, 1, 1]⟩
abbrev S1x4x8x64x128 : Shape := ⟨5, ![1, 4, 8, 64, 128]⟩
abbrev S1x4x8 : Shape := ⟨3, ![1, 4, 8]⟩
abbrev S4x8x1x1 : Shape := ⟨4, ![4, 8, 1, 1]⟩
abbrev S1x4x8x1x1 : Shape := ⟨5, ![1, 4, 8, 1, 1]⟩
abbrev S16x4x8x1x1 : Shape := ⟨5, ![16, 4, 8, 1, 1]⟩
abbrev S4x8x1 : Shape := ⟨3, ![4, 8, 1]⟩
abbrev S1x4x8x1 : Shape := ⟨4, ![1, 4, 8, 1]⟩
abbrev S2048x4x512 : Shape := ⟨3, ![2048, 4, 512]⟩
abbrev S2048x4 : Shape := ⟨2, ![2048, 4]⟩
abbrev S2048x4x1 : Shape := ⟨3, ![2048, 4, 1]⟩
abbrev S1x2048 : Shape := ⟨2, ![1, 2048]⟩
abbrev S16x4x8x128x128 : Shape := ⟨5, ![16, 4, 8, 128, 128]⟩
abbrev S8 : Shape := ⟨1, ![8]⟩
abbrev S128 : Shape := ⟨1, ![128]⟩
abbrev S1x128 : Shape := ⟨2, ![1, 128]⟩
abbrev S4x128 : Shape := ⟨2, ![4, 128]⟩
abbrev S4x1x128 : Shape := ⟨3, ![4, 1, 128]⟩
abbrev S4x1x512 : Shape := ⟨3, ![4, 1, 512]⟩

abbrev nBuf : Space → Nat
  | .hbm => 832
  | .vmem => 0
  | .smem => 0
  | _ => 0

abbrev hbmTy0_0 (i : Nat) : BufTy := match i % 128 with
  | 0 => ⟨S2048x5152, .f32⟩
  | 1 => ⟨S2048x3072, .f32⟩
  | 2 => ⟨S32, .f32⟩
  | 3 => ⟨S32, .f32⟩
  | 4 => ⟨S32, .f32⟩
  | 5 => ⟨S2048, .f32⟩
  | 6 => ⟨S2048x2048, .f32⟩
  | 7 => ⟨S2048x2048, .f32⟩
  | 8 => ⟨S2048x32, .f32⟩
  | 9 => ⟨S2048x2048, .f32⟩
  | 10 => ⟨S2048x4x8x64, .f32⟩
  | 11 => ⟨S2048x512, .f32⟩
  | 12 => ⟨S2048x4x128, .f32⟩
  | 13 => ⟨S2048x512, .f32⟩
  | 14 => ⟨S2048x4x128, .f32⟩
  | 15 => ⟨S1x32, .f32⟩
  | 16 => ⟨S2048x32, .f32⟩
  | 17 => ⟨S2048x32, .f32⟩
  | 18 => ⟨S_, .f32⟩
  | 19 => ⟨S2048x32, .f32⟩
  | 20 => ⟨S2048x32, .f32⟩
  | 21 => ⟨S2048x32, .f32⟩
  | 22 => ⟨S2048x32, .f32⟩
  | 23 => ⟨S2048x32, .i1⟩
  | 24 => ⟨S2048x32, .f32⟩
  | 25 => ⟨S2048x32, .f32⟩
  | 26 => ⟨S2048x32, .f32⟩
  | 27 => ⟨S2048x32, .f32⟩
  | 28 => ⟨S2048x32, .f32⟩
  | 29 => ⟨S2048x32, .f32⟩
  | 30 => ⟨S2048x32, .f32⟩
  | 31 => ⟨S2048x32, .f32⟩
  | 32 => ⟨S_, .f32⟩
  | 33 => ⟨S2048x32, .f32⟩
  | 34 => ⟨S2048x32, .i1⟩
  | 35 => ⟨S_, .f32⟩
  | 36 => ⟨S2048x32, .f32⟩
  | 37 => ⟨S2048x32, .f32⟩
  | 38 => ⟨S_, .f32⟩
  | 39 => ⟨S2048x32, .f32⟩
  | 40 => ⟨S2048x32, .i1⟩
  | 41 => ⟨S_, .f32⟩
  | 42 => ⟨S2048x32, .f32⟩
  | 43 => ⟨S2048x32, .f32⟩
  | 44 => ⟨S2048x32, .f32⟩
  | 45 => ⟨S2048x32, .f32⟩
  | 46 => ⟨S_, .f32⟩
  | 47 => ⟨S_, .f32⟩
  | 48 => ⟨S_, .i1⟩
  | 49 => ⟨S_, .f32⟩
  | 50 => ⟨S_, .f32⟩
  | 51 => ⟨S_, .f32⟩
  | 52 => ⟨S_, .f32⟩
  | 53 => ⟨S2048x32, .f32⟩
  | 54 => ⟨S2048x32, .i1⟩
  | 55 => ⟨S_, .f32⟩
  | 56 => ⟨S2048x32, .f32⟩
  | 57 => ⟨S2048x32, .f32⟩
  | 58 => ⟨S2048x32, .f32⟩
  | 59 => ⟨S2048x32, .f32⟩
  | 60 => ⟨S2048x32, .f32⟩
  | 61 => ⟨S_, .f32⟩
  | 62 => ⟨S2048x32, .f32⟩
  | 63 => ⟨S2048x32, .f32⟩
  | 64 => ⟨S2048x4x8, .f32⟩
  | 65 => ⟨S32, .f32⟩
  | 66 => ⟨S4x8, .f32⟩
  | 67 => ⟨S4x8, .f32⟩
  | 68 => ⟨S16x128x4x8x64, .f32⟩
  | 69 => ⟨S16x128x4x8, .f32⟩
  | 70 => ⟨S16x128x4x128, .f32⟩
  | 71 => ⟨S16x128x4x128, .f32⟩
  | 72 => ⟨S16x128x4x8x1, .f32⟩
  | 73 => ⟨S16x128x4x8x64, .f32⟩
  | 74 => ⟨S16x128x4x8x64, .f32⟩
  | 75 => ⟨S1x1x4x8, .f32⟩
  | 76 => ⟨S16x128x4x8, .f32⟩
  | 77 => ⟨S16x128x4x8, .f32⟩
  | 78 => ⟨S_, .f32⟩
  | 79 => ⟨S_, .f32⟩
  | 80 => ⟨S16x128x4x8, .f32⟩
  | 81 => ⟨S_, .i1⟩
  | 82 => ⟨S128x128, .i1⟩
  | 83 => ⟨S128x128, .i32⟩
  | 84 => ⟨S_, .i32⟩
  | 85 => ⟨S128x128, .i32⟩
  | 86 => ⟨S128x128, .i32⟩
  | 87 => ⟨S128x128, .i32⟩
  | 88 => ⟨S128x128, .i1⟩
  | 89 => ⟨S_, .i1⟩
  | 90 => ⟨S128x128, .i1⟩
  | 91 => ⟨S128x128, .i1⟩
  | 92 => ⟨S128x128x1x1, .i1⟩
  | 93 => ⟨S16x128x1x4x8, .f32⟩
  | 94 => ⟨S16x1x128x4x8, .f32⟩
  | 95 => ⟨S16x128x128x4x8, .f32⟩
  | 96 => ⟨S16x128x128x4x8, .f32⟩
  | 97 => ⟨S16x128x128x4x8, .f32⟩
  | 98 => ⟨S_, .f32⟩
  | 99 => ⟨S_, .f32⟩
  | 100 => ⟨S16x128x128x4x8, .i1⟩
  | 101 => ⟨S16x128x128x4x8, .f32⟩
  | 102 => ⟨S16x128x128x4x8, .f32⟩
  | 103 => ⟨S_, .f32⟩
  | 104 => ⟨S16x128x128x4x8, .f32⟩
  | 105 => ⟨S16x128x128x4x8, .f32⟩
  | 106 => ⟨S16x4x128x128, .f32⟩
  | 107 => ⟨S16x128x128x4, .f32⟩
  | 108 => ⟨S16x128x128x4x1, .f32⟩
  | 109 => ⟨S16x128x128x4x8, .f32⟩
  | 110 => ⟨S16x128x128x4x8, .f32⟩
  | 111 => ⟨S16x4x8x64x128, .f32⟩
  | 112 => ⟨S16x128x4x8x64, .f32⟩
  | 113 => ⟨S16x1x4x8, .f32⟩
  | 114 => ⟨S16x128x4x8, .f32⟩
  | 115 => ⟨S16x128x4x8, .f32⟩
  | 116 => ⟨S16x128x4x8, .f32⟩
  | 117 => ⟨S16x128x4x8x1, .f32⟩
  | 118 => ⟨S16x128x4x8x64, .f32⟩
  | 119 => ⟨S16x128x4x8x64, .f32⟩
  | 120 => ⟨S16x4x8x64x128, .f32⟩
  | 121 => ⟨S16x1x4x8, .f32⟩
  | 122 => ⟨S16x4x8, .f32⟩
  | 123 => ⟨S16x4x8, .f32⟩
  | 124 => ⟨S_, .f32⟩
  | 125 => ⟨S4x8x64x128, .f32⟩
  | 126 => ⟨S0x4x8x64x128, .f32⟩
  | 127 => ⟨S16x4x8x64x128, .f32⟩
  | _ => ⟨S2048x5152, .f32⟩

abbrev hbmTy0_1 (i : Nat) : BufTy := match i % 128 with
  | 0 => ⟨S0x4x8, .f32⟩
  | 1 => ⟨S16x4x8, .f32⟩
  | 2 => ⟨S_, .f32⟩
  | 3 => ⟨S0x4x8x64x128, .f32⟩
  | 4 => ⟨S_, .f32⟩
  | 5 => ⟨S0x4x8x1x1, .f32⟩
  | 6 => ⟨S1x4x8x64x128, .f32⟩
  | 7 => ⟨S4x8x64x128, .f32⟩
  | 8 => ⟨S1x4x8, .f32⟩
  | 9 => ⟨S4x8, .f32⟩
  | 10 => ⟨S4x8x1x1, .f32⟩
  | 11 => ⟨S4x8x64x128, .f32⟩
  | 12 => ⟨S4x8x64x128, .f32⟩
  | 13 => ⟨S4x8x64x128, .f32⟩
  | 14 => ⟨S1x4x8x64x128, .f32⟩
  | 15 => ⟨S4x8x64x128, .f32⟩
  | 16 => ⟨S1x4x8, .f32⟩
  | 17 => ⟨S4x8, .f32⟩
  | 18 => ⟨S4x8x1x1, .f32⟩
  | 19 => ⟨S4x8x64x128, .f32⟩
  | 20 => ⟨S4x8x64x128, .f32⟩
  | 21 => ⟨S4x8x64x128, .f32⟩
  | 22 => ⟨S1x4x8x64x128, .f32⟩
  | 23 => ⟨S4x8x64x128, .f32⟩
  | 24 => ⟨S1x4x8, .f32⟩
  | 25 => ⟨S4x8, .f32⟩
  | 26 => ⟨S4x8x1x1, .f32⟩
  | 27 => ⟨S4x8x64x128, .f32⟩
  | 28 => ⟨S4x8x64x128, .f32⟩
  | 29 => ⟨S4x8x64x128, .f32⟩
  | 30 => ⟨S1x4x8x64x128, .f32⟩
  | 31 => ⟨S4x8x64x128, .f32⟩
  | 32 => ⟨S1x4x8, .f32⟩
  | 33 => ⟨S4x8, .f32⟩
  | 34 => ⟨S4x8x1x1, .f32⟩
  | 35 => ⟨S4x8x64x128, .f32⟩
  | 36 => ⟨S4x8x64x128, .f32⟩
  | 37 => ⟨S4x8x64x128, .f32⟩
  | 38 => ⟨S1x4x8x64x128, .f32⟩
  | 39 => ⟨S4x8x64x128, .f32⟩
  | 40 => ⟨S1x4x8, .f32⟩
  | 41 => ⟨S4x8, .f32⟩
  | 42 => ⟨S4x8x1x1, .f32⟩
  | 43 => ⟨S4x8x64x128, .f32⟩
  | 44 => ⟨S4x8x64x128, .f32⟩
  | 45 => ⟨S4x8x64x128, .f32⟩
  | 46 => ⟨S1x4x8x64x128, .f32⟩
  | 47 => ⟨S4x8x64x128, .f32⟩
  | 48 => ⟨S1x4x8, .f32⟩
  | 49 => ⟨S4x8, .f32⟩
  | 50 => ⟨S4x8x1x1, .f32⟩
  | 51 => ⟨S4x8x64x128, .f32⟩
  | 52 => ⟨S4x8x64x128, .f32⟩
  | 53 => ⟨S4x8x64x128, .f32⟩
  | 54 => ⟨S1x4x8x64x128, .f32⟩
  | 55 => ⟨S4x8x64x128, .f32⟩
  | 56 => ⟨S1x4x8, .f32⟩
  | 57 => ⟨S4x8, .f32⟩
  | 58 => ⟨S4x8x1x1, .f32⟩
  | 59 => ⟨S4x8x64x128, .f32⟩
  | 60 => ⟨S4x8x64x128, .f32⟩
  | 61 => ⟨S4x8x64x128, .f32⟩
  | 62 => ⟨S1x4x8x64x128, .f32⟩
  | 63 => ⟨S4x8x64x128, .f32⟩
  | 64 => ⟨S1x4x8, .f32⟩
  | 65 => ⟨S4x8, .f32⟩
  | 66 => ⟨S4x8x1x1, .f32⟩
  | 67 => ⟨S4x8x64x128, .f32⟩
  | 68 => ⟨S4x8x64x128, .f32⟩
  | 69 => ⟨S4x8x64x128, .f32⟩
  | 70 => ⟨S1x4x8x64x128, .f32⟩
  | 71 => ⟨S4x8x64x128, .f32⟩
  | 72 => ⟨S1x4x8, .f32⟩
  | 73 => ⟨S4x8, .f32⟩
  | 74 => ⟨S4x8x1x1, .f32⟩
  | 75 => ⟨S4x8x64x128, .f32⟩
  | 76 => ⟨S4x8x64x128, .f32⟩
  | 77 => ⟨S4x8x64x128, .f32⟩
  | 78 => ⟨S1x4x8x64x128, .f32⟩
  | 79 => ⟨S4x8x64x128, .f32⟩
  | 80 => ⟨S1x4x8, .f32⟩
  | 81 => ⟨S4x8, .f32⟩
  | 82 => ⟨S4x8x1x1, .f32⟩
  | 83 => ⟨S4x8x64x128, .f32⟩
  | 84 => ⟨S4x8x64x128, .f32⟩
  | 85 => ⟨S4x8x64x128, .f32⟩
  | 86 => ⟨S1x4x8x64x128, .f32⟩
  | 87 => ⟨S4x8x64x128, .f32⟩
  | 88 => ⟨S1x4x8, .f32⟩
  | 89 => ⟨S4x8, .f32⟩
  | 90 => ⟨S4x8x1x1, .f32⟩
  | 91 => ⟨S4x8x64x128, .f32⟩
  | 92 => ⟨S4x8x64x128, .f32⟩
  | 93 => ⟨S4x8x64x128, .f32⟩
  | 94 => ⟨S1x4x8x64x128, .f32⟩
  | 95 => ⟨S4x8x64x128, .f32⟩
  | 96 => ⟨S1x4x8, .f32⟩
  | 97 => ⟨S4x8, .f32⟩
  | 98 => ⟨S4x8x1x1, .f32⟩
  | 99 => ⟨S4x8x64x128, .f32⟩
  | 100 => ⟨S4x8x64x128, .f32⟩
  | 101 => ⟨S4x8x64x128, .f32⟩
  | 102 => ⟨S1x4x8x64x128, .f32⟩
  | 103 => ⟨S4x8x64x128, .f32⟩
  | 104 => ⟨S1x4x8, .f32⟩
  | 105 => ⟨S4x8, .f32⟩
  | 106 => ⟨S4x8x1x1, .f32⟩
  | 107 => ⟨S4x8x64x128, .f32⟩
  | 108 => ⟨S4x8x64x128, .f32⟩
  | 109 => ⟨S4x8x64x128, .f32⟩
  | 110 => ⟨S1x4x8x64x128, .f32⟩
  | 111 => ⟨S4x8x64x128, .f32⟩
  | 112 => ⟨S1x4x8, .f32⟩
  | 113 => ⟨S4x8, .f32⟩
  | 114 => ⟨S4x8x1x1, .f32⟩
  | 115 => ⟨S4x8x64x128, .f32⟩
  | 116 => ⟨S4x8x64x128, .f32⟩
  | 117 => ⟨S4x8x64x128, .f32⟩
  | 118 => ⟨S1x4x8x64x128, .f32⟩
  | 119 => ⟨S4x8x64x128, .f32⟩
  | 120 => ⟨S1x4x8, .f32⟩
  | 121 => ⟨S4x8, .f32⟩
  | 122 => ⟨S4x8x1x1, .f32⟩
  | 123 => ⟨S4x8x64x128, .f32⟩
  | 124 => ⟨S4x8x64x128, .f32⟩
  | 125 => ⟨S4x8x64x128, .f32⟩
  | 126 => ⟨S1x4x8x64x128, .f32⟩
  | 127 => ⟨S4x8x64x128, .f32⟩
  | _ => ⟨S2048x5152, .f32⟩

abbrev hbmTy0_2 (i : Nat) : BufTy := match i % 128 with
  | 0 => ⟨S1x4x8, .f32⟩
  | 1 => ⟨S4x8, .f32⟩
  | 2 => ⟨S4x8x1x1, .f32⟩
  | 3 => ⟨S4x8x64x128, .f32⟩
  | 4 => ⟨S4x8x64x128, .f32⟩
  | 5 => ⟨S4x8x64x128, .f32⟩
  | 6 => ⟨S1x4x8x64x128, .f32⟩
  | 7 => ⟨S1x4x8x64x128, .f32⟩
  | 8 => ⟨S1x4x8x64x128, .f32⟩
  | 9 => ⟨S1x4x8x64x128, .f32⟩
  | 10 => ⟨S1x4x8x64x128, .f32⟩
  | 11 => ⟨S1x4x8x64x128, .f32⟩
  | 12 => ⟨S1x4x8x64x128, .f32⟩
  | 13 => ⟨S1x4x8x64x128, .f32⟩
  | 14 => ⟨S1x4x8x64x128, .f32⟩
  | 15 => ⟨S1x4x8x64x128, .f32⟩
  | 16 => ⟨S1x4x8x64x128, .f32⟩
  | 17 => ⟨S1x4x8x64x128, .f32⟩
  | 18 => ⟨S1x4x8x64x128, .f32⟩
  | 19 => ⟨S1x4x8x64x128, .f32⟩
  | 20 => ⟨S1x4x8x64x128, .f32⟩
  | 21 => ⟨S1x4x8x64x128, .f32⟩
  | 22 => ⟨S16x4x8x64x128, .f32⟩
  | 23 => ⟨S1x4x8x1x1, .f32⟩
  | 24 => ⟨S1x4x8x1x1, .f32⟩
  | 25 => ⟨S1x4x8x1x1, .f32⟩
  | 26 => ⟨S1x4x8x1x1, .f32⟩
  | 27 => ⟨S1x4x8x1x1, .f32⟩
  | 28 => ⟨S1x4x8x1x1, .f32⟩
  | 29 => ⟨S1x4x8x1x1, .f32⟩
  | 30 => ⟨S1x4x8x1x1, .f32⟩
  | 31 => ⟨S1x4x8x1x1, .f32⟩
  | 32 => ⟨S1x4x8x1x1, .f32⟩
  | 33 => ⟨S1x4x8x1x1, .f32⟩
  | 34 => ⟨S1x4x8x1x1, .f32⟩
  | 35 => ⟨S1x4x8x1x1, .f32⟩
  | 36 => ⟨S1x4x8x1x1, .f32⟩
  | 37 => ⟨S1x4x8x1x1, .f32⟩
  | 38 => ⟨S1x4x8x1x1, .f32⟩
  | 39 => ⟨S16x4x8x1x1, .f32⟩
  | 40 => ⟨S16x4x8x64x128, .f32⟩
  | 41 => ⟨S16x4x8x1x1, .f32⟩
  | 42 => ⟨S16x4x8x64x128, .f32⟩
  | 43 => ⟨S16x128x4x8x64, .f32⟩
  | 44 => ⟨S16x128x4x8, .f32⟩
  | 45 => ⟨S16x128x4x8x1, .f32⟩
  | 46 => ⟨S16x128x4x8x64, .f32⟩
  | 47 => ⟨S16x128x4x8x64, .f32⟩
  | 48 => ⟨S16x128x4x8x64, .f32⟩
  | 49 => ⟨S2048x4x8x64, .f32⟩
  | 50 => ⟨S4x8x1, .f32⟩
  | 51 => ⟨S1x4x8x1, .f32⟩
  | 52 => ⟨S2048x4x8x64, .f32⟩
  | 53 => ⟨S2048x4x8x64, .f32⟩
  | 54 => ⟨S2048x4x8x64, .f32⟩
  | 55 => ⟨S2048x2048, .f32⟩
  | 56 => ⟨S2048x2048, .f32⟩
  | 57 => ⟨S2048x2048, .f32⟩
  | 58 => ⟨S_, .f32⟩
  | 59 => ⟨S2048x2048, .f32⟩
  | 60 => ⟨S2048x2048, .f32⟩
  | 61 => ⟨S_, .f32⟩
  | 62 => ⟨S2048x2048, .f32⟩
  | 63 => ⟨S2048x2048, .f32⟩
  | 64 => ⟨S_, .f32⟩
  | 65 => ⟨S2048x2048, .f32⟩
  | 66 => ⟨S2048x2048, .f32⟩
  | 67 => ⟨S2048x2048, .f32⟩
  | 68 => ⟨S2048x2048, .f32⟩
  | 69 => ⟨S2048x2048, .f32⟩
  | 70 => ⟨S2048x4x512, .f32⟩
  | 71 => ⟨S2048x4x512, .f32⟩
  | 72 => ⟨S_, .f32⟩
  | 73 => ⟨S2048x4, .f32⟩
  | 74 => ⟨S2048x4x1, .f32⟩
  | 75 => ⟨S_, .f32⟩
  | 76 => ⟨S2048x4x1, .f32⟩
  | 77 => ⟨S2048x4x1, .f32⟩
  | 78 => ⟨S_, .f32⟩
  | 79 => ⟨S2048x4x1, .f32⟩
  | 80 => ⟨S2048x4x1, .f32⟩
  | 81 => ⟨S2048x4x1, .f32⟩
  | 82 => ⟨S2048x4x1, .f32⟩
  | 83 => ⟨S_, .f32⟩
  | 84 => ⟨S2048x4x1, .f32⟩
  | 85 => ⟨S2048x4x1, .f32⟩
  | 86 => ⟨S2048x4x512, .f32⟩
  | 87 => ⟨S2048x4x512, .f32⟩
  | 88 => ⟨S2048x2048, .f32⟩
  | 89 => ⟨S1x2048, .f32⟩
  | 90 => ⟨S2048x2048, .f32⟩
  | 91 => ⟨S2048x2048, .f32⟩
  | 92 => ⟨S_, .f32⟩
  | 93 => ⟨S4x8x64x128, .f32⟩
  | 94 => ⟨S2048x2048, .f32⟩
  | 95 => ⟨S_, .f32⟩
  | 96 => ⟨S2048, .f32⟩
  | 97 => ⟨S1x2048, .f32⟩
  | 98 => ⟨S2048x2048, .f32⟩
  | 99 => ⟨S2048x2048, .f32⟩
  | 100 => ⟨S_, .f32⟩
  | 101 => ⟨S2048, .f32⟩
  | 102 => ⟨S2048x4x512, .f32⟩
  | 103 => ⟨S2048x4x512, .f32⟩
  | 104 => ⟨S_, .f32⟩
  | 105 => ⟨S2048x4, .f32⟩
  | 106 => ⟨S2048x4x1, .f32⟩
  | 107 => ⟨S2048x4x512, .f32⟩
  | 108 => ⟨S2048x4x512, .f32⟩
  | 109 => ⟨S2048x4x1, .f32⟩
  | 110 => ⟨S_, .f32⟩
  | 111 => ⟨S2048x4x1, .f32⟩
  | 112 => ⟨S2048x4x1, .f32⟩
  | 113 => ⟨S_, .f32⟩
  | 114 => ⟨S2048x4, .f32⟩
  | 115 => ⟨S2048x4x512, .f32⟩
  | 116 => ⟨S2048x4x512, .f32⟩
  | 117 => ⟨S2048x4x512, .f32⟩
  | 118 => ⟨S2048x4x512, .f32⟩
  | 119 => ⟨S2048x4x512, .f32⟩
  | 120 => ⟨S2048x2048, .f32⟩
  | 121 => ⟨S2048x2048, .f32⟩
  | 122 => ⟨S2048x2048, .f32⟩
  | 123 => ⟨S2048x2048, .f32⟩
  | 124 => ⟨S2048x2048, .f32⟩
  | 125 => ⟨S2048x2048, .f32⟩
  | 126 => ⟨S2048x2048, .f32⟩
  | 127 => ⟨S2048x4x8x64, .f32⟩
  | _ => ⟨S2048x5152, .f32⟩

abbrev hbmTy0_3 (i : Nat) : BufTy := match i % 128 with
  | 0 => ⟨S2048x4x8x64, .f32⟩
  | 1 => ⟨S2048x4x8x64, .f32⟩
  | 2 => ⟨S2048x4x8x64, .f32⟩
  | 3 => ⟨S_, .f32⟩
  | 4 => ⟨S4x8, .f32⟩
  | 5 => ⟨S1x4x8x1, .f32⟩
  | 6 => ⟨S_, .f32⟩
  | 7 => ⟨S4x8, .f32⟩
  | 8 => ⟨S4x8x1, .f32⟩
  | 9 => ⟨S32, .f32⟩
  | 10 => ⟨S16x128x4x8x64, .f32⟩
  | 11 => ⟨S16x128x4x8x64, .f32⟩
  | 12 => ⟨S_, .f32⟩
  | 13 => ⟨S16x128x4x8, .f32⟩
  | 14 => ⟨S16x128x4x8x1, .f32⟩
  | 15 => ⟨S16x128x4x8x64, .f32⟩
  | 16 => ⟨S16x128x4x8x64, .f32⟩
  | 17 => ⟨S_, .f32⟩
  | 18 => ⟨S16x128x4x8, .f32⟩
  | 19 => ⟨S16x128x4x8, .f32⟩
  | 20 => ⟨S16x4x8x64x128, .f32⟩
  | 21 => ⟨S16x4x128x128, .f32⟩
  | 22 => ⟨S16x128x4x128, .f32⟩
  | 23 => ⟨S16x4x8x64x128, .f32⟩
  | 24 => ⟨S_, .f32⟩
  | 25 => ⟨S4x8x64x128, .f32⟩
  | 26 => ⟨S16x4x8x64x128, .f32⟩
  | 27 => ⟨S0x4x8x64x128, .f32⟩
  | 28 => ⟨S16x4x8x1x1, .f32⟩
  | 29 => ⟨S0x4x8x1x1, .f32⟩
  | 30 => ⟨S16x4x8x64x128, .f32⟩
  | 31 => ⟨S0x4x8x64x128, .f32⟩
  | 32 => ⟨S_, .f32⟩
  | 33 => ⟨S0x4x8x64x128, .f32⟩
  | 34 => ⟨S_, .f32⟩
  | 35 => ⟨S0x4x8, .f32⟩
  | 36 => ⟨S1x4x8x64x128, .f32⟩
  | 37 => ⟨S4x8x64x128, .f32⟩
  | 38 => ⟨S1x4x8x1x1, .f32⟩
  | 39 => ⟨S4x8x1x1, .f32⟩
  | 40 => ⟨S1x4x8x64x128, .f32⟩
  | 41 => ⟨S4x8x64x128, .f32⟩
  | 42 => ⟨S4x8x64x128, .f32⟩
  | 43 => ⟨S_, .f32⟩
  | 44 => ⟨S4x8, .f32⟩
  | 45 => ⟨S4x8x1x1, .f32⟩
  | 46 => ⟨S4x8x64x128, .f32⟩
  | 47 => ⟨S4x8x64x128, .f32⟩
  | 48 => ⟨S4x8x64x128, .f32⟩
  | 49 => ⟨S_, .f32⟩
  | 50 => ⟨S4x8, .f32⟩
  | 51 => ⟨S1x4x8x64x128, .f32⟩
  | 52 => ⟨S4x8x64x128, .f32⟩
  | 53 => ⟨S1x4x8x1x1, .f32⟩
  | 54 => ⟨S4x8x1x1, .f32⟩
  | 55 => ⟨S1x4x8x64x128, .f32⟩
  | 56 => ⟨S4x8x64x128, .f32⟩
  | 57 => ⟨S4x8x64x128, .f32⟩
  | 58 => ⟨S_, .f32⟩
  | 59 => ⟨S4x8, .f32⟩
  | 60 => ⟨S4x8x1x1, .f32⟩
  | 61 => ⟨S4x8x64x128, .f32⟩
  | 62 => ⟨S4x8x64x128, .f32⟩
  | 63 => ⟨S4x8x64x128, .f32⟩
  | 64 => ⟨S_, .f32⟩
  | 65 => ⟨S4x8, .f32⟩
  | 66 => ⟨S1x4x8x64x128, .f32⟩
  | 67 => ⟨S4x8x64x128, .f32⟩
  | 68 => ⟨S1x4x8x1x1, .f32⟩
  | 69 => ⟨S4x8x1x1, .f32⟩
  | 70 => ⟨S1x4x8x64x128, .f32⟩
  | 71 => ⟨S4x8x64x128, .f32⟩
  | 72 => ⟨S4x8x64x128, .f32⟩
  | 73 => ⟨S_, .f32⟩
  | 74 => ⟨S4x8, .f32⟩
  | 75 => ⟨S4x8x1x1, .f32⟩
  | 76 => ⟨S4x8x64x128, .f32⟩
  | 77 => ⟨S4x8x64x128, .f32⟩
  | 78 => ⟨S4x8x64x128, .f32⟩
  | 79 => ⟨S_, .f32⟩
  | 80 => ⟨S4x8, .f32⟩
  | 81 => ⟨S1x4x8x64x128, .f32⟩
  | 82 => ⟨S4x8x64x128, .f32⟩
  | 83 => ⟨S1x4x8x1x1, .f32⟩
  | 84 => ⟨S4x8x1x1, .f32⟩
  | 85 => ⟨S1x4x8x64x128, .f32⟩
  | 86 => ⟨S4x8x64x128, .f32⟩
  | 87 => ⟨S4x8x64x128, .f32⟩
  | 88 => ⟨S_, .f32⟩
  | 89 => ⟨S4x8, .f32⟩
  | 90 => ⟨S4x8x1x1, .f32⟩
  | 91 => ⟨S4x8x64x128, .f32⟩
  | 92 => ⟨S4x8x64x128, .f32⟩
  | 93 => ⟨S4x8x64x128, .f32⟩
  | 94 => ⟨S_, .f32⟩
  | 95 => ⟨S4x8, .f32⟩
  | 96 => ⟨S1x4x8x64x128, .f32⟩
  | 97 => ⟨S4x8x64x128, .f32⟩
  | 98 => ⟨S1x4x8x1x1, .f32⟩
  | 99 => ⟨S4x8x1x1, .f32⟩
  | 100 => ⟨S1x4x8x64x128, .f32⟩
  | 101 => ⟨S4x8x64x128, .f32⟩
  | 102 => ⟨S4x8x64x128, .f32⟩
  | 103 => ⟨S_, .f32⟩
  | 104 => ⟨S4x8, .f32⟩
  | 105 => ⟨S4x8x1x1, .f32⟩
  | 106 => ⟨S4x8x64x128, .f32⟩
  | 107 => ⟨S4x8x64x128, .f32⟩
  | 108 => ⟨S4x8x64x128, .f32⟩
  | 109 => ⟨S_, .f32⟩
  | 110 => ⟨S4x8, .f32⟩
  | 111 => ⟨S1x4x8x64x128, .f32⟩
  | 112 => ⟨S4x8x64x128, .f32⟩
  | 113 => ⟨S1x4x8x1x1, .f32⟩
  | 114 => ⟨S4x8x1x1, .f32⟩
  | 115 => ⟨S1x4x8x64x128, .f32⟩
  | 116 => ⟨S4x8x64x128, .f32⟩
  | 117 => ⟨S4x8x64x128, .f32⟩
  | 118 => ⟨S_, .f32⟩
  | 119 => ⟨S4x8, .f32⟩
  | 120 => ⟨S4x8x1x1, .f32⟩
  | 121 => ⟨S4x8x64x128, .f32⟩
  | 122 => ⟨S4x8x64x128, .f32⟩
  | 123 => ⟨S4x8x64x128, .f32⟩
  | 124 => ⟨S_, .f32⟩
  | 125 => ⟨S4x8, .f32⟩
  | 126 => ⟨S1x4x8x64x128, .f32⟩
  | 127 => ⟨S4x8x64x128, .f32⟩
  | _ => ⟨S2048x5152, .f32⟩

abbrev hbmTy0_4 (i : Nat) : BufTy := match i % 128 with
  | 0 => ⟨S1x4x8x1x1, .f32⟩
  | 1 => ⟨S4x8x1x1, .f32⟩
  | 2 => ⟨S1x4x8x64x128, .f32⟩
  | 3 => ⟨S4x8x64x128, .f32⟩
  | 4 => ⟨S4x8x64x128, .f32⟩
  | 5 => ⟨S_, .f32⟩
  | 6 => ⟨S4x8, .f32⟩
  | 7 => ⟨S4x8x1x1, .f32⟩
  | 8 => ⟨S4x8x64x128, .f32⟩
  | 9 => ⟨S4x8x64x128, .f32⟩
  | 10 => ⟨S4x8x64x128, .f32⟩
  | 11 => ⟨S_, .f32⟩
  | 12 => ⟨S4x8, .f32⟩
  | 13 => ⟨S1x4x8x64x128, .f32⟩
  | 14 => ⟨S4x8x64x128, .f32⟩
  | 15 => ⟨S1x4x8x1x1, .f32⟩
  | 16 => ⟨S4x8x1x1, .f32⟩
  | 17 => ⟨S1x4x8x64x128, .f32⟩
  | 18 => ⟨S4x8x64x128, .f32⟩
  | 19 => ⟨S4x8x64x128, .f32⟩
  | 20 => ⟨S_, .f32⟩
  | 21 => ⟨S4x8, .f32⟩
  | 22 => ⟨S4x8x1x1, .f32⟩
  | 23 => ⟨S4x8x64x128, .f32⟩
  | 24 => ⟨S4x8x64x128, .f32⟩
  | 25 => ⟨S4x8x64x128, .f32⟩
  | 26 => ⟨S_, .f32⟩
  | 27 => ⟨S4x8, .f32⟩
  | 28 => ⟨S1x4x8x64x128, .f32⟩
  | 29 => ⟨S4x8x64x128, .f32⟩
  | 30 => ⟨S1x4x8x1x1, .f32⟩
  | 31 => ⟨S4x8x1x1, .f32⟩
  | 32 => ⟨S1x4x8x64x128, .f32⟩
  | 33 => ⟨S4x8x64x128, .f32⟩
  | 34 => ⟨S4x8x64x128, .f32⟩
  | 35 => ⟨S_, .f32⟩
  | 36 => ⟨S4x8, .f32⟩
  | 37 => ⟨S4x8x1x1, .f32⟩
  | 38 => ⟨S4x8x64x128, .f32⟩
  | 39 => ⟨S4x8x64x128, .f32⟩
  | 40 => ⟨S4x8x64x128, .f32⟩
  | 41 => ⟨S_, .f32⟩
  | 42 => ⟨S4x8, .f32⟩
  | 43 => ⟨S1x4x8x64x128, .f32⟩
  | 44 => ⟨S4x8x64x128, .f32⟩
  | 45 => ⟨S1x4x8x1x1, .f32⟩
  | 46 => ⟨S4x8x1x1, .f32⟩
  | 47 => ⟨S1x4x8x64x128, .f32⟩
  | 48 => ⟨S4x8x64x128, .f32⟩
  | 49 => ⟨S4x8x64x128, .f32⟩
  | 50 => ⟨S_, .f32⟩
  | 51 => ⟨S4x8, .f32⟩
  | 52 => ⟨S4x8x1x1, .f32⟩
  | 53 => ⟨S4x8x64x128, .f32⟩
  | 54 => ⟨S4x8x64x128, .f32⟩
  | 55 => ⟨S4x8x64x128, .f32⟩
  | 56 => ⟨S_, .f32⟩
  | 57 => ⟨S4x8, .f32⟩
  | 58 => ⟨S1x4x8x64x128, .f32⟩
  | 59 => ⟨S4x8x64x128, .f32⟩
  | 60 => ⟨S1x4x8x1x1, .f32⟩
  | 61 => ⟨S4x8x1x1, .f32⟩
  | 62 => ⟨S1x4x8x64x128, .f32⟩
  | 63 => ⟨S4x8x64x128, .f32⟩
  | 64 => ⟨S4x8x64x128, .f32⟩
  | 65 => ⟨S_, .f32⟩
  | 66 => ⟨S4x8, .f32⟩
  | 67 => ⟨S4x8x1x1, .f32⟩
  | 68 => ⟨S4x8x64x128, .f32⟩
  | 69 => ⟨S4x8x64x128, .f32⟩
  | 70 => ⟨S4x8x64x128, .f32⟩
  | 71 => ⟨S_, .f32⟩
  | 72 => ⟨S4x8, .f32⟩
  | 73 => ⟨S1x4x8x64x128, .f32⟩
  | 74 => ⟨S4x8x64x128, .f32⟩
  | 75 => ⟨S1x4x8x1x1, .f32⟩
  | 76 => ⟨S4x8x1x1, .f32⟩
  | 77 => ⟨S1x4x8x64x128, .f32⟩
  | 78 => ⟨S4x8x64x128, .f32⟩
  | 79 => ⟨S4x8x64x128, .f32⟩
  | 80 => ⟨S_, .f32⟩
  | 81 => ⟨S4x8, .f32⟩
  | 82 => ⟨S4x8x1x1, .f32⟩
  | 83 => ⟨S4x8x64x128, .f32⟩
  | 84 => ⟨S4x8x64x128, .f32⟩
  | 85 => ⟨S4x8x64x128, .f32⟩
  | 86 => ⟨S_, .f32⟩
  | 87 => ⟨S4x8, .f32⟩
  | 88 => ⟨S1x4x8x64x128, .f32⟩
  | 89 => ⟨S4x8x64x128, .f32⟩
  | 90 => ⟨S1x4x8x1x1, .f32⟩
  | 91 => ⟨S4x8x1x1, .f32⟩
  | 92 => ⟨S1x4x8x64x128, .f32⟩
  | 93 => ⟨S4x8x64x128, .f32⟩
  | 94 => ⟨S4x8x64x128, .f32⟩
  | 95 => ⟨S_, .f32⟩
  | 96 => ⟨S4x8, .f32⟩
  | 97 => ⟨S4x8x1x1, .f32⟩
  | 98 => ⟨S4x8x64x128, .f32⟩
  | 99 => ⟨S4x8x64x128, .f32⟩
  | 100 => ⟨S4x8x64x128, .f32⟩
  | 101 => ⟨S_, .f32⟩
  | 102 => ⟨S4x8, .f32⟩
  | 103 => ⟨S1x4x8x64x128, .f32⟩
  | 104 => ⟨S4x8x64x128, .f32⟩
  | 105 => ⟨S1x4x8x1x1, .f32⟩
  | 106 => ⟨S4x8x1x1, .f32⟩
  | 107 => ⟨S1x4x8x64x128, .f32⟩
  | 108 => ⟨S4x8x64x128, .f32⟩
  | 109 => ⟨S4x8x64x128, .f32⟩
  | 110 => ⟨S_, .f32⟩
  | 111 => ⟨S4x8, .f32⟩
  | 112 => ⟨S4x8x1x1, .f32⟩
  | 113 => ⟨S4x8x64x128, .f32⟩
  | 114 => ⟨S4x8x64x128, .f32⟩
  | 115 => ⟨S4x8x64x128, .f32⟩
  | 116 => ⟨S_, .f32⟩
  | 117 => ⟨S4x8, .f32⟩
  | 118 => ⟨S1x4x8x64x128, .f32⟩
  | 119 => ⟨S4x8x64x128, .f32⟩
  | 120 => ⟨S1x4x8x1x1, .f32⟩
  | 121 => ⟨S4x8x1x1, .f32⟩
  | 122 => ⟨S1x4x8x64x128, .f32⟩
  | 123 => ⟨S4x8x64x128, .f32⟩
  | 124 => ⟨S4x8x64x128, .f32⟩
  | 125 => ⟨S_, .f32⟩
  | 126 => ⟨S4x8, .f32⟩
  | 127 => ⟨S4x8x1x1, .f32⟩
  | _ => ⟨S2048x5152, .f32⟩

abbrev hbmTy0_5 (i : Nat) : BufTy := match i % 128 with
  | 0 => ⟨S4x8x64x128, .f32⟩
  | 1 => ⟨S4x8x64x128, .f32⟩
  | 2 => ⟨S4x8x64x128, .f32⟩
  | 3 => ⟨S_, .f32⟩
  | 4 => ⟨S4x8, .f32⟩
  | 5 => ⟨S1x4x8x64x128, .f32⟩
  | 6 => ⟨S4x8x64x128, .f32⟩
  | 7 => ⟨S1x4x8x1x1, .f32⟩
  | 8 => ⟨S4x8x1x1, .f32⟩
  | 9 => ⟨S1x4x8x64x128, .f32⟩
  | 10 => ⟨S4x8x64x128, .f32⟩
  | 11 => ⟨S4x8x64x128, .f32⟩
  | 12 => ⟨S_, .f32⟩
  | 13 => ⟨S4x8, .f32⟩
  | 14 => ⟨S4x8x1x1, .f32⟩
  | 15 => ⟨S4x8x64x128, .f32⟩
  | 16 => ⟨S4x8x64x128, .f32⟩
  | 17 => ⟨S4x8x64x128, .f32⟩
  | 18 => ⟨S_, .f32⟩
  | 19 => ⟨S4x8, .f32⟩
  | 20 => ⟨S1x4x8x64x128, .f32⟩
  | 21 => ⟨S1x4x8x64x128, .f32⟩
  | 22 => ⟨S1x4x8x64x128, .f32⟩
  | 23 => ⟨S1x4x8x64x128, .f32⟩
  | 24 => ⟨S1x4x8x64x128, .f32⟩
  | 25 => ⟨S1x4x8x64x128, .f32⟩
  | 26 => ⟨S1x4x8x64x128, .f32⟩
  | 27 => ⟨S1x4x8x64x128, .f32⟩
  | 28 => ⟨S1x4x8x64x128, .f32⟩
  | 29 => ⟨S1x4x8x64x128, .f32⟩
  | 30 => ⟨S1x4x8x64x128, .f32⟩
  | 31 => ⟨S1x4x8x64x128, .f32⟩
  | 32 => ⟨S1x4x8x64x128, .f32⟩
  | 33 => ⟨S1x4x8x64x128, .f32⟩
  | 34 => ⟨S1x4x8x64x128, .f32⟩
  | 35 => ⟨S1x4x8x64x128, .f32⟩
  | 36 => ⟨S16x4x8x64x128, .f32⟩
  | 37 => ⟨S1x4x8, .f32⟩
  | 38 => ⟨S1x4x8, .f32⟩
  | 39 => ⟨S1x4x8, .f32⟩
  | 40 => ⟨S1x4x8, .f32⟩
  | 41 => ⟨S1x4x8, .f32⟩
  | 42 => ⟨S1x4x8, .f32⟩
  | 43 => ⟨S1x4x8, .f32⟩
  | 44 => ⟨S1x4x8, .f32⟩
  | 45 => ⟨S1x4x8, .f32⟩
  | 46 => ⟨S1x4x8, .f32⟩
  | 47 => ⟨S1x4x8, .f32⟩
  | 48 => ⟨S1x4x8, .f32⟩
  | 49 => ⟨S1x4x8, .f32⟩
  | 50 => ⟨S1x4x8, .f32⟩
  | 51 => ⟨S1x4x8, .f32⟩
  | 52 => ⟨S1x4x8, .f32⟩
  | 53 => ⟨S16x4x8, .f32⟩
  | 54 => ⟨S16x4x8x64x128, .f32⟩
  | 55 => ⟨S16x4x8, .f32⟩
  | 56 => ⟨S16x4x8, .f32⟩
  | 57 => ⟨S16x1x4x8, .f32⟩
  | 58 => ⟨S_, .f32⟩
  | 59 => ⟨S16x128x4x8, .f32⟩
  | 60 => ⟨S16x128x4x8, .f32⟩
  | 61 => ⟨S16x4x128x128, .f32⟩
  | 62 => ⟨S16x128x4x128, .f32⟩
  | 63 => ⟨S16x4x8x64x128, .f32⟩
  | 64 => ⟨S16x128x4x8x64, .f32⟩
  | 65 => ⟨S16x128x4x8x64, .f32⟩
  | 66 => ⟨S_, .f32⟩
  | 67 => ⟨S16x128x4x8, .f32⟩
  | 68 => ⟨S16x128x4x8x1, .f32⟩
  | 69 => ⟨S16x128x4x8x64, .f32⟩
  | 70 => ⟨S16x128x4x8x64, .f32⟩
  | 71 => ⟨S_, .f32⟩
  | 72 => ⟨S16x128x4x8, .f32⟩
  | 73 => ⟨S16x128x4x8, .f32⟩
  | 74 => ⟨S_, .f32⟩
  | 75 => ⟨S16x4x8, .f32⟩
  | 76 => ⟨S16x1x4x8, .f32⟩
  | 77 => ⟨S16x128x4x8, .f32⟩
  | 78 => ⟨S16x128x4x8, .f32⟩
  | 79 => ⟨S_, .f32⟩
  | 80 => ⟨S16x128x4x8, .f32⟩
  | 81 => ⟨S16x128x4x8, .f32⟩
  | 82 => ⟨S16x4x8x64x128, .f32⟩
  | 83 => ⟨S16x4x8x128x128, .f32⟩
  | 84 => ⟨S16x128x128x4x8, .f32⟩
  | 85 => ⟨S16x4x8x64x128, .f32⟩
  | 86 => ⟨S16x128x4x8x64, .f32⟩
  | 87 => ⟨S16x128x4x8x64, .f32⟩
  | 88 => ⟨S16x128x128x4x8, .f32⟩
  | 89 => ⟨S16x128x128x4x8, .f32⟩
  | 90 => ⟨S16x128x128x4x8, .f32⟩
  | 91 => ⟨S_, .f32⟩
  | 92 => ⟨S16x128x128x4, .f32⟩
  | 93 => ⟨S16x128x128x4x1, .f32⟩
  | 94 => ⟨S_, .f32⟩
  | 95 => ⟨S16x128x128x4, .f32⟩
  | 96 => ⟨S16x4x128x128, .f32⟩
  | 97 => ⟨S16x4x128x128, .f32⟩
  | 98 => ⟨S16x128x4x128, .f32⟩
  | 99 => ⟨S16x128x4x128, .f32⟩
  | 100 => ⟨S16x4x128x128, .f32⟩
  | 101 => ⟨S16x128x4x128, .f32⟩
  | 102 => ⟨S16x128x4x128, .f32⟩
  | 103 => ⟨S16x128x128x4x8, .f32⟩
  | 104 => ⟨S_, .f32⟩
  | 105 => ⟨S16x128x128x4x8, .f32⟩
  | 106 => ⟨S16x128x128x4x8, .f32⟩
  | 107 => ⟨S_, .f32⟩
  | 108 => ⟨S16x128x4x8, .f32⟩
  | 109 => ⟨S16x128x1x4x8, .f32⟩
  | 110 => ⟨S16x128x128x4x8, .f32⟩
  | 111 => ⟨S_, .f32⟩
  | 112 => ⟨S16x128x4x8, .f32⟩
  | 113 => ⟨S16x1x128x4x8, .f32⟩
  | 114 => ⟨S_, .f32⟩
  | 115 => ⟨S16x128x4x8, .f32⟩
  | 116 => ⟨S16x128x4x8, .f32⟩
  | 117 => ⟨S_, .f32⟩
  | 118 => ⟨S16x128x4x8, .f32⟩
  | 119 => ⟨S16x128x4x8, .f32⟩
  | 120 => ⟨S_, .f32⟩
  | 121 => ⟨S_, .f32⟩
  | 122 => ⟨S16x128x4x8, .f32⟩
  | 123 => ⟨S16x128x4x8, .f32⟩
  | 124 => ⟨S_, .f32⟩
  | 125 => ⟨S4x8, .f32⟩
  | 126 => ⟨S1x1x4x8, .f32⟩
  | 127 => ⟨S16x128x4x8, .f32⟩
  | _ => ⟨S2048x5152, .f32⟩

abbrev hbmTy0_6 (i : Nat) : BufTy := match i % 128 with
  | 0 => ⟨S16x128x4x8, .f32⟩
  | 1 => ⟨S_, .f32⟩
  | 2 => ⟨S4x8, .f32⟩
  | 3 => ⟨S16x128x4x8x64, .f32⟩
  | 4 => ⟨S_, .f32⟩
  | 5 => ⟨S16x128x4x8, .f32⟩
  | 6 => ⟨S16x128x4x8x1, .f32⟩
  | 7 => ⟨S16x128x4x8x64, .f32⟩
  | 8 => ⟨S16x128x4x8x64, .f32⟩
  | 9 => ⟨S_, .f32⟩
  | 10 => ⟨S16x128x4x8, .f32⟩
  | 11 => ⟨S16x128x4x8, .f32⟩
  | 12 => ⟨S2048x4x128, .f32⟩
  | 13 => ⟨S2048x4x128, .f32⟩
  | 14 => ⟨S2048x4x8, .f32⟩
  | 15 => ⟨S2048x4x8x64, .f32⟩
  | 16 => ⟨S2048x4x8x64, .f32⟩
  | 17 => ⟨S4x8, .f32⟩
  | 18 => ⟨S32, .f32⟩
  | 19 => ⟨S32, .f32⟩
  | 20 => ⟨S2048x32, .f32⟩
  | 21 => ⟨S2048x32, .f32⟩
  | 22 => ⟨S_, .f32⟩
  | 23 => ⟨S32, .f32⟩
  | 24 => ⟨S1x32, .f32⟩
  | 25 => ⟨S_, .f32⟩
  | 26 => ⟨S32, .f32⟩
  | 27 => ⟨S2048x512, .f32⟩
  | 28 => ⟨S_, .f32⟩
  | 29 => ⟨S2048x3072, .f32⟩
  | 30 => ⟨S2048x512, .f32⟩
  | 31 => ⟨S_, .f32⟩
  | 32 => ⟨S2048x3072, .f32⟩
  | 33 => ⟨S2048x3072, .f32⟩
  | 34 => ⟨S2048x2048, .f32⟩
  | 35 => ⟨S_, .f32⟩
  | 36 => ⟨S2048x3072, .f32⟩
  | 37 => ⟨S2048x3072, .f32⟩
  | 38 => ⟨S2048x2048, .f32⟩
  | 39 => ⟨S2048x512, .f32⟩
  | 40 => ⟨S2048x512, .f32⟩
  | 41 => ⟨S8, .f32⟩
  | 42 => ⟨S_, .i32⟩
  | 43 => ⟨S_, .f32⟩
  | 44 => ⟨S128, .f32⟩
  | 45 => ⟨S8, .f32⟩
  | 46 => ⟨S_, .i32⟩
  | 47 => ⟨S_, .f32⟩
  | 48 => ⟨S128, .f32⟩
  | 49 => ⟨S8, .f32⟩
  | 50 => ⟨S_, .i32⟩
  | 51 => ⟨S_, .f32⟩
  | 52 => ⟨S128, .f32⟩
  | 53 => ⟨S8, .f32⟩
  | 54 => ⟨S_, .i32⟩
  | 55 => ⟨S_, .f32⟩
  | 56 => ⟨S128, .f32⟩
  | 57 => ⟨S1x128, .f32⟩
  | 58 => ⟨S1x128, .f32⟩
  | 59 => ⟨S1x128, .f32⟩
  | 60 => ⟨S1x128, .f32⟩
  | 61 => ⟨S4x128, .f32⟩
  | 62 => ⟨S4x1x128, .f32⟩
  | 63 => ⟨S4x1x512, .f32⟩
  | _ => ⟨S2048x5152, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S2048x5152, .f32⟩

abbrev bufTy : (tb : Table) → Fin (tcTables nBuf tb) → BufTy
  | .hbm, ⟨i, _⟩ => hbmTy i
  | _, _ => ⟨S2048x5152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v11_0 : Ref sig .tc := ⟨.hbm, 31, rfl⟩
abbrev main_call0_cst_0 : Ref sig .tc := ⟨.hbm, 32, rfl⟩
abbrev main_call0_v13 : Ref sig .tc := ⟨.hbm, 33, rfl⟩
abbrev main_call0_v14 : Ref sig .tc := ⟨.hbm, 34, rfl⟩
abbrev main_call0_cst_1 : Ref sig .tc := ⟨.hbm, 35, rfl⟩
abbrev main_call0_v15 : Ref sig .tc := ⟨.hbm, 36, rfl⟩
abbrev main_call0_v16 : Ref sig .tc := ⟨.hbm, 37, rfl⟩
abbrev main_call0_cst_2 : Ref sig .tc := ⟨.hbm, 38, rfl⟩
abbrev main_call0_v17 : Ref sig .tc := ⟨.hbm, 39, rfl⟩
abbrev main_call0_v18 : Ref sig .tc := ⟨.hbm, 40, rfl⟩
abbrev main_call0_cst_3 : Ref sig .tc := ⟨.hbm, 41, rfl⟩
abbrev main_call0_v19 : Ref sig .tc := ⟨.hbm, 42, rfl⟩
abbrev main_call0_v20 : Ref sig .tc := ⟨.hbm, 43, rfl⟩
abbrev main_call0_v21 : Ref sig .tc := ⟨.hbm, 44, rfl⟩
abbrev main_v11_1 : Ref sig .tc := ⟨.hbm, 45, rfl⟩
abbrev main_call0_cst_4 : Ref sig .tc := ⟨.hbm, 46, rfl⟩
abbrev main_call0_cst_5 : Ref sig .tc := ⟨.hbm, 47, rfl⟩
abbrev main_call0_v23 : Ref sig .tc := ⟨.hbm, 48, rfl⟩
abbrev main_call0_cst_6 : Ref sig .tc := ⟨.hbm, 49, rfl⟩
abbrev main_call0_cst_7 : Ref sig .tc := ⟨.hbm, 50, rfl⟩
abbrev main_call0_v24 : Ref sig .tc := ⟨.hbm, 51, rfl⟩
abbrev main_call0_cst_8 : Ref sig .tc := ⟨.hbm, 52, rfl⟩
abbrev main_call0_v25 : Ref sig .tc := ⟨.hbm, 53, rfl⟩
abbrev main_call0_v26 : Ref sig .tc := ⟨.hbm, 54, rfl⟩
abbrev main_call0_cst_9 : Ref sig .tc := ⟨.hbm, 55, rfl⟩
abbrev main_call0_v27 : Ref sig .tc := ⟨.hbm, 56, rfl⟩
abbrev main_call0_v28 : Ref sig .tc := ⟨.hbm, 57, rfl⟩
abbrev main_call0_v29 : Ref sig .tc := ⟨.hbm, 58, rfl⟩
abbrev main_call0_v30 : Ref sig .tc := ⟨.hbm, 59, rfl⟩
abbrev main_call0_v31 : Ref sig .tc := ⟨.hbm, 60, rfl⟩
abbrev main_call0_cst_10 : Ref sig .tc := ⟨.hbm, 61, rfl⟩
abbrev main_call0_v32 : Ref sig .tc := ⟨.hbm, 62, rfl⟩
abbrev main_v11_2 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_call1_call0_cst : Ref sig .tc := ⟨.hbm, 78, rfl⟩
abbrev main_call1_call0_v0 : Ref sig .tc := ⟨.hbm, 79, rfl⟩
abbrev main_v26 : Ref sig .tc := ⟨.hbm, 80, rfl⟩
abbrev main_c : Ref sig .tc := ⟨.hbm, 81, rfl⟩
abbrev main_v27 : Ref sig .tc := ⟨.hbm, 82, rfl⟩
abbrev main_call2_v0 : Ref sig .tc := ⟨.hbm, 83, rfl⟩
abbrev main_call2_c : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_c_0 : Ref sig .tc := ⟨.hbm, 89, rfl⟩
abbrev main_call2_v5 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_cst : Ref sig .tc := ⟨.hbm, 98, rfl⟩
abbrev main_call3_v0 : Ref sig .tc := ⟨.hbm, 99, rfl⟩
abbrev main_v35_1 : Ref sig .tc := ⟨.hbm, 100, rfl⟩
abbrev main_call3_v2 : Ref sig .tc := ⟨.hbm, 101, rfl⟩
abbrev main_v35_0 : Ref sig .tc := ⟨.hbm, 102, rfl⟩
abbrev main_call3_cst : Ref sig .tc := ⟨.hbm, 103, rfl⟩
abbrev main_v35_2 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_cst_0 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_cst_1 : Ref sig .tc := ⟨.hbm, 130, rfl⟩
abbrev main_v60 : Ref sig .tc := ⟨.hbm, 131, rfl⟩
abbrev main_cst_2 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_v220 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩
abbrev main_v230 : Ref sig .tc := ⟨.hbm, 302, rfl⟩
abbrev main_v231 : Ref sig .tc := ⟨.hbm, 303, rfl⟩
abbrev main_v232 : Ref sig .tc := ⟨.hbm, 304, rfl⟩
abbrev main_v233 : Ref sig .tc := ⟨.hbm, 305, rfl⟩
abbrev main_v234 : Ref sig .tc := ⟨.hbm, 306, rfl⟩
abbrev main_v235 : Ref sig .tc := ⟨.hbm, 307, rfl⟩
abbrev main_v236 : Ref sig .tc := ⟨.hbm, 308, rfl⟩
abbrev main_v237 : Ref sig .tc := ⟨.hbm, 309, rfl⟩
abbrev main_v238 : Ref sig .tc := ⟨.hbm, 310, rfl⟩
abbrev main_v239 : Ref sig .tc := ⟨.hbm, 311, rfl⟩
abbrev main_call4_v0 : Ref sig .tc := ⟨.hbm, 312, rfl⟩
abbrev main_call4_v1 : Ref sig .tc := ⟨.hbm, 313, rfl⟩
abbrev main_call4_cst : Ref sig .tc := ⟨.hbm, 314, rfl⟩
abbrev main_call4_v2 : Ref sig .tc := ⟨.hbm, 315, rfl⟩
abbrev main_call4_v3 : Ref sig .tc := ⟨.hbm, 316, rfl⟩
abbrev main_call4_cst_0 : Ref sig .tc := ⟨.hbm, 317, rfl⟩
abbrev main_call4_v4 : Ref sig .tc := ⟨.hbm, 318, rfl⟩
abbrev main_v240_2 : Ref sig .tc := ⟨.hbm, 319, rfl⟩
abbrev main_call4_cst_1 : Ref sig .tc := ⟨.hbm, 320, rfl⟩
abbrev main_call4_v6 : Ref sig .tc := ⟨.hbm, 321, rfl⟩
abbrev main_call4_v7 : Ref sig .tc := ⟨.hbm, 322, rfl⟩
abbrev main_v240_1 : Ref sig .tc := ⟨.hbm, 323, rfl⟩
abbrev main_v240_0 : Ref sig .tc := ⟨.hbm, 324, rfl⟩
abbrev main_v241 : Ref sig .tc := ⟨.hbm, 325, rfl⟩
abbrev main_v242 : Ref sig .tc := ⟨.hbm, 326, rfl⟩
abbrev main_v243 : Ref sig .tc := ⟨.hbm, 327, rfl⟩
abbrev main_cst_3 : Ref sig .tc := ⟨.hbm, 328, rfl⟩
abbrev main_v244 : Ref sig .tc := ⟨.hbm, 329, rfl⟩
abbrev main_v245 : Ref sig .tc := ⟨.hbm, 330, rfl⟩
abbrev main_cst_4 : Ref sig .tc := ⟨.hbm, 331, rfl⟩
abbrev main_v246 : Ref sig .tc := ⟨.hbm, 332, rfl⟩
abbrev main_v247 : Ref sig .tc := ⟨.hbm, 333, rfl⟩
abbrev main_cst_5 : Ref sig .tc := ⟨.hbm, 334, rfl⟩
abbrev main_v248 : Ref sig .tc := ⟨.hbm, 335, rfl⟩
abbrev main_v249 : Ref sig .tc := ⟨.hbm, 336, rfl⟩
abbrev main_v250 : Ref sig .tc := ⟨.hbm, 337, rfl⟩
abbrev main_v251 : Ref sig .tc := ⟨.hbm, 338, rfl⟩
abbrev main_cst_6 : Ref sig .tc := ⟨.hbm, 339, rfl⟩
abbrev main_v252 : Ref sig .tc := ⟨.hbm, 340, rfl⟩
abbrev main_v253 : Ref sig .tc := ⟨.hbm, 341, rfl⟩
abbrev main_v254 : Ref sig .tc := ⟨.hbm, 342, rfl⟩
abbrev main_v255 : Ref sig .tc := ⟨.hbm, 343, rfl⟩
abbrev main_v256 : Ref sig .tc := ⟨.hbm, 344, rfl⟩
abbrev main_v257 : Ref sig .tc := ⟨.hbm, 345, rfl⟩
abbrev main_v258 : Ref sig .tc := ⟨.hbm, 346, rfl⟩
abbrev main_v259 : Ref sig .tc := ⟨.hbm, 347, rfl⟩
abbrev main_cst_7 : Ref sig .tc := ⟨.hbm, 348, rfl⟩
abbrev main_v260 : Ref sig .tc := ⟨.hbm, 349, rfl⟩
abbrev main_v261 : Ref sig .tc := ⟨.hbm, 350, rfl⟩
abbrev main_cst_8 : Ref sig .tc := ⟨.hbm, 351, rfl⟩
abbrev main_v262 : Ref sig .tc := ⟨.hbm, 352, rfl⟩
abbrev main_v263 : Ref sig .tc := ⟨.hbm, 353, rfl⟩
abbrev main_v264 : Ref sig .tc := ⟨.hbm, 354, rfl⟩
abbrev main_v265 : Ref sig .tc := ⟨.hbm, 355, rfl⟩
abbrev main_cst_9 : Ref sig .tc := ⟨.hbm, 356, rfl⟩
abbrev main_v266 : Ref sig .tc := ⟨.hbm, 357, rfl⟩
abbrev main_v267 : Ref sig .tc := ⟨.hbm, 358, rfl⟩
abbrev main_v268 : Ref sig .tc := ⟨.hbm, 359, rfl⟩
abbrev main_cst_10 : Ref sig .tc := ⟨.hbm, 360, rfl⟩
abbrev main_v269 : Ref sig .tc := ⟨.hbm, 361, rfl⟩
abbrev main_v270 : Ref sig .tc := ⟨.hbm, 362, rfl⟩
abbrev main_v271 : Ref sig .tc := ⟨.hbm, 363, rfl⟩
abbrev main_v272 : Ref sig .tc := ⟨.hbm, 364, rfl⟩
abbrev main_v273 : Ref sig .tc := ⟨.hbm, 365, rfl⟩
abbrev main_cst_11 : Ref sig .tc := ⟨.hbm, 366, rfl⟩
abbrev main_v274 : Ref sig .tc := ⟨.hbm, 367, rfl⟩
abbrev main_v275 : Ref sig .tc := ⟨.hbm, 368, rfl⟩
abbrev main_cst_12 : Ref sig .tc := ⟨.hbm, 369, rfl⟩
abbrev main_v276 : Ref sig .tc := ⟨.hbm, 370, rfl⟩
abbrev main_v277 : Ref sig .tc := ⟨.hbm, 371, rfl⟩
abbrev main_v278 : Ref sig .tc := ⟨.hbm, 372, rfl⟩
abbrev main_v279 : Ref sig .tc := ⟨.hbm, 373, rfl⟩
abbrev main_v280 : Ref sig .tc := ⟨.hbm, 374, rfl⟩
abbrev main_v281 : Ref sig .tc := ⟨.hbm, 375, rfl⟩
abbrev main_v282 : Ref sig .tc := ⟨.hbm, 376, rfl⟩
abbrev main_v283 : Ref sig .tc := ⟨.hbm, 377, rfl⟩
abbrev main_v284 : Ref sig .tc := ⟨.hbm, 378, rfl⟩
abbrev main_call5_v0 : Ref sig .tc := ⟨.hbm, 379, rfl⟩
abbrev main_call5_v1 : Ref sig .tc := ⟨.hbm, 380, rfl⟩
abbrev main_call5_v2 : Ref sig .tc := ⟨.hbm, 381, rfl⟩
abbrev main_v285 : Ref sig .tc := ⟨.hbm, 382, rfl⟩
abbrev main_v286 : Ref sig .tc := ⟨.hbm, 383, rfl⟩
abbrev main_v287 : Ref sig .tc := ⟨.hbm, 384, rfl⟩
abbrev main_v288 : Ref sig .tc := ⟨.hbm, 385, rfl⟩
abbrev main_v289 : Ref sig .tc := ⟨.hbm, 386, rfl⟩
abbrev main_cst_13 : Ref sig .tc := ⟨.hbm, 387, rfl⟩
abbrev main_v290 : Ref sig .tc := ⟨.hbm, 388, rfl⟩
abbrev main_v291 : Ref sig .tc := ⟨.hbm, 389, rfl⟩
abbrev main_cst_14 : Ref sig .tc := ⟨.hbm, 390, rfl⟩
abbrev main_v292 : Ref sig .tc := ⟨.hbm, 391, rfl⟩
abbrev main_v293 : Ref sig .tc := ⟨.hbm, 392, rfl⟩
abbrev main_v294 : Ref sig .tc := ⟨.hbm, 393, rfl⟩
abbrev main_v295 : Ref sig .tc := ⟨.hbm, 394, rfl⟩
abbrev main_v296 : Ref sig .tc := ⟨.hbm, 395, rfl⟩
abbrev main_cst_15 : Ref sig .tc := ⟨.hbm, 396, rfl⟩
abbrev main_v297 : Ref sig .tc := ⟨.hbm, 397, rfl⟩
abbrev main_v298 : Ref sig .tc := ⟨.hbm, 398, rfl⟩
abbrev main_v299 : Ref sig .tc := ⟨.hbm, 399, rfl⟩
abbrev main_v300 : Ref sig .tc := ⟨.hbm, 400, rfl⟩
abbrev main_cst_16 : Ref sig .tc := ⟨.hbm, 401, rfl⟩
abbrev main_v301 : Ref sig .tc := ⟨.hbm, 402, rfl⟩
abbrev main_v302 : Ref sig .tc := ⟨.hbm, 403, rfl⟩
abbrev main_v303 : Ref sig .tc := ⟨.hbm, 404, rfl⟩
abbrev main_v304 : Ref sig .tc := ⟨.hbm, 405, rfl⟩
abbrev main_v305 : Ref sig .tc := ⟨.hbm, 406, rfl⟩
abbrev main_v306 : Ref sig .tc := ⟨.hbm, 407, rfl⟩
abbrev main_cst_17 : Ref sig .tc := ⟨.hbm, 408, rfl⟩
abbrev main_v307 : Ref sig .tc := ⟨.hbm, 409, rfl⟩
abbrev main_v308 : Ref sig .tc := ⟨.hbm, 410, rfl⟩
abbrev main_v309 : Ref sig .tc := ⟨.hbm, 411, rfl⟩
abbrev main_v310 : Ref sig .tc := ⟨.hbm, 412, rfl⟩
abbrev main_v311 : Ref sig .tc := ⟨.hbm, 413, rfl⟩
abbrev main_v312 : Ref sig .tc := ⟨.hbm, 414, rfl⟩
abbrev main_v313 : Ref sig .tc := ⟨.hbm, 415, rfl⟩
abbrev main_cst_18 : Ref sig .tc := ⟨.hbm, 416, rfl⟩
abbrev main_v314 : Ref sig .tc := ⟨.hbm, 417, rfl⟩
abbrev main_cst_19 : Ref sig .tc := ⟨.hbm, 418, rfl⟩
abbrev main_v315 : Ref sig .tc := ⟨.hbm, 419, rfl⟩
abbrev main_v316 : Ref sig .tc := ⟨.hbm, 420, rfl⟩
abbrev main_v317 : Ref sig .tc := ⟨.hbm, 421, rfl⟩
abbrev main_v318 : Ref sig .tc := ⟨.hbm, 422, rfl⟩
abbrev main_v319 : Ref sig .tc := ⟨.hbm, 423, rfl⟩
abbrev main_v320 : Ref sig .tc := ⟨.hbm, 424, rfl⟩
abbrev main_v321 : Ref sig .tc := ⟨.hbm, 425, rfl⟩
abbrev main_v322 : Ref sig .tc := ⟨.hbm, 426, rfl⟩
abbrev main_cst_20 : Ref sig .tc := ⟨.hbm, 427, rfl⟩
abbrev main_v323 : Ref sig .tc := ⟨.hbm, 428, rfl⟩
abbrev main_v324 : Ref sig .tc := ⟨.hbm, 429, rfl⟩
abbrev main_v325 : Ref sig .tc := ⟨.hbm, 430, rfl⟩
abbrev main_v326 : Ref sig .tc := ⟨.hbm, 431, rfl⟩
abbrev main_v327 : Ref sig .tc := ⟨.hbm, 432, rfl⟩
abbrev main_cst_21 : Ref sig .tc := ⟨.hbm, 433, rfl⟩
abbrev main_v328 : Ref sig .tc := ⟨.hbm, 434, rfl⟩
abbrev main_v329 : Ref sig .tc := ⟨.hbm, 435, rfl⟩
abbrev main_v330 : Ref sig .tc := ⟨.hbm, 436, rfl⟩
abbrev main_v331 : Ref sig .tc := ⟨.hbm, 437, rfl⟩
abbrev main_v332 : Ref sig .tc := ⟨.hbm, 438, rfl⟩
abbrev main_v333 : Ref sig .tc := ⟨.hbm, 439, rfl⟩
abbrev main_v334 : Ref sig .tc := ⟨.hbm, 440, rfl⟩
abbrev main_v335 : Ref sig .tc := ⟨.hbm, 441, rfl⟩
abbrev main_cst_22 : Ref sig .tc := ⟨.hbm, 442, rfl⟩
abbrev main_v336 : Ref sig .tc := ⟨.hbm, 443, rfl⟩
abbrev main_v337 : Ref sig .tc := ⟨.hbm, 444, rfl⟩
abbrev main_v338 : Ref sig .tc := ⟨.hbm, 445, rfl⟩
abbrev main_v339 : Ref sig .tc := ⟨.hbm, 446, rfl⟩
abbrev main_v340 : Ref sig .tc := ⟨.hbm, 447, rfl⟩
abbrev main_cst_23 : Ref sig .tc := ⟨.hbm, 448, rfl⟩
abbrev main_v341 : Ref sig .tc := ⟨.hbm, 449, rfl⟩
abbrev main_v342 : Ref sig .tc := ⟨.hbm, 450, rfl⟩
abbrev main_v343 : Ref sig .tc := ⟨.hbm, 451, rfl⟩
abbrev main_v344 : Ref sig .tc := ⟨.hbm, 452, rfl⟩
abbrev main_v345 : Ref sig .tc := ⟨.hbm, 453, rfl⟩
abbrev main_v346 : Ref sig .tc := ⟨.hbm, 454, rfl⟩
abbrev main_v347 : Ref sig .tc := ⟨.hbm, 455, rfl⟩
abbrev main_v348 : Ref sig .tc := ⟨.hbm, 456, rfl⟩
abbrev main_cst_24 : Ref sig .tc := ⟨.hbm, 457, rfl⟩
abbrev main_v349 : Ref sig .tc := ⟨.hbm, 458, rfl⟩
abbrev main_v350 : Ref sig .tc := ⟨.hbm, 459, rfl⟩
abbrev main_v351 : Ref sig .tc := ⟨.hbm, 460, rfl⟩
abbrev main_v352 : Ref sig .tc := ⟨.hbm, 461, rfl⟩
abbrev main_v353 : Ref sig .tc := ⟨.hbm, 462, rfl⟩
abbrev main_cst_25 : Ref sig .tc := ⟨.hbm, 463, rfl⟩
abbrev main_v354 : Ref sig .tc := ⟨.hbm, 464, rfl⟩
abbrev main_v355 : Ref sig .tc := ⟨.hbm, 465, rfl⟩
abbrev main_v356 : Ref sig .tc := ⟨.hbm, 466, rfl⟩
abbrev main_v357 : Ref sig .tc := ⟨.hbm, 467, rfl⟩
abbrev main_v358 : Ref sig .tc := ⟨.hbm, 468, rfl⟩
abbrev main_v359 : Ref sig .tc := ⟨.hbm, 469, rfl⟩
abbrev main_v360 : Ref sig .tc := ⟨.hbm, 470, rfl⟩
abbrev main_v361 : Ref sig .tc := ⟨.hbm, 471, rfl⟩
abbrev main_cst_26 : Ref sig .tc := ⟨.hbm, 472, rfl⟩
abbrev main_v362 : Ref sig .tc := ⟨.hbm, 473, rfl⟩
abbrev main_v363 : Ref sig .tc := ⟨.hbm, 474, rfl⟩
abbrev main_v364 : Ref sig .tc := ⟨.hbm, 475, rfl⟩
abbrev main_v365 : Ref sig .tc := ⟨.hbm, 476, rfl⟩
abbrev main_v366 : Ref sig .tc := ⟨.hbm, 477, rfl⟩
abbrev main_cst_27 : Ref sig .tc := ⟨.hbm, 478, rfl⟩
abbrev main_v367 : Ref sig .tc := ⟨.hbm, 479, rfl⟩
abbrev main_v368 : Ref sig .tc := ⟨.hbm, 480, rfl⟩
abbrev main_v369 : Ref sig .tc := ⟨.hbm, 481, rfl⟩
abbrev main_v370 : Ref sig .tc := ⟨.hbm, 482, rfl⟩
abbrev main_v371 : Ref sig .tc := ⟨.hbm, 483, rfl⟩
abbrev main_v372 : Ref sig .tc := ⟨.hbm, 484, rfl⟩
abbrev main_v373 : Ref sig .tc := ⟨.hbm, 485, rfl⟩
abbrev main_v374 : Ref sig .tc := ⟨.hbm, 486, rfl⟩
abbrev main_cst_28 : Ref sig .tc := ⟨.hbm, 487, rfl⟩
abbrev main_v375 : Ref sig .tc := ⟨.hbm, 488, rfl⟩
abbrev main_v376 : Ref sig .tc := ⟨.hbm, 489, rfl⟩
abbrev main_v377 : Ref sig .tc := ⟨.hbm, 490, rfl⟩
abbrev main_v378 : Ref sig .tc := ⟨.hbm, 491, rfl⟩
abbrev main_v379 : Ref sig .tc := ⟨.hbm, 492, rfl⟩
abbrev main_cst_29 : Ref sig .tc := ⟨.hbm, 493, rfl⟩
abbrev main_v380 : Ref sig .tc := ⟨.hbm, 494, rfl⟩
abbrev main_v381 : Ref sig .tc := ⟨.hbm, 495, rfl⟩
abbrev main_v382 : Ref sig .tc := ⟨.hbm, 496, rfl⟩
abbrev main_v383 : Ref sig .tc := ⟨.hbm, 497, rfl⟩
abbrev main_v384 : Ref sig .tc := ⟨.hbm, 498, rfl⟩
abbrev main_v385 : Ref sig .tc := ⟨.hbm, 499, rfl⟩
abbrev main_v386 : Ref sig .tc := ⟨.hbm, 500, rfl⟩
abbrev main_v387 : Ref sig .tc := ⟨.hbm, 501, rfl⟩
abbrev main_cst_30 : Ref sig .tc := ⟨.hbm, 502, rfl⟩
abbrev main_v388 : Ref sig .tc := ⟨.hbm, 503, rfl⟩
abbrev main_v389 : Ref sig .tc := ⟨.hbm, 504, rfl⟩
abbrev main_v390 : Ref sig .tc := ⟨.hbm, 505, rfl⟩
abbrev main_v391 : Ref sig .tc := ⟨.hbm, 506, rfl⟩
abbrev main_v392 : Ref sig .tc := ⟨.hbm, 507, rfl⟩
abbrev main_cst_31 : Ref sig .tc := ⟨.hbm, 508, rfl⟩
abbrev main_v393 : Ref sig .tc := ⟨.hbm, 509, rfl⟩
abbrev main_v394 : Ref sig .tc := ⟨.hbm, 510, rfl⟩
abbrev main_v395 : Ref sig .tc := ⟨.hbm, 511, rfl⟩
abbrev main_v396 : Ref sig .tc := ⟨.hbm, 512, rfl⟩
abbrev main_v397 : Ref sig .tc := ⟨.hbm, 513, rfl⟩
abbrev main_v398 : Ref sig .tc := ⟨.hbm, 514, rfl⟩
abbrev main_v399 : Ref sig .tc := ⟨.hbm, 515, rfl⟩
abbrev main_v400 : Ref sig .tc := ⟨.hbm, 516, rfl⟩
abbrev main_cst_32 : Ref sig .tc := ⟨.hbm, 517, rfl⟩
abbrev main_v401 : Ref sig .tc := ⟨.hbm, 518, rfl⟩
abbrev main_v402 : Ref sig .tc := ⟨.hbm, 519, rfl⟩
abbrev main_v403 : Ref sig .tc := ⟨.hbm, 520, rfl⟩
abbrev main_v404 : Ref sig .tc := ⟨.hbm, 521, rfl⟩
abbrev main_v405 : Ref sig .tc := ⟨.hbm, 522, rfl⟩
abbrev main_cst_33 : Ref sig .tc := ⟨.hbm, 523, rfl⟩
abbrev main_v406 : Ref sig .tc := ⟨.hbm, 524, rfl⟩
abbrev main_v407 : Ref sig .tc := ⟨.hbm, 525, rfl⟩
abbrev main_v408 : Ref sig .tc := ⟨.hbm, 526, rfl⟩
abbrev main_v409 : Ref sig .tc := ⟨.hbm, 527, rfl⟩
abbrev main_v410 : Ref sig .tc := ⟨.hbm, 528, rfl⟩
abbrev main_v411 : Ref sig .tc := ⟨.hbm, 529, rfl⟩
abbrev main_v412 : Ref sig .tc := ⟨.hbm, 530, rfl⟩
abbrev main_v413 : Ref sig .tc := ⟨.hbm, 531, rfl⟩
abbrev main_cst_34 : Ref sig .tc := ⟨.hbm, 532, rfl⟩
abbrev main_v414 : Ref sig .tc := ⟨.hbm, 533, rfl⟩
abbrev main_v415 : Ref sig .tc := ⟨.hbm, 534, rfl⟩
abbrev main_v416 : Ref sig .tc := ⟨.hbm, 535, rfl⟩
abbrev main_v417 : Ref sig .tc := ⟨.hbm, 536, rfl⟩
abbrev main_v418 : Ref sig .tc := ⟨.hbm, 537, rfl⟩
abbrev main_cst_35 : Ref sig .tc := ⟨.hbm, 538, rfl⟩
abbrev main_v419 : Ref sig .tc := ⟨.hbm, 539, rfl⟩
abbrev main_v420 : Ref sig .tc := ⟨.hbm, 540, rfl⟩
abbrev main_v421 : Ref sig .tc := ⟨.hbm, 541, rfl⟩
abbrev main_v422 : Ref sig .tc := ⟨.hbm, 542, rfl⟩
abbrev main_v423 : Ref sig .tc := ⟨.hbm, 543, rfl⟩
abbrev main_v424 : Ref sig .tc := ⟨.hbm, 544, rfl⟩
abbrev main_v425 : Ref sig .tc := ⟨.hbm, 545, rfl⟩
abbrev main_v426 : Ref sig .tc := ⟨.hbm, 546, rfl⟩
abbrev main_cst_36 : Ref sig .tc := ⟨.hbm, 547, rfl⟩
abbrev main_v427 : Ref sig .tc := ⟨.hbm, 548, rfl⟩
abbrev main_v428 : Ref sig .tc := ⟨.hbm, 549, rfl⟩
abbrev main_v429 : Ref sig .tc := ⟨.hbm, 550, rfl⟩
abbrev main_v430 : Ref sig .tc := ⟨.hbm, 551, rfl⟩
abbrev main_v431 : Ref sig .tc := ⟨.hbm, 552, rfl⟩
abbrev main_cst_37 : Ref sig .tc := ⟨.hbm, 553, rfl⟩
abbrev main_v432 : Ref sig .tc := ⟨.hbm, 554, rfl⟩
abbrev main_v433 : Ref sig .tc := ⟨.hbm, 555, rfl⟩
abbrev main_v434 : Ref sig .tc := ⟨.hbm, 556, rfl⟩
abbrev main_v435 : Ref sig .tc := ⟨.hbm, 557, rfl⟩
abbrev main_v436 : Ref sig .tc := ⟨.hbm, 558, rfl⟩
abbrev main_v437 : Ref sig .tc := ⟨.hbm, 559, rfl⟩
abbrev main_v438 : Ref sig .tc := ⟨.hbm, 560, rfl⟩
abbrev main_v439 : Ref sig .tc := ⟨.hbm, 561, rfl⟩
abbrev main_cst_38 : Ref sig .tc := ⟨.hbm, 562, rfl⟩
abbrev main_v440 : Ref sig .tc := ⟨.hbm, 563, rfl⟩
abbrev main_v441 : Ref sig .tc := ⟨.hbm, 564, rfl⟩
abbrev main_v442 : Ref sig .tc := ⟨.hbm, 565, rfl⟩
abbrev main_v443 : Ref sig .tc := ⟨.hbm, 566, rfl⟩
abbrev main_v444 : Ref sig .tc := ⟨.hbm, 567, rfl⟩
abbrev main_cst_39 : Ref sig .tc := ⟨.hbm, 568, rfl⟩
abbrev main_v445 : Ref sig .tc := ⟨.hbm, 569, rfl⟩
abbrev main_v446 : Ref sig .tc := ⟨.hbm, 570, rfl⟩
abbrev main_v447 : Ref sig .tc := ⟨.hbm, 571, rfl⟩
abbrev main_v448 : Ref sig .tc := ⟨.hbm, 572, rfl⟩
abbrev main_v449 : Ref sig .tc := ⟨.hbm, 573, rfl⟩
abbrev main_v450 : Ref sig .tc := ⟨.hbm, 574, rfl⟩
abbrev main_v451 : Ref sig .tc := ⟨.hbm, 575, rfl⟩
abbrev main_v452 : Ref sig .tc := ⟨.hbm, 576, rfl⟩
abbrev main_cst_40 : Ref sig .tc := ⟨.hbm, 577, rfl⟩
abbrev main_v453 : Ref sig .tc := ⟨.hbm, 578, rfl⟩
abbrev main_v454 : Ref sig .tc := ⟨.hbm, 579, rfl⟩
abbrev main_v455 : Ref sig .tc := ⟨.hbm, 580, rfl⟩
abbrev main_v456 : Ref sig .tc := ⟨.hbm, 581, rfl⟩
abbrev main_v457 : Ref sig .tc := ⟨.hbm, 582, rfl⟩
abbrev main_cst_41 : Ref sig .tc := ⟨.hbm, 583, rfl⟩
abbrev main_v458 : Ref sig .tc := ⟨.hbm, 584, rfl⟩
abbrev main_v459 : Ref sig .tc := ⟨.hbm, 585, rfl⟩
abbrev main_v460 : Ref sig .tc := ⟨.hbm, 586, rfl⟩
abbrev main_v461 : Ref sig .tc := ⟨.hbm, 587, rfl⟩
abbrev main_v462 : Ref sig .tc := ⟨.hbm, 588, rfl⟩
abbrev main_v463 : Ref sig .tc := ⟨.hbm, 589, rfl⟩
abbrev main_v464 : Ref sig .tc := ⟨.hbm, 590, rfl⟩
abbrev main_v465 : Ref sig .tc := ⟨.hbm, 591, rfl⟩
abbrev main_cst_42 : Ref sig .tc := ⟨.hbm, 592, rfl⟩
abbrev main_v466 : Ref sig .tc := ⟨.hbm, 593, rfl⟩
abbrev main_v467 : Ref sig .tc := ⟨.hbm, 594, rfl⟩
abbrev main_v468 : Ref sig .tc := ⟨.hbm, 595, rfl⟩
abbrev main_v469 : Ref sig .tc := ⟨.hbm, 596, rfl⟩
abbrev main_v470 : Ref sig .tc := ⟨.hbm, 597, rfl⟩
abbrev main_cst_43 : Ref sig .tc := ⟨.hbm, 598, rfl⟩
abbrev main_v471 : Ref sig .tc := ⟨.hbm, 599, rfl⟩
abbrev main_v472 : Ref sig .tc := ⟨.hbm, 600, rfl⟩
abbrev main_v473 : Ref sig .tc := ⟨.hbm, 601, rfl⟩
abbrev main_v474 : Ref sig .tc := ⟨.hbm, 602, rfl⟩
abbrev main_v475 : Ref sig .tc := ⟨.hbm, 603, rfl⟩
abbrev main_v476 : Ref sig .tc := ⟨.hbm, 604, rfl⟩
abbrev main_v477 : Ref sig .tc := ⟨.hbm, 605, rfl⟩
abbrev main_v478 : Ref sig .tc := ⟨.hbm, 606, rfl⟩
abbrev main_cst_44 : Ref sig .tc := ⟨.hbm, 607, rfl⟩
abbrev main_v479 : Ref sig .tc := ⟨.hbm, 608, rfl⟩
abbrev main_v480 : Ref sig .tc := ⟨.hbm, 609, rfl⟩
abbrev main_v481 : Ref sig .tc := ⟨.hbm, 610, rfl⟩
abbrev main_v482 : Ref sig .tc := ⟨.hbm, 611, rfl⟩
abbrev main_v483 : Ref sig .tc := ⟨.hbm, 612, rfl⟩
abbrev main_cst_45 : Ref sig .tc := ⟨.hbm, 613, rfl⟩
abbrev main_v484 : Ref sig .tc := ⟨.hbm, 614, rfl⟩
abbrev main_v485 : Ref sig .tc := ⟨.hbm, 615, rfl⟩
abbrev main_v486 : Ref sig .tc := ⟨.hbm, 616, rfl⟩
abbrev main_v487 : Ref sig .tc := ⟨.hbm, 617, rfl⟩
abbrev main_v488 : Ref sig .tc := ⟨.hbm, 618, rfl⟩
abbrev main_v489 : Ref sig .tc := ⟨.hbm, 619, rfl⟩
abbrev main_v490 : Ref sig .tc := ⟨.hbm, 620, rfl⟩
abbrev main_v491 : Ref sig .tc := ⟨.hbm, 621, rfl⟩
abbrev main_cst_46 : Ref sig .tc := ⟨.hbm, 622, rfl⟩
abbrev main_v492 : Ref sig .tc := ⟨.hbm, 623, rfl⟩
abbrev main_v493 : Ref sig .tc := ⟨.hbm, 624, rfl⟩
abbrev main_v494 : Ref sig .tc := ⟨.hbm, 625, rfl⟩
abbrev main_v495 : Ref sig .tc := ⟨.hbm, 626, rfl⟩
abbrev main_v496 : Ref sig .tc := ⟨.hbm, 627, rfl⟩
abbrev main_cst_47 : Ref sig .tc := ⟨.hbm, 628, rfl⟩
abbrev main_v497 : Ref sig .tc := ⟨.hbm, 629, rfl⟩
abbrev main_v498 : Ref sig .tc := ⟨.hbm, 630, rfl⟩
abbrev main_v499 : Ref sig .tc := ⟨.hbm, 631, rfl⟩
abbrev main_v500 : Ref sig .tc := ⟨.hbm, 632, rfl⟩
abbrev main_v501 : Ref sig .tc := ⟨.hbm, 633, rfl⟩
abbrev main_v502 : Ref sig .tc := ⟨.hbm, 634, rfl⟩
abbrev main_v503 : Ref sig .tc := ⟨.hbm, 635, rfl⟩
abbrev main_v504 : Ref sig .tc := ⟨.hbm, 636, rfl⟩
abbrev main_cst_48 : Ref sig .tc := ⟨.hbm, 637, rfl⟩
abbrev main_v505 : Ref sig .tc := ⟨.hbm, 638, rfl⟩
abbrev main_v506 : Ref sig .tc := ⟨.hbm, 639, rfl⟩
abbrev main_v507 : Ref sig .tc := ⟨.hbm, 640, rfl⟩
abbrev main_v508 : Ref sig .tc := ⟨.hbm, 641, rfl⟩
abbrev main_v509 : Ref sig .tc := ⟨.hbm, 642, rfl⟩
abbrev main_cst_49 : Ref sig .tc := ⟨.hbm, 643, rfl⟩
abbrev main_v510 : Ref sig .tc := ⟨.hbm, 644, rfl⟩
abbrev main_v511 : Ref sig .tc := ⟨.hbm, 645, rfl⟩
abbrev main_v512 : Ref sig .tc := ⟨.hbm, 646, rfl⟩
abbrev main_v513 : Ref sig .tc := ⟨.hbm, 647, rfl⟩
abbrev main_v514 : Ref sig .tc := ⟨.hbm, 648, rfl⟩
abbrev main_v515 : Ref sig .tc := ⟨.hbm, 649, rfl⟩
abbrev main_v516 : Ref sig .tc := ⟨.hbm, 650, rfl⟩
abbrev main_v517 : Ref sig .tc := ⟨.hbm, 651, rfl⟩
abbrev main_cst_50 : Ref sig .tc := ⟨.hbm, 652, rfl⟩
abbrev main_v518 : Ref sig .tc := ⟨.hbm, 653, rfl⟩
abbrev main_v519 : Ref sig .tc := ⟨.hbm, 654, rfl⟩
abbrev main_v520 : Ref sig .tc := ⟨.hbm, 655, rfl⟩
abbrev main_v521 : Ref sig .tc := ⟨.hbm, 656, rfl⟩
abbrev main_v522 : Ref sig .tc := ⟨.hbm, 657, rfl⟩
abbrev main_cst_51 : Ref sig .tc := ⟨.hbm, 658, rfl⟩
abbrev main_v523 : Ref sig .tc := ⟨.hbm, 659, rfl⟩
abbrev main_v524 : Ref sig .tc := ⟨.hbm, 660, rfl⟩
abbrev main_v525 : Ref sig .tc := ⟨.hbm, 661, rfl⟩
abbrev main_v526 : Ref sig .tc := ⟨.hbm, 662, rfl⟩
abbrev main_v527 : Ref sig .tc := ⟨.hbm, 663, rfl⟩
abbrev main_v528 : Ref sig .tc := ⟨.hbm, 664, rfl⟩
abbrev main_v529 : Ref sig .tc := ⟨.hbm, 665, rfl⟩
abbrev main_v530 : Ref sig .tc := ⟨.hbm, 666, rfl⟩
abbrev main_v531 : Ref sig .tc := ⟨.hbm, 667, rfl⟩
abbrev main_v532 : Ref sig .tc := ⟨.hbm, 668, rfl⟩
abbrev main_v533 : Ref sig .tc := ⟨.hbm, 669, rfl⟩
abbrev main_v534 : Ref sig .tc := ⟨.hbm, 670, rfl⟩
abbrev main_v535 : Ref sig .tc := ⟨.hbm, 671, rfl⟩
abbrev main_v536 : Ref sig .tc := ⟨.hbm, 672, rfl⟩
abbrev main_v537 : Ref sig .tc := ⟨.hbm, 673, rfl⟩
abbrev main_v538 : Ref sig .tc := ⟨.hbm, 674, rfl⟩
abbrev main_v539 : Ref sig .tc := ⟨.hbm, 675, rfl⟩
abbrev main_v540 : Ref sig .tc := ⟨.hbm, 676, rfl⟩
abbrev main_v541 : Ref sig .tc := ⟨.hbm, 677, rfl⟩
abbrev main_v542 : Ref sig .tc := ⟨.hbm, 678, rfl⟩
abbrev main_v543 : Ref sig .tc := ⟨.hbm, 679, rfl⟩
abbrev main_v544 : Ref sig .tc := ⟨.hbm, 680, rfl⟩
abbrev main_v545 : Ref sig .tc := ⟨.hbm, 681, rfl⟩
abbrev main_v546 : Ref sig .tc := ⟨.hbm, 682, rfl⟩
abbrev main_v547 : Ref sig .tc := ⟨.hbm, 683, rfl⟩
abbrev main_v548 : Ref sig .tc := ⟨.hbm, 684, rfl⟩
abbrev main_v549 : Ref sig .tc := ⟨.hbm, 685, rfl⟩
abbrev main_v550 : Ref sig .tc := ⟨.hbm, 686, rfl⟩
abbrev main_v551 : Ref sig .tc := ⟨.hbm, 687, rfl⟩
abbrev main_v552 : Ref sig .tc := ⟨.hbm, 688, rfl⟩
abbrev main_v553 : Ref sig .tc := ⟨.hbm, 689, rfl⟩
abbrev main_v554 : Ref sig .tc := ⟨.hbm, 690, rfl⟩
abbrev main_v555 : Ref sig .tc := ⟨.hbm, 691, rfl⟩
abbrev main_v556 : Ref sig .tc := ⟨.hbm, 692, rfl⟩
abbrev main_v557 : Ref sig .tc := ⟨.hbm, 693, rfl⟩
abbrev main_v558 : Ref sig .tc := ⟨.hbm, 694, rfl⟩
abbrev main_v559 : Ref sig .tc := ⟨.hbm, 695, rfl⟩
abbrev main_v560 : Ref sig .tc := ⟨.hbm, 696, rfl⟩
abbrev main_v561 : Ref sig .tc := ⟨.hbm, 697, rfl⟩
abbrev main_cst_52 : Ref sig .tc := ⟨.hbm, 698, rfl⟩
abbrev main_v562 : Ref sig .tc := ⟨.hbm, 699, rfl⟩
abbrev main_v563 : Ref sig .tc := ⟨.hbm, 700, rfl⟩
abbrev main_v564 : Ref sig .tc := ⟨.hbm, 701, rfl⟩
abbrev main_v565 : Ref sig .tc := ⟨.hbm, 702, rfl⟩
abbrev main_v566 : Ref sig .tc := ⟨.hbm, 703, rfl⟩
abbrev main_v567 : Ref sig .tc := ⟨.hbm, 704, rfl⟩
abbrev main_v568 : Ref sig .tc := ⟨.hbm, 705, rfl⟩
abbrev main_cst_53 : Ref sig .tc := ⟨.hbm, 706, rfl⟩
abbrev main_v569 : Ref sig .tc := ⟨.hbm, 707, rfl⟩
abbrev main_v570 : Ref sig .tc := ⟨.hbm, 708, rfl⟩
abbrev main_v571 : Ref sig .tc := ⟨.hbm, 709, rfl⟩
abbrev main_v572 : Ref sig .tc := ⟨.hbm, 710, rfl⟩
abbrev main_cst_54 : Ref sig .tc := ⟨.hbm, 711, rfl⟩
abbrev main_v573 : Ref sig .tc := ⟨.hbm, 712, rfl⟩
abbrev main_v574 : Ref sig .tc := ⟨.hbm, 713, rfl⟩
abbrev main_cst_55 : Ref sig .tc := ⟨.hbm, 714, rfl⟩
abbrev main_v575 : Ref sig .tc := ⟨.hbm, 715, rfl⟩
abbrev main_v576 : Ref sig .tc := ⟨.hbm, 716, rfl⟩
abbrev main_v577 : Ref sig .tc := ⟨.hbm, 717, rfl⟩
abbrev main_v578 : Ref sig .tc := ⟨.hbm, 718, rfl⟩
abbrev main_cst_56 : Ref sig .tc := ⟨.hbm, 719, rfl⟩
abbrev main_v579 : Ref sig .tc := ⟨.hbm, 720, rfl⟩
abbrev main_v580 : Ref sig .tc := ⟨.hbm, 721, rfl⟩
abbrev main_v581 : Ref sig .tc := ⟨.hbm, 722, rfl⟩
abbrev main_v582 : Ref sig .tc := ⟨.hbm, 723, rfl⟩
abbrev main_v583 : Ref sig .tc := ⟨.hbm, 724, rfl⟩
abbrev main_v584 : Ref sig .tc := ⟨.hbm, 725, rfl⟩
abbrev main_v585 : Ref sig .tc := ⟨.hbm, 726, rfl⟩
abbrev main_v586 : Ref sig .tc := ⟨.hbm, 727, rfl⟩
abbrev main_v587 : Ref sig .tc := ⟨.hbm, 728, rfl⟩
abbrev main_v588 : Ref sig .tc := ⟨.hbm, 729, rfl⟩
abbrev main_v589 : Ref sig .tc := ⟨.hbm, 730, rfl⟩
abbrev main_cst_57 : Ref sig .tc := ⟨.hbm, 731, rfl⟩
abbrev main_v590 : Ref sig .tc := ⟨.hbm, 732, rfl⟩
abbrev main_v591 : Ref sig .tc := ⟨.hbm, 733, rfl⟩
abbrev main_cst_58 : Ref sig .tc := ⟨.hbm, 734, rfl⟩
abbrev main_v592 : Ref sig .tc := ⟨.hbm, 735, rfl⟩
abbrev main_v593 : Ref sig .tc := ⟨.hbm, 736, rfl⟩
abbrev main_v594 : Ref sig .tc := ⟨.hbm, 737, rfl⟩
abbrev main_v595 : Ref sig .tc := ⟨.hbm, 738, rfl⟩
abbrev main_v596 : Ref sig .tc := ⟨.hbm, 739, rfl⟩
abbrev main_v597 : Ref sig .tc := ⟨.hbm, 740, rfl⟩
abbrev main_v598 : Ref sig .tc := ⟨.hbm, 741, rfl⟩
abbrev main_v599 : Ref sig .tc := ⟨.hbm, 742, rfl⟩
abbrev main_v600 : Ref sig .tc := ⟨.hbm, 743, rfl⟩
abbrev main_call6_cst : Ref sig .tc := ⟨.hbm, 744, rfl⟩
abbrev main_call6_v0 : Ref sig .tc := ⟨.hbm, 745, rfl⟩
abbrev main_v601 : Ref sig .tc := ⟨.hbm, 746, rfl⟩
abbrev main_cst_59 : Ref sig .tc := ⟨.hbm, 747, rfl⟩
abbrev main_v602 : Ref sig .tc := ⟨.hbm, 748, rfl⟩
abbrev main_v603 : Ref sig .tc := ⟨.hbm, 749, rfl⟩
abbrev main_v604 : Ref sig .tc := ⟨.hbm, 750, rfl⟩
abbrev main_cst_60 : Ref sig .tc := ⟨.hbm, 751, rfl⟩
abbrev main_v605 : Ref sig .tc := ⟨.hbm, 752, rfl⟩
abbrev main_v606 : Ref sig .tc := ⟨.hbm, 753, rfl⟩
abbrev main_cst_61 : Ref sig .tc := ⟨.hbm, 754, rfl⟩
abbrev main_v607 : Ref sig .tc := ⟨.hbm, 755, rfl⟩
abbrev main_v608 : Ref sig .tc := ⟨.hbm, 756, rfl⟩
abbrev main_cst_62 : Ref sig .tc := ⟨.hbm, 757, rfl⟩
abbrev main_v609 : Ref sig .tc := ⟨.hbm, 758, rfl⟩
abbrev main_v610 : Ref sig .tc := ⟨.hbm, 759, rfl⟩
abbrev main_call7_call0_cst : Ref sig .tc := ⟨.hbm, 760, rfl⟩
abbrev main_call7_call0_v0 : Ref sig .tc := ⟨.hbm, 761, rfl⟩
abbrev main_v611 : Ref sig .tc := ⟨.hbm, 762, rfl⟩
abbrev main_v612 : Ref sig .tc := ⟨.hbm, 763, rfl⟩
abbrev main_cst_63 : Ref sig .tc := ⟨.hbm, 764, rfl⟩
abbrev main_v613 : Ref sig .tc := ⟨.hbm, 765, rfl⟩
abbrev main_v614 : Ref sig .tc := ⟨.hbm, 766, rfl⟩
abbrev main_v615 : Ref sig .tc := ⟨.hbm, 767, rfl⟩
abbrev main_v616 : Ref sig .tc := ⟨.hbm, 768, rfl⟩
abbrev main_cst_64 : Ref sig .tc := ⟨.hbm, 769, rfl⟩
abbrev main_v617 : Ref sig .tc := ⟨.hbm, 770, rfl⟩
abbrev main_v618 : Ref sig .tc := ⟨.hbm, 771, rfl⟩
abbrev main_cst_65 : Ref sig .tc := ⟨.hbm, 772, rfl⟩
abbrev main_v619 : Ref sig .tc := ⟨.hbm, 773, rfl⟩
abbrev main_v620 : Ref sig .tc := ⟨.hbm, 774, rfl⟩
abbrev main_v621 : Ref sig .tc := ⟨.hbm, 775, rfl⟩
abbrev main_v622 : Ref sig .tc := ⟨.hbm, 776, rfl⟩
abbrev main_cst_66 : Ref sig .tc := ⟨.hbm, 777, rfl⟩
abbrev main_v623 : Ref sig .tc := ⟨.hbm, 778, rfl⟩
abbrev main_v624 : Ref sig .tc := ⟨.hbm, 779, rfl⟩
abbrev main_v625 : Ref sig .tc := ⟨.hbm, 780, rfl⟩
abbrev main_v626 : Ref sig .tc := ⟨.hbm, 781, rfl⟩
abbrev main_v627 : Ref sig .tc := ⟨.hbm, 782, rfl⟩
abbrev main_v628 : Ref sig .tc := ⟨.hbm, 783, rfl⟩
abbrev main_v629 : Ref sig .tc := ⟨.hbm, 784, rfl⟩
abbrev main_v630 : Ref sig .tc := ⟨.hbm, 785, rfl⟩
abbrev main_v631 : Ref sig .tc := ⟨.hbm, 786, rfl⟩
abbrev main_v632 : Ref sig .tc := ⟨.hbm, 787, rfl⟩
abbrev main_v633 : Ref sig .tc := ⟨.hbm, 788, rfl⟩
abbrev main_v634 : Ref sig .tc := ⟨.hbm, 789, rfl⟩
abbrev main_cst_67 : Ref sig .tc := ⟨.hbm, 790, rfl⟩
abbrev main_v635 : Ref sig .tc := ⟨.hbm, 791, rfl⟩
abbrev main_v636 : Ref sig .tc := ⟨.hbm, 792, rfl⟩
abbrev main_cst_68 : Ref sig .tc := ⟨.hbm, 793, rfl⟩
abbrev main_v637 : Ref sig .tc := ⟨.hbm, 794, rfl⟩
abbrev main_v638 : Ref sig .tc := ⟨.hbm, 795, rfl⟩
abbrev main_cst_69 : Ref sig .tc := ⟨.hbm, 796, rfl⟩
abbrev main_v639 : Ref sig .tc := ⟨.hbm, 797, rfl⟩
abbrev main_v640 : Ref sig .tc := ⟨.hbm, 798, rfl⟩
abbrev main_cst_70 : Ref sig .tc := ⟨.hbm, 799, rfl⟩
abbrev main_v641 : Ref sig .tc := ⟨.hbm, 800, rfl⟩
abbrev main_v642 : Ref sig .tc := ⟨.hbm, 801, rfl⟩
abbrev main_v643 : Ref sig .tc := ⟨.hbm, 802, rfl⟩
abbrev main_cst_71 : Ref sig .tc := ⟨.hbm, 803, rfl⟩
abbrev main_v644 : Ref sig .tc := ⟨.hbm, 804, rfl⟩
abbrev main_v645 : Ref sig .tc := ⟨.hbm, 805, rfl⟩
abbrev main_v646 : Ref sig .tc := ⟨.hbm, 806, rfl⟩
abbrev main_v647 : Ref sig .tc := ⟨.hbm, 807, rfl⟩
abbrev main_v648 : Ref sig .tc := ⟨.hbm, 808, rfl⟩
abbrev main_v649 : Ref sig .tc := ⟨.hbm, 809, rfl⟩
abbrev main_c_72 : Ref sig .tc := ⟨.hbm, 810, rfl⟩
abbrev main_call9_v0 : Ref sig .tc := ⟨.hbm, 811, rfl⟩
abbrev main_v650 : Ref sig .tc := ⟨.hbm, 812, rfl⟩
abbrev main_v651 : Ref sig .tc := ⟨.hbm, 813, rfl⟩
abbrev main_c_73 : Ref sig .tc := ⟨.hbm, 814, rfl⟩
abbrev main_call10_v0 : Ref sig .tc := ⟨.hbm, 815, rfl⟩
abbrev main_v652 : Ref sig .tc := ⟨.hbm, 816, rfl⟩
abbrev main_v653 : Ref sig .tc := ⟨.hbm, 817, rfl⟩
abbrev main_c_74 : Ref sig .tc := ⟨.hbm, 818, rfl⟩
abbrev main_call11_v0 : Ref sig .tc := ⟨.hbm, 819, rfl⟩
abbrev main_v654 : Ref sig .tc := ⟨.hbm, 820, rfl⟩
abbrev main_v655 : Ref sig .tc := ⟨.hbm, 821, rfl⟩
abbrev main_c_75 : Ref sig .tc := ⟨.hbm, 822, rfl⟩
abbrev main_call12_v0 : Ref sig .tc := ⟨.hbm, 823, rfl⟩
abbrev main_v656 : Ref sig .tc := ⟨.hbm, 824, rfl⟩
abbrev main_v657 : Ref sig .tc := ⟨.hbm, 825, rfl⟩
abbrev main_v658 : Ref sig .tc := ⟨.hbm, 826, rfl⟩
abbrev main_v659 : Ref sig .tc := ⟨.hbm, 827, rfl⟩
abbrev main_v660 : Ref sig .tc := ⟨.hbm, 828, rfl⟩
abbrev main_v661 : Ref sig .tc := ⟨.hbm, 829, rfl⟩
abbrev main_v662 : Ref sig .tc := ⟨.hbm, 830, rfl⟩
abbrev main_v663 : Ref sig .tc := ⟨.hbm, 831, rfl⟩

abbrev nD : Nat := 1
abbrev τ : Topo := Topo.v7x

variable {F : FTy → Type} [FloatOps F]
-- ==== KernelUp.lean ====
abbrev S2048x1024 : Shape := ⟨2, ![2048, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S2048x4096 : Shape := ⟨2, ![2048, 4096]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 8
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x1024, .bf16⟩
  | .hbm, ⟨3, _⟩ => ⟨S1024x4096, .bf16⟩
  | .hbm, ⟨4, _⟩ => ⟨S1024x8x512, .bf16⟩
  | .hbm, ⟨5, _⟩ => ⟨S8x1024x512, .bf16⟩
  | .hbm, ⟨6, _⟩ => ⟨S2048x4096, .bf16⟩
  | .hbm, ⟨7, _⟩ => ⟨S2048x4096, .bf16⟩
  | .local _ .vmem, ⟨0, _⟩ => ⟨S2048x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceUpIdeal.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .bf16⟩
  | .hbm, ⟨7, _⟩ => ⟨S2048x4096, .f32⟩
  | .hbm, ⟨8, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelDown.lean ====
abbrev S2048x4096 : Shape := ⟨2, ![2048, 4096]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S_, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x4096, .bf16⟩
  | .hbm, ⟨7, _⟩ => ⟨S4096x1024, .bf16⟩
  | .hbm, ⟨8, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S2048x4096 : Shape := ⟨2, ![2048, 4096]⟩
abbrev S4096x1024 : Shape := ⟨2, ![4096, 1024]⟩
abbrev S_ : Shape := ⟨0, ![]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S_, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== KernelDu.lean ====
abbrev S2048x4096 : Shape := ⟨2, ![2048, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S2048x1024, .bf16⟩
  | .hbm, ⟨4, _⟩ => ⟨S4096x1024, .bf16⟩
  | .hbm, ⟨5, _⟩ => ⟨S2048x4096, .bf16⟩
  | .hbm, ⟨6, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDuIdeal.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩
abbrev S1024x4096 : Shape := ⟨2, ![1024, 4096]⟩

abbrev nBuf : Space → Nat
  | .hbm => 23
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .i1⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S2048x1024, .f32⟩
  | .hbm, ⟨13, _⟩ => ⟨S1024x4096, .f32⟩
  | .hbm, ⟨14, _⟩ => ⟨S4096x1024, .f32⟩
  | .hbm, ⟨15, _⟩ => ⟨S2048x4096, .f32⟩
  | .hbm, ⟨16, _⟩ => ⟨S2048x4096, .f32⟩
  | .hbm, ⟨17, _⟩ => ⟨S2048x4096, .f32⟩
  | .hbm, ⟨18, _⟩ => ⟨S2048x4096, .f32⟩
  | .hbm, ⟨19, _⟩ => ⟨S_, .f32⟩
  | .hbm, ⟨20, _⟩ => ⟨S2048x4096, .f32⟩
  | .hbm, ⟨21, _⟩ => ⟨S2048x4096, .f32⟩
  | .hbm, ⟨22, _⟩ => ⟨S2048x4096, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== KernelGdown.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 5
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .bf16⟩
  | .hbm, ⟨8, _⟩ => ⟨S2048x1024, .bf16⟩
  | .hbm, ⟨9, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGdownIdeal.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩
abbrev S1024x4096 : Shape := ⟨2, ![1024, 4096]⟩

abbrev nBuf : Space → Nat
  | .hbm => 23
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .i1⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S2048x1024, .f32⟩
  | .hbm, ⟨13, _⟩ => ⟨S1024x4096, .f32⟩
  | .hbm, ⟨14, _⟩ => ⟨S4096x1024, .f32⟩
  | .hbm, ⟨15, _⟩ => ⟨S2048x4096, .f32⟩
  | .hbm, ⟨16, _⟩ => ⟨S2048x4096, .f32⟩
  | .hbm, ⟨17, _⟩ => ⟨S2048x4096, .f32⟩
  | .hbm, ⟨18, _⟩ => ⟨S2048x4096, .f32⟩
  | .hbm, ⟨19, _⟩ => ⟨S_, .f32⟩
  | .hbm, ⟨20, _⟩ => ⟨S2048x4096, .f32⟩
  | .hbm, ⟨21, _⟩ => ⟨S2048x4096, .f32⟩
  | .hbm, ⟨22, _⟩ => ⟨S4096x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== KernelGup.lean ====
abbrev S2048x1024 : Shape := ⟨2, ![2048, 1024]⟩
abbrev S1024x4096 : Shape := ⟨2, ![1024, 4096]⟩
abbrev S2048x4096 : Shape := ⟨2, ![2048, 4096]⟩
abbrev S8x1024x512 : Shape := ⟨3, ![8, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .hbm, ⟨3, _⟩ => ⟨S2048x1024, .bf16⟩
  | .hbm, ⟨4, _⟩ => ⟨S2048x4096, .bf16⟩
  | .hbm, ⟨5, _⟩ => ⟨S8x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGupIdeal.lean ====
abbrev S2048x1024 : Shape := ⟨2, ![2048, 1024]⟩
abbrev S1024x4096 : Shape := ⟨2, ![1024, 4096]⟩
abbrev S2048x4096 : Shape := ⟨2, ![2048, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .hbm, ⟨3, _⟩ => ⟨S2048x4096, .f32⟩
  | .hbm, ⟨4, _⟩ => ⟨S4096x1024, .f32⟩
  | .hbm, ⟨5, _⟩ => ⟨S1024x4096, .f32⟩
  | .hbm, ⟨6, _⟩ => ⟨S2048x1024, .f32⟩
  | .hbm, ⟨7, _⟩ => ⟨S1024x4096, .bf16⟩
  | .hbm, ⟨8, _⟩ => ⟨S1024x8x512, .bf16⟩
  | .hbm, ⟨9, _⟩ => ⟨S8x1024x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDh.lean ====
abbrev S2048x1024 : Shape := ⟨2, ![2048, 1024]⟩
abbrev S1024x4096 : Shape := ⟨2, ![1024, 4096]⟩
abbrev S2048x4096 : Shape := ⟨2, ![2048, 4096]⟩
abbrev S1024x8x512 : Shape := ⟨3, ![1024, 8, 512]⟩
abbrev S8x1024x512 : Shape := ⟨3, ![8, 1024, 512]⟩
abbrev S1024x2048 : Shape := ⟨2, ![1024, 2048]⟩
abbrev S4x1024x512 : Shape := ⟨3, ![4, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 8
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .hbm, ⟨3, _⟩ => ⟨S2048x4096, .bf16⟩
  | .hbm, ⟨4, _⟩ => ⟨S1024x4096, .bf16⟩
  | .hbm, ⟨5, _⟩ => ⟨S1024x8x512, .bf16⟩
  | .hbm, ⟨6, _⟩ => ⟨S8x1024x512, .bf16⟩
  | .hbm, ⟨7, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S4x1024x512, .bf16⟩
  | .local _ .vmem, ⟨3, _⟩ => ⟨S4x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v33 : BitVec 1 := Scalar.cmpi .eq arg2 c1_i32
  let v34 : BitVec 32 := Scalar.extui v33
  let c0_i32_13 : BitVec 32 := 0#32
  let v35 : BitVec 1 := Scalar.cmpi .ne v34 c0_i32_13
  v35

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceDhIdeal.lean ====
abbrev S2048x1024 : Shape := ⟨2, ![2048, 1024]⟩
abbrev S1024x4096 : Shape := ⟨2, ![1024, 4096]⟩
abbrev S2048x4096 : Shape := ⟨2, ![2048, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .hbm, ⟨3, _⟩ => ⟨S2048x4096, .f32⟩
  | .hbm, ⟨4, _⟩ => ⟨S4096x1024, .f32⟩
  | .hbm, ⟨5, _⟩ => ⟨S1024x4096, .f32⟩
  | .hbm, ⟨6, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.HostA.lean ====
module

public import proofs.«01_k».proof.Proof.Gen.KernelIdeal.Frame.Runs
public import proofs.«01_k».proof.Proof.Gen.ReferenceIdeal.Read

@[expose] public section

noncomputable section

/-! The host operations before the region, first part: up to the masked decay differences. Each window of them is followed by what the buffers still read later hold, named by the stage of the reference program that computes the same array. -/

namespace Cert.KernelIdeal.Host

open Cert.KernelIdeal Cert.KernelIdeal.Gen Idealize.ShloMosaic Idealize.ShloMosaic.TcCoe Idealize.SL.Sem
open Idealize.ShloMosaic.StableHlo

variable {F : FTy → Type} [FloatOps F] [Named F] (V0 : Valuation τ sig (Elt F))

/-- The buffers as the region finds the first window: as launched. -/
def w0 : Valuation τ sig (Elt F) := V0
/-- After window 0, `main_arg0` is as launched. -/
theorem w0_main_arg0 : w0 V0 (no_index (Proc.devRef .tc main_arg0)) = (V0 (Proc.devRef .tc main_arg0)) := rfl
/-- After window 0, `main_arg1` is as launched. -/
theorem w0_main_arg1 : w0 V0 (no_index (Proc.devRef .tc main_arg1)) = (V0 (Proc.devRef .tc main_arg1)) := rfl
/-- After window 0, `main_arg2` is as launched. -/
theorem w0_main_arg2 : w0 V0 (no_index (Proc.devRef .tc main_arg2)) = (V0 (Proc.devRef .tc main_arg2)) := rfl
/-- After window 0, `main_arg3` is as launched. -/
theorem w0_main_arg3 : w0 V0 (no_index (Proc.devRef .tc main_arg3)) = (V0 (Proc.devRef .tc main_arg3)) := rfl
/-- After window 0, `main_arg4` is as launched. -/
theorem w0_main_arg4 : w0 V0 (no_index (Proc.devRef .tc main_arg4)) = (V0 (Proc.devRef .tc main_arg4)) := rfl
/-- After window 0, `main_arg5` is as launched. -/
theorem w0_main_arg5 : w0 V0 (no_index (Proc.devRef .tc main_arg5)) = (V0 (Proc.devRef .tc main_arg5)) := rfl
/-- After window 0, `main_arg6` is as launched. -/
theorem w0_main_arg6 : w0 V0 (no_index (Proc.devRef .tc main_arg6)) = (V0 (Proc.devRef .tc main_arg6)) := rfl
/-- The buffers after window 1. -/
def w1 : Valuation τ sig (Elt F) := after hostOps0 (w0 V0)
/-- The buffers that window 1 writes. -/
abbrev w1_W : List (Ref sig .tc) := [main_v0, main_v1, main_v2, main_v3, main_v4, main_v5, main_v6, main_v7, main_v8, main_v9]
set_option maxRecDepth 8192 in
/-- Window 1 writes only the buffers of `w1_W`. -/
theorem w1_writes : (hostOps0 : List (HloOp τ sig (Elt F))).Forall fun op => op.writes ⊆ (w1_W.map (Proc.devRef (τ := τ) .tc)).toFinset := by
  simp only [List.Forall]
  refine ⟨?_, ?_, ?_, ?_, ?_, ?_, ?_, ?_, ?_, ?_⟩ <;>
    (simp only [TRef.binary, TRef.nullary, TRef.ternary, TRef.unary, TRef.reshape, nullary_writes, unary_writes, binary_writes, ternary_writes, reshape_writes, nary_writes, Finset.singleton_subset_iff, List.mem_toFinset]
     exact List.mem_map_of_mem (by decide))
/-- A buffer that window 1 does not write keeps its contents through it. -/
theorem w1_keep (r : Ref sig .tc) (h : r ∉ w1_W) :
    w1 V0 (Proc.devRef .tc r) = w0 V0 (Proc.devRef .tc r) :=
  after_of_writes_sub hostOps0 _ w1_writes h
set_option maxRecDepth 8192 in
set_option maxHeartbeats 2000000 in
/-- After window 1, `main_v1` holds stage `val_main_v3`. -/
theorem w1_main_v1 : w1 V0 (no_index (Proc.devRef .tc main_v1)) = (Cert.ReferenceIdeal.Read.val_main_v3 (F := F) (V0 (Proc.devRef .tc main_arg1))) := by
  unfold w1
  simp only [hostOps0]
  after_results_simp
  simp only [w0_main_arg1] <;> rfl
set_option maxRecDepth 8192 in
set_option maxHeartbeats 2000000 in
/-- After window 1, `main_v3` holds stage `val_main_v5`. -/
theorem w1_main_v3 : w1 V0 (no_index (Proc.devRef .tc main_v3)) = (Cert.ReferenceIdeal.Read.val_main_v5 (F := F) (V0 (Proc.devRef .tc main_arg1))) := by
  unfold w1
  simp only [hostOps0]
  after_results_simp
  simp only [w0_main_arg1] <;> rfl
set_option maxRecDepth 8192 in
set_option maxHeartbeats 2000000 in
/-- After window 1, `main_v5` holds stage `val_main_v7`. -/
theorem w1_main_v5 : w1 V0 (no_index (Proc.devRef .tc main_v5)) = (Cert.ReferenceIdeal.Read.val_main_v7 (F := F) (V0 (Proc.devRef .tc main_arg1))) := by
  unfold w1
  simp only [hostOps0]
  after_results_simp
  simp only [w0_main_arg1] <;> rfl
set_option maxRecDepth 8192 in
set_option maxHeartbeats 2000000 in
/-- After window 1, `main_v9` holds stage `val_main_v10`. -/
theorem w1_main_v9 : w1 V0 (no_index (Proc.devRef .tc main_v9)) = (Cert.ReferenceIdeal.Read.val_main_v10 (F := F) (V0 (Proc.devRef .tc main_arg0)) (V0 (Proc.devRef .tc main_arg2))) := by
  unfold w1
  simp only [hostOps0]
  after_results_simp
  simp only [w0_main_arg2, w0_main_arg0] <;> rfl
/-- The buffers after window 2. -/
def w2 : Valuation τ sig (Elt F) := after hostOps0_1 (w1 V0)
/-- The buffers that window 2 writes. -/
abbrev w2_W : List (Ref sig .tc) := [main_call0_cst, main_call0_v0, main_call0_v1, main_call0_v2, main_call0_v3, main_call0_v4, main_call0_v5, main_call0_v6, main_call0_v7, main_call0_v8, main_call0_v9, main_call0_v10, main_call0_v11, main_v10]
set_option maxRecDepth 8192 in
/-- Window 2 writes only the buffers of `w2_W`. -/
theorem w2_writes : (hostOps0_1 : List (HloOp τ sig (Elt F))).Forall fun op => op.writes ⊆ (w2_W.map (Proc.devRef (τ := τ) .tc)).toFinset := by
  simp only [List.Forall]
  refine ⟨?_, ?_, ?_, ?_, ?_, ?_, ?_, ?_, ?_, ?_, ?_, ?_, ?_, ?_⟩ <;>
    (simp only [TRef.binary, TRef.nullary, TRef.ternary, TRef.unary, TRef.reshape, nullary_writes, unary_writes, binary_writes, ternary_writes, reshape_writes, nary_writes, Finset.singleton_subset_iff, List.mem_toFinset]
     exact List.mem_map_of_mem (by decide))
/-- A buffer that window 2 does not write keeps its contents through it. -/
theorem w2_keep (r : Ref sig .tc) (h : r ∉ w2_W) :
    w2 V0 (Proc.devRef .tc r) = w1 V0 (Proc.devRef .tc r) :=
  after_of_writes_sub hostOps0_1 _ w2_writes h
/-- After window 2, `main_arg3` is as launched. -/
theorem w2_main_arg3 : w2 V0 (no_index (Proc.devRef .tc main_arg3)) = (V0 (Proc.devRef .tc main_arg3)) :=
  (w2_keep V0 main_arg3 (by decide)).trans <|
    (w1_keep V0 main_arg3 (by decide)).trans (w0_main_arg3 V0)
/-- After window 2, `main_v1` holds stage `val_main_v3`. -/
theorem w2_main_v1 : w2 V0 (no_index (Proc.devRef .tc main_v1)) = (Cert.ReferenceIdeal.Read.val_main_v3 (F := F) (V0 (Proc.devRef .tc main_arg1))) :=
  (w2_keep V0 main_v1 (by decide)).trans (w1_main_v1 V0)
/-- After window 2, `main_v3` holds stage `val_main_v5`. -/
theorem w2_main_v3 : w2 V0 (no_index (Proc.devRef .tc main_v3)) = (Cert.ReferenceIdeal.Read.val_main_v5 (F := F) (V0 (Proc.devRef .tc main_arg1))) :=
  (w2_keep V0 main_v3 (by decide)).trans (w1_main_v3 V0)
/-- After window 2, `main_v5` holds stage `val_main_v7`. -/
theorem w2_main_v5 : w2 V0 (no_index (Proc.devRef .tc main_v5)) = (Cert.ReferenceIdeal.Read.val_main_v7 (F := F) (V0 (Proc.devRef .tc main_arg1))) :=
  (w2_keep V0 main_v5 (by decide)).trans (w1_main_v5 V0)
set_option maxRecDepth 8192 in
set_option maxHeartbeats 2000000 in
/-- After window 2, `main_v10` holds stage `val_main_v11_0`. -/
theorem w2_main_v10 : w2 V0 (no_index (Proc.devRef .tc main_v10)) = (Cert.ReferenceIdeal.Read.val_main_v11_0 (F := F) (V0 (Proc.devRef .tc main_arg0)) (V0 (Proc.devRef .tc main_arg2))) := by
  unfold w2
  simp only [hostOps0_1, TRef.binary, TRef.nullary, TRef.ternary, TRef.unary, TRef.reshape, TRef.toBuf, TRef.ofBuf, cast_eq]
  after_results_simp
  simp only [w1_main_v9] <;> rfl
/-- The buffers after window 3. -/
def w3 : Valuation τ sig (Elt F) := after hostOps0_2 (w2 V0)
/-- The buffers that window 3 writes. -/
abbrev w3_W : List (Ref sig .tc) := [main_v11, main_v12, main_v13, main_v14, main_v15, main_v16, main_v17, main_v18, main_v19, main_v20, main_v21, main_v22, main_v23, main_v24]
set_option maxRecDepth 8192 in
/-- Window 3 writes only the buffers of `w3_W`. -/
theorem w3_writes : (hostOps0_2 : List (HloOp τ sig (Elt F))).Forall fun op => op.writes ⊆ (w3_W.map (Proc.devRef (τ := τ) .tc)).toFinset := by
  simp only [List.Forall]
  refine ⟨?_, ?_, ?_, ?_, ?_, ?_, ?_, ?_, ?_, ?_, ?_, ?_, ?_, ?_⟩ <;>
    (simp only [TRef.binary, TRef.nullary, TRef.ternary, TRef.unary, TRef.reshape, nullary_writes, unary_writes, binary_writes, ternary_writes, reshape_writes, nary_writes, Finset.singleton_subset_iff, List.mem_toFinset]
     exact List.mem_map_of_mem (by decide))
/-- A buffer that window 3 does not write keeps its contents through it. -/
theorem w3_keep (r : Ref sig .tc) (h : r ∉ w3_W) :
    w3 V0 (Proc.devRef .tc r) = w2 V0 (Proc.devRef .tc r) :=
  after_of_writes_sub hostOps0_2 _ w3_writes h
set_option maxRecDepth 8192 in
set_option maxHeartbeats 2000000 in
/-- After window 3, `main_v17` holds stage `val_main_v18`. -/
theorem w3_main_v17 : w3 V0 (no_index (Proc.devRef .tc main_v17)) = (Cert.ReferenceIdeal.Read.val_main_v18 (F := F) (V0 (Proc.devRef .tc main_arg1))) := by
  unfold w3
  simp only [hostOps0_2]
  after_results_simp
  simp only [w2_main_v3] <;> rfl
set_option maxRecDepth 8192 in
set_option maxHeartbeats 2000000 in
/-- After window 3, `main_v18` holds stage `val_main_v19`. -/
theorem w3_main_v18 : w3 V0 (no_index (Proc.devRef .tc main_v18)) = (Cert.ReferenceIdeal.Read.val_main_v19 (F := F) (V0 (Proc.devRef .tc main_arg1))) := by
  unfold w3
  simp only [hostOps0_2]
  after_results_simp
  simp only [w2_main_v5] <;> rfl
set_option maxRecDepth 8192 in
set_option maxHeartbeats 2000000 in
/-- After window 3, `main_v21` holds stage `val_main_v22`. -/
theorem w3_main_v21 : w3 V0 (no_index (Proc.devRef .tc main_v21)) = (Cert.ReferenceIdeal.Read.val_main_v22 (F := F) (V0 (Proc.devRef .tc main_arg0)) (V0 (Proc.devRef .tc main_arg1)) (V0 (Proc.devRef .tc main_arg2))) := by
  unfold w3
  simp only [hostOps0_2]
  after_results_simp
  simp only [w2_main_v10, w2_main_v1] <;> rfl
set_option maxRecDepth 8192 in
set_option maxHeartbeats 2000000 in
/-- After window 3, `main_v24` holds stage `val_main_v25`. -/
theorem w3_main_v24 : w3 V0 (no_index (Proc.devRef .tc main_v24)) = (Cert.ReferenceIdeal.Read.val_main_v25 (F := F) (V0 (Proc.devRef .tc main_arg0)) (V0 (Proc.devRef .tc main_arg2)) (V0 (Proc.devRef .tc main_arg3))) := by
  unfold w3
  simp only [hostOps0_2]
  after_results_simp
  simp only [w2_main_arg3, w2_main_v10] <;> rfl
/-- The buffers after window 4. -/
def w4 : Valuation τ sig (Elt F) := after hostOps0_3 (w3 V0)
/-- The buffers that window 4 writes. -/
abbrev w4_W : List (Ref sig .tc) := [main_call1_call0_cst, main_call1_call0_v0, main_v25]
set_option maxRecDepth 8192 in
/-- Window 4 writes only the buffers of `w4_W`. -/
theorem w4_writes : (hostOps0_3 : List (HloOp τ sig (Elt F))).Forall fun op => op.writes ⊆ (w4_W.map (Proc.devRef (τ := τ) .tc)).toFinset := by
  simp only [List.Forall]
  refine ⟨?_, ?_, ?_⟩ <;>
    (simp only [TRef.binary, TRef.nullary, TRef.ternary, TRef.unary, TRef.reshape, nullary_writes, unary_writes, binary_writes, ternary_writes, reshape_writes, nary_writes, Finset.singleton_subset_iff, List.mem_toFinset]
     exact List.mem_map_of_mem (by decide))
/-- A buffer that window 4 does not write keeps its contents through it. -/
theorem w4_keep (r : Ref sig .tc) (h : r ∉ w4_W) :
    w4 V0 (Proc.devRef .tc r) = w3 V0 (Proc.devRef .tc r) :=
  after_of_writes_sub hostOps0_3 _ w4_writes h
set_option maxRecDepth 8192 in
set_option maxHeartbeats 2000000 in
/-- After window 4, `main_v25` holds stage `val_main_v26`. -/
theorem w4_main_v25 : w4 V0 (no_index (Proc.devRef .tc main_v25)) = (Cert.ReferenceIdeal.Read.val_main_v26 (F := F) (V0 (Proc.devRef .tc main_arg0)) (V0 (Proc.devRef .tc main_arg2)) (V0 (Proc.devRef .tc main_arg3))) := by
  unfold w4
  simp only [hostOps0_3, TRef.binary, TRef.nullary, TRef.ternary, TRef.unary, TRef.reshape, TRef.toBuf, TRef.ofBuf, cast_eq]
  after_results_simp
  simp only [w3_main_v24] <;> rfl
/-- The buffers after window 5. -/
def w5 : Valuation τ sig (Elt F) := after hostOps0_4 (w4 V0)
/-- The buffers that window 5 writes. -/
abbrev w5_W : List (Ref sig .tc) := [main_c, main_v26]
set_option maxRecDepth 8192 in
/-- Window 5 writes only the buffers of `w5_W`. -/
theorem w5_writes : (hostOps0_4 : List (HloOp τ sig (Elt F))).Forall fun op => op.writes ⊆ (w5_W.map (Proc.devRef (τ := τ) .tc)).toFinset := by
  simp only [List.Forall]
  refine ⟨?_, ?_⟩ <;>
    (simp only [TRef.binary, TRef.nullary, TRef.ternary, TRef.unary, TRef.reshape, nullary_writes, unary_writes, binary_writes, ternary_writes, reshape_writes, nary_writes, Finset.singleton_subset_iff, List.mem_toFinset]
     exact List.mem_map_of_mem (by decide))
/-- A buffer that window 5 does not write keeps its contents through it. -/
theorem w5_keep (r : Ref sig .tc) (h : r ∉ w5_W) :
    w5 V0 (Proc.devRef .tc r) = w4 V0 (Proc.devRef .tc r) :=
  after_of_writes_sub hostOps0_4 _ w5_writes h
set_option maxRecDepth 8192 in
set_option maxHeartbeats 2000000 in
/-- After window 5, `main_v26` holds stage `val_main_v27`. -/
theorem w5_main_v26 : w5 V0 (no_index (Proc.devRef .tc main_v26)) = (Cert.ReferenceIdeal.Read.val_main_v27 (F := F)) := by
  unfold w5
  simp only [hostOps0_4]
  after_results_simp
  try rfl
/-- The buffers after window 6. -/
def w6 : Valuation τ sig (Elt F) := after hostOps0_5 (w5 V0)
/-- The buffers that window 6 writes. -/
abbrev w6_W : List (Ref sig .tc) := [main_call2_v0, main_call2_c, main_call2_v1, main_call2_v2, main_call2_v3, main_call2_v4, main_call2_c_0, main_call2_v5, main_v27]
set_option maxRecDepth 8192 in
/-- Window 6 writes only the buffers of `w6_W`. -/
theorem w6_writes : (hostOps0_5 : List (HloOp τ sig (Elt F))).Forall fun op => op.writes ⊆ (w6_W.map (Proc.devRef (τ := τ) .tc)).toFinset := by
  simp only [List.Forall]
  refine ⟨?_, ?_, ?_, ?_, ?_, ?_, ?_, ?_, ?_⟩ <;>
    (simp only [TRef.binary, TRef.nullary, TRef.ternary, TRef.unary, TRef.reshape, nullary_writes, unary_writes, binary_writes, ternary_writes, reshape_writes, nary_writes, Finset.singleton_subset_iff, List.mem_toFinset]
     exact List.mem_map_of_mem (by decide))
/-- A buffer that window 6 does not write keeps its contents through it. -/
theorem w6_keep (r : Ref sig .tc) (h : r ∉ w6_W) :
    w6 V0 (Proc.devRef .tc r) = w5 V0 (Proc.devRef .tc r) :=
  after_of_writes_sub hostOps0_5 _ w6_writes h
/-- After window 6, `main_v25` holds stage `val_main_v26`. -/
theorem w6_main_v25 : w6 V0 (no_index (Proc.devRef .tc main_v25)) = (Cert.ReferenceIdeal.Read.val_main_v26 (F := F) (V0 (Proc.devRef .tc main_arg0)) (V0 (Proc.devRef .tc main_arg2)) (V0 (Proc.devRef .tc main_arg3))) :=
  (w6_keep V0 main_v25 (by decide)).trans <|
    (w5_keep V0 main_v25 (by decide)).trans (w4_main_v25 V0)
set_option maxRecDepth 8192 in
set_option maxHeartbeats 2000000 in
/-- After window 6, `main_v27` holds stage `val_main_v28`. -/
theorem w6_main_v27 : w6 V0 (no_index (Proc.devRef .tc main_v27)) = (Cert.ReferenceIdeal.Read.val_main_v28 (F := F)) := by
  unfold w6
  simp only [hostOps0_5, TRef.binary, TRef.nullary, TRef.ternary, TRef.unary, TRef.reshape, TRef.toBuf, TRef.ofBuf, cast_eq]
  after_results_simp
  simp only [w5_main_v26] <;> rfl
/-- The buffers after window 7. -/
def w7 : Valuation τ sig (Elt F) := after hostOps0_6 (w6 V0)
/-- The buffers that window 7 writes. -/
abbrev w7_W : List (Ref sig .tc) := [main_v28, main_v29, main_v30, main_v31, main_v32, main_v33, main_cst]
set_option maxRecDepth 8192 in
/-- Window 7 writes only the buffers of `w7_W`. -/
theorem w7_writes : (hostOps0_6 : List (HloOp τ sig (Elt F))).Forall fun op => op.writes ⊆ (w7_W.map (Proc.devRef (τ := τ) .tc)).toFinset := by
  simp only [List.Forall]
  refine ⟨?_, ?_, ?_, ?_, ?_, ?_, ?_⟩ <;>
    (simp only [TRef.binary, TRef.nullary, TRef.ternary, TRef.unary, TRef.reshape, nullary_writes, unary_writes, binary_writes, ternary_writes, reshape_writes, nary_writes, Finset.singleton_subset_iff, List.mem_toFinset]
     exact List.mem_map_of_mem (by decide))
/-- A buffer that window 7 does not write keeps its contents through it. -/
theorem w7_keep (r : Ref sig .tc) (h : r ∉ w7_W) :
    w7 V0 (Proc.devRef .tc r) = w6 V0 (Proc.devRef .tc r) :=
  after_of_writes_sub hostOps0_6 _ w7_writes h
set_option maxRecDepth 8192 in
set_option maxHeartbeats 2000000 in
/-- After window 7, `main_v28` holds stage `val_main_v29`. -/
theorem w7_main_v28 : w7 V0 (no_index (Proc.devRef .tc main_v28)) = (Cert.ReferenceIdeal.Read.val_main_v29 (F := F)) := by
  unfold w7
  simp only [hostOps0_6]
  after_results_simp
  simp only [w6_main_v27] <;> rfl
set_option maxRecDepth 8192 in
set_option maxHeartbeats 2000000 in
/-- After window 7, `main_v33` holds stage `val_main_v34`. -/
theorem w7_main_v33 : w7 V0 (no_index (Proc.devRef .tc main_v33)) = (Cert.ReferenceIdeal.Read.val_main_v34 (F := F) (V0 (Proc.devRef .tc main_arg0)) (V0 (Proc.devRef .tc main_arg2)) (V0 (Proc.devRef .tc main_arg3))) := by
  unfold w7
  simp only [hostOps0_6]
  after_results_simp
  simp only [w6_main_v25] <;> rfl
set_option maxRecDepth 8192 in
set_option maxHeartbeats 2000000 in
/-- After window 7, `main_cst` holds stage `val_main_cst`. -/
theorem w7_main_cst : w7 V0 (no_index (Proc.devRef .tc main_cst)) = (Cert.ReferenceIdeal.Read.val_main_cst (F := F)) := by
  unfold w7
  simp only [hostOps0_6]
  after_results_simp
  try rfl
/-- The buffers after window 8. -/
def w8 : Valuation τ sig (Elt F) := after hostOps0_7 (w7 V0)
/-- The buffers that window 8 writes. -/
abbrev w8_W : List (Ref sig .tc) := [main_call3_v0, main_call3_v1, main_call3_v2, main_v34]
set_option maxRecDepth 8192 in
/-- Window 8 writes only the buffers of `w8_W`. -/
theorem w8_writes : (hostOps0_7 : List (HloOp τ sig (Elt F))).Forall fun op => op.writes ⊆ (w8_W.map (Proc.devRef (τ := τ) .tc)).toFinset := by
  simp only [List.Forall]
  refine ⟨?_, ?_, ?_, ?_⟩ <;>
    (simp only [TRef.binary, TRef.nullary, TRef.ternary, TRef.unary, TRef.reshape, nullary_writes, unary_writes, binary_writes, ternary_writes, reshape_writes, nary_writes, Finset.singleton_subset_iff, List.mem_toFinset]
     exact List.mem_map_of_mem (by decide))
/-- A buffer that window 8 does not write keeps its contents through it. -/
theorem w8_keep (r : Ref sig .tc) (h : r ∉ w8_W) :
    w8 V0 (Proc.devRef .tc r) = w7 V0 (Proc.devRef .tc r) :=
  after_of_writes_sub hostOps0_7 _ w8_writes h
/-- After window 8, `main_v17` holds stage `val_main_v18`. -/
theorem w8_main_v17 : w8 V0 (no_index (Proc.devRef .tc main_v17)) = (Cert.ReferenceIdeal.Read.val_main_v18 (F := F) (V0 (Proc.devRef .tc main_arg1))) :=
  (w8_keep V0 main_v17 (by decide)).trans <|
    (w7_keep V0 main_v17 (by decide)).trans <|
    (w6_keep V0 main_v17 (by decide)).trans <|
    (w5_keep V0 main_v17 (by decide)).trans <|
    (w4_keep V0 main_v17 (by decide)).trans (w3_main_v17 V0)
/-- After window 8, `main_v18` holds stage `val_main_v19`. -/
theorem w8_main_v18 : w8 V0 (no_index (Proc.devRef .tc main_v18)) = (Cert.ReferenceIdeal.Read.val_main_v19 (F := F) (V0 (Proc.devRef .tc main_arg1))) :=
  (w8_keep V0 main_v18 (by decide)).trans <|
    (w7_keep V0 main_v18 (by decide)).trans <|
    (w6_keep V0 main_v18 (by decide)).trans <|
    (w5_keep V0 main_v18 (by decide)).trans <|
    (w4_keep V0 main_v18 (by decide)).trans (w3_main_v18 V0)
/-- After window 8, `main_v21` holds stage `val_main_v22`. -/
theorem w8_main_v21 : w8 V0 (no_index (Proc.devRef .tc main_v21)) = (Cert.ReferenceIdeal.Read.val_main_v22 (F := F) (V0 (Proc.devRef .tc main_arg0)) (V0 (Proc.devRef .tc main_arg1)) (V0 (Proc.devRef .tc main_arg2))) :=
  (w8_keep V0 main_v21 (by decide)).trans <|
    (w7_keep V0 main_v21 (by decide)).trans <|
    (w6_keep V0 main_v21 (by decide)).trans <|
    (w5_keep V0 main_v21 (by decide)).trans <|
    (w4_keep V0 main_v21 (by decide)).trans (w3_main_v21 V0)
/-- After window 8, `main_v25` holds stage `val_main_v26`. -/
theorem w8_main_v25 : w8 V0 (no_index (Proc.devRef .tc main_v25)) = (Cert.ReferenceIdeal.Read.val_main_v26 (F := F) (V0 (Proc.devRef .tc main_arg0)) (V0 (Proc.devRef .tc main_arg2)) (V0 (Proc.devRef .tc main_arg3))) :=
  (w8_keep V0 main_v25 (by decide)).trans <|
    (w7_keep V0 main_v25 (by decide)).trans (w6_main_v25 V0)
set_option maxRecDepth 8192 in
set_option maxHeartbeats 2000000 in
/-- After window 8, `main_v34` holds stage `val_main_v35_0`. -/
theorem w8_main_v34 : w8 V0 (no_index (Proc.devRef .tc main_v34)) = (Cert.ReferenceIdeal.Read.val_main_v35_0 (F := F) (V0 (Proc.devRef .tc main_arg0)) (V0 (Proc.devRef .tc main_arg2)) (V0 (Proc.devRef .tc main_arg3))) := by
  unfold w8
  simp only [hostOps0_7, TRef.binary, TRef.nullary, TRef.ternary, TRef.unary, TRef.reshape, TRef.toBuf, TRef.ofBuf, cast_eq]
  after_results_simp
  simp only [w7_main_v33, w7_main_cst, w7_main_v28] <;> rfl

end Cert.KernelIdeal.Host
-- ==== Proof.HostB.lean ====
module

public import proofs.«01_k».proof.Proof.Gen.KernelIdeal.Frame.Runs
public import proofs.«01_k».proof.Proof.Gen.ReferenceIdeal.Read
public import proofs.«01_k».proof.Proof.HostA

@[expose] public section

noncomputable section

/-! The host operations before the region, second part: the scores, the chunk states and the first half of the state recurrence. -/

namespace Cert.KernelIdeal.Host

open Cert.KernelIdeal Cert.KernelIdeal.Gen Idealize.ShloMosaic Idealize.ShloMosaic.TcCoe Idealize.SL.Sem
open Idealize.ShloMosaic.StableHlo

variable {F : FTy → Type} [FloatOps F] [Named F] (V0 : Valuation τ sig (Elt F))

/-- Operations 1 to 19 of the long window. -/
abbrev hostOps0_8_0 : List (HloOp τ sig (Elt F)) :=
  [ unary main_v34 main_v35 (Host.exp : (⟨S16x128x128x4x8, .f32⟩ : BufTy).Contents (Elt F) → (⟨S16x128x128x4x8, .f32⟩ : BufTy).Contents (Elt F)),
    binary main_v17 main_v18 main_v36 ((fun l r => Host.dotGeneral dot_S16x128x4x128_S16x128x4x128_S16x4x128x128_3_3_1_1_02_02 none l r) : (⟨S16x128x4x128, .f32⟩ : BufTy).Contents (Elt F) → (⟨S16x128x4x128, .f32⟩ : BufTy).Contents (Elt F) → (⟨S16x4x128x128, .f32⟩ : BufTy).Contents (Elt F)),
    unary main_v36 main_v37 ((transpose S16x128x128x4 [0, 3, 2, 1] · transposes_S16x4x128x128_S16x128x128x4_0_3_2_1) : (⟨S16x4x128x128, .f32⟩ : BufTy).Contents (Elt F) → (⟨S16x128x128x4, .f32⟩ : BufTy).Contents (Elt F)),
    unary main_v37 main_v38 (broadcastInDim S16x128x128x4x1 ![0, 1, 2, 3] bcast_S16x128x128x4_S16x128x128x4x1_0_1_2_3 : (⟨S16x128x128x4, .f32⟩ : BufTy).Contents (Elt F) → (⟨S16x128x128x4x1, .f32⟩ : BufTy).Contents (Elt F)),
    unary main_v38 main_v39 (broadcastInDim S16x128x128x4x8 ![0, 1, 2, 3, 4] bcast_S16x128x128x4x1_S16x128x128x4x8_0_1_2_3_4 : (⟨S16x128x128x4x1, .f32⟩ : BufTy).Contents (Elt F) → (⟨S16x128x128x4x8, .f32⟩ : BufTy).Contents (Elt F)),
    binary main_v39 main_v35 main_v40 (mulf : (⟨S16x128x128x4x8, .f32⟩ : BufTy).Contents (Elt F) → (⟨S16x128x128x4x8, .f32⟩ : BufTy).Contents (Elt F) → (⟨S16x128x128x4x8, .f32⟩ : BufTy).Contents (Elt F)),
    binary main_v21 main_v40 main_v41 ((fun l r => Host.dotGeneral dot_S16x128x4x8x64_S16x128x128x4x8_S16x4x8x64x128_1_2_4_1_023_034 none l r) : (⟨S16x128x4x8x64, .f32⟩ : BufTy).Contents (Elt F) → (⟨S16x128x128x4x8, .f32⟩ : BufTy).Contents (Elt F) → (⟨S16x4x8x64x128, .f32⟩ : BufTy).Contents (Elt F)),
    unary main_v41 main_v42 ((transpose S16x128x4x8x64 [0, 4, 1, 2, 3] · transposes_S16x4x8x64x128_S16x128x4x8x64_0_4_1_2_3) : (⟨S16x4x8x64x128, .f32⟩ : BufTy).Contents (Elt F) → (⟨S16x128x4x8x64, .f32⟩ : BufTy).Contents (Elt F)),
    unary main_v25 main_v43 ((extractStridedSlice S16x1x4x8 ![0, 127, 0, 0] · slices_S16x128x4x8_S16x1x4x8_0_127_0_0) : (⟨S16x128x4x8, .f32⟩ : BufTy).Contents (Elt F) → (⟨S16x1x4x8, .f32⟩ : BufTy).Contents (Elt F)),
    unary main_v43 main_v44 (broadcastInDim S16x128x4x8 ![0, 1, 2, 3] bcast_S16x1x4x8_S16x128x4x8_0_1_2_3 : (⟨S16x1x4x8, .f32⟩ : BufTy).Contents (Elt F) → (⟨S16x128x4x8, .f32⟩ : BufTy).Contents (Elt F)),
    binary main_v44 main_v25 main_v45 (subf : (⟨S16x128x4x8, .f32⟩ : BufTy).Contents (Elt F) → (⟨S16x128x4x8, .f32⟩ : BufTy).Contents (Elt F) → (⟨S16x128x4x8, .f32⟩ : BufTy).Contents (Elt F)),
    unary main_v45 main_v46 (Host.exp : (⟨S16x128x4x8, .f32⟩ : BufTy).Contents (Elt F) → (⟨S16x128x4x8, .f32⟩ : BufTy).Contents (Elt F)),
    unary main_v46 main_v47 (broadcastInDim S16x128x4x8x1 ![0, 1, 2, 3] bcast_S16x128x4x8_S16x128x4x8x1_0_1_2_3 : (⟨S16x128x4x8, .f32⟩ : BufTy).Contents (Elt F) → (⟨S16x128x4x8x1, .f32⟩ : BufTy).Contents (Elt F)),
    unary main_v47 main_v48 (broadcastInDim S16x128x4x8x64 ![0, 1, 2, 3, 4] bcast_S16x128x4x8x1_S16x128x4x8x64_0_1_2_3_4 : (⟨S16x128x4x8x1, .f32⟩ : BufTy).Contents (Elt F) → (⟨S16x128x4x8x64, .f32⟩ : BufTy).Contents (Elt F)),
    binary main_v21 main_v48 main_v49 (mulf : (⟨S16x128x4x8x64, .f32⟩ : BufTy).Contents (Elt F) → (⟨S16x128x4x8x64, .f32⟩ : BufTy).Contents (Elt F) → (⟨S16x128x4x8x64, .f32⟩ : BufTy).Contents (Elt F)),
    binary main_v49 main_v17 main_v50 ((fun l r => Host.dotGeneral dot_S16x128x4x8x64_S16x128x4x128_S16x4x8x64x128_1_1_34_3_02_02 none l r) : (⟨S16x128x4x8x64, .f32⟩ : BufTy).Contents (Elt F) → (⟨S16x128x4x128, .f32⟩ : BufTy).Contents (Elt F) → (⟨S16x4x8x64x128, .f32⟩ : BufTy).Contents (Elt F)),
    unary main_v25 main_v51 ((extractStridedSlice S16x1x4x8 ![0, 127, 0, 0] · slices_S16x128x4x8_S16x1x4x8_0_127_0_0) : (⟨S16x128x4x8, .f32⟩ : BufTy).Contents (Elt F) → (⟨S16x1x4x8, .f32⟩ : BufTy).Contents (Elt F)),
    reshape main_v51 main_v52 (rfl : (.f32 : EltTy) = .f32) shapeCasts_S16x1x4x8_S16x4x8,
    unary main_v52 main_v53 (Host.exp : (⟨S16x4x8, .f32⟩ : BufTy).Contents (Elt F) → (⟨S16x4x8, .f32⟩ : BufTy).Contents (Elt F)) ]
/-- The buffers after window 9. -/
def w9 : Valuation τ sig (Elt F) := after hostOps0_8_0 (w8 V0)
/-- The buffers that window 9 writes. -/
abbrev w9_W : List (Ref sig .tc) := [main_v35, main_v36, main_v37, main_v38, main_v39, main_v40, main_v41, main_v42, main_v43, main_v44, main_v45, main_v46, main_v47, main_v48, main_v49, main_v50, main_v51, main_v52, main_v53]
set_option maxRecDepth 8192 in
/-- Window 9 writes only the buffers of `w9_W`. -/
theorem w9_writes : (hostOps0_8_0 : List (HloOp τ sig (Elt F))).Forall fun op => op.writes ⊆ (w9_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [TRef.binary, TRef.nullary, TRef.ternary, TRef.unary, TRef.reshape, nullary_writes, unary_writes, binary_writes, ternary_writes, reshape_writes, nary_writes, Finset.singleton_subset_iff, List.mem_toFinset]
     exact List.mem_map_of_mem (by decide))
/-- A buffer that window 9 does not write keeps its contents through it. -/
theorem w9_keep (r : Ref sig .tc) (h : r ∉ w9_W) :
    w9 V0 (Proc.devRef .tc r) = w8 V0 (Proc.devRef .tc r) :=
  after_of_writes_sub hostOps0_8_0 _ w9_writes h
set_option maxRecDepth 8192 in
set_option maxHeartbeats 2000000 in
/-- After window 9, `main_v42` holds stage `val_main_v43`. -/
theorem w9_main_v42 : w9 V0 (no_index (Proc.devRef .tc main_v42)) = (Cert.ReferenceIdeal.Read.val_main_v43 (F := F) (V0 (Proc.devRef .tc main_arg0)) (V0 (Proc.devRef .tc main_arg1)) (V0 (Proc.devRef .tc main_arg2)) (V0 (Proc.devRef .tc main_arg3))) := by
  unfold w9
  simp only [hostOps0_8_0]
  after_results_simp
  simp only [w8_main_v21, w8_main_v34, w8_main_v17, w8_main_v18] <;> rfl
set_option maxRecDepth 8192 in
set_option maxHeartbeats 2000000 in
/-- After window 9, `main_v50` holds stage `val_main_v51`. -/
theorem w9_main_v50 : w9 V0 (no_index (Proc.devRef .tc main_v50)) = (Cert.ReferenceIdeal.Read.val_main_v51 (F := F) (V0 (Proc.devRef .tc main_arg0)) (V0 (Proc.devRef .tc main_arg1)) (V0 (Proc.devRef .tc main_arg2)) (V0 (Proc.devRef .tc main_arg3))) := by
  unfold w9
  simp only [hostOps0_8_0]
  after_results_simp
  simp only [w8_main_v17, w8_main_v21, w8_main_v25] <;> rfl
set_option maxRecDepth 8192 in
set_option maxHeartbeats 2000000 in
/-- After window 9, `main_v53` holds stage `val_main_v54`. -/
theorem w9_main_v53 : w9 V0 (no_index (Proc.devRef .tc main_v53)) = (Cert.ReferenceIdeal.Read.val_main_v54 (F := F) (V0 (Proc.devRef .tc main_arg0)) (V0 (Proc.devRef .tc main_arg2)) (V0 (Proc.devRef .tc main_arg3))) := by
  unfold w9
  simp only [hostOps0_8_0]
  after_results_simp
  simp only [w8_main_v25] <;> rfl
/-- Operations 20 to 38 of the long window. -/
abbrev hostOps0_8_1 : List (HloOp τ sig (Elt F)) :=
  [ nullary main_cst_0 (constant S_ .f32 0x00000000#32),
    unary main_cst_0 main_v54 (broadcastInDim S4x8x64x128 ![] bcast_S_S4x8x64x128 : (⟨S_, .f32⟩ : BufTy).Contents (Elt F) → (⟨S4x8x64x128, .f32⟩ : BufTy).Contents (Elt F)),
    unary main_v50 main_v55 ((extractStridedSlice S0x4x8x64x128 ![0, 0, 0, 0, 0] · slices_S16x4x8x64x128_S0x4x8x64x128_0_0_0_0_0) : (⟨S16x4x8x64x128, .f32⟩ : BufTy).Contents (Elt F) → (⟨S0x4x8x64x128, .f32⟩ : BufTy).Contents (Elt F)),
    unary main_v50 main_v56 ((extractStridedSlice S16x4x8x64x128 ![0, 0, 0, 0, 0] · slices_S16x4x8x64x128_S16x4x8x64x128_0_0_0_0_0) : (⟨S16x4x8x64x128, .f32⟩ : BufTy).Contents (Elt F) → (⟨S16x4x8x64x128, .f32⟩ : BufTy).Contents (Elt F)),
    unary main_v53 main_v57 ((extractStridedSlice S0x4x8 ![0, 0, 0] · slices_S16x4x8_S0x4x8_0_0_0) : (⟨S16x4x8, .f32⟩ : BufTy).Contents (Elt F) → (⟨S0x4x8, .f32⟩ : BufTy).Contents (Elt F)),
    unary main_v53 main_v58 ((extractStridedSlice S16x4x8 ![0, 0, 0] · slices_S16x4x8_S16x4x8_0_0_0) : (⟨S16x4x8, .f32⟩ : BufTy).Contents (Elt F) → (⟨S16x4x8, .f32⟩ : BufTy).Contents (Elt F)),
    nullary main_cst_1 (constant S_ .f32 0x00000000#32),
    unary main_cst_1 main_v59 (broadcastInDim S0x4x8x64x128 ![] bcast_S_S0x4x8x64x128 : (⟨S_, .f32⟩ : BufTy).Contents (Elt F) → (⟨S0x4x8x64x128, .f32⟩ : BufTy).Contents (Elt F)),
    unary main_v56 main_v60 ((extractStridedSlice S1x4x8x64x128 ![0, 0, 0, 0, 0] · slices_S16x4x8x64x128_S1x4x8x64x128_0_0_0_0_0) : (⟨S16x4x8x64x128, .f32⟩ : BufTy).Contents (Elt F) → (⟨S1x4x8x64x128, .f32⟩ : BufTy).Contents (Elt F)),
    reshape main_v60 main_v61 (rfl : (.f32 : EltTy) = .f32) shapeCasts_S1x4x8x64x128_S4x8x64x128,
    unary main_v58 main_v62 ((extractStridedSlice S1x4x8 ![0, 0, 0] · slices_S16x4x8_S1x4x8_0_0_0) : (⟨S16x4x8, .f32⟩ : BufTy).Contents (Elt F) → (⟨S1x4x8, .f32⟩ : BufTy).Contents (Elt F)),
    reshape main_v62 main_v63 (rfl : (.f32 : EltTy) = .f32) shapeCasts_S1x4x8_S4x8,
    unary main_v63 main_v64 (broadcastInDim S4x8x1x1 ![0, 1] bcast_S4x8_S4x8x1x1_0_1 : (⟨S4x8, .f32⟩ : BufTy).Contents (Elt F) → (⟨S4x8x1x1, .f32⟩ : BufTy).Contents (Elt F)),
    unary main_v64 main_v65 (broadcastInDim S4x8x64x128 ![0, 1, 2, 3] bcast_S4x8x1x1_S4x8x64x128_0_1_2_3 : (⟨S4x8x1x1, .f32⟩ : BufTy).Contents (Elt F) → (⟨S4x8x64x128, .f32⟩ : BufTy).Contents (Elt F)),
    binary main_v54 main_v65 main_v66 (mulf : (⟨S4x8x64x128, .f32⟩ : BufTy).Contents (Elt F) → (⟨S4x8x64x128, .f32⟩ : BufTy).Contents (Elt F) → (⟨S4x8x64x128, .f32⟩ : BufTy).Contents (Elt F)),
    binary main_v66 main_v61 main_v67 (addf : (⟨S4x8x64x128, .f32⟩ : BufTy).Contents (Elt F) → (⟨S4x8x64x128, .f32⟩ : BufTy).Contents (Elt F) → (⟨S4x8x64x128, .f32⟩ : BufTy).Contents (Elt F)),
    unary main_v56 main_v68 ((extractStridedSlice S1x4x8x64x128 ![1, 0, 0, 0, 0] · slices_S16x4x8x64x128_S1x4x8x64x128_1_0_0_0_0) : (⟨S16x4x8x64x128, .f32⟩ : BufTy).Contents (Elt F) → (⟨S1x4x8x64x128, .f32⟩ : BufTy).Contents (Elt F)),
    reshape main_v68 main_v69 (rfl : (.f32 : EltTy) = .f32) shapeCasts_S1x4x8x64x128_S4x8x64x128,
    unary main_v58 main_v70 ((extractStridedSlice S1x4x8 ![1, 0, 0] · slices_S16x4x8_S1x4x8_1_0_0) : (⟨S16x4x8, .f32⟩ : BufTy).Contents (Elt F) → (⟨S1x4x8, .f32⟩ : BufTy).Contents (Elt F)) ]
/-- The buffers after window 10. -/
def w10 : Valuation τ sig (Elt F) := after hostOps0_8_1 (w9 V0)
/-- The buffers that window 10 writes. -/
abbrev w10_W : List (Ref sig .tc) := [main_cst_0, main_v54, main_v55, main_v56, main_v57, main_v58, main_cst_1, main_v59, main_v60, main_v61, main_v62, main_v63, main_v64, main_v65, main_v66, main_v67, main_v68, main_v69, main_v70]
set_option maxRecDepth 8192 in
/-- Window 10 writes only the buffers of `w10_W`. -/
theorem w10_writes : (hostOps0_8_1 : List (HloOp τ sig (Elt F))).Forall fun op => op.writes ⊆ (w10_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [TRef.binary, TRef.nullary, TRef.ternary, TRef.unary, TRef.reshape, nullary_writes, unary_writes, binary_writes, ternary_writes, reshape_writes, nary_writes, Finset.singleton_subset_iff, List.mem_toFinset]
     exact List.mem_map_of_mem (by decide))
/-- A buffer that window 10 does not write keeps its contents through it. -/
theorem w10_keep (r : Ref sig .tc) (h : r ∉ w10_W) :
    w10 V0 (Proc.devRef .tc r) = w9 V0 (Proc.devRef .tc r) :=
  after_of_writes_sub hostOps0_8_1 _ w10_writes h
set_option maxRecDepth 8192 in
set_option maxHeartbeats 2000000 in
/-- After window 10, `main_v54` holds stage `val_main_v55`. -/
theorem w10_main_v54 : w10 V0 (no_index (Proc.devRef .tc main_v54)) = (Cert.ReferenceIdeal.Read.val_main_v55 (F := F)) := by
  unfold w10
  simp only [hostOps0_8_1]
  after_results_simp
  try rfl
set_option maxRecDepth 8192 in
set_option maxHeartbeats 2000000 in
/-- After window 10, `main_v56` holds stage `val_main_v57`. -/
theorem w10_main_v56 : w10 V0 (no_index (Proc.devRef .tc main_v56)) = (Cert.ReferenceIdeal.Read.val_main_v57 (F := F) (V0 (Proc.devRef .tc main_arg0)) (V0 (Proc.devRef .tc main_arg1)) (V0 (Proc.devRef .tc main_arg2)) (V0 (Proc.devRef .tc main_arg3))) := by
  unfold w10
  simp only [hostOps0_8_1]
  after_results_simp
  simp only [w9_main_v50] <;> rfl
set_option maxRecDepth 8192 in
set_option maxHeartbeats 2000000 in
/-- After window 10, `main_v58` holds stage `val_main_v59`. -/
theorem w10_main_v58 : w10 V0 (no_index (Proc.devRef .tc main_v58)) = (Cert.ReferenceIdeal.Read.val_main_v59 (F := F) (V0 (Proc.devRef .tc main_arg0)) (V0 (Proc.devRef .tc main_arg2)) (V0 (Proc.devRef .tc main_arg3))) := by
  unfold w10
  simp only [hostOps0_8_1]
  after_results_simp
  simp only [w9_main_v53] <;> rfl
set_option maxRecDepth 8192 in
set_option maxHeartbeats 2000000 in
/-- After window 10, `main_v59` holds stage `val_main_v60`. -/
theorem w10_main_v59 : w10 V0 (no_index (Proc.devRef .tc main_v59)) = (Cert.ReferenceIdeal.Read.val_main_v60 (F := F)) := by
  unfold w10
  simp only [hostOps0_8_1]
  after_results_simp
  try rfl
set_option maxRecDepth 8192 in
set_option maxHeartbeats 2000000 in
/-- After window 10, `main_v67` holds stage `val_main_v69`. -/
theorem w10_main_v67 : w10 V0 (no_index (Proc.devRef .tc main_v67)) = (Cert.ReferenceIdeal.Read.val_main_v69 (F := F) (V0 (Proc.devRef .tc main_arg0)) (V0 (Proc.devRef .tc main_arg1)) (V0 (Proc.devRef .tc main_arg2)) (V0 (Proc.devRef .tc main_arg3))) := by
  unfold w10
  simp only [hostOps0_8_1]
  after_results_simp
  simp only [w9_main_v50, w9_main_v53] <;> rfl
set_option maxRecDepth 8192 in
set_option maxHeartbeats 2000000 in
/-- After window 10, `main_v69` holds stage `val_main_v71`. -/
theorem w10_main_v69 : w10 V0 (no_index (Proc.devRef .tc main_v69)) = (Cert.ReferenceIdeal.Read.val_main_v71 (F := F) (V0 (Proc.devRef .tc main_arg0)) (V0 (Proc.devRef .tc main_arg1)) (V0 (Proc.devRef .tc main_arg2)) (V0 (Proc.devRef .tc main_arg3))) := by
  unfold w10
  simp only [hostOps0_8_1]
  after_results_simp
  simp only [w9_main_v50] <;> rfl
set_option maxRecDepth 8192 in
set_option maxHeartbeats 2000000 in
/-- After window 10, `main_v70` holds stage `val_main_v72`. -/
theorem w10_main_v70 : w10 V0 (no_index (Proc.devRef .tc main_v70)) = (Cert.ReferenceIdeal.Read.val_main_v72 (F := F) (V0 (Proc.devRef .tc main_arg0)) (V0 (Proc.devRef .tc main_arg2)) (V0 (Proc.devRef .tc main_arg3))) := by
  unfold w10
  simp only [hostOps0_8_1]
  after_results_simp
  simp only [w9_main_v53] <;> rfl
/-- Operations 39 to 57 of the long window. -/
abbrev hostOps0_8_2 : List (HloOp τ sig (Elt F)) :=
  [ reshape main_v70 main_v71 (rfl : (.f32 : EltTy) = .f32) shapeCasts_S1x4x8_S4x8,
    unary main_v71 main_v72 (broadcastInDim S4x8x1x1 ![0, 1] bcast_S4x8_S4x8x1x1_0_1 : (⟨S4x8, .f32⟩ : BufTy).Contents (Elt F) → (⟨S4x8x1x1, .f32⟩ : BufTy).Contents (Elt F)),
    unary main_v72 main_v73 (broadcastInDim S4x8x64x128 ![0, 1, 2, 3] bcast_S4x8x1x1_S4x8x64x128_0_1_2_3 : (⟨S4x8x1x1, .f32⟩ : BufTy).Contents (Elt F) → (⟨S4x8x64x128, .f32⟩ : BufTy).Contents (Elt F)),
    binary main_v67 main_v73 main_v74 (mulf : (⟨S4x8x64x128, .f32⟩ : BufTy).Contents (Elt F) → (⟨S4x8x64x128, .f32⟩ : BufTy).Contents (Elt F) → (⟨S4x8x64x128, .f32⟩ : BufTy).Contents (Elt F)),
    binary main_v74 main_v69 main_v75 (addf : (⟨S4x8x64x128, .f32⟩ : BufTy).Contents (Elt F) → (⟨S4x8x64x128, .f32⟩ : BufTy).Contents (Elt F) → (⟨S4x8x64x128, .f32⟩ : BufTy).Contents (Elt F)),
    unary main_v56 main_v76 ((extractStridedSlice S1x4x8x64x128 ![2, 0, 0, 0, 0] · slices_S16x4x8x64x128_S1x4x8x64x128_2_0_0_0_0) : (⟨S16x4x8x64x128, .f32⟩ : BufTy).Contents (Elt F) → (⟨S1x4x8x64x128, .f32⟩ : BufTy).Contents (Elt F)),
    reshape main_v76 main_v77 (rfl : (.f32 : EltTy) = .f32) shapeCasts_S1x4x8x64x128_S4x8x64x128,
    unary main_v58 main_v78 ((extractStridedSlice S1x4x8 ![2, 0, 0] · slices_S16x4x8_S1x4x8_2_0_0) : (⟨S16x4x8, .f32⟩ : BufTy).Contents (Elt F) → (⟨S1x4x8, .f32⟩ : BufTy).Contents (Elt F)),
    reshape main_v78 main_v79 (rfl : (.f32 : EltTy) = .f32) shapeCasts_S1x4x8_S4x8,
    unary main_v79 main_v80 (broadcastInDim S4x8x1x1 ![0, 1] bcast_S4x8_S4x8x1x1_0_1 : (⟨S4x8, .f32⟩ : BufTy).Contents (Elt F) → (⟨S4x8x1x1, .f32⟩ : BufTy).Contents (Elt F)),
    unary main_v80 main_v81 (broadcastInDim S4x8x64x128 ![0, 1, 2, 3] bcast_S4x8x1x1_S4x8x64x128_0_1_2_3 : (⟨S4x8x1x1, .f32⟩ : BufTy).Contents (Elt F) → (⟨S4x8x64x128, .f32⟩ : BufTy).Contents (Elt F)),
    binary main_v75 main_v81 main_v82 (mulf : (⟨S4x8x64x128, .f32⟩ : BufTy).Contents (Elt F) → (⟨S4x8x64x128, .f32⟩ : BufTy).Contents (Elt F) → (⟨S4x8x64x128, .f32⟩ : BufTy).Contents (Elt F)),
    binary main_v82 main_v77 main_v83 (addf : (⟨S4x8x64x128, .f32⟩ : BufTy).Contents (Elt F) → (⟨S4x8x64x128, .f32⟩ : BufTy).Contents (Elt F) → (⟨S4x8x64x128, .f32⟩ : BufTy).Contents (Elt F)),
    unary main_v56 main_v84 ((extractStridedSlice S1x4x8x64x128 ![3, 0, 0, 0, 0] · slices_S16x4x8x64x128_S1x4x8x64x128_3_0_0_0_0) : (⟨S16x4x8x64x128, .f32⟩ : BufTy).Contents (Elt F) → (⟨S1x4x8x64x128, .f32⟩ : BufTy).Contents (Elt F)),
    reshape main_v84 main_v85 (rfl : (.f32 : EltTy) = .f32) shapeCasts_S1x4x8x64x128_S4x8x64x128,
    unary main_v58 main_v86 ((extractStridedSlice S1x4x8 ![3, 0, 0] · slices_S16x4x8_S1x4x8_3_0_0) : (⟨S16x4x8, .f32⟩ : BufTy).Contents (Elt F) → (⟨S1x4x8, .f32⟩ : BufTy).Contents (Elt F)),
    reshape main_v86 main_v87 (rfl : (.f32 : EltTy) = .f32) shapeCasts_S1x4x8_S4x8,
    unary main_v87 main_v88 (broadcastInDim S4x8x1x1 ![0, 1] bcast_S4x8_S4x8x1x1_0_1 : (⟨S4x8, .f32⟩ : BufTy).Contents (Elt F) → (⟨S4x8x1x1, .f32⟩ : BufTy).Contents (Elt F)),
    unary main_v88 main_v89 (broadcastInDim S4x8x64x128 ![0, 1, 2, 3] bcast_S4x8x1x1_S4x8x64x128_0_1_2_3 : (⟨S4x8x1x1, .f32⟩ : BufTy).Contents (Elt F) → (⟨S4x8x64x128, .f32⟩ : BufTy).Contents (Elt F)) ]
/-- The buffers after window 11. -/
def w11 : Valuation τ sig (Elt F) := after hostOps0_8_2 (w10 V0)
/-- The buffers that window 11 writes. -/
abbrev w11_W : List (Ref sig .tc) := [main_v71, main_v72, main_v73, main_v74, main_v75, main_v76, main_v77, main_v78, main_v79, main_v80, main_v81, main_v82, main_v83, main_v84, main_v85, main_v86, main_v87, main_v88, main_v89]
set_option maxRecDepth 8192 in
/-- Window 11 writes only the buffers of `w11_W`. -/
theorem w11_writes : (hostOps0_8_2 : List (HloOp τ sig (Elt F))).Forall fun op => op.writes ⊆ (w11_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [TRef.binary, TRef.nullary, TRef.ternary, TRef.unary, TRef.reshape, nullary_writes, unary_writes, binary_writes, ternary_writes, reshape_writes, nary_writes, Finset.singleton_subset_iff, List.mem_toFinset]
     exact List.mem_map_of_mem (by decide))
/-- A buffer that window 11 does not write keeps its contents through it. -/
theorem w11_keep (r : Ref sig .tc) (h : r ∉ w11_W) :
    w11 V0 (Proc.devRef .tc r) = w10 V0 (Proc.devRef .tc r) :=
  after_of_writes_sub hostOps0_8_2 _ w11_writes h
/-- After window 11, `main_v56` holds stage `val_main_v57`. -/
theorem w11_main_v56 : w11 V0 (no_index (Proc.devRef .tc main_v56)) = (Cert.ReferenceIdeal.Read.val_main_v57 (F := F) (V0 (Proc.devRef .tc main_arg0)) (V0 (Proc.devRef .tc main_arg1)) (V0 (Proc.devRef .tc main_arg2)) (V0 (Proc.devRef .tc main_arg3))) :=
  (w11_keep V0 main_v56 (by decide)).trans (w10_main_v56 V0)
/-- After window 11, `main_v58` holds stage `val_main_v59`. -/
theorem w11_main_v58 : w11 V0 (no_index (Proc.devRef .tc main_v58)) = (Cert.ReferenceIdeal.Read.val_main_v59 (F := F) (V0 (Proc.devRef .tc main_arg0)) (V0 (Proc.devRef .tc main_arg2)) (V0 (Proc.devRef .tc main_arg3))) :=
  (w11_keep V0 main_v58 (by decide)).trans (w10_main_v58 V0)
set_option maxRecDepth 8192 in
set_option maxHeartbeats 2000000 in
/-- After window 11, `main_v75` holds stage `val_main_v77`. -/
theorem w11_main_v75 : w11 V0 (no_index (Proc.devRef .tc main_v75)) = (Cert.ReferenceIdeal.Read.val_main_v77 (F := F) (V0 (Proc.devRef .tc main_arg0)) (V0 (Proc.devRef .tc main_arg1)) (V0 (Proc.devRef .tc main_arg2)) (V0 (Proc.devRef .tc main_arg3))) := by
  unfold w11
  simp only [hostOps0_8_2]
  after_results_simp
  simp only [w10_main_v69, w10_main_v67, w10_main_v70] <;> rfl
set_option maxRecDepth 8192 in
set_option maxHeartbeats 2000000 in
/-- After window 11, `main_v83` holds stage `val_main_v85`. -/
theorem w11_main_v83 : w11 V0 (no_index (Proc.devRef .tc main_v83)) = (Cert.ReferenceIdeal.Read.val_main_v85 (F := F) (V0 (Proc.devRef .tc main_arg0)) (V0 (Proc.devRef .tc main_arg1)) (V0 (Proc.devRef .tc main_arg2)) (V0 (Proc.devRef .tc main_arg3))) := by
  unfold w11
  simp only [hostOps0_8_2]
  after_results_simp
  simp only [w10_main_v56, w10_main_v58, w10_main_v69, w10_main_v67, w10_main_v70] <;> rfl
set_option maxRecDepth 8192 in
set_option maxHeartbeats 2000000 in
/-- After window 11, `main_v85` holds stage `val_main_v87`. -/
theorem w11_main_v85 : w11 V0 (no_index (Proc.devRef .tc main_v85)) = (Cert.ReferenceIdeal.Read.val_main_v87 (F := F) (V0 (Proc.devRef .tc main_arg0)) (V0 (Proc.devRef .tc main_arg1)) (V0 (Proc.devRef .tc main_arg2)) (V0 (Proc.devRef .tc main_arg3))) := by
  unfold w11
  simp only [hostOps0_8_2]
  after_results_simp
  simp only [w10_main_v56] <;> rfl
set_option maxRecDepth 8192 in
set_option maxHeartbeats 2000000 in
/-- After window 11, `main_v89` holds stage `val_main_v91`. -/
theorem w11_main_v89 : w11 V0 (no_index (Proc.devRef .tc main_v89)) = (Cert.ReferenceIdeal.Read.val_main_v91 (F := F) (V0 (Proc.devRef .tc main_arg0)) (V0 (Proc.devRef .tc main_arg2)) (V0 (Proc.devRef .tc main_arg3))) := by
  unfold w11
  simp only [hostOps0_8_2]
  after_results_simp
  simp only [w10_main_v58] <;> rfl
/-- Operations 58 to 76 of the long window. -/
abbrev hostOps0_8_3 : List (HloOp τ sig (Elt F)) :=
  [ binary main_v83 main_v89 main_v90 (mulf : (⟨S4x8x64x128, .f32⟩ : BufTy).Contents (Elt F) → (⟨S4x8x64x128, .f32⟩ : BufTy).Contents (Elt F) → (⟨S4x8x64x128, .f32⟩ : BufTy).Contents (Elt F)),
    binary main_v90 main_v85 main_v91 (addf : (⟨S4x8x64x128, .f32⟩ : BufTy).Contents (Elt F) → (⟨S4x8x64x128, .f32⟩ : BufTy).Contents (Elt F) → (⟨S4x8x64x128, .f32⟩ : BufTy).Contents (Elt F)),
    unary main_v56 main_v92 ((extractStridedSlice S1x4x8x64x128 ![4, 0, 0, 0, 0] · slices_S16x4x8x64x128_S1x4x8x64x128_4_0_0_0_0) : (⟨S16x4x8x64x128, .f32⟩ : BufTy).Contents (Elt F) → (⟨S1x4x8x64x128, .f32⟩ : BufTy).Contents (Elt F)),
    reshape main_v92 main_v93 (rfl : (.f32 : EltTy) = .f32) shapeCasts_S1x4x8x64x128_S4x8x64x128,
    unary main_v58 main_v94 ((extractStridedSlice S1x4x8 ![4, 0, 0] · slices_S16x4x8_S1x4x8_4_0_0) : (⟨S16x4x8, .f32⟩ : BufTy).Contents (Elt F) → (⟨S1x4x8, .f32⟩ : BufTy).Contents (Elt F)),
    reshape main_v94 main_v95 (rfl : (.f32 : EltTy) = .f32) shapeCasts_S1x4x8_S4x8,
    unary main_v95 main_v96 (broadcastInDim S4x8x1x1 ![0, 1] bcast_S4x8_S4x8x1x1_0_1 : (⟨S4x8, .f32⟩ : BufTy).Contents (Elt F) → (⟨S4x8x1x1, .f32⟩ : BufTy).Contents (Elt F)),
    unary main_v96 main_v97 (broadcastInDim S4x8x64x128 ![0, 1, 2, 3] bcast_S4x8x1x1_S4x8x64x128_0_1_2_3 : (⟨S4x8x1x1, .f32⟩ : BufTy).Contents (Elt F) → (⟨S4x8x64x128, .f32⟩ : BufTy).Contents (Elt F)),
    binary main_v91 main_v97 main_v98 (mulf : (⟨S4x8x64x128, .f32⟩ : BufTy).Contents (Elt F) → (⟨S4x8x64x128, .f32⟩ : BufTy).Contents (Elt F) → (⟨S4x8x64x128, .f32⟩ : BufTy).Contents (Elt F)),
    binary main_v98 main_v93 main_v99 (addf : (⟨S4x8x64x128, .f32⟩ : BufTy).Contents (Elt F) → (⟨S4x8x64x128, .f32⟩ : BufTy).Contents (Elt F) → (⟨S4x8x64x128, .f32⟩ : BufTy).Contents (Elt F)),
    unary main_v56 main_v100 ((extractStridedSlice S1x4x8x64x128 ![5, 0, 0, 0, 0] · slices_S16x4x8x64x128_S1x4x8x64x128_5_0_0_0_0) : (⟨S16x4x8x64x128, .f32⟩ : BufTy).Contents (Elt F) → (⟨S1x4x8x64x128, .f32⟩ : BufTy).Contents (Elt F)),
    reshape main_v100 main_v101 (rfl : (.f32 : EltTy) = .f32) shapeCasts_S1x4x8x64x128_S4x8x64x128,
    unary main_v58 main_v102 ((extractStridedSlice S1x4x8 ![5, 0, 0] · slices_S16x4x8_S1x4x8_5_0_0) : (⟨S16x4x8, .f32⟩ : BufTy).Contents (Elt F) → (⟨S1x4x8, .f32⟩ : BufTy).Contents (Elt F)),
    reshape main_v102 main_v103 (rfl : (.f32 : EltTy) = .f32) shapeCasts_S1x4x8_S4x8,
    unary main_v103 main_v104 (broadcastInDim S4x8x1x1 ![0, 1] bcast_S4x8_S4x8x1x1_0_1 : (⟨S4x8, .f32⟩ : BufTy).Contents (Elt F) → (⟨S4x8x1x1, .f32⟩ : BufTy).Contents (Elt F)),
    unary main_v104 main_v105 (broadcastInDim S4x8x64x128 ![0, 1, 2, 3] bcast_S4x8x1x1_S4x8x64x128_0_1_2_3 : (⟨S4x8x1x1, .f32⟩ : BufTy).Contents (Elt F) → (⟨S4x8x64x128, .f32⟩ : BufTy).Contents (Elt F)),
    binary main_v99 main_v105 main_v106 (mulf : (⟨S4x8x64x128, .f32⟩ : BufTy).Contents (Elt F) → (⟨S4x8x64x128, .f32⟩ : BufTy).Contents (Elt F) → (⟨S4x8x64x128, .f32⟩ : BufTy).Contents (Elt F)),
    binary main_v106 main_v101 main_v107 (addf : (⟨S4x8x64x128, .f32⟩ : BufTy).Contents (Elt F) → (⟨S4x8x64x128, .f32⟩ : BufTy).Contents (Elt F) → (⟨S4x8x64x128, .f32⟩ : BufTy).Contents (Elt F)),
    unary main_v56 main_v108 ((extractStridedSlice S1x4x8x64x128 ![6, 0, 0, 0, 0] · slices_S16x4x8x64x128_S1x4x8x64x128_6_0_0_0_0) : (⟨S16x4x8x64x128, .f32⟩ : BufTy).Contents (Elt F) → (⟨S1x4x8x64x128, .f32⟩ : BufTy).Contents (Elt F)) ]
/-- The buffers after window 12. -/
def w12 : Valuation τ sig (Elt F) := after hostOps0_8_3 (w11 V0)
/-- The buffers that window 12 writes. -/
abbrev w12_W : List (Ref sig .tc) := [main_v90, main_v91, main_v92, main_v93, main_v94, main_v95, main_v96, main_v97, main_v98, main_v99, main_v100, main_v101, main_v102, main_v103, main_v104, main_v105, main_v106, main_v107, main_v108]
set_option maxRecDepth 8192 in
/-- Window 12 writes only the buffers of `w12_W`. -/
theorem w12_writes : (hostOps0_8_3 : List (HloOp τ sig (Elt F))).Forall fun op => op.writes ⊆ (w12_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [TRef.binary, TRef.nullary, TRef.ternary, TRef.unary, TRef.reshape, nullary_writes, unary_writes, binary_writes, ternary_writes, reshape_writes, nary_writes, Finset.singleton_subset_iff, List.mem_toFinset]
     exact List.mem_map_of_mem (by decide))
/-- A buffer that window 12 does not write keeps its contents through it. -/
theorem w12_keep (r : Ref sig .tc) (h : r ∉ w12_W) :
    w12 V0 (Proc.devRef .tc r) = w11 V0 (Proc.devRef .tc r) :=
  after_of_writes_sub hostOps0_8_3 _ w12_writes h
/-- After window 12, `main_v56` holds stage `val_main_v57`. -/
theorem w12_main_v56 : w12 V0 (no_index (Proc.devRef .tc main_v56)) = (Cert.ReferenceIdeal.Read.val_main_v57 (F := F) (V0 (Proc.devRef .tc main_arg0)) (V0 (Proc.devRef .tc main_arg1)) (V0 (Proc.devRef .tc main_arg2)) (V0 (Proc.devRef .tc main_arg3))) :=
  (w12_keep V0 main_v56 (by decide)).trans (w11_main_v56 V0)
/-- After window 12, `main_v58` holds stage `val_main_v59`. -/
theorem w12_main_v58 : w12 V0 (no_index (Proc.devRef .tc main_v58)) = (Cert.ReferenceIdeal.Read.val_main_v59 (F := F) (V0 (Proc.devRef .tc main_arg0)) (V0 (Proc.devRef .tc main_arg2)) (V0 (Proc.devRef .tc main_arg3))) :=
  (w12_keep V0 main_v58 (by decide)).trans (w11_main_v58 V0)
set_option maxRecDepth 8192 in
set_option maxHeartbeats 2000000 in
/-- After window 12, `main_v91` holds stage `val_main_v93`. -/
theorem w12_main_v91 : w12 V0 (no_index (Proc.devRef .tc main_v91)) = (Cert.ReferenceIdeal.Read.val_main_v93 (F := F) (V0 (Proc.devRef .tc main_arg0)) (V0 (Proc.devRef .tc main_arg1)) (V0 (Proc.devRef .tc main_arg2)) (V0 (Proc.devRef .tc main_arg3))) := by
  unfold w12
  simp only [hostOps0_8_3]
  after_results_simp
  simp only [w11_main_v85, w11_main_v83, w11_main_v89] <;> rfl
set_option maxRecDepth 8192 in
set_option maxHeartbeats 2000000 in
/-- After window 12, `main_v99` holds stage `val_main_v101`. -/
theorem w12_main_v99 : w12 V0 (no_index (Proc.devRef .tc main_v99)) = (Cert.ReferenceIdeal.Read.val_main_v101 (F := F) (V0 (Proc.devRef .tc main_arg0)) (V0 (Proc.devRef .tc main_arg1)) (V0 (Proc.devRef .tc main_arg2)) (V0 (Proc.devRef .tc main_arg3))) := by
  unfold w12
  simp only [hostOps0_8_3]
  after_results_simp
  simp only [w11_main_v56, w11_main_v58, w11_main_v85, w11_main_v83, w11_main_v89] <;> rfl
set_option maxRecDepth 8192 in
set_option maxHeartbeats 2000000 in
/-- After window 12, `main_v107` holds stage `val_main_v109`. -/
theorem w12_main_v107 : w12 V0 (no_index (Proc.devRef .tc main_v107)) = (Cert.ReferenceIdeal.Read.val_main_v109 (F := F) (V0 (Proc.devRef .tc main_arg0)) (V0 (Proc.devRef .tc main_arg1)) (V0 (Proc.devRef .tc main_arg2)) (V0 (Proc.devRef .tc main_arg3))) := by
  unfold w12
  simp only [hostOps0_8_3]
  after_results_simp
  simp only [w11_main_v56, w11_main_v58, w11_main_v85, w11_main_v83, w11_main_v89] <;> rfl
set_option maxRecDepth 8192 in
set_option maxHeartbeats 2000000 in
/-- After window 12, `main_v108` holds stage `val_main_v110`. -/
theorem w12_main_v108 : w12 V0 (no_index (Proc.devRef .tc main_v108)) = (Cert.ReferenceIdeal.Read.val_main_v110 (F := F) (V0 (Proc.devRef .tc main_arg0)) (V0 (Proc.devRef .tc main_arg1)) (V0 (Proc.devRef .tc main_arg2)) (V0 (Proc.devRef .tc main_arg3))) := by
  unfold w12
  simp only [hostOps0_8_3]
  after_results_simp
  simp only [w11_main_v56] <;> rfl
/-- Operations 77 to 95 of the long window. -/
abbrev hostOps0_8_4 : List (HloOp τ sig (Elt F)) :=
  [ reshape main_v108 main_v109 (rfl : (.f32 : EltTy) = .f32) shapeCasts_S1x4x8x64x128_S4x8x64x128,
    unary main_v58 main_v110 ((extractStridedSlice S1x4x8 ![6, 0, 0] · slices_S16x4x8_S1x4x8_6_0_0) : (⟨S16x4x8, .f32⟩ : BufTy).Contents (Elt F) → (⟨S1x4x8, .f32⟩ : BufTy).Contents (Elt F)),
    reshape main_v110 main_v111 (rfl : (.f32 : EltTy) = .f32) shapeCasts_S1x4x8_S4x8,
    unary main_v111 main_v112 (broadcastInDim S4x8x1x1 ![0, 1] bcast_S4x8_S4x8x1x1_0_1 : (⟨S4x8, .f32⟩ : BufTy).Contents (Elt F) → (⟨S4x8x1x1, .f32⟩ : BufTy).Contents (Elt F)),
    unary main_v112 main_v113 (broadcastInDim S4x8x64x128 ![0, 1, 2, 3] bcast_S4x8x1x1_S4x8x64x128_0_1_2_3 : (⟨S4x8x1x1, .f32⟩ : BufTy).Contents (Elt F) → (⟨S4x8x64x128, .f32⟩ : BufTy).Contents (Elt F)),
    binary main_v107 main_v113 main_v114 (mulf : (⟨S4x8x64x128, .f32⟩ : BufTy).Contents (Elt F) → (⟨S4x8x64x128, .f32⟩ : BufTy).Contents (Elt F) → (⟨S4x8x64x128, .f32⟩ : BufTy).Contents (Elt F)),
    binary main_v114 main_v109 main_v115 (addf : (⟨S4x8x64x128, .f32⟩ : BufTy).Contents (Elt F) → (⟨S4x8x64x128, .f32⟩ : BufTy).Contents (Elt F) → (⟨S4x8x64x128, .f32⟩ : BufTy).Contents (Elt F)),
    unary main_v56 main_v116 ((extractStridedSlice S1x4x8x64x128 ![7, 0, 0, 0, 0] · slices_S16x4x8x64x128_S1x4x8x64x128_7_0_0_0_0) : (⟨S16x4x8x64x128, .f32⟩ : BufTy).Contents (Elt F) → (⟨S1x4x8x64x128, .f32⟩ : BufTy).Contents (Elt F)),
    reshape main_v116 main_v117 (rfl : (.f32 : EltTy) = .f32) shapeCasts_S1x4x8x64x128_S4x8x64x128,
    unary main_v58 main_v118 ((extractStridedSlice S1x4x8 ![7, 0, 0] · slices_S16x4x8_S1x4x8_7_0_0) : (⟨S16x4x8, .f32⟩ : BufTy).Contents (Elt F) → (⟨S1x4x8, .f32⟩ : BufTy).Contents (Elt F)),
    reshape main_v118 main_v119 (rfl : (.f32 : EltTy) = .f32) shapeCasts_S1x4x8_S4x8,
    unary main_v119 main_v120 (broadcastInDim S4x8x1x1 ![0, 1] bcast_S4x8_S4x8x1x1_0_1 : (⟨S4x8, .f32⟩ : BufTy).Contents (Elt F) → (⟨S4x8x1x1, .f32⟩ : BufTy).Contents (Elt F)),
    unary main_v120 main_v121 (broadcastInDim S4x8x64x128 ![0, 1, 2, 3] bcast_S4x8x1x1_S4x8x64x128_0_1_2_3 : (⟨S4x8x1x1, .f32⟩ : BufTy).Contents (Elt F) → (⟨S4x8x64x128, .f32⟩ : BufTy).Contents (Elt F)),
    binary main_v115 main_v121 main_v122 (mulf : (⟨S4x8x64x128, .f32⟩ : BufTy).Contents (Elt F) → (⟨S4x8x64x128, .f32⟩ : BufTy).Contents (Elt F) → (⟨S4x8x64x128, .f32⟩ : BufTy).Contents (Elt F)),
    binary main_v122 main_v117 main_v123 (addf : (⟨S4x8x64x128, .f32⟩ : BufTy).Contents (Elt F) → (⟨S4x8x64x128, .f32⟩ : BufTy).Contents (Elt F) → (⟨S4x8x64x128, .f32⟩ : BufTy).Contents (Elt F)),
    unary main_v56 main_v124 ((extractStridedSlice S1x4x8x64x128 ![8, 0, 0, 0, 0] · slices_S16x4x8x64x128_S1x4x8x64x128_8_0_0_0_0) : (⟨S16x4x8x64x128, .f32⟩ : BufTy).Contents (Elt F) → (⟨S1x4x8x64x128, .f32⟩ : BufTy).Contents (Elt F)),
    reshape main_v124 main_v125 (rfl : (.f32 : EltTy) = .f32) shapeCasts_S1x4x8x64x128_S4x8x64x128,
    unary main_v58 main_v126 ((extractStridedSlice S1x4x8 ![8, 0, 0] · slices_S16x4x8_S1x4x8_8_0_0) : (⟨S16x4x8, .f32⟩ : BufTy).Contents (Elt F) → (⟨S1x4x8, .f32⟩ : BufTy).Contents (Elt F)),
    reshape main_v126 main_v127 (rfl : (.f32 : EltTy) = .f32) shapeCasts_S1x4x8_S4x8 ]
/-- The buffers after window 13. -/
def w13 : Valuation τ sig (Elt F) := after hostOps0_8_4 (w12 V0)
/-- The buffers that window 13 writes. -/
abbrev w13_W : List (Ref sig .tc) := [main_v109, main_v110, main_v111, main_v112, main_v113, main_v114, main_v115, main_v116, main_v117, main_v118, main_v119, main_v120, main_v121, main_v122, main_v123, main_v124, main_v125, main_v126, main_v127]
set_option maxRecDepth 8192 in
/-- Window 13 writes only the buffers of `w13_W`. -/
theorem w13_writes : (hostOps0_8_4 : List (HloOp τ sig (Elt F))).Forall fun op => op.writes ⊆ (w13_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [TRef.binary, TRef.nullary, TRef.ternary, TRef.unary, TRef.reshape, nullary_writes, unary_writes, binary_writes, ternary_writes, reshape_writes, nary_writes, Finset.singleton_subset_iff, List.mem_toFinset]
     exact List.mem_map_of_mem (by decide))
/-- A buffer that window 13 does not write keeps its contents through it. -/
theorem w13_keep (r : Ref sig .tc) (h : r ∉ w13_W) :
    w13 V0 (Proc.devRef .tc r) = w12 V0 (Proc.devRef .tc r) :=
  after_of_writes_sub hostOps0_8_4 _ w13_writes h
/-- After window 13, `main_v56` holds stage `val_main_v57`. -/
theorem w13_main_v56 : w13 V0 (no_index (Proc.devRef .tc main_v56)) = (Cert.ReferenceIdeal.Read.val_main_v57 (F := F) (V0 (Proc.devRef .tc main_arg0)) (V0 (Proc.devRef .tc main_arg1)) (V0 (Proc.devRef .tc main_arg2)) (V0 (Proc.devRef .tc main_arg3))) :=
  (w13_keep V0 main_v56 (by decide)).trans (w12_main_v56 V0)
/-- After window 13, `main_v58` holds stage `val_main_v59`. -/
theorem w13_main_v58 : w13 V0 (no_index (Proc.devRef .tc main_v58)) = (Cert.ReferenceIdeal.Read.val_main_v59 (F := F) (V0 (Proc.devRef .tc main_arg0)) (V0 (Proc.devRef .tc main_arg2)) (V0 (Proc.devRef .tc main_arg3))) :=
  (w13_keep V0 main_v58 (by decide)).trans (w12_main_v58 V0)
set_option maxRecDepth 8192 in
set_option maxHeartbeats 2000000 in
/-- After window 13, `main_v115` holds stage `val_main_v117`. -/
theorem w13_main_v115 : w13 V0 (no_index (Proc.devRef .tc main_v115)) = (Cert.ReferenceIdeal.Read.val_main_v117 (F := F) (V0 (Proc.devRef .tc main_arg0)) (V0 (Proc.devRef .tc main_arg1)) (V0 (Proc.devRef .tc main_arg2)) (V0 (Proc.devRef .tc main_arg3))) := by
  unfold w13
  simp only [hostOps0_8_4]
  after_results_simp
  simp only [w12_main_v108, w12_main_v107, w12_main_v58] <;> rfl
set_option maxRecDepth 8192 in
set_option maxHeartbeats 2000000 in
/-- After window 13, `main_v123` holds stage `val_main_v125`. -/
theorem w13_main_v123 : w13 V0 (no_index (Proc.devRef .tc main_v123)) = (Cert.ReferenceIdeal.Read.val_main_v125 (F := F) (V0 (Proc.devRef .tc main_arg0)) (V0 (Proc.devRef .tc main_arg1)) (V0 (Proc.devRef .tc main_arg2)) (V0 (Proc.devRef .tc main_arg3))) := by
  unfold w13
  simp only [hostOps0_8_4]
  after_results_simp
  simp only [w12_main_v56, w12_main_v58, w12_main_v108, w12_main_v107] <;> rfl
set_option maxRecDepth 8192 in
set_option maxHeartbeats 2000000 in
/-- After window 13, `main_v125` holds stage `val_main_v127`. -/
theorem w13_main_v125 : w13 V0 (no_index (Proc.devRef .tc main_v125)) = (Cert.ReferenceIdeal.Read.val_main_v127 (F := F) (V0 (Proc.devRef .tc main_arg0)) (V0 (Proc.devRef .tc main_arg1)) (V0 (Proc.devRef .tc main_arg2)) (V0 (Proc.devRef .tc main_arg3))) := by
  unfold w13
  simp only [hostOps0_8_4]
  after_results_simp
  simp only [w12_main_v56] <;> rfl
set_option maxRecDepth 8192 in
set_option maxHeartbeats 2000000 in
/-- After window 13, `main_v127` holds stage `val_main_v129`. -/
theorem w13_main_v127 : w13 V0 (no_index (Proc.devRef .tc main_v127)) = (Cert.ReferenceIdeal.Read.val_main_v129 (F := F) (V0 (Proc.devRef .tc main_arg0)) (V0 (Proc.devRef .tc main_arg2)) (V0 (Proc.devRef .tc main_arg3))) := by
  unfold w13
  simp only [hostOps0_8_4]
  after_results_simp
  simp only [w12_main_v58] <;> rfl

end Cert.KernelIdeal.Host
-- ==== Proof.HostC.lean ====
module

public import proofs.«01_k».proof.Proof.Gen.KernelIdeal.Frame.Runs
public import proofs.«01_k».proof.Proof.Gen.ReferenceIdeal.Read
public import proofs.«01_k».proof.Proof.HostB

@[expose] public section

noncomputable section

/-! The host operations before the region, last part: the rest of the state recurrence, the forward output and the layout steps that prepare the operands of the kernel. -/

namespace Cert.KernelIdeal.Host

open Cert.KernelIdeal Cert.KernelIdeal.Gen Idealize.ShloMosaic Idealize.ShloMosaic.TcCoe Idealize.SL.Sem
open Idealize.ShloMosaic.StableHlo

variable {F : FTy → Type} [FloatOps F] [Named F] (V0 : Valuation τ sig (Elt F))

/-- Operations 96 to 114 of the long window. -/
abbrev hostOps0_8_5 : List (HloOp τ sig (Elt F)) :=
  [ unary main_v127 main_v128 (broadcastInDim S4x8x1x1 ![0, 1] bcast_S4x8_S4x8x1x1_0_1 : (⟨S4x8, .f32⟩ : BufTy).Contents (Elt F) → (⟨S4x8x1x1, .f32⟩ : BufTy).Contents (Elt F)),
    unary main_v128 main_v129 (broadcastInDim S4x8x64x128 ![0, 1, 2, 3] bcast_S4x8x1x1_S4x8x64x128_0_1_2_3 : (⟨S4x8x1x1, .f32⟩ : BufTy).Contents (Elt F) → (⟨S4x8x64x128, .f32⟩ : BufTy).Contents (Elt F)),
    binary main_v123 main_v129 main_v130 (mulf : (⟨S4x8x64x128, .f32⟩ : BufTy).Contents (Elt F) → (⟨S4x8x64x128, .f32⟩ : BufTy).Contents (Elt F) → (⟨S4x8x64x128, .f32⟩ : BufTy).Contents (Elt F)),
    binary main_v130 main_v125 main_v131 (addf : (⟨S4x8x64x128, .f32⟩ : BufTy).Contents (Elt F) → (⟨S4x8x64x128, .f32⟩ : BufTy).Contents (Elt F) → (⟨S4x8x64x128, .f32⟩ : BufTy).Contents (Elt F)),
    unary main_v56 main_v132 ((extractStridedSlice S1x4x8x64x128 ![9, 0, 0, 0, 0] · slices_S16x4x8x64x128_S1x4x8x64x128_9_0_0_0_0) : (⟨S16x4x8x64x128, .f32⟩ : BufTy).Contents (Elt F) → (⟨S1x4x8x64x128, .f32⟩ : BufTy).Contents (Elt F)),
    reshape main_v132 main_v133 (rfl : (.f32 : EltTy) = .f32) shapeCasts_S1x4x8x64x128_S4x8x64x128,
    unary main_v58 main_v134 ((extractStridedSlice S1x4x8 ![9, 0, 0] · slices_S16x4x8_S1x4x8_9_0_0) : (⟨S16x4x8, .f32⟩ : BufTy).Contents (Elt F) → (⟨S1x4x8, .f32⟩ : BufTy).Contents (Elt F)),
    reshape main_v134 main_v135 (rfl : (.f32 : EltTy) = .f32) shapeCasts_S1x4x8_S4x8,
    unary main_v135 main_v136 (broadcastInDim S4x8x1x1 ![0, 1] bcast_S4x8_S4x8x1x1_0_1 : (⟨S4x8, .f32⟩ : BufTy).Contents (Elt F) → (⟨S4x8x1x1, .f32⟩ : BufTy).Contents (Elt F)),
    unary main_v136 main_v137 (broadcastInDim S4x8x64x128 ![0, 1, 2, 3] bcast_S4x8x1x1_S4x8x64x128_0_1_2_3 : (⟨S4x8x1x1, .f32⟩ : BufTy).Contents (Elt F) → (⟨S4x8x64x128, .f32⟩ : BufTy).Contents (Elt F)),
    binary main_v131 main_v137 main_v138 (mulf : (⟨S4x8x64x128, .f32⟩ : BufTy).Contents (Elt F) → (⟨S4x8x64x128, .f32⟩ : BufTy).Contents (Elt F) → (⟨S4x8x64x128, .f32⟩ : BufTy).Contents (Elt F)),
    binary main_v138 main_v133 main_v139 (addf : (⟨S4x8x64x128, .f32⟩ : BufTy).Contents (Elt F) → (⟨S4x8x64x128, .f32⟩ : BufTy).Contents (Elt F) → (⟨S4x8x64x128, .f32⟩ : BufTy).Contents (Elt F)),
    unary main_v56 main_v140 ((extractStridedSlice S1x4x8x64x128 ![10, 0, 0, 0, 0] · slices_S16x4x8x64x128_S1x4x8x64x128_10_0_0_0_0) : (⟨S16x4x8x64x128, .f32⟩ : BufTy).Contents (Elt F) → (⟨S1x4x8x64x128, .f32⟩ : BufTy).Contents (Elt F)),
    reshape main_v140 main_v141 (rfl : (.f32 : EltTy) = .f32) shapeCasts_S1x4x8x64x128_S4x8x64x128,
    unary main_v58 main_v142 ((extractStridedSlice S1x4x8 ![10, 0, 0] · slices_S16x4x8_S1x4x8_10_0_0) : (⟨S16x4x8, .f32⟩ : BufTy).Contents (Elt F) → (⟨S1x4x8, .f32⟩ : BufTy).Contents (Elt F)),
    reshape main_v142 main_v143 (rfl : (.f32 : EltTy) = .f32) shapeCasts_S1x4x8_S4x8,
    unary main_v143 main_v144 (broadcastInDim S4x8x1x1 ![0, 1] bcast_S4x8_S4x8x1x1_0_1 : (⟨S4x8, .f32⟩ : BufTy).Contents (Elt F) → (⟨S4x8x1x1, .f32⟩ : BufTy).Contents (Elt F)),
    unary main_v144 main_v145 (broadcastInDim S4x8x64x128 ![0, 1, 2, 3] bcast_S4x8x1x1_S4x8x64x128_0_1_2_3 : (⟨S4x8x1x1, .f32⟩ : BufTy).Contents (Elt F) → (⟨S4x8x64x128, .f32⟩ : BufTy).Contents (Elt F)),
    binary main_v139 main_v145 main_v146 (mulf : (⟨S4x8x64x128, .f32⟩ : BufTy).Contents (Elt F) → (⟨S4x8x64x128, .f32⟩ : BufTy).Contents (Elt F) → (⟨S4x8x64x128, .f32⟩ : BufTy).Contents (Elt F)) ]
/-- The buffers after window 14. -/
def w14 : Valuation τ sig (Elt F) := after hostOps0_8_5 (w13 V0)
/-- The buffers that window 14 writes. -/
abbrev w14_W : List (Ref sig .tc) := [main_v128, main_v129, main_v130, main_v131, main_v132, main_v133, main_v134, main_v135, main_v136, main_v137, main_v138, main_v139, main_v140, main_v141, main_v142, main_v143, main_v144, main_v145, main_v146]
set_option maxRecDepth 8192 in
/-- Window 14 writes only the buffers of `w14_W`. -/
theorem w14_writes : (hostOps0_8_5 : List (HloOp τ sig (Elt F))).Forall fun op => op.writes ⊆ (w14_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [TRef.binary, TRef.nullary, TRef.ternary, TRef.unary, TRef.reshape, nullary_writes, unary_writes, binary_writes, ternary_writes, reshape_writes, nary_writes, Finset.singleton_subset_iff, List.mem_toFinset]
     exact List.mem_map_of_mem (by decide))
/-- A buffer that window 14 does not write keeps its contents through it. -/
theorem w14_keep (r : Ref sig .tc) (h : r ∉ w14_W) :
    w14 V0 (Proc.devRef .tc r) = w13 V0 (Proc.devRef .tc r) :=
  after_of_writes_sub hostOps0_8_5 _ w14_writes h
/-- After window 14, `main_v56` holds stage `val_main_v57`. -/
theorem w14_main_v56 : w14 V0 (no_index (Proc.devRef .tc main_v56)) = (Cert.ReferenceIdeal.Read.val_main_v57 (F := F) (V0 (Proc.devRef .tc main_arg0)) (V0 (Proc.devRef .tc main_arg1)) (V0 (Proc.devRef .tc main_arg2)) (V0 (Proc.devRef .tc main_arg3))) :=
  (w14_keep V0 main_v56 (by decide)).trans (w13_main_v56 V0)
/-- After window 14, `main_v58` holds stage `val_main_v59`. -/
theorem w14_main_v58 : w14 V0 (no_index (Proc.devRef .tc main_v58)) = (Cert.ReferenceIdeal.Read.val_main_v59 (F := F) (V0 (Proc.devRef .tc main_arg0)) (V0 (Proc.devRef .tc main_arg2)) (V0 (Proc.devRef .tc main_arg3))) :=
  (w14_keep V0 main_v58 (by decide)).trans (w13_main_v58 V0)
set_option maxRecDepth 8192 in
set_option maxHeartbeats 2000000 in
/-- After window 14, `main_v131` holds stage `val_main_v133`. -/
theorem w14_main_v131 : w14 V0 (no_index (Proc.devRef .tc main_v131)) = (Cert.ReferenceIdeal.Read.val_main_v133 (F := F) (V0 (Proc.devRef .tc main_arg0)) (V0 (Proc.devRef .tc main_arg1)) (V0 (Proc.devRef .tc main_arg2)) (V0 (Proc.devRef .tc main_arg3))) := by
  unfold w14
  simp only [hostOps0_8_5]
  after_results_simp
  simp only [w13_main_v125, w13_main_v123, w13_main_v127] <;> rfl
set_option maxRecDepth 8192 in
set_option maxHeartbeats 2000000 in
/-- After window 14, `main_v139` holds stage `val_main_v141`. -/
theorem w14_main_v139 : w14 V0 (no_index (Proc.devRef .tc main_v139)) = (Cert.ReferenceIdeal.Read.val_main_v141 (F := F) (V0 (Proc.devRef .tc main_arg0)) (V0 (Proc.devRef .tc main_arg1)) (V0 (Proc.devRef .tc main_arg2)) (V0 (Proc.devRef .tc main_arg3))) := by
  unfold w14
  simp only [hostOps0_8_5]
  after_results_simp
  simp only [w13_main_v56, w13_main_v58, w13_main_v125, w13_main_v123, w13_main_v127] <;> rfl
set_option maxRecDepth 8192 in
set_option maxHeartbeats 2000000 in
/-- After window 14, `main_v141` holds stage `val_main_v143`. -/
theorem w14_main_v141 : w14 V0 (no_index (Proc.devRef .tc main_v141)) = (Cert.ReferenceIdeal.Read.val_main_v143 (F := F) (V0 (Proc.devRef .tc main_arg0)) (V0 (Proc.devRef .tc main_arg1)) (V0 (Proc.devRef .tc main_arg2)) (V0 (Proc.devRef .tc main_arg3))) := by
  unfold w14
  simp only [hostOps0_8_5]
  after_results_simp
  simp only [w13_main_v56] <;> rfl
set_option maxRecDepth 8192 in
set_option maxHeartbeats 2000000 in
/-- After window 14, `main_v146` holds stage `val_main_v148`. -/
theorem w14_main_v146 : w14 V0 (no_index (Proc.devRef .tc main_v146)) = (Cert.ReferenceIdeal.Read.val_main_v148 (F := F) (V0 (Proc.devRef .tc main_arg0)) (V0 (Proc.devRef .tc main_arg1)) (V0 (Proc.devRef .tc main_arg2)) (V0 (Proc.devRef .tc main_arg3))) := by
  unfold w14
  simp only [hostOps0_8_5]
  after_results_simp
  simp only [w13_main_v58, w13_main_v56, w13_main_v125, w13_main_v123, w13_main_v127] <;> rfl
/-- Operations 115 to 133 of the long window. -/
abbrev hostOps0_8_6 : List (HloOp τ sig (Elt F)) :=
  [ binary main_v146 main_v141 main_v147 (addf : (⟨S4x8x64x128, .f32⟩ : BufTy).Contents (Elt F) → (⟨S4x8x64x128, .f32⟩ : BufTy).Contents (Elt F) → (⟨S4x8x64x128, .f32⟩ : BufTy).Contents (Elt F)),
    unary main_v56 main_v148 ((extractStridedSlice S1x4x8x64x128 ![11, 0, 0, 0, 0] · slices_S16x4x8x64x128_S1x4x8x64x128_11_0_0_0_0) : (⟨S16x4x8x64x128, .f32⟩ : BufTy).Contents (Elt F) → (⟨S1x4x8x64x128, .f32⟩ : BufTy).Contents (Elt F)),
    reshape main_v148 main_v149 (rfl : (.f32 : EltTy) = .f32) shapeCasts_S1x4x8x64x128_S4x8x64x128,
    unary main_v58 main_v150 ((extractStridedSlice S1x4x8 ![11, 0, 0] · slices_S16x4x8_S1x4x8_11_0_0) : (⟨S16x4x8, .f32⟩ : BufTy).Contents (Elt F) → (⟨S1x4x8, .f32⟩ : BufTy).Contents (Elt F)),
    reshape main_v150 main_v151 (rfl : (.f32 : EltTy) = .f32) shapeCasts_S1x4x8_S4x8,
    unary main_v151 main_v152 (broadcastInDim S4x8x1x1 ![0, 1] bcast_S4x8_S4x8x1x1_0_1 : (⟨S4x8, .f32⟩ : BufTy).Contents (Elt F) → (⟨S4x8x1x1, .f32⟩ : BufTy).Contents (Elt F)),
    unary main_v152 main_v153 (broadcastInDim S4x8x64x128 ![0, 1, 2, 3] bcast_S4x8x1x1_S4x8x64x128_0_1_2_3 : (⟨S4x8x1x1, .f32⟩ : BufTy).Contents (Elt F) → (⟨S4x8x64x128, .f32⟩ : BufTy).Contents (Elt F)),
    binary main_v147 main_v153 main_v154 (mulf : (⟨S4x8x64x128, .f32⟩ : BufTy).Contents (Elt F) → (⟨S4x8x64x128, .f32⟩ : BufTy).Contents (Elt F) → (⟨S4x8x64x128, .f32⟩ : BufTy).Contents (Elt F)),
    binary main_v154 main_v149 main_v155 (addf : (⟨S4x8x64x128, .f32⟩ : BufTy).Contents (Elt F) → (⟨S4x8x64x128, .f32⟩ : BufTy).Contents (Elt F) → (⟨S4x8x64x128, .f32⟩ : BufTy).Contents (Elt F)),
    unary main_v56 main_v156 ((extractStridedSlice S1x4x8x64x128 ![12, 0, 0, 0, 0] · slices_S16x4x8x64x128_S1x4x8x64x128_12_0_0_0_0) : (⟨S16x4x8x64x128, .f32⟩ : BufTy).Contents (Elt F) → (⟨S1x4x8x64x128, .f32⟩ : BufTy).Contents (Elt F)),
    reshape main_v156 main_v157 (rfl : (.f32 : EltTy) = .f32) shapeCasts_S1x4x8x64x128_S4x8x64x128,
    unary main_v58 main_v158 ((extractStridedSlice S1x4x8 ![12, 0, 0] · slices_S16x4x8_S1x4x8_12_0_0) : (⟨S16x4x8, .f32⟩ : BufTy).Contents (Elt F) → (⟨S1x4x8, .f32⟩ : BufTy).Contents (Elt F)),
    reshape main_v158 main_v159 (rfl : (.f32 : EltTy) = .f32) shapeCasts_S1x4x8_S4x8,
    unary main_v159 main_v160 (broadcastInDim S4x8x1x1 ![0, 1] bcast_S4x8_S4x8x1x1_0_1 : (⟨S4x8, .f32⟩ : BufTy).Contents (Elt F) → (⟨S4x8x1x1, .f32⟩ : BufTy).Contents (Elt F)),
    unary main_v160 main_v161 (broadcastInDim S4x8x64x128 ![0, 1, 2, 3] bcast_S4x8x1x1_S4x8x64x128_0_1_2_3 : (⟨S4x8x1x1, .f32⟩ : BufTy).Contents (Elt F) → (⟨S4x8x64x128, .f32⟩ : BufTy).Contents (Elt F)),
    binary main_v155 main_v161 main_v162 (mulf : (⟨S4x8x64x128, .f32⟩ : BufTy).Contents (Elt F) → (⟨S4x8x64x128, .f32⟩ : BufTy).Contents (Elt F) → (⟨S4x8x64x128, .f32⟩ : BufTy).Contents (Elt F)),
    binary main_v162 main_v157 main_v163 (addf : (⟨S4x8x64x128, .f32⟩ : BufTy).Contents (Elt F) → (⟨S4x8x64x128, .f32⟩ : BufTy).Contents (Elt F) → (⟨S4x8x64x128, .f32⟩ : BufTy).Contents (Elt F)),
    unary main_v56 main_v164 ((extractStridedSlice S1x4x8x64x128 ![13, 0, 0, 0, 0] · slices_S16x4x8x64x128_S1x4x8x64x128_13_0_0_0_0) : (⟨S16x4x8x64x128, .f32⟩ : BufTy).Contents (Elt F) → (⟨S1x4x8x64x128, .f32⟩ : BufTy).Contents (Elt F)),
    reshape main_v164 main_v165 (rfl : (.f32 : EltTy) = .f32) shapeCasts_S1x4x8x64x128_S4x8x64x128 ]
/-- The buffers after window 15. -/
def w15 : Valuation τ sig (Elt F) := after hostOps0_8_6 (w14 V0)
/-- The buffers that window 15 writes. -/
abbrev w15_W : List (Ref sig .tc) := [main_v147, main_v148, main_v149, main_v150, main_v151, main_v152, main_v153, main_v154, main_v155, main_v156, main_v157, main_v158, main_v159, main_v160, main_v161, main_v162, main_v163, main_v164, main_v165]
set_option maxRecDepth 8192 in
/-- Window 15 writes only the buffers of `w15_W`. -/
theorem w15_writes : (hostOps0_8_6 : List (HloOp τ sig (Elt F))).Forall fun op => op.writes ⊆ (w15_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [TRef.binary, TRef.nullary, TRef.ternary, TRef.unary, TRef.reshape, nullary_writes, unary_writes, binary_writes, ternary_writes, reshape_writes, nary_writes, Finset.singleton_subset_iff, List.mem_toFinset]
     exact List.mem_map_of_mem (by decide))
/-- A buffer that window 15 does not write keeps its contents through it. -/
theorem w15_keep (r : Ref sig .tc) (h : r ∉ w15_W) :
    w15 V0 (Proc.devRef .tc r) = w14 V0 (Proc.devRef .tc r) :=
  after_of_writes_sub hostOps0_8_6 _ w15_writes h
/-- After window 15, `main_v56` holds stage `val_main_v57`. -/
theorem w15_main_v56 : w15 V0 (no_index (Proc.devRef .tc main_v56)) = (Cert.ReferenceIdeal.Read.val_main_v57 (F := F) (V0 (Proc.devRef .tc main_arg0)) (V0 (Proc.devRef .tc main_arg1)) (V0 (Proc.devRef .tc main_arg2)) (V0 (Proc.devRef .tc main_arg3))) :=
  (w15_keep V0 main_v56 (by decide)).trans (w14_main_v56 V0)
/-- After window 15, `main_v58` holds stage `val_main_v59`. -/
theorem w15_main_v58 : w15 V0 (no_index (Proc.devRef .tc main_v58)) = (Cert.ReferenceIdeal.Read.val_main_v59 (F := F) (V0 (Proc.devRef .tc main_arg0)) (V0 (Proc.devRef .tc main_arg2)) (V0 (Proc.devRef .tc main_arg3))) :=
  (w15_keep V0 main_v58 (by decide)).trans (w14_main_v58 V0)
set_option maxRecDepth 8192 in
set_option maxHeartbeats 2000000 in
/-- After window 15, `main_v147` holds stage `val_main_v149`. -/
theorem w15_main_v147 : w15 V0 (no_index (Proc.devRef .tc main_v147)) = (Cert.ReferenceIdeal.Read.val_main_v149 (F := F) (V0 (Proc.devRef .tc main_arg0)) (V0 (Proc.devRef .tc main_arg1)) (V0 (Proc.devRef .tc main_arg2)) (V0 (Proc.devRef .tc main_arg3))) := by
  unfold w15
  simp only [hostOps0_8_6]
  after_results_simp
  simp only [w14_main_v146, w14_main_v141] <;> rfl
set_option maxRecDepth 8192 in
set_option maxHeartbeats 2000000 in
/-- After window 15, `main_v155` holds stage `val_main_v157`. -/
theorem w15_main_v155 : w15 V0 (no_index (Proc.devRef .tc main_v155)) = (Cert.ReferenceIdeal.Read.val_main_v157 (F := F) (V0 (Proc.devRef .tc main_arg0)) (V0 (Proc.devRef .tc main_arg1)) (V0 (Proc.devRef .tc main_arg2)) (V0 (Proc.devRef .tc main_arg3))) := by
  unfold w15
  simp only [hostOps0_8_6]
  after_results_simp
  simp only [w14_main_v56, w14_main_v58, w14_main_v146, w14_main_v141] <;> rfl
set_option maxRecDepth 8192 in
set_option maxHeartbeats 2000000 in
/-- After window 15, `main_v163` holds stage `val_main_v165`. -/
theorem w15_main_v163 : w15 V0 (no_index (Proc.devRef .tc main_v163)) = (Cert.ReferenceIdeal.Read.val_main_v165 (F := F) (V0 (Proc.devRef .tc main_arg0)) (V0 (Proc.devRef .tc main_arg1)) (V0 (Proc.devRef .tc main_arg2)) (V0 (Proc.devRef .tc main_arg3))) := by
  unfold w15
  simp only [hostOps0_8_6]
  after_results_simp
  simp only [w14_main_v56, w14_main_v58, w14_main_v146, w14_main_v141] <;> rfl
set_option maxRecDepth 8192 in
set_option maxHeartbeats 2000000 in
/-- After window 15, `main_v165` holds stage `val_main_v167`. -/
theorem w15_main_v165 : w15 V0 (no_index (Proc.devRef .tc main_v165)) = (Cert.ReferenceIdeal.Read.val_main_v167 (F := F) (V0 (Proc.devRef .tc main_arg0)) (V0 (Proc.devRef .tc main_arg1)) (V0 (Proc.devRef .tc main_arg2)) (V0 (Proc.devRef .tc main_arg3))) := by
  unfold w15
  simp only [hostOps0_8_6]
  after_results_simp
  simp only [w14_main_v56] <;> rfl
/-- Operations 134 to 152 of the long window. -/
abbrev hostOps0_8_7 : List (HloOp τ sig (Elt F)) :=
  [ unary main_v58 main_v166 ((extractStridedSlice S1x4x8 ![13, 0, 0] · slices_S16x4x8_S1x4x8_13_0_0) : (⟨S16x4x8, .f32⟩ : BufTy).Contents (Elt F) → (⟨S1x4x8, .f32⟩ : BufTy).Contents (Elt F)),
    reshape main_v166 main_v167 (rfl : (.f32 : EltTy) = .f32) shapeCasts_S1x4x8_S4x8,
    unary main_v167 main_v168 (broadcastInDim S4x8x1x1 ![0, 1] bcast_S4x8_S4x8x1x1_0_1 : (⟨S4x8, .f32⟩ : BufTy).Contents (Elt F) → (⟨S4x8x1x1, .f32⟩ : BufTy).Contents (Elt F)),
    unary main_v168 main_v169 (broadcastInDim S4x8x64x128 ![0, 1, 2, 3] bcast_S4x8x1x1_S4x8x64x128_0_1_2_3 : (⟨S4x8x1x1, .f32⟩ : BufTy).Contents (Elt F) → (⟨S4x8x64x128, .f32⟩ : BufTy).Contents (Elt F)),
    binary main_v163 main_v169 main_v170 (mulf : (⟨S4x8x64x128, .f32⟩ : BufTy).Contents (Elt F) → (⟨S4x8x64x128, .f32⟩ : BufTy).Contents (Elt F) → (⟨S4x8x64x128, .f32⟩ : BufTy).Contents (Elt F)),
    binary main_v170 main_v165 main_v171 (addf : (⟨S4x8x64x128, .f32⟩ : BufTy).Contents (Elt F) → (⟨S4x8x64x128, .f32⟩ : BufTy).Contents (Elt F) → (⟨S4x8x64x128, .f32⟩ : BufTy).Contents (Elt F)),
    unary main_v56 main_v172 ((extractStridedSlice S1x4x8x64x128 ![14, 0, 0, 0, 0] · slices_S16x4x8x64x128_S1x4x8x64x128_14_0_0_0_0) : (⟨S16x4x8x64x128, .f32⟩ : BufTy).Contents (Elt F) → (⟨S1x4x8x64x128, .f32⟩ : BufTy).Contents (Elt F)),
    reshape main_v172 main_v173 (rfl : (.f32 : EltTy) = .f32) shapeCasts_S1x4x8x64x128_S4x8x64x128,
    unary main_v58 main_v174 ((extractStridedSlice S1x4x8 ![14, 0, 0] · slices_S16x4x8_S1x4x8_14_0_0) : (⟨S16x4x8, .f32⟩ : BufTy).Contents (Elt F) → (⟨S1x4x8, .f32⟩ : BufTy).Contents (Elt F)),
    reshape main_v174 main_v175 (rfl : (.f32 : EltTy) = .f32) shapeCasts_S1x4x8_S4x8,
    unary main_v175 main_v176 (broadcastInDim S4x8x1x1 ![0, 1] bcast_S4x8_S4x8x1x1_0_1 : (⟨S4x8, .f32⟩ : BufTy).Contents (Elt F) → (⟨S4x8x1x1, .f32⟩ : BufTy).Contents (Elt F)),
    unary main_v176 main_v177 (broadcastInDim S4x8x64x128 ![0, 1, 2, 3] bcast_S4x8x1x1_S4x8x64x128_0_1_2_3 : (⟨S4x8x1x1, .f32⟩ : BufTy).Contents (Elt F) → (⟨S4x8x64x128, .f32⟩ : BufTy).Contents (Elt F)),
    binary main_v171 main_v177 main_v178 (mulf : (⟨S4x8x64x128, .f32⟩ : BufTy).Contents (Elt F) → (⟨S4x8x64x128, .f32⟩ : BufTy).Contents (Elt F) → (⟨S4x8x64x128, .f32⟩ : BufTy).Contents (Elt F)),
    binary main_v178 main_v173 main_v179 (addf : (⟨S4x8x64x128, .f32⟩ : BufTy).Contents (Elt F) → (⟨S4x8x64x128, .f32⟩ : BufTy).Contents (Elt F) → (⟨S4x8x64x128, .f32⟩ : BufTy).Contents (Elt F)),
    unary main_v56 main_v180 ((extractStridedSlice S1x4x8x64x128 ![15, 0, 0, 0, 0] · slices_S16x4x8x64x128_S1x4x8x64x128_15_0_0_0_0) : (⟨S16x4x8x64x128, .f32⟩ : BufTy).Contents (Elt F) → (⟨S1x4x8x64x128, .f32⟩ : BufTy).Contents (Elt F)),
    reshape main_v180 main_v181 (rfl : (.f32 : EltTy) = .f32) shapeCasts_S1x4x8x64x128_S4x8x64x128,
    unary main_v58 main_v182 ((extractStridedSlice S1x4x8 ![15, 0, 0] · slices_S16x4x8_S1x4x8_15_0_0) : (⟨S16x4x8, .f32⟩ : BufTy).Contents (Elt F) → (⟨S1x4x8, .f32⟩ : BufTy).Contents (Elt F)),
    reshape main_v182 main_v183 (rfl : (.f32 : EltTy) = .f32) shapeCasts_S1x4x8_S4x8,
    unary main_v183 main_v184 (broadcastInDim S4x8x1x1 ![0, 1] bcast_S4x8_S4x8x1x1_0_1 : (⟨S4x8, .f32⟩ : BufTy).Contents (Elt F) → (⟨S4x8x1x1, .f32⟩ : BufTy).Contents (Elt F)) ]
/-- The buffers after window 16. -/
def w16 : Valuation τ sig (Elt F) := after hostOps0_8_7 (w15 V0)
/-- The buffers that window 16 writes. -/
abbrev w16_W : List (Ref sig .tc) := [main_v166, main_v167, main_v168, main_v169, main_v170, main_v171, main_v172, main_v173, main_v174, main_v175, main_v176, main_v177, main_v178, main_v179, main_v180, main_v181, main_v182, main_v183, main_v184]
set_option maxRecDepth 8192 in
/-- Window 16 writes only the buffers of `w16_W`. -/
theorem w16_writes : (hostOps0_8_7 : List (HloOp τ sig (Elt F))).Forall fun op => op.writes ⊆ (w16_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [TRef.binary, TRef.nullary, TRef.ternary, TRef.unary, TRef.reshape, nullary_writes, unary_writes, binary_writes, ternary_writes, reshape_writes, nary_writes, Finset.singleton_subset_iff, List.mem_toFinset]
     exact List.mem_map_of_mem (by decide))
/-- A buffer that window 16 does not write keeps its contents through it. -/
theorem w16_keep (r : Ref sig .tc) (h : r ∉ w16_W) :
    w16 V0 (Proc.devRef .tc r) = w15 V0 (Proc.devRef .tc r) :=
  after_of_writes_sub hostOps0_8_7 _ w16_writes h
/-- After window 16, `main_v54` holds stage `val_main_v55`. -/
theorem w16_main_v54 : w16 V0 (no_index (Proc.devRef .tc main_v54)) = (Cert.ReferenceIdeal.Read.val_main_v55 (F := F)) :=
  (w16_keep V0 main_v54 (by decide)).trans <|
    (w15_keep V0 main_v54 (by decide)).trans <|
    (w14_keep V0 main_v54 (by decide)).trans <|
    (w13_keep V0 main_v54 (by decide)).trans <|
    (w12_keep V0 main_v54 (by decide)).trans <|
    (w11_keep V0 main_v54 (by decide)).trans (w10_main_v54 V0)
/-- After window 16, `main_v67` holds stage `val_main_v69`. -/
theorem w16_main_v67 : w16 V0 (no_index (Proc.devRef .tc main_v67)) = (Cert.ReferenceIdeal.Read.val_main_v69 (F := F) (V0 (Proc.devRef .tc main_arg0)) (V0 (Proc.devRef .tc main_arg1)) (V0 (Proc.devRef .tc main_arg2)) (V0 (Proc.devRef .tc main_arg3))) :=
  (w16_keep V0 main_v67 (by decide)).trans <|
    (w15_keep V0 main_v67 (by decide)).trans <|
    (w14_keep V0 main_v67 (by decide)).trans <|
    (w13_keep V0 main_v67 (by decide)).trans <|
    (w12_keep V0 main_v67 (by decide)).trans <|
    (w11_keep V0 main_v67 (by decide)).trans (w10_main_v67 V0)
/-- After window 16, `main_v75` holds stage `val_main_v77`. -/
theorem w16_main_v75 : w16 V0 (no_index (Proc.devRef .tc main_v75)) = (Cert.ReferenceIdeal.Read.val_main_v77 (F := F) (V0 (Proc.devRef .tc main_arg0)) (V0 (Proc.devRef .tc main_arg1)) (V0 (Proc.devRef .tc main_arg2)) (V0 (Proc.devRef .tc main_arg3))) :=
  (w16_keep V0 main_v75 (by decide)).trans <|
    (w15_keep V0 main_v75 (by decide)).trans <|
    (w14_keep V0 main_v75 (by decide)).trans <|
    (w13_keep V0 main_v75 (by decide)).trans <|
    (w12_keep V0 main_v75 (by decide)).trans (w11_main_v75 V0)
/-- After window 16, `main_v83` holds stage `val_main_v85`. -/
theorem w16_main_v83 : w16 V0 (no_index (Proc.devRef .tc main_v83)) = (Cert.ReferenceIdeal.Read.val_main_v85 (F := F) (V0 (Proc.devRef .tc main_arg0)) (V0 (Proc.devRef .tc main_arg1)) (V0 (Proc.devRef .tc main_arg2)) (V0 (Proc.devRef .tc main_arg3))) :=
  (w16_keep V0 main_v83 (by decide)).trans <|
    (w15_keep V0 main_v83 (by decide)).trans <|
    (w14_keep V0 main_v83 (by decide)).trans <|
    (w13_keep V0 main_v83 (by decide)).trans <|
    (w12_keep V0 main_v83 (by decide)).trans (w11_main_v83 V0)
/-- After window 16, `main_v91` holds stage `val_main_v93`. -/
theorem w16_main_v91 : w16 V0 (no_index (Proc.devRef .tc main_v91)) = (Cert.ReferenceIdeal.Read.val_main_v93 (F := F) (V0 (Proc.devRef .tc main_arg0)) (V0 (Proc.devRef .tc main_arg1)) (V0 (Proc.devRef .tc main_arg2)) (V0 (Proc.devRef .tc main_arg3))) :=
  (w16_keep V0 main_v91 (by decide)).trans <|
    (w15_keep V0 main_v91 (by decide)).trans <|
    (w14_keep V0 main_v91 (by decide)).trans <|
    (w13_keep V0 main_v91 (by decide)).trans (w12_main_v91 V0)
/-- After window 16, `main_v99` holds stage `val_main_v101`. -/
theorem w16_main_v99 : w16 V0 (no_index (Proc.devRef .tc main_v99)) = (Cert.ReferenceIdeal.Read.val_main_v101 (F := F) (V0 (Proc.devRef .tc main_arg0)) (V0 (Proc.devRef .tc main_arg1)) (V0 (Proc.devRef .tc main_arg2)) (V0 (Proc.devRef .tc main_arg3))) :=
  (w16_keep V0 main_v99 (by decide)).trans <|
    (w15_keep V0 main_v99 (by decide)).trans <|
    (w14_keep V0 main_v99 (by decide)).trans <|
    (w13_keep V0 main_v99 (by decide)).trans (w12_main_v99 V0)
/-- After window 16, `main_v107` holds stage `val_main_v109`. -/
theorem w16_main_v107 : w16 V0 (no_index (Proc.devRef .tc main_v107)) = (Cert.ReferenceIdeal.Read.val_main_v109 (F := F) (V0 (Proc.devRef .tc main_arg0)) (V0 (Proc.devRef .tc main_arg1)) (V0 (Proc.devRef .tc main_arg2)) (V0 (Proc.devRef .tc main_arg3))) :=
  (w16_keep V0 main_v107 (by decide)).trans <|
    (w15_keep V0 main_v107 (by decide)).trans <|
    (w14_keep V0 main_v107 (by decide)).trans <|
    (w13_keep V0 main_v107 (by decide)).trans (w12_main_v107 V0)
/-- After window 16, `main_v115` holds stage `val_main_v117`. -/
theorem w16_main_v115 : w16 V0 (no_index (Proc.devRef .tc main_v115)) = (Cert.ReferenceIdeal.Read.val_main_v117 (F := F) (V0 (Proc.devRef .tc main_arg0)) (V0 (Proc.devRef .tc main_arg1)) (V0 (Proc.devRef .tc main_arg2)) (V0 (Proc.devRef .tc main_arg3))) :=
  (w16_keep V0 main_v115 (by decide)).trans <|
    (w15_keep V0 main_v115 (by decide)).trans <|
    (w14_keep V0 main_v115 (by decide)).trans (w13_main_v115 V0)
/-- After window 16, `main_v123` holds stage `val_main_v125`. -/
theorem w16_main_v123 : w16 V0 (no_index (Proc.devRef .tc main_v123)) = (Cert.ReferenceIdeal.Read.val_main_v125 (F := F) (V0 (Proc.devRef .tc main_arg0)) (V0 (Proc.devRef .tc main_arg1)) (V0 (Proc.devRef .tc main_arg2)) (V0 (Proc.devRef .tc main_arg3))) :=
  (w16_keep V0 main_v123 (by decide)).trans <|
    (w15_keep V0 main_v123 (by decide)).trans <|
    (w14_keep V0 main_v123 (by decide)).trans (w13_main_v123 V0)
/-- After window 16, `main_v131` holds stage `val_main_v133`. -/
theorem w16_main_v131 : w16 V0 (no_index (Proc.devRef .tc main_v131)) = (Cert.ReferenceIdeal.Read.val_main_v133 (F := F) (V0 (Proc.devRef .tc main_arg0)) (V0 (Proc.devRef .tc main_arg1)) (V0 (Proc.devRef .tc main_arg2)) (V0 (Proc.devRef .tc main_arg3))) :=
  (w16_keep V0 main_v131 (by decide)).trans <|
    (w15_keep V0 main_v131 (by decide)).trans (w14_main_v131 V0)
/-- After window 16, `main_v139` holds stage `val_main_v141`. -/
theorem w16_main_v139 : w16 V0 (no_index (Proc.devRef .tc main_v139)) = (Cert.ReferenceIdeal.Read.val_main_v141 (F := F) (V0 (Proc.devRef .tc main_arg0)) (V0 (Proc.devRef .tc main_arg1)) (V0 (Proc.devRef .tc main_arg2)) (V0 (Proc.devRef .tc main_arg3))) :=
  (w16_keep V0 main_v139 (by decide)).trans <|
    (w15_keep V0 main_v139 (by decide)).trans (w14_main_v139 V0)
/-- After window 16, `main_v147` holds stage `val_main_v149`. -/
theorem w16_main_v147 : w16 V0 (no_index (Proc.devRef .tc main_v147)) = (Cert.ReferenceIdeal.Read.val_main_v149 (F := F) (V0 (Proc.devRef .tc main_arg0)) (V0 (Proc.devRef .tc main_arg1)) (V0 (Proc.devRef .tc main_arg2)) (V0 (Proc.devRef .tc main_arg3))) :=
  (w16_keep V0 main_v147 (by decide)).trans (w15_main_v147 V0)
/-- After window 16, `main_v155` holds stage `val_main_v157`. -/
theorem w16_main_v155 : w16 V0 (no_index (Proc.devRef .tc main_v155)) = (Cert.ReferenceIdeal.Read.val_main_v157 (F := F) (V0 (Proc.devRef .tc main_arg0)) (V0 (Proc.devRef .tc main_arg1)) (V0 (Proc.devRef .tc main_arg2)) (V0 (Proc.devRef .tc main_arg3))) :=
  (w16_keep V0 main_v155 (by decide)).trans (w15_main_v155 V0)
/-- After window 16, `main_v163` holds stage `val_main_v165`. -/
theorem w16_main_v163 : w16 V0 (no_index (Proc.devRef .tc main_v163)) = (Cert.ReferenceIdeal.Read.val_main_v165 (F := F) (V0 (Proc.devRef .tc main_arg0)) (V0 (Proc.devRef .tc main_arg1)) (V0 (Proc.devRef .tc main_arg2)) (V0 (Proc.devRef .tc main_arg3))) :=
  (w16_keep V0 main_v163 (by decide)).trans (w15_main_v163 V0)
set_option maxRecDepth 8192 in
set_option maxHeartbeats 2000000 in
/-- After window 16, `main_v171` holds stage `val_main_v173`. -/
theorem w16_main_v171 : w16 V0 (no_index (Proc.devRef .tc main_v171)) = (Cert.ReferenceIdeal.Read.val_main_v173 (F := F) (V0 (Proc.devRef .tc main_arg0)) (V0 (Proc.devRef .tc main_arg1)) (V0 (Proc.devRef .tc main_arg2)) (V0 (Proc.devRef .tc main_arg3))) := by
  unfold w16
  simp only [hostOps0_8_7]
  after_results_simp
  simp only [w15_main_v165, w15_main_v163, w15_main_v58] <;> rfl
set_option maxRecDepth 8192 in
set_option maxHeartbeats 2000000 in
/-- After window 16, `main_v179` holds stage `val_main_v181`. -/
theorem w16_main_v179 : w16 V0 (no_index (Proc.devRef .tc main_v179)) = (Cert.ReferenceIdeal.Read.val_main_v181 (F := F) (V0 (Proc.devRef .tc main_arg0)) (V0 (Proc.devRef .tc main_arg1)) (V0 (Proc.devRef .tc main_arg2)) (V0 (Proc.devRef .tc main_arg3))) := by
  unfold w16
  simp only [hostOps0_8_7]
  after_results_simp
  simp only [w15_main_v56, w15_main_v58, w15_main_v165, w15_main_v163] <;> rfl
set_option maxRecDepth 8192 in
set_option maxHeartbeats 2000000 in
/-- After window 16, `main_v181` holds stage `val_main_v183`. -/
theorem w16_main_v181 : w16 V0 (no_index (Proc.devRef .tc main_v181)) = (Cert.ReferenceIdeal.Read.val_main_v183 (F := F) (V0 (Proc.devRef .tc main_arg0)) (V0 (Proc.devRef .tc main_arg1)) (V0 (Proc.devRef .tc main_arg2)) (V0 (Proc.devRef .tc main_arg3))) := by
  unfold w16
  simp only [hostOps0_8_7]
  after_results_simp
  simp only [w15_main_v56] <;> rfl
set_option maxRecDepth 8192 in
set_option maxHeartbeats 2000000 in
/-- After window 16, `main_v184` holds stage `val_main_v186`. -/
theorem w16_main_v184 : w16 V0 (no_index (Proc.devRef .tc main_v184)) = (Cert.ReferenceIdeal.Read.val_main_v186 (F := F) (V0 (Proc.devRef .tc main_arg0)) (V0 (Proc.devRef .tc main_arg2)) (V0 (Proc.devRef .tc main_arg3))) := by
  unfold w16
  simp only [hostOps0_8_7]
  after_results_simp
  simp only [w15_main_v58] <;> rfl
/-- Operations 153 to 171 of the long window. -/
abbrev hostOps0_8_8 : List (HloOp τ sig (Elt F)) :=
  [ unary main_v184 main_v185 (broadcastInDim S4x8x64x128 ![0, 1, 2, 3] bcast_S4x8x1x1_S4x8x64x128_0_1_2_3 : (⟨S4x8x1x1, .f32⟩ : BufTy).Contents (Elt F) → (⟨S4x8x64x128, .f32⟩ : BufTy).Contents (Elt F)),
    binary main_v179 main_v185 main_v186 (mulf : (⟨S4x8x64x128, .f32⟩ : BufTy).Contents (Elt F) → (⟨S4x8x64x128, .f32⟩ : BufTy).Contents (Elt F) → (⟨S4x8x64x128, .f32⟩ : BufTy).Contents (Elt F)),
    binary main_v186 main_v181 main_v187 (addf : (⟨S4x8x64x128, .f32⟩ : BufTy).Contents (Elt F) → (⟨S4x8x64x128, .f32⟩ : BufTy).Contents (Elt F) → (⟨S4x8x64x128, .f32⟩ : BufTy).Contents (Elt F)),
    unary main_v54 main_v188 (broadcastInDim S1x4x8x64x128 ![1, 2, 3, 4] bcast_S4x8x64x128_S1x4x8x64x128_1_2_3_4 : (⟨S4x8x64x128, .f32⟩ : BufTy).Contents (Elt F) → (⟨S1x4x8x64x128, .f32⟩ : BufTy).Contents (Elt F)),
    unary main_v67 main_v189 (broadcastInDim S1x4x8x64x128 ![1, 2, 3, 4] bcast_S4x8x64x128_S1x4x8x64x128_1_2_3_4 : (⟨S4x8x64x128, .f32⟩ : BufTy).Contents (Elt F) → (⟨S1x4x8x64x128, .f32⟩ : BufTy).Contents (Elt F)),
    unary main_v75 main_v190 (broadcastInDim S1x4x8x64x128 ![1, 2, 3, 4] bcast_S4x8x64x128_S1x4x8x64x128_1_2_3_4 : (⟨S4x8x64x128, .f32⟩ : BufTy).Contents (Elt F) → (⟨S1x4x8x64x128, .f32⟩ : BufTy).Contents (Elt F)),
    unary main_v83 main_v191 (broadcastInDim S1x4x8x64x128 ![1, 2, 3, 4] bcast_S4x8x64x128_S1x4x8x64x128_1_2_3_4 : (⟨S4x8x64x128, .f32⟩ : BufTy).Contents (Elt F) → (⟨S1x4x8x64x128, .f32⟩ : BufTy).Contents (Elt F)),
    unary main_v91 main_v192 (broadcastInDim S1x4x8x64x128 ![1, 2, 3, 4] bcast_S4x8x64x128_S1x4x8x64x128_1_2_3_4 : (⟨S4x8x64x128, .f32⟩ : BufTy).Contents (Elt F) → (⟨S1x4x8x64x128, .f32⟩ : BufTy).Contents (Elt F)),
    unary main_v99 main_v193 (broadcastInDim S1x4x8x64x128 ![1, 2, 3, 4] bcast_S4x8x64x128_S1x4x8x64x128_1_2_3_4 : (⟨S4x8x64x128, .f32⟩ : BufTy).Contents (Elt F) → (⟨S1x4x8x64x128, .f32⟩ : BufTy).Contents (Elt F)),
    unary main_v107 main_v194 (broadcastInDim S1x4x8x64x128 ![1, 2, 3, 4] bcast_S4x8x64x128_S1x4x8x64x128_1_2_3_4 : (⟨S4x8x64x128, .f32⟩ : BufTy).Contents (Elt F) → (⟨S1x4x8x64x128, .f32⟩ : BufTy).Contents (Elt F)),
    unary main_v115 main_v195 (broadcastInDim S1x4x8x64x128 ![1, 2, 3, 4] bcast_S4x8x64x128_S1x4x8x64x128_1_2_3_4 : (⟨S4x8x64x128, .f32⟩ : BufTy).Contents (Elt F) → (⟨S1x4x8x64x128, .f32⟩ : BufTy).Contents (Elt F)),
    unary main_v123 main_v196 (broadcastInDim S1x4x8x64x128 ![1, 2, 3, 4] bcast_S4x8x64x128_S1x4x8x64x128_1_2_3_4 : (⟨S4x8x64x128, .f32⟩ : BufTy).Contents (Elt F) → (⟨S1x4x8x64x128, .f32⟩ : BufTy).Contents (Elt F)),
    unary main_v131 main_v197 (broadcastInDim S1x4x8x64x128 ![1, 2, 3, 4] bcast_S4x8x64x128_S1x4x8x64x128_1_2_3_4 : (⟨S4x8x64x128, .f32⟩ : BufTy).Contents (Elt F) → (⟨S1x4x8x64x128, .f32⟩ : BufTy).Contents (Elt F)),
    unary main_v139 main_v198 (broadcastInDim S1x4x8x64x128 ![1, 2, 3, 4] bcast_S4x8x64x128_S1x4x8x64x128_1_2_3_4 : (⟨S4x8x64x128, .f32⟩ : BufTy).Contents (Elt F) → (⟨S1x4x8x64x128, .f32⟩ : BufTy).Contents (Elt F)),
    unary main_v147 main_v199 (broadcastInDim S1x4x8x64x128 ![1, 2, 3, 4] bcast_S4x8x64x128_S1x4x8x64x128_1_2_3_4 : (⟨S4x8x64x128, .f32⟩ : BufTy).Contents (Elt F) → (⟨S1x4x8x64x128, .f32⟩ : BufTy).Contents (Elt F)),
    unary main_v155 main_v200 (broadcastInDim S1x4x8x64x128 ![1, 2, 3, 4] bcast_S4x8x64x128_S1x4x8x64x128_1_2_3_4 : (⟨S4x8x64x128, .f32⟩ : BufTy).Contents (Elt F) → (⟨S1x4x8x64x128, .f32⟩ : BufTy).Contents (Elt F)),
    unary main_v163 main_v201 (broadcastInDim S1x4x8x64x128 ![1, 2, 3, 4] bcast_S4x8x64x128_S1x4x8x64x128_1_2_3_4 : (⟨S4x8x64x128, .f32⟩ : BufTy).Contents (Elt F) → (⟨S1x4x8x64x128, .f32⟩ : BufTy).Contents (Elt F)),
    unary main_v171 main_v202 (broadcastInDim S1x4x8x64x128 ![1, 2, 3, 4] bcast_S4x8x64x128_S1x4x8x64x128_1_2_3_4 : (⟨S4x8x64x128, .f32⟩ : BufTy).Contents (Elt F) → (⟨S1x4x8x64x128, .f32⟩ : BufTy).Contents (Elt F)),
    unary main_v179 main_v203 (broadcastInDim S1x4x8x64x128 ![1, 2, 3, 4] bcast_S4x8x64x128_S1x4x8x64x128_1_2_3_4 : (⟨S4x8x64x128, .f32⟩ : BufTy).Contents (Elt F) → (⟨S1x4x8x64x128, .f32⟩ : BufTy).Contents (Elt F)) ]
/-- The buffers after window 17. -/
def w17 : Valuation τ sig (Elt F) := after hostOps0_8_8 (w16 V0)
/-- The buffers that window 17 writes. -/
abbrev w17_W : List (Ref sig .tc) := [main_v185, main_v186, main_v187, main_v188, main_v189, main_v190, main_v191, main_v192, main_v193, main_v194, main_v195, main_v196, main_v197, main_v198, main_v199, main_v200, main_v201, main_v202, main_v203]
set_option maxRecDepth 8192 in
/-- Window 17 writes only the buffers of `w17_W`. -/
theorem w17_writes : (hostOps0_8_8 : List (HloOp τ sig (Elt F))).Forall fun op => op.writes ⊆ (w17_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [TRef.binary, TRef.nullary, TRef.ternary, TRef.unary, TRef.reshape, nullary_writes, unary_writes, binary_writes, ternary_writes, reshape_writes, nary_writes, Finset.singleton_subset_iff, List.mem_toFinset]
     exact List.mem_map_of_mem (by decide))
/-- A buffer that window 17 does not write keeps its contents through it. -/
theorem w17_keep (r : Ref sig .tc) (h : r ∉ w17_W) :
    w17 V0 (Proc.devRef .tc r) = w16 V0 (Proc.devRef .tc r) :=
  after_of_writes_sub hostOps0_8_8 _ w17_writes h
/-- After window 17, `main_arg4` is as launched. -/
theorem w17_main_arg4 : w17 V0 (no_index (Proc.devRef .tc main_arg4)) = (V0 (Proc.devRef .tc main_arg4)) :=
  (w17_keep V0 main_arg4 (by decide)).trans <|
    (w16_keep V0 main_arg4 (by decide)).trans <|
    (w15_keep V0 main_arg4 (by decide)).trans <|
    (w14_keep V0 main_arg4 (by decide)).trans <|
    (w13_keep V0 main_arg4 (by decide)).trans <|
    (w12_keep V0 main_arg4 (by decide)).trans <|
    (w11_keep V0 main_arg4 (by decide)).trans <|
    (w10_keep V0 main_arg4 (by decide)).trans <|
    (w9_keep V0 main_arg4 (by decide)).trans <|
    (w8_keep V0 main_arg4 (by decide)).trans <|
    (w7_keep V0 main_arg4 (by decide)).trans <|
    (w6_keep V0 main_arg4 (by decide)).trans <|
    (w5_keep V0 main_arg4 (by decide)).trans <|
    (w4_keep V0 main_arg4 (by decide)).trans <|
    (w3_keep V0 main_arg4 (by decide)).trans <|
    (w2_keep V0 main_arg4 (by decide)).trans <|
    (w1_keep V0 main_arg4 (by decide)).trans (w0_main_arg4 V0)
/-- After window 17, `main_v1` holds stage `val_main_v3`. -/
theorem w17_main_v1 : w17 V0 (no_index (Proc.devRef .tc main_v1)) = (Cert.ReferenceIdeal.Read.val_main_v3 (F := F) (V0 (Proc.devRef .tc main_arg1))) :=
  (w17_keep V0 main_v1 (by decide)).trans <|
    (w16_keep V0 main_v1 (by decide)).trans <|
    (w15_keep V0 main_v1 (by decide)).trans <|
    (w14_keep V0 main_v1 (by decide)).trans <|
    (w13_keep V0 main_v1 (by decide)).trans <|
    (w12_keep V0 main_v1 (by decide)).trans <|
    (w11_keep V0 main_v1 (by decide)).trans <|
    (w10_keep V0 main_v1 (by decide)).trans <|
    (w9_keep V0 main_v1 (by decide)).trans <|
    (w8_keep V0 main_v1 (by decide)).trans <|
    (w7_keep V0 main_v1 (by decide)).trans <|
    (w6_keep V0 main_v1 (by decide)).trans <|
    (w5_keep V0 main_v1 (by decide)).trans <|
    (w4_keep V0 main_v1 (by decide)).trans <|
    (w3_keep V0 main_v1 (by decide)).trans (w2_main_v1 V0)
/-- After window 17, `main_v18` holds stage `val_main_v19`. -/
theorem w17_main_v18 : w17 V0 (no_index (Proc.devRef .tc main_v18)) = (Cert.ReferenceIdeal.Read.val_main_v19 (F := F) (V0 (Proc.devRef .tc main_arg1))) :=
  (w17_keep V0 main_v18 (by decide)).trans <|
    (w16_keep V0 main_v18 (by decide)).trans <|
    (w15_keep V0 main_v18 (by decide)).trans <|
    (w14_keep V0 main_v18 (by decide)).trans <|
    (w13_keep V0 main_v18 (by decide)).trans <|
    (w12_keep V0 main_v18 (by decide)).trans <|
    (w11_keep V0 main_v18 (by decide)).trans <|
    (w10_keep V0 main_v18 (by decide)).trans <|
    (w9_keep V0 main_v18 (by decide)).trans (w8_main_v18 V0)
/-- After window 17, `main_v25` holds stage `val_main_v26`. -/
theorem w17_main_v25 : w17 V0 (no_index (Proc.devRef .tc main_v25)) = (Cert.ReferenceIdeal.Read.val_main_v26 (F := F) (V0 (Proc.devRef .tc main_arg0)) (V0 (Proc.devRef .tc main_arg2)) (V0 (Proc.devRef .tc main_arg3))) :=
  (w17_keep V0 main_v25 (by decide)).trans <|
    (w16_keep V0 main_v25 (by decide)).trans <|
    (w15_keep V0 main_v25 (by decide)).trans <|
    (w14_keep V0 main_v25 (by decide)).trans <|
    (w13_keep V0 main_v25 (by decide)).trans <|
    (w12_keep V0 main_v25 (by decide)).trans <|
    (w11_keep V0 main_v25 (by decide)).trans <|
    (w10_keep V0 main_v25 (by decide)).trans <|
    (w9_keep V0 main_v25 (by decide)).trans (w8_main_v25 V0)
/-- After window 17, `main_v42` holds stage `val_main_v43`. -/
theorem w17_main_v42 : w17 V0 (no_index (Proc.devRef .tc main_v42)) = (Cert.ReferenceIdeal.Read.val_main_v43 (F := F) (V0 (Proc.devRef .tc main_arg0)) (V0 (Proc.devRef .tc main_arg1)) (V0 (Proc.devRef .tc main_arg2)) (V0 (Proc.devRef .tc main_arg3))) :=
  (w17_keep V0 main_v42 (by decide)).trans <|
    (w16_keep V0 main_v42 (by decide)).trans <|
    (w15_keep V0 main_v42 (by decide)).trans <|
    (w14_keep V0 main_v42 (by decide)).trans <|
    (w13_keep V0 main_v42 (by decide)).trans <|
    (w12_keep V0 main_v42 (by decide)).trans <|
    (w11_keep V0 main_v42 (by decide)).trans <|
    (w10_keep V0 main_v42 (by decide)).trans (w9_main_v42 V0)
/-- After window 17, `main_v59` holds stage `val_main_v60`. -/
theorem w17_main_v59 : w17 V0 (no_index (Proc.devRef .tc main_v59)) = (Cert.ReferenceIdeal.Read.val_main_v60 (F := F)) :=
  (w17_keep V0 main_v59 (by decide)).trans <|
    (w16_keep V0 main_v59 (by decide)).trans <|
    (w15_keep V0 main_v59 (by decide)).trans <|
    (w14_keep V0 main_v59 (by decide)).trans <|
    (w13_keep V0 main_v59 (by decide)).trans <|
    (w12_keep V0 main_v59 (by decide)).trans <|
    (w11_keep V0 main_v59 (by decide)).trans (w10_main_v59 V0)
set_option maxRecDepth 8192 in
set_option maxHeartbeats 2000000 in
/-- After window 17, `main_v188` holds stage `val_main_v190`. -/
theorem w17_main_v188 : w17 V0 (no_index (Proc.devRef .tc main_v188)) = (Cert.ReferenceIdeal.Read.val_main_v190 (F := F)) := by
  unfold w17
  simp only [hostOps0_8_8]
  after_results_simp
  simp only [w16_main_v54] <;> rfl
set_option maxRecDepth 8192 in
set_option maxHeartbeats 2000000 in
/-- After window 17, `main_v189` holds stage `val_main_v191`. -/
theorem w17_main_v189 : w17 V0 (no_index (Proc.devRef .tc main_v189)) = (Cert.ReferenceIdeal.Read.val_main_v191 (F := F) (V0 (Proc.devRef .tc main_arg0)) (V0 (Proc.devRef .tc main_arg1)) (V0 (Proc.devRef .tc main_arg2)) (V0 (Proc.devRef .tc main_arg3))) := by
  unfold w17
  simp only [hostOps0_8_8]
  after_results_simp
  simp only [w16_main_v67] <;> rfl
set_option maxRecDepth 8192 in
set_option maxHeartbeats 2000000 in
/-- After window 17, `main_v190` holds stage `val_main_v192`. -/
theorem w17_main_v190 : w17 V0 (no_index (Proc.devRef .tc main_v190)) = (Cert.ReferenceIdeal.Read.val_main_v192 (F := F) (V0 (Proc.devRef .tc main_arg0)) (V0 (Proc.devRef .tc main_arg1)) (V0 (Proc.devRef .tc main_arg2)) (V0 (Proc.devRef .tc main_arg3))) := by
  unfold w17
  simp only [hostOps0_8_8]
  after_results_simp
  simp only [w16_main_v75] <;> rfl
set_option maxRecDepth 8192 in
set_option maxHeartbeats 2000000 in
/-- After window 17, `main_v191` holds stage `val_main_v193`. -/
theorem w17_main_v191 : w17 V0 (no_index (Proc.devRef .tc main_v191)) = (Cert.ReferenceIdeal.Read.val_main_v193 (F := F) (V0 (Proc.devRef .tc main_arg0)) (V0 (Proc.devRef .tc main_arg1)) (V0 (Proc.devRef .tc main_arg2)) (V0 (Proc.devRef .tc main_arg3))) := by
  unfold w17
  simp only [hostOps0_8_8]
  after_results_simp
  simp only [w16_main_v83] <;> rfl
set_option maxRecDepth 8192 in
set_option maxHeartbeats 2000000 in
/-- After window 17, `main_v192` holds stage `val_main_v194`. -/
theorem w17_main_v192 : w17 V0 (no_index (Proc.devRef .tc main_v192)) = (Cert.ReferenceIdeal.Read.val_main_v194 (F := F) (V0 (Proc.devRef .tc main_arg0)) (V0 (Proc.devRef .tc main_arg1)) (V0 (Proc.devRef .tc main_arg2)) (V0 (Proc.devRef .tc main_arg3))) := by
  unfold w17
  simp only [hostOps0_8_8]
  after_results_simp
  simp only [w16_main_v91] <;> rfl
set_option maxRecDepth 8192 in
set_option maxHeartbeats 2000000 in
/-- After window 17, `main_v193` holds stage `val_main_v195`. -/
theorem w17_main_v193 : w17 V0 (no_index (Proc.devRef .tc main_v193)) = (Cert.ReferenceIdeal.Read.val_main_v195 (F := F) (V0 (Proc.devRef .tc main_arg0)) (V0 (Proc.devRef .tc main_arg1)) (V0 (Proc.devRef .tc main_arg2)) (V0 (Proc.devRef .tc main_arg3))) := by
  unfold w17
  simp only [hostOps0_8_8]
  after_results_simp
  simp only [w16_main_v99] <;> rfl
set_option maxRecDepth 8192 in
set_option maxHeartbeats 2000000 in
/-- After window 17, `main_v194` holds stage `val_main_v196`. -/
theorem w17_main_v194 : w17 V0 (no_index (Proc.devRef .tc main_v194)) = (Cert.ReferenceIdeal.Read.val_main_v196 (F := F) (V0 (Proc.devRef .tc main_arg0)) (V0 (Proc.devRef .tc main_arg1)) (V0 (Proc.devRef .tc main_arg2)) (V0 (Proc.devRef .tc main_arg3))) := by
  unfold w17
  simp only [hostOps0_8_8]
  after_results_simp
  simp only [w16_main_v107] <;> rfl
set_option maxRecDepth 8192 in
set_option maxHeartbeats 2000000 in
/-- After window 17, `main_v195` holds stage `val_main_v197`. -/
theorem w17_main_v195 : w17 V0 (no_index (Proc.devRef .tc main_v195)) = (Cert.ReferenceIdeal.Read.val_main_v197 (F := F) (V0 (Proc.devRef .tc main_arg0)) (V0 (Proc.devRef .tc main_arg1)) (V0 (Proc.devRef .tc main_arg2)) (V0 (Proc.devRef .tc main_arg3))) := by
  unfold w17
  simp only [hostOps0_8_8]
  after_results_simp
  simp only [w16_main_v115] <;> rfl
set_option maxRecDepth 8192 in
set_option maxHeartbeats 2000000 in
/-- After window 17, `main_v196` holds stage `val_main_v198`. -/
theorem w17_main_v196 : w17 V0 (no_index (Proc.devRef .tc main_v196)) = (Cert.ReferenceIdeal.Read.val_main_v198 (F := F) (V0 (Proc.devRef .tc main_arg0)) (V0 (Proc.devRef .tc main_arg1)) (V0 (Proc.devRef .tc main_arg2)) (V0 (Proc.devRef .tc main_arg3))) := by
  unfold w17
  simp only [hostOps0_8_8]
  after_results_simp
  simp only [w16_main_v123] <;> rfl
set_option maxRecDepth 8192 in
set_option maxHeartbeats 2000000 in
/-- After window 17, `main_v197` holds stage `val_main_v199`. -/
theorem w17_main_v197 : w17 V0 (no_index (Proc.devRef .tc main_v197)) = (Cert.ReferenceIdeal.Read.val_main_v199 (F := F) (V0 (Proc.devRef .tc main_arg0)) (V0 (Proc.devRef .tc main_arg1)) (V0 (Proc.devRef .tc main_arg2)) (V0 (Proc.devRef .tc main_arg3))) := by
  unfold w17
  simp only [hostOps0_8_8]
  after_results_simp
  simp only [w16_main_v131] <;> rfl
set_option maxRecDepth 8192 in
set_option maxHeartbeats 2000000 in
/-- After window 17, `main_v198` holds stage `val_main_v200`. -/
theorem w17_main_v198 : w17 V0 (no_index (Proc.devRef .tc main_v198)) = (Cert.ReferenceIdeal.Read.val_main_v200 (F := F) (V0 (Proc.devRef .tc main_arg0)) (V0 (Proc.devRef .tc main_arg1)) (V0 (Proc.devRef .tc main_arg2)) (V0 (Proc.devRef .tc main_arg3))) := by
  unfold w17
  simp only [hostOps0_8_8]
  after_results_simp
  simp only [w16_main_v139] <;> rfl
set_option maxRecDepth 8192 in
set_option maxHeartbeats 2000000 in
/-- After window 17, `main_v199` holds stage `val_main_v201`. -/
theorem w17_main_v199 : w17 V0 (no_index (Proc.devRef .tc main_v199)) = (Cert.ReferenceIdeal.Read.val_main_v201 (F := F) (V0 (Proc.devRef .tc main_arg0)) (V0 (Proc.devRef .tc main_arg1)) (V0 (Proc.devRef .tc main_arg2)) (V0 (Proc.devRef .tc main_arg3))) := by
  unfold w17
  simp only [hostOps0_8_8]
  after_results_simp
  simp only [w16_main_v147] <;> rfl
set_option maxRecDepth 8192 in
set_option maxHeartbeats 2000000 in
/-- After window 17, `main_v200` holds stage `val_main_v202`. -/
theorem w17_main_v200 : w17 V0 (no_index (Proc.devRef .tc main_v200)) = (Cert.ReferenceIdeal.Read.val_main_v202 (F := F) (V0 (Proc.devRef .tc main_arg0)) (V0 (Proc.devRef .tc main_arg1)) (V0 (Proc.devRef .tc main_arg2)) (V0 (Proc.devRef .tc main_arg3))) := by
  unfold w17
  simp only [hostOps0_8_8]
  after_results_simp
  simp only [w16_main_v155] <;> rfl
set_option maxRecDepth 8192 in
set_option maxHeartbeats 2000000 in
/-- After window 17, `main_v201` holds stage `val_main_v203`. -/
theorem w17_main_v201 : w17 V0 (no_index (Proc.devRef .tc main_v201)) = (Cert.ReferenceIdeal.Read.val_main_v203 (F := F) (V0 (Proc.devRef .tc main_arg0)) (V0 (Proc.devRef .tc main_arg1)) (V0 (Proc.devRef .tc main_arg2)) (V0 (Proc.devRef .tc main_arg3))) := by
  unfold w17
  simp only [hostOps0_8_8]
  after_results_simp
  simp only [w16_main_v163] <;> rfl
set_option maxRecDepth 8192 in
set_option maxHeartbeats 2000000 in
/-- After window 17, `main_v202` holds stage `val_main_v204`. -/
theorem w17_main_v202 : w17 V0 (no_index (Proc.devRef .tc main_v202)) = (Cert.ReferenceIdeal.Read.val_main_v204 (F := F) (V0 (Proc.devRef .tc main_arg0)) (V0 (Proc.devRef .tc main_arg1)) (V0 (Proc.devRef .tc main_arg2)) (V0 (Proc.devRef .tc main_arg3))) := by
  unfold w17
  simp only [hostOps0_8_8]
  after_results_simp
  simp only [w16_main_v171] <;> rfl
set_option maxRecDepth 8192 in
set_option maxHeartbeats 2000000 in
/-- After window 17, `main_v203` holds stage `val_main_v205`. -/
theorem w17_main_v203 : w17 V0 (no_index (Proc.devRef .tc main_v203)) = (Cert.ReferenceIdeal.Read.val_main_v205 (F := F) (V0 (Proc.devRef .tc main_arg0)) (V0 (Proc.devRef .tc main_arg1)) (V0 (Proc.devRef .tc main_arg2)) (V0 (Proc.devRef .tc main_arg3))) := by
  unfold w17
  simp only [hostOps0_8_8]
  after_results_simp
  simp only [w16_main_v179] <;> rfl
/-- Operations 172 to 189 of the long window. -/
abbrev hostOps0_8_9 : List (HloOp τ sig (Elt F)) :=
  [ nary ![main_v188, main_v189, main_v190, main_v191, main_v192, main_v193, main_v194, main_v195, main_v196, main_v197, main_v198, main_v199, main_v200, main_v201, main_v202, main_v203] main_v204 (fun u => Cert.ReferenceIdeal.Value.fn_main_v206 (F := F) (u 0) (u 1) (u 2) (u 3) (u 4) (u 5) (u 6) (u 7) (u 8) (u 9) (u 10) (u 11) (u 12) (u 13) (u 14) (u 15)),
    binary main_v59 main_v204 main_v205 (Cert.ReferenceIdeal.Value.fn_main_v224 (F := F)),
    binary main_v205 main_v18 main_v206 ((fun l r => Host.dotGeneral dot_S16x4x8x64x128_S16x128x4x128_S16x4x8x64x128_4_3_23_1_01_02 none l r) : (⟨S16x4x8x64x128, .f32⟩ : BufTy).Contents (Elt F) → (⟨S16x128x4x128, .f32⟩ : BufTy).Contents (Elt F) → (⟨S16x4x8x64x128, .f32⟩ : BufTy).Contents (Elt F)),
    unary main_v206 main_v207 ((transpose S16x128x4x8x64 [0, 4, 1, 2, 3] · transposes_S16x4x8x64x128_S16x128x4x8x64_0_4_1_2_3) : (⟨S16x4x8x64x128, .f32⟩ : BufTy).Contents (Elt F) → (⟨S16x128x4x8x64, .f32⟩ : BufTy).Contents (Elt F)),
    unary main_v25 main_v208 (Host.exp : (⟨S16x128x4x8, .f32⟩ : BufTy).Contents (Elt F) → (⟨S16x128x4x8, .f32⟩ : BufTy).Contents (Elt F)),
    unary main_v208 main_v209 (broadcastInDim S16x128x4x8x1 ![0, 1, 2, 3] bcast_S16x128x4x8_S16x128x4x8x1_0_1_2_3 : (⟨S16x128x4x8, .f32⟩ : BufTy).Contents (Elt F) → (⟨S16x128x4x8x1, .f32⟩ : BufTy).Contents (Elt F)),
    unary main_v209 main_v210 (broadcastInDim S16x128x4x8x64 ![0, 1, 2, 3, 4] bcast_S16x128x4x8x1_S16x128x4x8x64_0_1_2_3_4 : (⟨S16x128x4x8x1, .f32⟩ : BufTy).Contents (Elt F) → (⟨S16x128x4x8x64, .f32⟩ : BufTy).Contents (Elt F)),
    binary main_v207 main_v210 main_v211 (mulf : (⟨S16x128x4x8x64, .f32⟩ : BufTy).Contents (Elt F) → (⟨S16x128x4x8x64, .f32⟩ : BufTy).Contents (Elt F) → (⟨S16x128x4x8x64, .f32⟩ : BufTy).Contents (Elt F)),
    binary main_v42 main_v211 main_v212 (addf : (⟨S16x128x4x8x64, .f32⟩ : BufTy).Contents (Elt F) → (⟨S16x128x4x8x64, .f32⟩ : BufTy).Contents (Elt F) → (⟨S16x128x4x8x64, .f32⟩ : BufTy).Contents (Elt F)),
    reshape main_v212 main_v213 (rfl : (.f32 : EltTy) = .f32) shapeCasts_S16x128x4x8x64_S2048x4x8x64,
    reshape main_arg4 main_v214 (rfl : (.f32 : EltTy) = .f32) shapeCasts_S32_S4x8x1,
    unary main_v214 main_v215 (broadcastInDim S1x4x8x1 ![1, 2, 3] bcast_S4x8x1_S1x4x8x1_1_2_3 : (⟨S4x8x1, .f32⟩ : BufTy).Contents (Elt F) → (⟨S1x4x8x1, .f32⟩ : BufTy).Contents (Elt F)),
    unary main_v215 main_v216 (broadcastInDim S2048x4x8x64 ![0, 1, 2, 3] bcast_S1x4x8x1_S2048x4x8x64_0_1_2_3 : (⟨S1x4x8x1, .f32⟩ : BufTy).Contents (Elt F) → (⟨S2048x4x8x64, .f32⟩ : BufTy).Contents (Elt F)),
    binary main_v216 main_v1 main_v217 (mulf : (⟨S2048x4x8x64, .f32⟩ : BufTy).Contents (Elt F) → (⟨S2048x4x8x64, .f32⟩ : BufTy).Contents (Elt F) → (⟨S2048x4x8x64, .f32⟩ : BufTy).Contents (Elt F)),
    binary main_v213 main_v217 main_v218 (addf : (⟨S2048x4x8x64, .f32⟩ : BufTy).Contents (Elt F) → (⟨S2048x4x8x64, .f32⟩ : BufTy).Contents (Elt F) → (⟨S2048x4x8x64, .f32⟩ : BufTy).Contents (Elt F)),
    reshape main_v218 main_v219 (rfl : (.f32 : EltTy) = .f32) shapeCasts_S2048x4x8x64_S2048x2048,
    reshape main_v25 main_v220 (rfl : (.f32 : EltTy) = .f32) shapeCasts_S16x128x4x8_S2048x32,
    nullary main_c_2 (constantI S_ 32 0#32) ]
/-- The buffers after window 18. -/
def w18 : Valuation τ sig (Elt F) := after hostOps0_8_9 (w17 V0)
/-- The buffers that window 18 writes. -/
abbrev w18_W : List (Ref sig .tc) := [main_v204, main_v205, main_v206, main_v207, main_v208, main_v209, main_v210, main_v211, main_v212, main_v213, main_v214, main_v215, main_v216, main_v217, main_v218, main_v219, main_v220, main_c_2]
set_option maxRecDepth 8192 in
/-- Window 18 writes only the buffers of `w18_W`. -/
theorem w18_writes : (hostOps0_8_9 : List (HloOp τ sig (Elt F))).Forall fun op => op.writes ⊆ (w18_W.map (Proc.devRef (τ := τ) .tc)).toFinset := by
  simp only [List.Forall]
  refine ⟨?_, ?_, ?_, ?_, ?_, ?_, ?_, ?_, ?_, ?_, ?_, ?_, ?_, ?_, ?_, ?_, ?_, ?_⟩ <;>
    (simp only [TRef.binary, TRef.nullary, TRef.ternary, TRef.unary, TRef.reshape, nullary_writes, unary_writes, binary_writes, ternary_writes, reshape_writes, nary_writes, Finset.singleton_subset_iff, List.mem_toFinset]
     exact List.mem_map_of_mem (by decide))
/-- A buffer that window 18 does not write keeps its contents through it. -/
theorem w18_keep (r : Ref sig .tc) (h : r ∉ w18_W) :
    w18 V0 (Proc.devRef .tc r) = w17 V0 (Proc.devRef .tc r) :=
  after_of_writes_sub hostOps0_8_9 _ w18_writes h
set_option maxRecDepth 8192 in
set_option maxHeartbeats 2000000 in
/-- After window 18, `main_v205` holds stage `val_main_v224`. -/
theorem w18_main_v205 : w18 V0 (no_index (Proc.devRef .tc main_v205)) = (Cert.ReferenceIdeal.Read.val_main_v224 (F := F) (V0 (Proc.devRef .tc main_arg0)) (V0 (Proc.devRef .tc main_arg1)) (V0 (Proc.devRef .tc main_arg2)) (V0 (Proc.devRef .tc main_arg3))) := by
  unfold w18
  simp only [hostOps0_8_9]
  after_results_simp
  dsimp only [Matrix.cons_val]
  simp only [w17_main_v59, w17_main_v188, w17_main_v189, w17_main_v190, w17_main_v191, w17_main_v192, w17_main_v193, w17_main_v194, w17_main_v195, w17_main_v196, w17_main_v197, w17_main_v198, w17_main_v199, w17_main_v200, w17_main_v201, w17_main_v202, w17_main_v203] <;> rfl
set_option maxRecDepth 8192 in
set_option maxHeartbeats 2000000 in
/-- After window 18, `main_v219` holds stage `val_main_v239`. -/
theorem w18_main_v219 : w18 V0 (no_index (Proc.devRef .tc main_v219)) = (Cert.ReferenceIdeal.Read.val_main_v239 (F := F) (V0 (Proc.devRef .tc main_arg0)) (V0 (Proc.devRef .tc main_arg1)) (V0 (Proc.devRef .tc main_arg2)) (V0 (Proc.devRef .tc main_arg3)) (V0 (Proc.devRef .tc main_arg4))) := by
  unfold w18
  simp only [hostOps0_8_9]
  after_results_simp
  dsimp only [Matrix.cons_val]
  simp only [w17_main_v1, w17_main_arg4, w17_main_v42, w17_main_v25, w17_main_v18, w17_main_v59, w17_main_v188, w17_main_v189, w17_main_v190, w17_main_v191, w17_main_v192, w17_main_v193, w17_main_v194, w17_main_v195, w17_main_v196, w17_main_v197, w17_main_v198, w17_main_v199, w17_main_v200, w17_main_v201, w17_main_v202, w17_main_v203] <;> rfl
set_option maxRecDepth 8192 in
set_option maxHeartbeats 2000000 in
/-- After window 18, `main_v220` holds stage `val_main_v26`. -/
theorem w18_main_v220 : w18 V0 (no_index (Proc.devRef .tc main_v220)) = (shapeCast _ (Cert.ReferenceIdeal.Read.val_main_v26 (F := F) (V0 (Proc.devRef .tc main_arg0)) (V0 (Proc.devRef .tc main_arg2)) (V0 (Proc.devRef .tc main_arg3))) shapeCasts_S16x128x4x8_S2048x32) := by
  unfold w18
  simp only [hostOps0_8_9]
  after_results_simp
  simp only [w17_main_v25] <;> rfl
set_option maxRecDepth 8192 in
set_option maxHeartbeats 2000000 in
/-- After window 18, `main_c_2` holds stage `val_main_call2_c`. -/
theorem w18_main_c_2 : w18 V0 (no_index (Proc.devRef .tc main_c_2)) = (Cert.ReferenceIdeal.Read.val_main_call2_c (F := F)) := by
  unfold w18
  simp only [hostOps0_8_9]
  after_results_simp
  try rfl
/-- The buffers after window 19. -/
def w19 : Valuation τ sig (Elt F) := after hostOps0_9 (w18 V0)
/-- The buffers that window 19 writes. -/
abbrev w19_W : List (Ref sig .tc) := [main_call4_v0, main_v221]
set_option maxRecDepth 8192 in
/-- Window 19 writes only the buffers of `w19_W`. -/
theorem w19_writes : (hostOps0_9 : List (HloOp τ sig (Elt F))).Forall fun op => op.writes ⊆ (w19_W.map (Proc.devRef (τ := τ) .tc)).toFinset := by
  simp only [List.Forall]
  refine ⟨?_, ?_⟩ <;>
    (simp only [TRef.binary, TRef.nullary, TRef.ternary, TRef.unary, TRef.reshape, nullary_writes, unary_writes, binary_writes, ternary_writes, reshape_writes, nary_writes, Finset.singleton_subset_iff, List.mem_toFinset]
     exact List.mem_map_of_mem (by decide))
/-- A buffer that window 19 does not write keeps its contents through it. -/
theorem w19_keep (r : Ref sig .tc) (h : r ∉ w19_W) :
    w19 V0 (Proc.devRef .tc r) = w18 V0 (Proc.devRef .tc r) :=
  after_of_writes_sub hostOps0_9 _ w19_writes h
set_option maxRecDepth 8192 in
set_option maxHeartbeats 2000000 in
/-- After window 19, `main_v221` holds stage `val_main_v26`. -/
theorem w19_main_v221 : w19 V0 (no_index (Proc.devRef .tc main_v221)) = (pad S2048x128 ![0, 0] ![0, 96] ![0, 0] (shapeCast _ (Cert.ReferenceIdeal.Read.val_main_v26 (F := F) (V0 (Proc.devRef .tc main_arg0)) (V0 (Proc.devRef .tc main_arg2)) (V0 (Proc.devRef .tc main_arg3))) shapeCasts_S16x128x4x8_S2048x32) (Cert.ReferenceIdeal.Read.val_main_call9_v0 (F := F)) pads_S2048x32_S2048x128_000_0960 h_S_) := by
  unfold w19
  simp only [hostOps0_9, TRef.binary, TRef.nullary, TRef.ternary, TRef.unary, TRef.reshape, TRef.toBuf, TRef.ofBuf, cast_eq]
  after_results_simp
  simp only [w18_main_v220, w18_main_c_2] <;> rfl
/-- The buffers after window 20. -/
def w20 : Valuation τ sig (Elt F) := after hostOps0_10 (w19 V0)
/-- The buffers that window 20 writes. -/
abbrev w20_W : List (Ref sig .tc) := [main_c_3]
/-- Window 20 writes only the buffers of `w20_W`. -/
theorem w20_writes : (hostOps0_10 : List (HloOp τ sig (Elt F))).Forall fun op => op.writes ⊆ (w20_W.map (Proc.devRef (τ := τ) .tc)).toFinset := by
  simp only [List.Forall, nullary_writes, unary_writes, binary_writes, ternary_writes, reshape_writes, nary_writes, Finset.singleton_subset_iff, List.mem_toFinset]
  exact List.mem_map_of_mem (by decide)
/-- A buffer that window 20 does not write keeps its contents through it. -/
theorem w20_keep (r : Ref sig .tc) (h : r ∉ w20_W) :
    w20 V0 (Proc.devRef .tc r) = w19 V0 (Proc.devRef .tc r) :=
  after_of_writes_sub hostOps0_10 _ w20_writes h
/-- After window 20, `main_v10` holds stage `val_main_v11_0`. -/
theorem w20_main_v10 : w20 V0 (no_index (Proc.devRef .tc main_v10)) = (Cert.ReferenceIdeal.Read.val_main_v11_0 (F := F) (V0 (Proc.devRef .tc main_arg0)) (V0 (Proc.devRef .tc main_arg2))) :=
  (w20_keep V0 main_v10 (by decide)).trans <|
    (w19_keep V0 main_v10 (by decide)).trans <|
    (w18_keep V0 main_v10 (by decide)).trans <|
    (w17_keep V0 main_v10 (by decide)).trans <|
    (w16_keep V0 main_v10 (by decide)).trans <|
    (w15_keep V0 main_v10 (by decide)).trans <|
    (w14_keep V0 main_v10 (by decide)).trans <|
    (w13_keep V0 main_v10 (by decide)).trans <|
    (w12_keep V0 main_v10 (by decide)).trans <|
    (w11_keep V0 main_v10 (by decide)).trans <|
    (w10_keep V0 main_v10 (by decide)).trans <|
    (w9_keep V0 main_v10 (by decide)).trans <|
    (w8_keep V0 main_v10 (by decide)).trans <|
    (w7_keep V0 main_v10 (by decide)).trans <|
    (w6_keep V0 main_v10 (by decide)).trans <|
    (w5_keep V0 main_v10 (by decide)).trans <|
    (w4_keep V0 main_v10 (by decide)).trans <|
    (w3_keep V0 main_v10 (by decide)).trans (w2_main_v10 V0)
set_option maxRecDepth 8192 in
set_option maxHeartbeats 2000000 in
/-- After window 20, `main_c_3` holds stage `val_main_call2_c`. -/
theorem w20_main_c_3 : w20 V0 (no_index (Proc.devRef .tc main_c_3)) = (Cert.ReferenceIdeal.Read.val_main_call2_c (F := F)) := by
  unfold w20
  simp only [hostOps0_10]
  after_results_simp
  try rfl
/-- The buffers after window 21. -/
def w21 : Valuation τ sig (Elt F) := after hostOps0_11 (w20 V0)
/-- The buffers that window 21 writes. -/
abbrev w21_W : List (Ref sig .tc) := [main_call5_v0, main_v222]
set_option maxRecDepth 8192 in
/-- Window 21 writes only the buffers of `w21_W`. -/
theorem w21_writes : (hostOps0_11 : List (HloOp τ sig (Elt F))).Forall fun op => op.writes ⊆ (w21_W.map (Proc.devRef (τ := τ) .tc)).toFinset := by
  simp only [List.Forall]
  refine ⟨?_, ?_⟩ <;>
    (simp only [TRef.binary, TRef.nullary, TRef.ternary, TRef.unary, TRef.reshape, nullary_writes, unary_writes, binary_writes, ternary_writes, reshape_writes, nary_writes, Finset.singleton_subset_iff, List.mem_toFinset]
     exact List.mem_map_of_mem (by decide))
/-- A buffer that window 21 does not write keeps its contents through it. -/
theorem w21_keep (r : Ref sig .tc) (h : r ∉ w21_W) :
    w21 V0 (Proc.devRef .tc r) = w20 V0 (Proc.devRef .tc r) :=
  after_of_writes_sub hostOps0_11 _ w21_writes h
/-- After window 21, `main_v9` holds stage `val_main_v10`. -/
theorem w21_main_v9 : w21 V0 (no_index (Proc.devRef .tc main_v9)) = (Cert.ReferenceIdeal.Read.val_main_v10 (F := F) (V0 (Proc.devRef .tc main_arg0)) (V0 (Proc.devRef .tc main_arg2))) :=
  (w21_keep V0 main_v9 (by decide)).trans <|
    (w20_keep V0 main_v9 (by decide)).trans <|
    (w19_keep V0 main_v9 (by decide)).trans <|
    (w18_keep V0 main_v9 (by decide)).trans <|
    (w17_keep V0 main_v9 (by decide)).trans <|
    (w16_keep V0 main_v9 (by decide)).trans <|
    (w15_keep V0 main_v9 (by decide)).trans <|
    (w14_keep V0 main_v9 (by decide)).trans <|
    (w13_keep V0 main_v9 (by decide)).trans <|
    (w12_keep V0 main_v9 (by decide)).trans <|
    (w11_keep V0 main_v9 (by decide)).trans <|
    (w10_keep V0 main_v9 (by decide)).trans <|
    (w9_keep V0 main_v9 (by decide)).trans <|
    (w8_keep V0 main_v9 (by decide)).trans <|
    (w7_keep V0 main_v9 (by decide)).trans <|
    (w6_keep V0 main_v9 (by decide)).trans <|
    (w5_keep V0 main_v9 (by decide)).trans <|
    (w4_keep V0 main_v9 (by decide)).trans <|
    (w3_keep V0 main_v9 (by decide)).trans <|
    (w2_keep V0 main_v9 (by decide)).trans (w1_main_v9 V0)
set_option maxRecDepth 8192 in
set_option maxHeartbeats 2000000 in
/-- After window 21, `main_v222` holds stage `val_main_v11_0`. -/
theorem w21_main_v222 : w21 V0 (no_index (Proc.devRef .tc main_v222)) = (pad S2048x128 ![0, 0] ![0, 96] ![0, 0] (Cert.ReferenceIdeal.Read.val_main_v11_0 (F := F) (V0 (Proc.devRef .tc main_arg0)) (V0 (Proc.devRef .tc main_arg2))) (Cert.ReferenceIdeal.Read.val_main_call9_v0 (F := F)) pads_S2048x32_S2048x128_000_0960 h_S_) := by
  unfold w21
  simp only [hostOps0_11, TRef.binary, TRef.nullary, TRef.ternary, TRef.unary, TRef.reshape, TRef.toBuf, TRef.ofBuf, cast_eq]
  after_results_simp
  simp only [w20_main_v10, w20_main_c_3] <;> rfl
/-- The buffers after window 22. -/
def w22 : Valuation τ sig (Elt F) := after hostOps0_12 (w21 V0)
/-- The buffers that window 22 writes. -/
abbrev w22_W : List (Ref sig .tc) := [main_v223, main_v224, main_cst_4, main_v225, main_v226, main_cst_5, main_v227, main_v228, main_c_6]
set_option maxRecDepth 8192 in
/-- Window 22 writes only the buffers of `w22_W`. -/
theorem w22_writes : (hostOps0_12 : List (HloOp τ sig (Elt F))).Forall fun op => op.writes ⊆ (w22_W.map (Proc.devRef (τ := τ) .tc)).toFinset := by
  simp only [List.Forall]
  refine ⟨?_, ?_, ?_, ?_, ?_, ?_, ?_, ?_, ?_⟩ <;>
    (simp only [TRef.binary, TRef.nullary, TRef.ternary, TRef.unary, TRef.reshape, nullary_writes, unary_writes, binary_writes, ternary_writes, reshape_writes, nary_writes, Finset.singleton_subset_iff, List.mem_toFinset]
     exact List.mem_map_of_mem (by decide))
/-- A buffer that window 22 does not write keeps its contents through it. -/
theorem w22_keep (r : Ref sig .tc) (h : r ∉ w22_W) :
    w22 V0 (Proc.devRef .tc r) = w21 V0 (Proc.devRef .tc r) :=
  after_of_writes_sub hostOps0_12 _ w22_writes h
set_option maxRecDepth 8192 in
set_option maxHeartbeats 2000000 in
/-- After window 22, `main_v228` holds stage `val_main_call4_cst`. -/
theorem w22_main_v228 : w22 V0 (no_index (Proc.devRef .tc main_v228)) = ((Host.divf) ((broadcastInDim S2048x32 ![] bcast_S_S2048x32) (Cert.ReferenceIdeal.Read.val_main_call4_cst (F := F))) ((addf) ((broadcastInDim S2048x32 ![] bcast_S_S2048x32) (Cert.ReferenceIdeal.Read.val_main_call4_cst (F := F))) ((Host.exp) ((Host.negf) (Cert.ReferenceIdeal.Read.val_main_v10 (F := F) (V0 (Proc.devRef .tc main_arg0)) (V0 (Proc.devRef .tc main_arg2))))))) := by
  unfold w22
  simp only [hostOps0_12]
  after_results_simp
  simp only [w21_main_v9] <;> rfl
set_option maxRecDepth 8192 in
set_option maxHeartbeats 2000000 in
/-- After window 22, `main_c_6` holds stage `val_main_call2_c`. -/
theorem w22_main_c_6 : w22 V0 (no_index (Proc.devRef .tc main_c_6)) = (Cert.ReferenceIdeal.Read.val_main_call2_c (F := F)) := by
  unfold w22
  simp only [hostOps0_12]
  after_results_simp
  try rfl
/-- The buffers after window 23. -/
def w23 : Valuation τ sig (Elt F) := after hostOps0_13 (w22 V0)
/-- The buffers that window 23 writes. -/
abbrev w23_W : List (Ref sig .tc) := [main_call6_v0, main_v229]
set_option maxRecDepth 8192 in
/-- Window 23 writes only the buffers of `w23_W`. -/
theorem w23_writes : (hostOps0_13 : List (HloOp τ sig (Elt F))).Forall fun op => op.writes ⊆ (w23_W.map (Proc.devRef (τ := τ) .tc)).toFinset := by
  simp only [List.Forall]
  refine ⟨?_, ?_⟩ <;>
    (simp only [TRef.binary, TRef.nullary, TRef.ternary, TRef.unary, TRef.reshape, nullary_writes, unary_writes, binary_writes, ternary_writes, reshape_writes, nary_writes, Finset.singleton_subset_iff, List.mem_toFinset]
     exact List.mem_map_of_mem (by decide))
/-- A buffer that window 23 does not write keeps its contents through it. -/
theorem w23_keep (r : Ref sig .tc) (h : r ∉ w23_W) :
    w23 V0 (Proc.devRef .tc r) = w22 V0 (Proc.devRef .tc r) :=
  after_of_writes_sub hostOps0_13 _ w23_writes h
/-- After window 23, `main_v205` holds stage `val_main_v224`. -/
theorem w23_main_v205 : w23 V0 (no_index (Proc.devRef .tc main_v205)) = (Cert.ReferenceIdeal.Read.val_main_v224 (F := F) (V0 (Proc.devRef .tc main_arg0)) (V0 (Proc.devRef .tc main_arg1)) (V0 (Proc.devRef .tc main_arg2)) (V0 (Proc.devRef .tc main_arg3))) :=
  (w23_keep V0 main_v205 (by decide)).trans <|
    (w22_keep V0 main_v205 (by decide)).trans <|
    (w21_keep V0 main_v205 (by decide)).trans <|
    (w20_keep V0 main_v205 (by decide)).trans <|
    (w19_keep V0 main_v205 (by decide)).trans (w18_main_v205 V0)
/-- After window 23, `main_v221` holds stage `val_main_v26`. -/
theorem w23_main_v221 : w23 V0 (no_index (Proc.devRef .tc main_v221)) = (pad S2048x128 ![0, 0] ![0, 96] ![0, 0] (shapeCast _ (Cert.ReferenceIdeal.Read.val_main_v26 (F := F) (V0 (Proc.devRef .tc main_arg0)) (V0 (Proc.devRef .tc main_arg2)) (V0 (Proc.devRef .tc main_arg3))) shapeCasts_S16x128x4x8_S2048x32) (Cert.ReferenceIdeal.Read.val_main_call9_v0 (F := F)) pads_S2048x32_S2048x128_000_0960 h_S_) :=
  (w23_keep V0 main_v221 (by decide)).trans <|
    (w22_keep V0 main_v221 (by decide)).trans <|
    (w21_keep V0 main_v221 (by decide)).trans <|
    (w20_keep V0 main_v221 (by decide)).trans (w19_main_v221 V0)
/-- The buffers after window 24. -/
def w24 : Valuation τ sig (Elt F) := after hostOps0_14 (w23 V0)
/-- The buffers that window 24 writes. -/
abbrev w24_W : List (Ref sig .tc) := [main_v230, main_v231, main_v232, main_v233, main_v234, main_v235, main_c_7]
set_option maxRecDepth 8192 in
/-- Window 24 writes only the buffers of `w24_W`. -/
theorem w24_writes : (hostOps0_14 : List (HloOp τ sig (Elt F))).Forall fun op => op.writes ⊆ (w24_W.map (Proc.devRef (τ := τ) .tc)).toFinset := by
  simp only [List.Forall]
  refine ⟨?_, ?_, ?_, ?_, ?_, ?_, ?_⟩ <;>
    (simp only [TRef.binary, TRef.nullary, TRef.ternary, TRef.unary, TRef.reshape, nullary_writes, unary_writes, binary_writes, ternary_writes, reshape_writes, nary_writes, Finset.singleton_subset_iff, List.mem_toFinset]
     exact List.mem_map_of_mem (by decide))
/-- A buffer that window 24 does not write keeps its contents through it. -/
theorem w24_keep (r : Ref sig .tc) (h : r ∉ w24_W) :
    w24 V0 (Proc.devRef .tc r) = w23 V0 (Proc.devRef .tc r) :=
  after_of_writes_sub hostOps0_14 _ w24_writes h
/-- After window 24, `main_arg0` is as launched. -/
theorem w24_main_arg0 : w24 V0 (no_index (Proc.devRef .tc main_arg0)) = (V0 (Proc.devRef .tc main_arg0)) :=
  (w24_keep V0 main_arg0 (by decide)).trans <|
    (w23_keep V0 main_arg0 (by decide)).trans <|
    (w22_keep V0 main_arg0 (by decide)).trans <|
    (w21_keep V0 main_arg0 (by decide)).trans <|
    (w20_keep V0 main_arg0 (by decide)).trans <|
    (w19_keep V0 main_arg0 (by decide)).trans <|
    (w18_keep V0 main_arg0 (by decide)).trans <|
    (w17_keep V0 main_arg0 (by decide)).trans <|
    (w16_keep V0 main_arg0 (by decide)).trans <|
    (w15_keep V0 main_arg0 (by decide)).trans <|
    (w14_keep V0 main_arg0 (by decide)).trans <|
    (w13_keep V0 main_arg0 (by decide)).trans <|
    (w12_keep V0 main_arg0 (by decide)).trans <|
    (w11_keep V0 main_arg0 (by decide)).trans <|
    (w10_keep V0 main_arg0 (by decide)).trans <|
    (w9_keep V0 main_arg0 (by decide)).trans <|
    (w8_keep V0 main_arg0 (by decide)).trans <|
    (w7_keep V0 main_arg0 (by decide)).trans <|
    (w6_keep V0 main_arg0 (by decide)).trans <|
    (w5_keep V0 main_arg0 (by decide)).trans <|
    (w4_keep V0 main_arg0 (by decide)).trans <|
    (w3_keep V0 main_arg0 (by decide)).trans <|
    (w2_keep V0 main_arg0 (by decide)).trans <|
    (w1_keep V0 main_arg0 (by decide)).trans (w0_main_arg0 V0)
set_option maxRecDepth 8192 in
set_option maxHeartbeats 2000000 in
/-- After window 24, `main_v231` holds stage `val_main_v26`. -/
theorem w24_main_v231 : w24 V0 (no_index (Proc.devRef .tc main_v231)) = (transpose S16x128x128 [0, 2, 1] (shapeCast _ (pad S2048x128 ![0, 0] ![0, 96] ![0, 0] (shapeCast _ (Cert.ReferenceIdeal.Read.val_main_v26 (F := F) (V0 (Proc.devRef .tc main_arg0)) (V0 (Proc.devRef .tc main_arg2)) (V0 (Proc.devRef .tc main_arg3))) shapeCasts_S16x128x4x8_S2048x32) (Cert.ReferenceIdeal.Read.val_main_call9_v0 (F := F)) pads_S2048x32_S2048x128_000_0960 h_S_) shapeCasts_S2048x128_S16x128x128) transposes_S16x128x128_S16x128x128_0_2_1) := by
  unfold w24
  simp only [hostOps0_14]
  after_results_simp
  simp only [w23_main_v221] <;> rfl
set_option maxRecDepth 8192 in
set_option maxHeartbeats 2000000 in
/-- After window 24, `main_v233` holds stage `val_main_v26`. -/
theorem w24_main_v233 : w24 V0 (no_index (Proc.devRef .tc main_v233)) = (extractStridedSlice S16x1x128 ![0, 127, 0] (shapeCast _ (pad S2048x128 ![0, 0] ![0, 96] ![0, 0] (shapeCast _ (Cert.ReferenceIdeal.Read.val_main_v26 (F := F) (V0 (Proc.devRef .tc main_arg0)) (V0 (Proc.devRef .tc main_arg2)) (V0 (Proc.devRef .tc main_arg3))) shapeCasts_S16x128x4x8_S2048x32) (Cert.ReferenceIdeal.Read.val_main_call9_v0 (F := F)) pads_S2048x32_S2048x128_000_0960 h_S_) shapeCasts_S2048x128_S16x128x128) slices_S16x128x128_S16x1x128_0_127_0) := by
  unfold w24
  simp only [hostOps0_14]
  after_results_simp
  simp only [w23_main_v221] <;> rfl
set_option maxRecDepth 8192 in
set_option maxHeartbeats 2000000 in
/-- After window 24, `main_v235` holds stage `val_main_v224`. -/
theorem w24_main_v235 : w24 V0 (no_index (Proc.devRef .tc main_v235)) = (shapeCast _ (transpose S16x4x128x8x64 [0, 1, 4, 2, 3] (Cert.ReferenceIdeal.Read.val_main_v224 (F := F) (V0 (Proc.devRef .tc main_arg0)) (V0 (Proc.devRef .tc main_arg1)) (V0 (Proc.devRef .tc main_arg2)) (V0 (Proc.devRef .tc main_arg3))) transposes_S16x4x8x64x128_S16x4x128x8x64_0_1_4_2_3) shapeCasts_S16x4x128x8x64_S16x4x128x512) := by
  unfold w24
  simp only [hostOps0_14]
  after_results_simp
  simp only [w23_main_v205] <;> rfl
set_option maxRecDepth 8192 in
set_option maxHeartbeats 2000000 in
/-- After window 24, `main_c_7` holds stage `val_main_call2_c`. -/
theorem w24_main_c_7 : w24 V0 (no_index (Proc.devRef .tc main_c_7)) = (Cert.ReferenceIdeal.Read.val_main_call2_c (F := F)) := by
  unfold w24
  simp only [hostOps0_14]
  after_results_simp
  try rfl
/-- The buffers after window 25. -/
def w25 : Valuation τ sig (Elt F) := after hostOps0_15 (w24 V0)
/-- The buffers that window 25 writes. -/
abbrev w25_W : List (Ref sig .tc) := [main_call7_v0, main_v236]
set_option maxRecDepth 8192 in
/-- Window 25 writes only the buffers of `w25_W`. -/
theorem w25_writes : (hostOps0_15 : List (HloOp τ sig (Elt F))).Forall fun op => op.writes ⊆ (w25_W.map (Proc.devRef (τ := τ) .tc)).toFinset := by
  simp only [List.Forall]
  refine ⟨?_, ?_⟩ <;>
    (simp only [TRef.binary, TRef.nullary, TRef.ternary, TRef.unary, TRef.reshape, nullary_writes, unary_writes, binary_writes, ternary_writes, reshape_writes, nary_writes, Finset.singleton_subset_iff, List.mem_toFinset]
     exact List.mem_map_of_mem (by decide))
/-- A buffer that window 25 does not write keeps its contents through it. -/
theorem w25_keep (r : Ref sig .tc) (h : r ∉ w25_W) :
    w25 V0 (Proc.devRef .tc r) = w24 V0 (Proc.devRef .tc r) :=
  after_of_writes_sub hostOps0_15 _ w25_writes h
set_option maxRecDepth 8192 in
set_option maxHeartbeats 2000000 in
/-- After window 25, `main_v236` holds stage `val_main_call9_v0`. -/
theorem w25_main_v236 : w25 V0 (no_index (Proc.devRef .tc main_v236)) = (pad S2048x5632 ![0, 0] ![0, 480] ![0, 0] (V0 (Proc.devRef .tc main_arg0)) (Cert.ReferenceIdeal.Read.val_main_call9_v0 (F := F)) pads_S2048x5152_S2048x5632_000_04800 h_S_) := by
  unfold w25
  simp only [hostOps0_15, TRef.binary, TRef.nullary, TRef.ternary, TRef.unary, TRef.reshape, TRef.toBuf, TRef.ofBuf, cast_eq]
  after_results_simp
  simp only [w24_main_arg0, w24_main_c_7] <;> rfl
/-- The buffers after window 26. -/
def w26 : Valuation τ sig (Elt F) := after hostOps0_16 (w25 V0)
/-- The buffers that window 26 writes. -/
abbrev w26_W : List (Ref sig .tc) := [main_c_8]
/-- Window 26 writes only the buffers of `w26_W`. -/
theorem w26_writes : (hostOps0_16 : List (HloOp τ sig (Elt F))).Forall fun op => op.writes ⊆ (w26_W.map (Proc.devRef (τ := τ) .tc)).toFinset := by
  simp only [List.Forall, nullary_writes, unary_writes, binary_writes, ternary_writes, reshape_writes, nary_writes, Finset.singleton_subset_iff, List.mem_toFinset]
  exact List.mem_map_of_mem (by decide)
/-- A buffer that window 26 does not write keeps its contents through it. -/
theorem w26_keep (r : Ref sig .tc) (h : r ∉ w26_W) :
    w26 V0 (Proc.devRef .tc r) = w25 V0 (Proc.devRef .tc r) :=
  after_of_writes_sub hostOps0_16 _ w26_writes h
/-- After window 26, `main_arg3` is as launched. -/
theorem w26_main_arg3 : w26 V0 (no_index (Proc.devRef .tc main_arg3)) = (V0 (Proc.devRef .tc main_arg3)) :=
  (w26_keep V0 main_arg3 (by decide)).trans <|
    (w25_keep V0 main_arg3 (by decide)).trans <|
    (w24_keep V0 main_arg3 (by decide)).trans <|
    (w23_keep V0 main_arg3 (by decide)).trans <|
    (w22_keep V0 main_arg3 (by decide)).trans <|
    (w21_keep V0 main_arg3 (by decide)).trans <|
    (w20_keep V0 main_arg3 (by decide)).trans <|
    (w19_keep V0 main_arg3 (by decide)).trans <|
    (w18_keep V0 main_arg3 (by decide)).trans <|
    (w17_keep V0 main_arg3 (by decide)).trans <|
    (w16_keep V0 main_arg3 (by decide)).trans <|
    (w15_keep V0 main_arg3 (by decide)).trans <|
    (w14_keep V0 main_arg3 (by decide)).trans <|
    (w13_keep V0 main_arg3 (by decide)).trans <|
    (w12_keep V0 main_arg3 (by decide)).trans <|
    (w11_keep V0 main_arg3 (by decide)).trans <|
    (w10_keep V0 main_arg3 (by decide)).trans <|
    (w9_keep V0 main_arg3 (by decide)).trans <|
    (w8_keep V0 main_arg3 (by decide)).trans <|
    (w7_keep V0 main_arg3 (by decide)).trans <|
    (w6_keep V0 main_arg3 (by decide)).trans <|
    (w5_keep V0 main_arg3 (by decide)).trans <|
    (w4_keep V0 main_arg3 (by decide)).trans <|
    (w3_keep V0 main_arg3 (by decide)).trans (w2_main_arg3 V0)
set_option maxRecDepth 8192 in
set_option maxHeartbeats 2000000 in
/-- After window 26, `main_c_8` holds stage `val_main_call2_c`. -/
theorem w26_main_c_8 : w26 V0 (no_index (Proc.devRef .tc main_c_8)) = (Cert.ReferenceIdeal.Read.val_main_call2_c (F := F)) := by
  unfold w26
  simp only [hostOps0_16]
  after_results_simp
  try rfl
/-- The buffers after window 27. -/
def w27 : Valuation τ sig (Elt F) := after hostOps0_17 (w26 V0)
/-- The buffers that window 27 writes. -/
abbrev w27_W : List (Ref sig .tc) := [main_call8_v0, main_v237]
set_option maxRecDepth 8192 in
/-- Window 27 writes only the buffers of `w27_W`. -/
theorem w27_writes : (hostOps0_17 : List (HloOp τ sig (Elt F))).Forall fun op => op.writes ⊆ (w27_W.map (Proc.devRef (τ := τ) .tc)).toFinset := by
  simp only [List.Forall]
  refine ⟨?_, ?_⟩ <;>
    (simp only [TRef.binary, TRef.nullary, TRef.ternary, TRef.unary, TRef.reshape, nullary_writes, unary_writes, binary_writes, ternary_writes, reshape_writes, nary_writes, Finset.singleton_subset_iff, List.mem_toFinset]
     exact List.mem_map_of_mem (by decide))
/-- A buffer that window 27 does not write keeps its contents through it. -/
theorem w27_keep (r : Ref sig .tc) (h : r ∉ w27_W) :
    w27 V0 (Proc.devRef .tc r) = w26 V0 (Proc.devRef .tc r) :=
  after_of_writes_sub hostOps0_17 _ w27_writes h
/-- After window 27, `main_arg4` is as launched. -/
theorem w27_main_arg4 : w27 V0 (no_index (Proc.devRef .tc main_arg4)) = (V0 (Proc.devRef .tc main_arg4)) :=
  (w27_keep V0 main_arg4 (by decide)).trans <|
    (w26_keep V0 main_arg4 (by decide)).trans <|
    (w25_keep V0 main_arg4 (by decide)).trans <|
    (w24_keep V0 main_arg4 (by decide)).trans <|
    (w23_keep V0 main_arg4 (by decide)).trans <|
    (w22_keep V0 main_arg4 (by decide)).trans <|
    (w21_keep V0 main_arg4 (by decide)).trans <|
    (w20_keep V0 main_arg4 (by decide)).trans <|
    (w19_keep V0 main_arg4 (by decide)).trans <|
    (w18_keep V0 main_arg4 (by decide)).trans (w17_main_arg4 V0)
/-- After window 27, `main_arg5` is as launched. -/
theorem w27_main_arg5 : w27 V0 (no_index (Proc.devRef .tc main_arg5)) = (V0 (Proc.devRef .tc main_arg5)) :=
  (w27_keep V0 main_arg5 (by decide)).trans <|
    (w26_keep V0 main_arg5 (by decide)).trans <|
    (w25_keep V0 main_arg5 (by decide)).trans <|
    (w24_keep V0 main_arg5 (by decide)).trans <|
    (w23_keep V0 main_arg5 (by decide)).trans <|
    (w22_keep V0 main_arg5 (by decide)).trans <|
    (w21_keep V0 main_arg5 (by decide)).trans <|
    (w20_keep V0 main_arg5 (by decide)).trans <|
    (w19_keep V0 main_arg5 (by decide)).trans <|
    (w18_keep V0 main_arg5 (by decide)).trans <|
    (w17_keep V0 main_arg5 (by decide)).trans <|
    (w16_keep V0 main_arg5 (by decide)).trans <|
    (w15_keep V0 main_arg5 (by decide)).trans <|
    (w14_keep V0 main_arg5 (by decide)).trans <|
    (w13_keep V0 main_arg5 (by decide)).trans <|
    (w12_keep V0 main_arg5 (by decide)).trans <|
    (w11_keep V0 main_arg5 (by decide)).trans <|
    (w10_keep V0 main_arg5 (by decide)).trans <|
    (w9_keep V0 main_arg5 (by decide)).trans <|
    (w8_keep V0 main_arg5 (by decide)).trans <|
    (w7_keep V0 main_arg5 (by decide)).trans <|
    (w6_keep V0 main_arg5 (by decide)).trans <|
    (w5_keep V0 main_arg5 (by decide)).trans <|
    (w4_keep V0 main_arg5 (by decide)).trans <|
    (w3_keep V0 main_arg5 (by decide)).trans <|
    (w2_keep V0 main_arg5 (by decide)).trans <|
    (w1_keep V0 main_arg5 (by decide)).trans (w0_main_arg5 V0)
set_option maxRecDepth 8192 in
set_option maxHeartbeats 2000000 in
/-- After window 27, `main_v237` holds stage `val_main_call9_v0`. -/
theorem w27_main_v237 : w27 V0 (no_index (Proc.devRef .tc main_v237)) = (pad S128 ![0] ![96] ![0] (V0 (Proc.devRef .tc main_arg3)) (Cert.ReferenceIdeal.Read.val_main_call9_v0 (F := F)) pads_S32_S128_0960 h_S_) := by
  unfold w27
  simp only [hostOps0_17, TRef.binary, TRef.nullary, TRef.ternary, TRef.unary, TRef.reshape, TRef.toBuf, TRef.ofBuf, cast_eq]
  after_results_simp
  simp only [w26_main_arg3, w26_main_c_8] <;> rfl
/-- The buffers after window 28. -/
def w28 : Valuation τ sig (Elt F) := after hostOps0_18 (w27 V0)
/-- The buffers that window 28 writes. -/
abbrev w28_W : List (Ref sig .tc) := [main_v238, main_v239, main_v240, main_v241, main_v242]
set_option maxRecDepth 8192 in
/-- Window 28 writes only the buffers of `w28_W`. -/
theorem w28_writes : (hostOps0_18 : List (HloOp τ sig (Elt F))).Forall fun op => op.writes ⊆ (w28_W.map (Proc.devRef (τ := τ) .tc)).toFinset := by
  simp only [List.Forall]
  refine ⟨?_, ?_, ?_, ?_, ?_⟩ <;>
    (simp only [TRef.binary, TRef.nullary, TRef.ternary, TRef.unary, TRef.reshape, nullary_writes, unary_writes, binary_writes, ternary_writes, reshape_writes, nary_writes, Finset.singleton_subset_iff, List.mem_toFinset]
     exact List.mem_map_of_mem (by decide))
/-- A buffer that window 28 does not write keeps its contents through it. -/
theorem w28_keep (r : Ref sig .tc) (h : r ∉ w28_W) :
    w28 V0 (Proc.devRef .tc r) = w27 V0 (Proc.devRef .tc r) :=
  after_of_writes_sub hostOps0_18 _ w28_writes h
/-- After window 28, `main_arg1` is as launched. -/
theorem w28_main_arg1 : w28 V0 (no_index (Proc.devRef .tc main_arg1)) = (V0 (Proc.devRef .tc main_arg1)) :=
  (w28_keep V0 main_arg1 (by decide)).trans <|
    (w27_keep V0 main_arg1 (by decide)).trans <|
    (w26_keep V0 main_arg1 (by decide)).trans <|
    (w25_keep V0 main_arg1 (by decide)).trans <|
    (w24_keep V0 main_arg1 (by decide)).trans <|
    (w23_keep V0 main_arg1 (by decide)).trans <|
    (w22_keep V0 main_arg1 (by decide)).trans <|
    (w21_keep V0 main_arg1 (by decide)).trans <|
    (w20_keep V0 main_arg1 (by decide)).trans <|
    (w19_keep V0 main_arg1 (by decide)).trans <|
    (w18_keep V0 main_arg1 (by decide)).trans <|
    (w17_keep V0 main_arg1 (by decide)).trans <|
    (w16_keep V0 main_arg1 (by decide)).trans <|
    (w15_keep V0 main_arg1 (by decide)).trans <|
    (w14_keep V0 main_arg1 (by decide)).trans <|
    (w13_keep V0 main_arg1 (by decide)).trans <|
    (w12_keep V0 main_arg1 (by decide)).trans <|
    (w11_keep V0 main_arg1 (by decide)).trans <|
    (w10_keep V0 main_arg1 (by decide)).trans <|
    (w9_keep V0 main_arg1 (by decide)).trans <|
    (w8_keep V0 main_arg1 (by decide)).trans <|
    (w7_keep V0 main_arg1 (by decide)).trans <|
    (w6_keep V0 main_arg1 (by decide)).trans <|
    (w5_keep V0 main_arg1 (by decide)).trans <|
    (w4_keep V0 main_arg1 (by decide)).trans <|
    (w3_keep V0 main_arg1 (by decide)).trans <|
    (w2_keep V0 main_arg1 (by decide)).trans <|
    (w1_keep V0 main_arg1 (by decide)).trans (w0_main_arg1 V0)
/-- After window 28, `main_arg6` is as launched. -/
theorem w28_main_arg6 : w28 V0 (no_index (Proc.devRef .tc main_arg6)) = (V0 (Proc.devRef .tc main_arg6)) :=
  (w28_keep V0 main_arg6 (by decide)).trans <|
    (w27_keep V0 main_arg6 (by decide)).trans <|
    (w26_keep V0 main_arg6 (by decide)).trans <|
    (w25_keep V0 main_arg6 (by decide)).trans <|
    (w24_keep V0 main_arg6 (by decide)).trans <|
    (w23_keep V0 main_arg6 (by decide)).trans <|
    (w22_keep V0 main_arg6 (by decide)).trans <|
    (w21_keep V0 main_arg6 (by decide)).trans <|
    (w20_keep V0 main_arg6 (by decide)).trans <|
    (w19_keep V0 main_arg6 (by decide)).trans <|
    (w18_keep V0 main_arg6 (by decide)).trans <|
    (w17_keep V0 main_arg6 (by decide)).trans <|
    (w16_keep V0 main_arg6 (by decide)).trans <|
    (w15_keep V0 main_arg6 (by decide)).trans <|
    (w14_keep V0 main_arg6 (by decide)).trans <|
    (w13_keep V0 main_arg6 (by decide)).trans <|
    (w12_keep V0 main_arg6 (by decide)).trans <|
    (w11_keep V0 main_arg6 (by decide)).trans <|
    (w10_keep V0 main_arg6 (by decide)).trans <|
    (w9_keep V0 main_arg6 (by decide)).trans <|
    (w8_keep V0 main_arg6 (by decide)).trans <|
    (w7_keep V0 main_arg6 (by decide)).trans <|
    (w6_keep V0 main_arg6 (by decide)).trans <|
    (w5_keep V0 main_arg6 (by decide)).trans <|
    (w4_keep V0 main_arg6 (by decide)).trans <|
    (w3_keep V0 main_arg6 (by decide)).trans <|
    (w2_keep V0 main_arg6 (by decide)).trans <|
    (w1_keep V0 main_arg6 (by decide)).trans (w0_main_arg6 V0)
/-- After window 28, `main_v219` holds stage `val_main_v239`. -/
theorem w28_main_v219 : w28 V0 (no_index (Proc.devRef .tc main_v219)) = (Cert.ReferenceIdeal.Read.val_main_v239 (F := F) (V0 (Proc.devRef .tc main_arg0)) (V0 (Proc.devRef .tc main_arg1)) (V0 (Proc.devRef .tc main_arg2)) (V0 (Proc.devRef .tc main_arg3)) (V0 (Proc.devRef .tc main_arg4))) :=
  (w28_keep V0 main_v219 (by decide)).trans <|
    (w27_keep V0 main_v219 (by decide)).trans <|
    (w26_keep V0 main_v219 (by decide)).trans <|
    (w25_keep V0 main_v219 (by decide)).trans <|
    (w24_keep V0 main_v219 (by decide)).trans <|
    (w23_keep V0 main_v219 (by decide)).trans <|
    (w22_keep V0 main_v219 (by decide)).trans <|
    (w21_keep V0 main_v219 (by decide)).trans <|
    (w20_keep V0 main_v219 (by decide)).trans <|
    (w19_keep V0 main_v219 (by decide)).trans (w18_main_v219 V0)
/-- After window 28, `main_v221` holds stage `val_main_v26`. -/
theorem w28_main_v221 : w28 V0 (no_index (Proc.devRef .tc main_v221)) = (pad S2048x128 ![0, 0] ![0, 96] ![0, 0] (shapeCast _ (Cert.ReferenceIdeal.Read.val_main_v26 (F := F) (V0 (Proc.devRef .tc main_arg0)) (V0 (Proc.devRef .tc main_arg2)) (V0 (Proc.devRef .tc main_arg3))) shapeCasts_S16x128x4x8_S2048x32) (Cert.ReferenceIdeal.Read.val_main_call9_v0 (F := F)) pads_S2048x32_S2048x128_000_0960 h_S_) :=
  (w28_keep V0 main_v221 (by decide)).trans <|
    (w27_keep V0 main_v221 (by decide)).trans <|
    (w26_keep V0 main_v221 (by decide)).trans <|
    (w25_keep V0 main_v221 (by decide)).trans <|
    (w24_keep V0 main_v221 (by decide)).trans (w23_main_v221 V0)
/-- After window 28, `main_v222` holds stage `val_main_v11_0`. -/
theorem w28_main_v222 : w28 V0 (no_index (Proc.devRef .tc main_v222)) = (pad S2048x128 ![0, 0] ![0, 96] ![0, 0] (Cert.ReferenceIdeal.Read.val_main_v11_0 (F := F) (V0 (Proc.devRef .tc main_arg0)) (V0 (Proc.devRef .tc main_arg2))) (Cert.ReferenceIdeal.Read.val_main_call9_v0 (F := F)) pads_S2048x32_S2048x128_000_0960 h_S_) :=
  (w28_keep V0 main_v222 (by decide)).trans <|
    (w27_keep V0 main_v222 (by decide)).trans <|
    (w26_keep V0 main_v222 (by decide)).trans <|
    (w25_keep V0 main_v222 (by decide)).trans <|
    (w24_keep V0 main_v222 (by decide)).trans <|
    (w23_keep V0 main_v222 (by decide)).trans <|
    (w22_keep V0 main_v222 (by decide)).trans (w21_main_v222 V0)
/-- After window 28, `main_v231` holds stage `val_main_v26`. -/
theorem w28_main_v231 : w28 V0 (no_index (Proc.devRef .tc main_v231)) = (transpose S16x128x128 [0, 2, 1] (shapeCast _ (pad S2048x128 ![0, 0] ![0, 96] ![0, 0] (shapeCast _ (Cert.ReferenceIdeal.Read.val_main_v26 (F := F) (V0 (Proc.devRef .tc main_arg0)) (V0 (Proc.devRef .tc main_arg2)) (V0 (Proc.devRef .tc main_arg3))) shapeCasts_S16x128x4x8_S2048x32) (Cert.ReferenceIdeal.Read.val_main_call9_v0 (F := F)) pads_S2048x32_S2048x128_000_0960 h_S_) shapeCasts_S2048x128_S16x128x128) transposes_S16x128x128_S16x128x128_0_2_1) :=
  (w28_keep V0 main_v231 (by decide)).trans <|
    (w27_keep V0 main_v231 (by decide)).trans <|
    (w26_keep V0 main_v231 (by decide)).trans <|
    (w25_keep V0 main_v231 (by decide)).trans (w24_main_v231 V0)
/-- After window 28, `main_v233` holds stage `val_main_v26`. -/
theorem w28_main_v233 : w28 V0 (no_index (Proc.devRef .tc main_v233)) = (extractStridedSlice S16x1x128 ![0, 127, 0] (shapeCast _ (pad S2048x128 ![0, 0] ![0, 96] ![0, 0] (shapeCast _ (Cert.ReferenceIdeal.Read.val_main_v26 (F := F) (V0 (Proc.devRef .tc main_arg0)) (V0 (Proc.devRef .tc main_arg2)) (V0 (Proc.devRef .tc main_arg3))) shapeCasts_S16x128x4x8_S2048x32) (Cert.ReferenceIdeal.Read.val_main_call9_v0 (F := F)) pads_S2048x32_S2048x128_000_0960 h_S_) shapeCasts_S2048x128_S16x128x128) slices_S16x128x128_S16x1x128_0_127_0) :=
  (w28_keep V0 main_v233 (by decide)).trans <|
    (w27_keep V0 main_v233 (by decide)).trans <|
    (w26_keep V0 main_v233 (by decide)).trans <|
    (w25_keep V0 main_v233 (by decide)).trans (w24_main_v233 V0)
/-- After window 28, `main_v235` holds stage `val_main_v224`. -/
theorem w28_main_v235 : w28 V0 (no_index (Proc.devRef .tc main_v235)) = (shapeCast _ (transpose S16x4x128x8x64 [0, 1, 4, 2, 3] (Cert.ReferenceIdeal.Read.val_main_v224 (F := F) (V0 (Proc.devRef .tc main_arg0)) (V0 (Proc.devRef .tc main_arg1)) (V0 (Proc.devRef .tc main_arg2)) (V0 (Proc.devRef .tc main_arg3))) transposes_S16x4x8x64x128_S16x4x128x8x64_0_1_4_2_3) shapeCasts_S16x4x128x8x64_S16x4x128x512) :=
  (w28_keep V0 main_v235 (by decide)).trans <|
    (w27_keep V0 main_v235 (by decide)).trans <|
    (w26_keep V0 main_v235 (by decide)).trans <|
    (w25_keep V0 main_v235 (by decide)).trans (w24_main_v235 V0)
/-- After window 28, `main_v236` holds stage `val_main_call9_v0`. -/
theorem w28_main_v236 : w28 V0 (no_index (Proc.devRef .tc main_v236)) = (pad S2048x5632 ![0, 0] ![0, 480] ![0, 0] (V0 (Proc.devRef .tc main_arg0)) (Cert.ReferenceIdeal.Read.val_main_call9_v0 (F := F)) pads_S2048x5152_S2048x5632_000_04800 h_S_) :=
  (w28_keep V0 main_v236 (by decide)).trans <|
    (w27_keep V0 main_v236 (by decide)).trans <|
    (w26_keep V0 main_v236 (by decide)).trans (w25_main_v236 V0)
set_option maxRecDepth 8192 in
set_option maxHeartbeats 2000000 in
/-- After window 28, `main_v241` holds D, repeated over its head's channels. -/
theorem w28_main_v241 : w28 V0 (no_index (Proc.devRef .tc main_v241)) = (shapeCast _ (shapeCast _ ((broadcastInDim S32x64 ![0] bcast_S32_S32x64_0) (V0 (Proc.devRef .tc main_arg4))) shapeCasts_S32x64_S2048) shapeCasts_S2048_S4x1x512) := by
  unfold w28
  simp only [hostOps0_18]
  after_results_simp
  simp only [w27_main_arg4] <;> rfl
set_option maxRecDepth 8192 in
set_option maxHeartbeats 2000000 in
/-- After window 28, `main_v242` holds the norm's weights by group. -/
theorem w28_main_v242 : w28 V0 (no_index (Proc.devRef .tc main_v242)) = (shapeCast _ (V0 (Proc.devRef .tc main_arg5)) shapeCasts_S2048_S4x1x512) := by
  unfold w28
  simp only [hostOps0_18]
  after_results_simp
  simp only [w27_main_arg5] <;> rfl
/-- The long window is its ten parts in a row. -/
theorem hostOps0_8_split : (hostOps0_8 : List (HloOp τ sig (Elt F)))
    = hostOps0_8_0 ++ (hostOps0_8_1 ++ (hostOps0_8_2 ++ (hostOps0_8_3 ++ (hostOps0_8_4 ++ (hostOps0_8_5 ++ (hostOps0_8_6 ++ (hostOps0_8_7 ++ (hostOps0_8_8 ++ (hostOps0_8_9))))))))) := rfl
/-- What core `c`'s buffers hold when the region is entered is what the last window leaves. -/
theorem V_eq (m : (ℓ : Loc nD τ sig) → Buf (Elt F) ℓ) (c : Dev nD) (r : Ref sig .tc) :
    V m c r = w28 (fun b => m (c, b)) (Proc.devRef .tc r) := by
  show after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]) (fun b => m (c, b)) (Proc.devRef .tc r) = _
  rw [hostOps0_8_split]
  simp only [List.flatten_cons, List.flatten_nil, List.append_nil, List.append_assoc, after_append]
  rfl

end Cert.KernelIdeal.Host
-- ==== Proof.Spec.lean ====
module

public import Idealize.ShloMosaic.PureOps.Ideal

@[expose] public section

noncomputable section

/-! The gradient of the chunked scan and of the gated normalisation after it, as formulas over one chunk of one group, and the recursion that carries the gradient of the state from the last chunk to the first. -/

namespace Cert.Ssd

open Idealize.ShloMosaic

/-- The head, within its group, of a column of the group. -/
def hd (k : Fin 512) : Fin 8 := ⟨k.val / 64, by omega⟩
/-- The column of channel `p` of head `r`. -/
def col (r : Fin 8) (p : Fin 64) : Fin 512 := ⟨64 * r.val + p.val, by omega⟩

/-- The head of a head's column. -/
theorem hd_col (r : Fin 8) (p : Fin 64) : hd (col r p) = r := by
  apply Fin.ext; simp only [hd, col]; omega

/-- What one chunk of one group is computed from: the cotangent, the scan's result, the gate, the scan's input, the normalisation's weight, the skip weights, the two projections, the state before the chunk, the step sizes and the summed decays. -/
structure Pt where
  ct : Fin 128 → Fin 512 → EReal
  y : Fin 128 → Fin 512 → EReal
  z : Fin 128 → Fin 512 → EReal
  xs : Fin 128 → Fin 512 → EReal
  nw : Fin 512 → EReal
  D : Fin 8 → EReal
  B : Fin 128 → Fin 128 → EReal
  C : Fin 128 → Fin 128 → EReal
  prev : Fin 128 → Fin 512 → EReal
  dt : Fin 128 → Fin 8 → EReal
  cs : Fin 128 → Fin 8 → EReal

/-- The number of columns of a group, as the programs hold it. -/
def n512 : EReal := Ideal.ofBits .f32 0x44000000#32
/-- The normalisation's small constant. -/
def eps : EReal := Ideal.ofBits .f32 0x3727C5AC#32

namespace Pt
variable (P : Pt)

/-- The logistic of the gate. -/
def sig (l : Fin 128) (k : Fin 512) : EReal := Ideal.div 1 (1 + Ideal.exp (-(P.z l k)))
/-- The gate times its logistic. -/
def sz (l : Fin 128) (k : Fin 512) : EReal := P.z l k * P.sig l k
/-- The gated result of the scan. -/
def yg (l : Fin 128) (k : Fin 512) : EReal := P.y l k * P.sz l k
/-- The mean square of a row, with the small constant added. -/
def var (l : Fin 128) : EReal := Ideal.div (∑ k, P.yg l k * P.yg l k) n512 + eps
/-- The normalisation's factor. -/
def rstd (l : Fin 128) : EReal := Ideal.rsqrt (P.var l)
/-- The cotangent times the normalisation's weight. -/
def dyh (l : Fin 128) (k : Fin 512) : EReal := P.ct l k * P.nw k
/-- The gradient of the gated result. -/
def dyg (l : Fin 128) (k : Fin 512) : EReal :=
  P.rstd l * (P.dyh l k - P.yg l k * P.rstd l * Ideal.div (∑ j, P.dyh l j * (P.yg l j * P.rstd l)) n512)
/-- The gradient of the scan's result. -/
def dy (l : Fin 128) (k : Fin 512) : EReal := P.dyg l k * P.sz l k
/-- The decay from row `s` to row `l`, zero when `s` comes later. -/
def lm (l s : Fin 128) (h : Fin 8) : EReal := Ideal.exp (if s ≤ l then P.cs l h - P.cs s h else ⊥)
/-- The product of row `l` of one projection with row `s` of the other. -/
def sc (l s : Fin 128) : EReal := ∑ n, P.C l n * P.B s n
/-- The scan's input times its step size. -/
def x (l : Fin 128) (k : Fin 512) : EReal := P.xs l k * P.dt l (hd k)
/-- The decay from the chunk's start to row `l`. -/
def e (l : Fin 128) (h : Fin 8) : EReal := Ideal.exp (P.cs l h)
/-- The decay from row `l` to the chunk's end. -/
def dec (l : Fin 128) (h : Fin 8) : EReal := Ideal.exp (P.cs 127 h - P.cs l h)
/-- The gradient of the input times its step size. -/
def dxp (DS : Fin 128 → Fin 512 → EReal) (s : Fin 128) (k : Fin 512) : EReal :=
  (∑ n, P.B s n * DS n k) * P.dec s (hd k) + ∑ l, P.sc l s * P.lm l s (hd k) * P.dy l k
/-- The gradient of the scan's input. -/
def dxs (DS : Fin 128 → Fin 512 → EReal) (s : Fin 128) (k : Fin 512) : EReal :=
  P.D (hd k) * P.dy s k + P.dxp DS s k * P.dt s (hd k)
/-- The gradient of the masked scores of one head. -/
def dm (l s : Fin 128) (h : Fin 8) : EReal := ∑ p, P.dy l (col h p) * P.x s (col h p)
/-- The gradient of the scores. -/
def dg (l s : Fin 128) : EReal := ∑ h, P.dm l s h * P.lm l s h
/-- The gradient of the projection that reads the state. -/
def dc (l n : Fin 128) : EReal := (∑ k, P.dy l k * P.e l (hd k) * P.prev n k) + ∑ s, P.dg l s * P.B s n
/-- The gradient of the projection that writes the state. -/
def db (DS : Fin 128 → Fin 512 → EReal) (s n : Fin 128) : EReal :=
  (∑ k, P.x s k * P.dec s (hd k) * DS n k) + ∑ l, P.dg l s * P.C l n
/-- The gradient of the state before the chunk, from the gradient of the state after it. -/
def ds (DS : Fin 128 → Fin 512 → EReal) (n : Fin 128) (k : Fin 512) : EReal :=
  DS n k * P.e 127 (hd k) + ∑ l, P.C l n * (P.dy l k * P.e l (hd k))
/-- The chunk's part of the gradient of the skip weights. -/
def dd (h : Fin 8) : EReal := ∑ l, ∑ p, P.dy l (col h p) * P.xs l (col h p)
/-- The chunk's part of the gradient of the normalisation's weight. -/
def dnw (k : Fin 512) : EReal := ∑ l, P.ct l k * (P.yg l k * P.rstd l)

end Pt

/-- The gradient of the state after the `s` last chunks have been passed. -/
def DS (P : Fin 16 → Pt) : Nat → Fin 128 → Fin 512 → EReal
  | 0 => fun _ _ => 0
  | s + 1 => (P ⟨15 - s, by omega⟩).ds (DS P s)

end Cert.Ssd
-- ==== Proof.Algebra.lean ====
module

public import proofs.«01_k».proof.Proof.Spec

@[expose] public section

noncomputable section

/-! The two forms of the normalisation's gradient agree over the extended reals. -/

namespace Cert.Ssd

open Idealize.ShloMosaic

/-- The constant 512 is the real number it names. -/
theorem n512_eq : n512 = ((512 : ℝ) : EReal) := by
  unfold n512
  simp only [Ideal.ofBits, Ideal.ieee, show ((0x44000000#32).extractLsb' (8 + 23) 1 == 1#1) = false from by decide,
    show ((0x44000000#32).extractLsb' 23 8).toNat = 136 from by decide, show ((0x44000000#32).extractLsb' 0 23).toNat = 0 from by decide]
  norm_num

/-- The small constant is a positive real number. -/
theorem eps_eq : eps = ((2748779 / 274877906944 : ℝ) : EReal) := by
  unfold eps
  simp only [Ideal.ofBits, Ideal.ieee, show ((0x3727C5AC#32).extractLsb' (8 + 23) 1 == 1#1) = false from by decide,
    show ((0x3727C5AC#32).extractLsb' 23 8).toNat = 110 from by decide, show ((0x3727C5AC#32).extractLsb' 0 23).toNat = 2606508 from by decide]
  norm_num

/-- The constant −1/2. -/
theorem mhalf_eq : Ideal.ofBits .f32 0xBF000000#32 = ((-(1 / 2) : ℝ) : EReal) := by
  simp only [Ideal.ofBits, Ideal.ieee, show ((0xBF000000#32).extractLsb' (8 + 23) 1 == 1#1) = true from by decide,
    show ((0xBF000000#32).extractLsb' 23 8).toNat = 126 from by decide, show ((0xBF000000#32).extractLsb' 0 23).toNat = 0 from by decide]
  norm_num

/-- The constant 1. -/
theorem one_eq : Ideal.ofBits .f32 0x3F800000#32 = 1 := by
  simp only [Ideal.ofBits, Ideal.ieee, show ((0x3F800000#32).extractLsb' (8 + 23) 1 == 1#1) = false from by decide,
    show ((0x3F800000#32).extractLsb' 23 8).toNat = 127 from by decide, show ((0x3F800000#32).extractLsb' 0 23).toNat = 0 from by decide]
  norm_num

/-- The constant 0. -/
theorem zero_eq : Ideal.ofBits .f32 0x00000000#32 = 0 := by
  simp only [Ideal.ofBits, Ideal.ieee, show ((0x00000000#32).extractLsb' (8 + 23) 1 == 1#1) = false from by decide,
    show ((0x00000000#32).extractLsb' 23 8).toNat = 0 from by decide, show ((0x00000000#32).extractLsb' 0 23).toNat = 0 from by decide]
  norm_num

/-- The constant −∞. -/
theorem ninf_eq : Ideal.ofBits .f32 0xFF800000#32 = ⊥ := by
  simp only [Ideal.ofBits, Ideal.ieee, show ((0xFF800000#32).extractLsb' (8 + 23) 1 == 1#1) = true from by decide,
    show ((0xFF800000#32).extractLsb' 23 8).toNat = 255 from by decide, show ((0xFF800000#32).extractLsb' 0 23).toNat = 0 from by decide]
  norm_num

/-- A square is not negative. -/
theorem mul_self_nonneg (x : EReal) : 0 ≤ x * x := by
  induction x with
  | bot => simp
  | top => simp
  | coe r => rw [← EReal.coe_mul]; exact_mod_cast _root_.mul_self_nonneg r

/-- Division by 512 is multiplication by its inverse. -/
theorem div_n512 (x : EReal) : Ideal.div x n512 = x * ((1 / 512 : ℝ) : EReal) := by
  rw [n512_eq, Ideal.div_coe (by norm_num)]

/-- A factor that is a real number and not negative comes out of a sum. -/
theorem sum_mul_coe {ι : Type} (s : Finset ι) (f : ι → EReal) (r : ℝ) (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

/-- The factor of a row is a real number, not negative, and divided by what it is the inverse root of gives its cube. -/
theorem rstd_cases (s : EReal) (hs : 0 ≤ s) : ∃ r : ℝ, 0 ≤ r ∧ Ideal.rsqrt (Ideal.div s n512 + eps) = (r : EReal) ∧
    Ideal.div (Ideal.rsqrt (Ideal.div s n512 + eps)) (Ideal.div s n512 + eps) = ((r * r * r : ℝ) : EReal) := by
  rw [div_n512, eps_eq]
  induction s with
  | bot => simp at hs
  | top =>
    refine ⟨0, le_refl 0, ?_, ?_⟩
    · rw [EReal.top_mul_coe_of_pos (by norm_num), EReal.top_add_coe, Ideal.rsqrt_top]; rfl
    · rw [EReal.top_mul_coe_of_pos (by norm_num), EReal.top_add_coe, Ideal.rsqrt_top]
      simp [Ideal.div]
  | coe s =>
    have hs' : 0 ≤ s := by exact_mod_cast hs
    rw [← EReal.coe_mul, ← EReal.coe_add]
    set v : ℝ := s * (1 / 512) + 2748779 / 274877906944 with hv
    have hv0 : 0 < v := by rw [hv]; positivity
    have hr : Ideal.rsqrt ((v : ℝ) : EReal) = (((Real.sqrt v)⁻¹ : ℝ) : EReal) := by
      rw [Ideal.rsqrt_coe, if_neg (not_lt.mpr hv0.le), if_neg hv0.ne']
    refine ⟨(Real.sqrt v)⁻¹, by positivity, hr, ?_⟩
    rw [hr, Ideal.div_coe hv0.ne', ← EReal.coe_mul]
    congr 1
    have h2 : Real.sqrt v * Real.sqrt v = v := Real.mul_self_sqrt hv0.le
    have h3 : (1 : ℝ) / v = (Real.sqrt v)⁻¹ * (Real.sqrt v)⁻¹ := by
      rw [← mul_inv, h2, one_div]
    rw [h3, mul_assoc]

/-- Twice the half of a number, with the sign changed. -/
theorem halves (u : EReal) : u * ((-(1 / 2) : ℝ) : EReal) + u * ((-(1 / 2) : ℝ) : EReal) = -u := by
  induction u with
  | bot => rw [EReal.bot_mul_coe_of_neg (by norm_num)]; rfl
  | top => rw [EReal.top_mul_coe_of_neg (by norm_num)]; rfl
  | coe u => rw [← EReal.coe_mul, ← EReal.coe_add, ← EReal.coe_neg]; congr 1; ring

/-- The gradient of the gated result as differentiation writes it is the gradient as the kernel writes it. -/
theorem dyg_forms (S a b : EReal) (hS : 0 ≤ S) {ι : Type} [Fintype ι] (f g : ι → EReal) :
    a * Ideal.rsqrt (Ideal.div S n512 + eps) +
      (b * Ideal.div ((∑ j, g j * f j) * (Ideal.ofBits .f32 0xBF000000#32 *
          Ideal.div (Ideal.rsqrt (Ideal.div S n512 + eps)) (Ideal.div S n512 + eps))) n512 +
        Ideal.div ((∑ j, g j * f j) * (Ideal.ofBits .f32 0xBF000000#32 *
          Ideal.div (Ideal.rsqrt (Ideal.div S n512 + eps)) (Ideal.div S n512 + eps))) n512 * b) =
    Ideal.rsqrt (Ideal.div S n512 + eps) * (a - b * Ideal.rsqrt (Ideal.div S n512 + eps) *
      Ideal.div (∑ j, f j * (g j * Ideal.rsqrt (Ideal.div S n512 + eps))) n512) := by
  obtain ⟨r, hr0, hr, hc⟩ := rstd_cases S hS
  rw [hc, hr, mhalf_eq]
  have h1 : ∑ j, f j * (g j * (r : EReal)) = (∑ j, g j * f j) * (r : EReal) := by
    rw [← sum_mul_coe _ _ r hr0]
    exact Finset.sum_congr rfl fun j _ => by rw [← mul_assoc, mul_comm (f j)]
  rw [h1]
  generalize (∑ j, g j * f j) = T
  rw [div_n512, div_n512, sub_eq_add_neg,
    EReal.left_distrib_of_nonneg_of_ne_top (by exact_mod_cast hr0) (EReal.coe_ne_top r), mul_comm (r : EReal) a]
  congr 1
  rw [mul_neg, ← halves]
  have h2 : T * (((-(1 / 2) : ℝ) : EReal) * ((r * r * r : ℝ) : EReal)) * ((1 / 512 : ℝ) : EReal) * b =
      (r : EReal) * (b * (r : EReal) * (T * (r : EReal) * ((1 / 512 : ℝ) : EReal))) * ((-(1 / 2) : ℝ) : EReal) := by
    rw [EReal.coe_mul, EReal.coe_mul]; ac_rfl
  rw [mul_comm b, h2]

end Cert.Ssd
-- ==== Proof.RefRead.lean ====
module

public import proofs.«01_k».proof.Proof.Gen.ReferenceIdeal.Read
public import Idealize.ShloMosaic.Lib.TwoAxisContraction
public import Idealize.ShloMosaic.Lib.KernelVsHost
public import Idealize.ShloMosaic.Lib.WordCmp
public import proofs.«01_k».proof.Proof.Spec
public import proofs.«01_k».proof.Proof.Algebra

@[expose] public section

noncomputable section

/-! The reference, read one operation at a time: each stage of it at an index is the formula of one chunk of one group. -/

namespace Cert.RefRead

open scoped BigOperators
open Idealize.ShloMosaic Idealize.ShloMosaic.ValueIdx Cert.Ssd Cert.ReferenceIdeal Cert.ReferenceIdeal.Read

/-- Row `l` of chunk `c` among all rows. -/
abbrev row (c : Fin 16) (l : Fin 128) : Fin 2048 := ⟨128 * c.val + l.val, by omega⟩
/-- Column `k` of group `g` among all columns. -/
abbrev gc (g : Fin 4) (k : Fin 512) : Fin 2048 := ⟨512 * g.val + k.val, by omega⟩
/-- Head `h` of group `g` among all heads. -/
abbrev gh (g : Fin 4) (h : Fin 8) : Fin 32 := ⟨8 * g.val + h.val, by omega⟩
/-- Column `k` of group `g` where the scan's input stands in the convolved projections. -/
abbrev xc (g : Fin 4) (k : Fin 512) : Fin 3072 := ⟨512 * g.val + k.val, by omega⟩
/-- Column `n` of group `g` where the projection that writes the state stands. -/
abbrev bc (g : Fin 4) (n : Fin 128) : Fin 3072 := ⟨2048 + (128 * g.val + n.val), by omega⟩
/-- Column `n` of group `g` where the projection that reads the state stands. -/
abbrev cc (g : Fin 4) (n : Fin 128) : Fin 3072 := ⟨2560 + (128 * g.val + n.val), by omega⟩
/-- Column `k` of group `g` where the gate stands in the input projection. -/
abbrev zc (g : Fin 4) (k : Fin 512) : Fin 5152 := ⟨512 * g.val + k.val, by omega⟩
/-- The channel of a column within its head. -/
abbrev ch (k : Fin 512) : Fin 64 := ⟨k.val % 64, Nat.mod_lt _ (by decide)⟩

/-- A column is its head's column at its channel. -/
theorem col_hd_ch (k : Fin 512) : col (hd k) (ch k) = k := by
  apply Fin.ext; simp only [hd, col, ch]; omega
/-- The channel of a head's column. -/
theorem ch_col (h : Fin 8) (p : Fin 64) : ch (col h p) = p := by
  apply Fin.ext; simp only [col, ch]; omega

variable (x0 : (⟨S2048x5152, .f32⟩ : BufTy).Contents (Elt Ideal)) (x1 : (⟨S2048x3072, .f32⟩ : BufTy).Contents (Elt Ideal)) (x2 x3 x4 : (⟨S32, .f32⟩ : BufTy).Contents (Elt Ideal)) (x5 : (⟨S2048, .f32⟩ : BufTy).Contents (Elt Ideal)) (x6 : (⟨S2048x2048, .f32⟩ : BufTy).Contents (Elt Ideal))

/-- What chunk `c` of group `g` is computed from, read off the arguments and the forward pass. -/
def pt (c : Fin 16) (g : Fin 4) : Pt where
  ct l k := x6 (ix2 (row c l) (gc g k))
  y l k := val_main_v239 (F := Ideal) x0 x1 x2 x3 x4 (ix2 (row c l) (gc g k))
  z l k := x0 (ix2 (row c l) (zc g k))
  xs l k := x1 (ix2 (row c l) (xc g k))
  nw k := x5 (ix1 (gc g k))
  D h := x4 (ix1 (gh g h))
  B l n := x1 (ix2 (row c l) (bc g n))
  C l n := x1 (ix2 (row c l) (cc g n))
  prev n k := val_main_v224 (F := Ideal) x0 x1 x2 x3 (ix5 c g (hd k) (ch k) n)
  dt l h := val_main_v11_0 (F := Ideal) x0 x2 (ix2 (row c l) (gh g h))
  cs l h := val_main_v26 (F := Ideal) x0 x2 x3 (ix4 c l g h)

/-- The scan's input by head and channel. -/
theorem r_v3 (c : Fin 16) (l : Fin 128) (g : Fin 4) (h : Fin 8) (p : Fin 64) : val_main_v3 (F := Ideal) x1 (ix4 (row c l) g h p) = (pt x0 x1 x2 x3 x4 x5 x6 c g).xs l (col h p) := by
  simp only [val_main_v3_apply, val_main_v2_apply]
  rw [show (idx_main_v2 (idx_main_v3 (ix4 (row c l) g h p))) = (ix2 (row c l) (xc g (col h p))) from by funext a; apply Fin.ext; have hc := c.isLt; have hl := l.isLt; have hg := g.isLt; have hh := h.isLt; have hp := p.isLt; fin_cases a <;> (try simp [row, gc, gh, col, xc, bc, cc, zc, hd, ch]) <;> (try dsimp only [ix1, ix2, ix3, ix4, ix5]) <;> (try omega)]
  first | done | rfl

/-- The scan's input by chunk. -/
theorem r_v16 (c : Fin 16) (l : Fin 128) (g : Fin 4) (h : Fin 8) (p : Fin 64) : val_main_v16 (F := Ideal) x1 (ix5 c l g h p) = (pt x0 x1 x2 x3 x4 x5 x6 c g).xs l (col h p) := by
  simp only [val_main_v16_apply]
  rw [show (idx_main_v16 (ix5 c l g h p)) = (ix4 (row c l) g h p) from by funext a; apply Fin.ext; have hc := c.isLt; have hl := l.isLt; have hg := g.isLt; have hh := h.isLt; have hp := p.isLt; fin_cases a <;> (try simp [row, gc, gh, col, xc, bc, cc, zc, hd, ch]) <;> (try dsimp only [ix1, ix2, ix3, ix4, ix5]) <;> (try omega)]
  rw [r_v3 x0 x1 x2 x3 x4 x5 x6 c l g h p]
  first | done | rfl

/-- The step sizes by chunk. -/
theorem r_v17 (c : Fin 16) (l : Fin 128) (g : Fin 4) (h : Fin 8) : val_main_v17 (F := Ideal) x0 x2 (ix4 c l g h) = (pt x0 x1 x2 x3 x4 x5 x6 c g).dt l h := by
  simp only [val_main_v17_apply, val_main_v12_apply]
  rw [show (idx_main_v12 (idx_main_v17 (ix4 c l g h))) = (ix2 (row c l) (gh g h)) from by funext a; apply Fin.ext; have hc := c.isLt; have hl := l.isLt; have hg := g.isLt; have hh := h.isLt; fin_cases a <;> (try simp [row, gc, gh, col, xc, bc, cc, zc, hd, ch]) <;> (try dsimp only [ix1, ix2, ix3, ix4, ix5]) <;> (try omega)]
  first | done | rfl

/-- The projection B by chunk. -/
theorem r_v18 (c : Fin 16) (l : Fin 128) (g : Fin 4) (n : Fin 128) : val_main_v18 (F := Ideal) x1 (ix4 c l g n) = (pt x0 x1 x2 x3 x4 x5 x6 c g).B l n := by
  simp only [val_main_v18_apply, val_main_v5_apply, val_main_v4_apply]
  rw [show (idx_main_v4 (idx_main_v5 (idx_main_v18 (ix4 c l g n)))) = (ix2 (row c l) (bc g n)) from by funext a; apply Fin.ext; have hc := c.isLt; have hl := l.isLt; have hg := g.isLt; have hn := n.isLt; fin_cases a <;> (try simp [row, gc, gh, col, xc, bc, cc, zc, hd, ch]) <;> (try dsimp only [ix1, ix2, ix3, ix4, ix5]) <;> (try omega)]
  first | done | rfl

/-- The projection C by chunk. -/
theorem r_v19 (c : Fin 16) (l : Fin 128) (g : Fin 4) (n : Fin 128) : val_main_v19 (F := Ideal) x1 (ix4 c l g n) = (pt x0 x1 x2 x3 x4 x5 x6 c g).C l n := by
  simp only [val_main_v19_apply, val_main_v7_apply, val_main_v6_apply]
  rw [show (idx_main_v6 (idx_main_v7 (idx_main_v19 (ix4 c l g n)))) = (ix2 (row c l) (cc g n)) from by funext a; apply Fin.ext; have hc := c.isLt; have hl := l.isLt; have hg := g.isLt; have hn := n.isLt; fin_cases a <;> (try simp [row, gc, gh, col, xc, bc, cc, zc, hd, ch]) <;> (try dsimp only [ix1, ix2, ix3, ix4, ix5]) <;> (try omega)]
  first | done | rfl

/-- The input times its step size. -/
theorem r_v22 (c : Fin 16) (l : Fin 128) (g : Fin 4) (h : Fin 8) (p : Fin 64) : val_main_v22 (F := Ideal) x0 x1 x2 (ix5 c l g h p) = (pt x0 x1 x2 x3 x4 x5 x6 c g).x l (col h p) := by
  simp only [val_main_v22_apply, val_main_v21_apply, val_main_v20_apply]
  rw [r_v16 x0 x1 x2 x3 x4 x5 x6 c l g h p]
  rw [show (idx_main_v20 (idx_main_v21 (ix5 c l g h p))) = (ix4 c l g h) from by funext a; apply Fin.ext; have hc := c.isLt; have hl := l.isLt; have hg := g.isLt; have hh := h.isLt; have hp := p.isLt; fin_cases a <;> (try simp [row, gc, gh, col, xc, bc, cc, zc, hd, ch]) <;> (try dsimp only [ix1, ix2, ix3, ix4, ix5]) <;> (try omega)]
  rw [r_v17 x0 x1 x2 x3 x4 x5 x6 c l g h]
  unfold Pt.x; rw [hd_col]; rfl

/-- The decay to the chunk's end. -/
theorem r_v48 (c : Fin 16) (l : Fin 128) (g : Fin 4) (h : Fin 8) : val_main_v48 (F := Ideal) x0 x2 x3 (ix5 c l g h (0 : Fin 1)) = (pt x0 x1 x2 x3 x4 x5 x6 c g).dec l h := by
  simp only [val_main_v48_apply, val_main_v47_apply, val_main_v46_apply, val_main_v45_apply, val_main_v44_apply]
  rw [show (idx_main_v44 (idx_main_v45 (idx_main_v48 (ix5 c l g h (0 : Fin 1))))) = (ix4 c 127 g h) from by funext a; apply Fin.ext; have hc := c.isLt; have hl := l.isLt; have hg := g.isLt; have hh := h.isLt; fin_cases a <;> (try simp [row, gc, gh, col, xc, bc, cc, zc, hd, ch]) <;> (try dsimp only [ix1, ix2, ix3, ix4, ix5]) <;> (try omega)]
  rw [show (idx_main_v48 (ix5 c l g h (0 : Fin 1))) = (ix4 c l g h) from by funext a; apply Fin.ext; have hc := c.isLt; have hl := l.isLt; have hg := g.isLt; have hh := h.isLt; fin_cases a <;> (try simp [row, gc, gh, col, xc, bc, cc, zc, hd, ch]) <;> (try dsimp only [ix1, ix2, ix3, ix4, ix5]) <;> (try omega)]
  first | done | rfl

/-- The input as it enters the chunk's state. -/
theorem r_v50 (c : Fin 16) (l : Fin 128) (g : Fin 4) (h : Fin 8) (p : Fin 64) : val_main_v50 (F := Ideal) x0 x1 x2 x3 (ix5 c l g h p) = (pt x0 x1 x2 x3 x4 x5 x6 c g).x l (col h p) * (pt x0 x1 x2 x3 x4 x5 x6 c g).dec l h := by
  simp only [val_main_v50_apply, val_main_v49_apply]
  rw [r_v22 x0 x1 x2 x3 x4 x5 x6 c l g h p]
  rw [show (idx_main_v49 (ix5 c l g h p)) = (ix5 c l g h (0 : Fin 1)) from by funext a; apply Fin.ext; have hc := c.isLt; have hl := l.isLt; have hg := g.isLt; have hh := h.isLt; have hp := p.isLt; fin_cases a <;> (try simp [row, gc, gh, col, xc, bc, cc, zc, hd, ch]) <;> (try dsimp only [ix1, ix2, ix3, ix4, ix5]) <;> (try omega)]
  rw [r_v48 x0 x1 x2 x3 x4 x5 x6 c l g h]
  first | done | rfl

/-- The decay over a whole chunk. -/
theorem r_v54 (c : Fin 16) (g : Fin 4) (h : Fin 8) : val_main_v54 (F := Ideal) x0 x2 x3 (ix3 c g h) = (pt x0 x1 x2 x3 x4 x5 x6 c g).e 127 h := by
  simp only [val_main_v54_apply, val_main_v53_apply, val_main_v52_apply]
  rw [show (idx_main_v52 (idx_main_v53 (ix3 c g h))) = (ix4 c 127 g h) from by funext a; apply Fin.ext; have hc := c.isLt; have hg := g.isLt; have hh := h.isLt; fin_cases a <;> (try simp [row, gc, gh, col, xc, bc, cc, zc, hd, ch]) <;> (try dsimp only [ix1, ix2, ix3, ix4, ix5]) <;> (try omega)]
  first | done | rfl

/-- The decay from the chunk's start. -/
theorem r_v230 (c : Fin 16) (l : Fin 128) (g : Fin 4) (h : Fin 8) (p : Fin 64) : val_main_v230 (F := Ideal) x0 x2 x3 (ix5 c l g h p) = (pt x0 x1 x2 x3 x4 x5 x6 c g).e l h := by
  simp only [val_main_v230_apply, val_main_v229_apply, val_main_v228_apply]
  rw [show (idx_main_v229 (idx_main_v230 (ix5 c l g h p))) = (ix4 c l g h) from by funext a; apply Fin.ext; have hc := c.isLt; have hl := l.isLt; have hg := g.isLt; have hh := h.isLt; have hp := p.isLt; fin_cases a <;> (try simp [row, gc, gh, col, xc, bc, cc, zc, hd, ch]) <;> (try dsimp only [ix1, ix2, ix3, ix4, ix5]) <;> (try omega)]
  first | done | rfl

/-- A sum over all rows, by chunks. -/
theorem sum_rows (f : Fin 2048 → EReal) : ∑ r, f r = ∑ c : Fin 16, ∑ l : Fin 128, f (row c l) := by
  rw [← Fintype.sum_prod_type', ← Equiv.sum_comp (finProdFinEquiv (m := 16) (n := 128))]
  refine Finset.sum_congr rfl fun q _ => congrArg f (Fin.ext ?_)
  simp only [finProdFinEquiv, Equiv.coe_fn_mk, row]; omega
/-- A sum over a group's columns, by heads. -/
theorem sum_cols (f : Fin 512 → EReal) : ∑ k, f k = ∑ h : Fin 8, ∑ p : Fin 64, f (col h p) := by
  rw [← Fintype.sum_prod_type', ← Equiv.sum_comp (finProdFinEquiv (m := 8) (n := 64))]
  refine Finset.sum_congr rfl fun q _ => congrArg f (Fin.ext ?_)
  simp only [finProdFinEquiv, Equiv.coe_fn_mk, col]; omega
/-- The lower triangle, as the reference makes it. -/
theorem r_v28 (l s : Fin 128) : val_main_v28 (F := Ideal) (ix2 l s) = BitVec.ofBool (decide (s ≤ l)) := by
  simp only [val_main_v28_apply, val_main_call2_v4_apply, val_main_call2_v2_apply, val_main_call2_v0_apply, val_main_call2_v3_apply, val_main_call2_v5_apply, val_main_call2_v1_apply, val_main_call2_c_apply, val_main_call2_c_0_apply, val_main_v27_apply, val_main_c_apply]
  have hl := l.isLt
  have hs := s.isLt
  rw [show IntOp.addi (BitVec.ofNat 32 ((ix2 l s) 0).val) 0#32 = BitVec.ofNat 32 l.val from by show BitVec.ofNat 32 l.val + 0#32 = _; simp,
    show ((ix2 l s) 1).val = s.val from rfl, WordCmp.cmpi_sge_ofNat (by omega) (by omega)]
  by_cases h : s ≤ l
  · rw [show decide (s ≤ l) = true from decide_eq_true h, show decide (s.val ≤ l.val) = true from decide_eq_true h]; rfl
  · rw [show decide (s ≤ l) = false from decide_eq_false h, show decide (s.val ≤ l.val) = false from decide_eq_false h]; rfl

/-- The decay between two rows of a chunk. -/
theorem r_v36 (c : Fin 16) (l : Fin 128) (s : Fin 128) (g : Fin 4) (h : Fin 8) : val_main_v36 (F := Ideal) x0 x2 x3 (ix5 c l s g h) = (pt x0 x1 x2 x3 x4 x5 x6 c g).lm l s h := by
  simp only [val_main_v36_apply, val_main_v35_0_apply, val_main_v35_1_apply, val_main_v29_apply, val_main_v34_apply, val_main_v32_apply, val_main_v30_apply, val_main_v33_apply, val_main_v31_apply, val_main_call3_v2_apply, val_main_call3_v0_apply, val_main_cst_apply]
  rw [show (idx_main_v29 (idx_main_v35_1 (ix5 c l s g h))) = (ix2 l s) from by funext a; apply Fin.ext; have hc := c.isLt; have hl := l.isLt; have hs := s.isLt; have hg := g.isLt; have hh := h.isLt; fin_cases a <;> (try simp [row, gc, gh, col, xc, bc, cc, zc, hd, ch]) <;> (try dsimp only [ix1, ix2, ix3, ix4, ix5]) <;> (try omega)]
  rw [r_v28 l s]
  rw [show (idx_main_v30 (idx_main_v32 (ix5 c l s g h))) = (ix4 c l g h) from by funext a; apply Fin.ext; have hc := c.isLt; have hl := l.isLt; have hs := s.isLt; have hg := g.isLt; have hh := h.isLt; fin_cases a <;> (try simp [row, gc, gh, col, xc, bc, cc, zc, hd, ch]) <;> (try dsimp only [ix1, ix2, ix3, ix4, ix5]) <;> (try omega)]
  rw [show (idx_main_v31 (idx_main_v33 (ix5 c l s g h))) = (ix4 c s g h) from by funext a; apply Fin.ext; have hc := c.isLt; have hl := l.isLt; have hs := s.isLt; have hg := g.isLt; have hh := h.isLt; fin_cases a <;> (try simp [row, gc, gh, col, xc, bc, cc, zc, hd, ch]) <;> (try dsimp only [ix1, ix2, ix3, ix4, ix5]) <;> (try omega)]
  unfold Pt.lm
  by_cases h : s ≤ l
  · rw [if_pos h, show decide (s ≤ l) = true from decide_eq_true h]; rfl
  · rw [if_neg h, show decide (s ≤ l) = false from decide_eq_false h, ← ninf_eq]; rfl

/-- The scores. -/
theorem r_v37 (c : Fin 16) (g : Fin 4) (s : Fin 128) (l : Fin 128) : val_main_v37 (F := Ideal) x1 (ix4 c g s l) = (pt x0 x1 x2 x3 x4 x5 x6 c g).sc l s := by
  rw [val_main_v37_apply]
  unfold Pt.sc
  refine Finset.sum_congr rfl fun n _ => ?_
  rw [show (lidx_main_v37 (ix4 c g s l) n) = (ix4 c s g n) from by funext a; apply Fin.ext; have hc := c.isLt; have hg := g.isLt; have hs := s.isLt; have hl := l.isLt; have hn := n.isLt; fin_cases a <;> (try simp [row, gc, gh, col, xc, bc, cc, zc, hd, ch]) <;> (try dsimp only [ix1, ix2, ix3, ix4, ix5]) <;> (try omega)]
  rw [r_v18 x0 x1 x2 x3 x4 x5 x6 c s g n]
  rw [show (ridx_main_v37 (ix4 c g s l) n) = (ix4 c l g n) from by funext a; apply Fin.ext; have hc := c.isLt; have hg := g.isLt; have hs := s.isLt; have hl := l.isLt; have hn := n.isLt; fin_cases a <;> (try simp [row, gc, gh, col, xc, bc, cc, zc, hd, ch]) <;> (try dsimp only [ix1, ix2, ix3, ix4, ix5]) <;> (try omega)]
  rw [r_v19 x0 x1 x2 x3 x4 x5 x6 c l g n]
  exact EReal.mul_comm _ _

/-- The scores times the decay between their rows. -/
theorem r_v41 (c : Fin 16) (l : Fin 128) (s : Fin 128) (g : Fin 4) (h : Fin 8) : val_main_v41 (F := Ideal) x0 x1 x2 x3 (ix5 c l s g h) = (pt x0 x1 x2 x3 x4 x5 x6 c g).sc l s * (pt x0 x1 x2 x3 x4 x5 x6 c g).lm l s h := by
  simp only [val_main_v41_apply, val_main_v40_apply, val_main_v39_apply, val_main_v38_apply]
  rw [show (idx_main_v38 (idx_main_v39 (idx_main_v40 (ix5 c l s g h)))) = (ix4 c g s l) from by funext a; apply Fin.ext; have hc := c.isLt; have hl := l.isLt; have hs := s.isLt; have hg := g.isLt; have hh := h.isLt; fin_cases a <;> (try simp [row, gc, gh, col, xc, bc, cc, zc, hd, ch]) <;> (try dsimp only [ix1, ix2, ix3, ix4, ix5]) <;> (try omega)]
  rw [r_v37 x0 x1 x2 x3 x4 x5 x6 c g s l]
  rw [r_v36 x0 x1 x2 x3 x4 x5 x6 c l s g h]
  first | done | rfl

/-- The gate times its logistic. -/
theorem r_v240_0 (c : Fin 16) (l : Fin 128) (g : Fin 4) (k : Fin 512) : val_main_v240_0 (F := Ideal) x0 (ix2 (row c l) (gc g k)) = (pt x0 x1 x2 x3 x4 x5 x6 c g).sz l k := by
  simp only [val_main_v240_0_apply, val_main_v0_apply, val_main_v240_2_apply, val_main_call4_v4_apply, val_main_call4_cst_0_apply, val_main_call4_v3_apply, val_main_call4_v2_apply, val_main_call4_cst_apply, val_main_call4_v1_apply, val_main_call4_v0_apply]
  rw [show (idx_main_v0 (ix2 (row c l) (gc g k))) = (ix2 (row c l) (zc g k)) from by funext a; apply Fin.ext; have hc := c.isLt; have hl := l.isLt; have hg := g.isLt; have hk := k.isLt; fin_cases a <;> (try simp [row, gc, gh, col, xc, bc, cc, zc, hd, ch]) <;> (try dsimp only [ix1, ix2, ix3, ix4, ix5]) <;> (try omega)]
  unfold Pt.sz Pt.sig; rw [← one_eq]; rfl

/-- The gated result of the scan. -/
theorem r_v242 (c : Fin 16) (l : Fin 128) (g : Fin 4) (k : Fin 512) : val_main_v242 (F := Ideal) x0 x1 x2 x3 x4 (ix3 (row c l) g k) = (pt x0 x1 x2 x3 x4 x5 x6 c g).yg l k := by
  simp only [val_main_v242_apply, val_main_v241_apply]
  rw [show (idx_main_v242 (ix3 (row c l) g k)) = (ix2 (row c l) (gc g k)) from by funext a; apply Fin.ext; have hc := c.isLt; have hl := l.isLt; have hg := g.isLt; have hk := k.isLt; fin_cases a <;> (try simp [row, gc, gh, col, xc, bc, cc, zc, hd, ch]) <;> (try dsimp only [ix1, ix2, ix3, ix4, ix5]) <;> (try omega)]
  rw [r_v240_0 x0 x1 x2 x3 x4 x5 x6 c l g k]
  first | done | rfl

/-- Its square. -/
theorem r_v243 (c : Fin 16) (l : Fin 128) (g : Fin 4) (k : Fin 512) : val_main_v243 (F := Ideal) x0 x1 x2 x3 x4 (ix3 (row c l) g k) = (pt x0 x1 x2 x3 x4 x5 x6 c g).yg l k * (pt x0 x1 x2 x3 x4 x5 x6 c g).yg l k := by
  simp only [val_main_v243_apply]
  rw [r_v242 x0 x1 x2 x3 x4 x5 x6 c l g k]
  first | done | rfl

/-- The sum of the squares of a row. -/
theorem r_v244 (c : Fin 16) (l : Fin 128) (g : Fin 4) : val_main_v244 (F := Ideal) x0 x1 x2 x3 x4 (ix2 (row c l) g) = ∑ k, (pt x0 x1 x2 x3 x4 x5 x6 c g).yg l k * (pt x0 x1 x2 x3 x4 x5 x6 c g).yg l k := by
  rw [val_main_v244_apply]
  rw [show (val_main_cst_3 (F := Ideal)) (Shape.Idx.first Cert.ReferenceIdeal.Gen.h_S_) = (0 : EReal) from zero_eq, zero_add]
  refine Finset.sum_congr rfl fun k _ => ?_
  rw [show (idx_main_v244 (ix2 (row c l) g) k) = (ix3 (row c l) g k) from by funext a; apply Fin.ext; have hc := c.isLt; have hl := l.isLt; have hg := g.isLt; have hk := k.isLt; fin_cases a <;> (try simp [row, gc, gh, col, xc, bc, cc, zc, hd, ch]) <;> (try dsimp only [ix1, ix2, ix3, ix4, ix5]) <;> (try omega)]
  rw [r_v243 x0 x1 x2 x3 x4 x5 x6 c l g k]
  first | done | rfl

/-- The mean square plus the small constant. -/
theorem r_v249 (c : Fin 16) (l : Fin 128) (g : Fin 4) : val_main_v249 (F := Ideal) x0 x1 x2 x3 x4 (ix3 (row c l) g (0 : Fin 1)) = (pt x0 x1 x2 x3 x4 x5 x6 c g).var l := by
  simp only [val_main_v249_apply, val_main_v247_apply, val_main_v245_apply, val_main_v246_apply, val_main_cst_4_apply, val_main_v248_apply, val_main_cst_5_apply]
  rw [show (idx_main_v245 (ix3 (row c l) g (0 : Fin 1))) = (ix2 (row c l) g) from by funext a; apply Fin.ext; have hc := c.isLt; have hl := l.isLt; have hg := g.isLt; fin_cases a <;> (try simp [row, gc, gh, col, xc, bc, cc, zc, hd, ch]) <;> (try dsimp only [ix1, ix2, ix3, ix4, ix5]) <;> (try omega)]
  rw [r_v244 x0 x1 x2 x3 x4 x5 x6 c l g]
  first | done | rfl

/-- The normalisation's factor. -/
theorem r_v250 (c : Fin 16) (l : Fin 128) (g : Fin 4) : val_main_v250 (F := Ideal) x0 x1 x2 x3 x4 (ix3 (row c l) g (0 : Fin 1)) = (pt x0 x1 x2 x3 x4 x5 x6 c g).rstd l := by
  simp only [val_main_v250_apply]
  rw [r_v249 x0 x1 x2 x3 x4 x5 x6 c l g]
  first | done | rfl

/-- The factor's derivative, by the mean square. -/
theorem r_v253 (c : Fin 16) (l : Fin 128) (g : Fin 4) : val_main_v253 (F := Ideal) x0 x1 x2 x3 x4 (ix3 (row c l) g (0 : Fin 1)) = Ideal.ofBits .f32 0xBF000000#32 * Ideal.div ((pt x0 x1 x2 x3 x4 x5 x6 c g).rstd l) ((pt x0 x1 x2 x3 x4 x5 x6 c g).var l) := by
  simp only [val_main_v253_apply, val_main_v252_apply, val_main_cst_6_apply, val_main_v251_apply]
  rw [r_v250 x0 x1 x2 x3 x4 x5 x6 c l g]
  rw [r_v249 x0 x1 x2 x3 x4 x5 x6 c l g]
  first | done | rfl

/-- The normalised row. -/
theorem r_v255 (c : Fin 16) (l : Fin 128) (g : Fin 4) (k : Fin 512) : val_main_v255 (F := Ideal) x0 x1 x2 x3 x4 (ix3 (row c l) g k) = (pt x0 x1 x2 x3 x4 x5 x6 c g).yg l k * (pt x0 x1 x2 x3 x4 x5 x6 c g).rstd l := by
  simp only [val_main_v255_apply, val_main_v254_apply]
  rw [r_v242 x0 x1 x2 x3 x4 x5 x6 c l g k]
  rw [show (idx_main_v254 (ix3 (row c l) g k)) = (ix3 (row c l) g (0 : Fin 1)) from by funext a; apply Fin.ext; have hc := c.isLt; have hl := l.isLt; have hg := g.isLt; have hk := k.isLt; fin_cases a <;> (try simp [row, gc, gh, col, xc, bc, cc, zc, hd, ch]) <;> (try dsimp only [ix1, ix2, ix3, ix4, ix5]) <;> (try omega)]
  rw [r_v250 x0 x1 x2 x3 x4 x5 x6 c l g]
  first | done | rfl

/-- The cotangent times the normalised row. -/
theorem r_v261 (c : Fin 16) (l : Fin 128) (g : Fin 4) (k : Fin 512) : val_main_v261 (F := Ideal) x0 x1 x2 x3 x4 x6 (ix2 (row c l) (gc g k)) = (pt x0 x1 x2 x3 x4 x5 x6 c g).ct l k * ((pt x0 x1 x2 x3 x4 x5 x6 c g).yg l k * (pt x0 x1 x2 x3 x4 x5 x6 c g).rstd l) := by
  simp only [val_main_v261_apply, val_main_v256_apply]
  rw [show (idx_main_v256 (ix2 (row c l) (gc g k))) = (ix3 (row c l) g k) from by funext a; apply Fin.ext; have hc := c.isLt; have hl := l.isLt; have hg := g.isLt; have hk := k.isLt; fin_cases a <;> (try simp [row, gc, gh, col, xc, bc, cc, zc, hd, ch]) <;> (try dsimp only [ix1, ix2, ix3, ix4, ix5]) <;> (try omega)]
  rw [r_v255 x0 x1 x2 x3 x4 x5 x6 c l g k]
  exact EReal.mul_comm _ _

/-- The gradient of the norm's weights. -/
theorem r_v262 (g : Fin 4) (k : Fin 512) : val_main_v262 (F := Ideal) x0 x1 x2 x3 x4 x6 (ix1 (gc g k)) = ∑ c, (pt x0 x1 x2 x3 x4 x5 x6 c g).dnw k := by
  rw [val_main_v262_apply]
  rw [show (val_main_cst_8 (F := Ideal)) (Shape.Idx.first Cert.ReferenceIdeal.Gen.h_S_) = (0 : EReal) from zero_eq, zero_add, sum_rows]
  refine Finset.sum_congr rfl fun c _ => Finset.sum_congr rfl fun l _ => ?_
  rw [show (idx_main_v262 (ix1 (gc g k)) (row c l)) = (ix2 (row c l) (gc g k)) from by funext a; apply Fin.ext; have hg := g.isLt; have hk := k.isLt; have hc := c.isLt; have hl := l.isLt; fin_cases a <;> (try simp [row, gc, gh, col, xc, bc, cc, zc, hd, ch]) <;> (try dsimp only [ix1, ix2, ix3, ix4, ix5]) <;> (try omega)]

  rw [r_v261 x0 x1 x2 x3 x4 x5 x6 c l g k]

/-- The same, as a row. -/
theorem r_v263 (g : Fin 4) (k : Fin 512) : val_main_v263 (F := Ideal) x0 x1 x2 x3 x4 x6 (ix2 (0 : Fin 1) (gc g k)) = ∑ c, (pt x0 x1 x2 x3 x4 x5 x6 c g).dnw k := by
  simp only [val_main_v263_apply]
  rw [show (idx_main_v263 (ix2 (0 : Fin 1) (gc g k))) = (ix1 (gc g k)) from by funext a; apply Fin.ext; have hg := g.isLt; have hk := k.isLt; fin_cases a; (try simp [row, gc, gh, col, xc, bc, cc, zc, hd, ch]) <;> (try dsimp only [ix1, ix2, ix3, ix4, ix5]) <;> (try omega)]
  rw [r_v262 x0 x1 x2 x3 x4 x5 x6 g k]
  first | done | rfl

/-- The same, as a vector. -/
theorem r_v266 (g : Fin 4) (k : Fin 512) : val_main_v266 (F := Ideal) x0 x1 x2 x3 x4 x6 (ix1 (gc g k)) = ∑ c, (pt x0 x1 x2 x3 x4 x5 x6 c g).dnw k := by
  rw [val_main_v266_apply]
  rw [show (val_main_cst_9 (F := Ideal)) (Shape.Idx.first Cert.ReferenceIdeal.Gen.h_S_) = (0 : EReal) from zero_eq, zero_add, Fin.sum_univ_one]
  rw [show (idx_main_v266 (ix1 (gc g k)) 0) = (ix2 (0 : Fin 1) (gc g k)) from by funext a; apply Fin.ext; have hg := g.isLt; have hk := k.isLt; fin_cases a <;> (try simp [row, gc, gh, col, xc, bc, cc, zc, hd, ch]) <;> (try dsimp only [ix1, ix2, ix3, ix4, ix5]) <;> (try omega)]
  exact r_v263 x0 x1 x2 x3 x4 x5 x6 g k

/-- The same, by group: the reference's fifth result. -/
theorem r_v663 (g : Fin 4) (k : Fin 512) : val_main_v663 (F := Ideal) x0 x1 x2 x3 x4 x6 (ix3 g (0 : Fin 1) k) = ∑ c, (pt x0 x1 x2 x3 x4 x5 x6 c g).dnw k := by
  simp only [val_main_v663_apply]
  rw [show (idx_main_v663 (ix3 g (0 : Fin 1) k)) = (ix1 (gc g k)) from by funext a; apply Fin.ext; have hg := g.isLt; have hk := k.isLt; fin_cases a; (try simp [row, gc, gh, col, xc, bc, cc, zc, hd, ch]) <;> (try dsimp only [ix1, ix2, ix3, ix4, ix5]) <;> (try omega)]
  rw [r_v266 x0 x1 x2 x3 x4 x5 x6 g k]
  first | done | rfl

/-- The cotangent times the norm's weight. -/
theorem r_v265 (c : Fin 16) (l : Fin 128) (g : Fin 4) (k : Fin 512) : val_main_v265 (F := Ideal) x5 x6 (ix2 (row c l) (gc g k)) = (pt x0 x1 x2 x3 x4 x5 x6 c g).dyh l k := by
  simp only [val_main_v265_apply, val_main_v264_apply, val_main_v257_apply]
  rw [show (idx_main_v257 (idx_main_v264 (ix2 (row c l) (gc g k)))) = (ix1 (gc g k)) from by funext a; apply Fin.ext; have hc := c.isLt; have hl := l.isLt; have hg := g.isLt; have hk := k.isLt; fin_cases a; (try simp [row, gc, gh, col, xc, bc, cc, zc, hd, ch]) <;> (try dsimp only [ix1, ix2, ix3, ix4, ix5]) <;> (try omega)]
  first | done | rfl

/-- The gated result times that. -/
theorem r_v268 (c : Fin 16) (l : Fin 128) (g : Fin 4) (k : Fin 512) : val_main_v268 (F := Ideal) x0 x1 x2 x3 x4 x5 x6 (ix3 (row c l) g k) = (pt x0 x1 x2 x3 x4 x5 x6 c g).yg l k * (pt x0 x1 x2 x3 x4 x5 x6 c g).dyh l k := by
  simp only [val_main_v268_apply, val_main_v267_apply]
  rw [r_v242 x0 x1 x2 x3 x4 x5 x6 c l g k]
  rw [show (idx_main_v267 (ix3 (row c l) g k)) = (ix2 (row c l) (gc g k)) from by funext a; apply Fin.ext; have hc := c.isLt; have hl := l.isLt; have hg := g.isLt; have hk := k.isLt; fin_cases a <;> (try simp [row, gc, gh, col, xc, bc, cc, zc, hd, ch]) <;> (try dsimp only [ix1, ix2, ix3, ix4, ix5]) <;> (try omega)]
  rw [r_v265 x0 x1 x2 x3 x4 x5 x6 c l g k]
  first | done | rfl

/-- Its sum over a row. -/
theorem r_v269 (c : Fin 16) (l : Fin 128) (g : Fin 4) : val_main_v269 (F := Ideal) x0 x1 x2 x3 x4 x5 x6 (ix2 (row c l) g) = ∑ k, (pt x0 x1 x2 x3 x4 x5 x6 c g).yg l k * (pt x0 x1 x2 x3 x4 x5 x6 c g).dyh l k := by
  rw [val_main_v269_apply]
  rw [show (val_main_cst_10 (F := Ideal)) (Shape.Idx.first Cert.ReferenceIdeal.Gen.h_S_) = (0 : EReal) from zero_eq, zero_add]
  refine Finset.sum_congr rfl fun k _ => ?_
  rw [show (idx_main_v269 (ix2 (row c l) g) k) = (ix3 (row c l) g k) from by funext a; apply Fin.ext; have hc := c.isLt; have hl := l.isLt; have hg := g.isLt; have hk := k.isLt; fin_cases a <;> (try simp [row, gc, gh, col, xc, bc, cc, zc, hd, ch]) <;> (try dsimp only [ix1, ix2, ix3, ix4, ix5]) <;> (try omega)]
  rw [r_v268 x0 x1 x2 x3 x4 x5 x6 c l g k]
  first | done | rfl

/-- The gradient of the sum of squares, once. -/
theorem r_v275 (c : Fin 16) (l : Fin 128) (g : Fin 4) : val_main_v275 (F := Ideal) x0 x1 x2 x3 x4 x5 x6 (ix3 (row c l) g (0 : Fin 1)) = Ideal.div ((∑ k, (pt x0 x1 x2 x3 x4 x5 x6 c g).yg l k * (pt x0 x1 x2 x3 x4 x5 x6 c g).dyh l k) * (Ideal.ofBits .f32 0xBF000000#32 * Ideal.div ((pt x0 x1 x2 x3 x4 x5 x6 c g).rstd l) ((pt x0 x1 x2 x3 x4 x5 x6 c g).var l))) n512 := by
  simp only [val_main_v275_apply, val_main_v273_apply, val_main_v270_apply, val_main_v274_apply, val_main_cst_11_apply]
  rw [show (idx_main_v270 (ix3 (row c l) g (0 : Fin 1))) = (ix2 (row c l) g) from by funext a; apply Fin.ext; have hc := c.isLt; have hl := l.isLt; have hg := g.isLt; fin_cases a <;> (try simp [row, gc, gh, col, xc, bc, cc, zc, hd, ch]) <;> (try dsimp only [ix1, ix2, ix3, ix4, ix5]) <;> (try omega)]
  rw [r_v269 x0 x1 x2 x3 x4 x5 x6 c l g]
  rw [r_v253 x0 x1 x2 x3 x4 x5 x6 c l g]
  first | done | rfl

/-- The same without its unit axis. -/
theorem r_v276 (c : Fin 16) (l : Fin 128) (g : Fin 4) : val_main_v276 (F := Ideal) x0 x1 x2 x3 x4 x5 x6 (ix2 (row c l) g) = Ideal.div ((∑ k, (pt x0 x1 x2 x3 x4 x5 x6 c g).yg l k * (pt x0 x1 x2 x3 x4 x5 x6 c g).dyh l k) * (Ideal.ofBits .f32 0xBF000000#32 * Ideal.div ((pt x0 x1 x2 x3 x4 x5 x6 c g).rstd l) ((pt x0 x1 x2 x3 x4 x5 x6 c g).var l))) n512 := by
  rw [val_main_v276_apply]
  rw [show (val_main_cst_12 (F := Ideal)) (Shape.Idx.first Cert.ReferenceIdeal.Gen.h_S_) = (0 : EReal) from zero_eq, zero_add, Fin.sum_univ_one]
  rw [show (idx_main_v276 (ix2 (row c l) g) 0) = (ix3 (row c l) g (0 : Fin 1)) from by funext a; apply Fin.ext; have hc := c.isLt; have hl := l.isLt; have hg := g.isLt; fin_cases a <;> (try simp [row, gc, gh, col, xc, bc, cc, zc, hd, ch]) <;> (try dsimp only [ix1, ix2, ix3, ix4, ix5]) <;> (try omega)]
  exact r_v275 x0 x1 x2 x3 x4 x5 x6 c l g

/-- The gradient of the gated result. -/
theorem r_v281 (c : Fin 16) (l : Fin 128) (g : Fin 4) (k : Fin 512) : val_main_v281 (F := Ideal) x0 x1 x2 x3 x4 x5 x6 (ix3 (row c l) g k) = (pt x0 x1 x2 x3 x4 x5 x6 c g).dyg l k := by
  simp only [val_main_v281_apply, val_main_v279_apply, val_main_v272_apply, val_main_v267_apply, val_main_v271_apply, val_main_v278_apply, val_main_v277_apply, val_main_v280_apply]
  rw [show (idx_main_v267 (ix3 (row c l) g k)) = (ix2 (row c l) (gc g k)) from by funext a; apply Fin.ext; have hc := c.isLt; have hl := l.isLt; have hg := g.isLt; have hk := k.isLt; fin_cases a <;> (try simp [row, gc, gh, col, xc, bc, cc, zc, hd, ch]) <;> (try dsimp only [ix1, ix2, ix3, ix4, ix5]) <;> (try omega)]
  rw [r_v265 x0 x1 x2 x3 x4 x5 x6 c l g k]
  rw [show (idx_main_v271 (ix3 (row c l) g k)) = (ix3 (row c l) g (0 : Fin 1)) from by funext a; apply Fin.ext; have hc := c.isLt; have hl := l.isLt; have hg := g.isLt; have hk := k.isLt; fin_cases a <;> (try simp [row, gc, gh, col, xc, bc, cc, zc, hd, ch]) <;> (try dsimp only [ix1, ix2, ix3, ix4, ix5]) <;> (try omega)]
  rw [r_v250 x0 x1 x2 x3 x4 x5 x6 c l g]
  rw [r_v242 x0 x1 x2 x3 x4 x5 x6 c l g k]
  rw [show (idx_main_v277 (ix3 (row c l) g k)) = (ix2 (row c l) g) from by funext a; apply Fin.ext; have hc := c.isLt; have hl := l.isLt; have hg := g.isLt; have hk := k.isLt; fin_cases a <;> (try simp [row, gc, gh, col, xc, bc, cc, zc, hd, ch]) <;> (try dsimp only [ix1, ix2, ix3, ix4, ix5]) <;> (try omega)]
  rw [r_v276 x0 x1 x2 x3 x4 x5 x6 c l g]
  generalize hP : (pt x0 x1 x2 x3 x4 x5 x6 c g) = P
  have hS : (0 : EReal) ≤ ∑ k, P.yg l k * P.yg l k := Finset.sum_nonneg fun k _ => mul_self_nonneg _
  refine Eq.trans ?_ (dyg_forms (∑ k, P.yg l k * P.yg l k) (P.dyh l k) (P.yg l k) hS (P.dyh l) (P.yg l))
  show P.dyh l k * P.rstd l + P.yg l k * _ + _ * P.yg l k = _
  exact add_assoc _ _ _

/-- The gradient of the scan's result. -/
theorem r_v284 (c : Fin 16) (l : Fin 128) (g : Fin 4) (k : Fin 512) : val_main_v284 (F := Ideal) x0 x1 x2 x3 x4 x5 x6 (ix2 (row c l) (gc g k)) = (pt x0 x1 x2 x3 x4 x5 x6 c g).dy l k := by
  simp only [val_main_v284_apply, val_main_v282_apply]
  rw [show (idx_main_v282 (ix2 (row c l) (gc g k))) = (ix3 (row c l) g k) from by funext a; apply Fin.ext; have hc := c.isLt; have hl := l.isLt; have hg := g.isLt; have hk := k.isLt; fin_cases a <;> (try simp [row, gc, gh, col, xc, bc, cc, zc, hd, ch]) <;> (try dsimp only [ix1, ix2, ix3, ix4, ix5]) <;> (try omega)]
  rw [r_v281 x0 x1 x2 x3 x4 x5 x6 c l g k]
  rw [r_v240_0 x0 x1 x2 x3 x4 x5 x6 c l g k]
  first | done | rfl

/-- The same by head and channel. -/
theorem r_v286 (c : Fin 16) (l : Fin 128) (g : Fin 4) (h : Fin 8) (p : Fin 64) : val_main_v286 (F := Ideal) x0 x1 x2 x3 x4 x5 x6 (ix4 (row c l) g h p) = (pt x0 x1 x2 x3 x4 x5 x6 c g).dy l (col h p) := by
  simp only [val_main_v286_apply]
  rw [show (idx_main_v286 (ix4 (row c l) g h p)) = (ix2 (row c l) (gc g (col h p))) from by funext a; apply Fin.ext; have hc := c.isLt; have hl := l.isLt; have hg := g.isLt; have hh := h.isLt; have hp := p.isLt; fin_cases a <;> (try simp [row, gc, gh, col, xc, bc, cc, zc, hd, ch]) <;> (try dsimp only [ix1, ix2, ix3, ix4, ix5]) <;> (try omega)]
  rw [r_v284 x0 x1 x2 x3 x4 x5 x6 c l g (col h p)]
  first | done | rfl

/-- The same by chunk. -/
theorem r_v295 (c : Fin 16) (l : Fin 128) (g : Fin 4) (h : Fin 8) (p : Fin 64) : val_main_v295 (F := Ideal) x0 x1 x2 x3 x4 x5 x6 (ix5 c l g h p) = (pt x0 x1 x2 x3 x4 x5 x6 c g).dy l (col h p) := by
  simp only [val_main_v295_apply]
  rw [show (idx_main_v295 (ix5 c l g h p)) = (ix4 (row c l) g h p) from by funext a; apply Fin.ext; have hc := c.isLt; have hl := l.isLt; have hg := g.isLt; have hh := h.isLt; have hp := p.isLt; fin_cases a <;> (try simp [row, gc, gh, col, xc, bc, cc, zc, hd, ch]) <;> (try dsimp only [ix1, ix2, ix3, ix4, ix5]) <;> (try omega)]
  rw [r_v286 x0 x1 x2 x3 x4 x5 x6 c l g h p]
  first | done | rfl

/-- The gradient of the scan's result times the input. -/
theorem r_v289 (c : Fin 16) (l : Fin 128) (g : Fin 4) (h : Fin 8) (p : Fin 64) : val_main_v289 (F := Ideal) x0 x1 x2 x3 x4 x5 x6 (ix4 (row c l) g h p) = (pt x0 x1 x2 x3 x4 x5 x6 c g).dy l (col h p) * (pt x0 x1 x2 x3 x4 x5 x6 c g).xs l (col h p) := by
  simp only [val_main_v289_apply]
  rw [r_v286 x0 x1 x2 x3 x4 x5 x6 c l g h p]
  rw [r_v3 x0 x1 x2 x3 x4 x5 x6 c l g h p]
  first | done | rfl

/-- The gradient of the scan's result, decayed from the chunk's start. -/
theorem r_v303 (c : Fin 16) (g : Fin 4) (h : Fin 8) (p : Fin 64) (l : Fin 128) : val_main_v303 (F := Ideal) x0 x1 x2 x3 x4 x5 x6 (ix5 c g h p l) = (pt x0 x1 x2 x3 x4 x5 x6 c g).dy l (col h p) * (pt x0 x1 x2 x3 x4 x5 x6 c g).e l h := by
  simp only [val_main_v303_apply, val_main_v300_apply, val_main_v299_apply, val_main_v229_apply, val_main_v228_apply]
  rw [show (idx_main_v303 (ix5 c g h p l)) = (ix5 c l g h p) from by funext a; apply Fin.ext; have hc := c.isLt; have hg := g.isLt; have hh := h.isLt; have hp := p.isLt; have hl := l.isLt; fin_cases a <;> (try simp [row, gc, gh, col, xc, bc, cc, zc, hd, ch]) <;> (try dsimp only [ix1, ix2, ix3, ix4, ix5]) <;> (try omega)]
  rw [r_v295 x0 x1 x2 x3 x4 x5 x6 c l g h p]
  rw [show (idx_main_v229 (idx_main_v299 (idx_main_v303 (ix5 c g h p l)))) = (ix4 c l g h) from by funext a; apply Fin.ext; have hc := c.isLt; have hg := g.isLt; have hh := h.isLt; have hp := p.isLt; have hl := l.isLt; fin_cases a <;> (try simp [row, gc, gh, col, xc, bc, cc, zc, hd, ch]) <;> (try dsimp only [ix1, ix2, ix3, ix4, ix5]) <;> (try omega)]
  first | done | rfl

/-- What the state before the chunk gives C's gradient. -/
theorem r_v304 (c : Fin 16) (g : Fin 4) (l : Fin 128) (n : Fin 128) : val_main_v304 (F := Ideal) x0 x1 x2 x3 x4 x5 x6 (ix4 c g l n) = ∑ k, (pt x0 x1 x2 x3 x4 x5 x6 c g).dy l k * (pt x0 x1 x2 x3 x4 x5 x6 c g).e l (hd k) * (pt x0 x1 x2 x3 x4 x5 x6 c g).prev n k := by
  unfold val_main_v304
  simp only [Host.dotGeneral]
  rw [Ideal.dotGeneral_apply, sum_contr2 dot_S16x4x8x64x128_S16x4x8x64x128_S16x4x128x128_23_23_4_4_01_01 8 64 rfl rfl rfl, sum_cols]
  refine Finset.sum_congr rfl fun h _ => Finset.sum_congr rfl fun p _ => ?_
  have e0 := contrEquiv2_symm_val0 dot_S16x4x8x64x128_S16x4x8x64x128_S16x4x128x128_23_23_4_4_01_01 8 64 rfl rfl rfl (h, p)
  have e1 := contrEquiv2_symm_val1 dot_S16x4x8x64x128_S16x4x8x64x128_S16x4x128x128_23_23_4_4_01_01 8 64 rfl rfl rfl (h, p)
  have hlhs : dot_S16x4x8x64x128_S16x4x8x64x128_S16x4x128x128_23_23_4_4_01_01.lhsIdx (ix4 c g l n) ((contrEquiv2 dot_S16x4x8x64x128_S16x4x8x64x128_S16x4x128x128_23_23_4_4_01_01 8 64 rfl rfl rfl).symm (h, p)) = (ix5 c g h p l) := by
    funext a
    apply Fin.ext
    fin_cases a
    · show (dot_S16x4x8x64x128_S16x4x8x64x128_S16x4x128x128_23_23_4_4_01_01.lhsIdx (ix4 c g l n) ((contrEquiv2 dot_S16x4x8x64x128_S16x4x8x64x128_S16x4x128x128_23_23_4_4_01_01 8 64 rfl rfl rfl).symm (h, p)) (0 : Fin S16x4x8x64x128.rank)).val = _
      unfold DotDims.lhsIdx; rw [dif_pos (show (0 : Fin S16x4x8x64x128.rank) ∈ dot_S16x4x8x64x128_S16x4x8x64x128_S16x4x128x128_23_23_4_4_01_01.lhsBatch by decide)]; rfl
    · show (dot_S16x4x8x64x128_S16x4x8x64x128_S16x4x128x128_23_23_4_4_01_01.lhsIdx (ix4 c g l n) ((contrEquiv2 dot_S16x4x8x64x128_S16x4x8x64x128_S16x4x128x128_23_23_4_4_01_01 8 64 rfl rfl rfl).symm (h, p)) (1 : Fin S16x4x8x64x128.rank)).val = _
      unfold DotDims.lhsIdx; rw [dif_pos (show (1 : Fin S16x4x8x64x128.rank) ∈ dot_S16x4x8x64x128_S16x4x8x64x128_S16x4x128x128_23_23_4_4_01_01.lhsBatch by decide)]; rfl
    · show (dot_S16x4x8x64x128_S16x4x8x64x128_S16x4x128x128_23_23_4_4_01_01.lhsIdx (ix4 c g l n) ((contrEquiv2 dot_S16x4x8x64x128_S16x4x8x64x128_S16x4x128x128_23_23_4_4_01_01 8 64 rfl rfl rfl).symm (h, p)) (2 : Fin S16x4x8x64x128.rank)).val = _
      unfold DotDims.lhsIdx; rw [dif_neg (show ¬(2 : Fin S16x4x8x64x128.rank) ∈ dot_S16x4x8x64x128_S16x4x8x64x128_S16x4x128x128_23_23_4_4_01_01.lhsBatch by decide), dif_neg (show ¬(2 : Fin S16x4x8x64x128.rank) ∈ dot_S16x4x8x64x128_S16x4x8x64x128_S16x4x128x128_23_23_4_4_01_01.lhsNonContracting by decide)]; exact e0
    · show (dot_S16x4x8x64x128_S16x4x8x64x128_S16x4x128x128_23_23_4_4_01_01.lhsIdx (ix4 c g l n) ((contrEquiv2 dot_S16x4x8x64x128_S16x4x8x64x128_S16x4x128x128_23_23_4_4_01_01 8 64 rfl rfl rfl).symm (h, p)) (3 : Fin S16x4x8x64x128.rank)).val = _
      unfold DotDims.lhsIdx; rw [dif_neg (show ¬(3 : Fin S16x4x8x64x128.rank) ∈ dot_S16x4x8x64x128_S16x4x8x64x128_S16x4x128x128_23_23_4_4_01_01.lhsBatch by decide), dif_neg (show ¬(3 : Fin S16x4x8x64x128.rank) ∈ dot_S16x4x8x64x128_S16x4x8x64x128_S16x4x128x128_23_23_4_4_01_01.lhsNonContracting by decide)]; exact e1
    · show (dot_S16x4x8x64x128_S16x4x8x64x128_S16x4x128x128_23_23_4_4_01_01.lhsIdx (ix4 c g l n) ((contrEquiv2 dot_S16x4x8x64x128_S16x4x8x64x128_S16x4x128x128_23_23_4_4_01_01 8 64 rfl rfl rfl).symm (h, p)) (4 : Fin S16x4x8x64x128.rank)).val = _
      unfold DotDims.lhsIdx; rw [dif_neg (show ¬(4 : Fin S16x4x8x64x128.rank) ∈ dot_S16x4x8x64x128_S16x4x8x64x128_S16x4x128x128_23_23_4_4_01_01.lhsBatch by decide), dif_pos (show (4 : Fin S16x4x8x64x128.rank) ∈ dot_S16x4x8x64x128_S16x4x8x64x128_S16x4x128x128_23_23_4_4_01_01.lhsNonContracting by decide)]; rfl
  have hrhs : dot_S16x4x8x64x128_S16x4x8x64x128_S16x4x128x128_23_23_4_4_01_01.rhsIdx (ix4 c g l n) ((contrEquiv2 dot_S16x4x8x64x128_S16x4x8x64x128_S16x4x128x128_23_23_4_4_01_01 8 64 rfl rfl rfl).symm (h, p)) = (ix5 c g h p n) := by
    funext a
    apply Fin.ext
    fin_cases a
    · show (dot_S16x4x8x64x128_S16x4x8x64x128_S16x4x128x128_23_23_4_4_01_01.rhsIdx (ix4 c g l n) ((contrEquiv2 dot_S16x4x8x64x128_S16x4x8x64x128_S16x4x128x128_23_23_4_4_01_01 8 64 rfl rfl rfl).symm (h, p)) (0 : Fin S16x4x8x64x128.rank)).val = _
      unfold DotDims.rhsIdx; rw [dif_pos (show (0 : Fin S16x4x8x64x128.rank) ∈ dot_S16x4x8x64x128_S16x4x8x64x128_S16x4x128x128_23_23_4_4_01_01.rhsBatch by decide)]; rfl
    · show (dot_S16x4x8x64x128_S16x4x8x64x128_S16x4x128x128_23_23_4_4_01_01.rhsIdx (ix4 c g l n) ((contrEquiv2 dot_S16x4x8x64x128_S16x4x8x64x128_S16x4x128x128_23_23_4_4_01_01 8 64 rfl rfl rfl).symm (h, p)) (1 : Fin S16x4x8x64x128.rank)).val = _
      unfold DotDims.rhsIdx; rw [dif_pos (show (1 : Fin S16x4x8x64x128.rank) ∈ dot_S16x4x8x64x128_S16x4x8x64x128_S16x4x128x128_23_23_4_4_01_01.rhsBatch by decide)]; rfl
    · show (dot_S16x4x8x64x128_S16x4x8x64x128_S16x4x128x128_23_23_4_4_01_01.rhsIdx (ix4 c g l n) ((contrEquiv2 dot_S16x4x8x64x128_S16x4x8x64x128_S16x4x128x128_23_23_4_4_01_01 8 64 rfl rfl rfl).symm (h, p)) (2 : Fin S16x4x8x64x128.rank)).val = _
      unfold DotDims.rhsIdx; rw [dif_neg (show ¬(2 : Fin S16x4x8x64x128.rank) ∈ dot_S16x4x8x64x128_S16x4x8x64x128_S16x4x128x128_23_23_4_4_01_01.rhsBatch by decide), dif_neg (show ¬(2 : Fin S16x4x8x64x128.rank) ∈ dot_S16x4x8x64x128_S16x4x8x64x128_S16x4x128x128_23_23_4_4_01_01.rhsNonContracting by decide)]; exact e0
    · show (dot_S16x4x8x64x128_S16x4x8x64x128_S16x4x128x128_23_23_4_4_01_01.rhsIdx (ix4 c g l n) ((contrEquiv2 dot_S16x4x8x64x128_S16x4x8x64x128_S16x4x128x128_23_23_4_4_01_01 8 64 rfl rfl rfl).symm (h, p)) (3 : Fin S16x4x8x64x128.rank)).val = _
      unfold DotDims.rhsIdx; rw [dif_neg (show ¬(3 : Fin S16x4x8x64x128.rank) ∈ dot_S16x4x8x64x128_S16x4x8x64x128_S16x4x128x128_23_23_4_4_01_01.rhsBatch by decide), dif_neg (show ¬(3 : Fin S16x4x8x64x128.rank) ∈ dot_S16x4x8x64x128_S16x4x8x64x128_S16x4x128x128_23_23_4_4_01_01.rhsNonContracting by decide)]; exact e1
    · show (dot_S16x4x8x64x128_S16x4x8x64x128_S16x4x128x128_23_23_4_4_01_01.rhsIdx (ix4 c g l n) ((contrEquiv2 dot_S16x4x8x64x128_S16x4x8x64x128_S16x4x128x128_23_23_4_4_01_01 8 64 rfl rfl rfl).symm (h, p)) (4 : Fin S16x4x8x64x128.rank)).val = _
      unfold DotDims.rhsIdx; rw [dif_neg (show ¬(4 : Fin S16x4x8x64x128.rank) ∈ dot_S16x4x8x64x128_S16x4x8x64x128_S16x4x128x128_23_23_4_4_01_01.rhsBatch by decide), dif_pos (show (4 : Fin S16x4x8x64x128.rank) ∈ dot_S16x4x8x64x128_S16x4x8x64x128_S16x4x128x128_23_23_4_4_01_01.rhsNonContracting by decide)]; rfl
  rw [hlhs, hrhs, r_v303 x0 x1 x2 x3 x4 x5 x6 c g h p l]
  rw [hd_col]; unfold pt; dsimp only; rw [hd_col, ch_col]

/-- What the chunk's result gives the gradient of the state before it. -/
theorem r_v306 (c : Fin 16) (g : Fin 4) (h : Fin 8) (p : Fin 64) (n : Fin 128) : val_main_v306 (F := Ideal) x0 x1 x2 x3 x4 x5 x6 (ix5 c g h p n) = ∑ l, (pt x0 x1 x2 x3 x4 x5 x6 c g).C l n * ((pt x0 x1 x2 x3 x4 x5 x6 c g).dy l (col h p) * (pt x0 x1 x2 x3 x4 x5 x6 c g).e l h) := by
  rw [val_main_v306_apply]
  refine Finset.sum_congr rfl fun l _ => ?_
  rw [show (lidx_main_v306 (ix5 c g h p n) l) = (ix5 c g h p l) from by funext a; apply Fin.ext; have hc := c.isLt; have hg := g.isLt; have hh := h.isLt; have hp := p.isLt; have hn := n.isLt; have hl := l.isLt; fin_cases a <;> (try simp [row, gc, gh, col, xc, bc, cc, zc, hd, ch]) <;> (try dsimp only [ix1, ix2, ix3, ix4, ix5]) <;> (try omega)]
  rw [r_v303 x0 x1 x2 x3 x4 x5 x6 c g h p l]
  rw [show (ridx_main_v306 (ix5 c g h p n) l) = (ix4 c l g n) from by funext a; apply Fin.ext; have hc := c.isLt; have hg := g.isLt; have hh := h.isLt; have hp := p.isLt; have hn := n.isLt; have hl := l.isLt; fin_cases a <;> (try simp [row, gc, gh, col, xc, bc, cc, zc, hd, ch]) <;> (try dsimp only [ix1, ix2, ix3, ix4, ix5]) <;> (try omega)]
  rw [r_v19 x0 x1 x2 x3 x4 x5 x6 c l g n]
  exact EReal.mul_comm _ _

/-- The decay over chunk 0. -/
theorem r_v207 (g : Fin 4) (h : Fin 8) : val_main_v207 (F := Ideal) x0 x2 x3 (ix5 (0 : Fin 1) g h (0 : Fin 1) (0 : Fin 1)) = (pt x0 x1 x2 x3 x4 x5 x6 0 g).e 127 h := by
  simp only [val_main_v207_apply, val_main_v66_apply, val_main_v65_apply, val_main_v64_apply, val_main_v59_apply]
  rw [show (idx_main_v59 (idx_main_v64 (idx_main_v65 (idx_main_v66 (idx_main_v207 (ix5 (0 : Fin 1) g h (0 : Fin 1) (0 : Fin 1))))))) = (ix3 0 g h) from by funext a; apply Fin.ext; have hg := g.isLt; have hh := h.isLt; fin_cases a <;> (try simp [row, gc, gh, col, xc, bc, cc, zc, hd, ch]) <;> (try dsimp only [ix1, ix2, ix3, ix4, ix5]) <;> (try omega)]
  rw [r_v54 x0 x1 x2 x3 x4 x5 x6 0 g h]
  first | done | rfl

/-- The decay over chunk 1. -/
theorem r_v208 (g : Fin 4) (h : Fin 8) : val_main_v208 (F := Ideal) x0 x2 x3 (ix5 (0 : Fin 1) g h (0 : Fin 1) (0 : Fin 1)) = (pt x0 x1 x2 x3 x4 x5 x6 1 g).e 127 h := by
  simp only [val_main_v208_apply, val_main_v74_apply, val_main_v73_apply, val_main_v72_apply, val_main_v59_apply]
  rw [show (idx_main_v59 (idx_main_v72 (idx_main_v73 (idx_main_v74 (idx_main_v208 (ix5 (0 : Fin 1) g h (0 : Fin 1) (0 : Fin 1))))))) = (ix3 1 g h) from by funext a; apply Fin.ext; have hg := g.isLt; have hh := h.isLt; fin_cases a <;> (try simp [row, gc, gh, col, xc, bc, cc, zc, hd, ch]) <;> (try dsimp only [ix1, ix2, ix3, ix4, ix5]) <;> (try omega)]
  rw [r_v54 x0 x1 x2 x3 x4 x5 x6 1 g h]
  first | done | rfl

/-- The decay over chunk 2. -/
theorem r_v209 (g : Fin 4) (h : Fin 8) : val_main_v209 (F := Ideal) x0 x2 x3 (ix5 (0 : Fin 1) g h (0 : Fin 1) (0 : Fin 1)) = (pt x0 x1 x2 x3 x4 x5 x6 2 g).e 127 h := by
  simp only [val_main_v209_apply, val_main_v82_apply, val_main_v81_apply, val_main_v80_apply, val_main_v59_apply]
  rw [show (idx_main_v59 (idx_main_v80 (idx_main_v81 (idx_main_v82 (idx_main_v209 (ix5 (0 : Fin 1) g h (0 : Fin 1) (0 : Fin 1))))))) = (ix3 2 g h) from by funext a; apply Fin.ext; have hg := g.isLt; have hh := h.isLt; fin_cases a <;> (try simp [row, gc, gh, col, xc, bc, cc, zc, hd, ch]) <;> (try dsimp only [ix1, ix2, ix3, ix4, ix5]) <;> (try omega)]
  rw [r_v54 x0 x1 x2 x3 x4 x5 x6 2 g h]
  first | done | rfl

/-- The decay over chunk 3. -/
theorem r_v210 (g : Fin 4) (h : Fin 8) : val_main_v210 (F := Ideal) x0 x2 x3 (ix5 (0 : Fin 1) g h (0 : Fin 1) (0 : Fin 1)) = (pt x0 x1 x2 x3 x4 x5 x6 3 g).e 127 h := by
  simp only [val_main_v210_apply, val_main_v90_apply, val_main_v89_apply, val_main_v88_apply, val_main_v59_apply]
  rw [show (idx_main_v59 (idx_main_v88 (idx_main_v89 (idx_main_v90 (idx_main_v210 (ix5 (0 : Fin 1) g h (0 : Fin 1) (0 : Fin 1))))))) = (ix3 3 g h) from by funext a; apply Fin.ext; have hg := g.isLt; have hh := h.isLt; fin_cases a <;> (try simp [row, gc, gh, col, xc, bc, cc, zc, hd, ch]) <;> (try dsimp only [ix1, ix2, ix3, ix4, ix5]) <;> (try omega)]
  rw [r_v54 x0 x1 x2 x3 x4 x5 x6 3 g h]
  first | done | rfl

/-- The decay over chunk 4. -/
theorem r_v211 (g : Fin 4) (h : Fin 8) : val_main_v211 (F := Ideal) x0 x2 x3 (ix5 (0 : Fin 1) g h (0 : Fin 1) (0 : Fin 1)) = (pt x0 x1 x2 x3 x4 x5 x6 4 g).e 127 h := by
  simp only [val_main_v211_apply, val_main_v98_apply, val_main_v97_apply, val_main_v96_apply, val_main_v59_apply]
  rw [show (idx_main_v59 (idx_main_v96 (idx_main_v97 (idx_main_v98 (idx_main_v211 (ix5 (0 : Fin 1) g h (0 : Fin 1) (0 : Fin 1))))))) = (ix3 4 g h) from by funext a; apply Fin.ext; have hg := g.isLt; have hh := h.isLt; fin_cases a <;> (try simp [row, gc, gh, col, xc, bc, cc, zc, hd, ch]) <;> (try dsimp only [ix1, ix2, ix3, ix4, ix5]) <;> (try omega)]
  rw [r_v54 x0 x1 x2 x3 x4 x5 x6 4 g h]
  first | done | rfl

/-- The decay over chunk 5. -/
theorem r_v212 (g : Fin 4) (h : Fin 8) : val_main_v212 (F := Ideal) x0 x2 x3 (ix5 (0 : Fin 1) g h (0 : Fin 1) (0 : Fin 1)) = (pt x0 x1 x2 x3 x4 x5 x6 5 g).e 127 h := by
  simp only [val_main_v212_apply, val_main_v106_apply, val_main_v105_apply, val_main_v104_apply, val_main_v59_apply]
  rw [show (idx_main_v59 (idx_main_v104 (idx_main_v105 (idx_main_v106 (idx_main_v212 (ix5 (0 : Fin 1) g h (0 : Fin 1) (0 : Fin 1))))))) = (ix3 5 g h) from by funext a; apply Fin.ext; have hg := g.isLt; have hh := h.isLt; fin_cases a <;> (try simp [row, gc, gh, col, xc, bc, cc, zc, hd, ch]) <;> (try dsimp only [ix1, ix2, ix3, ix4, ix5]) <;> (try omega)]
  rw [r_v54 x0 x1 x2 x3 x4 x5 x6 5 g h]
  first | done | rfl

/-- The decay over chunk 6. -/
theorem r_v213 (g : Fin 4) (h : Fin 8) : val_main_v213 (F := Ideal) x0 x2 x3 (ix5 (0 : Fin 1) g h (0 : Fin 1) (0 : Fin 1)) = (pt x0 x1 x2 x3 x4 x5 x6 6 g).e 127 h := by
  simp only [val_main_v213_apply, val_main_v114_apply, val_main_v113_apply, val_main_v112_apply, val_main_v59_apply]
  rw [show (idx_main_v59 (idx_main_v112 (idx_main_v113 (idx_main_v114 (idx_main_v213 (ix5 (0 : Fin 1) g h (0 : Fin 1) (0 : Fin 1))))))) = (ix3 6 g h) from by funext a; apply Fin.ext; have hg := g.isLt; have hh := h.isLt; fin_cases a <;> (try simp [row, gc, gh, col, xc, bc, cc, zc, hd, ch]) <;> (try dsimp only [ix1, ix2, ix3, ix4, ix5]) <;> (try omega)]
  rw [r_v54 x0 x1 x2 x3 x4 x5 x6 6 g h]
  first | done | rfl

/-- The decay over chunk 7. -/
theorem r_v214 (g : Fin 4) (h : Fin 8) : val_main_v214 (F := Ideal) x0 x2 x3 (ix5 (0 : Fin 1) g h (0 : Fin 1) (0 : Fin 1)) = (pt x0 x1 x2 x3 x4 x5 x6 7 g).e 127 h := by
  simp only [val_main_v214_apply, val_main_v122_apply, val_main_v121_apply, val_main_v120_apply, val_main_v59_apply]
  rw [show (idx_main_v59 (idx_main_v120 (idx_main_v121 (idx_main_v122 (idx_main_v214 (ix5 (0 : Fin 1) g h (0 : Fin 1) (0 : Fin 1))))))) = (ix3 7 g h) from by funext a; apply Fin.ext; have hg := g.isLt; have hh := h.isLt; fin_cases a <;> (try simp [row, gc, gh, col, xc, bc, cc, zc, hd, ch]) <;> (try dsimp only [ix1, ix2, ix3, ix4, ix5]) <;> (try omega)]
  rw [r_v54 x0 x1 x2 x3 x4 x5 x6 7 g h]
  first | done | rfl

/-- The decay over chunk 8. -/
theorem r_v215 (g : Fin 4) (h : Fin 8) : val_main_v215 (F := Ideal) x0 x2 x3 (ix5 (0 : Fin 1) g h (0 : Fin 1) (0 : Fin 1)) = (pt x0 x1 x2 x3 x4 x5 x6 8 g).e 127 h := by
  simp only [val_main_v215_apply, val_main_v130_apply, val_main_v129_apply, val_main_v128_apply, val_main_v59_apply]
  rw [show (idx_main_v59 (idx_main_v128 (idx_main_v129 (idx_main_v130 (idx_main_v215 (ix5 (0 : Fin 1) g h (0 : Fin 1) (0 : Fin 1))))))) = (ix3 8 g h) from by funext a; apply Fin.ext; have hg := g.isLt; have hh := h.isLt; fin_cases a <;> (try simp [row, gc, gh, col, xc, bc, cc, zc, hd, ch]) <;> (try dsimp only [ix1, ix2, ix3, ix4, ix5]) <;> (try omega)]
  rw [r_v54 x0 x1 x2 x3 x4 x5 x6 8 g h]
  first | done | rfl

/-- The decay over chunk 9. -/
theorem r_v216 (g : Fin 4) (h : Fin 8) : val_main_v216 (F := Ideal) x0 x2 x3 (ix5 (0 : Fin 1) g h (0 : Fin 1) (0 : Fin 1)) = (pt x0 x1 x2 x3 x4 x5 x6 9 g).e 127 h := by
  simp only [val_main_v216_apply, val_main_v138_apply, val_main_v137_apply, val_main_v136_apply, val_main_v59_apply]
  rw [show (idx_main_v59 (idx_main_v136 (idx_main_v137 (idx_main_v138 (idx_main_v216 (ix5 (0 : Fin 1) g h (0 : Fin 1) (0 : Fin 1))))))) = (ix3 9 g h) from by funext a; apply Fin.ext; have hg := g.isLt; have hh := h.isLt; fin_cases a <;> (try simp [row, gc, gh, col, xc, bc, cc, zc, hd, ch]) <;> (try dsimp only [ix1, ix2, ix3, ix4, ix5]) <;> (try omega)]
  rw [r_v54 x0 x1 x2 x3 x4 x5 x6 9 g h]
  first | done | rfl

/-- The decay over chunk 10. -/
theorem r_v217 (g : Fin 4) (h : Fin 8) : val_main_v217 (F := Ideal) x0 x2 x3 (ix5 (0 : Fin 1) g h (0 : Fin 1) (0 : Fin 1)) = (pt x0 x1 x2 x3 x4 x5 x6 10 g).e 127 h := by
  simp only [val_main_v217_apply, val_main_v146_apply, val_main_v145_apply, val_main_v144_apply, val_main_v59_apply]
  rw [show (idx_main_v59 (idx_main_v144 (idx_main_v145 (idx_main_v146 (idx_main_v217 (ix5 (0 : Fin 1) g h (0 : Fin 1) (0 : Fin 1))))))) = (ix3 10 g h) from by funext a; apply Fin.ext; have hg := g.isLt; have hh := h.isLt; fin_cases a <;> (try simp [row, gc, gh, col, xc, bc, cc, zc, hd, ch]) <;> (try dsimp only [ix1, ix2, ix3, ix4, ix5]) <;> (try omega)]
  rw [r_v54 x0 x1 x2 x3 x4 x5 x6 10 g h]
  first | done | rfl

/-- The decay over chunk 11. -/
theorem r_v218 (g : Fin 4) (h : Fin 8) : val_main_v218 (F := Ideal) x0 x2 x3 (ix5 (0 : Fin 1) g h (0 : Fin 1) (0 : Fin 1)) = (pt x0 x1 x2 x3 x4 x5 x6 11 g).e 127 h := by
  simp only [val_main_v218_apply, val_main_v154_apply, val_main_v153_apply, val_main_v152_apply, val_main_v59_apply]
  rw [show (idx_main_v59 (idx_main_v152 (idx_main_v153 (idx_main_v154 (idx_main_v218 (ix5 (0 : Fin 1) g h (0 : Fin 1) (0 : Fin 1))))))) = (ix3 11 g h) from by funext a; apply Fin.ext; have hg := g.isLt; have hh := h.isLt; fin_cases a <;> (try simp [row, gc, gh, col, xc, bc, cc, zc, hd, ch]) <;> (try dsimp only [ix1, ix2, ix3, ix4, ix5]) <;> (try omega)]
  rw [r_v54 x0 x1 x2 x3 x4 x5 x6 11 g h]
  first | done | rfl

/-- The decay over chunk 12. -/
theorem r_v219 (g : Fin 4) (h : Fin 8) : val_main_v219 (F := Ideal) x0 x2 x3 (ix5 (0 : Fin 1) g h (0 : Fin 1) (0 : Fin 1)) = (pt x0 x1 x2 x3 x4 x5 x6 12 g).e 127 h := by
  simp only [val_main_v219_apply, val_main_v162_apply, val_main_v161_apply, val_main_v160_apply, val_main_v59_apply]
  rw [show (idx_main_v59 (idx_main_v160 (idx_main_v161 (idx_main_v162 (idx_main_v219 (ix5 (0 : Fin 1) g h (0 : Fin 1) (0 : Fin 1))))))) = (ix3 12 g h) from by funext a; apply Fin.ext; have hg := g.isLt; have hh := h.isLt; fin_cases a <;> (try simp [row, gc, gh, col, xc, bc, cc, zc, hd, ch]) <;> (try dsimp only [ix1, ix2, ix3, ix4, ix5]) <;> (try omega)]
  rw [r_v54 x0 x1 x2 x3 x4 x5 x6 12 g h]
  first | done | rfl

/-- The decay over chunk 13. -/
theorem r_v220 (g : Fin 4) (h : Fin 8) : val_main_v220 (F := Ideal) x0 x2 x3 (ix5 (0 : Fin 1) g h (0 : Fin 1) (0 : Fin 1)) = (pt x0 x1 x2 x3 x4 x5 x6 13 g).e 127 h := by
  simp only [val_main_v220_apply, val_main_v170_apply, val_main_v169_apply, val_main_v168_apply, val_main_v59_apply]
  rw [show (idx_main_v59 (idx_main_v168 (idx_main_v169 (idx_main_v170 (idx_main_v220 (ix5 (0 : Fin 1) g h (0 : Fin 1) (0 : Fin 1))))))) = (ix3 13 g h) from by funext a; apply Fin.ext; have hg := g.isLt; have hh := h.isLt; fin_cases a <;> (try simp [row, gc, gh, col, xc, bc, cc, zc, hd, ch]) <;> (try dsimp only [ix1, ix2, ix3, ix4, ix5]) <;> (try omega)]
  rw [r_v54 x0 x1 x2 x3 x4 x5 x6 13 g h]
  first | done | rfl

/-- The decay over chunk 14. -/
theorem r_v221 (g : Fin 4) (h : Fin 8) : val_main_v221 (F := Ideal) x0 x2 x3 (ix5 (0 : Fin 1) g h (0 : Fin 1) (0 : Fin 1)) = (pt x0 x1 x2 x3 x4 x5 x6 14 g).e 127 h := by
  simp only [val_main_v221_apply, val_main_v178_apply, val_main_v177_apply, val_main_v176_apply, val_main_v59_apply]
  rw [show (idx_main_v59 (idx_main_v176 (idx_main_v177 (idx_main_v178 (idx_main_v221 (ix5 (0 : Fin 1) g h (0 : Fin 1) (0 : Fin 1))))))) = (ix3 14 g h) from by funext a; apply Fin.ext; have hg := g.isLt; have hh := h.isLt; fin_cases a <;> (try simp [row, gc, gh, col, xc, bc, cc, zc, hd, ch]) <;> (try dsimp only [ix1, ix2, ix3, ix4, ix5]) <;> (try omega)]
  rw [r_v54 x0 x1 x2 x3 x4 x5 x6 14 g h]
  first | done | rfl

/-- The decay over chunk 15. -/
theorem r_v222 (g : Fin 4) (h : Fin 8) : val_main_v222 (F := Ideal) x0 x2 x3 (ix5 (0 : Fin 1) g h (0 : Fin 1) (0 : Fin 1)) = (pt x0 x1 x2 x3 x4 x5 x6 15 g).e 127 h := by
  simp only [val_main_v222_apply, val_main_v186_apply, val_main_v185_apply, val_main_v184_apply, val_main_v59_apply]
  rw [show (idx_main_v59 (idx_main_v184 (idx_main_v185 (idx_main_v186 (idx_main_v222 (ix5 (0 : Fin 1) g h (0 : Fin 1) (0 : Fin 1))))))) = (ix3 15 g h) from by funext a; apply Fin.ext; have hg := g.isLt; have hh := h.isLt; fin_cases a <;> (try simp [row, gc, gh, col, xc, bc, cc, zc, hd, ch]) <;> (try dsimp only [ix1, ix2, ix3, ix4, ix5]) <;> (try omega)]
  rw [r_v54 x0 x1 x2 x3 x4 x5 x6 15 g h]
  first | done | rfl

set_option maxHeartbeats 2000000 in
/-- Piece 0 of the stack `val_main_v223`. -/
theorem p_v223_0 (g : Fin 4) (h : Fin 8) : val_main_v223 (F := Ideal) x0 x2 x3 (ix5 0 g h (0 : Fin 1) (0 : Fin 1)) = val_main_v207 (F := Ideal) x0 x2 x3 (ix5 (0 : Fin 1) g h (0 : Fin 1) (0 : Fin 1)) := by
  unfold val_main_v223
  refine concatenate_apply_piece _ _ _ _ 0 ?_ _ (val_main_v207 (F := Ideal) x0 x2 x3) ?_ ?_ 0 ?_ (ix5 (0 : Fin 1) g h (0 : Fin 1) (0 : Fin 1)) ?_ ?_
  · simp only [List.length_cons, List.length_nil]; decide
  · rfl
  · rfl
  · rfl
  · intro a ha; fin_cases a <;> first | rfl | exact absurd rfl ha
  · rfl

set_option maxHeartbeats 2000000 in
/-- Piece 1 of the stack `val_main_v223`. -/
theorem p_v223_1 (g : Fin 4) (h : Fin 8) : val_main_v223 (F := Ideal) x0 x2 x3 (ix5 1 g h (0 : Fin 1) (0 : Fin 1)) = val_main_v208 (F := Ideal) x0 x2 x3 (ix5 (0 : Fin 1) g h (0 : Fin 1) (0 : Fin 1)) := by
  unfold val_main_v223
  refine concatenate_apply_piece _ _ _ _ 1 ?_ _ (val_main_v208 (F := Ideal) x0 x2 x3) ?_ ?_ 1 ?_ (ix5 (0 : Fin 1) g h (0 : Fin 1) (0 : Fin 1)) ?_ ?_
  · simp only [List.length_cons, List.length_nil]; decide
  · rfl
  · rfl
  · rfl
  · intro a ha; fin_cases a <;> first | rfl | exact absurd rfl ha
  · rfl

set_option maxHeartbeats 2000000 in
/-- Piece 2 of the stack `val_main_v223`. -/
theorem p_v223_2 (g : Fin 4) (h : Fin 8) : val_main_v223 (F := Ideal) x0 x2 x3 (ix5 2 g h (0 : Fin 1) (0 : Fin 1)) = val_main_v209 (F := Ideal) x0 x2 x3 (ix5 (0 : Fin 1) g h (0 : Fin 1) (0 : Fin 1)) := by
  unfold val_main_v223
  refine concatenate_apply_piece _ _ _ _ 2 ?_ _ (val_main_v209 (F := Ideal) x0 x2 x3) ?_ ?_ 2 ?_ (ix5 (0 : Fin 1) g h (0 : Fin 1) (0 : Fin 1)) ?_ ?_
  · simp only [List.length_cons, List.length_nil]; decide
  · rfl
  · rfl
  · rfl
  · intro a ha; fin_cases a <;> first | rfl | exact absurd rfl ha
  · rfl

set_option maxHeartbeats 2000000 in
/-- Piece 3 of the stack `val_main_v223`. -/
theorem p_v223_3 (g : Fin 4) (h : Fin 8) : val_main_v223 (F := Ideal) x0 x2 x3 (ix5 3 g h (0 : Fin 1) (0 : Fin 1)) = val_main_v210 (F := Ideal) x0 x2 x3 (ix5 (0 : Fin 1) g h (0 : Fin 1) (0 : Fin 1)) := by
  unfold val_main_v223
  refine concatenate_apply_piece _ _ _ _ 3 ?_ _ (val_main_v210 (F := Ideal) x0 x2 x3) ?_ ?_ 3 ?_ (ix5 (0 : Fin 1) g h (0 : Fin 1) (0 : Fin 1)) ?_ ?_
  · simp only [List.length_cons, List.length_nil]; decide
  · rfl
  · rfl
  · rfl
  · intro a ha; fin_cases a <;> first | rfl | exact absurd rfl ha
  · rfl

set_option maxHeartbeats 2000000 in
/-- Piece 4 of the stack `val_main_v223`. -/
theorem p_v223_4 (g : Fin 4) (h : Fin 8) : val_main_v223 (F := Ideal) x0 x2 x3 (ix5 4 g h (0 : Fin 1) (0 : Fin 1)) = val_main_v211 (F := Ideal) x0 x2 x3 (ix5 (0 : Fin 1) g h (0 : Fin 1) (0 : Fin 1)) := by
  unfold val_main_v223
  refine concatenate_apply_piece _ _ _ _ 4 ?_ _ (val_main_v211 (F := Ideal) x0 x2 x3) ?_ ?_ 4 ?_ (ix5 (0 : Fin 1) g h (0 : Fin 1) (0 : Fin 1)) ?_ ?_
  · simp only [List.length_cons, List.length_nil]; decide
  · rfl
  · rfl
  · rfl
  · intro a ha; fin_cases a <;> first | rfl | exact absurd rfl ha
  · rfl

set_option maxHeartbeats 2000000 in
/-- Piece 5 of the stack `val_main_v223`. -/
theorem p_v223_5 (g : Fin 4) (h : Fin 8) : val_main_v223 (F := Ideal) x0 x2 x3 (ix5 5 g h (0 : Fin 1) (0 : Fin 1)) = val_main_v212 (F := Ideal) x0 x2 x3 (ix5 (0 : Fin 1) g h (0 : Fin 1) (0 : Fin 1)) := by
  unfold val_main_v223
  refine concatenate_apply_piece _ _ _ _ 5 ?_ _ (val_main_v212 (F := Ideal) x0 x2 x3) ?_ ?_ 5 ?_ (ix5 (0 : Fin 1) g h (0 : Fin 1) (0 : Fin 1)) ?_ ?_
  · simp only [List.length_cons, List.length_nil]; decide
  · rfl
  · rfl
  · rfl
  · intro a ha; fin_cases a <;> first | rfl | exact absurd rfl ha
  · rfl

set_option maxHeartbeats 2000000 in
/-- Piece 6 of the stack `val_main_v223`. -/
theorem p_v223_6 (g : Fin 4) (h : Fin 8) : val_main_v223 (F := Ideal) x0 x2 x3 (ix5 6 g h (0 : Fin 1) (0 : Fin 1)) = val_main_v213 (F := Ideal) x0 x2 x3 (ix5 (0 : Fin 1) g h (0 : Fin 1) (0 : Fin 1)) := by
  unfold val_main_v223
  refine concatenate_apply_piece _ _ _ _ 6 ?_ _ (val_main_v213 (F := Ideal) x0 x2 x3) ?_ ?_ 6 ?_ (ix5 (0 : Fin 1) g h (0 : Fin 1) (0 : Fin 1)) ?_ ?_
  · simp only [List.length_cons, List.length_nil]; decide
  · rfl
  · rfl
  · rfl
  · intro a ha; fin_cases a <;> first | rfl | exact absurd rfl ha
  · rfl

set_option maxHeartbeats 2000000 in
/-- Piece 7 of the stack `val_main_v223`. -/
theorem p_v223_7 (g : Fin 4) (h : Fin 8) : val_main_v223 (F := Ideal) x0 x2 x3 (ix5 7 g h (0 : Fin 1) (0 : Fin 1)) = val_main_v214 (F := Ideal) x0 x2 x3 (ix5 (0 : Fin 1) g h (0 : Fin 1) (0 : Fin 1)) := by
  unfold val_main_v223
  refine concatenate_apply_piece _ _ _ _ 7 ?_ _ (val_main_v214 (F := Ideal) x0 x2 x3) ?_ ?_ 7 ?_ (ix5 (0 : Fin 1) g h (0 : Fin 1) (0 : Fin 1)) ?_ ?_
  · simp only [List.length_cons, List.length_nil]; decide
  · rfl
  · rfl
  · rfl
  · intro a ha; fin_cases a <;> first | rfl | exact absurd rfl ha
  · rfl

set_option maxHeartbeats 2000000 in
/-- Piece 8 of the stack `val_main_v223`. -/
theorem p_v223_8 (g : Fin 4) (h : Fin 8) : val_main_v223 (F := Ideal) x0 x2 x3 (ix5 8 g h (0 : Fin 1) (0 : Fin 1)) = val_main_v215 (F := Ideal) x0 x2 x3 (ix5 (0 : Fin 1) g h (0 : Fin 1) (0 : Fin 1)) := by
  unfold val_main_v223
  refine concatenate_apply_piece _ _ _ _ 8 ?_ _ (val_main_v215 (F := Ideal) x0 x2 x3) ?_ ?_ 8 ?_ (ix5 (0 : Fin 1) g h (0 : Fin 1) (0 : Fin 1)) ?_ ?_
  · simp only [List.length_cons, List.length_nil]; decide
  · rfl
  · rfl
  · rfl
  · intro a ha; fin_cases a <;> first | rfl | exact absurd rfl ha
  · rfl

set_option maxHeartbeats 2000000 in
/-- Piece 9 of the stack `val_main_v223`. -/
theorem p_v223_9 (g : Fin 4) (h : Fin 8) : val_main_v223 (F := Ideal) x0 x2 x3 (ix5 9 g h (0 : Fin 1) (0 : Fin 1)) = val_main_v216 (F := Ideal) x0 x2 x3 (ix5 (0 : Fin 1) g h (0 : Fin 1) (0 : Fin 1)) := by
  unfold val_main_v223
  refine concatenate_apply_piece _ _ _ _ 9 ?_ _ (val_main_v216 (F := Ideal) x0 x2 x3) ?_ ?_ 9 ?_ (ix5 (0 : Fin 1) g h (0 : Fin 1) (0 : Fin 1)) ?_ ?_
  · simp only [List.length_cons, List.length_nil]; decide
  · rfl
  · rfl
  · rfl
  · intro a ha; fin_cases a <;> first | rfl | exact absurd rfl ha
  · rfl

set_option maxHeartbeats 2000000 in
/-- Piece 10 of the stack `val_main_v223`. -/
theorem p_v223_10 (g : Fin 4) (h : Fin 8) : val_main_v223 (F := Ideal) x0 x2 x3 (ix5 10 g h (0 : Fin 1) (0 : Fin 1)) = val_main_v217 (F := Ideal) x0 x2 x3 (ix5 (0 : Fin 1) g h (0 : Fin 1) (0 : Fin 1)) := by
  unfold val_main_v223
  refine concatenate_apply_piece _ _ _ _ 10 ?_ _ (val_main_v217 (F := Ideal) x0 x2 x3) ?_ ?_ 10 ?_ (ix5 (0 : Fin 1) g h (0 : Fin 1) (0 : Fin 1)) ?_ ?_
  · simp only [List.length_cons, List.length_nil]; decide
  · rfl
  · rfl
  · rfl
  · intro a ha; fin_cases a <;> first | rfl | exact absurd rfl ha
  · rfl

set_option maxHeartbeats 2000000 in
/-- Piece 11 of the stack `val_main_v223`. -/
theorem p_v223_11 (g : Fin 4) (h : Fin 8) : val_main_v223 (F := Ideal) x0 x2 x3 (ix5 11 g h (0 : Fin 1) (0 : Fin 1)) = val_main_v218 (F := Ideal) x0 x2 x3 (ix5 (0 : Fin 1) g h (0 : Fin 1) (0 : Fin 1)) := by
  unfold val_main_v223
  refine concatenate_apply_piece _ _ _ _ 11 ?_ _ (val_main_v218 (F := Ideal) x0 x2 x3) ?_ ?_ 11 ?_ (ix5 (0 : Fin 1) g h (0 : Fin 1) (0 : Fin 1)) ?_ ?_
  · simp only [List.length_cons, List.length_nil]; decide
  · rfl
  · rfl
  · rfl
  · intro a ha; fin_cases a <;> first | rfl | exact absurd rfl ha
  · rfl

set_option maxHeartbeats 2000000 in
/-- Piece 12 of the stack `val_main_v223`. -/
theorem p_v223_12 (g : Fin 4) (h : Fin 8) : val_main_v223 (F := Ideal) x0 x2 x3 (ix5 12 g h (0 : Fin 1) (0 : Fin 1)) = val_main_v219 (F := Ideal) x0 x2 x3 (ix5 (0 : Fin 1) g h (0 : Fin 1) (0 : Fin 1)) := by
  unfold val_main_v223
  refine concatenate_apply_piece _ _ _ _ 12 ?_ _ (val_main_v219 (F := Ideal) x0 x2 x3) ?_ ?_ 12 ?_ (ix5 (0 : Fin 1) g h (0 : Fin 1) (0 : Fin 1)) ?_ ?_
  · simp only [List.length_cons, List.length_nil]; decide
  · rfl
  · rfl
  · rfl
  · intro a ha; fin_cases a <;> first | rfl | exact absurd rfl ha
  · rfl

set_option maxHeartbeats 2000000 in
/-- Piece 13 of the stack `val_main_v223`. -/
theorem p_v223_13 (g : Fin 4) (h : Fin 8) : val_main_v223 (F := Ideal) x0 x2 x3 (ix5 13 g h (0 : Fin 1) (0 : Fin 1)) = val_main_v220 (F := Ideal) x0 x2 x3 (ix5 (0 : Fin 1) g h (0 : Fin 1) (0 : Fin 1)) := by
  unfold val_main_v223
  refine concatenate_apply_piece _ _ _ _ 13 ?_ _ (val_main_v220 (F := Ideal) x0 x2 x3) ?_ ?_ 13 ?_ (ix5 (0 : Fin 1) g h (0 : Fin 1) (0 : Fin 1)) ?_ ?_
  · simp only [List.length_cons, List.length_nil]; decide
  · rfl
  · rfl
  · rfl
  · intro a ha; fin_cases a <;> first | rfl | exact absurd rfl ha
  · rfl

set_option maxHeartbeats 2000000 in
/-- Piece 14 of the stack `val_main_v223`. -/
theorem p_v223_14 (g : Fin 4) (h : Fin 8) : val_main_v223 (F := Ideal) x0 x2 x3 (ix5 14 g h (0 : Fin 1) (0 : Fin 1)) = val_main_v221 (F := Ideal) x0 x2 x3 (ix5 (0 : Fin 1) g h (0 : Fin 1) (0 : Fin 1)) := by
  unfold val_main_v223
  refine concatenate_apply_piece _ _ _ _ 14 ?_ _ (val_main_v221 (F := Ideal) x0 x2 x3) ?_ ?_ 14 ?_ (ix5 (0 : Fin 1) g h (0 : Fin 1) (0 : Fin 1)) ?_ ?_
  · simp only [List.length_cons, List.length_nil]; decide
  · rfl
  · rfl
  · rfl
  · intro a ha; fin_cases a <;> first | rfl | exact absurd rfl ha
  · rfl

set_option maxHeartbeats 2000000 in
/-- Piece 15 of the stack `val_main_v223`. -/
theorem p_v223_15 (g : Fin 4) (h : Fin 8) : val_main_v223 (F := Ideal) x0 x2 x3 (ix5 15 g h (0 : Fin 1) (0 : Fin 1)) = val_main_v222 (F := Ideal) x0 x2 x3 (ix5 (0 : Fin 1) g h (0 : Fin 1) (0 : Fin 1)) := by
  unfold val_main_v223
  refine concatenate_apply_piece _ _ _ _ 15 ?_ _ (val_main_v222 (F := Ideal) x0 x2 x3) ?_ ?_ 15 ?_ (ix5 (0 : Fin 1) g h (0 : Fin 1) (0 : Fin 1)) ?_ ?_
  · simp only [List.length_cons, List.length_nil]; decide
  · rfl
  · rfl
  · rfl
  · intro a ha; fin_cases a <;> first | rfl | exact absurd rfl ha
  · rfl

/-- The decay over each of the sixteen chunks. -/
theorem r_v223 (c : Fin 16) (g : Fin 4) (h : Fin 8) : val_main_v223 (F := Ideal) x0 x2 x3 (ix5 c g h (0 : Fin 1) (0 : Fin 1)) = (pt x0 x1 x2 x3 x4 x5 x6 c g).e 127 h := by
  match c with
  | ⟨0, _⟩ => exact (p_v223_0 x0 x2 x3 g h).trans (r_v207 x0 x1 x2 x3 x4 x5 x6 g h)
  | ⟨1, _⟩ => exact (p_v223_1 x0 x2 x3 g h).trans (r_v208 x0 x1 x2 x3 x4 x5 x6 g h)
  | ⟨2, _⟩ => exact (p_v223_2 x0 x2 x3 g h).trans (r_v209 x0 x1 x2 x3 x4 x5 x6 g h)
  | ⟨3, _⟩ => exact (p_v223_3 x0 x2 x3 g h).trans (r_v210 x0 x1 x2 x3 x4 x5 x6 g h)
  | ⟨4, _⟩ => exact (p_v223_4 x0 x2 x3 g h).trans (r_v211 x0 x1 x2 x3 x4 x5 x6 g h)
  | ⟨5, _⟩ => exact (p_v223_5 x0 x2 x3 g h).trans (r_v212 x0 x1 x2 x3 x4 x5 x6 g h)
  | ⟨6, _⟩ => exact (p_v223_6 x0 x2 x3 g h).trans (r_v213 x0 x1 x2 x3 x4 x5 x6 g h)
  | ⟨7, _⟩ => exact (p_v223_7 x0 x2 x3 g h).trans (r_v214 x0 x1 x2 x3 x4 x5 x6 g h)
  | ⟨8, _⟩ => exact (p_v223_8 x0 x2 x3 g h).trans (r_v215 x0 x1 x2 x3 x4 x5 x6 g h)
  | ⟨9, _⟩ => exact (p_v223_9 x0 x2 x3 g h).trans (r_v216 x0 x1 x2 x3 x4 x5 x6 g h)
  | ⟨10, _⟩ => exact (p_v223_10 x0 x2 x3 g h).trans (r_v217 x0 x1 x2 x3 x4 x5 x6 g h)
  | ⟨11, _⟩ => exact (p_v223_11 x0 x2 x3 g h).trans (r_v218 x0 x1 x2 x3 x4 x5 x6 g h)
  | ⟨12, _⟩ => exact (p_v223_12 x0 x2 x3 g h).trans (r_v219 x0 x1 x2 x3 x4 x5 x6 g h)
  | ⟨13, _⟩ => exact (p_v223_13 x0 x2 x3 g h).trans (r_v220 x0 x1 x2 x3 x4 x5 x6 g h)
  | ⟨14, _⟩ => exact (p_v223_14 x0 x2 x3 g h).trans (r_v221 x0 x1 x2 x3 x4 x5 x6 g h)
  | ⟨15, _⟩ => exact (p_v223_15 x0 x2 x3 g h).trans (r_v222 x0 x1 x2 x3 x4 x5 x6 g h)
  | ⟨n + 16, hn⟩ => exact absurd hn (by omega)

/-- The same, as the backward recurrence reads it. -/
theorem r_v225 (c : Fin 16) (g : Fin 4) (h : Fin 8) : val_main_v225 (F := Ideal) x0 x2 x3 (ix5 c g h (0 : Fin 1) (0 : Fin 1)) = (pt x0 x1 x2 x3 x4 x5 x6 c g).e 127 h := by
  unfold val_main_v225
  refine (concatenate_apply_piece _ _ _ _ 1 ?_ _ (val_main_v223 (F := Ideal) x0 x2 x3) ?_ ?_ 0 ?_ (ix5 c g h (0 : Fin 1) (0 : Fin 1)) ?_ ?_).trans (r_v223 x0 x1 x2 x3 x4 x5 x6 c g h)
  · simp only [List.length_cons, List.length_nil]; decide
  · rfl
  · rfl
  · rfl
  · intro a ha; fin_cases a <;> first | rfl | exact absurd rfl ha
  · exact Nat.zero_add _

/-- The gradient of the last state is zero. -/
theorem r_v307 (g : Fin 4) (h : Fin 8) (p : Fin 64) (n : Fin 128) : val_main_v307 (F := Ideal) (ix4 g h p n) = DS (fun c => pt x0 x1 x2 x3 x4 x5 x6 c g) 0 n (col h p) := by
  simp only [val_main_v307_apply, val_main_cst_17_apply]
  exact zero_eq

/-- The state's gradient after 1 chunks from the end. -/
theorem r_v327 (g : Fin 4) (h : Fin 8) (p : Fin 64) (n : Fin 128) : val_main_v327 (F := Ideal) x0 x1 x2 x3 x4 x5 x6 (ix4 g h p n) = DS (fun c => pt x0 x1 x2 x3 x4 x5 x6 c g) 1 n (col h p) := by
  simp only [val_main_v327_apply, val_main_v317_apply, val_main_v316_apply, val_main_v308_apply, val_main_v326_apply, val_main_v325_apply, val_main_v319_apply, val_main_v318_apply, val_main_v310_apply]
  rw [show (idx_main_v308 (idx_main_v316 (idx_main_v317 (ix4 g h p n)))) = (ix5 15 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v306 x0 x1 x2 x3 x4 x5 x6 15 g h p n]
  rw [r_v307 x0 x1 x2 x3 x4 x5 x6 g h p n]
  rw [show (idx_main_v310 (idx_main_v318 (idx_main_v319 (idx_main_v325 (ix4 g h p n))))) = (ix5 15 g h (0 : Fin 1) (0 : Fin 1)) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v225 x0 x1 x2 x3 x4 x5 x6 15 g h]
  rw [show DS (fun c => pt x0 x1 x2 x3 x4 x5 x6 c g) 1 n (col h p) = (pt x0 x1 x2 x3 x4 x5 x6 15 g).ds (DS (fun c => pt x0 x1 x2 x3 x4 x5 x6 c g) 0) n (col h p) from rfl]
  unfold Pt.ds; rw [hd_col]; exact add_comm _ _

/-- The state's gradient after 2 chunks from the end. -/
theorem r_v340 (g : Fin 4) (h : Fin 8) (p : Fin 64) (n : Fin 128) : val_main_v340 (F := Ideal) x0 x1 x2 x3 x4 x5 x6 (ix4 g h p n) = DS (fun c => pt x0 x1 x2 x3 x4 x5 x6 c g) 2 n (col h p) := by
  simp only [val_main_v340_apply, val_main_v330_apply, val_main_v329_apply, val_main_v308_apply, val_main_v339_apply, val_main_v338_apply, val_main_v332_apply, val_main_v331_apply, val_main_v310_apply]
  rw [show (idx_main_v308 (idx_main_v329 (idx_main_v330 (ix4 g h p n)))) = (ix5 14 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v306 x0 x1 x2 x3 x4 x5 x6 14 g h p n]
  rw [r_v327 x0 x1 x2 x3 x4 x5 x6 g h p n]
  rw [show (idx_main_v310 (idx_main_v331 (idx_main_v332 (idx_main_v338 (ix4 g h p n))))) = (ix5 14 g h (0 : Fin 1) (0 : Fin 1)) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v225 x0 x1 x2 x3 x4 x5 x6 14 g h]
  rw [show DS (fun c => pt x0 x1 x2 x3 x4 x5 x6 c g) 2 n (col h p) = (pt x0 x1 x2 x3 x4 x5 x6 14 g).ds (DS (fun c => pt x0 x1 x2 x3 x4 x5 x6 c g) 1) n (col h p) from rfl]
  unfold Pt.ds; rw [hd_col]; exact add_comm _ _

/-- The state's gradient after 3 chunks from the end. -/
theorem r_v353 (g : Fin 4) (h : Fin 8) (p : Fin 64) (n : Fin 128) : val_main_v353 (F := Ideal) x0 x1 x2 x3 x4 x5 x6 (ix4 g h p n) = DS (fun c => pt x0 x1 x2 x3 x4 x5 x6 c g) 3 n (col h p) := by
  simp only [val_main_v353_apply, val_main_v343_apply, val_main_v342_apply, val_main_v308_apply, val_main_v352_apply, val_main_v351_apply, val_main_v345_apply, val_main_v344_apply, val_main_v310_apply]
  rw [show (idx_main_v308 (idx_main_v342 (idx_main_v343 (ix4 g h p n)))) = (ix5 13 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v306 x0 x1 x2 x3 x4 x5 x6 13 g h p n]
  rw [r_v340 x0 x1 x2 x3 x4 x5 x6 g h p n]
  rw [show (idx_main_v310 (idx_main_v344 (idx_main_v345 (idx_main_v351 (ix4 g h p n))))) = (ix5 13 g h (0 : Fin 1) (0 : Fin 1)) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v225 x0 x1 x2 x3 x4 x5 x6 13 g h]
  rw [show DS (fun c => pt x0 x1 x2 x3 x4 x5 x6 c g) 3 n (col h p) = (pt x0 x1 x2 x3 x4 x5 x6 13 g).ds (DS (fun c => pt x0 x1 x2 x3 x4 x5 x6 c g) 2) n (col h p) from rfl]
  unfold Pt.ds; rw [hd_col]; exact add_comm _ _

/-- The state's gradient after 4 chunks from the end. -/
theorem r_v366 (g : Fin 4) (h : Fin 8) (p : Fin 64) (n : Fin 128) : val_main_v366 (F := Ideal) x0 x1 x2 x3 x4 x5 x6 (ix4 g h p n) = DS (fun c => pt x0 x1 x2 x3 x4 x5 x6 c g) 4 n (col h p) := by
  simp only [val_main_v366_apply, val_main_v356_apply, val_main_v355_apply, val_main_v308_apply, val_main_v365_apply, val_main_v364_apply, val_main_v358_apply, val_main_v357_apply, val_main_v310_apply]
  rw [show (idx_main_v308 (idx_main_v355 (idx_main_v356 (ix4 g h p n)))) = (ix5 12 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v306 x0 x1 x2 x3 x4 x5 x6 12 g h p n]
  rw [r_v353 x0 x1 x2 x3 x4 x5 x6 g h p n]
  rw [show (idx_main_v310 (idx_main_v357 (idx_main_v358 (idx_main_v364 (ix4 g h p n))))) = (ix5 12 g h (0 : Fin 1) (0 : Fin 1)) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v225 x0 x1 x2 x3 x4 x5 x6 12 g h]
  rw [show DS (fun c => pt x0 x1 x2 x3 x4 x5 x6 c g) 4 n (col h p) = (pt x0 x1 x2 x3 x4 x5 x6 12 g).ds (DS (fun c => pt x0 x1 x2 x3 x4 x5 x6 c g) 3) n (col h p) from rfl]
  unfold Pt.ds; rw [hd_col]; exact add_comm _ _

/-- The state's gradient after 5 chunks from the end. -/
theorem r_v379 (g : Fin 4) (h : Fin 8) (p : Fin 64) (n : Fin 128) : val_main_v379 (F := Ideal) x0 x1 x2 x3 x4 x5 x6 (ix4 g h p n) = DS (fun c => pt x0 x1 x2 x3 x4 x5 x6 c g) 5 n (col h p) := by
  simp only [val_main_v379_apply, val_main_v369_apply, val_main_v368_apply, val_main_v308_apply, val_main_v378_apply, val_main_v377_apply, val_main_v371_apply, val_main_v370_apply, val_main_v310_apply]
  rw [show (idx_main_v308 (idx_main_v368 (idx_main_v369 (ix4 g h p n)))) = (ix5 11 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v306 x0 x1 x2 x3 x4 x5 x6 11 g h p n]
  rw [r_v366 x0 x1 x2 x3 x4 x5 x6 g h p n]
  rw [show (idx_main_v310 (idx_main_v370 (idx_main_v371 (idx_main_v377 (ix4 g h p n))))) = (ix5 11 g h (0 : Fin 1) (0 : Fin 1)) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v225 x0 x1 x2 x3 x4 x5 x6 11 g h]
  rw [show DS (fun c => pt x0 x1 x2 x3 x4 x5 x6 c g) 5 n (col h p) = (pt x0 x1 x2 x3 x4 x5 x6 11 g).ds (DS (fun c => pt x0 x1 x2 x3 x4 x5 x6 c g) 4) n (col h p) from rfl]
  unfold Pt.ds; rw [hd_col]; exact add_comm _ _

/-- The state's gradient after 6 chunks from the end. -/
theorem r_v392 (g : Fin 4) (h : Fin 8) (p : Fin 64) (n : Fin 128) : val_main_v392 (F := Ideal) x0 x1 x2 x3 x4 x5 x6 (ix4 g h p n) = DS (fun c => pt x0 x1 x2 x3 x4 x5 x6 c g) 6 n (col h p) := by
  simp only [val_main_v392_apply, val_main_v382_apply, val_main_v381_apply, val_main_v308_apply, val_main_v391_apply, val_main_v390_apply, val_main_v384_apply, val_main_v383_apply, val_main_v310_apply]
  rw [show (idx_main_v308 (idx_main_v381 (idx_main_v382 (ix4 g h p n)))) = (ix5 10 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v306 x0 x1 x2 x3 x4 x5 x6 10 g h p n]
  rw [r_v379 x0 x1 x2 x3 x4 x5 x6 g h p n]
  rw [show (idx_main_v310 (idx_main_v383 (idx_main_v384 (idx_main_v390 (ix4 g h p n))))) = (ix5 10 g h (0 : Fin 1) (0 : Fin 1)) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v225 x0 x1 x2 x3 x4 x5 x6 10 g h]
  rw [show DS (fun c => pt x0 x1 x2 x3 x4 x5 x6 c g) 6 n (col h p) = (pt x0 x1 x2 x3 x4 x5 x6 10 g).ds (DS (fun c => pt x0 x1 x2 x3 x4 x5 x6 c g) 5) n (col h p) from rfl]
  unfold Pt.ds; rw [hd_col]; exact add_comm _ _

/-- The state's gradient after 7 chunks from the end. -/
theorem r_v405 (g : Fin 4) (h : Fin 8) (p : Fin 64) (n : Fin 128) : val_main_v405 (F := Ideal) x0 x1 x2 x3 x4 x5 x6 (ix4 g h p n) = DS (fun c => pt x0 x1 x2 x3 x4 x5 x6 c g) 7 n (col h p) := by
  simp only [val_main_v405_apply, val_main_v395_apply, val_main_v394_apply, val_main_v308_apply, val_main_v404_apply, val_main_v403_apply, val_main_v397_apply, val_main_v396_apply, val_main_v310_apply]
  rw [show (idx_main_v308 (idx_main_v394 (idx_main_v395 (ix4 g h p n)))) = (ix5 9 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v306 x0 x1 x2 x3 x4 x5 x6 9 g h p n]
  rw [r_v392 x0 x1 x2 x3 x4 x5 x6 g h p n]
  rw [show (idx_main_v310 (idx_main_v396 (idx_main_v397 (idx_main_v403 (ix4 g h p n))))) = (ix5 9 g h (0 : Fin 1) (0 : Fin 1)) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v225 x0 x1 x2 x3 x4 x5 x6 9 g h]
  rw [show DS (fun c => pt x0 x1 x2 x3 x4 x5 x6 c g) 7 n (col h p) = (pt x0 x1 x2 x3 x4 x5 x6 9 g).ds (DS (fun c => pt x0 x1 x2 x3 x4 x5 x6 c g) 6) n (col h p) from rfl]
  unfold Pt.ds; rw [hd_col]; exact add_comm _ _

/-- The state's gradient after 8 chunks from the end. -/
theorem r_v418 (g : Fin 4) (h : Fin 8) (p : Fin 64) (n : Fin 128) : val_main_v418 (F := Ideal) x0 x1 x2 x3 x4 x5 x6 (ix4 g h p n) = DS (fun c => pt x0 x1 x2 x3 x4 x5 x6 c g) 8 n (col h p) := by
  simp only [val_main_v418_apply, val_main_v408_apply, val_main_v407_apply, val_main_v308_apply, val_main_v417_apply, val_main_v416_apply, val_main_v410_apply, val_main_v409_apply, val_main_v310_apply]
  rw [show (idx_main_v308 (idx_main_v407 (idx_main_v408 (ix4 g h p n)))) = (ix5 8 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v306 x0 x1 x2 x3 x4 x5 x6 8 g h p n]
  rw [r_v405 x0 x1 x2 x3 x4 x5 x6 g h p n]
  rw [show (idx_main_v310 (idx_main_v409 (idx_main_v410 (idx_main_v416 (ix4 g h p n))))) = (ix5 8 g h (0 : Fin 1) (0 : Fin 1)) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v225 x0 x1 x2 x3 x4 x5 x6 8 g h]
  rw [show DS (fun c => pt x0 x1 x2 x3 x4 x5 x6 c g) 8 n (col h p) = (pt x0 x1 x2 x3 x4 x5 x6 8 g).ds (DS (fun c => pt x0 x1 x2 x3 x4 x5 x6 c g) 7) n (col h p) from rfl]
  unfold Pt.ds; rw [hd_col]; exact add_comm _ _

/-- The state's gradient after 9 chunks from the end. -/
theorem r_v431 (g : Fin 4) (h : Fin 8) (p : Fin 64) (n : Fin 128) : val_main_v431 (F := Ideal) x0 x1 x2 x3 x4 x5 x6 (ix4 g h p n) = DS (fun c => pt x0 x1 x2 x3 x4 x5 x6 c g) 9 n (col h p) := by
  simp only [val_main_v431_apply, val_main_v421_apply, val_main_v420_apply, val_main_v308_apply, val_main_v430_apply, val_main_v429_apply, val_main_v423_apply, val_main_v422_apply, val_main_v310_apply]
  rw [show (idx_main_v308 (idx_main_v420 (idx_main_v421 (ix4 g h p n)))) = (ix5 7 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v306 x0 x1 x2 x3 x4 x5 x6 7 g h p n]
  rw [r_v418 x0 x1 x2 x3 x4 x5 x6 g h p n]
  rw [show (idx_main_v310 (idx_main_v422 (idx_main_v423 (idx_main_v429 (ix4 g h p n))))) = (ix5 7 g h (0 : Fin 1) (0 : Fin 1)) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v225 x0 x1 x2 x3 x4 x5 x6 7 g h]
  rw [show DS (fun c => pt x0 x1 x2 x3 x4 x5 x6 c g) 9 n (col h p) = (pt x0 x1 x2 x3 x4 x5 x6 7 g).ds (DS (fun c => pt x0 x1 x2 x3 x4 x5 x6 c g) 8) n (col h p) from rfl]
  unfold Pt.ds; rw [hd_col]; exact add_comm _ _

/-- The state's gradient after 10 chunks from the end. -/
theorem r_v444 (g : Fin 4) (h : Fin 8) (p : Fin 64) (n : Fin 128) : val_main_v444 (F := Ideal) x0 x1 x2 x3 x4 x5 x6 (ix4 g h p n) = DS (fun c => pt x0 x1 x2 x3 x4 x5 x6 c g) 10 n (col h p) := by
  simp only [val_main_v444_apply, val_main_v434_apply, val_main_v433_apply, val_main_v308_apply, val_main_v443_apply, val_main_v442_apply, val_main_v436_apply, val_main_v435_apply, val_main_v310_apply]
  rw [show (idx_main_v308 (idx_main_v433 (idx_main_v434 (ix4 g h p n)))) = (ix5 6 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v306 x0 x1 x2 x3 x4 x5 x6 6 g h p n]
  rw [r_v431 x0 x1 x2 x3 x4 x5 x6 g h p n]
  rw [show (idx_main_v310 (idx_main_v435 (idx_main_v436 (idx_main_v442 (ix4 g h p n))))) = (ix5 6 g h (0 : Fin 1) (0 : Fin 1)) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v225 x0 x1 x2 x3 x4 x5 x6 6 g h]
  rw [show DS (fun c => pt x0 x1 x2 x3 x4 x5 x6 c g) 10 n (col h p) = (pt x0 x1 x2 x3 x4 x5 x6 6 g).ds (DS (fun c => pt x0 x1 x2 x3 x4 x5 x6 c g) 9) n (col h p) from rfl]
  unfold Pt.ds; rw [hd_col]; exact add_comm _ _

/-- The state's gradient after 11 chunks from the end. -/
theorem r_v457 (g : Fin 4) (h : Fin 8) (p : Fin 64) (n : Fin 128) : val_main_v457 (F := Ideal) x0 x1 x2 x3 x4 x5 x6 (ix4 g h p n) = DS (fun c => pt x0 x1 x2 x3 x4 x5 x6 c g) 11 n (col h p) := by
  simp only [val_main_v457_apply, val_main_v447_apply, val_main_v446_apply, val_main_v308_apply, val_main_v456_apply, val_main_v455_apply, val_main_v449_apply, val_main_v448_apply, val_main_v310_apply]
  rw [show (idx_main_v308 (idx_main_v446 (idx_main_v447 (ix4 g h p n)))) = (ix5 5 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v306 x0 x1 x2 x3 x4 x5 x6 5 g h p n]
  rw [r_v444 x0 x1 x2 x3 x4 x5 x6 g h p n]
  rw [show (idx_main_v310 (idx_main_v448 (idx_main_v449 (idx_main_v455 (ix4 g h p n))))) = (ix5 5 g h (0 : Fin 1) (0 : Fin 1)) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v225 x0 x1 x2 x3 x4 x5 x6 5 g h]
  rw [show DS (fun c => pt x0 x1 x2 x3 x4 x5 x6 c g) 11 n (col h p) = (pt x0 x1 x2 x3 x4 x5 x6 5 g).ds (DS (fun c => pt x0 x1 x2 x3 x4 x5 x6 c g) 10) n (col h p) from rfl]
  unfold Pt.ds; rw [hd_col]; exact add_comm _ _

/-- The state's gradient after 12 chunks from the end. -/
theorem r_v470 (g : Fin 4) (h : Fin 8) (p : Fin 64) (n : Fin 128) : val_main_v470 (F := Ideal) x0 x1 x2 x3 x4 x5 x6 (ix4 g h p n) = DS (fun c => pt x0 x1 x2 x3 x4 x5 x6 c g) 12 n (col h p) := by
  simp only [val_main_v470_apply, val_main_v460_apply, val_main_v459_apply, val_main_v308_apply, val_main_v469_apply, val_main_v468_apply, val_main_v462_apply, val_main_v461_apply, val_main_v310_apply]
  rw [show (idx_main_v308 (idx_main_v459 (idx_main_v460 (ix4 g h p n)))) = (ix5 4 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v306 x0 x1 x2 x3 x4 x5 x6 4 g h p n]
  rw [r_v457 x0 x1 x2 x3 x4 x5 x6 g h p n]
  rw [show (idx_main_v310 (idx_main_v461 (idx_main_v462 (idx_main_v468 (ix4 g h p n))))) = (ix5 4 g h (0 : Fin 1) (0 : Fin 1)) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v225 x0 x1 x2 x3 x4 x5 x6 4 g h]
  rw [show DS (fun c => pt x0 x1 x2 x3 x4 x5 x6 c g) 12 n (col h p) = (pt x0 x1 x2 x3 x4 x5 x6 4 g).ds (DS (fun c => pt x0 x1 x2 x3 x4 x5 x6 c g) 11) n (col h p) from rfl]
  unfold Pt.ds; rw [hd_col]; exact add_comm _ _

/-- The state's gradient after 13 chunks from the end. -/
theorem r_v483 (g : Fin 4) (h : Fin 8) (p : Fin 64) (n : Fin 128) : val_main_v483 (F := Ideal) x0 x1 x2 x3 x4 x5 x6 (ix4 g h p n) = DS (fun c => pt x0 x1 x2 x3 x4 x5 x6 c g) 13 n (col h p) := by
  simp only [val_main_v483_apply, val_main_v473_apply, val_main_v472_apply, val_main_v308_apply, val_main_v482_apply, val_main_v481_apply, val_main_v475_apply, val_main_v474_apply, val_main_v310_apply]
  rw [show (idx_main_v308 (idx_main_v472 (idx_main_v473 (ix4 g h p n)))) = (ix5 3 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v306 x0 x1 x2 x3 x4 x5 x6 3 g h p n]
  rw [r_v470 x0 x1 x2 x3 x4 x5 x6 g h p n]
  rw [show (idx_main_v310 (idx_main_v474 (idx_main_v475 (idx_main_v481 (ix4 g h p n))))) = (ix5 3 g h (0 : Fin 1) (0 : Fin 1)) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v225 x0 x1 x2 x3 x4 x5 x6 3 g h]
  rw [show DS (fun c => pt x0 x1 x2 x3 x4 x5 x6 c g) 13 n (col h p) = (pt x0 x1 x2 x3 x4 x5 x6 3 g).ds (DS (fun c => pt x0 x1 x2 x3 x4 x5 x6 c g) 12) n (col h p) from rfl]
  unfold Pt.ds; rw [hd_col]; exact add_comm _ _

/-- The state's gradient after 14 chunks from the end. -/
theorem r_v496 (g : Fin 4) (h : Fin 8) (p : Fin 64) (n : Fin 128) : val_main_v496 (F := Ideal) x0 x1 x2 x3 x4 x5 x6 (ix4 g h p n) = DS (fun c => pt x0 x1 x2 x3 x4 x5 x6 c g) 14 n (col h p) := by
  simp only [val_main_v496_apply, val_main_v486_apply, val_main_v485_apply, val_main_v308_apply, val_main_v495_apply, val_main_v494_apply, val_main_v488_apply, val_main_v487_apply, val_main_v310_apply]
  rw [show (idx_main_v308 (idx_main_v485 (idx_main_v486 (ix4 g h p n)))) = (ix5 2 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v306 x0 x1 x2 x3 x4 x5 x6 2 g h p n]
  rw [r_v483 x0 x1 x2 x3 x4 x5 x6 g h p n]
  rw [show (idx_main_v310 (idx_main_v487 (idx_main_v488 (idx_main_v494 (ix4 g h p n))))) = (ix5 2 g h (0 : Fin 1) (0 : Fin 1)) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v225 x0 x1 x2 x3 x4 x5 x6 2 g h]
  rw [show DS (fun c => pt x0 x1 x2 x3 x4 x5 x6 c g) 14 n (col h p) = (pt x0 x1 x2 x3 x4 x5 x6 2 g).ds (DS (fun c => pt x0 x1 x2 x3 x4 x5 x6 c g) 13) n (col h p) from rfl]
  unfold Pt.ds; rw [hd_col]; exact add_comm _ _

/-- The state's gradient after 15 chunks from the end. -/
theorem r_v509 (g : Fin 4) (h : Fin 8) (p : Fin 64) (n : Fin 128) : val_main_v509 (F := Ideal) x0 x1 x2 x3 x4 x5 x6 (ix4 g h p n) = DS (fun c => pt x0 x1 x2 x3 x4 x5 x6 c g) 15 n (col h p) := by
  simp only [val_main_v509_apply, val_main_v499_apply, val_main_v498_apply, val_main_v308_apply, val_main_v508_apply, val_main_v507_apply, val_main_v501_apply, val_main_v500_apply, val_main_v310_apply]
  rw [show (idx_main_v308 (idx_main_v498 (idx_main_v499 (ix4 g h p n)))) = (ix5 1 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v306 x0 x1 x2 x3 x4 x5 x6 1 g h p n]
  rw [r_v496 x0 x1 x2 x3 x4 x5 x6 g h p n]
  rw [show (idx_main_v310 (idx_main_v500 (idx_main_v501 (idx_main_v507 (ix4 g h p n))))) = (ix5 1 g h (0 : Fin 1) (0 : Fin 1)) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v225 x0 x1 x2 x3 x4 x5 x6 1 g h]
  rw [show DS (fun c => pt x0 x1 x2 x3 x4 x5 x6 c g) 15 n (col h p) = (pt x0 x1 x2 x3 x4 x5 x6 1 g).ds (DS (fun c => pt x0 x1 x2 x3 x4 x5 x6 c g) 14) n (col h p) from rfl]
  unfold Pt.ds; rw [hd_col]; exact add_comm _ _

end Cert.RefRead
-- ==== Proof.RefOut.lean ====
module

public import proofs.«01_k».proof.Proof.Gen.ReferenceIdeal.Read
public import Idealize.ShloMosaic.Lib.TwoAxisContraction
public import Idealize.ShloMosaic.Lib.KernelVsHost
public import Idealize.ShloMosaic.Lib.WordCmp
public import proofs.«01_k».proof.Proof.RefRead
public import proofs.«01_k».proof.Proof.Algebra

@[expose] public section

noncomputable section

/-! The reference, read one operation at a time: each stage of it at an index is the formula of one chunk of one group. -/

namespace Cert.RefRead

open scoped BigOperators
open Idealize.ShloMosaic Idealize.ShloMosaic.ValueIdx Cert.Ssd Cert.ReferenceIdeal Cert.ReferenceIdeal.Read

variable (x0 : (⟨S2048x5152, .f32⟩ : BufTy).Contents (Elt Ideal)) (x1 : (⟨S2048x3072, .f32⟩ : BufTy).Contents (Elt Ideal)) (x2 x3 x4 : (⟨S32, .f32⟩ : BufTy).Contents (Elt Ideal)) (x5 : (⟨S2048, .f32⟩ : BufTy).Contents (Elt Ideal)) (x6 : (⟨S2048x2048, .f32⟩ : BufTy).Contents (Elt Ideal))

/-- The state's gradient after 15 chunks from the end, as a piece of the stack. -/
theorem r_v524 (g : Fin 4) (h : Fin 8) (p : Fin 64) (n : Fin 128) : val_main_v524 (F := Ideal) x0 x1 x2 x3 x4 x5 x6 (ix5 (0 : Fin 1) g h p n) = DS (fun c => pt x0 x1 x2 x3 x4 x5 x6 c g) 15 n (col h p) := by
  simp only [val_main_v524_apply]
  rw [show (idx_main_v524 (ix5 (0 : Fin 1) g h p n)) = (ix4 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v509 x0 x1 x2 x3 x4 x5 x6 g h p n]
  first | done | rfl

/-- The state's gradient after 14 chunks from the end, as a piece of the stack. -/
theorem r_v525 (g : Fin 4) (h : Fin 8) (p : Fin 64) (n : Fin 128) : val_main_v525 (F := Ideal) x0 x1 x2 x3 x4 x5 x6 (ix5 (0 : Fin 1) g h p n) = DS (fun c => pt x0 x1 x2 x3 x4 x5 x6 c g) 14 n (col h p) := by
  simp only [val_main_v525_apply]
  rw [show (idx_main_v525 (ix5 (0 : Fin 1) g h p n)) = (ix4 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v496 x0 x1 x2 x3 x4 x5 x6 g h p n]
  first | done | rfl

/-- The state's gradient after 13 chunks from the end, as a piece of the stack. -/
theorem r_v526 (g : Fin 4) (h : Fin 8) (p : Fin 64) (n : Fin 128) : val_main_v526 (F := Ideal) x0 x1 x2 x3 x4 x5 x6 (ix5 (0 : Fin 1) g h p n) = DS (fun c => pt x0 x1 x2 x3 x4 x5 x6 c g) 13 n (col h p) := by
  simp only [val_main_v526_apply]
  rw [show (idx_main_v526 (ix5 (0 : Fin 1) g h p n)) = (ix4 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v483 x0 x1 x2 x3 x4 x5 x6 g h p n]
  first | done | rfl

/-- The state's gradient after 12 chunks from the end, as a piece of the stack. -/
theorem r_v527 (g : Fin 4) (h : Fin 8) (p : Fin 64) (n : Fin 128) : val_main_v527 (F := Ideal) x0 x1 x2 x3 x4 x5 x6 (ix5 (0 : Fin 1) g h p n) = DS (fun c => pt x0 x1 x2 x3 x4 x5 x6 c g) 12 n (col h p) := by
  simp only [val_main_v527_apply]
  rw [show (idx_main_v527 (ix5 (0 : Fin 1) g h p n)) = (ix4 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v470 x0 x1 x2 x3 x4 x5 x6 g h p n]
  first | done | rfl

/-- The state's gradient after 11 chunks from the end, as a piece of the stack. -/
theorem r_v528 (g : Fin 4) (h : Fin 8) (p : Fin 64) (n : Fin 128) : val_main_v528 (F := Ideal) x0 x1 x2 x3 x4 x5 x6 (ix5 (0 : Fin 1) g h p n) = DS (fun c => pt x0 x1 x2 x3 x4 x5 x6 c g) 11 n (col h p) := by
  simp only [val_main_v528_apply]
  rw [show (idx_main_v528 (ix5 (0 : Fin 1) g h p n)) = (ix4 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v457 x0 x1 x2 x3 x4 x5 x6 g h p n]
  first | done | rfl

/-- The state's gradient after 10 chunks from the end, as a piece of the stack. -/
theorem r_v529 (g : Fin 4) (h : Fin 8) (p : Fin 64) (n : Fin 128) : val_main_v529 (F := Ideal) x0 x1 x2 x3 x4 x5 x6 (ix5 (0 : Fin 1) g h p n) = DS (fun c => pt x0 x1 x2 x3 x4 x5 x6 c g) 10 n (col h p) := by
  simp only [val_main_v529_apply]
  rw [show (idx_main_v529 (ix5 (0 : Fin 1) g h p n)) = (ix4 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v444 x0 x1 x2 x3 x4 x5 x6 g h p n]
  first | done | rfl

/-- The state's gradient after 9 chunks from the end, as a piece of the stack. -/
theorem r_v530 (g : Fin 4) (h : Fin 8) (p : Fin 64) (n : Fin 128) : val_main_v530 (F := Ideal) x0 x1 x2 x3 x4 x5 x6 (ix5 (0 : Fin 1) g h p n) = DS (fun c => pt x0 x1 x2 x3 x4 x5 x6 c g) 9 n (col h p) := by
  simp only [val_main_v530_apply]
  rw [show (idx_main_v530 (ix5 (0 : Fin 1) g h p n)) = (ix4 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v431 x0 x1 x2 x3 x4 x5 x6 g h p n]
  first | done | rfl

/-- The state's gradient after 8 chunks from the end, as a piece of the stack. -/
theorem r_v531 (g : Fin 4) (h : Fin 8) (p : Fin 64) (n : Fin 128) : val_main_v531 (F := Ideal) x0 x1 x2 x3 x4 x5 x6 (ix5 (0 : Fin 1) g h p n) = DS (fun c => pt x0 x1 x2 x3 x4 x5 x6 c g) 8 n (col h p) := by
  simp only [val_main_v531_apply]
  rw [show (idx_main_v531 (ix5 (0 : Fin 1) g h p n)) = (ix4 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v418 x0 x1 x2 x3 x4 x5 x6 g h p n]
  first | done | rfl

/-- The state's gradient after 7 chunks from the end, as a piece of the stack. -/
theorem r_v532 (g : Fin 4) (h : Fin 8) (p : Fin 64) (n : Fin 128) : val_main_v532 (F := Ideal) x0 x1 x2 x3 x4 x5 x6 (ix5 (0 : Fin 1) g h p n) = DS (fun c => pt x0 x1 x2 x3 x4 x5 x6 c g) 7 n (col h p) := by
  simp only [val_main_v532_apply]
  rw [show (idx_main_v532 (ix5 (0 : Fin 1) g h p n)) = (ix4 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v405 x0 x1 x2 x3 x4 x5 x6 g h p n]
  first | done | rfl

/-- The state's gradient after 6 chunks from the end, as a piece of the stack. -/
theorem r_v533 (g : Fin 4) (h : Fin 8) (p : Fin 64) (n : Fin 128) : val_main_v533 (F := Ideal) x0 x1 x2 x3 x4 x5 x6 (ix5 (0 : Fin 1) g h p n) = DS (fun c => pt x0 x1 x2 x3 x4 x5 x6 c g) 6 n (col h p) := by
  simp only [val_main_v533_apply]
  rw [show (idx_main_v533 (ix5 (0 : Fin 1) g h p n)) = (ix4 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v392 x0 x1 x2 x3 x4 x5 x6 g h p n]
  first | done | rfl

/-- The state's gradient after 5 chunks from the end, as a piece of the stack. -/
theorem r_v534 (g : Fin 4) (h : Fin 8) (p : Fin 64) (n : Fin 128) : val_main_v534 (F := Ideal) x0 x1 x2 x3 x4 x5 x6 (ix5 (0 : Fin 1) g h p n) = DS (fun c => pt x0 x1 x2 x3 x4 x5 x6 c g) 5 n (col h p) := by
  simp only [val_main_v534_apply]
  rw [show (idx_main_v534 (ix5 (0 : Fin 1) g h p n)) = (ix4 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v379 x0 x1 x2 x3 x4 x5 x6 g h p n]
  first | done | rfl

/-- The state's gradient after 4 chunks from the end, as a piece of the stack. -/
theorem r_v535 (g : Fin 4) (h : Fin 8) (p : Fin 64) (n : Fin 128) : val_main_v535 (F := Ideal) x0 x1 x2 x3 x4 x5 x6 (ix5 (0 : Fin 1) g h p n) = DS (fun c => pt x0 x1 x2 x3 x4 x5 x6 c g) 4 n (col h p) := by
  simp only [val_main_v535_apply]
  rw [show (idx_main_v535 (ix5 (0 : Fin 1) g h p n)) = (ix4 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v366 x0 x1 x2 x3 x4 x5 x6 g h p n]
  first | done | rfl

/-- The state's gradient after 3 chunks from the end, as a piece of the stack. -/
theorem r_v536 (g : Fin 4) (h : Fin 8) (p : Fin 64) (n : Fin 128) : val_main_v536 (F := Ideal) x0 x1 x2 x3 x4 x5 x6 (ix5 (0 : Fin 1) g h p n) = DS (fun c => pt x0 x1 x2 x3 x4 x5 x6 c g) 3 n (col h p) := by
  simp only [val_main_v536_apply]
  rw [show (idx_main_v536 (ix5 (0 : Fin 1) g h p n)) = (ix4 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v353 x0 x1 x2 x3 x4 x5 x6 g h p n]
  first | done | rfl

/-- The state's gradient after 2 chunks from the end, as a piece of the stack. -/
theorem r_v537 (g : Fin 4) (h : Fin 8) (p : Fin 64) (n : Fin 128) : val_main_v537 (F := Ideal) x0 x1 x2 x3 x4 x5 x6 (ix5 (0 : Fin 1) g h p n) = DS (fun c => pt x0 x1 x2 x3 x4 x5 x6 c g) 2 n (col h p) := by
  simp only [val_main_v537_apply]
  rw [show (idx_main_v537 (ix5 (0 : Fin 1) g h p n)) = (ix4 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v340 x0 x1 x2 x3 x4 x5 x6 g h p n]
  first | done | rfl

/-- The state's gradient after 1 chunks from the end, as a piece of the stack. -/
theorem r_v538 (g : Fin 4) (h : Fin 8) (p : Fin 64) (n : Fin 128) : val_main_v538 (F := Ideal) x0 x1 x2 x3 x4 x5 x6 (ix5 (0 : Fin 1) g h p n) = DS (fun c => pt x0 x1 x2 x3 x4 x5 x6 c g) 1 n (col h p) := by
  simp only [val_main_v538_apply]
  rw [show (idx_main_v538 (ix5 (0 : Fin 1) g h p n)) = (ix4 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v327 x0 x1 x2 x3 x4 x5 x6 g h p n]
  first | done | rfl

/-- The state's gradient after 0 chunks from the end, as a piece of the stack. -/
theorem r_v539 (g : Fin 4) (h : Fin 8) (p : Fin 64) (n : Fin 128) : val_main_v539 (F := Ideal) (ix5 (0 : Fin 1) g h p n) = DS (fun c => pt x0 x1 x2 x3 x4 x5 x6 c g) 0 n (col h p) := by
  simp only [val_main_v539_apply]
  rw [show (idx_main_v539 (ix5 (0 : Fin 1) g h p n)) = (ix4 g h p n) from by funext a; apply Fin.ext; have hg := g.isLt; have hh := h.isLt; have hp := p.isLt; have hn := n.isLt; fin_cases a <;> (try simp [row, gc, gh, col, xc, bc, cc, zc, hd, ch]) <;> (try dsimp only [ix1, ix2, ix3, ix4, ix5]) <;> (try omega)]
  rw [r_v307 x0 x1 x2 x3 x4 x5 x6 g h p n]
  first | done | rfl

set_option maxHeartbeats 2000000 in
/-- Piece 0 of the stack `val_main_v540`. -/
theorem p_v540_0 (g : Fin 4) (h : Fin 8) (p : Fin 64) (n : Fin 128) : val_main_v540 (F := Ideal) x0 x1 x2 x3 x4 x5 x6 (ix5 0 g h p n) = val_main_v524 (F := Ideal) x0 x1 x2 x3 x4 x5 x6 (ix5 (0 : Fin 1) g h p n) := by
  unfold val_main_v540
  refine concatenate_apply_piece _ _ _ _ 0 ?_ _ (val_main_v524 (F := Ideal) x0 x1 x2 x3 x4 x5 x6) ?_ ?_ 0 ?_ (ix5 (0 : Fin 1) g h p n) ?_ ?_
  · simp only [List.length_cons, List.length_nil]; decide
  · rfl
  · rfl
  · rfl
  · intro a ha; fin_cases a <;> first | rfl | exact absurd rfl ha
  · rfl

set_option maxHeartbeats 2000000 in
/-- Piece 1 of the stack `val_main_v540`. -/
theorem p_v540_1 (g : Fin 4) (h : Fin 8) (p : Fin 64) (n : Fin 128) : val_main_v540 (F := Ideal) x0 x1 x2 x3 x4 x5 x6 (ix5 1 g h p n) = val_main_v525 (F := Ideal) x0 x1 x2 x3 x4 x5 x6 (ix5 (0 : Fin 1) g h p n) := by
  unfold val_main_v540
  refine concatenate_apply_piece _ _ _ _ 1 ?_ _ (val_main_v525 (F := Ideal) x0 x1 x2 x3 x4 x5 x6) ?_ ?_ 1 ?_ (ix5 (0 : Fin 1) g h p n) ?_ ?_
  · simp only [List.length_cons, List.length_nil]; decide
  · rfl
  · rfl
  · rfl
  · intro a ha; fin_cases a <;> first | rfl | exact absurd rfl ha
  · rfl

set_option maxHeartbeats 2000000 in
/-- Piece 2 of the stack `val_main_v540`. -/
theorem p_v540_2 (g : Fin 4) (h : Fin 8) (p : Fin 64) (n : Fin 128) : val_main_v540 (F := Ideal) x0 x1 x2 x3 x4 x5 x6 (ix5 2 g h p n) = val_main_v526 (F := Ideal) x0 x1 x2 x3 x4 x5 x6 (ix5 (0 : Fin 1) g h p n) := by
  unfold val_main_v540
  refine concatenate_apply_piece _ _ _ _ 2 ?_ _ (val_main_v526 (F := Ideal) x0 x1 x2 x3 x4 x5 x6) ?_ ?_ 2 ?_ (ix5 (0 : Fin 1) g h p n) ?_ ?_
  · simp only [List.length_cons, List.length_nil]; decide
  · rfl
  · rfl
  · rfl
  · intro a ha; fin_cases a <;> first | rfl | exact absurd rfl ha
  · rfl

set_option maxHeartbeats 2000000 in
/-- Piece 3 of the stack `val_main_v540`. -/
theorem p_v540_3 (g : Fin 4) (h : Fin 8) (p : Fin 64) (n : Fin 128) : val_main_v540 (F := Ideal) x0 x1 x2 x3 x4 x5 x6 (ix5 3 g h p n) = val_main_v527 (F := Ideal) x0 x1 x2 x3 x4 x5 x6 (ix5 (0 : Fin 1) g h p n) := by
  unfold val_main_v540
  refine concatenate_apply_piece _ _ _ _ 3 ?_ _ (val_main_v527 (F := Ideal) x0 x1 x2 x3 x4 x5 x6) ?_ ?_ 3 ?_ (ix5 (0 : Fin 1) g h p n) ?_ ?_
  · simp only [List.length_cons, List.length_nil]; decide
  · rfl
  · rfl
  · rfl
  · intro a ha; fin_cases a <;> first | rfl | exact absurd rfl ha
  · rfl

set_option maxHeartbeats 2000000 in
/-- Piece 4 of the stack `val_main_v540`. -/
theorem p_v540_4 (g : Fin 4) (h : Fin 8) (p : Fin 64) (n : Fin 128) : val_main_v540 (F := Ideal) x0 x1 x2 x3 x4 x5 x6 (ix5 4 g h p n) = val_main_v528 (F := Ideal) x0 x1 x2 x3 x4 x5 x6 (ix5 (0 : Fin 1) g h p n) := by
  unfold val_main_v540
  refine concatenate_apply_piece _ _ _ _ 4 ?_ _ (val_main_v528 (F := Ideal) x0 x1 x2 x3 x4 x5 x6) ?_ ?_ 4 ?_ (ix5 (0 : Fin 1) g h p n) ?_ ?_
  · simp only [List.length_cons, List.length_nil]; decide
  · rfl
  · rfl
  · rfl
  · intro a ha; fin_cases a <;> first | rfl | exact absurd rfl ha
  · rfl

set_option maxHeartbeats 2000000 in
/-- Piece 5 of the stack `val_main_v540`. -/
theorem p_v540_5 (g : Fin 4) (h : Fin 8) (p : Fin 64) (n : Fin 128) : val_main_v540 (F := Ideal) x0 x1 x2 x3 x4 x5 x6 (ix5 5 g h p n) = val_main_v529 (F := Ideal) x0 x1 x2 x3 x4 x5 x6 (ix5 (0 : Fin 1) g h p n) := by
  unfold val_main_v540
  refine concatenate_apply_piece _ _ _ _ 5 ?_ _ (val_main_v529 (F := Ideal) x0 x1 x2 x3 x4 x5 x6) ?_ ?_ 5 ?_ (ix5 (0 : Fin 1) g h p n) ?_ ?_
  · simp only [List.length_cons, List.length_nil]; decide
  · rfl
  · rfl
  · rfl
  · intro a ha; fin_cases a <;> first | rfl | exact absurd rfl ha
  · rfl

set_option maxHeartbeats 2000000 in
/-- Piece 6 of the stack `val_main_v540`. -/
theorem p_v540_6 (g : Fin 4) (h : Fin 8) (p : Fin 64) (n : Fin 128) : val_main_v540 (F := Ideal) x0 x1 x2 x3 x4 x5 x6 (ix5 6 g h p n) = val_main_v530 (F := Ideal) x0 x1 x2 x3 x4 x5 x6 (ix5 (0 : Fin 1) g h p n) := by
  unfold val_main_v540
  refine concatenate_apply_piece _ _ _ _ 6 ?_ _ (val_main_v530 (F := Ideal) x0 x1 x2 x3 x4 x5 x6) ?_ ?_ 6 ?_ (ix5 (0 : Fin 1) g h p n) ?_ ?_
  · simp only [List.length_cons, List.length_nil]; decide
  · rfl
  · rfl
  · rfl
  · intro a ha; fin_cases a <;> first | rfl | exact absurd rfl ha
  · rfl

set_option maxHeartbeats 2000000 in
/-- Piece 7 of the stack `val_main_v540`. -/
theorem p_v540_7 (g : Fin 4) (h : Fin 8) (p : Fin 64) (n : Fin 128) : val_main_v540 (F := Ideal) x0 x1 x2 x3 x4 x5 x6 (ix5 7 g h p n) = val_main_v531 (F := Ideal) x0 x1 x2 x3 x4 x5 x6 (ix5 (0 : Fin 1) g h p n) := by
  unfold val_main_v540
  refine concatenate_apply_piece _ _ _ _ 7 ?_ _ (val_main_v531 (F := Ideal) x0 x1 x2 x3 x4 x5 x6) ?_ ?_ 7 ?_ (ix5 (0 : Fin 1) g h p n) ?_ ?_
  · simp only [List.length_cons, List.length_nil]; decide
  · rfl
  · rfl
  · rfl
  · intro a ha; fin_cases a <;> first | rfl | exact absurd rfl ha
  · rfl

set_option maxHeartbeats 2000000 in
/-- Piece 8 of the stack `val_main_v540`. -/
theorem p_v540_8 (g : Fin 4) (h : Fin 8) (p : Fin 64) (n : Fin 128) : val_main_v540 (F := Ideal) x0 x1 x2 x3 x4 x5 x6 (ix5 8 g h p n) = val_main_v532 (F := Ideal) x0 x1 x2 x3 x4 x5 x6 (ix5 (0 : Fin 1) g h p n) := by
  unfold val_main_v540
  refine concatenate_apply_piece _ _ _ _ 8 ?_ _ (val_main_v532 (F := Ideal) x0 x1 x2 x3 x4 x5 x6) ?_ ?_ 8 ?_ (ix5 (0 : Fin 1) g h p n) ?_ ?_
  · simp only [List.length_cons, List.length_nil]; decide
  · rfl
  · rfl
  · rfl
  · intro a ha; fin_cases a <;> first | rfl | exact absurd rfl ha
  · rfl

set_option maxHeartbeats 2000000 in
/-- Piece 9 of the stack `val_main_v540`. -/
theorem p_v540_9 (g : Fin 4) (h : Fin 8) (p : Fin 64) (n : Fin 128) : val_main_v540 (F := Ideal) x0 x1 x2 x3 x4 x5 x6 (ix5 9 g h p n) = val_main_v533 (F := Ideal) x0 x1 x2 x3 x4 x5 x6 (ix5 (0 : Fin 1) g h p n) := by
  unfold val_main_v540
  refine concatenate_apply_piece _ _ _ _ 9 ?_ _ (val_main_v533 (F := Ideal) x0 x1 x2 x3 x4 x5 x6) ?_ ?_ 9 ?_ (ix5 (0 : Fin 1) g h p n) ?_ ?_
  · simp only [List.length_cons, List.length_nil]; decide
  · rfl
  · rfl
  · rfl
  · intro a ha; fin_cases a <;> first | rfl | exact absurd rfl ha
  · rfl

set_option maxHeartbeats 2000000 in
/-- Piece 10 of the stack `val_main_v540`. -/
theorem p_v540_10 (g : Fin 4) (h : Fin 8) (p : Fin 64) (n : Fin 128) : val_main_v540 (F := Ideal) x0 x1 x2 x3 x4 x5 x6 (ix5 10 g h p n) = val_main_v534 (F := Ideal) x0 x1 x2 x3 x4 x5 x6 (ix5 (0 : Fin 1) g h p n) := by
  unfold val_main_v540
  refine concatenate_apply_piece _ _ _ _ 10 ?_ _ (val_main_v534 (F := Ideal) x0 x1 x2 x3 x4 x5 x6) ?_ ?_ 10 ?_ (ix5 (0 : Fin 1) g h p n) ?_ ?_
  · simp only [List.length_cons, List.length_nil]; decide
  · rfl
  · rfl
  · rfl
  · intro a ha; fin_cases a <;> first | rfl | exact absurd rfl ha
  · rfl

set_option maxHeartbeats 2000000 in
/-- Piece 11 of the stack `val_main_v540`. -/
theorem p_v540_11 (g : Fin 4) (h : Fin 8) (p : Fin 64) (n : Fin 128) : val_main_v540 (F := Ideal) x0 x1 x2 x3 x4 x5 x6 (ix5 11 g h p n) = val_main_v535 (F := Ideal) x0 x1 x2 x3 x4 x5 x6 (ix5 (0 : Fin 1) g h p n) := by
  unfold val_main_v540
  refine concatenate_apply_piece _ _ _ _ 11 ?_ _ (val_main_v535 (F := Ideal) x0 x1 x2 x3 x4 x5 x6) ?_ ?_ 11 ?_ (ix5 (0 : Fin 1) g h p n) ?_ ?_
  · simp only [List.length_cons, List.length_nil]; decide
  · rfl
  · rfl
  · rfl
  · intro a ha; fin_cases a <;> first | rfl | exact absurd rfl ha
  · rfl

set_option maxHeartbeats 2000000 in
/-- Piece 12 of the stack `val_main_v540`. -/
theorem p_v540_12 (g : Fin 4) (h : Fin 8) (p : Fin 64) (n : Fin 128) : val_main_v540 (F := Ideal) x0 x1 x2 x3 x4 x5 x6 (ix5 12 g h p n) = val_main_v536 (F := Ideal) x0 x1 x2 x3 x4 x5 x6 (ix5 (0 : Fin 1) g h p n) := by
  unfold val_main_v540
  refine concatenate_apply_piece _ _ _ _ 12 ?_ _ (val_main_v536 (F := Ideal) x0 x1 x2 x3 x4 x5 x6) ?_ ?_ 12 ?_ (ix5 (0 : Fin 1) g h p n) ?_ ?_
  · simp only [List.length_cons, List.length_nil]; decide
  · rfl
  · rfl
  · rfl
  · intro a ha; fin_cases a <;> first | rfl | exact absurd rfl ha
  · rfl

set_option maxHeartbeats 2000000 in
/-- Piece 13 of the stack `val_main_v540`. -/
theorem p_v540_13 (g : Fin 4) (h : Fin 8) (p : Fin 64) (n : Fin 128) : val_main_v540 (F := Ideal) x0 x1 x2 x3 x4 x5 x6 (ix5 13 g h p n) = val_main_v537 (F := Ideal) x0 x1 x2 x3 x4 x5 x6 (ix5 (0 : Fin 1) g h p n) := by
  unfold val_main_v540
  refine concatenate_apply_piece _ _ _ _ 13 ?_ _ (val_main_v537 (F := Ideal) x0 x1 x2 x3 x4 x5 x6) ?_ ?_ 13 ?_ (ix5 (0 : Fin 1) g h p n) ?_ ?_
  · simp only [List.length_cons, List.length_nil]; decide
  · rfl
  · rfl
  · rfl
  · intro a ha; fin_cases a <;> first | rfl | exact absurd rfl ha
  · rfl

set_option maxHeartbeats 2000000 in
/-- Piece 14 of the stack `val_main_v540`. -/
theorem p_v540_14 (g : Fin 4) (h : Fin 8) (p : Fin 64) (n : Fin 128) : val_main_v540 (F := Ideal) x0 x1 x2 x3 x4 x5 x6 (ix5 14 g h p n) = val_main_v538 (F := Ideal) x0 x1 x2 x3 x4 x5 x6 (ix5 (0 : Fin 1) g h p n) := by
  unfold val_main_v540
  refine concatenate_apply_piece _ _ _ _ 14 ?_ _ (val_main_v538 (F := Ideal) x0 x1 x2 x3 x4 x5 x6) ?_ ?_ 14 ?_ (ix5 (0 : Fin 1) g h p n) ?_ ?_
  · simp only [List.length_cons, List.length_nil]; decide
  · rfl
  · rfl
  · rfl
  · intro a ha; fin_cases a <;> first | rfl | exact absurd rfl ha
  · rfl

set_option maxHeartbeats 2000000 in
/-- Piece 15 of the stack `val_main_v540`. -/
theorem p_v540_15 (g : Fin 4) (h : Fin 8) (p : Fin 64) (n : Fin 128) : val_main_v540 (F := Ideal) x0 x1 x2 x3 x4 x5 x6 (ix5 15 g h p n) = val_main_v539 (F := Ideal)  (ix5 (0 : Fin 1) g h p n) := by
  unfold val_main_v540
  refine concatenate_apply_piece _ _ _ _ 15 ?_ _ (val_main_v539 (F := Ideal) ) ?_ ?_ 15 ?_ (ix5 (0 : Fin 1) g h p n) ?_ ?_
  · simp only [List.length_cons, List.length_nil]; decide
  · rfl
  · rfl
  · rfl
  · intro a ha; fin_cases a <;> first | rfl | exact absurd rfl ha
  · rfl

/-- The gradient of the state after each chunk. -/
theorem r_v558 (c : Fin 16) (g : Fin 4) (h : Fin 8) (p : Fin 64) (n : Fin 128) : val_main_v558 (F := Ideal) x0 x1 x2 x3 x4 x5 x6 (ix5 c g h p n) = DS (fun c => pt x0 x1 x2 x3 x4 x5 x6 c g) (15 - c.val) n (col h p) := by
  have h540 : val_main_v540 (F := Ideal) x0 x1 x2 x3 x4 x5 x6 (ix5 c g h p n) = DS (fun c => pt x0 x1 x2 x3 x4 x5 x6 c g) (15 - c.val) n (col h p) := by
    match c with
    | ⟨0, _⟩ => exact (p_v540_0 x0 x1 x2 x3 x4 x5 x6 g h p n).trans (r_v524 x0 x1 x2 x3 x4 x5 x6 g h p n)
    | ⟨1, _⟩ => exact (p_v540_1 x0 x1 x2 x3 x4 x5 x6 g h p n).trans (r_v525 x0 x1 x2 x3 x4 x5 x6 g h p n)
    | ⟨2, _⟩ => exact (p_v540_2 x0 x1 x2 x3 x4 x5 x6 g h p n).trans (r_v526 x0 x1 x2 x3 x4 x5 x6 g h p n)
    | ⟨3, _⟩ => exact (p_v540_3 x0 x1 x2 x3 x4 x5 x6 g h p n).trans (r_v527 x0 x1 x2 x3 x4 x5 x6 g h p n)
    | ⟨4, _⟩ => exact (p_v540_4 x0 x1 x2 x3 x4 x5 x6 g h p n).trans (r_v528 x0 x1 x2 x3 x4 x5 x6 g h p n)
    | ⟨5, _⟩ => exact (p_v540_5 x0 x1 x2 x3 x4 x5 x6 g h p n).trans (r_v529 x0 x1 x2 x3 x4 x5 x6 g h p n)
    | ⟨6, _⟩ => exact (p_v540_6 x0 x1 x2 x3 x4 x5 x6 g h p n).trans (r_v530 x0 x1 x2 x3 x4 x5 x6 g h p n)
    | ⟨7, _⟩ => exact (p_v540_7 x0 x1 x2 x3 x4 x5 x6 g h p n).trans (r_v531 x0 x1 x2 x3 x4 x5 x6 g h p n)
    | ⟨8, _⟩ => exact (p_v540_8 x0 x1 x2 x3 x4 x5 x6 g h p n).trans (r_v532 x0 x1 x2 x3 x4 x5 x6 g h p n)
    | ⟨9, _⟩ => exact (p_v540_9 x0 x1 x2 x3 x4 x5 x6 g h p n).trans (r_v533 x0 x1 x2 x3 x4 x5 x6 g h p n)
    | ⟨10, _⟩ => exact (p_v540_10 x0 x1 x2 x3 x4 x5 x6 g h p n).trans (r_v534 x0 x1 x2 x3 x4 x5 x6 g h p n)
    | ⟨11, _⟩ => exact (p_v540_11 x0 x1 x2 x3 x4 x5 x6 g h p n).trans (r_v535 x0 x1 x2 x3 x4 x5 x6 g h p n)
    | ⟨12, _⟩ => exact (p_v540_12 x0 x1 x2 x3 x4 x5 x6 g h p n).trans (r_v536 x0 x1 x2 x3 x4 x5 x6 g h p n)
    | ⟨13, _⟩ => exact (p_v540_13 x0 x1 x2 x3 x4 x5 x6 g h p n).trans (r_v537 x0 x1 x2 x3 x4 x5 x6 g h p n)
    | ⟨14, _⟩ => exact (p_v540_14 x0 x1 x2 x3 x4 x5 x6 g h p n).trans (r_v538 x0 x1 x2 x3 x4 x5 x6 g h p n)
    | ⟨15, _⟩ => exact (p_v540_15 x0 x1 x2 x3 x4 x5 x6 g h p n).trans (r_v539 x0 x1 x2 x3 x4 x5 x6 g h p n)
    | ⟨n + 16, hn⟩ => exact absurd hn (by omega)
  unfold val_main_v558
  refine (concatenate_apply_piece _ _ _ _ 0 ?_ _ (val_main_v540 (F := Ideal) x0 x1 x2 x3 x4 x5 x6) ?_ ?_ 0 ?_ (ix5 c g h p n) ?_ ?_).trans h540
  · simp only [List.length_cons, List.length_nil]; decide
  · rfl
  · rfl
  · rfl
  · intro a ha; fin_cases a <;> first | rfl | exact absurd rfl ha
  · exact Nat.zero_add _

/-- What the state after the chunk gives B's gradient. -/
theorem r_v564 (c : Fin 16) (g : Fin 4) (n : Fin 128) (s : Fin 128) : val_main_v564 (F := Ideal) x0 x1 x2 x3 x4 x5 x6 (ix4 c g n s) = ∑ k, (pt x0 x1 x2 x3 x4 x5 x6 c g).x s k * (pt x0 x1 x2 x3 x4 x5 x6 c g).dec s (hd k) * (DS (fun c => pt x0 x1 x2 x3 x4 x5 x6 c g) (15 - c.val)) n k := by
  unfold val_main_v564
  simp only [Host.dotGeneral]
  rw [Ideal.dotGeneral_apply, sum_contr2 dot_S16x4x8x64x128_S16x128x4x8x64_S16x4x128x128_23_34_4_1_01_02 8 64 rfl rfl rfl, sum_cols]
  refine Finset.sum_congr rfl fun h _ => Finset.sum_congr rfl fun p _ => ?_
  have e0 := contrEquiv2_symm_val0 dot_S16x4x8x64x128_S16x128x4x8x64_S16x4x128x128_23_34_4_1_01_02 8 64 rfl rfl rfl (h, p)
  have e1 := contrEquiv2_symm_val1 dot_S16x4x8x64x128_S16x128x4x8x64_S16x4x128x128_23_34_4_1_01_02 8 64 rfl rfl rfl (h, p)
  have hlhs : dot_S16x4x8x64x128_S16x128x4x8x64_S16x4x128x128_23_34_4_1_01_02.lhsIdx (ix4 c g n s) ((contrEquiv2 dot_S16x4x8x64x128_S16x128x4x8x64_S16x4x128x128_23_34_4_1_01_02 8 64 rfl rfl rfl).symm (h, p)) = (ix5 c g h p n) := by
    funext a
    apply Fin.ext
    fin_cases a
    · show (dot_S16x4x8x64x128_S16x128x4x8x64_S16x4x128x128_23_34_4_1_01_02.lhsIdx (ix4 c g n s) ((contrEquiv2 dot_S16x4x8x64x128_S16x128x4x8x64_S16x4x128x128_23_34_4_1_01_02 8 64 rfl rfl rfl).symm (h, p)) (0 : Fin S16x4x8x64x128.rank)).val = _
      unfold DotDims.lhsIdx; rw [dif_pos (show (0 : Fin S16x4x8x64x128.rank) ∈ dot_S16x4x8x64x128_S16x128x4x8x64_S16x4x128x128_23_34_4_1_01_02.lhsBatch by decide)]; rfl
    · show (dot_S16x4x8x64x128_S16x128x4x8x64_S16x4x128x128_23_34_4_1_01_02.lhsIdx (ix4 c g n s) ((contrEquiv2 dot_S16x4x8x64x128_S16x128x4x8x64_S16x4x128x128_23_34_4_1_01_02 8 64 rfl rfl rfl).symm (h, p)) (1 : Fin S16x4x8x64x128.rank)).val = _
      unfold DotDims.lhsIdx; rw [dif_pos (show (1 : Fin S16x4x8x64x128.rank) ∈ dot_S16x4x8x64x128_S16x128x4x8x64_S16x4x128x128_23_34_4_1_01_02.lhsBatch by decide)]; rfl
    · show (dot_S16x4x8x64x128_S16x128x4x8x64_S16x4x128x128_23_34_4_1_01_02.lhsIdx (ix4 c g n s) ((contrEquiv2 dot_S16x4x8x64x128_S16x128x4x8x64_S16x4x128x128_23_34_4_1_01_02 8 64 rfl rfl rfl).symm (h, p)) (2 : Fin S16x4x8x64x128.rank)).val = _
      unfold DotDims.lhsIdx; rw [dif_neg (show ¬(2 : Fin S16x4x8x64x128.rank) ∈ dot_S16x4x8x64x128_S16x128x4x8x64_S16x4x128x128_23_34_4_1_01_02.lhsBatch by decide), dif_neg (show ¬(2 : Fin S16x4x8x64x128.rank) ∈ dot_S16x4x8x64x128_S16x128x4x8x64_S16x4x128x128_23_34_4_1_01_02.lhsNonContracting by decide)]; exact e0
    · show (dot_S16x4x8x64x128_S16x128x4x8x64_S16x4x128x128_23_34_4_1_01_02.lhsIdx (ix4 c g n s) ((contrEquiv2 dot_S16x4x8x64x128_S16x128x4x8x64_S16x4x128x128_23_34_4_1_01_02 8 64 rfl rfl rfl).symm (h, p)) (3 : Fin S16x4x8x64x128.rank)).val = _
      unfold DotDims.lhsIdx; rw [dif_neg (show ¬(3 : Fin S16x4x8x64x128.rank) ∈ dot_S16x4x8x64x128_S16x128x4x8x64_S16x4x128x128_23_34_4_1_01_02.lhsBatch by decide), dif_neg (show ¬(3 : Fin S16x4x8x64x128.rank) ∈ dot_S16x4x8x64x128_S16x128x4x8x64_S16x4x128x128_23_34_4_1_01_02.lhsNonContracting by decide)]; exact e1
    · show (dot_S16x4x8x64x128_S16x128x4x8x64_S16x4x128x128_23_34_4_1_01_02.lhsIdx (ix4 c g n s) ((contrEquiv2 dot_S16x4x8x64x128_S16x128x4x8x64_S16x4x128x128_23_34_4_1_01_02 8 64 rfl rfl rfl).symm (h, p)) (4 : Fin S16x4x8x64x128.rank)).val = _
      unfold DotDims.lhsIdx; rw [dif_neg (show ¬(4 : Fin S16x4x8x64x128.rank) ∈ dot_S16x4x8x64x128_S16x128x4x8x64_S16x4x128x128_23_34_4_1_01_02.lhsBatch by decide), dif_pos (show (4 : Fin S16x4x8x64x128.rank) ∈ dot_S16x4x8x64x128_S16x128x4x8x64_S16x4x128x128_23_34_4_1_01_02.lhsNonContracting by decide)]; rfl
  have hrhs : dot_S16x4x8x64x128_S16x128x4x8x64_S16x4x128x128_23_34_4_1_01_02.rhsIdx (ix4 c g n s) ((contrEquiv2 dot_S16x4x8x64x128_S16x128x4x8x64_S16x4x128x128_23_34_4_1_01_02 8 64 rfl rfl rfl).symm (h, p)) = (ix5 c s g h p) := by
    funext a
    apply Fin.ext
    fin_cases a
    · show (dot_S16x4x8x64x128_S16x128x4x8x64_S16x4x128x128_23_34_4_1_01_02.rhsIdx (ix4 c g n s) ((contrEquiv2 dot_S16x4x8x64x128_S16x128x4x8x64_S16x4x128x128_23_34_4_1_01_02 8 64 rfl rfl rfl).symm (h, p)) (0 : Fin S16x128x4x8x64.rank)).val = _
      unfold DotDims.rhsIdx; rw [dif_pos (show (0 : Fin S16x128x4x8x64.rank) ∈ dot_S16x4x8x64x128_S16x128x4x8x64_S16x4x128x128_23_34_4_1_01_02.rhsBatch by decide)]; rfl
    · show (dot_S16x4x8x64x128_S16x128x4x8x64_S16x4x128x128_23_34_4_1_01_02.rhsIdx (ix4 c g n s) ((contrEquiv2 dot_S16x4x8x64x128_S16x128x4x8x64_S16x4x128x128_23_34_4_1_01_02 8 64 rfl rfl rfl).symm (h, p)) (1 : Fin S16x128x4x8x64.rank)).val = _
      unfold DotDims.rhsIdx; rw [dif_neg (show ¬(1 : Fin S16x128x4x8x64.rank) ∈ dot_S16x4x8x64x128_S16x128x4x8x64_S16x4x128x128_23_34_4_1_01_02.rhsBatch by decide), dif_pos (show (1 : Fin S16x128x4x8x64.rank) ∈ dot_S16x4x8x64x128_S16x128x4x8x64_S16x4x128x128_23_34_4_1_01_02.rhsNonContracting by decide)]; rfl
    · show (dot_S16x4x8x64x128_S16x128x4x8x64_S16x4x128x128_23_34_4_1_01_02.rhsIdx (ix4 c g n s) ((contrEquiv2 dot_S16x4x8x64x128_S16x128x4x8x64_S16x4x128x128_23_34_4_1_01_02 8 64 rfl rfl rfl).symm (h, p)) (2 : Fin S16x128x4x8x64.rank)).val = _
      unfold DotDims.rhsIdx; rw [dif_pos (show (2 : Fin S16x128x4x8x64.rank) ∈ dot_S16x4x8x64x128_S16x128x4x8x64_S16x4x128x128_23_34_4_1_01_02.rhsBatch by decide)]; rfl
    · show (dot_S16x4x8x64x128_S16x128x4x8x64_S16x4x128x128_23_34_4_1_01_02.rhsIdx (ix4 c g n s) ((contrEquiv2 dot_S16x4x8x64x128_S16x128x4x8x64_S16x4x128x128_23_34_4_1_01_02 8 64 rfl rfl rfl).symm (h, p)) (3 : Fin S16x128x4x8x64.rank)).val = _
      unfold DotDims.rhsIdx; rw [dif_neg (show ¬(3 : Fin S16x128x4x8x64.rank) ∈ dot_S16x4x8x64x128_S16x128x4x8x64_S16x4x128x128_23_34_4_1_01_02.rhsBatch by decide), dif_neg (show ¬(3 : Fin S16x128x4x8x64.rank) ∈ dot_S16x4x8x64x128_S16x128x4x8x64_S16x4x128x128_23_34_4_1_01_02.rhsNonContracting by decide)]; exact e0
    · show (dot_S16x4x8x64x128_S16x128x4x8x64_S16x4x128x128_23_34_4_1_01_02.rhsIdx (ix4 c g n s) ((contrEquiv2 dot_S16x4x8x64x128_S16x128x4x8x64_S16x4x128x128_23_34_4_1_01_02 8 64 rfl rfl rfl).symm (h, p)) (4 : Fin S16x128x4x8x64.rank)).val = _
      unfold DotDims.rhsIdx; rw [dif_neg (show ¬(4 : Fin S16x128x4x8x64.rank) ∈ dot_S16x4x8x64x128_S16x128x4x8x64_S16x4x128x128_23_34_4_1_01_02.rhsBatch by decide), dif_neg (show ¬(4 : Fin S16x128x4x8x64.rank) ∈ dot_S16x4x8x64x128_S16x128x4x8x64_S16x4x128x128_23_34_4_1_01_02.rhsNonContracting by decide)]; exact e1
  rw [hlhs, hrhs, r_v558 x0 x1 x2 x3 x4 x5 x6 c g h p n, r_v50 x0 x1 x2 x3 x4 x5 x6 c s g h p]
  rw [hd_col]; exact EReal.mul_comm _ _

/-- B against the gradient of the state. -/
theorem r_v566 (c : Fin 16) (g : Fin 4) (h : Fin 8) (p : Fin 64) (s : Fin 128) : val_main_v566 (F := Ideal) x0 x1 x2 x3 x4 x5 x6 (ix5 c g h p s) = ∑ n, (pt x0 x1 x2 x3 x4 x5 x6 c g).B s n * (DS (fun c => pt x0 x1 x2 x3 x4 x5 x6 c g) (15 - c.val)) n (col h p) := by
  rw [val_main_v566_apply]
  refine Finset.sum_congr rfl fun n _ => ?_
  rw [show (lidx_main_v566 (ix5 c g h p s) n) = (ix5 c g h p n) from by funext a; apply Fin.ext; have hc := c.isLt; have hg := g.isLt; have hh := h.isLt; have hp := p.isLt; have hs := s.isLt; have hn := n.isLt; fin_cases a <;> (try simp [row, gc, gh, col, xc, bc, cc, zc, hd, ch]) <;> (try dsimp only [ix1, ix2, ix3, ix4, ix5]) <;> (try omega)]
  rw [r_v558 x0 x1 x2 x3 x4 x5 x6 c g h p n]
  rw [show (ridx_main_v566 (ix5 c g h p s) n) = (ix4 c s g n) from by funext a; apply Fin.ext; have hc := c.isLt; have hg := g.isLt; have hh := h.isLt; have hp := p.isLt; have hs := s.isLt; have hn := n.isLt; fin_cases a <;> (try simp [row, gc, gh, col, xc, bc, cc, zc, hd, ch]) <;> (try dsimp only [ix1, ix2, ix3, ix4, ix5]) <;> (try omega)]
  rw [r_v18 x0 x1 x2 x3 x4 x5 x6 c s g n]
  exact EReal.mul_comm _ _

/-- The same, decayed to the chunk's end. -/
theorem r_v572 (c : Fin 16) (s : Fin 128) (g : Fin 4) (h : Fin 8) (p : Fin 64) : val_main_v572 (F := Ideal) x0 x1 x2 x3 x4 x5 x6 (ix5 c s g h p) = (∑ n, (pt x0 x1 x2 x3 x4 x5 x6 c g).B s n * (DS (fun c => pt x0 x1 x2 x3 x4 x5 x6 c g) (15 - c.val)) n (col h p)) * (pt x0 x1 x2 x3 x4 x5 x6 c g).dec s h := by
  simp only [val_main_v572_apply, val_main_v567_apply, val_main_v571_apply]
  rw [show (idx_main_v567 (ix5 c s g h p)) = (ix5 c g h p s) from by funext a; apply Fin.ext; have hc := c.isLt; have hs := s.isLt; have hg := g.isLt; have hh := h.isLt; have hp := p.isLt; fin_cases a <;> (try simp [row, gc, gh, col, xc, bc, cc, zc, hd, ch]) <;> (try dsimp only [ix1, ix2, ix3, ix4, ix5]) <;> (try omega)]
  rw [r_v566 x0 x1 x2 x3 x4 x5 x6 c g h p s]
  rw [show (idx_main_v571 (ix5 c s g h p)) = (ix5 c s g h (0 : Fin 1)) from by funext a; apply Fin.ext; have hc := c.isLt; have hs := s.isLt; have hg := g.isLt; have hh := h.isLt; have hp := p.isLt; fin_cases a <;> (try simp [row, gc, gh, col, xc, bc, cc, zc, hd, ch]) <;> (try dsimp only [ix1, ix2, ix3, ix4, ix5]) <;> (try omega)]
  rw [r_v48 x0 x1 x2 x3 x4 x5 x6 c s g h]
  first | done | rfl

/-- The gradient of the scan's result, rows last. -/
theorem r_v581 (c : Fin 16) (g : Fin 4) (h : Fin 8) (p : Fin 64) (l : Fin 128) : val_main_v581 (F := Ideal) x0 x1 x2 x3 x4 x5 x6 (ix5 c g h p l) = (pt x0 x1 x2 x3 x4 x5 x6 c g).dy l (col h p) := by
  simp only [val_main_v581_apply]
  rw [show (idx_main_v581 (ix5 c g h p l)) = (ix5 c l g h p) from by funext a; apply Fin.ext; have hc := c.isLt; have hg := g.isLt; have hh := h.isLt; have hp := p.isLt; have hl := l.isLt; fin_cases a <;> (try simp [row, gc, gh, col, xc, bc, cc, zc, hd, ch]) <;> (try dsimp only [ix1, ix2, ix3, ix4, ix5]) <;> (try omega)]
  rw [r_v295 x0 x1 x2 x3 x4 x5 x6 c l g h p]
  first | done | rfl

/-- The gradient of the masked scores of a head. -/
theorem r_v582 (c : Fin 16) (g : Fin 4) (h : Fin 8) (l : Fin 128) (s : Fin 128) : val_main_v582 (F := Ideal) x0 x1 x2 x3 x4 x5 x6 (ix5 c g h l s) = (pt x0 x1 x2 x3 x4 x5 x6 c g).dm l s h := by
  rw [val_main_v582_apply]
  unfold Pt.dm
  refine Finset.sum_congr rfl fun p _ => ?_
  rw [show (lidx_main_v582 (ix5 c g h l s) p) = (ix5 c g h p l) from by funext a; apply Fin.ext; have hc := c.isLt; have hg := g.isLt; have hh := h.isLt; have hl := l.isLt; have hs := s.isLt; have hp := p.isLt; fin_cases a <;> (try simp [row, gc, gh, col, xc, bc, cc, zc, hd, ch]) <;> (try dsimp only [ix1, ix2, ix3, ix4, ix5]) <;> (try omega)]
  rw [r_v581 x0 x1 x2 x3 x4 x5 x6 c g h p l]
  rw [show (ridx_main_v582 (ix5 c g h l s) p) = (ix5 c s g h p) from by funext a; apply Fin.ext; have hc := c.isLt; have hg := g.isLt; have hh := h.isLt; have hl := l.isLt; have hs := s.isLt; have hp := p.isLt; fin_cases a <;> (try simp [row, gc, gh, col, xc, bc, cc, zc, hd, ch]) <;> (try dsimp only [ix1, ix2, ix3, ix4, ix5]) <;> (try omega)]
  rw [r_v22 x0 x1 x2 x3 x4 x5 x6 c s g h p]
  first | done | rfl

/-- The masked scores against the gradient of the result. -/
theorem r_v584 (c : Fin 16) (g : Fin 4) (h : Fin 8) (p : Fin 64) (s : Fin 128) : val_main_v584 (F := Ideal) x0 x1 x2 x3 x4 x5 x6 (ix5 c g h p s) = ∑ l, (pt x0 x1 x2 x3 x4 x5 x6 c g).sc l s * (pt x0 x1 x2 x3 x4 x5 x6 c g).lm l s h * (pt x0 x1 x2 x3 x4 x5 x6 c g).dy l (col h p) := by
  rw [val_main_v584_apply]
  refine Finset.sum_congr rfl fun l _ => ?_
  rw [show (lidx_main_v584 (ix5 c g h p s) l) = (ix5 c g h p l) from by funext a; apply Fin.ext; have hc := c.isLt; have hg := g.isLt; have hh := h.isLt; have hp := p.isLt; have hs := s.isLt; have hl := l.isLt; fin_cases a <;> (try simp [row, gc, gh, col, xc, bc, cc, zc, hd, ch]) <;> (try dsimp only [ix1, ix2, ix3, ix4, ix5]) <;> (try omega)]
  rw [r_v581 x0 x1 x2 x3 x4 x5 x6 c g h p l]
  rw [show (ridx_main_v584 (ix5 c g h p s) l) = (ix5 c l s g h) from by funext a; apply Fin.ext; have hc := c.isLt; have hg := g.isLt; have hh := h.isLt; have hp := p.isLt; have hs := s.isLt; have hl := l.isLt; fin_cases a <;> (try simp [row, gc, gh, col, xc, bc, cc, zc, hd, ch]) <;> (try dsimp only [ix1, ix2, ix3, ix4, ix5]) <;> (try omega)]
  rw [r_v41 x0 x1 x2 x3 x4 x5 x6 c l s g h]
  exact EReal.mul_comm _ _

/-- The gradient of the input times its step size. -/
theorem r_v586 (c : Fin 16) (s : Fin 128) (g : Fin 4) (h : Fin 8) (p : Fin 64) : val_main_v586 (F := Ideal) x0 x1 x2 x3 x4 x5 x6 (ix5 c s g h p) = (pt x0 x1 x2 x3 x4 x5 x6 c g).dxp (DS (fun c => pt x0 x1 x2 x3 x4 x5 x6 c g) (15 - c.val)) s (col h p) := by
  simp only [val_main_v586_apply, val_main_v585_apply]
  rw [r_v572 x0 x1 x2 x3 x4 x5 x6 c s g h p]
  rw [show (idx_main_v585 (ix5 c s g h p)) = (ix5 c g h p s) from by funext a; apply Fin.ext; have hc := c.isLt; have hs := s.isLt; have hg := g.isLt; have hh := h.isLt; have hp := p.isLt; fin_cases a <;> (try simp [row, gc, gh, col, xc, bc, cc, zc, hd, ch]) <;> (try dsimp only [ix1, ix2, ix3, ix4, ix5]) <;> (try omega)]
  rw [r_v584 x0 x1 x2 x3 x4 x5 x6 c g h p s]
  unfold Pt.dxp; rw [hd_col]; rfl

/-- The masked scores' gradient times the decay. -/
theorem r_v589 (c : Fin 16) (l : Fin 128) (s : Fin 128) (g : Fin 4) (h : Fin 8) : val_main_v589 (F := Ideal) x0 x1 x2 x3 x4 x5 x6 (ix5 c l s g h) = (pt x0 x1 x2 x3 x4 x5 x6 c g).dm l s h * (pt x0 x1 x2 x3 x4 x5 x6 c g).lm l s h := by
  simp only [val_main_v589_apply, val_main_v583_apply]
  rw [show (idx_main_v583 (ix5 c l s g h)) = (ix5 c g h l s) from by funext a; apply Fin.ext; have hc := c.isLt; have hl := l.isLt; have hs := s.isLt; have hg := g.isLt; have hh := h.isLt; fin_cases a <;> (try simp [row, gc, gh, col, xc, bc, cc, zc, hd, ch]) <;> (try dsimp only [ix1, ix2, ix3, ix4, ix5]) <;> (try omega)]
  rw [r_v582 x0 x1 x2 x3 x4 x5 x6 c g h l s]
  rw [r_v36 x0 x1 x2 x3 x4 x5 x6 c l s g h]
  first | done | rfl

/-- The gradient of the scores. -/
theorem r_v590 (c : Fin 16) (l : Fin 128) (s : Fin 128) (g : Fin 4) : val_main_v590 (F := Ideal) x0 x1 x2 x3 x4 x5 x6 (ix4 c l s g) = (pt x0 x1 x2 x3 x4 x5 x6 c g).dg l s := by
  rw [val_main_v590_apply]
  rw [show (val_main_cst_57 (F := Ideal)) (Shape.Idx.first Cert.ReferenceIdeal.Gen.h_S_) = (0 : EReal) from zero_eq, zero_add]
  unfold Pt.dg
  refine Finset.sum_congr rfl fun h _ => ?_
  rw [show (idx_main_v590 (ix4 c l s g) h) = (ix5 c l s g h) from by funext a; apply Fin.ext; have hc := c.isLt; have hl := l.isLt; have hs := s.isLt; have hg := g.isLt; have hh := h.isLt; fin_cases a <;> (try simp [row, gc, gh, col, xc, bc, cc, zc, hd, ch]) <;> (try dsimp only [ix1, ix2, ix3, ix4, ix5]) <;> (try omega)]
  rw [r_v589 x0 x1 x2 x3 x4 x5 x6 c l s g h]
  first | done | rfl

/-- The same with a unit axis. -/
theorem r_v591 (c : Fin 16) (l : Fin 128) (s : Fin 128) (g : Fin 4) : val_main_v591 (F := Ideal) x0 x1 x2 x3 x4 x5 x6 (ix5 c l s g (0 : Fin 1)) = (pt x0 x1 x2 x3 x4 x5 x6 c g).dg l s := by
  simp only [val_main_v591_apply]
  rw [show (idx_main_v591 (ix5 c l s g (0 : Fin 1))) = (ix4 c l s g) from by funext a; apply Fin.ext; have hc := c.isLt; have hl := l.isLt; have hs := s.isLt; have hg := g.isLt; fin_cases a <;> (try simp [row, gc, gh, col, xc, bc, cc, zc, hd, ch]) <;> (try dsimp only [ix1, ix2, ix3, ix4, ix5]) <;> (try omega)]
  rw [r_v590 x0 x1 x2 x3 x4 x5 x6 c l s g]
  first | done | rfl

/-- The same without it. -/
theorem r_v592 (c : Fin 16) (l : Fin 128) (s : Fin 128) (g : Fin 4) : val_main_v592 (F := Ideal) x0 x1 x2 x3 x4 x5 x6 (ix4 c l s g) = (pt x0 x1 x2 x3 x4 x5 x6 c g).dg l s := by
  rw [val_main_v592_apply]
  rw [show (val_main_cst_58 (F := Ideal)) (Shape.Idx.first Cert.ReferenceIdeal.Gen.h_S_) = (0 : EReal) from zero_eq, zero_add, Fin.sum_univ_one]
  rw [show (idx_main_v592 (ix4 c l s g) 0) = (ix5 c l s g (0 : Fin 1)) from by funext a; apply Fin.ext; have hc := c.isLt; have hl := l.isLt; have hs := s.isLt; have hg := g.isLt; fin_cases a <;> (try simp [row, gc, gh, col, xc, bc, cc, zc, hd, ch]) <;> (try dsimp only [ix1, ix2, ix3, ix4, ix5]) <;> (try omega)]
  exact r_v591 x0 x1 x2 x3 x4 x5 x6 c l s g

/-- The same with the group ahead of the rows. -/
theorem r_v593 (c : Fin 16) (g : Fin 4) (s : Fin 128) (l : Fin 128) : val_main_v593 (F := Ideal) x0 x1 x2 x3 x4 x5 x6 (ix4 c g s l) = (pt x0 x1 x2 x3 x4 x5 x6 c g).dg l s := by
  simp only [val_main_v593_apply]
  rw [show (idx_main_v593 (ix4 c g s l)) = (ix4 c l s g) from by funext a; apply Fin.ext; have hc := c.isLt; have hg := g.isLt; have hs := s.isLt; have hl := l.isLt; fin_cases a <;> (try simp [row, gc, gh, col, xc, bc, cc, zc, hd, ch]) <;> (try dsimp only [ix1, ix2, ix3, ix4, ix5]) <;> (try omega)]
  rw [r_v592 x0 x1 x2 x3 x4 x5 x6 c l s g]
  first | done | rfl

/-- The scores' gradient against B. -/
theorem r_v594 (c : Fin 16) (g : Fin 4) (l : Fin 128) (n : Fin 128) : val_main_v594 (F := Ideal) x0 x1 x2 x3 x4 x5 x6 (ix4 c g l n) = ∑ s, (pt x0 x1 x2 x3 x4 x5 x6 c g).dg l s * (pt x0 x1 x2 x3 x4 x5 x6 c g).B s n := by
  rw [val_main_v594_apply]
  refine Finset.sum_congr rfl fun s _ => ?_
  rw [show (lidx_main_v594 (ix4 c g l n) s) = (ix4 c g s l) from by funext a; apply Fin.ext; have hc := c.isLt; have hg := g.isLt; have hl := l.isLt; have hn := n.isLt; have hs := s.isLt; fin_cases a <;> (try simp [row, gc, gh, col, xc, bc, cc, zc, hd, ch]) <;> (try dsimp only [ix1, ix2, ix3, ix4, ix5]) <;> (try omega)]
  rw [r_v593 x0 x1 x2 x3 x4 x5 x6 c g s l]
  rw [show (ridx_main_v594 (ix4 c g l n) s) = (ix4 c s g n) from by funext a; apply Fin.ext; have hc := c.isLt; have hg := g.isLt; have hl := l.isLt; have hn := n.isLt; have hs := s.isLt; fin_cases a <;> (try simp [row, gc, gh, col, xc, bc, cc, zc, hd, ch]) <;> (try dsimp only [ix1, ix2, ix3, ix4, ix5]) <;> (try omega)]
  rw [r_v18 x0 x1 x2 x3 x4 x5 x6 c s g n]
  first | done | rfl

/-- The scores' gradient against C. -/
theorem r_v597 (c : Fin 16) (g : Fin 4) (s : Fin 128) (n : Fin 128) : val_main_v597 (F := Ideal) x0 x1 x2 x3 x4 x5 x6 (ix4 c g s n) = ∑ l, (pt x0 x1 x2 x3 x4 x5 x6 c g).dg l s * (pt x0 x1 x2 x3 x4 x5 x6 c g).C l n := by
  rw [val_main_v597_apply]
  refine Finset.sum_congr rfl fun l _ => ?_
  rw [show (lidx_main_v597 (ix4 c g s n) l) = (ix4 c g s l) from by funext a; apply Fin.ext; have hc := c.isLt; have hg := g.isLt; have hs := s.isLt; have hn := n.isLt; have hl := l.isLt; fin_cases a <;> (try simp [row, gc, gh, col, xc, bc, cc, zc, hd, ch]) <;> (try dsimp only [ix1, ix2, ix3, ix4, ix5]) <;> (try omega)]
  rw [r_v593 x0 x1 x2 x3 x4 x5 x6 c g s l]
  rw [show (ridx_main_v597 (ix4 c g s n) l) = (ix4 c l g n) from by funext a; apply Fin.ext; have hc := c.isLt; have hg := g.isLt; have hs := s.isLt; have hn := n.isLt; have hl := l.isLt; fin_cases a <;> (try simp [row, gc, gh, col, xc, bc, cc, zc, hd, ch]) <;> (try dsimp only [ix1, ix2, ix3, ix4, ix5]) <;> (try omega)]
  rw [r_v19 x0 x1 x2 x3 x4 x5 x6 c l g n]
  first | done | rfl

/-- C's gradient by chunk. -/
theorem r_v596 (c : Fin 16) (l : Fin 128) (g : Fin 4) (n : Fin 128) : val_main_v596 (F := Ideal) x0 x1 x2 x3 x4 x5 x6 (ix4 c l g n) = (pt x0 x1 x2 x3 x4 x5 x6 c g).dc l n := by
  simp only [val_main_v596_apply, val_main_v305_apply, val_main_v595_apply]
  rw [show (idx_main_v305 (ix4 c l g n)) = (ix4 c g l n) from by funext a; apply Fin.ext; have hc := c.isLt; have hl := l.isLt; have hg := g.isLt; have hn := n.isLt; fin_cases a <;> (try simp [row, gc, gh, col, xc, bc, cc, zc, hd, ch]) <;> (try dsimp only [ix1, ix2, ix3, ix4, ix5]) <;> (try omega)]
  rw [r_v304 x0 x1 x2 x3 x4 x5 x6 c g l n]
  rw [show (idx_main_v595 (ix4 c l g n)) = (ix4 c g l n) from by funext a; apply Fin.ext; have hc := c.isLt; have hl := l.isLt; have hg := g.isLt; have hn := n.isLt; fin_cases a <;> (try simp [row, gc, gh, col, xc, bc, cc, zc, hd, ch]) <;> (try dsimp only [ix1, ix2, ix3, ix4, ix5]) <;> (try omega)]
  rw [r_v594 x0 x1 x2 x3 x4 x5 x6 c g l n]
  first | done | rfl

/-- B's gradient by chunk. -/
theorem r_v599 (c : Fin 16) (s : Fin 128) (g : Fin 4) (n : Fin 128) : val_main_v599 (F := Ideal) x0 x1 x2 x3 x4 x5 x6 (ix4 c s g n) = (pt x0 x1 x2 x3 x4 x5 x6 c g).db (DS (fun c => pt x0 x1 x2 x3 x4 x5 x6 c g) (15 - c.val)) s n := by
  simp only [val_main_v599_apply, val_main_v565_apply, val_main_v598_apply]
  rw [show (idx_main_v565 (ix4 c s g n)) = (ix4 c g n s) from by funext a; apply Fin.ext; have hc := c.isLt; have hs := s.isLt; have hg := g.isLt; have hn := n.isLt; fin_cases a <;> (try simp [row, gc, gh, col, xc, bc, cc, zc, hd, ch]) <;> (try dsimp only [ix1, ix2, ix3, ix4, ix5]) <;> (try omega)]
  rw [r_v564 x0 x1 x2 x3 x4 x5 x6 c g n s]
  rw [show (idx_main_v598 (ix4 c s g n)) = (ix4 c g s n) from by funext a; apply Fin.ext; have hc := c.isLt; have hs := s.isLt; have hg := g.isLt; have hn := n.isLt; fin_cases a <;> (try simp [row, gc, gh, col, xc, bc, cc, zc, hd, ch]) <;> (try dsimp only [ix1, ix2, ix3, ix4, ix5]) <;> (try omega)]
  rw [r_v597 x0 x1 x2 x3 x4 x5 x6 c g s n]
  first | done | rfl

/-- The gradient of the input times its step size, in full. -/
theorem r_v622 (c : Fin 16) (s : Fin 128) (g : Fin 4) (h : Fin 8) (p : Fin 64) : val_main_v622 (F := Ideal) x0 x1 x2 x3 x4 x5 x6 (ix5 c s g h p) = (pt x0 x1 x2 x3 x4 x5 x6 c g).dxp (DS (fun c => pt x0 x1 x2 x3 x4 x5 x6 c g) (15 - c.val)) s (col h p) * (pt x0 x1 x2 x3 x4 x5 x6 c g).dt s h := by
  simp only [val_main_v622_apply, val_main_v621_apply, val_main_v20_apply]
  rw [r_v586 x0 x1 x2 x3 x4 x5 x6 c s g h p]
  rw [show (idx_main_v20 (idx_main_v621 (ix5 c s g h p))) = (ix4 c s g h) from by funext a; apply Fin.ext; have hc := c.isLt; have hs := s.isLt; have hg := g.isLt; have hh := h.isLt; have hp := p.isLt; fin_cases a <;> (try simp [row, gc, gh, col, xc, bc, cc, zc, hd, ch]) <;> (try dsimp only [ix1, ix2, ix3, ix4, ix5]) <;> (try omega)]
  rw [r_v17 x0 x1 x2 x3 x4 x5 x6 c s g h]
  first | done | rfl

/-- The gradient of the scan's input. -/
theorem r_v629 (c : Fin 16) (s : Fin 128) (g : Fin 4) (h : Fin 8) (p : Fin 64) : val_main_v629 (F := Ideal) x0 x1 x2 x3 x4 x5 x6 (ix4 (row c s) g h p) = (pt x0 x1 x2 x3 x4 x5 x6 c g).dxs (DS (fun c => pt x0 x1 x2 x3 x4 x5 x6 c g) (15 - c.val)) s (col h p) := by
  simp only [val_main_v629_apply, val_main_v288_apply, val_main_v287_apply, val_main_v235_apply, val_main_v234_apply, val_main_v628_apply]
  rw [show (idx_main_v234 (idx_main_v235 (idx_main_v287 (ix4 (row c s) g h p)))) = (ix1 (gh g h)) from by funext a; apply Fin.ext; have hc := c.isLt; have hs := s.isLt; have hg := g.isLt; have hh := h.isLt; have hp := p.isLt; fin_cases a; (try simp [row, gc, gh, col, xc, bc, cc, zc, hd, ch]) <;> (try dsimp only [ix1, ix2, ix3, ix4, ix5]) <;> (try omega)]
  rw [r_v286 x0 x1 x2 x3 x4 x5 x6 c s g h p]
  rw [show (idx_main_v628 (ix4 (row c s) g h p)) = (ix5 c s g h p) from by funext a; apply Fin.ext; have hc := c.isLt; have hs := s.isLt; have hg := g.isLt; have hh := h.isLt; have hp := p.isLt; fin_cases a <;> (try simp [row, gc, gh, col, xc, bc, cc, zc, hd, ch]) <;> (try dsimp only [ix1, ix2, ix3, ix4, ix5]) <;> (try omega)]
  rw [r_v622 x0 x1 x2 x3 x4 x5 x6 c s g h p]
  unfold Pt.dxs; rw [hd_col]; rfl

/-- The same as a matrix. -/
theorem r_v643 (c : Fin 16) (s : Fin 128) (g : Fin 4) (k : Fin 512) : val_main_v643 (F := Ideal) x0 x1 x2 x3 x4 x5 x6 (ix2 (row c s) (gc g k)) = (pt x0 x1 x2 x3 x4 x5 x6 c g).dxs (DS (fun c => pt x0 x1 x2 x3 x4 x5 x6 c g) (15 - c.val)) s k := by
  simp only [val_main_v643_apply]
  rw [show (idx_main_v643 (ix2 (row c s) (gc g k))) = (ix4 (row c s) g (hd k) (ch k)) from by funext a; apply Fin.ext; have hc := c.isLt; have hs := s.isLt; have hg := g.isLt; have hk := k.isLt; fin_cases a <;> (try simp [row, gc, gh, col, xc, bc, cc, zc, hd, ch]) <;> (try dsimp only [ix1, ix2, ix3, ix4, ix5]) <;> (try omega)]
  rw [r_v629 x0 x1 x2 x3 x4 x5 x6 c s g (hd k) (ch k)]
  rw [col_hd_ch]

/-- Column `n` of group `g` in the gradients of the two projections. -/
abbrev gn (g : Fin 4) (n : Fin 128) : Fin 512 := ⟨128 * g.val + n.val, by omega⟩

/-- C's gradient as a matrix. -/
theorem r_v638 (c : Fin 16) (l : Fin 128) (g : Fin 4) (n : Fin 128) : val_main_v638 (F := Ideal) x0 x1 x2 x3 x4 x5 x6 (ix2 (row c l) (gn g n)) = (pt x0 x1 x2 x3 x4 x5 x6 c g).dc l n := by
  simp only [val_main_v638_apply, val_main_v625_apply]
  rw [show (idx_main_v625 (idx_main_v638 (ix2 (row c l) (gn g n)))) = (ix4 c l g n) from by funext a; apply Fin.ext; have hc := c.isLt; have hl := l.isLt; have hg := g.isLt; have hn := n.isLt; fin_cases a <;> (try simp [row, gc, gh, gn, col, xc, bc, cc, zc, hd, ch]) <;> (try dsimp only [ix1, ix2, ix3, ix4, ix5]) <;> (try omega)]
  rw [r_v596 x0 x1 x2 x3 x4 x5 x6 c l g n]
  first | done | rfl

/-- B's gradient as a matrix. -/
theorem r_v640 (c : Fin 16) (s : Fin 128) (g : Fin 4) (n : Fin 128) : val_main_v640 (F := Ideal) x0 x1 x2 x3 x4 x5 x6 (ix2 (row c s) (gn g n)) = (pt x0 x1 x2 x3 x4 x5 x6 c g).db (DS (fun c => pt x0 x1 x2 x3 x4 x5 x6 c g) (15 - c.val)) s n := by
  simp only [val_main_v640_apply, val_main_v626_apply]
  rw [show (idx_main_v626 (idx_main_v640 (ix2 (row c s) (gn g n)))) = (ix4 c s g n) from by funext a; apply Fin.ext; have hc := c.isLt; have hs := s.isLt; have hg := g.isLt; have hn := n.isLt; fin_cases a <;> (try simp [row, gc, gh, gn, col, xc, bc, cc, zc, hd, ch]) <;> (try dsimp only [ix1, ix2, ix3, ix4, ix5]) <;> (try omega)]
  rw [r_v599 x0 x1 x2 x3 x4 x5 x6 c s g n]
  first | done | rfl

/-- C's gradient in its own columns. -/
theorem in_v639 (r : Fin 2048) (j : Fin 512) : val_main_v639 (F := Ideal) x0 x1 x2 x3 x4 x5 x6 (ix2 r (⟨2560 + j.val, by omega⟩ : Fin 3072)) = val_main_v638 (F := Ideal) x0 x1 x2 x3 x4 x5 x6 (ix2 r j) := by
  unfold val_main_v639
  refine pad_apply_of_inside _ _ _ _ _ _ _ _ _ fun a => ?_
  fin_cases a
  · show r.val = 0 + r.val * (0 + 1)
    omega
  · show 2560 + j.val = 2560 + j.val * (0 + 1)
    omega

/-- Outside of them there are zeros. -/
theorem out_v639 (r : Fin 2048) (j : Fin 3072) (hj : ¬(2560 ≤ j.val ∧ j.val < 3072)) : val_main_v639 (F := Ideal) x0 x1 x2 x3 x4 x5 x6 (ix2 r j) = (0 : EReal) := by
  unfold val_main_v639
  refine (pad_apply_of_not_inside _ _ _ _ _ _ _ _ (1 : Fin 2) fun hh => hj ?_).trans zero_eq
  have h1 : 2560 ≤ j.val := hh.1
  have h2 : (j.val - 2560) / (0 + 1) < 512 := hh.2.2
  rw [Nat.div_one] at h2
  exact ⟨h1, by omega⟩

/-- B's gradient in its own columns. -/
theorem in_v641 (r : Fin 2048) (j : Fin 512) : val_main_v641 (F := Ideal) x0 x1 x2 x3 x4 x5 x6 (ix2 r (⟨2048 + j.val, by omega⟩ : Fin 3072)) = val_main_v640 (F := Ideal) x0 x1 x2 x3 x4 x5 x6 (ix2 r j) := by
  unfold val_main_v641
  refine pad_apply_of_inside _ _ _ _ _ _ _ _ _ fun a => ?_
  fin_cases a
  · show r.val = 0 + r.val * (0 + 1)
    omega
  · show 2048 + j.val = 2048 + j.val * (0 + 1)
    omega

/-- Outside of them there are zeros. -/
theorem out_v641 (r : Fin 2048) (j : Fin 3072) (hj : ¬(2048 ≤ j.val ∧ j.val < 2560)) : val_main_v641 (F := Ideal) x0 x1 x2 x3 x4 x5 x6 (ix2 r j) = (0 : EReal) := by
  unfold val_main_v641
  refine (pad_apply_of_not_inside _ _ _ _ _ _ _ _ (1 : Fin 2) fun hh => hj ?_).trans zero_eq
  have h1 : 2048 ≤ j.val := hh.1
  have h2 : (j.val - 2048) / (0 + 1) < 512 := hh.2.2
  rw [Nat.div_one] at h2
  exact ⟨h1, by omega⟩

/-- The input's gradient in its own columns. -/
theorem in_v644 (r : Fin 2048) (j : Fin 2048) : val_main_v644 (F := Ideal) x0 x1 x2 x3 x4 x5 x6 (ix2 r (⟨0 + j.val, by omega⟩ : Fin 3072)) = val_main_v643 (F := Ideal) x0 x1 x2 x3 x4 x5 x6 (ix2 r j) := by
  unfold val_main_v644
  refine pad_apply_of_inside _ _ _ _ _ _ _ _ _ fun a => ?_
  fin_cases a
  · show r.val = 0 + r.val * (0 + 1)
    omega
  · show 0 + j.val = 0 + j.val * (0 + 1)
    omega

/-- Outside of them there are zeros. -/
theorem out_v644 (r : Fin 2048) (j : Fin 3072) (hj : ¬(0 ≤ j.val ∧ j.val < 2048)) : val_main_v644 (F := Ideal) x0 x1 x2 x3 x4 x5 x6 (ix2 r j) = (0 : EReal) := by
  unfold val_main_v644
  refine (pad_apply_of_not_inside _ _ _ _ _ _ _ _ (1 : Fin 2) fun hh => hj ?_).trans zero_eq
  have h1 : 0 ≤ j.val := hh.1
  have h2 : (j.val - 0) / (0 + 1) < 2048 := hh.2.2
  rw [Nat.div_one] at h2
  exact ⟨h1, by omega⟩

/-- The gradient of the scan's input, as the reference returns it. -/
theorem r_v646 (c : Fin 16) (s : Fin 128) (g : Fin 4) (k : Fin 512) : val_main_v646 (F := Ideal) x0 x1 x2 x3 x4 x5 x6 (ix2 (row c s) (gc g k)) = (pt x0 x1 x2 x3 x4 x5 x6 c g).dxs (DS (fun c => pt x0 x1 x2 x3 x4 x5 x6 c g) (15 - c.val)) s k := by
  rw [val_main_v646_apply]
  have hk := k.isLt
  have hg := g.isLt
  rw [show idx_main_v646 (ix2 (row c s) (gc g k)) = ix2 (row c s) (⟨0 + (gc g k).val, by show 0 + (512 * g.val + k.val) < 3072; omega⟩ : Fin 3072) from by
    funext a; apply Fin.ext; fin_cases a; rfl; exact (Nat.zero_add _).symm]
  rw [val_main_v645_apply, val_main_v642_apply, in_v644, r_v643, out_v639 x0 x1 x2 x3 x4 x5 x6 _ _ (by show ¬(2560 ≤ 0 + (512 * g.val + k.val) ∧ _); omega), out_v641 x0 x1 x2 x3 x4 x5 x6 _ _ (by show ¬(2048 ≤ 0 + (512 * g.val + k.val) ∧ _); omega)]
  show (0 : EReal) + 0 + _ = _
  rw [zero_add, zero_add]

/-- The gradient of the projection that writes the state, as the reference returns it. -/
theorem r_v647 (c : Fin 16) (s : Fin 128) (g : Fin 4) (n : Fin 128) : val_main_v647 (F := Ideal) x0 x1 x2 x3 x4 x5 x6 (ix2 (row c s) (gn g n)) = (pt x0 x1 x2 x3 x4 x5 x6 c g).db (DS (fun c => pt x0 x1 x2 x3 x4 x5 x6 c g) (15 - c.val)) s n := by
  rw [val_main_v647_apply]
  have hn := n.isLt
  have hg := g.isLt
  rw [show idx_main_v647 (ix2 (row c s) (gn g n)) = ix2 (row c s) (⟨2048 + (gn g n).val, by show 2048 + (128 * g.val + n.val) < 3072; omega⟩ : Fin 3072) from by
    funext a; apply Fin.ext; fin_cases a; rfl; rfl]
  rw [val_main_v645_apply, val_main_v642_apply, in_v641, r_v640, out_v639 x0 x1 x2 x3 x4 x5 x6 _ _ (by show ¬(2560 ≤ 2048 + (128 * g.val + n.val) ∧ _); omega), out_v644 x0 x1 x2 x3 x4 x5 x6 _ _ (by show ¬(0 ≤ 2048 + (128 * g.val + n.val) ∧ 2048 + (128 * g.val + n.val) < _); omega)]
  show (0 : EReal) + _ + 0 = _
  rw [zero_add, add_zero]

/-- The gradient of the projection that reads the state, as the reference returns it. -/
theorem r_v648 (c : Fin 16) (l : Fin 128) (g : Fin 4) (n : Fin 128) : val_main_v648 (F := Ideal) x0 x1 x2 x3 x4 x5 x6 (ix2 (row c l) (gn g n)) = (pt x0 x1 x2 x3 x4 x5 x6 c g).dc l n := by
  rw [val_main_v648_apply]
  have hn := n.isLt
  have hg := g.isLt
  rw [show idx_main_v648 (ix2 (row c l) (gn g n)) = ix2 (row c l) (⟨2560 + (gn g n).val, by show 2560 + (128 * g.val + n.val) < 3072; omega⟩ : Fin 3072) from by
    funext a; apply Fin.ext; fin_cases a; rfl; rfl]
  rw [val_main_v645_apply, val_main_v642_apply, in_v639, r_v638, out_v641 x0 x1 x2 x3 x4 x5 x6 _ _ (by show ¬(2048 ≤ 2560 + (128 * g.val + n.val) ∧ 2560 + (128 * g.val + n.val) < _); omega), out_v644 x0 x1 x2 x3 x4 x5 x6 _ _ (by show ¬(0 ≤ 2560 + (128 * g.val + n.val) ∧ 2560 + (128 * g.val + n.val) < _); omega)]
  show _ + (0 : EReal) + 0 = _
  rw [add_zero, add_zero]

/-- A sum over the first and last of four axes is the double sum over them. -/
theorem reduce03 {a b : Nat} (h : (⟨4, ![a, 4, 8, b]⟩ : Shape).ReducesTo [0, 3] (⟨2, ![4, 8]⟩ : Shape)) (x : (⟨4, ![a, 4, 8, b]⟩ : Shape).Idx → EReal) (v : EReal) (g : Fin 4) (r : Fin 8) :
    Ideal.hostReduceAdd h x v (ix2 g r) = v + ∑ i : Fin a, ∑ p : Fin b, x (ix4 i g r p) := by
  unfold Ideal.hostReduceAdd
  congr 1
  rw [← Fintype.sum_prod_type' (f := fun i p => x (ix4 i g r p))]
  have hd : ∀ i, h.drop i = ix2 (i 1) (i 2) := by
    intro i
    funext b
    apply Fin.ext
    fin_cases b
    · exact Shape.ReducesTo.drop_apply_val h i 0
    · exact Shape.ReducesTo.drop_apply_val h i 1
  refine Finset.sum_nbij' (fun i => (i 0, i 3)) (fun q => ix4 q.1 g r q.2) ?_ ?_ ?_ ?_ ?_
  · intro i _; exact Finset.mem_univ _
  · intro q _
    rw [Finset.mem_filter, hd]
    exact ⟨Finset.mem_univ _, rfl⟩
  · intro i hi
    rw [Finset.mem_filter, hd] at hi
    have h0 : i 1 = g := congrFun hi.2 0
    have h1 : i 2 = r := congrFun hi.2 1
    funext b
    fin_cases b
    · rfl
    · exact h0.symm
    · exact h1.symm
    · rfl
  · intro q _; rfl
  · intro i hi
    rw [Finset.mem_filter, hd] at hi
    have h0 : i 1 = g := congrFun hi.2 0
    have h1 : i 2 = r := congrFun hi.2 1
    refine congrArg x ?_
    funext b
    fin_cases b
    · rfl
    · exact h0
    · exact h1
    · rfl

/-- D's gradient by group and head. -/
theorem r_v290 (g : Fin 4) (h : Fin 8) : val_main_v290 (F := Ideal) x0 x1 x2 x3 x4 x5 x6 (ix2 g h) = ∑ c, (pt x0 x1 x2 x3 x4 x5 x6 c g).dd h := by
  refine (reduce03 _ _ _ g h).trans ?_
  rw [show (val_main_cst_13 (F := Ideal)) (Shape.Idx.first Cert.ReferenceIdeal.Gen.h_S_) = (0 : EReal) from zero_eq, zero_add, sum_rows]
  refine Finset.sum_congr rfl fun c _ => Finset.sum_congr rfl fun l _ => Finset.sum_congr rfl fun p _ => ?_
  exact r_v289 x0 x1 x2 x3 x4 x5 x6 c l g h p

/-- The same after its unit axis is dropped. -/
theorem r_v292 (g : Fin 4) (h : Fin 8) : val_main_v292 (F := Ideal) x0 x1 x2 x3 x4 x5 x6 (ix2 g h) = ∑ c, (pt x0 x1 x2 x3 x4 x5 x6 c g).dd h := by
  refine (reduce03 _ _ _ g h).trans ?_
  rw [show (val_main_cst_14 (F := Ideal)) (Shape.Idx.first Cert.ReferenceIdeal.Gen.h_S_) = (0 : EReal) from zero_eq, zero_add, Fin.sum_univ_one, Fin.sum_univ_one, val_main_v291_apply]
  rw [show idx_main_v291 (ix4 (0 : Fin 1) g h (0 : Fin 1)) = ix2 g h from by funext a; apply Fin.ext; have hg := g.isLt; have hh := h.isLt; fin_cases a <;> (try simp [row, gc, gh, gn, col, xc, bc, cc, zc, hd, ch]) <;> (try dsimp only [ix1, ix2, ix3, ix4, ix5]) <;> (try omega)]
  exact r_v290 x0 x1 x2 x3 x4 x5 x6 g h

/-- The same as a vector over all heads. -/
theorem r_v294 (g : Fin 4) (h : Fin 8) : val_main_v294 (F := Ideal) x0 x1 x2 x3 x4 x5 x6 (ix1 (gh g h)) = ∑ c, (pt x0 x1 x2 x3 x4 x5 x6 c g).dd h := by
  simp only [val_main_v294_apply, val_main_v293_apply]
  rw [show (idx_main_v293 (idx_main_v294 (ix1 (gh g h)))) = (ix2 g h) from by funext a; apply Fin.ext; have hg := g.isLt; have hh := h.isLt; fin_cases a <;> (try simp [row, gc, gh, gn, col, xc, bc, cc, zc, hd, ch]) <;> (try dsimp only [ix1, ix2, ix3, ix4, ix5]) <;> (try omega)]
  rw [r_v292 x0 x1 x2 x3 x4 x5 x6 g h]
  first | done | rfl

/-- The integer zero as a number. -/
theorem sitofp_zero : (FloatOps.sitofp .f32 (0#32 : BitVec 32) : Ideal .f32) = (0 : EReal) := by
  show (((0#32 : BitVec 32).toInt : ℝ) : EReal) = 0
  simp

/-- D's gradient for group 0. -/
theorem r_v649 (h : Fin 8) : val_main_v649 (F := Ideal) x0 x1 x2 x3 x4 x5 x6 (ix1 h) = ∑ c, (pt x0 x1 x2 x3 x4 x5 x6 c 0).dd h := by
  simp only [val_main_v649_apply]
  rw [show (idx_main_v649 (ix1 h)) = (ix1 (gh 0 h)) from by funext a; apply Fin.ext; have hh := h.isLt; fin_cases a; (try simp [row, gc, gh, gn, col, xc, bc, cc, zc, hd, ch]) <;> (try dsimp only [ix1, ix2, ix3, ix4, ix5]) <;> (try omega)]
  rw [r_v294 x0 x1 x2 x3 x4 x5 x6 0 h]
  first | done | rfl

/-- D's gradient for group 0, in its own lanes. -/
theorem r_v650 (j : Fin 128) : val_main_v650 (F := Ideal) x0 x1 x2 x3 x4 x5 x6 (ix1 j) = if hj : 0 ≤ j.val ∧ j.val < 8 then ∑ c, (pt x0 x1 x2 x3 x4 x5 x6 c 0).dd ⟨j.val - 0, by omega⟩ else 0 := by
  unfold val_main_v650
  by_cases hj : 0 ≤ j.val ∧ j.val < 8
  · rw [dif_pos hj, ← r_v649 x0 x1 x2 x3 x4 x5 x6 ⟨j.val - 0, by omega⟩]
    refine pad_apply_of_inside _ _ _ _ _ _ _ _ _ fun a => ?_
    fin_cases a
    show j.val = 0 + (j.val - 0) * (0 + 1)
    omega
  · rw [dif_neg hj]
    refine (pad_apply_of_not_inside _ _ _ _ _ _ _ _ (0 : Fin 1) fun hh => hj ?_).trans sitofp_zero
    have h1 : 0 ≤ j.val := hh.1
    have h2 : (j.val - 0) / (0 + 1) < 8 := hh.2.2
    rw [Nat.div_one] at h2
    exact ⟨h1, by omega⟩

/-- D's gradient for group 0, as a row. -/
theorem r_v657 (j : Fin 128) : val_main_v657 (F := Ideal) x0 x1 x2 x3 x4 x5 x6 (ix2 (0 : Fin 1) j) = if hj : 0 ≤ j.val ∧ j.val < 8 then ∑ c, (pt x0 x1 x2 x3 x4 x5 x6 c 0).dd ⟨j.val - 0, by omega⟩ else 0 := by
  simp only [val_main_v657_apply]
  rw [show (idx_main_v657 (ix2 (0 : Fin 1) j)) = (ix1 j) from by funext a; apply Fin.ext; have hj := j.isLt; fin_cases a; (try simp [row, gc, gh, gn, col, xc, bc, cc, zc, hd, ch]) <;> (try dsimp only [ix1, ix2, ix3, ix4, ix5]) <;> (try omega)]
  rw [r_v650 x0 x1 x2 x3 x4 x5 x6 j]
  first | done | rfl

/-- Piece 0 of the stack `val_main_v661`. -/
theorem p_v661_0 (j : Fin 128) : val_main_v661 (F := Ideal) x0 x1 x2 x3 x4 x5 x6 (ix2 (0 : Fin 4) j) = val_main_v657 (F := Ideal) x0 x1 x2 x3 x4 x5 x6 (ix2 (0 : Fin 1) j) := by
  unfold val_main_v661
  refine concatenate_apply_piece _ _ _ _ 0 ?_ _ (val_main_v657 (F := Ideal) x0 x1 x2 x3 x4 x5 x6) ?_ ?_ 0 ?_ (ix2 (0 : Fin 1) j) ?_ ?_
  · simp only [List.length_cons, List.length_nil]; decide
  · rfl
  · rfl
  · rfl
  · intro a ha; fin_cases a <;> first | rfl | exact absurd rfl ha
  · rfl

/-- D's gradient for group 1. -/
theorem r_v651 (h : Fin 8) : val_main_v651 (F := Ideal) x0 x1 x2 x3 x4 x5 x6 (ix1 h) = ∑ c, (pt x0 x1 x2 x3 x4 x5 x6 c 1).dd h := by
  simp only [val_main_v651_apply]
  rw [show (idx_main_v651 (ix1 h)) = (ix1 (gh 1 h)) from by funext a; apply Fin.ext; have hh := h.isLt; fin_cases a; (try simp [row, gc, gh, gn, col, xc, bc, cc, zc, hd, ch]) <;> (try dsimp only [ix1, ix2, ix3, ix4, ix5]) <;> (try omega)]
  rw [r_v294 x0 x1 x2 x3 x4 x5 x6 1 h]
  first | done | rfl

/-- D's gradient for group 1, in its own lanes. -/
theorem r_v652 (j : Fin 128) : val_main_v652 (F := Ideal) x0 x1 x2 x3 x4 x5 x6 (ix1 j) = if hj : 8 ≤ j.val ∧ j.val < 16 then ∑ c, (pt x0 x1 x2 x3 x4 x5 x6 c 1).dd ⟨j.val - 8, by omega⟩ else 0 := by
  unfold val_main_v652
  by_cases hj : 8 ≤ j.val ∧ j.val < 16
  · rw [dif_pos hj, ← r_v651 x0 x1 x2 x3 x4 x5 x6 ⟨j.val - 8, by omega⟩]
    refine pad_apply_of_inside _ _ _ _ _ _ _ _ _ fun a => ?_
    fin_cases a
    show j.val = 8 + (j.val - 8) * (0 + 1)
    omega
  · rw [dif_neg hj]
    refine (pad_apply_of_not_inside _ _ _ _ _ _ _ _ (0 : Fin 1) fun hh => hj ?_).trans sitofp_zero
    have h1 : 8 ≤ j.val := hh.1
    have h2 : (j.val - 8) / (0 + 1) < 8 := hh.2.2
    rw [Nat.div_one] at h2
    exact ⟨h1, by omega⟩

/-- D's gradient for group 1, as a row. -/
theorem r_v658 (j : Fin 128) : val_main_v658 (F := Ideal) x0 x1 x2 x3 x4 x5 x6 (ix2 (0 : Fin 1) j) = if hj : 8 ≤ j.val ∧ j.val < 16 then ∑ c, (pt x0 x1 x2 x3 x4 x5 x6 c 1).dd ⟨j.val - 8, by omega⟩ else 0 := by
  simp only [val_main_v658_apply]
  rw [show (idx_main_v658 (ix2 (0 : Fin 1) j)) = (ix1 j) from by funext a; apply Fin.ext; have hj := j.isLt; fin_cases a; (try simp [row, gc, gh, gn, col, xc, bc, cc, zc, hd, ch]) <;> (try dsimp only [ix1, ix2, ix3, ix4, ix5]) <;> (try omega)]
  rw [r_v652 x0 x1 x2 x3 x4 x5 x6 j]
  first | done | rfl

/-- Piece 1 of the stack `val_main_v661`. -/
theorem p_v661_1 (j : Fin 128) : val_main_v661 (F := Ideal) x0 x1 x2 x3 x4 x5 x6 (ix2 (1 : Fin 4) j) = val_main_v658 (F := Ideal) x0 x1 x2 x3 x4 x5 x6 (ix2 (0 : Fin 1) j) := by
  unfold val_main_v661
  refine concatenate_apply_piece _ _ _ _ 1 ?_ _ (val_main_v658 (F := Ideal) x0 x1 x2 x3 x4 x5 x6) ?_ ?_ 1 ?_ (ix2 (0 : Fin 1) j) ?_ ?_
  · simp only [List.length_cons, List.length_nil]; decide
  · rfl
  · rfl
  · rfl
  · intro a ha; fin_cases a <;> first | rfl | exact absurd rfl ha
  · rfl

/-- D's gradient for group 2. -/
theorem r_v653 (h : Fin 8) : val_main_v653 (F := Ideal) x0 x1 x2 x3 x4 x5 x6 (ix1 h) = ∑ c, (pt x0 x1 x2 x3 x4 x5 x6 c 2).dd h := by
  simp only [val_main_v653_apply]
  rw [show (idx_main_v653 (ix1 h)) = (ix1 (gh 2 h)) from by funext a; apply Fin.ext; have hh := h.isLt; fin_cases a; (try simp [row, gc, gh, gn, col, xc, bc, cc, zc, hd, ch]) <;> (try dsimp only [ix1, ix2, ix3, ix4, ix5]) <;> (try omega)]
  rw [r_v294 x0 x1 x2 x3 x4 x5 x6 2 h]
  first | done | rfl

/-- D's gradient for group 2, in its own lanes. -/
theorem r_v654 (j : Fin 128) : val_main_v654 (F := Ideal) x0 x1 x2 x3 x4 x5 x6 (ix1 j) = if hj : 16 ≤ j.val ∧ j.val < 24 then ∑ c, (pt x0 x1 x2 x3 x4 x5 x6 c 2).dd ⟨j.val - 16, by omega⟩ else 0 := by
  unfold val_main_v654
  by_cases hj : 16 ≤ j.val ∧ j.val < 24
  · rw [dif_pos hj, ← r_v653 x0 x1 x2 x3 x4 x5 x6 ⟨j.val - 16, by omega⟩]
    refine pad_apply_of_inside _ _ _ _ _ _ _ _ _ fun a => ?_
    fin_cases a
    show j.val = 16 + (j.val - 16) * (0 + 1)
    omega
  · rw [dif_neg hj]
    refine (pad_apply_of_not_inside _ _ _ _ _ _ _ _ (0 : Fin 1) fun hh => hj ?_).trans sitofp_zero
    have h1 : 16 ≤ j.val := hh.1
    have h2 : (j.val - 16) / (0 + 1) < 8 := hh.2.2
    rw [Nat.div_one] at h2
    exact ⟨h1, by omega⟩

/-- D's gradient for group 2, as a row. -/
theorem r_v659 (j : Fin 128) : val_main_v659 (F := Ideal) x0 x1 x2 x3 x4 x5 x6 (ix2 (0 : Fin 1) j) = if hj : 16 ≤ j.val ∧ j.val < 24 then ∑ c, (pt x0 x1 x2 x3 x4 x5 x6 c 2).dd ⟨j.val - 16, by omega⟩ else 0 := by
  simp only [val_main_v659_apply]
  rw [show (idx_main_v659 (ix2 (0 : Fin 1) j)) = (ix1 j) from by funext a; apply Fin.ext; have hj := j.isLt; fin_cases a; (try simp [row, gc, gh, gn, col, xc, bc, cc, zc, hd, ch]) <;> (try dsimp only [ix1, ix2, ix3, ix4, ix5]) <;> (try omega)]
  rw [r_v654 x0 x1 x2 x3 x4 x5 x6 j]
  first | done | rfl

/-- Piece 2 of the stack `val_main_v661`. -/
theorem p_v661_2 (j : Fin 128) : val_main_v661 (F := Ideal) x0 x1 x2 x3 x4 x5 x6 (ix2 (2 : Fin 4) j) = val_main_v659 (F := Ideal) x0 x1 x2 x3 x4 x5 x6 (ix2 (0 : Fin 1) j) := by
  unfold val_main_v661
  refine concatenate_apply_piece _ _ _ _ 2 ?_ _ (val_main_v659 (F := Ideal) x0 x1 x2 x3 x4 x5 x6) ?_ ?_ 2 ?_ (ix2 (0 : Fin 1) j) ?_ ?_
  · simp only [List.length_cons, List.length_nil]; decide
  · rfl
  · rfl
  · rfl
  · intro a ha; fin_cases a <;> first | rfl | exact absurd rfl ha
  · rfl

/-- D's gradient for group 3. -/
theorem r_v655 (h : Fin 8) : val_main_v655 (F := Ideal) x0 x1 x2 x3 x4 x5 x6 (ix1 h) = ∑ c, (pt x0 x1 x2 x3 x4 x5 x6 c 3).dd h := by
  simp only [val_main_v655_apply]
  rw [show (idx_main_v655 (ix1 h)) = (ix1 (gh 3 h)) from by funext a; apply Fin.ext; have hh := h.isLt; fin_cases a; (try simp [row, gc, gh, gn, col, xc, bc, cc, zc, hd, ch]) <;> (try dsimp only [ix1, ix2, ix3, ix4, ix5]) <;> (try omega)]
  rw [r_v294 x0 x1 x2 x3 x4 x5 x6 3 h]
  first | done | rfl

/-- D's gradient for group 3, in its own lanes. -/
theorem r_v656 (j : Fin 128) : val_main_v656 (F := Ideal) x0 x1 x2 x3 x4 x5 x6 (ix1 j) = if hj : 24 ≤ j.val ∧ j.val < 32 then ∑ c, (pt x0 x1 x2 x3 x4 x5 x6 c 3).dd ⟨j.val - 24, by omega⟩ else 0 := by
  unfold val_main_v656
  by_cases hj : 24 ≤ j.val ∧ j.val < 32
  · rw [dif_pos hj, ← r_v655 x0 x1 x2 x3 x4 x5 x6 ⟨j.val - 24, by omega⟩]
    refine pad_apply_of_inside _ _ _ _ _ _ _ _ _ fun a => ?_
    fin_cases a
    show j.val = 24 + (j.val - 24) * (0 + 1)
    omega
  · rw [dif_neg hj]
    refine (pad_apply_of_not_inside _ _ _ _ _ _ _ _ (0 : Fin 1) fun hh => hj ?_).trans sitofp_zero
    have h1 : 24 ≤ j.val := hh.1
    have h2 : (j.val - 24) / (0 + 1) < 8 := hh.2.2
    rw [Nat.div_one] at h2
    exact ⟨h1, by omega⟩

/-- D's gradient for group 3, as a row. -/
theorem r_v660 (j : Fin 128) : val_main_v660 (F := Ideal) x0 x1 x2 x3 x4 x5 x6 (ix2 (0 : Fin 1) j) = if hj : 24 ≤ j.val ∧ j.val < 32 then ∑ c, (pt x0 x1 x2 x3 x4 x5 x6 c 3).dd ⟨j.val - 24, by omega⟩ else 0 := by
  simp only [val_main_v660_apply]
  rw [show (idx_main_v660 (ix2 (0 : Fin 1) j)) = (ix1 j) from by funext a; apply Fin.ext; have hj := j.isLt; fin_cases a; (try simp [row, gc, gh, gn, col, xc, bc, cc, zc, hd, ch]) <;> (try dsimp only [ix1, ix2, ix3, ix4, ix5]) <;> (try omega)]
  rw [r_v656 x0 x1 x2 x3 x4 x5 x6 j]
  first | done | rfl

/-- Piece 3 of the stack `val_main_v661`. -/
theorem p_v661_3 (j : Fin 128) : val_main_v661 (F := Ideal) x0 x1 x2 x3 x4 x5 x6 (ix2 (3 : Fin 4) j) = val_main_v660 (F := Ideal) x0 x1 x2 x3 x4 x5 x6 (ix2 (0 : Fin 1) j) := by
  unfold val_main_v661
  refine concatenate_apply_piece _ _ _ _ 3 ?_ _ (val_main_v660 (F := Ideal) x0 x1 x2 x3 x4 x5 x6) ?_ ?_ 3 ?_ (ix2 (0 : Fin 1) j) ?_ ?_
  · simp only [List.length_cons, List.length_nil]; decide
  · rfl
  · rfl
  · rfl
  · intro a ha; fin_cases a <;> first | rfl | exact absurd rfl ha
  · rfl

/-- The gradient of the skip weights, as the reference returns it. -/
theorem r_v662 (g : Fin 4) (j : Fin 128) : val_main_v662 (F := Ideal) x0 x1 x2 x3 x4 x5 x6 (ix3 g (0 : Fin 1) j) = if hj : 8 * g.val ≤ j.val ∧ j.val < 8 * g.val + 8 then ∑ c, (pt x0 x1 x2 x3 x4 x5 x6 c g).dd ⟨j.val - 8 * g.val, by omega⟩ else 0 := by
  rw [val_main_v662_apply, show idx_main_v662 (ix3 g (0 : Fin 1) j) = ix2 g j from by funext a; apply Fin.ext; fin_cases a <;> rfl]
  match g with
  | ⟨0, _⟩ => exact (p_v661_0 x0 x1 x2 x3 x4 x5 x6 j).trans (r_v657 x0 x1 x2 x3 x4 x5 x6 j)
  | ⟨1, _⟩ => exact (p_v661_1 x0 x1 x2 x3 x4 x5 x6 j).trans (r_v658 x0 x1 x2 x3 x4 x5 x6 j)
  | ⟨2, _⟩ => exact (p_v661_2 x0 x1 x2 x3 x4 x5 x6 j).trans (r_v659 x0 x1 x2 x3 x4 x5 x6 j)
  | ⟨3, _⟩ => exact (p_v661_3 x0 x1 x2 x3 x4 x5 x6 j).trans (r_v660 x0 x1 x2 x3 x4 x5 x6 j)
  | ⟨n + 4, hn⟩ => exact absurd hn (by omega)

end Cert.RefRead
-- ==== Proof.KernelU.lean ====
module

public import proofs.«01_k».proof.Proof.Gen.KernelIdeal.Frame
public import Idealize.ShloMosaic.Lib.Tactic.RunNames
public import Idealize.ShloMosaic.Lib.Pipeline.ValueKit

/-! The kernel body's vector computations, each written once as a function of the head word and of the 128-column
    slab it works on.  The body repeats them for its four pairs of heads and its eight slabs of rows. -/

@[expose] public section
noncomputable section
namespace Cert.KernelIdeal.U
open Cert.KernelIdeal Cert.KernelIdeal.Gen
open Idealize.ShloMosaic Idealize.ShloMosaic.TcCoe Idealize.ShloMosaic.Tactic
open Idealize.SL Idealize.SL.RA Idealize.SL.BI
open Idealize.SL.Sem
variable {F : FTy → Type} [FloatOps F] [Named F]

/-- The lane number of each element of a square block. -/
abbrev lane : IVec S128x128 32 := iota .tc S128x128 32 [1] iota_S128x128_d1_w32

/-- The lane number of each element of a row. -/
abbrev lane1 : IVec S1x128 32 := iota .tc S1x128 32 [1] iota_S1x128_d1_w32

/-- The first head of a pair: lanes below 64. -/
abbrev lo : IVec S128x128 1 := cmpi .slt lane (broadcast S128x128 64#32)

/-- The first head of a pair, in a row. -/
abbrev lo1 : IVec S1x128 1 := cmpi .slt lane1 (broadcast S1x128 64#32)

/-- The causal mask: row at or after column. -/
abbrev mk : IVec S128x128 1 :=
  cmpi .sge (iota .tc S128x128 32 [0] iota_S128x128_d0_w32) lane

/-- The zero block. -/
abbrev z2 : FVec F S128x128 .f32 := broadcast S128x128 (Scalar.ofBits .f32 0x00000000#32)

/-- The zero row. -/
abbrev z1 : FVec F S1x128 .f32 := broadcast S1x128 (Scalar.ofBits .f32 0x00000000#32)

/-- The zero accumulator of a product. -/
abbrev acc0 : FVec F S128x128 .f32 := constant S128x128 .f32 0x00000000#32

/-- The column of a block that the head word names. -/
def colOf (v : FVec F S128x128 .f32) (w : BitVec 32) : FVec F S128x1 .f32 :=
  shapeCast S128x1 (multiReduction .add [1] S128 (select (cmpi .eq lane (broadcast S128x128 w)) v z2)
    0x00000000#32 reduces_S128x128_S128 (.inl rfl) rfl) shapeCasts_S128_S128x1

/-- The entry of a row that the head word names. -/
def lastOf (v : FVec F S1x128 .f32) (w : BitVec 32) : FVec F S1x1 .f32 :=
  shapeCast S1x1 (multiReduction .add [1] S1 (select (cmpi .eq lane1 (broadcast S1x128 w)) v z1)
    0x00000000#32 reduces_S1x128_S1 (.inl rfl) rfl) shapeCasts_S1_S1x1

/-- Two columns spread over the two halves of the lanes. -/
def sel2 (a b : FVec F S128x1 .f32) : FVec F S128x128 .f32 :=
  select lo (broadcastTo S128x128 (shapeCast S128x1 a shapeCasts_S128x1_S128x1) broadcasts_S128x1_S128x128)
    (broadcastTo S128x128 (shapeCast S128x1 b shapeCasts_S128x1_S128x1) broadcasts_S128x1_S128x128)

/-- The step sizes of a pair of heads. -/
def dtP (dt : FVec F S128x128 .f32) (w : BitVec 32) : FVec F S128x128 .f32 :=
  sel2 (colOf dt w) (colOf dt (Scalar.addi w 1#32))

/-- The decay from the chunk's start. -/
def eP (cs : FVec F S128x128 .f32) (w : BitVec 32) : FVec F S128x128 .f32 :=
  sel2 (exp (colOf cs w)) (exp (colOf cs (Scalar.addi w 1#32)))

/-- The decay to the chunk's end, of one head. -/
def dec1 (cs : FVec F S128x128 .f32) (last : FVec F S1x128 .f32) (w : BitVec 32) : FVec F S128x1 .f32 :=
  exp (subf (broadcastTo S128x1 (lastOf last w) broadcasts_S1x1_S128x1) (colOf cs w))

/-- The decay to the chunk's end, of a pair. -/
def decP (cs : FVec F S128x128 .f32) (last : FVec F S1x128 .f32) (w : BitVec 32) : FVec F S128x128 .f32 :=
  sel2 (dec1 cs last w) (dec1 cs last (Scalar.addi w 1#32))

/-- The decay over the whole chunk, of a pair. -/
def allP (last : FVec F S1x128 .f32) (w : BitVec 32) : FVec F S128x128 .f32 :=
  broadcastTo S128x128 (select lo1
    (broadcastTo S1x128 (shapeCast S1x1 (exp (lastOf last w)) shapeCasts_S1x1_S1x1) broadcasts_S1x1_S1x128)
    (broadcastTo S1x128 (shapeCast S1x1 (exp (lastOf last (Scalar.addi w 1#32))) shapeCasts_S1x1_S1x1)
      broadcasts_S1x1_S1x128)) broadcasts_S1x128_S128x128

/-- The masked decay between two positions, of one head. -/
def lmT (cs : FVec F S128x128 .f32) (row : Vec F S1x1x128 .f32) (w : BitVec 32) : FVec F S128x128 .f32 :=
  exp (select mk (subf (broadcastTo S128x128 (colOf cs w) broadcasts_S128x1_S128x128)
    (broadcastTo S128x128 (shapeCast S1x128 row shapeCasts_S1x1x128_S1x128) broadcasts_S1x128_S128x128))
    (broadcast S128x128 (Named.named κ "mask" 0xF149F2CA#32)))

/-- The gradient of the carried state, of a pair. -/
def dsT (cb : FVec F S128x128 .bf16) (cs : FVec F S128x128 .f32) (last : FVec F S1x128 .f32)
    (dsn dy : FVec F S128x128 .f32) (w : BitVec 32) : FVec F S128x128 .f32 :=
  addf (mulf dsn (allP last w))
    (matmul dot_S128x128_S128x128_S128x128_0_0_1_1_n_n none cb (truncf .bf16 (mulf dy (eP cs w)) bitsLt_bf16_f32) acc0)

/-- The scores of one head pair. -/
def scT (cb bb : FVec F S128x128 .bf16) : FVec F S128x128 .f32 :=
  matmul dot_S128x128_S128x128_S128x128_1_1_0_0_n_n none cb bb acc0

/-- The gradient through one head's masked scores. -/
def mT (cb bb : FVec F S128x128 .bf16) (lm dy : FVec F S128x128 .f32) : FVec F S128x128 .f32 :=
  matmul dot_S128x128_S128x128_S128x128_0_0_1_1_n_n none
    (truncf .bf16 (mulf (scT cb bb) lm) bitsLt_bf16_f32) (truncf .bf16 dy bitsLt_bf16_f32) acc0

/-- The gradient of the inputs, of a pair. -/
def dxsT (cb bb : FVec F S128x128 .bf16) (cs dt : FVec F S128x128 .f32) (last dl : FVec F S1x128 .f32)
    (dsn dy : FVec F S128x128 .f32) (ra rb : Vec F S1x1x128 .f32) (w : BitVec 32) : FVec F S128x128 .f32 :=
  addf (mulf (broadcastTo S128x128 dl broadcasts_S1x128_S128x128) dy)
    (mulf (addf
      (mulf (matmul dot_S128x128_S128x128_S128x128_1_0_0_1_n_n none bb (truncf .bf16 dsn bitsLt_bf16_f32) acc0)
        (decP cs last w))
      (select lo (mT cb bb (lmT cs ra w) dy) (mT cb bb (lmT cs rb (Scalar.addi w 1#32)) dy)))
      (dtP dt w))

/-- One pair's part of the gradient of B from the carried state. -/
def dbT (xs dt cs : FVec F S128x128 .f32) (last : FVec F S1x128 .f32) (dsn : FVec F S128x128 .f32) (w : BitVec 32) :
    FVec F S128x128 .f32 :=
  matmul dot_S128x128_S128x128_S128x128_1_1_0_0_n_n none
    (truncf .bf16 (mulf (mulf xs (dtP dt w)) (decP cs last w)) bitsLt_bf16_f32)
    (truncf .bf16 dsn bitsLt_bf16_f32) acc0

/-- One pair's part of the gradient of C from the carried state. -/
def dcT (cs dy prev : FVec F S128x128 .f32) (w : BitVec 32) : FVec F S128x128 .f32 :=
  matmul dot_S128x128_S128x128_S128x128_1_1_0_0_n_n none
    (truncf .bf16 (mulf dy (eP cs w)) bitsLt_bf16_f32) (truncf .bf16 prev bitsLt_bf16_f32) acc0

/-- The first head's part of the gradient of the scores. -/
def dgA (xs dt cs dy : FVec F S128x128 .f32) (ra : Vec F S1x1x128 .f32) (w : BitVec 32) : FVec F S128x128 .f32 :=
  mulf (matmul dot_S128x128_S128x128_S128x128_1_1_0_0_n_n none
    (truncf .bf16 (select lo dy z2) bitsLt_bf16_f32) (truncf .bf16 (mulf xs (dtP dt w)) bitsLt_bf16_f32) acc0)
    (lmT cs ra w)

/-- The second head's part of the gradient of the scores. -/
def dgB (xs dt cs dy : FVec F S128x128 .f32) (rb : Vec F S1x1x128 .f32) (w : BitVec 32) : FVec F S128x128 .f32 :=
  mulf (matmul dot_S128x128_S128x128_S128x128_1_1_0_0_n_n none
    (truncf .bf16 (select lo z2 dy) bitsLt_bf16_f32) (truncf .bf16 (mulf xs (dtP dt w)) bitsLt_bf16_f32) acc0)
    (lmT cs rb (Scalar.addi w 1#32))

/-- The sum of a whole block. -/
def tot (v : FVec F S128x128 .f32) : FVec F S1x128 .f32 :=
  broadcastTo S1x128 (shapeCast S1x1 (shapeCast S1x1 (multiReduction .add [0] S1
    (shapeCast S128x1 (multiReduction .add [1] S128 v 0x00000000#32 reduces_S128x128_S128 (.inl rfl) rfl)
      shapeCasts_S128_S128x1) 0x00000000#32 reduces_S128x1_S1 (.inl rfl) rfl) shapeCasts_S1_S1x1)
      shapeCasts_S1x1_S1x1) broadcasts_S1x1_S1x128

/-- The first head's part of the gradient of D. -/
def ddA (xs dy : FVec F S128x128 .f32) (w : BitVec 32) : FVec F S1x128 .f32 :=
  select (cmpi .eq lane1 (broadcast S1x128 w)) (tot (select lo (mulf dy xs) z2)) z1

/-- The second head's part of the gradient of D. -/
def ddB (xs dy : FVec F S128x128 .f32) (w : BitVec 32) : FVec F S1x128 .f32 :=
  select (cmpi .eq lane1 (broadcast S1x128 (Scalar.addi w 1#32))) (tot (select lo z2 (mulf dy xs))) z1

/-- The logistic function of a slab. -/
def sgS (z : FVec F S16x512 .f32) : FVec F S16x512 .f32 :=
  divf (broadcast S16x512 (Scalar.ofBits .f32 0x3F800000#32)) (addf (broadcast S16x512 (Scalar.ofBits .f32 0x3F800000#32))
    (exp (subf (broadcast S16x512 (Scalar.ofBits .f32 0x00000000#32)) z)))

/-- The gated value of a slab. -/
def ygS (y z : FVec F S16x512 .f32) : FVec F S16x512 .f32 := mulf y (mulf z (sgS z))

/-- The mean over the columns of a slab. -/
def meanS (v : FVec F S16x512 .f32) : FVec F S16x1 .f32 :=
  divf (shapeCast S16x1 (multiReduction .add [1] S16 v 0x00000000#32 reduces_S16x512_S16 (.inl rfl) rfl)
    shapeCasts_S16_S16x1) (broadcast S16x1 (Scalar.ofBits .f32 0x44000000#32))

/-- The inverse root mean square of a slab's rows. -/
def rsS (y z : FVec F S16x512 .f32) : FVec F S16x1 .f32 :=
  rsqrt (addf (meanS (mulf (ygS y z) (ygS y z))) (broadcast S16x1 (Scalar.ofBits .f32 0x3727C5AC#32)))

/-- The normalised value of a slab. -/
def yhS (y z : FVec F S16x512 .f32) : FVec F S16x512 .f32 :=
  mulf (ygS y z) (broadcastTo S16x512 (rsS y z) broadcasts_S16x1_S16x512)

/-- A slab's part of the gradient of the norm's weight. -/
def nwS (ct y z : FVec F S16x512 .f32) : FVec F S1x512 .f32 :=
  shapeCast S1x512 (multiReduction .add [0] S512 (mulf ct (yhS y z)) 0x00000000#32 reduces_S16x512_S512 (.inl rfl) rfl)
    shapeCasts_S512_S1x512

/-- The incoming gradient times the norm's weight. -/
def dhS (ct : FVec F S16x512 .f32) (nw : FVec F S1x512 .f32) : FVec F S16x512 .f32 :=
  mulf ct (broadcastTo S16x512 nw broadcasts_S1x512_S16x512)

/-- The gradient of the block's output before the norm and the gate. -/
def dyS (ct y z : FVec F S16x512 .f32) (nw : FVec F S1x512 .f32) : FVec F S16x512 .f32 :=
  mulf (mulf (broadcastTo S16x512 (rsS y z) broadcasts_S16x1_S16x512)
    (subf (dhS ct nw) (mulf (yhS y z) (broadcastTo S16x512 (meanS (mulf (dhS ct nw) (yhS y z)))
      broadcasts_S16x1_S16x512)))) (mulf z (sgS z))

/-- Columns 0 to 127. -/
abbrev r0 : Rect S128x512 := Rect.unit (s := S128x512) ![0, 0] S128x128.size inb_S128x512_S128x128_0_0

/-- The head word of pair 0. -/
abbrev w0 (i : grid0.Coords) : BitVec 32 := Scalar.addi (Scalar.muli (BitVec.ofNat 32 (i 0).val) 8#32) 0#32

/-- The decays' row of the first head of pair 0. -/
def ra0 (i : grid0.Coords) (x10 : Vec F S1x128x128 .f32) : Vec F S1x1x128 .f32 :=
  View.ld x10 (Rect.unit (s := S1x128x128) (k0_off1 i 0#32) S1x1x128.size (k0_off1_inb i 0))

/-- The decays' row of the second head of pair 0. -/
def rb0 (i : grid0.Coords) (x10 : Vec F S1x128x128 .f32) : Vec F S1x1x128 .f32 :=
  View.ld x10 (Rect.unit (s := S1x128x128) (k0_off2 i 0#32) S1x1x128.size (k0_off2_inb i 0))

/-- Columns 128 to 255. -/
abbrev r1 : Rect S128x512 := Rect.unit (s := S128x512) ![0, 128] S128x128.size inb_S128x512_S128x128_0_128

/-- The head word of pair 1. -/
abbrev w1 (i : grid0.Coords) : BitVec 32 := Scalar.addi (Scalar.muli (BitVec.ofNat 32 (i 0).val) 8#32) 2#32

/-- The decays' row of the first head of pair 1. -/
def ra1 (i : grid0.Coords) (x10 : Vec F S1x128x128 .f32) : Vec F S1x1x128 .f32 :=
  View.ld x10 (Rect.unit (s := S1x128x128) (k0_off1 i 2#32) S1x1x128.size (k0_off1_inb i 1))

/-- The decays' row of the second head of pair 1. -/
def rb1 (i : grid0.Coords) (x10 : Vec F S1x128x128 .f32) : Vec F S1x1x128 .f32 :=
  View.ld x10 (Rect.unit (s := S1x128x128) (k0_off2 i 2#32) S1x1x128.size (k0_off2_inb i 1))

/-- Columns 256 to 383. -/
abbrev r2 : Rect S128x512 := Rect.unit (s := S128x512) ![0, 256] S128x128.size inb_S128x512_S128x128_0_256

/-- The head word of pair 2. -/
abbrev w2 (i : grid0.Coords) : BitVec 32 := Scalar.addi (Scalar.muli (BitVec.ofNat 32 (i 0).val) 8#32) 4#32

/-- The decays' row of the first head of pair 2. -/
def ra2 (i : grid0.Coords) (x10 : Vec F S1x128x128 .f32) : Vec F S1x1x128 .f32 :=
  View.ld x10 (Rect.unit (s := S1x128x128) (k0_off1 i 4#32) S1x1x128.size (k0_off1_inb i 2))

/-- The decays' row of the second head of pair 2. -/
def rb2 (i : grid0.Coords) (x10 : Vec F S1x128x128 .f32) : Vec F S1x1x128 .f32 :=
  View.ld x10 (Rect.unit (s := S1x128x128) (k0_off2 i 4#32) S1x1x128.size (k0_off2_inb i 2))

/-- Columns 384 to 511. -/
abbrev r3 : Rect S128x512 := Rect.unit (s := S128x512) ![0, 384] S128x128.size inb_S128x512_S128x128_0_384

/-- The head word of pair 3. -/
abbrev w3 (i : grid0.Coords) : BitVec 32 := Scalar.addi (Scalar.muli (BitVec.ofNat 32 (i 0).val) 8#32) 6#32

/-- The decays' row of the first head of pair 3. -/
def ra3 (i : grid0.Coords) (x10 : Vec F S1x128x128 .f32) : Vec F S1x1x128 .f32 :=
  View.ld x10 (Rect.unit (s := S1x128x128) (k0_off1 i 6#32) S1x1x128.size (k0_off1_inb i 3))

/-- The decays' row of the second head of pair 3. -/
def rb3 (i : grid0.Coords) (x10 : Vec F S1x128x128 .f32) : Vec F S1x1x128 .f32 :=
  View.ld x10 (Rect.unit (s := S1x128x128) (k0_off2 i 6#32) S1x1x128.size (k0_off2_inb i 3))

/-- The whole of a square block. -/
abbrev rS : Rect S128x128 := Rect.unit (s := S128x128) ![0, 0] S128x128.size inb_S128x128_S128x128_0_0

/-- A square block, rounded. -/
def hfU (x : Vec F S128x128 .f32) : FVec F S128x128 .bf16 := truncf .bf16 (View.ld x rS) bitsLt_bf16_f32

/-- A square block as it is loaded. -/
def sqU (x : Vec F S128x128 .f32) : FVec F S128x128 .f32 := shapeCast S128x128 (View.ld x rS) shapeCasts_S128x128_S128x128

/-- The last row of decays. -/
def lastU (x11 : Vec F S1x1x128 .f32) : FVec F S1x128 .f32 :=
  shapeCast S1x128 (View.ld x11 (Rect.unit (s := S1x1x128) ![0, 0, 0] S1x1x128.size inb_S1x1x128_S1x1x128_0_0_0))
    shapeCasts_S1x1x128_S1x128

/-- Rows 0 to 15. -/
abbrev q0 : Rect S128x512 := Rect.unit (s := S128x512) ![0, 0] S16x512.size inb_S128x512_S16x512_0_0

/-- Rows 16 to 31. -/
abbrev q1 : Rect S128x512 := Rect.unit (s := S128x512) ![16, 0] S16x512.size inb_S128x512_S16x512_16_0

/-- Rows 32 to 47. -/
abbrev q2 : Rect S128x512 := Rect.unit (s := S128x512) ![32, 0] S16x512.size inb_S128x512_S16x512_32_0

/-- Rows 48 to 63. -/
abbrev q3 : Rect S128x512 := Rect.unit (s := S128x512) ![48, 0] S16x512.size inb_S128x512_S16x512_48_0

/-- Rows 64 to 79. -/
abbrev q4 : Rect S128x512 := Rect.unit (s := S128x512) ![64, 0] S16x512.size inb_S128x512_S16x512_64_0

/-- Rows 80 to 95. -/
abbrev q5 : Rect S128x512 := Rect.unit (s := S128x512) ![80, 0] S16x512.size inb_S128x512_S16x512_80_0

/-- Rows 96 to 111. -/
abbrev q6 : Rect S128x512 := Rect.unit (s := S128x512) ![96, 0] S16x512.size inb_S128x512_S16x512_96_0

/-- Rows 112 to 127. -/
abbrev q7 : Rect S128x512 := Rect.unit (s := S128x512) ![112, 0] S16x512.size inb_S128x512_S16x512_112_0

/-- The norm's weights. -/
def nwU (x14 : Vec F S1x1x512 .f32) : FVec F S1x512 .f32 :=
  shapeCast S1x512 (View.ld x14 (Rect.unit (s := S1x1x512) ![0, 0, 0] S1x1x512.size inb_S1x1x512_S1x1x512_0_0_0))
    shapeCasts_S1x1x512_S1x512

/-- The pieces in which the gradient before the gate is stored. -/
def dyL (x0 x1 x2 : Vec F S128x512 .f32) (x14 : Vec F S1x1x512 .f32) : List (View.Piece (Elt F) S128x512 .f32) :=
  [⟨q7, shapeCast S16x512 (dyS (View.ld x0 q7) (shapeCast S16x512 (View.ld x1 q7) shapeCasts_S16x512_S16x512) (shapeCast S16x512 (View.ld x2 q7) shapeCasts_S16x512_S16x512) (nwU x14)) shapeCasts_S16x512_S16x512⟩,
   ⟨q6, shapeCast S16x512 (dyS (View.ld x0 q6) (shapeCast S16x512 (View.ld x1 q6) shapeCasts_S16x512_S16x512) (shapeCast S16x512 (View.ld x2 q6) shapeCasts_S16x512_S16x512) (nwU x14)) shapeCasts_S16x512_S16x512⟩,
   ⟨q5, shapeCast S16x512 (dyS (View.ld x0 q5) (shapeCast S16x512 (View.ld x1 q5) shapeCasts_S16x512_S16x512) (shapeCast S16x512 (View.ld x2 q5) shapeCasts_S16x512_S16x512) (nwU x14)) shapeCasts_S16x512_S16x512⟩,
   ⟨q4, shapeCast S16x512 (dyS (View.ld x0 q4) (shapeCast S16x512 (View.ld x1 q4) shapeCasts_S16x512_S16x512) (shapeCast S16x512 (View.ld x2 q4) shapeCasts_S16x512_S16x512) (nwU x14)) shapeCasts_S16x512_S16x512⟩,
   ⟨q3, shapeCast S16x512 (dyS (View.ld x0 q3) (shapeCast S16x512 (View.ld x1 q3) shapeCasts_S16x512_S16x512) (shapeCast S16x512 (View.ld x2 q3) shapeCasts_S16x512_S16x512) (nwU x14)) shapeCasts_S16x512_S16x512⟩,
   ⟨q2, shapeCast S16x512 (dyS (View.ld x0 q2) (shapeCast S16x512 (View.ld x1 q2) shapeCasts_S16x512_S16x512) (shapeCast S16x512 (View.ld x2 q2) shapeCasts_S16x512_S16x512) (nwU x14)) shapeCasts_S16x512_S16x512⟩,
   ⟨q1, shapeCast S16x512 (dyS (View.ld x0 q1) (shapeCast S16x512 (View.ld x1 q1) shapeCasts_S16x512_S16x512) (shapeCast S16x512 (View.ld x2 q1) shapeCasts_S16x512_S16x512) (nwU x14)) shapeCasts_S16x512_S16x512⟩,
   ⟨q0, shapeCast S16x512 (dyS (View.ld x0 q0) (shapeCast S16x512 (View.ld x1 q0) shapeCasts_S16x512_S16x512) (shapeCast S16x512 (View.ld x2 q0) shapeCasts_S16x512_S16x512) (nwU x14)) shapeCasts_S16x512_S16x512⟩]

/-- The gradient before the gate. -/
def dyU (x0 x1 x2 : Vec F S128x512 .f32) (x14 : Vec F S1x1x512 .f32) : Vec F S128x512 .f32 := View.canon (dyL x0 x1 x2 x14)

/-- The gradient of the norm's weight: what one chunk adds. -/
def nwsU (x0 x1 x2 : Vec F S128x512 .f32) : FVec F S1x512 .f32 :=
  (addf (addf (addf (addf (addf (addf (addf (addf (broadcast S1x512 (Scalar.ofBits .f32 0x00000000#32))
    (nwS (View.ld x0 q0) (shapeCast S16x512 (View.ld x1 q0) shapeCasts_S16x512_S16x512) (shapeCast S16x512 (View.ld x2 q0) shapeCasts_S16x512_S16x512)))
    (nwS (View.ld x0 q1) (shapeCast S16x512 (View.ld x1 q1) shapeCasts_S16x512_S16x512) (shapeCast S16x512 (View.ld x2 q1) shapeCasts_S16x512_S16x512)))
    (nwS (View.ld x0 q2) (shapeCast S16x512 (View.ld x1 q2) shapeCasts_S16x512_S16x512) (shapeCast S16x512 (View.ld x2 q2) shapeCasts_S16x512_S16x512)))
    (nwS (View.ld x0 q3) (shapeCast S16x512 (View.ld x1 q3) shapeCasts_S16x512_S16x512) (shapeCast S16x512 (View.ld x2 q3) shapeCasts_S16x512_S16x512)))
    (nwS (View.ld x0 q4) (shapeCast S16x512 (View.ld x1 q4) shapeCasts_S16x512_S16x512) (shapeCast S16x512 (View.ld x2 q4) shapeCasts_S16x512_S16x512)))
    (nwS (View.ld x0 q5) (shapeCast S16x512 (View.ld x1 q5) shapeCasts_S16x512_S16x512) (shapeCast S16x512 (View.ld x2 q5) shapeCasts_S16x512_S16x512)))
    (nwS (View.ld x0 q6) (shapeCast S16x512 (View.ld x1 q6) shapeCasts_S16x512_S16x512) (shapeCast S16x512 (View.ld x2 q6) shapeCasts_S16x512_S16x512)))
    (nwS (View.ld x0 q7) (shapeCast S16x512 (View.ld x1 q7) shapeCasts_S16x512_S16x512) (shapeCast S16x512 (View.ld x2 q7) shapeCasts_S16x512_S16x512)))

/-- The gradient of the scores. -/
def dgU (i : grid0.Coords) (x3 : Vec F S128x512 .f32) (x7 x9 : Vec F S128x128 .f32) (x10 : Vec F S1x128x128 .f32)
    (dy : Vec F S128x512 .f32) : FVec F S128x128 .f32 :=
  (addf (addf (addf (addf (addf (addf (addf (addf z2
    (dgA (View.ld x3 r0) (sqU x7) (sqU x9) (View.ld dy r0) (ra0 i x10) (w0 i)))
    (dgB (View.ld x3 r0) (sqU x7) (sqU x9) (View.ld dy r0) (rb0 i x10) (w0 i)))
    (dgA (View.ld x3 r1) (sqU x7) (sqU x9) (View.ld dy r1) (ra1 i x10) (w1 i)))
    (dgB (View.ld x3 r1) (sqU x7) (sqU x9) (View.ld dy r1) (rb1 i x10) (w1 i)))
    (dgA (View.ld x3 r2) (sqU x7) (sqU x9) (View.ld dy r2) (ra2 i x10) (w2 i)))
    (dgB (View.ld x3 r2) (sqU x7) (sqU x9) (View.ld dy r2) (rb2 i x10) (w2 i)))
    (dgA (View.ld x3 r3) (sqU x7) (sqU x9) (View.ld dy r3) (ra3 i x10) (w3 i)))
    (dgB (View.ld x3 r3) (sqU x7) (sqU x9) (View.ld dy r3) (rb3 i x10) (w3 i)))

/-- The gradient of B. -/
def dbU (i : grid0.Coords) (x3 : Vec F S128x512 .f32) (x5 x7 x9 : Vec F S128x128 .f32) (x10 : Vec F S1x128x128 .f32)
    (x11 : Vec F S1x1x128 .f32) (dy ds : Vec F S128x512 .f32) : FVec F S128x128 .f32 :=
  addf (addf (addf (addf (addf z2
    (dbT (View.ld x3 r0) (sqU x7) (sqU x9) (lastU x11) (View.ld ds r0) (w0 i)))
    (dbT (View.ld x3 r1) (sqU x7) (sqU x9) (lastU x11) (View.ld ds r1) (w1 i)))
    (dbT (View.ld x3 r2) (sqU x7) (sqU x9) (lastU x11) (View.ld ds r2) (w2 i)))
    (dbT (View.ld x3 r3) (sqU x7) (sqU x9) (lastU x11) (View.ld ds r3) (w3 i)))
    (matmul dot_S128x128_S128x128_S128x128_0_0_1_1_n_n none
      (truncf .bf16 (dgU i x3 x7 x9 x10 dy) bitsLt_bf16_f32) (hfU x5) acc0)

/-- The gradient of C. -/
def dcU (i : grid0.Coords) (x3 : Vec F S128x512 .f32) (x4 : Vec F S128x128 .f32) (x6 : Vec F S1x1x128x512 .f32)
    (x7 x9 : Vec F S128x128 .f32) (x10 : Vec F S1x128x128 .f32) (dy : Vec F S128x512 .f32) : FVec F S128x128 .f32 :=
  addf (addf (addf (addf (addf z2
    (dcT (sqU x9) (View.ld dy r0) (shapeCast S128x128 (View.ld x6 (Rect.unit (s := S1x1x128x512) ![0, 0, 0, 0] S1x1x128x128.size
      inb_S1x1x128x512_S1x1x128x128_0_0_0_0)) shapeCasts_S1x1x128x128_S128x128) (w0 i)))
    (dcT (sqU x9) (View.ld dy r1) (shapeCast S128x128 (View.ld x6 (Rect.unit (s := S1x1x128x512) ![0, 0, 0, 128] S1x1x128x128.size
      inb_S1x1x128x512_S1x1x128x128_0_0_0_128)) shapeCasts_S1x1x128x128_S128x128) (w1 i)))
    (dcT (sqU x9) (View.ld dy r2) (shapeCast S128x128 (View.ld x6 (Rect.unit (s := S1x1x128x512) ![0, 0, 0, 256] S1x1x128x128.size
      inb_S1x1x128x512_S1x1x128x128_0_0_0_256)) shapeCasts_S1x1x128x128_S128x128) (w2 i)))
    (dcT (sqU x9) (View.ld dy r3) (shapeCast S128x128 (View.ld x6 (Rect.unit (s := S1x1x128x512) ![0, 0, 0, 384] S1x1x128x128.size
      inb_S1x1x128x512_S1x1x128x128_0_0_0_384)) shapeCasts_S1x1x128x128_S128x128) (w3 i)))
    (matmul dot_S128x128_S128x128_S128x128_1_0_0_1_n_n none
      (truncf .bf16 (dgU i x3 x7 x9 x10 dy) bitsLt_bf16_f32) (hfU x4) acc0)

/-- The gradient of the inputs, in its four pieces. -/
def dxsU (i : grid0.Coords) (x4 x5 x7 x9 : Vec F S128x128 .f32) (x10 : Vec F S1x128x128 .f32)
    (x11 : Vec F S1x1x128 .f32) (x13 : Vec F S1x1x512 .f32) (dy ds : Vec F S128x512 .f32) : Vec F S128x512 .f32 :=
  View.canon ([
   ⟨r3, dxsT (hfU x5) (hfU x4) (sqU x9) (sqU x7) (lastU x11) (shapeCast S1x128 (View.ld x13 (Rect.unit (s := S1x1x512)
      ![0, 0, 384] S1x1x128.size inb_S1x1x512_S1x1x128_0_0_384)) shapeCasts_S1x1x128_S1x128) (View.ld ds r3) (View.ld dy r3)
      (ra3 i x10) (rb3 i x10) (w3 i)⟩,
   ⟨r2, dxsT (hfU x5) (hfU x4) (sqU x9) (sqU x7) (lastU x11) (shapeCast S1x128 (View.ld x13 (Rect.unit (s := S1x1x512)
      ![0, 0, 256] S1x1x128.size inb_S1x1x512_S1x1x128_0_0_256)) shapeCasts_S1x1x128_S1x128) (View.ld ds r2) (View.ld dy r2)
      (ra2 i x10) (rb2 i x10) (w2 i)⟩,
   ⟨r1, dxsT (hfU x5) (hfU x4) (sqU x9) (sqU x7) (lastU x11) (shapeCast S1x128 (View.ld x13 (Rect.unit (s := S1x1x512)
      ![0, 0, 128] S1x1x128.size inb_S1x1x512_S1x1x128_0_0_128)) shapeCasts_S1x1x128_S1x128) (View.ld ds r1) (View.ld dy r1)
      (ra1 i x10) (rb1 i x10) (w1 i)⟩,
   ⟨r0, dxsT (hfU x5) (hfU x4) (sqU x9) (sqU x7) (lastU x11) (shapeCast S1x128 (View.ld x13 (Rect.unit (s := S1x1x512)
      ![0, 0, 0] S1x1x128.size inb_S1x1x512_S1x1x128_0_0_0)) shapeCasts_S1x1x128_S1x128) (View.ld ds r0) (View.ld dy r0)
      (ra0 i x10) (rb0 i x10) (w0 i)⟩] : List (View.Piece (Elt F) S128x512 .f32))

/-- Pair 0's piece of the carried state's gradient. -/
def dsP0 (i : grid0.Coords) (x5 x9 : Vec F S128x128 .f32) (x11 : Vec F S1x1x128 .f32) (dy : Vec F S128x512 .f32)
    (dsn : FVec F S128x128 .f32) : View.Piece (Elt F) S128x512 .f32 :=
  ⟨r0, shapeCast S128x128 (dsT (hfU x5) (sqU x9) (lastU x11) dsn (View.ld dy r0) (w0 i)) shapeCasts_S128x128_S128x128⟩

/-- Pair 1's piece of the carried state's gradient. -/
def dsP1 (i : grid0.Coords) (x5 x9 : Vec F S128x128 .f32) (x11 : Vec F S1x1x128 .f32) (dy : Vec F S128x512 .f32)
    (dsn : FVec F S128x128 .f32) : View.Piece (Elt F) S128x512 .f32 :=
  ⟨r1, shapeCast S128x128 (dsT (hfU x5) (sqU x9) (lastU x11) dsn (View.ld dy r1) (w1 i)) shapeCasts_S128x128_S128x128⟩

/-- Pair 2's piece of the carried state's gradient. -/
def dsP2 (i : grid0.Coords) (x5 x9 : Vec F S128x128 .f32) (x11 : Vec F S1x1x128 .f32) (dy : Vec F S128x512 .f32)
    (dsn : FVec F S128x128 .f32) : View.Piece (Elt F) S128x512 .f32 :=
  ⟨r2, shapeCast S128x128 (dsT (hfU x5) (sqU x9) (lastU x11) dsn (View.ld dy r2) (w2 i)) shapeCasts_S128x128_S128x128⟩

/-- Pair 3's piece of the carried state's gradient. -/
def dsP3 (i : grid0.Coords) (x5 x9 : Vec F S128x128 .f32) (x11 : Vec F S1x1x128 .f32) (dy : Vec F S128x512 .f32)
    (dsn : FVec F S128x128 .f32) : View.Piece (Elt F) S128x512 .f32 :=
  ⟨r3, shapeCast S128x128 (dsT (hfU x5) (sqU x9) (lastU x11) dsn (View.ld dy r3) (w3 i)) shapeCasts_S128x128_S128x128⟩

/-- The gradient of the carried state, in its four pieces. -/
def dsU (i : grid0.Coords) (x5 x9 : Vec F S128x128 .f32) (x11 : Vec F S1x1x128 .f32) (dy ds : Vec F S128x512 .f32) :
    Vec F S128x512 .f32 :=
  View.canon [dsP3 i x5 x9 x11 dy (View.ld ds r3), dsP2 i x5 x9 x11 dy (View.ld ds r2), dsP1 i x5 x9 x11 dy (View.ld ds r1), dsP0 i x5 x9 x11 dy (View.ld ds r0)]

/-- The gradient of D: what one chunk adds. -/
def ddU (i : grid0.Coords) (x3 dy : Vec F S128x512 .f32) : FVec F S1x128 .f32 :=
  (addf (addf (addf (addf (addf (addf (addf (addf z1
    (ddA (View.ld x3 r0) (View.ld dy r0) (w0 i)))
    (ddB (View.ld x3 r0) (View.ld dy r0) (w0 i)))
    (ddA (View.ld x3 r1) (View.ld dy r1) (w1 i)))
    (ddB (View.ld x3 r1) (View.ld dy r1) (w1 i)))
    (ddA (View.ld x3 r2) (View.ld dy r2) (w2 i)))
    (ddB (View.ld x3 r2) (View.ld dy r2) (w2 i)))
    (ddA (View.ld x3 r3) (View.ld dy r3) (w3 i)))
    (ddB (View.ld x3 r3) (View.ld dy r3) (w3 i)))

/-- One chunk's part added to the running gradient of D. -/
def ddAcc (old : Vec F S1x1x128 .f32) (v : FVec F S1x128 .f32) : Vec F S1x1x128 .f32 :=
  shapeCast S1x1x128 (addf (shapeCast S1x128 old shapeCasts_S1x1x128_S1x128) v) shapeCasts_S1x128_S1x1x128

/-- One chunk's part added to the running gradient of the norm's weight. -/
def nwAcc (old : Vec F S1x1x512 .f32) (v : FVec F S1x512 .f32) : Vec F S1x1x512 .f32 :=
  shapeCast S1x1x512 (addf (shapeCast S1x512 old shapeCasts_S1x1x512_S1x512) v) shapeCasts_S1x512_S1x1x512

end Cert.KernelIdeal.U
-- ==== Proof.KernelP.lean ====
module

public import proofs.«01_k».proof.Proof.KernelU
public import proofs.«01_k».proof.Proof.Spec
public import proofs.«01_k».proof.Proof.Algebra
public import Idealize.ShloMosaic.Lib.KernelVsHost
public import Idealize.ShloMosaic.Lib.ValueLayout
public import Idealize.ShloMosaic.Lib.WordCmp
public import Idealize.ShloMosaic.Lib.Pointwise

/-! One pair of heads of the kernel body, read at an index of its slab of 128 columns. -/

@[expose] public section
noncomputable section
namespace Cert.KernelIdeal.K
open Cert.KernelIdeal Cert.KernelIdeal.Gen Cert.KernelIdeal.U Cert.Ssd
open Idealize.ShloMosaic
open scoped BigOperators

/-- Choosing by the half a lane is in. -/
theorem sel_slt {α : Type} (k : Fin 128) (a b : α) :
    Scalar.select (IntOp.cmpi .slt (BitVec.ofNat 32 k.val) 64#32) a b = if k.val < 64 then a else b := by
  have h : IntOp.cmpi .slt (BitVec.ofNat 32 k.val) 64#32 = BitVec.ofBool (decide (k.val < 64)) :=
    WordCmp.cmpi_slt_ofNat (by have := k.isLt; omega) (by omega)
  rw [h]; unfold Scalar.select; by_cases c : k.val < 64 <;> simp [c]

/-- Choosing by whether a lane is the named one. -/
theorem sel_eq {α : Type} (k H : Fin 128) (a b : α) :
    Scalar.select (IntOp.cmpi .eq (BitVec.ofNat 32 k.val) (BitVec.ofNat 32 H.val)) a b = if k = H then a else b := by
  have h : IntOp.cmpi .eq (BitVec.ofNat 32 k.val) (BitVec.ofNat 32 H.val) = BitVec.ofBool (decide (k.val = H.val)) :=
    WordCmp.cmpi_eq_ofNat (by have := k.isLt; omega) (by have := H.isLt; omega)
  rw [h]; unfold Scalar.select; by_cases c : k.val = H.val <;> simp [c, Fin.ext_iff]

/-- Choosing by the causal mask. -/
theorem sel_sge {α : Type} (l s : Fin 128) (a b : α) :
    Scalar.select (IntOp.cmpi .sge (BitVec.ofNat 32 l.val) (BitVec.ofNat 32 s.val)) a b = if s ≤ l then a else b := by
  have h : IntOp.cmpi .sge (BitVec.ofNat 32 l.val) (BitVec.ofNat 32 s.val) = BitVec.ofBool (decide (s.val ≤ l.val)) :=
    WordCmp.cmpi_sge_ofNat (by have := l.isLt; omega) (by have := s.isLt; omega)
  rw [h]; unfold Scalar.select; by_cases c : s.val ≤ l.val <;> simp [c, Fin.le_def]

/-- The column the head word names. -/
theorem colOf_apply (v : FVec Ideal S128x128 .f32) (w : BitVec 32) (H : Fin 128) (hw : w = BitVec.ofNat 32 H.val)
    (l : Fin 128) : colOf v w (ix2 l 0) = v (ix2 l H) := by
  subst hw
  simp only [colOf, z2, pointwise, List.foldl_cons, List.foldl_nil, zero_mul, zero_add, sel_eq]
  simp

/-- The entry the head word names. -/
theorem lastOf_apply (v : FVec Ideal S1x128 .f32) (w : BitVec 32) (H : Fin 128) (hw : w = BitVec.ofNat 32 H.val) :
    lastOf v w (ix2 0 0) = v (ix2 0 H) := by
  subst hw
  simp only [lastOf, z1, pointwise, List.foldl_cons, List.foldl_nil, zero_mul, zero_add, sel_eq]
  simp

/-- Two columns over the two halves of the lanes. -/
theorem sel2_apply (a b : FVec Ideal S128x1 .f32) (l k : Fin 128) :
    sel2 a b (ix2 l k) = if k.val < 64 then a (ix2 l 0) else b (ix2 l 0) := by
  simp only [sel2, lo, pointwise, List.foldl_cons, List.foldl_nil, zero_mul, zero_add, sel_slt]
  simp

/-- The sum of a block. -/
theorem tot_apply (v : FVec Ideal S128x128 .f32) (k : Fin 128) : tot v (ix2 0 k) = ∑ a, ∑ b, v (ix2 a b) := by
  simp only [tot, pointwise]

/-- Column `k` of pair `j` among the group's columns. -/
abbrev cl (j : Fin 4) (k : Fin 128) : Fin 512 := ⟨128 * j.val + k.val, by omega⟩
/-- Head `h` of group `g` among the lanes. -/
abbrev ln (g : Fin 4) (h : Fin 8) : Fin 128 := ⟨8 * g.val + h.val, by omega⟩
/-- The first head of pair `j`. -/
abbrev ha (j : Fin 4) : Fin 8 := ⟨2 * j.val, by omega⟩
/-- The second head of pair `j`. -/
abbrev hb (j : Fin 4) : Fin 8 := ⟨2 * j.val + 1, by omega⟩

/-- The head of a column of a pair. -/
theorem hd_cl (j : Fin 4) (k : Fin 128) : hd (cl j k) = if k.val < 64 then ha j else hb j := by
  apply Fin.ext
  split_ifs with h <;> simp only [hd, cl, ha, hb] <;> omega

/-- What the head words of a pair are. -/
structure Wd (g j : Fin 4) (w : BitVec 32) : Prop where
  a : w = BitVec.ofNat 32 (ln g (ha j)).val
  b : Scalar.addi w 1#32 = BitVec.ofNat 32 (ln g (hb j)).val

variable {g j : Fin 4} {w : BitVec 32} (W : Wd g j w) (p : Pt)
include W

/-- The step sizes of a pair. -/
theorem dtP_apply (dt : FVec Ideal S128x128 .f32) (hdt : ∀ l h, dt (ix2 l (ln g h)) = p.dt l h) (l k : Fin 128) :
    dtP dt w (ix2 l k) = p.dt l (hd (cl j k)) := by
  rw [dtP, sel2_apply, colOf_apply _ _ _ W.a, colOf_apply _ _ _ W.b, hdt, hdt, hd_cl]
  split_ifs <;> rfl

/-- The decay from the chunk's start. -/
theorem eP_apply (cs : FVec Ideal S128x128 .f32) (hcs : ∀ l h, cs (ix2 l (ln g h)) = p.cs l h) (l k : Fin 128) :
    eP cs w (ix2 l k) = p.e l (hd (cl j k)) := by
  rw [eP, sel2_apply, hd_cl]
  simp only [pointwise]
  rw [colOf_apply _ _ _ W.a, colOf_apply _ _ _ W.b, hcs, hcs]
  split_ifs <;> rfl

omit W in
/-- The decay to the chunk's end, of one head. -/
theorem dec1_apply (cs : FVec Ideal S128x128 .f32) (last : FVec Ideal S1x128 .f32) (w : BitVec 32) (h : Fin 8)
    (hw : w = BitVec.ofNat 32 (ln g h).val) (hcs : ∀ l h, cs (ix2 l (ln g h)) = p.cs l h)
    (hl : ∀ h, last (ix2 0 (ln g h)) = p.cs 127 h) (l : Fin 128) : dec1 cs last w (ix2 l 0) = p.dec l h := by
  simp only [dec1, pointwise]
  rw [colOf_apply _ _ _ hw, hcs]
  change Ideal.exp (lastOf last w (ix2 0 0) - p.cs l h) = _
  rw [lastOf_apply _ _ _ hw, hl]
  rfl

/-- The decay to the chunk's end, of a pair. -/
theorem decP_apply (cs : FVec Ideal S128x128 .f32) (last : FVec Ideal S1x128 .f32)
    (hcs : ∀ l h, cs (ix2 l (ln g h)) = p.cs l h) (hl : ∀ h, last (ix2 0 (ln g h)) = p.cs 127 h) (l k : Fin 128) :
    decP cs last w (ix2 l k) = p.dec l (hd (cl j k)) := by
  rw [decP, sel2_apply, dec1_apply p cs last _ _ W.a hcs hl, dec1_apply p cs last _ _ W.b hcs hl, hd_cl]
  split_ifs <;> rfl

/-- The decay over the whole chunk. -/
theorem allP_apply (last : FVec Ideal S1x128 .f32) (hl : ∀ h, last (ix2 0 (ln g h)) = p.cs 127 h) (n k : Fin 128) :
    allP last w (ix2 n k) = p.e 127 (hd (cl j k)) := by
  rw [hd_cl]
  simp only [allP, lo1, pointwise, List.foldl_cons, List.foldl_nil, zero_mul, zero_add]
  change Scalar.select (IntOp.cmpi .slt (BitVec.ofNat 32 k.val) 64#32) (Ideal.exp (lastOf last w (ix2 0 0)))
    (Ideal.exp (lastOf last (Scalar.addi w 1#32) (ix2 0 0))) = _
  rw [sel_slt, lastOf_apply _ _ _ W.a, lastOf_apply _ _ _ W.b, hl, hl]
  split_ifs <;> rfl

omit W in
/-- The masked decay of one head. -/
theorem lmT_apply (cs : FVec Ideal S128x128 .f32) (row : Vec Ideal S1x1x128 .f32) (w : BitVec 32) (h : Fin 8)
    (hw : w = BitVec.ofNat 32 (ln g h).val) (hcs : ∀ l h, cs (ix2 l (ln g h)) = p.cs l h)
    (hr : ∀ s, row (ix3 0 0 s) = p.cs s h) (l s : Fin 128) : lmT cs row w (ix2 l s) = p.lm l s h := by
  simp only [lmT, mk, lane, pointwise, List.foldl_cons, List.foldl_nil, zero_mul, zero_add]
  change Ideal.exp (Scalar.select (IntOp.cmpi .sge (BitVec.ofNat 32 l.val) (BitVec.ofNat 32 s.val))
    (colOf cs w (ix2 l 0) - row (ix3 0 0 s)) (Named.named (F := Ideal) (φ := .f32) κ "mask" 4048155338#32)) = _
  rw [sel_sge, colOf_apply _ _ _ hw, hcs, hr, show Named.named (F := Ideal) (φ := .f32) κ "mask" 4048155338#32 = (⊥ : EReal) from
    IdealRules.named_const.ideal_named_scalar _ _ _ _ rfl]
  rfl

variable (cb bb : FVec Ideal S128x128 .bf16) (cs dt : FVec Ideal S128x128 .f32) (last dl : FVec Ideal S1x128 .f32)
  (dsn dy xs prev : FVec Ideal S128x128 .f32) (ra rb : Vec Ideal S1x1x128 .f32)
  (D : Fin 128 → Fin 512 → EReal)
  (hcb : ∀ l n, cb (ix2 l n) = p.C l n) (hbb : ∀ l n, bb (ix2 l n) = p.B l n)
  (hcs : ∀ l h, cs (ix2 l (ln g h)) = p.cs l h) (hdt : ∀ l h, dt (ix2 l (ln g h)) = p.dt l h)
  (hl : ∀ h, last (ix2 0 (ln g h)) = p.cs 127 h) (hdl : ∀ k, dl (ix2 0 k) = p.D (hd (cl j k)))
  (hds : ∀ n k, dsn (ix2 n k) = D n (cl j k)) (hdy : ∀ l k, dy (ix2 l k) = p.dy l (cl j k))
  (hxs : ∀ l k, xs (ix2 l k) = p.xs l (cl j k)) (hpv : ∀ n k, prev (ix2 n k) = p.prev n (cl j k))
  (hra : ∀ s, ra (ix3 0 0 s) = p.cs s (ha j)) (hrb : ∀ s, rb (ix3 0 0 s) = p.cs s (hb j))

include hcb hcs hl hds hdy in
/-- The gradient of the carried state. -/
theorem dsT_apply (n k : Fin 128) : dsT cb cs last dsn dy w (ix2 n k) = p.ds D n (cl j k) := by
  simp only [dsT, pointwise]
  rw [allP_apply W p last hl, hds, zero_add]
  refine congrArg _ (Finset.sum_congr rfl fun l _ => ?_)
  rw [hcb, hdy, eP_apply W p cs hcs]

omit W in
include hcb hbb in
/-- The scores. -/
theorem scT_apply (l s : Fin 128) : scT cb bb (ix2 l s) = p.sc l s := by
  simp only [scT, pointwise]
  rw [zero_add]
  exact Finset.sum_congr rfl fun n _ => by rw [hcb, hbb]

omit W in
include hcb hbb hdy in
/-- The gradient through one head's masked scores. -/
theorem mT_apply (lm : FVec Ideal S128x128 .f32) (h : Fin 8) (hlm : ∀ l s, lm (ix2 l s) = p.lm l s h) (s k : Fin 128) :
    mT cb bb lm dy (ix2 s k) = ∑ l, p.sc l s * p.lm l s h * p.dy l (cl j k) := by
  simp only [mT, pointwise]
  rw [zero_add]
  exact Finset.sum_congr rfl fun l _ => by rw [scT_apply p cb bb hcb hbb, hlm, hdy]

include hcb hbb hcs hdt hl hdl hds hdy hra hrb in
/-- The gradient of the inputs. -/
theorem dxsT_apply (s k : Fin 128) :
    dxsT cb bb cs dt last dl dsn dy ra rb w (ix2 s k) = p.dxs D s (cl j k) := by
  have h1 := lmT_apply p cs ra w (ha j) W.a hcs hra
  have h2 := lmT_apply p cs rb _ (hb j) W.b hcs hrb
  simp only [dxsT, lo, lane, pointwise, List.foldl_cons, List.foldl_nil, zero_mul, zero_add, sel_slt]
  rw [mT_apply p cb bb dy hcb hbb hdy _ _ h1, mT_apply p cb bb dy hcb hbb hdy _ _ h2, hdy,
    decP_apply W p cs last hcs hl, dtP_apply W p dt hdt]
  change dl (ix2 0 k) * _ + _ = _
  rw [hdl]
  unfold Pt.dxs Pt.dxp
  congr 2
  congr 1
  · congr 1
    exact Finset.sum_congr rfl fun n _ => by rw [hbb, hds]
  · rw [hd_cl]; split_ifs <;> rfl

include hcs hdt hl hds hxs in
/-- One pair's part of the gradient of B. -/
theorem dbT_apply (s n : Fin 128) : dbT xs dt cs last dsn w (ix2 s n) =
    ∑ k, p.x s (cl j k) * p.dec s (hd (cl j k)) * D n (cl j k) := by
  simp only [dbT, pointwise]
  rw [zero_add]
  exact Finset.sum_congr rfl fun k _ => by
    rw [hxs, hds, decP_apply W p cs last hcs hl, dtP_apply W p dt hdt]; rfl

include hcs hdy hpv in
/-- One pair's part of the gradient of C. -/
theorem dcT_apply (l n : Fin 128) : dcT cs dy prev w (ix2 l n) =
    ∑ k, p.dy l (cl j k) * p.e l (hd (cl j k)) * p.prev n (cl j k) := by
  simp only [dcT, pointwise]
  rw [zero_add]
  exact Finset.sum_congr rfl fun k _ => by rw [hdy, hpv, eP_apply W p cs hcs]

omit W in
/-- A sum over the first half of a pair's lanes. -/
theorem sum_lo (f : Fin 512 → EReal) :
    ∑ k : Fin 128, (if k.val < 64 then f (cl j k) else 0) = ∑ q : Fin 64, f (col (ha j) q) := by
  refine (Fin.sum_univ_add (a := 64) (b := 64) (f := fun k : Fin (64 + 64) => if k.val < 64 then f (cl j k) else 0)).trans ?_
  have h2 : ∀ q : Fin 64, ¬ (Fin.natAdd 64 q).val < 64 := fun q => by simp
  simp only [h2, if_false, Finset.sum_const_zero, add_zero]
  refine Finset.sum_congr rfl fun q _ => ?_
  rw [if_pos (by simpa using q.isLt)]
  congr 1
  apply Fin.ext
  simp only [cl, col, ha, Fin.val_castAdd]
  omega

omit W in
/-- A sum over the second half of a pair's lanes. -/
theorem sum_hi (f : Fin 512 → EReal) :
    ∑ k : Fin 128, (if k.val < 64 then 0 else f (cl j k)) = ∑ q : Fin 64, f (col (hb j) q) := by
  refine (Fin.sum_univ_add (a := 64) (b := 64) (f := fun k : Fin (64 + 64) => if k.val < 64 then 0 else f (cl j k))).trans ?_
  have h2 : ∀ q : Fin 64, ¬ (Fin.natAdd 64 q).val < 64 := fun q => by simp
  have h1 : ∀ q : Fin 64, (Fin.castAdd 64 q).val < 64 := fun q => by simp
  simp only [h2, h1, if_false, if_true, Finset.sum_const_zero, zero_add]
  refine Finset.sum_congr rfl fun q _ => ?_
  congr 1
  apply Fin.ext
  simp only [cl, col, hb, Fin.val_natAdd]
  omega

include hcs hdt hdy hxs hra in
/-- The first head's part of the gradient of the scores. -/
theorem dgA_apply (l s : Fin 128) : dgA xs dt cs dy ra w (ix2 l s) = p.dm l s (ha j) * p.lm l s (ha j) := by
  simp only [dgA, lo, z2, lane, pointwise, List.foldl_cons, List.foldl_nil, zero_mul, zero_add]
  rw [lmT_apply p cs ra w (ha j) W.a hcs hra]
  congr 1
  refine Eq.trans (Finset.sum_congr rfl fun k _ => ?_) (sum_lo (j := j) fun k => p.dy l k * p.x s k)
  rw [sel_slt, hdy, hxs, dtP_apply W p dt hdt]
  split_ifs
  · rfl
  · first | rfl | simp

include hcs hdt hdy hxs hrb in
/-- The second head's part of the gradient of the scores. -/
theorem dgB_apply (l s : Fin 128) : dgB xs dt cs dy rb w (ix2 l s) = p.dm l s (hb j) * p.lm l s (hb j) := by
  simp only [dgB, lo, z2, lane, pointwise, List.foldl_cons, List.foldl_nil, zero_mul, zero_add]
  rw [lmT_apply p cs rb _ (hb j) W.b hcs hrb]
  congr 1
  refine Eq.trans (Finset.sum_congr rfl fun k _ => ?_) (sum_hi (j := j) fun k => p.dy l k * p.x s k)
  rw [sel_slt, hdy, hxs, dtP_apply W p dt hdt]
  split_ifs
  · first | rfl | simp
  · rfl

include hdy hxs in
/-- The first head's part of the gradient of D. -/
theorem ddA_apply (m : Fin 128) : ddA xs dy w (ix2 0 m) = if m = ln g (ha j) then p.dd (ha j) else 0 := by
  simp only [ddA, lo, z1, z2, lane, lane1, pointwise, List.foldl_cons, List.foldl_nil, zero_mul, zero_add, tot_apply, W.a]
  rw [sel_eq m (ln g (ha j))]
  refine congrArg (fun t => if m = ln g (ha j) then t else 0) (Finset.sum_congr rfl fun l _ => ?_)
  refine Eq.trans (Finset.sum_congr rfl fun k _ => ?_) (sum_lo (j := j) fun k => p.dy l k * p.xs l k)
  rw [sel_slt, hdy, hxs]

include hdy hxs in
/-- The second head's part of the gradient of D. -/
theorem ddB_apply (m : Fin 128) : ddB xs dy w (ix2 0 m) = if m = ln g (hb j) then p.dd (hb j) else 0 := by
  simp only [ddB, lo, z1, z2, lane, lane1, pointwise, List.foldl_cons, List.foldl_nil, zero_mul, zero_add, tot_apply, W.b]
  rw [sel_eq m (ln g (hb j))]
  refine congrArg (fun t => if m = ln g (hb j) then t else 0) (Finset.sum_congr rfl fun l _ => ?_)
  refine Eq.trans (Finset.sum_congr rfl fun k _ => ?_) (sum_hi (j := j) fun k => p.dy l k * p.xs l k)
  rw [sel_slt, hdy, hxs]

end Cert.KernelIdeal.K
-- ==== Proof.KernelS.lean ====
module

public import proofs.«01_k».proof.Proof.KernelP

/-! One slab of sixteen rows of the kernel body, read at an index: the norm, the gate and their gradients. -/

@[expose] public section
noncomputable section
namespace Cert.KernelIdeal.K
open Cert.KernelIdeal Cert.KernelIdeal.Gen Cert.KernelIdeal.U Cert.Ssd
open Idealize.ShloMosaic
open scoped BigOperators

variable (p : Pt) (ρ : Fin 16 → Fin 128) (ct y z : FVec Ideal S16x512 .f32) (nw : FVec Ideal S1x512 .f32)
  (hct : ∀ a k, ct (ix2 a k) = p.ct (ρ a) k) (hy : ∀ a k, y (ix2 a k) = p.y (ρ a) k)
  (hz : ∀ a k, z (ix2 a k) = p.z (ρ a) k) (hnw : ∀ k, nw (ix2 0 k) = p.nw k)

include hz in
/-- The logistic of the gate. -/
theorem sgS_apply (a : Fin 16) (k : Fin 512) : sgS z (ix2 a k) = p.sig (ρ a) k := by
  simp only [sgS, pointwise, hz, one_eq, zero_eq, zero_sub]
  rfl

include hy hz in
/-- The gated value. -/
theorem ygS_apply (a : Fin 16) (k : Fin 512) : ygS y z (ix2 a k) = p.yg (ρ a) k := by
  simp only [ygS, pointwise]
  rw [hy, hz, sgS_apply p ρ z hz]; rfl

/-- The mean over the columns. -/
theorem meanS_apply (v : FVec Ideal S16x512 .f32) (a : Fin 16) :
    meanS v (ix2 a 0) = Ideal.div (∑ k, v (ix2 a k)) n512 := by
  simp only [meanS, pointwise]
  rfl

include hy hz in
/-- The inverse root mean square. -/
theorem rsS_apply (a : Fin 16) : rsS y z (ix2 a 0) = p.rstd (ρ a) := by
  simp only [rsS, pointwise]
  rw [meanS_apply]
  unfold Pt.rstd Pt.var
  simp only [pointwise, ygS_apply p ρ y z hy hz]
  rfl

include hy hz in
/-- The normalised value. -/
theorem yhS_apply (a : Fin 16) (k : Fin 512) : yhS y z (ix2 a k) = p.yg (ρ a) k * p.rstd (ρ a) := by
  simp only [yhS, pointwise]
  rw [ygS_apply p ρ y z hy hz]
  change _ * rsS y z (ix2 a 0) = _
  rw [rsS_apply p ρ y z hy hz]

include hct hy hz in
/-- The slab's part of the gradient of the norm's weight. -/
theorem nwS_apply (k : Fin 512) : nwS ct y z (ix2 0 k) = ∑ a, p.ct (ρ a) k * (p.yg (ρ a) k * p.rstd (ρ a)) := by
  simp only [nwS, pointwise]
  exact Finset.sum_congr rfl fun a _ => by rw [hct, yhS_apply p ρ y z hy hz]

include hct hnw in
/-- The incoming gradient times the norm's weight. -/
theorem dhS_apply (a : Fin 16) (k : Fin 512) : dhS ct nw (ix2 a k) = p.dyh (ρ a) k := by
  simp only [dhS, pointwise]
  rw [hct]
  change _ * nw (ix2 0 k) = _
  rw [hnw]; rfl

include hct hy hz hnw in
/-- The gradient of the block's output before the norm and the gate. -/
theorem dyS_apply (a : Fin 16) (k : Fin 512) : dyS ct y z nw (ix2 a k) = p.dy (ρ a) k := by
  have h : meanS (mulf (dhS ct nw) (yhS y z)) (ix2 a 0) =
      Ideal.div (∑ j, p.dyh (ρ a) j * (p.yg (ρ a) j * p.rstd (ρ a))) n512 := by
    rw [meanS_apply]
    simp only [pointwise, dhS_apply p ρ ct nw hct hnw, yhS_apply p ρ y z hy hz]
  have h2 := rsS_apply p ρ y z hy hz a
  simp only [dyS, pointwise]
  rw [dhS_apply p ρ ct nw hct hnw, yhS_apply p ρ y z hy hz, hz, sgS_apply p ρ z hz]
  change rsS y z (ix2 a 0) * (_ - _ * meanS (mulf (dhS ct nw) (yhS y z)) (ix2 a 0)) * _ = _
  rw [h, h2]; rfl

end Cert.KernelIdeal.K
-- ==== Proof.KernelQ.lean ====
module

public import proofs.«01_k».proof.Proof.KernelS

/-! The kernel body on one chunk of one group: what it stores, read at an index, is the formula of the specification. -/

@[expose] public section
noncomputable section
namespace Cert.KernelIdeal.K
open Cert.KernelIdeal Cert.KernelIdeal.Gen Cert.KernelIdeal.U Cert.Ssd
open Idealize.ShloMosaic
open scoped BigOperators

/-- What the blocks of one grid point hold: the data of one chunk of one group. -/
structure Blk (p : Pt) (g : Fin 4) (x0 x1 x2 x3 : Vec Ideal S128x512 .f32) (x4 x5 : Vec Ideal S128x128 .f32)
    (x6 : Vec Ideal S1x1x128x512 .f32) (x7 x9 : Vec Ideal S128x128 .f32) (x10 : Vec Ideal S1x128x128 .f32)
    (x11 : Vec Ideal S1x1x128 .f32) (x13 x14 : Vec Ideal S1x1x512 .f32) : Prop where
  ct : ∀ l k, x0 (ix2 l k) = p.ct l k
  y : ∀ l k, x1 (ix2 l k) = p.y l k
  z : ∀ l k, x2 (ix2 l k) = p.z l k
  xs : ∀ l k, x3 (ix2 l k) = p.xs l k
  B : ∀ l n, x4 (ix2 l n) = p.B l n
  C : ∀ l n, x5 (ix2 l n) = p.C l n
  prev : ∀ n k, x6 (ix4 0 0 n k) = p.prev n k
  dt : ∀ l h, x7 (ix2 l (ln g h)) = p.dt l h
  cs : ∀ l h, x9 (ix2 l (ln g h)) = p.cs l h
  cst : ∀ s h, x10 (ix3 0 (ln g h) s) = p.cs s h
  last : ∀ h, x11 (ix3 0 0 (ln g h)) = p.cs 127 h
  D : ∀ k, x13 (ix3 0 0 k) = p.D (hd k)
  nw : ∀ k, x14 (ix3 0 0 k) = p.nw k

/-- The head words of a pair, from the group the grid point is in. -/
theorem wd_of (i0 : Nat) (g : Fin 4) (h : i0 = g.val) (j : Fin 4) :
    Wd g j (Scalar.addi (Scalar.muli (BitVec.ofNat 32 i0) 8#32) (BitVec.ofNat 32 (2 * j.val))) := by
  subst h
  constructor <;> revert g j <;> decide

/-- A rectangle's elements at their places: what a stored piece must hold to agree with a function of the place. -/
theorem piece (o1 o2 m n : Nat) (inb) (v : (⟨2, ![m, n]⟩ : Shape).Idx → EReal) (G : Fin 128 → Fin 512 → EReal)
    (h : ∀ (a : Fin m) (b : Fin n) (l : Fin 128) (k : Fin 512), l.val = o1 + a.val → k.val = o2 + b.val → v (ix2 a b) = G l k) :
    ∀ x, v x = G ((Rect.unit (s := S128x512) ![o1, o2] ![m, n] inb).emb x 0) ((Rect.unit (s := S128x512) ![o1, o2] ![m, n] inb).emb x 1) := by
  intro x
  rw [← ix2_eta x]
  exact h _ _ _ _ (Rect.idx_unit_val (s := S128x512) ![o1, o2] ![m, n] inb x 0) (Rect.idx_unit_val (s := S128x512) ![o1, o2] ![m, n] inb x 1)

/-- A load of a rectangle reads the element at its place. -/
theorem ld2 (X : Vec Ideal S128x512 .f32) (o1 o2 m n : Nat) (inb) (a : Fin m) (b : Fin n) (l : Fin 128) (k : Fin 512)
    (h1 : l.val = o1 + a.val) (h2 : k.val = o2 + b.val) :
    View.ld X (Rect.unit (s := S128x512) ![o1, o2] ![m, n] inb) (ix2 a b) = X (ix2 l k) :=
  View.ld_unit_apply_of X _ _ inb _ _ fun ax => match ax with | ⟨0, _⟩ => h1 | ⟨1, _⟩ => h2

/-- A square block as it is loaded. -/
theorem sqU_apply (x : Vec Ideal S128x128 .f32) (l n : Fin 128) : sqU x (ix2 l n) = x (ix2 l n) := by
  unfold sqU
  rw [shapeCast_apply _ _ _ (ix2 l n) rfl]
  exact View.ld_unit_apply_of x _ _ _ _ _ fun ax => match ax with | ⟨0, _⟩ => (Nat.zero_add _).symm | ⟨1, _⟩ => (Nat.zero_add _).symm

/-- A square block, rounded. -/
theorem hfU_apply (x : Vec Ideal S128x128 .f32) (l n : Fin 128) : hfU x (ix2 l n) = x (ix2 l n) := by
  show View.ld x rS (ix2 l n) = _
  exact View.ld_unit_apply_of x _ _ _ (ix2 l n) (ix2 l n) fun ax => match ax with | ⟨0, _⟩ => (Nat.zero_add _).symm | ⟨1, _⟩ => (Nat.zero_add _).symm

/-- The last row of decays. -/
theorem lastU_apply (x : Vec Ideal S1x1x128 .f32) (h : Fin 128) : lastU x (ix2 0 h) = x (ix3 0 0 h) := by
  unfold lastU
  rw [shapeCast_dropUnit_apply ![1, 128]]
  exact View.ld_unit_apply_of x _ _ _ _ _ fun ax => match ax with
    | ⟨0, _⟩ => rfl | ⟨1, _⟩ => rfl | ⟨2, _⟩ => (Nat.zero_add _).symm

/-- The norm's weights. -/
theorem nwU_apply (x : Vec Ideal S1x1x512 .f32) (k : Fin 512) : nwU x (ix2 0 k) = x (ix3 0 0 k) := by
  unfold nwU
  rw [shapeCast_dropUnit_apply ![1, 512]]
  exact View.ld_unit_apply_of x _ _ _ _ _ fun ax => match ax with
    | ⟨0, _⟩ => rfl | ⟨1, _⟩ => rfl | ⟨2, _⟩ => (Nat.zero_add _).symm

/-- A pair's columns of the lane weights. -/
theorem dl_apply (x : Vec Ideal S1x1x512 .f32) (o : Nat) (inb) (h) (k : Fin 128) (k' : Fin 512) (hk : k'.val = o + k.val) :
    (shapeCast S1x128 (View.ld x (Rect.unit (s := S1x1x512) ![0, 0, o] S1x1x128.size inb)) h : FVec Ideal S1x128 .f32) (ix2 0 k)
      = x (ix3 0 0 k') := by
  rw [shapeCast_dropUnit_apply ![1, 128]]
  exact View.ld_unit_apply_of x _ _ _ _ _ fun ax => match ax with
    | ⟨0, _⟩ => rfl | ⟨1, _⟩ => rfl | ⟨2, _⟩ => hk

/-- A pair's columns of the state before the chunk. -/
theorem pv_apply (x : Vec Ideal S1x1x128x512 .f32) (o : Nat) (inb) (h) (n k : Fin 128) (k' : Fin 512) (hk : k'.val = o + k.val) :
    (shapeCast S128x128 (View.ld x (Rect.unit (s := S1x1x128x512) ![0, 0, 0, o] S1x1x128x128.size inb)) h : FVec Ideal S128x128 .f32)
      (ix2 n k) = x (ix4 0 0 n k') := by
  simp only [pointwise]
  exact congrArg x (funext fun ax => Fin.ext (match ax with
    | ⟨0, _⟩ => rfl | ⟨1, _⟩ => rfl
    | ⟨2, _⟩ => (by show 0 + 1 * n.val = n.val; omega)
    | ⟨3, _⟩ => (by show o + 1 * k.val = k'.val; omega)))

/-- A row of the transposed decays. -/
theorem row_apply (x : Vec Ideal S1x128x128 .f32) (off : Fin 3 → Nat) (inb) (o : Fin 128) (ho : off = ![0, o.val, 0]) (s : Fin 128) :
    View.ld x (Rect.unit (s := S1x128x128) off S1x1x128.size inb) (ix3 0 0 s) = x (ix3 0 o s) := by
  subst ho
  exact View.ld_unit_apply_of x _ _ _ _ _ fun ax => match ax with
    | ⟨0, _⟩ => rfl | ⟨1, _⟩ => rfl | ⟨2, _⟩ => (Nat.zero_add _).symm

/-- A sum over a group's columns, pair by pair. -/
theorem sum_pairs (f : Fin 512 → EReal) :
    ∑ k, f k = (((0 + ∑ k, f (cl 0 k)) + ∑ k, f (cl 1 k)) + ∑ k, f (cl 2 k)) + ∑ k, f (cl 3 k) := by
  rw [zero_add]
  have e : ∑ k, f k = ∑ q : Fin 4 × Fin 128, f (cl q.1 q.2) := by
    refine (Fintype.sum_equiv (finProdFinEquiv (m := 4) (n := 128)) _ _ fun q => ?_).symm
    congr 1
    apply Fin.ext
    simp only [cl, finProdFinEquiv, Equiv.coe_fn_mk]
    omega
  rw [e, Fintype.sum_prod_type, Fin.sum_univ_four]

/-- A sum over a chunk's rows, slab by slab. -/
theorem sum_slabs (f : Fin 128 → EReal) :
    ∑ l, f l = ∑ m : Fin 8, ∑ a : Fin 16, f ⟨16 * m.val + a.val, by omega⟩ := by
  have e : ∑ l, f l = ∑ q : Fin 8 × Fin 16, f ⟨16 * q.1.val + q.2.val, by omega⟩ := by
    refine (Fintype.sum_equiv (finProdFinEquiv (m := 8) (n := 16)) _ _ fun q => ?_).symm
    congr 1
    apply Fin.ext
    simp only [finProdFinEquiv, Equiv.coe_fn_mk]
    omega
  rw [e, Fintype.sum_prod_type]

/-- Row `a` of slab `m`. -/
abbrev rw8 (m : Fin 8) (a : Fin 16) : Fin 128 := ⟨16 * m.val + a.val, by omega⟩

variable {p : Pt} {g : Fin 4} {x0 x1 x2 x3 : Vec Ideal S128x512 .f32} {x4 x5 : Vec Ideal S128x128 .f32}
    {x6 : Vec Ideal S1x1x128x512 .f32} {x7 x9 : Vec Ideal S128x128 .f32} {x10 : Vec Ideal S1x128x128 .f32}
    {x11 : Vec Ideal S1x1x128 .f32} {x13 x14 : Vec Ideal S1x1x512 .f32}
    (H : Blk p g x0 x1 x2 x3 x4 x5 x6 x7 x9 x10 x11 x13 x14)
include H

/-- A slab of the gradient before the gate. -/
theorem dyQ (m : Fin 8) (inb) (h h') (a : Fin 16) (k : Fin 512) :
    (shapeCast S16x512 (dyS (View.ld x0 (Rect.unit (s := S128x512) ![16 * m.val, 0] S16x512.size inb))
      (shapeCast S16x512 (View.ld x1 (Rect.unit (s := S128x512) ![16 * m.val, 0] S16x512.size inb)) h)
      (shapeCast S16x512 (View.ld x2 (Rect.unit (s := S128x512) ![16 * m.val, 0] S16x512.size inb)) h) (nwU x14)) h' :
        FVec Ideal S16x512 .f32) (ix2 a k) = p.dy (rw8 m a) k := by
  rw [shapeCast_apply _ _ _ (ix2 a k) rfl]
  refine dyS_apply p (rw8 m) _ _ _ _ ?_ ?_ ?_ ?_ a k
  · intro a k; exact (ld2 x0 _ _ _ _ inb a k (rw8 m a) k rfl (Nat.zero_add _).symm).trans (H.ct _ _)
  · intro a k; rw [shapeCast_apply _ _ _ (ix2 a k) rfl]
    exact (ld2 x1 _ _ _ _ inb a k (rw8 m a) k rfl (Nat.zero_add _).symm).trans (H.y _ _)
  · intro a k; rw [shapeCast_apply _ _ _ (ix2 a k) rfl]
    exact (ld2 x2 _ _ _ _ inb a k (rw8 m a) k rfl (Nat.zero_add _).symm).trans (H.z _ _)
  · intro k; rw [nwU_apply]; exact H.nw k

/-- A slab's part of the gradient of the norm's weight. -/
theorem nwQ (m : Fin 8) (inb) (h) (k : Fin 512) :
    nwS (F := Ideal) (View.ld x0 (Rect.unit (s := S128x512) ![16 * m.val, 0] S16x512.size inb))
      (shapeCast S16x512 (View.ld x1 (Rect.unit (s := S128x512) ![16 * m.val, 0] S16x512.size inb)) h)
      (shapeCast S16x512 (View.ld x2 (Rect.unit (s := S128x512) ![16 * m.val, 0] S16x512.size inb)) h) (ix2 0 k) =
      ∑ a, p.ct (rw8 m a) k * (p.yg (rw8 m a) k * p.rstd (rw8 m a)) := by
  refine nwS_apply p (rw8 m) _ _ _ ?_ ?_ ?_ k
  · intro a k; exact (ld2 x0 _ _ _ _ inb a k (rw8 m a) k rfl (Nat.zero_add _).symm).trans (H.ct _ _)
  · intro a k; rw [shapeCast_apply _ _ _ (ix2 a k) rfl]
    exact (ld2 x1 _ _ _ _ inb a k (rw8 m a) k rfl (Nat.zero_add _).symm).trans (H.y _ _)
  · intro a k; rw [shapeCast_apply _ _ _ (ix2 a k) rfl]
    exact (ld2 x2 _ _ _ _ inb a k (rw8 m a) k rfl (Nat.zero_add _).symm).trans (H.z _ _)

/-- What a chunk adds to the gradient of the norm's weight. -/
theorem nwsU_apply (k : Fin 512) : nwsU x0 x1 x2 (ix2 0 k) = p.dnw k := by
  simp only [nwsU, pointwise]
  unfold Pt.dnw
  rw [sum_slabs, Fin.sum_univ_eight]
  exact (congrArg₂ (· + ·) (congrArg₂ (· + ·) (congrArg₂ (· + ·) (congrArg₂ (· + ·) (congrArg₂ (· + ·) (congrArg₂ (· + ·) (congrArg₂ (· + ·) ((zero_add _).trans (nwQ H 0 inb_S128x512_S16x512_0_0 _ k))
    (nwQ H 1 inb_S128x512_S16x512_16_0 _ k))
    (nwQ H 2 inb_S128x512_S16x512_32_0 _ k))
    (nwQ H 3 inb_S128x512_S16x512_48_0 _ k))
    (nwQ H 4 inb_S128x512_S16x512_64_0 _ k))
    (nwQ H 5 inb_S128x512_S16x512_80_0 _ k))
    (nwQ H 6 inb_S128x512_S16x512_96_0 _ k))
    (nwQ H 7 inb_S128x512_S16x512_112_0 _ k))

/-- The gradient before the gate. -/
theorem dyU_apply (l : Fin 128) (k : Fin 512) : dyU x0 x1 x2 x14 (ix2 l k) = p.dy l k := by
  unfold dyU dyL
  refine View.canon_apply_of_pieces (Val := Elt Ideal) (S := S128x512) (e := .f32) (fun y => p.dy (y 0) (y 1)) _ ?_ (ix2 l k) ?_
  · intro q hq
    simp only [List.mem_cons, List.not_mem_nil, or_false] at hq
    rcases hq with h | h | h | h | h | h | h | h <;> subst h
    · exact piece 112 0 16 512 inb_S128x512_S16x512_112_0 _ p.dy fun a b l k h1 h2 => (dyQ H 7 inb_S128x512_S16x512_112_0 _ _ a b).trans (congrArg₂ p.dy (Fin.ext h1.symm) (Fin.ext (by omega)))
    · exact piece 96 0 16 512 inb_S128x512_S16x512_96_0 _ p.dy fun a b l k h1 h2 => (dyQ H 6 inb_S128x512_S16x512_96_0 _ _ a b).trans (congrArg₂ p.dy (Fin.ext h1.symm) (Fin.ext (by omega)))
    · exact piece 80 0 16 512 inb_S128x512_S16x512_80_0 _ p.dy fun a b l k h1 h2 => (dyQ H 5 inb_S128x512_S16x512_80_0 _ _ a b).trans (congrArg₂ p.dy (Fin.ext h1.symm) (Fin.ext (by omega)))
    · exact piece 64 0 16 512 inb_S128x512_S16x512_64_0 _ p.dy fun a b l k h1 h2 => (dyQ H 4 inb_S128x512_S16x512_64_0 _ _ a b).trans (congrArg₂ p.dy (Fin.ext h1.symm) (Fin.ext (by omega)))
    · exact piece 48 0 16 512 inb_S128x512_S16x512_48_0 _ p.dy fun a b l k h1 h2 => (dyQ H 3 inb_S128x512_S16x512_48_0 _ _ a b).trans (congrArg₂ p.dy (Fin.ext h1.symm) (Fin.ext (by omega)))
    · exact piece 32 0 16 512 inb_S128x512_S16x512_32_0 _ p.dy fun a b l k h1 h2 => (dyQ H 2 inb_S128x512_S16x512_32_0 _ _ a b).trans (congrArg₂ p.dy (Fin.ext h1.symm) (Fin.ext (by omega)))
    · exact piece 16 0 16 512 inb_S128x512_S16x512_16_0 _ p.dy fun a b l k h1 h2 => (dyQ H 1 inb_S128x512_S16x512_16_0 _ _ a b).trans (congrArg₂ p.dy (Fin.ext h1.symm) (Fin.ext (by omega)))
    · exact piece 0 0 16 512 inb_S128x512_S16x512_0_0 _ p.dy fun a b l k h1 h2 => (dyQ H 0 inb_S128x512_S16x512_0_0 _ _ a b).trans (congrArg₂ p.dy (Fin.ext h1.symm) (Fin.ext (by omega)))
  · have hl := l.isLt
    have hk := k.isLt
    have key : ∀ (o : Nat) (inb), o ≤ l.val → l.val < o + 16 →
        ix2 l k ∈ (Rect.unit (s := S128x512) ![o, 0] S16x512.size inb).set := by
      intro o inb ha hb
      rw [Rect.mem_set_unit]
      exact fun a => match a with
        | ⟨0, _⟩ => ⟨ha, hb⟩
        | ⟨1, _⟩ => ⟨Nat.zero_le _, by show k.val < 0 + 512; omega⟩
    have c : l.val / 16 = 0 ∨ l.val / 16 = 1 ∨ l.val / 16 = 2 ∨ l.val / 16 = 3 ∨ l.val / 16 = 4 ∨ l.val / 16 = 5 ∨
        l.val / 16 = 6 ∨ l.val / 16 = 7 := by omega
    rcases c with c | c | c | c | c | c | c | c
    · exact ⟨_, (.tail _ (.tail _ (.tail _ (.tail _ (.tail _ (.tail _ (.tail _ (.head _)))))))), key 0 inb_S128x512_S16x512_0_0 (by omega) (by omega)⟩
    · exact ⟨_, (.tail _ (.tail _ (.tail _ (.tail _ (.tail _ (.tail _ (.head _))))))), key 16 inb_S128x512_S16x512_16_0 (by omega) (by omega)⟩
    · exact ⟨_, (.tail _ (.tail _ (.tail _ (.tail _ (.tail _ (.head _)))))), key 32 inb_S128x512_S16x512_32_0 (by omega) (by omega)⟩
    · exact ⟨_, (.tail _ (.tail _ (.tail _ (.tail _ (.head _))))), key 48 inb_S128x512_S16x512_48_0 (by omega) (by omega)⟩
    · exact ⟨_, (.tail _ (.tail _ (.tail _ (.head _)))), key 64 inb_S128x512_S16x512_64_0 (by omega) (by omega)⟩
    · exact ⟨_, (.tail _ (.tail _ (.head _))), key 80 inb_S128x512_S16x512_80_0 (by omega) (by omega)⟩
    · exact ⟨_, (.tail _ (.head _)), key 96 inb_S128x512_S16x512_96_0 (by omega) (by omega)⟩
    · exact ⟨_, (.head _), key 112 inb_S128x512_S16x512_112_0 (by omega) (by omega)⟩

end Cert.KernelIdeal.K
-- ==== Proof.KernelV.lean ====
module

public import proofs.«01_k».proof.Proof.KernelQ

/-! The pairs of heads of one chunk put together. -/

@[expose] public section
noncomputable section
namespace Cert.KernelIdeal.K
open Cert.KernelIdeal Cert.KernelIdeal.Gen Cert.KernelIdeal.U Cert.Ssd
open Idealize.ShloMosaic
open scoped BigOperators

variable {p : Pt} {g : Fin 4} {x0 x1 x2 x3 : Vec Ideal S128x512 .f32} {x4 x5 : Vec Ideal S128x128 .f32}
    {x6 : Vec Ideal S1x1x128x512 .f32} {x7 x9 : Vec Ideal S128x128 .f32} {x10 : Vec Ideal S1x128x128 .f32}
    {x11 : Vec Ideal S1x1x128 .f32} {x13 x14 : Vec Ideal S1x1x512 .f32}
    (H : Blk p g x0 x1 x2 x3 x4 x5 x6 x7 x9 x10 x11 x13 x14) (i : grid0.Coords) (hi : (i 0).val = g.val)
    (dy ds : Vec Ideal S128x512 .f32) (D : Fin 128 → Fin 512 → EReal)
    (hdy : ∀ l k, dy (ix2 l k) = p.dy l k) (hds : ∀ n k, ds (ix2 n k) = D n k)
include H

/-- The rounded block of C. -/
theorem hC (l n : Fin 128) : hfU x5 (ix2 l n) = p.C l n := (hfU_apply x5 l n).trans (H.C l n)
/-- The rounded block of B. -/
theorem hB (l n : Fin 128) : hfU x4 (ix2 l n) = p.B l n := (hfU_apply x4 l n).trans (H.B l n)
/-- The summed decays. -/
theorem hcs (l : Fin 128) (h : Fin 8) : sqU x9 (ix2 l (ln g h)) = p.cs l h := (sqU_apply x9 l _).trans (H.cs l h)
/-- The step sizes. -/
theorem hdt (l : Fin 128) (h : Fin 8) : sqU x7 (ix2 l (ln g h)) = p.dt l h := (sqU_apply x7 l _).trans (H.dt l h)
/-- The last row of decays. -/
theorem hla (h : Fin 8) : lastU x11 (ix2 0 (ln g h)) = p.cs 127 h := (lastU_apply x11 _).trans (H.last h)

omit H in
include hi in
/-- The head words of pair 0. -/
theorem W0 : Wd g 0 (w0 i) := wd_of _ g hi 0
include hi in
/-- The decays of the first head of pair 0. -/
theorem hra0 (s : Fin 128) : ra0 i x10 (ix3 0 0 s) = p.cs s (ha 0) :=
  (row_apply x10 _ _ (ln g (ha 0)) ((k0_off1_eq i 0).trans (by rw [hi])) s).trans (H.cst s (ha 0))
include hi in
/-- The decays of the second head of pair 0. -/
theorem hrb0 (s : Fin 128) : rb0 i x10 (ix3 0 0 s) = p.cs s (hb 0) :=
  (row_apply x10 _ _ (ln g (hb 0)) ((k0_off2_eq i 0).trans (by rw [hi]; rfl)) s).trans (H.cst s (hb 0))
omit H in
include hds in
/-- Pair 0's columns of the carried gradient. -/
theorem hds0 (n k : Fin 128) : View.ld ds r0 (ix2 n k) = D n (cl 0 k) :=
  (ld2 ds 0 0 128 128 _ n k n (cl 0 k) (Nat.zero_add _).symm rfl).trans (hds _ _)
omit H in
include hdy in
/-- Pair 0's columns of the gradient before the gate. -/
theorem hdy0 (l k : Fin 128) : View.ld dy r0 (ix2 l k) = p.dy l (cl 0 k) :=
  (ld2 dy 0 0 128 128 _ l k l (cl 0 k) (Nat.zero_add _).symm rfl).trans (hdy _ _)
/-- Pair 0's columns of the inputs. -/
theorem hxs0 (l k : Fin 128) : View.ld x3 r0 (ix2 l k) = p.xs l (cl 0 k) :=
  (ld2 x3 0 0 128 128 _ l k l (cl 0 k) (Nat.zero_add _).symm rfl).trans (H.xs _ _)

omit H in
include hi in
/-- The head words of pair 1. -/
theorem W1 : Wd g 1 (w1 i) := wd_of _ g hi 1
include hi in
/-- The decays of the first head of pair 1. -/
theorem hra1 (s : Fin 128) : ra1 i x10 (ix3 0 0 s) = p.cs s (ha 1) :=
  (row_apply x10 _ _ (ln g (ha 1)) ((k0_off1_eq i 1).trans (by rw [hi])) s).trans (H.cst s (ha 1))
include hi in
/-- The decays of the second head of pair 1. -/
theorem hrb1 (s : Fin 128) : rb1 i x10 (ix3 0 0 s) = p.cs s (hb 1) :=
  (row_apply x10 _ _ (ln g (hb 1)) ((k0_off2_eq i 1).trans (by rw [hi]; rfl)) s).trans (H.cst s (hb 1))
omit H in
include hds in
/-- Pair 1's columns of the carried gradient. -/
theorem hds1 (n k : Fin 128) : View.ld ds r1 (ix2 n k) = D n (cl 1 k) :=
  (ld2 ds 0 128 128 128 _ n k n (cl 1 k) (Nat.zero_add _).symm rfl).trans (hds _ _)
omit H in
include hdy in
/-- Pair 1's columns of the gradient before the gate. -/
theorem hdy1 (l k : Fin 128) : View.ld dy r1 (ix2 l k) = p.dy l (cl 1 k) :=
  (ld2 dy 0 128 128 128 _ l k l (cl 1 k) (Nat.zero_add _).symm rfl).trans (hdy _ _)
/-- Pair 1's columns of the inputs. -/
theorem hxs1 (l k : Fin 128) : View.ld x3 r1 (ix2 l k) = p.xs l (cl 1 k) :=
  (ld2 x3 0 128 128 128 _ l k l (cl 1 k) (Nat.zero_add _).symm rfl).trans (H.xs _ _)

omit H in
include hi in
/-- The head words of pair 2. -/
theorem W2 : Wd g 2 (w2 i) := wd_of _ g hi 2
include hi in
/-- The decays of the first head of pair 2. -/
theorem hra2 (s : Fin 128) : ra2 i x10 (ix3 0 0 s) = p.cs s (ha 2) :=
  (row_apply x10 _ _ (ln g (ha 2)) ((k0_off1_eq i 2).trans (by rw [hi])) s).trans (H.cst s (ha 2))
include hi in
/-- The decays of the second head of pair 2. -/
theorem hrb2 (s : Fin 128) : rb2 i x10 (ix3 0 0 s) = p.cs s (hb 2) :=
  (row_apply x10 _ _ (ln g (hb 2)) ((k0_off2_eq i 2).trans (by rw [hi]; rfl)) s).trans (H.cst s (hb 2))
omit H in
include hds in
/-- Pair 2's columns of the carried gradient. -/
theorem hds2 (n k : Fin 128) : View.ld ds r2 (ix2 n k) = D n (cl 2 k) :=
  (ld2 ds 0 256 128 128 _ n k n (cl 2 k) (Nat.zero_add _).symm rfl).trans (hds _ _)
omit H in
include hdy in
/-- Pair 2's columns of the gradient before the gate. -/
theorem hdy2 (l k : Fin 128) : View.ld dy r2 (ix2 l k) = p.dy l (cl 2 k) :=
  (ld2 dy 0 256 128 128 _ l k l (cl 2 k) (Nat.zero_add _).symm rfl).trans (hdy _ _)
/-- Pair 2's columns of the inputs. -/
theorem hxs2 (l k : Fin 128) : View.ld x3 r2 (ix2 l k) = p.xs l (cl 2 k) :=
  (ld2 x3 0 256 128 128 _ l k l (cl 2 k) (Nat.zero_add _).symm rfl).trans (H.xs _ _)

omit H in
include hi in
/-- The head words of pair 3. -/
theorem W3 : Wd g 3 (w3 i) := wd_of _ g hi 3
include hi in
/-- The decays of the first head of pair 3. -/
theorem hra3 (s : Fin 128) : ra3 i x10 (ix3 0 0 s) = p.cs s (ha 3) :=
  (row_apply x10 _ _ (ln g (ha 3)) ((k0_off1_eq i 3).trans (by rw [hi])) s).trans (H.cst s (ha 3))
include hi in
/-- The decays of the second head of pair 3. -/
theorem hrb3 (s : Fin 128) : rb3 i x10 (ix3 0 0 s) = p.cs s (hb 3) :=
  (row_apply x10 _ _ (ln g (hb 3)) ((k0_off2_eq i 3).trans (by rw [hi]; rfl)) s).trans (H.cst s (hb 3))
omit H in
include hds in
/-- Pair 3's columns of the carried gradient. -/
theorem hds3 (n k : Fin 128) : View.ld ds r3 (ix2 n k) = D n (cl 3 k) :=
  (ld2 ds 0 384 128 128 _ n k n (cl 3 k) (Nat.zero_add _).symm rfl).trans (hds _ _)
omit H in
include hdy in
/-- Pair 3's columns of the gradient before the gate. -/
theorem hdy3 (l k : Fin 128) : View.ld dy r3 (ix2 l k) = p.dy l (cl 3 k) :=
  (ld2 dy 0 384 128 128 _ l k l (cl 3 k) (Nat.zero_add _).symm rfl).trans (hdy _ _)
/-- Pair 3's columns of the inputs. -/
theorem hxs3 (l k : Fin 128) : View.ld x3 r3 (ix2 l k) = p.xs l (cl 3 k) :=
  (ld2 x3 0 384 128 128 _ l k l (cl 3 k) (Nat.zero_add _).symm rfl).trans (H.xs _ _)

include hi hdy in
/-- The gradient of the scores. -/
theorem dgU_apply (l s : Fin 128) : dgU i x3 x7 x9 x10 dy (ix2 l s) = p.dg l s := by
  simp only [dgU, z2, pointwise]
  unfold Pt.dg
  rw [Fin.sum_univ_eight]
  exact (congrArg₂ (· + ·) (congrArg₂ (· + ·) (congrArg₂ (· + ·) (congrArg₂ (· + ·) (congrArg₂ (· + ·) (congrArg₂ (· + ·) (congrArg₂ (· + ·) ((zero_add _).trans (dgA_apply (W0 i hi) p _ _ _ _ _ (hcs H) (hdt H) (hdy0 dy hdy) (hxs0 H) (hra0 H i hi) l s))
    (dgB_apply (W0 i hi) p _ _ _ _ _ (hcs H) (hdt H) (hdy0 dy hdy) (hxs0 H) (hrb0 H i hi) l s))
    (dgA_apply (W1 i hi) p _ _ _ _ _ (hcs H) (hdt H) (hdy1 dy hdy) (hxs1 H) (hra1 H i hi) l s))
    (dgB_apply (W1 i hi) p _ _ _ _ _ (hcs H) (hdt H) (hdy1 dy hdy) (hxs1 H) (hrb1 H i hi) l s))
    (dgA_apply (W2 i hi) p _ _ _ _ _ (hcs H) (hdt H) (hdy2 dy hdy) (hxs2 H) (hra2 H i hi) l s))
    (dgB_apply (W2 i hi) p _ _ _ _ _ (hcs H) (hdt H) (hdy2 dy hdy) (hxs2 H) (hrb2 H i hi) l s))
    (dgA_apply (W3 i hi) p _ _ _ _ _ (hcs H) (hdt H) (hdy3 dy hdy) (hxs3 H) (hra3 H i hi) l s))
    (dgB_apply (W3 i hi) p _ _ _ _ _ (hcs H) (hdt H) (hdy3 dy hdy) (hxs3 H) (hrb3 H i hi) l s))

include hi hdy hds in
/-- The gradient of B. -/
theorem dbU_apply (s n : Fin 128) : dbU i x3 x5 x7 x9 x10 x11 dy ds (ix2 s n) = p.db D s n := by
  simp only [dbU, z2, pointwise]
  unfold Pt.db
  rw [sum_pairs]
  refine congrArg₂ (· + ·) (congrArg₂ (· + ·) (congrArg₂ (· + ·) (congrArg₂ (· + ·) (congrArg₂ (· + ·) rfl
    (dbT_apply (W0 i hi) p _ _ _ _ _ D (hcs H) (hdt H) (hla H) (hds0 ds D hds) (hxs0 H) s n))
    (dbT_apply (W1 i hi) p _ _ _ _ _ D (hcs H) (hdt H) (hla H) (hds1 ds D hds) (hxs1 H) s n))
    (dbT_apply (W2 i hi) p _ _ _ _ _ D (hcs H) (hdt H) (hla H) (hds2 ds D hds) (hxs2 H) s n))
    (dbT_apply (W3 i hi) p _ _ _ _ _ D (hcs H) (hdt H) (hla H) (hds3 ds D hds) (hxs3 H) s n)) ?_
  rw [zero_add]
  exact Finset.sum_congr rfl fun l _ => by rw [dgU_apply H i hi dy hdy, hC H]

include hi hdy in
/-- The gradient of C. -/
theorem dcU_apply (l n : Fin 128) : dcU i x3 x4 x6 x7 x9 x10 dy (ix2 l n) = p.dc l n := by
  simp only [dcU, z2, pointwise]
  unfold Pt.dc
  rw [sum_pairs]
  refine congrArg₂ (· + ·) (congrArg₂ (· + ·) (congrArg₂ (· + ·) (congrArg₂ (· + ·) (congrArg₂ (· + ·) rfl
    (dcT_apply (W0 i hi) p _ _ _ (hcs H) (hdy0 dy hdy) (fun n k => (pv_apply x6 0 _ _ n k (cl 0 k) rfl).trans (H.prev n _)) l n))
    (dcT_apply (W1 i hi) p _ _ _ (hcs H) (hdy1 dy hdy) (fun n k => (pv_apply x6 128 _ _ n k (cl 1 k) rfl).trans (H.prev n _)) l n))
    (dcT_apply (W2 i hi) p _ _ _ (hcs H) (hdy2 dy hdy) (fun n k => (pv_apply x6 256 _ _ n k (cl 2 k) rfl).trans (H.prev n _)) l n))
    (dcT_apply (W3 i hi) p _ _ _ (hcs H) (hdy3 dy hdy) (fun n k => (pv_apply x6 384 _ _ n k (cl 3 k) rfl).trans (H.prev n _)) l n)) ?_
  rw [zero_add]
  exact Finset.sum_congr rfl fun s _ => by rw [dgU_apply H i hi dy hdy, hB H]

/-- Which columns a pair's slab holds. -/
theorem mem_cols (l : Fin 128) (k : Fin 512) (o : Nat) (inb) (ha : o ≤ k.val) (hb : k.val < o + 128) :
    ix2 l k ∈ (Rect.unit (s := S128x512) ![0, o] S128x128.size inb).set := by
  rw [Rect.mem_set_unit]
  exact fun a => match a with
    | ⟨0, _⟩ => ⟨Nat.zero_le _, by show l.val < 0 + 128; omega⟩
    | ⟨1, _⟩ => ⟨ha, hb⟩

include hi hdy hds in
/-- The gradient of the inputs. -/
theorem dxsU_apply (s : Fin 128) (k : Fin 512) : dxsU i x4 x5 x7 x9 x10 x11 x13 dy ds (ix2 s k) = p.dxs D s k := by
  unfold dxsU
  refine View.canon_apply_of_pieces (Val := Elt Ideal) (S := S128x512) (e := .f32) (fun y => p.dxs D (y 0) (y 1)) _ ?_ (ix2 s k) ?_
  · intro q hq
    simp only [List.mem_cons, List.not_mem_nil, or_false] at hq
    rcases hq with h | h | h | h <;> subst h
    · exact piece 0 384 128 128 inb_S128x512_S128x128_0_384 _ (p.dxs D) fun a b l k h1 h2 => (dxsT_apply (W3 i hi) p _ _ _ _ _ _ _ _ _ _ D
        (hC H) (hB H) (hcs H) (hdt H) (hla H) (fun k => (dl_apply x13 384 _ _ k (cl 3 k) rfl).trans (H.D _)) (hds3 ds D hds) (hdy3 dy hdy)
        (hra3 H i hi) (hrb3 H i hi) a b).trans (congrArg₂ (p.dxs D) (Fin.ext (by omega)) (Fin.ext h2.symm))
    · exact piece 0 256 128 128 inb_S128x512_S128x128_0_256 _ (p.dxs D) fun a b l k h1 h2 => (dxsT_apply (W2 i hi) p _ _ _ _ _ _ _ _ _ _ D
        (hC H) (hB H) (hcs H) (hdt H) (hla H) (fun k => (dl_apply x13 256 _ _ k (cl 2 k) rfl).trans (H.D _)) (hds2 ds D hds) (hdy2 dy hdy)
        (hra2 H i hi) (hrb2 H i hi) a b).trans (congrArg₂ (p.dxs D) (Fin.ext (by omega)) (Fin.ext h2.symm))
    · exact piece 0 128 128 128 inb_S128x512_S128x128_0_128 _ (p.dxs D) fun a b l k h1 h2 => (dxsT_apply (W1 i hi) p _ _ _ _ _ _ _ _ _ _ D
        (hC H) (hB H) (hcs H) (hdt H) (hla H) (fun k => (dl_apply x13 128 _ _ k (cl 1 k) rfl).trans (H.D _)) (hds1 ds D hds) (hdy1 dy hdy)
        (hra1 H i hi) (hrb1 H i hi) a b).trans (congrArg₂ (p.dxs D) (Fin.ext (by omega)) (Fin.ext h2.symm))
    · exact piece 0 0 128 128 inb_S128x512_S128x128_0_0 _ (p.dxs D) fun a b l k h1 h2 => (dxsT_apply (W0 i hi) p _ _ _ _ _ _ _ _ _ _ D
        (hC H) (hB H) (hcs H) (hdt H) (hla H) (fun k => (dl_apply x13 0 _ _ k (cl 0 k) rfl).trans (H.D _)) (hds0 ds D hds) (hdy0 dy hdy)
        (hra0 H i hi) (hrb0 H i hi) a b).trans (congrArg₂ (p.dxs D) (Fin.ext (by omega)) (Fin.ext h2.symm))
  · have hk := k.isLt
    have c : k.val / 128 = 0 ∨ k.val / 128 = 1 ∨ k.val / 128 = 2 ∨ k.val / 128 = 3 := by omega
    rcases c with c | c | c | c
    · exact ⟨_, (.tail _ (.tail _ (.tail _ (.head _)))), mem_cols H s k 0 inb_S128x512_S128x128_0_0 (by omega) (by omega)⟩
    · exact ⟨_, (.tail _ (.tail _ (.head _))), mem_cols H s k 128 inb_S128x512_S128x128_0_128 (by omega) (by omega)⟩
    · exact ⟨_, (.tail _ (.head _)), mem_cols H s k 256 inb_S128x512_S128x128_0_256 (by omega) (by omega)⟩
    · exact ⟨_, (.head _), mem_cols H s k 384 inb_S128x512_S128x128_0_384 (by omega) (by omega)⟩

include hi hdy hds in
/-- The gradient of the carried state. -/
theorem dsU_apply (n : Fin 128) (k : Fin 512) : dsU i x5 x9 x11 dy ds (ix2 n k) = p.ds D n k := by
  unfold dsU dsP0 dsP1 dsP2 dsP3
  refine View.canon_apply_of_pieces (Val := Elt Ideal) (S := S128x512) (e := .f32) (fun y => p.ds D (y 0) (y 1)) _ ?_ (ix2 n k) ?_
  · intro q hq
    simp only [List.mem_cons, List.not_mem_nil, or_false] at hq
    rcases hq with h | h | h | h <;> subst h
    · exact piece 0 384 128 128 inb_S128x512_S128x128_0_384 _ (p.ds D) fun a b l k h1 h2 => (shapeCast_apply _ _ _ (ix2 a b) rfl).trans
        ((dsT_apply (W3 i hi) p _ _ _ _ _ D (hC H) (hcs H) (hla H) (hds3 ds D hds) (hdy3 dy hdy) a b).trans
          (congrArg₂ (p.ds D) (Fin.ext (by omega)) (Fin.ext h2.symm)))
    · exact piece 0 256 128 128 inb_S128x512_S128x128_0_256 _ (p.ds D) fun a b l k h1 h2 => (shapeCast_apply _ _ _ (ix2 a b) rfl).trans
        ((dsT_apply (W2 i hi) p _ _ _ _ _ D (hC H) (hcs H) (hla H) (hds2 ds D hds) (hdy2 dy hdy) a b).trans
          (congrArg₂ (p.ds D) (Fin.ext (by omega)) (Fin.ext h2.symm)))
    · exact piece 0 128 128 128 inb_S128x512_S128x128_0_128 _ (p.ds D) fun a b l k h1 h2 => (shapeCast_apply _ _ _ (ix2 a b) rfl).trans
        ((dsT_apply (W1 i hi) p _ _ _ _ _ D (hC H) (hcs H) (hla H) (hds1 ds D hds) (hdy1 dy hdy) a b).trans
          (congrArg₂ (p.ds D) (Fin.ext (by omega)) (Fin.ext h2.symm)))
    · exact piece 0 0 128 128 inb_S128x512_S128x128_0_0 _ (p.ds D) fun a b l k h1 h2 => (shapeCast_apply _ _ _ (ix2 a b) rfl).trans
        ((dsT_apply (W0 i hi) p _ _ _ _ _ D (hC H) (hcs H) (hla H) (hds0 ds D hds) (hdy0 dy hdy) a b).trans
          (congrArg₂ (p.ds D) (Fin.ext (by omega)) (Fin.ext h2.symm)))
  · have hk := k.isLt
    have c : k.val / 128 = 0 ∨ k.val / 128 = 1 ∨ k.val / 128 = 2 ∨ k.val / 128 = 3 := by omega
    rcases c with c | c | c | c
    · exact ⟨_, (.tail _ (.tail _ (.tail _ (.head _)))), mem_cols H n k 0 inb_S128x512_S128x128_0_0 (by omega) (by omega)⟩
    · exact ⟨_, (.tail _ (.tail _ (.head _))), mem_cols H n k 128 inb_S128x512_S128x128_0_128 (by omega) (by omega)⟩
    · exact ⟨_, (.tail _ (.head _)), mem_cols H n k 256 inb_S128x512_S128x128_0_256 (by omega) (by omega)⟩
    · exact ⟨_, (.head _), mem_cols H n k 384 inb_S128x512_S128x128_0_384 (by omega) (by omega)⟩

include hi hdy in
/-- What a chunk adds to the gradient of D. -/
theorem ddU_apply (m : Fin 128) : ddU i x3 dy (ix2 0 m) =
    if hj : 8 * g.val ≤ m.val ∧ m.val < 8 * g.val + 8 then p.dd ⟨m.val - 8 * g.val, by omega⟩ else 0 := by
  have e : ddU i x3 dy (ix2 0 m) = ∑ h : Fin 8, if m = ln g h then p.dd h else 0 := by
    simp only [ddU, z1, pointwise]
    rw [Fin.sum_univ_eight]
    exact (congrArg₂ (· + ·) (congrArg₂ (· + ·) (congrArg₂ (· + ·) (congrArg₂ (· + ·) (congrArg₂ (· + ·) (congrArg₂ (· + ·) (congrArg₂ (· + ·) ((zero_add _).trans (ddA_apply (W0 i hi) p _ _ (hdy0 dy hdy) (hxs0 H) m))
    (ddB_apply (W0 i hi) p _ _ (hdy0 dy hdy) (hxs0 H) m))
    (ddA_apply (W1 i hi) p _ _ (hdy1 dy hdy) (hxs1 H) m))
    (ddB_apply (W1 i hi) p _ _ (hdy1 dy hdy) (hxs1 H) m))
    (ddA_apply (W2 i hi) p _ _ (hdy2 dy hdy) (hxs2 H) m))
    (ddB_apply (W2 i hi) p _ _ (hdy2 dy hdy) (hxs2 H) m))
    (ddA_apply (W3 i hi) p _ _ (hdy3 dy hdy) (hxs3 H) m))
    (ddB_apply (W3 i hi) p _ _ (hdy3 dy hdy) (hxs3 H) m))
  rw [e]
  split_ifs with c
  · rw [Finset.sum_eq_single ⟨m.val - 8 * g.val, by omega⟩]
    · rw [if_pos (Fin.ext (by show m.val = 8 * g.val + (m.val - 8 * g.val); omega))]
    · intro b _ hb
      rw [if_neg]
      intro h
      apply hb
      apply Fin.ext
      have : m.val = 8 * g.val + b.val := congrArg Fin.val h
      show b.val = m.val - 8 * g.val
      omega
    · intro h; exact absurd (Finset.mem_univ _) h
  · refine Finset.sum_eq_zero fun h _ => if_neg fun e => c ?_
    have : m.val = 8 * g.val + h.val := congrArg Fin.val e
    have := h.isLt
    omega

end Cert.KernelIdeal.K
-- ==== Proof.Layout.lean ====
module

public import proofs.«01_k».proof.Proof.HostC
public import proofs.«01_k».proof.Proof.RefOut
public import proofs.«01_k».proof.Proof.KernelV

/-! What the host prepares for the kernel, read at an index of the padded and re-laid arrays. -/

@[expose] public section
noncomputable section
namespace Cert.KernelIdeal.Pts
open Cert.KernelIdeal Cert.KernelIdeal.Gen Cert.Ssd Cert.KernelIdeal.K
open Idealize.ShloMosaic
open scoped BigOperators

/-- A padded matrix holds the matrix in its first columns. -/
theorem pad2 (m n n' e : Nat) (x : (⟨2, ![m, n]⟩ : Shape).Idx → EReal) {u : Shape} (v : u.Idx → EReal) (h) (hu)
    (r : Fin m) (k : Fin n') (k0 : Fin n) (hk : k.val = k0.val) :
    pad (s := ⟨2, ![m, n]⟩) ⟨2, ![m, n']⟩ ![0, 0] ![0, e] ![0, 0] x v h hu (ix2 r k) = x (ix2 r k0) := by
  rw [pad_apply]
  rw [dif_pos]
  · congr 1
    funext a
    apply Fin.ext
    match a with
    | ⟨0, _⟩ => show (r.val - 0) / 1 = r.val; simp
    | ⟨1, _⟩ => show (k.val - 0) / 1 = k0.val; simp [hk]
  · intro a
    match a with
    | ⟨0, _⟩ => exact ⟨Nat.zero_le _, Nat.mod_one _, by show (r.val - 0) / 1 < m; simp⟩
    | ⟨1, _⟩ => exact ⟨Nat.zero_le _, Nat.mod_one _, by show (k.val - 0) / 1 < n; simp [hk]⟩

/-- The summed decays with the heads of a row side by side, padded. -/
theorem cs_at (x : Vec Ideal S16x128x4x8 .f32) {u : Shape} (v : u.Idx → EReal) (h1) (h2) (hu) (c : Fin 16) (l : Fin 128) (g : Fin 4) (h : Fin 8) :
    pad (s := S2048x32) S2048x128 ![0, 0] ![0, 96] ![0, 0] (shapeCast S2048x32 x h1) v h2 hu (ix2 (RefRead.row c l) (ln g h)) = x (ix4 c l g h) := by
  refine (pad2 2048 32 128 96 _ v h2 hu (RefRead.row c l) (ln g h) (RefRead.gh g h) rfl).trans ?_
  refine shapeCast_apply _ _ _ (ix4 c l g h) ?_
  rw [rowMajor_val4 _ 4096 32 8 rfl rfl rfl, rowMajor_val2 _ 32 rfl]
  show c.val * 4096 + l.val * 32 + g.val * 8 + h.val = (128 * c.val + l.val) * 32 + (8 * g.val + h.val)
  omega

/-- A matrix of 2048 rows seen as 16 chunks of 128 rows. -/
theorem chunk_at (x : Vec Ideal S2048x128 .f32) (h) (c : Fin 16) (l n : Fin 128) :
    shapeCast S16x128x128 x h (ix3 c l n) = x (ix2 (RefRead.row c l) n) := by
  refine shapeCast_apply _ _ _ (ix2 (RefRead.row c l) n) ?_
  rw [rowMajor_val3 _ 16384 128 rfl rfl, rowMajor_val2 _ 128 rfl]
  show (128 * c.val + l.val) * 128 + n.val = c.val * 16384 + l.val * 128 + n.val
  omega

/-- The transposed chunks. -/
theorem tr_at (x : Vec Ideal S16x128x128 .f32) (h) (c : Fin 16) (l n : Fin 128) :
    transpose S16x128x128 [0, 2, 1] x h (ix3 c n l) = x (ix3 c l n) := by
  rw [Pointwise.transpose_apply]
  refine congrArg x (funext fun a => Fin.ext ?_)
  match a with
  | ⟨0, _⟩ => rfl
  | ⟨1, _⟩ => rfl
  | ⟨2, _⟩ => rfl

/-- The last rows of the chunks. -/
theorem last_at (x : Vec Ideal S16x128x128 .f32) (h) (c : Fin 16) (n : Fin 128) :
    extractStridedSlice S16x1x128 ![0, 127, 0] x h (ix3 c 0 n) = x (ix3 c 127 n) := by
  rw [Pointwise.extractStridedSlice_apply]
  refine congrArg x (funext fun a => Fin.ext ?_)
  match a with
  | ⟨0, _⟩ => show 0 + c.val = c.val; omega
  | ⟨1, _⟩ => rfl
  | ⟨2, _⟩ => show 0 + n.val = n.val; omega

/-- The states before the chunks, laid out with the channels of a group side by side. -/
theorem prev_at (x : Vec Ideal S16x4x8x64x128 .f32) (h1) (h2) (c : Fin 16) (g : Fin 4) (n : Fin 128) (k : Fin 512) :
    shapeCast S16x4x128x512 (transpose S16x4x128x8x64 [0, 1, 4, 2, 3] x h1) h2 (ix4 c g n k) = x (ix5 c g (hd k) (RefRead.ch k) n) := by
  refine (shapeCast_apply _ _ _ (ix5 c g n (hd k) (RefRead.ch k)) ?_).trans ?_
  · rw [rowMajor_val4 _ 262144 65536 512 rfl rfl rfl, rowMajor_val5 _ 262144 65536 512 64 rfl rfl rfl rfl]
    show c.val * 262144 + g.val * 65536 + n.val * 512 + k.val / 64 * 64 + k.val % 64 = c.val * 262144 + g.val * 65536 + n.val * 512 + k.val
    omega
  · rw [Pointwise.transpose_apply]
    refine congrArg x (funext fun a => Fin.ext ?_)
    match a with
    | ⟨0, _⟩ => rfl
    | ⟨1, _⟩ => rfl
    | ⟨2, _⟩ => rfl
    | ⟨3, _⟩ => rfl
    | ⟨4, _⟩ => rfl

/-- The skip weights, one for each column of a head. -/
theorem dl_at (x : Vec Ideal S32 .f32) (h1) (h2) (h3) (g : Fin 4) (k : Fin 512) :
    shapeCast S4x1x512 (shapeCast S2048 (broadcastInDim S32x64 ![0] h1 x) h2) h3 (ix3 g 0 k) = x (ix1 (RefRead.gh g (hd k))) := by
  refine (shapeCast_apply _ _ _ (ix1 (RefRead.gc g k)) ?_).trans ((shapeCast_apply _ _ _ (ix2 (RefRead.gh g (hd k)) (RefRead.ch k)) ?_).trans ?_)
  · rw [rowMajor_val3 _ 512 512 rfl rfl, rowMajor_val1]
    show 512 * g.val + k.val = g.val * 512 + 0 * 512 + k.val
    omega
  · rw [rowMajor_val2 _ 64 rfl, rowMajor_val1]
    show (8 * g.val + k.val / 64) * 64 + k.val % 64 = 512 * g.val + k.val
    omega
  · rw [Pointwise.broadcastInDim_apply]
    refine congrArg x (funext fun a => Fin.ext ?_)
    match a with
    | ⟨0, _⟩ => rfl

/-- The norm's weights, cut into groups. -/
theorem nw_at (x : Vec Ideal S2048 .f32) (h) (g : Fin 4) (k : Fin 512) :
    shapeCast S4x1x512 x h (ix3 g 0 k) = x (ix1 (RefRead.gc g k)) := by
  refine shapeCast_apply _ _ _ (ix1 (RefRead.gc g k)) ?_
  rw [rowMajor_val3 _ 512 512 rfl rfl, rowMajor_val1]
  show 512 * g.val + k.val = g.val * 512 + 0 * 512 + k.val
  omega

end Cert.KernelIdeal.Pts
-- ==== Proof.Blocks.lean ====
module

public import proofs.«01_k».proof.Proof.Gen.KernelIdeal.Value
public import proofs.«01_k».proof.Proof.Layout

/-! The blocks that the kernel body sees at a grid point: the data of one chunk of one group. -/

@[expose] public section
noncomputable section
namespace Cert.KernelIdeal.Pts
open Cert.KernelIdeal Cert.KernelIdeal.Gen Cert.Ssd Cert.KernelIdeal.K
open Idealize.ShloMosaic Idealize.ShloMosaic.TcCoe Idealize.SL.Sem
open scoped BigOperators

variable (m : (ℓ : Loc nD τ sig) → Buf (Elt Ideal) ℓ) (c : Dev nD)

/-- The data of a chunk of a group, from the arguments of the program. -/
abbrev P (ch : Fin 16) (g : Fin 4) : Pt :=
  RefRead.pt (m (c, Proc.devRef .tc main_arg0)) (m (c, Proc.devRef .tc main_arg1)) (m (c, Proc.devRef .tc main_arg2))
    (m (c, Proc.devRef .tc main_arg3)) (m (c, Proc.devRef .tc main_arg4)) (m (c, Proc.devRef .tc main_arg5)) (m (c, Proc.devRef .tc main_arg6)) ch g

variable (t : Fin cfg0.N) (ch : Fin 16) (g : Fin 4) (hs : 15 - (grid0.coords t 1).val = ch.val) (hg : (grid0.coords t 0).val = g.val)

/-- Which block of its array window 0 holds. -/
theorem e0 : ∀ t : Fin cfg0.N, win0_0.index t = ![15 - (grid0.coords t 1).val, (grid0.coords t 0).val] := (by decide +kernel : ∀ t : Fin grid0.N, _)
/-- Which block of its array window 1 holds. -/
theorem e1 : ∀ t : Fin cfg0.N, win0_1.index t = ![15 - (grid0.coords t 1).val, (grid0.coords t 0).val] := (by decide +kernel : ∀ t : Fin grid0.N, _)
/-- Which block of its array window 2 holds. -/
theorem e2 : ∀ t : Fin cfg0.N, win0_2.index t = ![15 - (grid0.coords t 1).val, (grid0.coords t 0).val] := (by decide +kernel : ∀ t : Fin grid0.N, _)
/-- Which block of its array window 3 holds. -/
theorem e3 : ∀ t : Fin cfg0.N, win0_3.index t = ![15 - (grid0.coords t 1).val, (grid0.coords t 0).val] := (by decide +kernel : ∀ t : Fin grid0.N, _)
/-- Which block of its array window 4 holds. -/
theorem e4 : ∀ t : Fin cfg0.N, win0_4.index t = ![15 - (grid0.coords t 1).val, 16 + (grid0.coords t 0).val] := (by decide +kernel : ∀ t : Fin grid0.N, _)
/-- Which block of its array window 5 holds. -/
theorem e5 : ∀ t : Fin cfg0.N, win0_5.index t = ![15 - (grid0.coords t 1).val, 20 + (grid0.coords t 0).val] := (by decide +kernel : ∀ t : Fin grid0.N, _)
/-- Which block of its array window 6 holds. -/
theorem e6 : ∀ t : Fin cfg0.N, win0_6.index t = ![15 - (grid0.coords t 1).val, (grid0.coords t 0).val, 0, 0] := (by decide +kernel : ∀ t : Fin grid0.N, _)
/-- Which block of its array window 7 holds. -/
theorem e7 : ∀ t : Fin cfg0.N, win0_7.index t = ![15 - (grid0.coords t 1).val, 0] := (by decide +kernel : ∀ t : Fin grid0.N, _)
/-- Which block of its array window 9 holds. -/
theorem e9 : ∀ t : Fin cfg0.N, win0_9.index t = ![15 - (grid0.coords t 1).val, 0] := (by decide +kernel : ∀ t : Fin grid0.N, _)
/-- Which block of its array window 10 holds. -/
theorem e10 : ∀ t : Fin cfg0.N, win0_10.index t = ![15 - (grid0.coords t 1).val, 0, 0] := (by decide +kernel : ∀ t : Fin grid0.N, _)
/-- Which block of its array window 11 holds. -/
theorem e11 : ∀ t : Fin cfg0.N, win0_11.index t = ![15 - (grid0.coords t 1).val, 0, 0] := (by decide +kernel : ∀ t : Fin grid0.N, _)
/-- Which block of its array window 13 holds. -/
theorem e13 : ∀ t : Fin cfg0.N, win0_13.index t = ![(grid0.coords t 0).val, 0, 0] := (by decide +kernel : ∀ t : Fin grid0.N, _)
/-- Which block of its array window 14 holds. -/
theorem e14 : ∀ t : Fin cfg0.N, win0_14.index t = ![(grid0.coords t 0).val, 0, 0] := (by decide +kernel : ∀ t : Fin grid0.N, _)

include hs hg in
/-- The output cotangent. -/
theorem ib0 (l : Fin 128) (k : Fin 512) : iblk m c 0 t (ix2 l k) = V m c main_arg6 (ix2 (RefRead.row ch l) (RefRead.gc g k)) := by
  blk_simp [iblk]
  refine congrArg _ ?_
  blk_ext [e0]

include hs hg in
/-- The output of the scan. -/
theorem ib1 (l : Fin 128) (k : Fin 512) : iblk m c 1 t (ix2 l k) = V m c main_v219 (ix2 (RefRead.row ch l) (RefRead.gc g k)) := by
  blk_simp [iblk]
  refine congrArg _ ?_
  blk_ext [e1]

include hs hg in
/-- The gate. -/
theorem ib2 (l : Fin 128) (k : Fin 512) : iblk m c 2 t (ix2 l k) = V m c main_v236 (ix2 (RefRead.row ch l) (⟨512 * g.val + k.val, by omega⟩ : Fin 5632)) := by
  blk_simp [iblk]
  refine congrArg _ ?_
  blk_ext [e2]

include hs hg in
/-- The input of the scan. -/
theorem ib3 (l : Fin 128) (k : Fin 512) : iblk m c 3 t (ix2 l k) = V m c main_arg1 (ix2 (RefRead.row ch l) (RefRead.xc g k)) := by
  blk_simp [iblk]
  refine congrArg _ ?_
  blk_ext [e3]

include hs hg in
/-- The projection that writes the state. -/
theorem ib4 (l n : Fin 128) : iblk m c 4 t (ix2 l n) = V m c main_arg1 (ix2 (RefRead.row ch l) (RefRead.bc g n)) := by
  blk_simp [iblk]
  refine congrArg _ ?_
  blk_ext [e4]

include hs hg in
/-- The projection that reads the state. -/
theorem ib5 (l n : Fin 128) : iblk m c 5 t (ix2 l n) = V m c main_arg1 (ix2 (RefRead.row ch l) (RefRead.cc g n)) := by
  blk_simp [iblk]
  refine congrArg _ ?_
  blk_ext [e5]

include hs hg in
/-- The state before the chunk. -/
theorem ib6 (n : Fin 128) (k : Fin 512) : iblk m c 6 t (ix4 0 0 n k) = V m c main_v235 (ix4 ch g n k) := by
  blk_simp [iblk]
  refine congrArg _ ?_
  blk_ext [e6]

include hs hg in
/-- The step sizes. -/
theorem ib7 (l n : Fin 128) : iblk m c 7 t (ix2 l n) = V m c main_v222 (ix2 (RefRead.row ch l) n) := by
  blk_simp [iblk]
  refine congrArg _ ?_
  blk_ext [e7]

include hs hg in
/-- The summed decays. -/
theorem ib9 (l n : Fin 128) : iblk m c 9 t (ix2 l n) = V m c main_v221 (ix2 (RefRead.row ch l) n) := by
  blk_simp [iblk]
  refine congrArg _ ?_
  blk_ext [e9]

include hs hg in
/-- The summed decays, transposed. -/
theorem ib10 (l n : Fin 128) : iblk m c 10 t (ix3 0 n l) = V m c main_v231 (ix3 ch n l) := by
  blk_simp [iblk]
  refine congrArg _ ?_
  blk_ext [e10]

include hs hg in
/-- The decays at the end of the chunk. -/
theorem ib11 (n : Fin 128) : iblk m c 11 t (ix3 0 0 n) = V m c main_v233 (ix3 ch 0 n) := by
  blk_simp [iblk]
  refine congrArg _ ?_
  blk_ext [e11]

include hs hg in
/-- The skip weights. -/
theorem ib13 (k : Fin 512) : iblk m c 13 t (ix3 0 0 k) = V m c main_v241 (ix3 g 0 k) := by
  blk_simp [iblk]
  refine congrArg _ ?_
  blk_ext [e13]

include hs hg in
/-- The norm's weights. -/
theorem ib14 (k : Fin 512) : iblk m c 14 t (ix3 0 0 k) = V m c main_v242 (ix3 g 0 k) := by
  blk_simp [iblk]
  refine congrArg _ ?_
  blk_ext [e14]

include hs hg in
/-- The blocks at a grid point hold the data of the point's chunk and group. -/
theorem blk : Blk (P m c ch g) g (iblk m c 0 t) (iblk m c 1 t) (iblk m c 2 t) (iblk m c 3 t) (iblk m c 4 t) (iblk m c 5 t)
    (iblk m c 6 t) (iblk m c 7 t) (iblk m c 9 t) (iblk m c 10 t) (iblk m c 11 t) (iblk m c 13 t) (iblk m c 14 t) where
  ct l k := by
    rw [ib0 m c t ch g hs hg, Host.V_eq, Host.w28_main_arg6, ix2_eq_valueIdx]; rfl
  y l k := by
    rw [ib1 m c t ch g hs hg, Host.V_eq, Host.w28_main_v219, ix2_eq_valueIdx]; rfl
  z l k := by
    rw [ib2 m c t ch g hs hg, Host.V_eq, Host.w28_main_v236]
    refine (pad2 2048 5152 5632 480 _ _ _ _ (RefRead.row ch l) _ (RefRead.zc g k) rfl).trans ?_
    rw [ix2_eq_valueIdx]; rfl
  xs l k := by
    rw [ib3 m c t ch g hs hg, Host.V_eq, Host.w28_main_arg1, ix2_eq_valueIdx]; rfl
  B l n := by
    rw [ib4 m c t ch g hs hg, Host.V_eq, Host.w28_main_arg1, ix2_eq_valueIdx]; rfl
  C l n := by
    rw [ib5 m c t ch g hs hg, Host.V_eq, Host.w28_main_arg1, ix2_eq_valueIdx]; rfl
  prev n k := by
    rw [ib6 m c t ch g hs hg, Host.V_eq, Host.w28_main_v235]
    refine (prev_at _ _ _ ch g n k).trans ?_
    rw [ix5_eq_valueIdx]; rfl
  dt l h := by
    rw [ib7 m c t ch g hs hg, Host.V_eq, Host.w28_main_v222]
    refine (pad2 2048 32 128 96 _ _ _ _ (RefRead.row ch l) (ln g h) (RefRead.gh g h) rfl).trans ?_
    rw [ix2_eq_valueIdx]; rfl
  cs l h := by
    rw [ib9 m c t ch g hs hg, Host.V_eq, Host.w28_main_v221]
    refine (cs_at _ _ _ _ _ ch l g h).trans ?_
    rw [ix4_eq_valueIdx]; rfl
  cst l h := by
    rw [ib10 m c t ch g hs hg, Host.V_eq, Host.w28_main_v231]
    refine (tr_at _ _ ch l (ln g h)).trans ((chunk_at _ _ ch l (ln g h)).trans ((cs_at _ _ _ _ _ ch l g h).trans ?_))
    rw [ix4_eq_valueIdx]; rfl
  last h := by
    rw [ib11 m c t ch g hs hg, Host.V_eq, Host.w28_main_v233]
    refine (last_at _ _ ch (ln g h)).trans ((chunk_at _ _ ch 127 (ln g h)).trans ((cs_at _ _ _ _ _ ch 127 g h).trans ?_))
    rw [ix4_eq_valueIdx]; rfl
  D k := by
    rw [ib13 m c t ch g hs hg, Host.V_eq, Host.w28_main_v241]
    refine (dl_at _ _ _ _ g k).trans ?_
    rw [ix1_eq_valueIdx]; rfl
  nw k := by
    rw [ib14 m c t ch g hs hg, Host.V_eq, Host.w28_main_v242]
    refine (nw_at _ _ g k).trans ?_
    rw [ix1_eq_valueIdx]; rfl

end Cert.KernelIdeal.Pts
-- ==== Proof.KernelB.lean ====
module

public import proofs.«01_k».proof.Proof.KernelU

/-! What a chunk that does not begin a group stores, in the uniform functions. -/

@[expose] public section
noncomputable section
namespace Cert.KernelIdeal.U
open Cert.KernelIdeal Cert.KernelIdeal.Gen
open Idealize.ShloMosaic Idealize.ShloMosaic.TcCoe Idealize.ShloMosaic.Tactic
open Idealize.SL Idealize.SL.RA Idealize.SL.BI
open Idealize.SL.Sem
variable {F : FTy → Type} [FloatOps F] [Named F]
set_option maxRecDepth 16384
set_option maxHeartbeats 1000000

/-- A load of the gradient before the gate reads what the eight slabs stored. -/
theorem readCov_dy (v : View sig .tc .vmem S128x512 .f32) (x0 x1 x2 : Vec F S128x512 .f32) (x14 : Vec F S1x1x512 .f32)
    (r : Rect S128x512) : v.readCov (dyL x0 x1 x2 x14) r.toLoadRect = View.ld (dyU x0 x1 x2 x14) r :=
  View.readCov_eq_canon' v _ _

/-- The eight stored slabs, in the uniform functions. -/
theorem dyL_B (c : Dev nD) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg16 : Memref sig .tc .vmem S1x1x512 .f32) (harg16 : arg16.IsWhole) (x0 x1 x2 : Vec F S128x512 .f32) (x14 : Vec F S1x1x512 .f32) :
   kernelRun0_B.sl.HS2_8 c arg2 harg2 arg3 harg3 arg4 harg4 arg16 harg16 x0 x1 x2 x14 = dyL x0 x1 x2 x14 := by
  unfold kernelRun0_B.sl.HS2_8
  sl_unfold_run_values
  simp only [View.readAt_eq_ld, (harg2).read_unread, (harg3).read_unread, (harg4).read_unread, (harg16).read_unread]
  dsimp only [nwAcc, nwsU, sgS, ygS, meanS, rsS, yhS, nwS, dhS, dyS, nwU, dyL]

/-- The stored input gradient of a chunk after the first. -/
theorem out0_B_16_u (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x1x128x512 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S1x128x128 .f32) (harg12 : arg12.IsWhole) (arg13 : Memref sig .tc .vmem S1x1x128 .f32) (harg13 : arg13.IsWhole) (arg14 : Memref sig .tc .vmem S1x128 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S128x512 .bf16) (harg17 : arg17.IsWhole) (arg18 : Memref sig .tc .vmem S128x512 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S1x128x128 .f32) (harg21 : arg21.IsWhole) (arg22 : Memref sig .tc .vmem S1x1x128 .f32) (harg22 : arg22.IsWhole) (arg23 : Memref sig .tc .vmem S1x1x128 .f32) (harg23 : arg23.IsWhole) (arg24 : Memref sig .tc .vmem S1x1x128 .f32) (harg24 : arg24.IsWhole) (arg25 : Memref sig .tc .vmem S1x1x512 .f32) (harg25 : arg25.IsWhole) (arg26 : Memref sig .tc .vmem S128x512 .f32) (harg26 : arg26.IsWhole) (arg27 : Memref sig .tc .vmem S128x128 .f32) (harg27 : arg27.IsWhole) (arg28 : Memref sig .tc .vmem S128x512 .f32) (harg28 : arg28.IsWhole) (hc0 : ¬cond0_0 i)
    (x0 : Vec F S128x512 .f32) (x1 : Vec F S128x512 .f32) (x2 : Vec F S128x512 .f32) (x3 : Vec F S128x512 .f32) (x4 : Vec F S128x128 .f32) (x5 : Vec F S128x128 .f32) (x6 : Vec F S1x1x128x512 .f32) (x7 : Vec F S128x128 .f32) (x8 : Vec F S128x128 .f32) (x9 : Vec F S128x128 .f32) (x10 : Vec F S1x128x128 .f32) (x11 : Vec F S1x1x128 .f32) (x12 : Vec F S1x128 .f32) (x13 : Vec F S1x1x512 .f32) (x14 : Vec F S1x1x512 .f32) (xo20 : Vec F S1x1x128 .f32) (xo21 : Vec F S1x1x128 .f32) (xo22 : Vec F S1x1x128 .f32) (xo23 : Vec F S1x1x512 .f32) (xs0 : Vec F S128x512 .f32) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 xo20 xo21 xo22 xo23 xs0 =
      dxsU i x4 x5 x7 x9 x10 x11 x13 (dyU x0 x1 x2 x14) xs0 := by
  unfold out0_B_16
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 xo20 xo21 xo22 xo23 xs0)]
  unfold kernelRun0_B
  dsimp only
  sl_unfold_run_values
  simp only [View.readAt_eq_ld, (harg2).read_unread, (harg3).read_unread, (harg4).read_unread, (harg5).read_unread, (harg6).read_unread, (harg7).read_unread, (harg8).read_unread, (harg9).read_unread, (harg10).read_unread, (harg11).read_unread, (harg12).read_unread, (harg13).read_unread, (harg14).read_unread, (harg15).read_unread, (harg16).read_unread, (harg17).read_unread, (harg18).read_unread, (harg19).read_unread, (harg20).read_unread, (harg21).read_unread, (harg22).read_unread, (harg23).read_unread, (harg24).read_unread, (harg25).read_unread, (harg26).read_unread, (harg27).read_unread, (harg28).read_unread]
  rw [dyL_B]
  dsimp only [k0_pay1, k0_pay2, k0_pay3, k0_pay4, k0_pay127, k0_pay128, k0_pay129, k0_pay130, k0_pay131, k0_pay132, k0_pay133, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay260, k0_pay261, k0_pay262, k0_pay263, k0_pay264, k0_pay265, k0_pay266, k0_pay267, k0_pay268, k0_pay269, k0_pay329, k0_pay330, k0_pay331, k0_pay332, k0_pay333, k0_pay334, k0_pay335, k0_pay336]
  unfold dxsU
  simp only [← readCov_dy arg28.view]
  dsimp only [dbU, dgU, dcU, dxsU, dsU, ddU, ddAcc, nwAcc, dsP0, dsP1, dsP2, dsP3, colOf, lastOf, sel2, dtP, eP, dec1, decP, allP, lmT, dsT, scT, mT, dxsT, dbT, dcT, dgA, dgB, tot, ddA, ddB, ra0, ra1, ra2, ra3, rb0, rb1, rb2, rb3, hfU, sqU, lastU]

/-- The stored gradient of B of a chunk after the first. -/
theorem out0_B_17_u (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x1x128x512 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S1x128x128 .f32) (harg12 : arg12.IsWhole) (arg13 : Memref sig .tc .vmem S1x1x128 .f32) (harg13 : arg13.IsWhole) (arg14 : Memref sig .tc .vmem S1x128 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S128x512 .bf16) (harg17 : arg17.IsWhole) (arg18 : Memref sig .tc .vmem S128x512 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S1x128x128 .f32) (harg21 : arg21.IsWhole) (arg22 : Memref sig .tc .vmem S1x1x128 .f32) (harg22 : arg22.IsWhole) (arg23 : Memref sig .tc .vmem S1x1x128 .f32) (harg23 : arg23.IsWhole) (arg24 : Memref sig .tc .vmem S1x1x128 .f32) (harg24 : arg24.IsWhole) (arg25 : Memref sig .tc .vmem S1x1x512 .f32) (harg25 : arg25.IsWhole) (arg26 : Memref sig .tc .vmem S128x512 .f32) (harg26 : arg26.IsWhole) (arg27 : Memref sig .tc .vmem S128x128 .f32) (harg27 : arg27.IsWhole) (arg28 : Memref sig .tc .vmem S128x512 .f32) (harg28 : arg28.IsWhole) (hc0 : ¬cond0_0 i)
    (x0 : Vec F S128x512 .f32) (x1 : Vec F S128x512 .f32) (x2 : Vec F S128x512 .f32) (x3 : Vec F S128x512 .f32) (x4 : Vec F S128x128 .f32) (x5 : Vec F S128x128 .f32) (x6 : Vec F S1x1x128x512 .f32) (x7 : Vec F S128x128 .f32) (x8 : Vec F S128x128 .f32) (x9 : Vec F S128x128 .f32) (x10 : Vec F S1x128x128 .f32) (x11 : Vec F S1x1x128 .f32) (x12 : Vec F S1x128 .f32) (x13 : Vec F S1x1x512 .f32) (x14 : Vec F S1x1x512 .f32) (xo20 : Vec F S1x1x128 .f32) (xo21 : Vec F S1x1x128 .f32) (xo22 : Vec F S1x1x128 .f32) (xo23 : Vec F S1x1x512 .f32) (xs0 : Vec F S128x512 .f32) :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 xo20 xo21 xo22 xo23 xs0 =
      dbU i x3 x5 x7 x9 x10 x11 (dyU x0 x1 x2 x14) xs0 := by
  unfold out0_B_17
  rw [View.read_writes_eq_canon _ _ _ (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 xo20 xo21 xo22 xo23 xs0)]
  unfold kernelRun0_B
  dsimp only
  sl_unfold_run_values
  simp only [View.readAt_eq_ld, (harg2).read_unread, (harg3).read_unread, (harg4).read_unread, (harg5).read_unread, (harg6).read_unread, (harg7).read_unread, (harg8).read_unread, (harg9).read_unread, (harg10).read_unread, (harg11).read_unread, (harg12).read_unread, (harg13).read_unread, (harg14).read_unread, (harg15).read_unread, (harg16).read_unread, (harg17).read_unread, (harg18).read_unread, (harg19).read_unread, (harg20).read_unread, (harg21).read_unread, (harg22).read_unread, (harg23).read_unread, (harg24).read_unread, (harg25).read_unread, (harg26).read_unread, (harg27).read_unread, (harg28).read_unread]
  refine (View.canon_cons_unit_lit _ _ _ (by decide)).trans ?_
  rw [dyL_B]
  dsimp only [k0_pay1, k0_pay2, k0_pay3, k0_pay4, k0_pay127, k0_pay128, k0_pay129, k0_pay130, k0_pay131, k0_pay132, k0_pay133, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay260, k0_pay261, k0_pay262, k0_pay263, k0_pay264, k0_pay265, k0_pay266, k0_pay267, k0_pay268, k0_pay269, k0_pay329, k0_pay330, k0_pay331, k0_pay332, k0_pay333, k0_pay334, k0_pay335, k0_pay336]
  unfold dbU dgU
  simp only [← readCov_dy arg28.view]
  dsimp only [dbU, dgU, dcU, dxsU, dsU, ddU, ddAcc, nwAcc, dsP0, dsP1, dsP2, dsP3, colOf, lastOf, sel2, dtP, eP, dec1, decP, allP, lmT, dsT, scT, mT, dxsT, dbT, dcT, dgA, dgB, tot, ddA, ddB, ra0, ra1, ra2, ra3, rb0, rb1, rb2, rb3, hfU, sqU, lastU]

/-- The stored gradient of C of a chunk after the first. -/
theorem out0_B_18_u (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x1x128x512 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S1x128x128 .f32) (harg12 : arg12.IsWhole) (arg13 : Memref sig .tc .vmem S1x1x128 .f32) (harg13 : arg13.IsWhole) (arg14 : Memref sig .tc .vmem S1x128 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S128x512 .bf16) (harg17 : arg17.IsWhole) (arg18 : Memref sig .tc .vmem S128x512 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S1x128x128 .f32) (harg21 : arg21.IsWhole) (arg22 : Memref sig .tc .vmem S1x1x128 .f32) (harg22 : arg22.IsWhole) (arg23 : Memref sig .tc .vmem S1x1x128 .f32) (harg23 : arg23.IsWhole) (arg24 : Memref sig .tc .vmem S1x1x128 .f32) (harg24 : arg24.IsWhole) (arg25 : Memref sig .tc .vmem S1x1x512 .f32) (harg25 : arg25.IsWhole) (arg26 : Memref sig .tc .vmem S128x512 .f32) (harg26 : arg26.IsWhole) (arg27 : Memref sig .tc .vmem S128x128 .f32) (harg27 : arg27.IsWhole) (arg28 : Memref sig .tc .vmem S128x512 .f32) (harg28 : arg28.IsWhole) (hc0 : ¬cond0_0 i)
    (x0 : Vec F S128x512 .f32) (x1 : Vec F S128x512 .f32) (x2 : Vec F S128x512 .f32) (x3 : Vec F S128x512 .f32) (x4 : Vec F S128x128 .f32) (x5 : Vec F S128x128 .f32) (x6 : Vec F S1x1x128x512 .f32) (x7 : Vec F S128x128 .f32) (x8 : Vec F S128x128 .f32) (x9 : Vec F S128x128 .f32) (x10 : Vec F S1x128x128 .f32) (x11 : Vec F S1x1x128 .f32) (x12 : Vec F S1x128 .f32) (x13 : Vec F S1x1x512 .f32) (x14 : Vec F S1x1x512 .f32) (xo20 : Vec F S1x1x128 .f32) (xo21 : Vec F S1x1x128 .f32) (xo22 : Vec F S1x1x128 .f32) (xo23 : Vec F S1x1x512 .f32) (xs0 : Vec F S128x512 .f32) :
    out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 xo20 xo21 xo22 xo23 xs0 =
      dcU i x3 x4 x6 x7 x9 x10 (dyU x0 x1 x2 x14) := by
  unfold out0_B_18
  rw [View.read_writes_eq_canon _ _ _ (cover0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 xo20 xo21 xo22 xo23 xs0)]
  unfold kernelRun0_B
  dsimp only
  sl_unfold_run_values
  simp only [View.readAt_eq_ld, (harg2).read_unread, (harg3).read_unread, (harg4).read_unread, (harg5).read_unread, (harg6).read_unread, (harg7).read_unread, (harg8).read_unread, (harg9).read_unread, (harg10).read_unread, (harg11).read_unread, (harg12).read_unread, (harg13).read_unread, (harg14).read_unread, (harg15).read_unread, (harg16).read_unread, (harg17).read_unread, (harg18).read_unread, (harg19).read_unread, (harg20).read_unread, (harg21).read_unread, (harg22).read_unread, (harg23).read_unread, (harg24).read_unread, (harg25).read_unread, (harg26).read_unread, (harg27).read_unread, (harg28).read_unread]
  refine (View.canon_cons_unit_lit _ _ _ (by decide)).trans ?_
  rw [dyL_B]
  dsimp only [k0_pay1, k0_pay2, k0_pay3, k0_pay4, k0_pay127, k0_pay128, k0_pay129, k0_pay130, k0_pay131, k0_pay132, k0_pay133, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay260, k0_pay261, k0_pay262, k0_pay263, k0_pay264, k0_pay265, k0_pay266, k0_pay267, k0_pay268, k0_pay269, k0_pay329, k0_pay330, k0_pay331, k0_pay332, k0_pay333, k0_pay334, k0_pay335, k0_pay336]
  unfold dcU dgU
  simp only [← readCov_dy arg28.view]
  dsimp only [dbU, dgU, dcU, dxsU, dsU, ddU, ddAcc, nwAcc, dsP0, dsP1, dsP2, dsP3, colOf, lastOf, sel2, dtP, eP, dec1, decP, allP, lmT, dsT, scT, mT, dxsT, dbT, dcT, dgA, dgB, tot, ddA, ddB, ra0, ra1, ra2, ra3, rb0, rb1, rb2, rb3, hfU, sqU, lastU]

/-- The stored gradient of D of a chunk after the first. -/
theorem out0_B_22_u (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x1x128x512 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S1x128x128 .f32) (harg12 : arg12.IsWhole) (arg13 : Memref sig .tc .vmem S1x1x128 .f32) (harg13 : arg13.IsWhole) (arg14 : Memref sig .tc .vmem S1x128 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S128x512 .bf16) (harg17 : arg17.IsWhole) (arg18 : Memref sig .tc .vmem S128x512 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S1x128x128 .f32) (harg21 : arg21.IsWhole) (arg22 : Memref sig .tc .vmem S1x1x128 .f32) (harg22 : arg22.IsWhole) (arg23 : Memref sig .tc .vmem S1x1x128 .f32) (harg23 : arg23.IsWhole) (arg24 : Memref sig .tc .vmem S1x1x128 .f32) (harg24 : arg24.IsWhole) (arg25 : Memref sig .tc .vmem S1x1x512 .f32) (harg25 : arg25.IsWhole) (arg26 : Memref sig .tc .vmem S128x512 .f32) (harg26 : arg26.IsWhole) (arg27 : Memref sig .tc .vmem S128x128 .f32) (harg27 : arg27.IsWhole) (arg28 : Memref sig .tc .vmem S128x512 .f32) (harg28 : arg28.IsWhole) (hc0 : ¬cond0_0 i)
    (x0 : Vec F S128x512 .f32) (x1 : Vec F S128x512 .f32) (x2 : Vec F S128x512 .f32) (x3 : Vec F S128x512 .f32) (x4 : Vec F S128x128 .f32) (x5 : Vec F S128x128 .f32) (x6 : Vec F S1x1x128x512 .f32) (x7 : Vec F S128x128 .f32) (x8 : Vec F S128x128 .f32) (x9 : Vec F S128x128 .f32) (x10 : Vec F S1x128x128 .f32) (x11 : Vec F S1x1x128 .f32) (x12 : Vec F S1x128 .f32) (x13 : Vec F S1x1x512 .f32) (x14 : Vec F S1x1x512 .f32) (xo20 : Vec F S1x1x128 .f32) (xo21 : Vec F S1x1x128 .f32) (xo22 : Vec F S1x1x128 .f32) (xo23 : Vec F S1x1x512 .f32) (xs0 : Vec F S128x512 .f32) :
    out0_B_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 xo20 xo21 xo22 xo23 xs0 =
      ddAcc xo22 (ddU i x3 (dyU x0 x1 x2 x14)) := by
  unfold out0_B_22
  rw [View.read_writes_eq_canon _ _ _ (cover0_B_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 xo20 xo21 xo22 xo23 xs0)]
  unfold kernelRun0_B
  dsimp only
  sl_unfold_run_values
  simp only [View.readAt_eq_ld, (harg2).read_unread, (harg3).read_unread, (harg4).read_unread, (harg5).read_unread, (harg6).read_unread, (harg7).read_unread, (harg8).read_unread, (harg9).read_unread, (harg10).read_unread, (harg11).read_unread, (harg12).read_unread, (harg13).read_unread, (harg14).read_unread, (harg15).read_unread, (harg16).read_unread, (harg17).read_unread, (harg18).read_unread, (harg19).read_unread, (harg20).read_unread, (harg21).read_unread, (harg22).read_unread, (harg23).read_unread, (harg24).read_unread, (harg25).read_unread, (harg26).read_unread, (harg27).read_unread, (harg28).read_unread]
  refine (View.canon_cons_unit_lit _ _ _ (by decide)).trans ?_
  rw [dyL_B]
  rw [View.ld_unit_lit (S := S1x1x128) _ _ (by decide)]
  dsimp only [k0_pay1]
  unfold ddU ddAcc
  simp only [← readCov_dy arg28.view]
  dsimp only [dbU, dgU, dcU, dxsU, dsU, ddU, ddAcc, nwAcc, dsP0, dsP1, dsP2, dsP3, colOf, lastOf, sel2, dtP, eP, dec1, decP, allP, lmT, dsT, scT, mT, dxsT, dbT, dcT, dgA, dgB, tot, ddA, ddB, ra0, ra1, ra2, ra3, rb0, rb1, rb2, rb3, hfU, sqU, lastU]

/-- The stored gradient of the norm weight of a chunk after the first. -/
theorem out0_B_23_u (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x1x128x512 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S1x128x128 .f32) (harg12 : arg12.IsWhole) (arg13 : Memref sig .tc .vmem S1x1x128 .f32) (harg13 : arg13.IsWhole) (arg14 : Memref sig .tc .vmem S1x128 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S128x512 .bf16) (harg17 : arg17.IsWhole) (arg18 : Memref sig .tc .vmem S128x512 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S1x128x128 .f32) (harg21 : arg21.IsWhole) (arg22 : Memref sig .tc .vmem S1x1x128 .f32) (harg22 : arg22.IsWhole) (arg23 : Memref sig .tc .vmem S1x1x128 .f32) (harg23 : arg23.IsWhole) (arg24 : Memref sig .tc .vmem S1x1x128 .f32) (harg24 : arg24.IsWhole) (arg25 : Memref sig .tc .vmem S1x1x512 .f32) (harg25 : arg25.IsWhole) (arg26 : Memref sig .tc .vmem S128x512 .f32) (harg26 : arg26.IsWhole) (arg27 : Memref sig .tc .vmem S128x128 .f32) (harg27 : arg27.IsWhole) (arg28 : Memref sig .tc .vmem S128x512 .f32) (harg28 : arg28.IsWhole) (hc0 : ¬cond0_0 i)
    (x0 : Vec F S128x512 .f32) (x1 : Vec F S128x512 .f32) (x2 : Vec F S128x512 .f32) (x3 : Vec F S128x512 .f32) (x4 : Vec F S128x128 .f32) (x5 : Vec F S128x128 .f32) (x6 : Vec F S1x1x128x512 .f32) (x7 : Vec F S128x128 .f32) (x8 : Vec F S128x128 .f32) (x9 : Vec F S128x128 .f32) (x10 : Vec F S1x128x128 .f32) (x11 : Vec F S1x1x128 .f32) (x12 : Vec F S1x128 .f32) (x13 : Vec F S1x1x512 .f32) (x14 : Vec F S1x1x512 .f32) (xo20 : Vec F S1x1x128 .f32) (xo21 : Vec F S1x1x128 .f32) (xo22 : Vec F S1x1x128 .f32) (xo23 : Vec F S1x1x512 .f32) (xs0 : Vec F S128x512 .f32) :
    out0_B_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 xo20 xo21 xo22 xo23 xs0 =
      nwAcc xo23 (nwsU x0 x1 x2) := by
  unfold out0_B_23
  rw [View.read_writes_eq_canon _ _ _ (cover0_B_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 xo20 xo21 xo22 xo23 xs0)]
  unfold kernelRun0_B
  dsimp only
  sl_unfold_run_values
  simp only [View.readAt_eq_ld, (harg2).read_unread, (harg3).read_unread, (harg4).read_unread, (harg5).read_unread, (harg6).read_unread, (harg7).read_unread, (harg8).read_unread, (harg9).read_unread, (harg10).read_unread, (harg11).read_unread, (harg12).read_unread, (harg13).read_unread, (harg14).read_unread, (harg15).read_unread, (harg16).read_unread, (harg17).read_unread, (harg18).read_unread, (harg19).read_unread, (harg20).read_unread, (harg21).read_unread, (harg22).read_unread, (harg23).read_unread, (harg24).read_unread, (harg25).read_unread, (harg26).read_unread, (harg27).read_unread, (harg28).read_unread]
  refine (View.canon_cons_unit_lit _ _ _ (by decide)).trans ?_
  rw [View.ld_unit_lit (S := S1x1x512) _ _ (by decide)]
  dsimp only [nwAcc, nwsU, sgS, ygS, meanS, rsS, yhS, nwS, dhS, dyS, nwU, dyL]

/-- The carried gradient after a chunk after the first. -/
theorem sout0_B_0_u (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x1x128x512 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S1x128x128 .f32) (harg12 : arg12.IsWhole) (arg13 : Memref sig .tc .vmem S1x1x128 .f32) (harg13 : arg13.IsWhole) (arg14 : Memref sig .tc .vmem S1x128 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S128x512 .bf16) (harg17 : arg17.IsWhole) (arg18 : Memref sig .tc .vmem S128x512 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S1x128x128 .f32) (harg21 : arg21.IsWhole) (arg22 : Memref sig .tc .vmem S1x1x128 .f32) (harg22 : arg22.IsWhole) (arg23 : Memref sig .tc .vmem S1x1x128 .f32) (harg23 : arg23.IsWhole) (arg24 : Memref sig .tc .vmem S1x1x128 .f32) (harg24 : arg24.IsWhole) (arg25 : Memref sig .tc .vmem S1x1x512 .f32) (harg25 : arg25.IsWhole) (arg26 : Memref sig .tc .vmem S128x512 .f32) (harg26 : arg26.IsWhole) (arg27 : Memref sig .tc .vmem S128x128 .f32) (harg27 : arg27.IsWhole) (arg28 : Memref sig .tc .vmem S128x512 .f32) (harg28 : arg28.IsWhole) (hc0 : ¬cond0_0 i)
    (x0 : Vec F S128x512 .f32) (x1 : Vec F S128x512 .f32) (x2 : Vec F S128x512 .f32) (x3 : Vec F S128x512 .f32) (x4 : Vec F S128x128 .f32) (x5 : Vec F S128x128 .f32) (x6 : Vec F S1x1x128x512 .f32) (x7 : Vec F S128x128 .f32) (x8 : Vec F S128x128 .f32) (x9 : Vec F S128x128 .f32) (x10 : Vec F S1x128x128 .f32) (x11 : Vec F S1x1x128 .f32) (x12 : Vec F S1x128 .f32) (x13 : Vec F S1x1x512 .f32) (x14 : Vec F S1x1x512 .f32) (xo20 : Vec F S1x1x128 .f32) (xo21 : Vec F S1x1x128 .f32) (xo22 : Vec F S1x1x128 .f32) (xo23 : Vec F S1x1x512 .f32) (xs0 : Vec F S128x512 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 xo20 xo21 xo22 xo23 xs0 =
      dsU i x5 x9 x11 (dyU x0 x1 x2 x14) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 xo20 xo21 xo22 xo23 xs0)]
  unfold kernelRun0_B
  dsimp only
  sl_unfold_run_values
  simp only [View.readAt_eq_ld, (harg2).read_unread, (harg3).read_unread, (harg4).read_unread, (harg5).read_unread, (harg6).read_unread, (harg7).read_unread, (harg8).read_unread, (harg9).read_unread, (harg10).read_unread, (harg11).read_unread, (harg12).read_unread, (harg13).read_unread, (harg14).read_unread, (harg15).read_unread, (harg16).read_unread, (harg17).read_unread, (harg18).read_unread, (harg19).read_unread, (harg20).read_unread, (harg21).read_unread, (harg22).read_unread, (harg23).read_unread, (harg24).read_unread, (harg25).read_unread, (harg26).read_unread, (harg27).read_unread, (harg28).read_unread]
  rw [dyL_B]
  dsimp only [k0_pay1, k0_pay2, k0_pay3, k0_pay4, k0_pay127, k0_pay128, k0_pay129, k0_pay130, k0_pay131, k0_pay132, k0_pay133, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay260, k0_pay261, k0_pay262, k0_pay263, k0_pay264, k0_pay265, k0_pay266, k0_pay267, k0_pay268, k0_pay269, k0_pay329, k0_pay330, k0_pay331, k0_pay332, k0_pay333, k0_pay334, k0_pay335, k0_pay336]
  unfold dsU dsP0 dsP1 dsP2 dsP3
  simp only [← readCov_dy arg28.view]
  dsimp only [dbU, dgU, dcU, dxsU, dsU, ddU, ddAcc, nwAcc, dsP0, dsP1, dsP2, dsP3, colOf, lastOf, sel2, dtP, eP, dec1, decP, allP, lmT, dsT, scT, mT, dxsT, dbT, dcT, dgA, dgB, tot, ddA, ddB, ra0, ra1, ra2, ra3, rb0, rb1, rb2, rb3, hfU, sqU, lastU]

end Cert.KernelIdeal.U
-- ==== Proof.KernelA.lean ====
module

public import proofs.«01_k».proof.Proof.KernelB

/-! What a chunk that begins a group stores, in the uniform functions. -/

@[expose] public section
noncomputable section
namespace Cert.KernelIdeal.U
open Cert.KernelIdeal Cert.KernelIdeal.Gen
open Idealize.ShloMosaic Idealize.ShloMosaic.TcCoe Idealize.ShloMosaic.Tactic
open Idealize.SL Idealize.SL.RA Idealize.SL.BI
open Idealize.SL.Sem
variable {F : FTy → Type} [FloatOps F] [Named F]
set_option maxRecDepth 16384
set_option maxHeartbeats 1000000

/-- The eight stored slabs, in the uniform functions. -/
theorem dyL_A (c : Dev nD) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg16 : Memref sig .tc .vmem S1x1x512 .f32) (harg16 : arg16.IsWhole) (x0 x1 x2 : Vec F S128x512 .f32) (x14 : Vec F S1x1x512 .f32) :
   kernelRun0_A.sl.HS2_8 c arg2 harg2 arg3 harg3 arg4 harg4 arg16 harg16 x0 x1 x2 x14 = dyL x0 x1 x2 x14 := by
  unfold kernelRun0_A.sl.HS2_8
  sl_unfold_run_values
  simp only [View.readAt_eq_ld, (harg2).read_unread, (harg3).read_unread, (harg4).read_unread, (harg16).read_unread]
  dsimp only [nwAcc, nwsU, sgS, ygS, meanS, rsS, yhS, nwS, dhS, dyS, nwU, dyL]

/-- Two slabs of columns that do not meet. -/
theorem disj_cols {m n p a b : Nat} (o o' : Nat) (inb inb') (h : o + a ≤ o' ∨ o' + b ≤ o) :
    Disjoint (Rect.unit (s := (⟨2, ![m, n]⟩ : Shape)) ![0, o] ![p, a] inb).set
      (Rect.unit (s := (⟨2, ![m, n]⟩ : Shape)) ![0, o'] ![p, b] inb').toLoadRect.set := by
  refine Finset.disjoint_left.mpr fun y h1 h2 => ?_
  have h1 := (Rect.mem_set_unit.mp h1) 1
  have h2 := (Rect.mem_set_unit.mp h2) 1
  have e1 : (![0, o] : Fin 2 → Nat) 1 = o := rfl
  have e2 : (![0, o'] : Fin 2 → Nat) 1 = o' := rfl
  have e3 : (![p, a] : Fin 2 → Nat) 1 = a := rfl
  have e4 : (![p, b] : Fin 2 → Nat) 1 = b := rfl
  simp only [e1, e2, e3, e4] at h1 h2
  omega

/-- Pieces under a list that covers an index do not show there. -/
theorem canon_append {s : Shape} {e : EltTy} (L M : List (View.Piece (Elt F) s e)) (y : s.Idx)
    (h : ∃ p ∈ L, y ∈ p.1.set) : View.canon (L ++ M) y = View.canon L y := by
  induction L with
  | nil => obtain ⟨p, hp, _⟩ := h; exact absurd hp (by simp)
  | cons p L ih =>
    by_cases hy : y ∈ p.1.set
    · obtain ⟨x, hx⟩ : ∃ x, p.1.emb x = y := by
        have := p.1.map_emb_univ ▸ hy
        obtain ⟨x, -, hx⟩ := Finset.mem_map.mp this
        exact ⟨x, hx⟩
      obtain ⟨r, w⟩ := p
      rw [← hx]
      exact (View.canon_cons_emb r w _ x).trans (View.canon_cons_emb r w _ x).symm
    · have e1 : View.canon (p :: L ++ M) y = View.canon (L ++ M) y := View.canon_cons_of_not_mem p _ hy
      rw [e1, View.canon_cons_of_not_mem p _ hy]
      refine ih ?_
      obtain ⟨p', hp', hy'⟩ := h
      rcases List.mem_cons.mp hp' with h | h
      · exact absurd (h ▸ hy') hy
      · exact ⟨p', h, hy'⟩

/-- Four column slabs hide what lies under them. -/
theorem canon_cols (p0 p1 p2 p3 : FVec F S128x128 .f32) (M : List (View.Piece (Elt F) S128x512 .f32)) :
    View.canon ((⟨r3, p3⟩ : View.Piece (Elt F) S128x512 .f32) :: ⟨r2, p2⟩ :: ⟨r1, p1⟩ :: ⟨r0, p0⟩ :: M)
      = View.canon ((⟨r3, p3⟩ : View.Piece (Elt F) S128x512 .f32) :: ⟨r2, p2⟩ :: ⟨r1, p1⟩ :: [⟨r0, p0⟩]) := by
  funext y
  refine canon_append [⟨r3, p3⟩, ⟨r2, p2⟩, ⟨r1, p1⟩, ⟨r0, p0⟩] M y ?_
  have h0 : (y 0).val < 128 := (y 0).isLt
  have h1 : (y 1).val < 512 := (y 1).isLt
  have key : ∀ (o : Nat) (inb), o ≤ (y 1).val → (y 1).val < o + 128 →
      y ∈ (Rect.unit (s := S128x512) ![0, o] S128x128.size inb).set := by
    intro o inb ha hb
    rw [Rect.mem_set_unit]
    intro a
    fin_cases a
    · exact ⟨Nat.zero_le _, by simpa using h0⟩
    · exact ⟨ha, hb⟩
  by_cases c1 : (y 1).val < 128
  · exact ⟨⟨r0, p0⟩, by simp, key 0 inb_S128x512_S128x128_0_0 (by omega) (by omega)⟩
  by_cases c2 : (y 1).val < 256
  · exact ⟨⟨r1, p1⟩, by simp, key 128 inb_S128x512_S128x128_0_128 (by omega) (by omega)⟩
  by_cases c3 : (y 1).val < 384
  · exact ⟨⟨r2, p2⟩, by simp, key 256 inb_S128x512_S128x128_0_256 (by omega) (by omega)⟩
  · exact ⟨⟨r3, p3⟩, by simp, key 384 inb_S128x512_S128x128_0_384 (by omega) (by omega)⟩

/-- The zeroed carried gradient reads as zero everywhere. -/
theorem rd1 (v : View sig .tc .vmem S128x512 .f32) (r : Rect S128x512) :
    v.readCov (kernelRun0_A.sl.HS0_1 (F := F)) r.toLoadRect = View.ld k0_pay5 r := by
  unfold kernelRun0_A.sl.HS0_1
  refine (View.readCov_eq_canon' v _ _).trans ?_
  rw [View.canon_cons_unit_lit _ _ [] (by decide)]
  rfl

/-- Pair 1 reads the zeroed carried gradient. -/
theorem rd2 (v : View sig .tc .vmem S128x512 .f32) (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg7 : Memref sig .tc .vmem S128x128 .f32) (harg7 : arg7.IsWhole) (arg11 : Memref sig .tc .vmem S128x128 .f32) (harg11 : arg11.IsWhole) (arg13 : Memref sig .tc .vmem S1x1x128 .f32) (harg13 : arg13.IsWhole) (arg16 : Memref sig .tc .vmem S1x1x512 .f32) (harg16 : arg16.IsWhole) (arg26 arg28 : Memref sig .tc .vmem S128x512 .f32) (x0 x1 x2 : Vec F S128x512 .f32) (x5 x9 : Vec F S128x128 .f32) (x11 : Vec F S1x1x128 .f32) (x14 : Vec F S1x1x512 .f32) (j : Nat) (inb) (hj : 128 ≤ j) :
    v.readCov (kernelRun0_A.sl.HS0_2 c i arg2 harg2 arg3 harg3 arg4 harg4 arg7 harg7 arg11 harg11 arg13 harg13 arg16 harg16 arg26 arg28 x0 x1 x2 x5 x9 x11 x14) (Rect.unit (s := S128x512) ![0, j] ![128, 128] inb).toLoadRect
      = View.ld k0_pay5 (Rect.unit (s := S128x512) ![0, j] ![128, 128] inb) := by
  unfold kernelRun0_A.sl.HS0_2
  rw [View.readCov_cons_of_disjoint]
  · exact rd1 v _
  · exact disj_cols 0 j inb_S128x512_S128x128_0_0 inb (Or.inl (by omega))

/-- Pair 2 reads the zeroed carried gradient. -/
theorem rd3 (v : View sig .tc .vmem S128x512 .f32) (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg7 : Memref sig .tc .vmem S128x128 .f32) (harg7 : arg7.IsWhole) (arg11 : Memref sig .tc .vmem S128x128 .f32) (harg11 : arg11.IsWhole) (arg13 : Memref sig .tc .vmem S1x1x128 .f32) (harg13 : arg13.IsWhole) (arg16 : Memref sig .tc .vmem S1x1x512 .f32) (harg16 : arg16.IsWhole) (arg26 arg28 : Memref sig .tc .vmem S128x512 .f32) (x0 x1 x2 : Vec F S128x512 .f32) (x5 x9 : Vec F S128x128 .f32) (x11 : Vec F S1x1x128 .f32) (x14 : Vec F S1x1x512 .f32) (j : Nat) (inb) (hj : 256 ≤ j) :
    v.readCov (kernelRun0_A.sl.HS0_3 c i arg2 harg2 arg3 harg3 arg4 harg4 arg7 harg7 arg11 harg11 arg13 harg13 arg16 harg16 arg26 arg28 x0 x1 x2 x5 x9 x11 x14) (Rect.unit (s := S128x512) ![0, j] ![128, 128] inb).toLoadRect
      = View.ld k0_pay5 (Rect.unit (s := S128x512) ![0, j] ![128, 128] inb) := by
  unfold kernelRun0_A.sl.HS0_3
  rw [View.readCov_cons_of_disjoint]
  · exact rd2 v c i arg2 harg2 arg3 harg3 arg4 harg4 arg7 harg7 arg11 harg11 arg13 harg13 arg16 harg16 arg26 arg28 x0 x1 x2 x5 x9 x11 x14 j inb (by omega)
  · exact disj_cols 128 j inb_S128x512_S128x128_0_128 inb (Or.inl (by omega))

/-- Pair 3 reads the zeroed carried gradient. -/
theorem rd4 (v : View sig .tc .vmem S128x512 .f32) (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg7 : Memref sig .tc .vmem S128x128 .f32) (harg7 : arg7.IsWhole) (arg11 : Memref sig .tc .vmem S128x128 .f32) (harg11 : arg11.IsWhole) (arg13 : Memref sig .tc .vmem S1x1x128 .f32) (harg13 : arg13.IsWhole) (arg16 : Memref sig .tc .vmem S1x1x512 .f32) (harg16 : arg16.IsWhole) (arg26 arg28 : Memref sig .tc .vmem S128x512 .f32) (x0 x1 x2 : Vec F S128x512 .f32) (x5 x9 : Vec F S128x128 .f32) (x11 : Vec F S1x1x128 .f32) (x14 : Vec F S1x1x512 .f32) (j : Nat) (inb) (hj : 384 ≤ j) :
    v.readCov (kernelRun0_A.sl.HS0_4 c i arg2 harg2 arg3 harg3 arg4 harg4 arg7 harg7 arg11 harg11 arg13 harg13 arg16 harg16 arg26 arg28 x0 x1 x2 x5 x9 x11 x14) (Rect.unit (s := S128x512) ![0, j] ![128, 128] inb).toLoadRect
      = View.ld k0_pay5 (Rect.unit (s := S128x512) ![0, j] ![128, 128] inb) := by
  unfold kernelRun0_A.sl.HS0_4
  rw [View.readCov_cons_of_disjoint]
  · exact rd3 v c i arg2 harg2 arg3 harg3 arg4 harg4 arg7 harg7 arg11 harg11 arg13 harg13 arg16 harg16 arg26 arg28 x0 x1 x2 x5 x9 x11 x14 j inb (by omega)
  · exact disj_cols 256 j inb_S128x512_S128x128_0_256 inb (Or.inl (by omega))

/-- The stored input gradient of a chunk that begins a group. -/
theorem out0_A_16_u (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x1x128x512 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S1x128x128 .f32) (harg12 : arg12.IsWhole) (arg13 : Memref sig .tc .vmem S1x1x128 .f32) (harg13 : arg13.IsWhole) (arg14 : Memref sig .tc .vmem S1x128 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S128x512 .bf16) (harg17 : arg17.IsWhole) (arg18 : Memref sig .tc .vmem S128x512 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S1x128x128 .f32) (harg21 : arg21.IsWhole) (arg22 : Memref sig .tc .vmem S1x1x128 .f32) (harg22 : arg22.IsWhole) (arg23 : Memref sig .tc .vmem S1x1x128 .f32) (harg23 : arg23.IsWhole) (arg24 : Memref sig .tc .vmem S1x1x128 .f32) (harg24 : arg24.IsWhole) (arg25 : Memref sig .tc .vmem S1x1x512 .f32) (harg25 : arg25.IsWhole) (arg26 : Memref sig .tc .vmem S128x512 .f32) (harg26 : arg26.IsWhole) (arg27 : Memref sig .tc .vmem S128x128 .f32) (harg27 : arg27.IsWhole) (arg28 : Memref sig .tc .vmem S128x512 .f32) (harg28 : arg28.IsWhole) (hc0 : cond0_0 i)
    (x0 : Vec F S128x512 .f32) (x1 : Vec F S128x512 .f32) (x2 : Vec F S128x512 .f32) (x3 : Vec F S128x512 .f32) (x4 : Vec F S128x128 .f32) (x5 : Vec F S128x128 .f32) (x6 : Vec F S1x1x128x512 .f32) (x7 : Vec F S128x128 .f32) (x8 : Vec F S128x128 .f32) (x9 : Vec F S128x128 .f32) (x10 : Vec F S1x128x128 .f32) (x11 : Vec F S1x1x128 .f32) (x12 : Vec F S1x128 .f32) (x13 : Vec F S1x1x512 .f32) (x14 : Vec F S1x1x512 .f32) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 =
      dxsU i x4 x5 x7 x9 x10 x11 x13 (dyU x0 x1 x2 x14) k0_pay5 := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14)]
  unfold kernelRun0_A
  dsimp only
  sl_unfold_run_values
  simp only [View.readAt_eq_ld, (harg2).read_unread, (harg3).read_unread, (harg4).read_unread, (harg5).read_unread, (harg6).read_unread, (harg7).read_unread, (harg8).read_unread, (harg9).read_unread, (harg10).read_unread, (harg11).read_unread, (harg12).read_unread, (harg13).read_unread, (harg14).read_unread, (harg15).read_unread, (harg16).read_unread, (harg17).read_unread, (harg18).read_unread, (harg19).read_unread, (harg20).read_unread, (harg21).read_unread, (harg22).read_unread, (harg23).read_unread, (harg24).read_unread, (harg25).read_unread, (harg26).read_unread, (harg27).read_unread, (harg28).read_unread]
  rw [dyL_A]
  rw [rd1, rd2 _ _ _ _ _ _ _ _ _ _ _ _ _ _ _ _ _ _ _ _ _ _ _ _ _ _ _ _ (le_refl _), rd3 _ _ _ _ _ _ _ _ _ _ _ _ _ _ _ _ _ _ _ _ _ _ _ _ _ _ _ _ (le_refl _), rd4 _ _ _ _ _ _ _ _ _ _ _ _ _ _ _ _ _ _ _ _ _ _ _ _ _ _ _ _ (le_refl _)]
  dsimp only [k0_pay1, k0_pay2, k0_pay3, k0_pay4, k0_pay127, k0_pay128, k0_pay129, k0_pay130, k0_pay131, k0_pay132, k0_pay133, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay260, k0_pay261, k0_pay262, k0_pay263, k0_pay264, k0_pay265, k0_pay266, k0_pay267, k0_pay268, k0_pay269, k0_pay329, k0_pay330, k0_pay331, k0_pay332, k0_pay333, k0_pay334, k0_pay335, k0_pay336]
  unfold dxsU
  simp only [← readCov_dy arg28.view]
  dsimp only [dbU, dgU, dcU, dxsU, dsU, ddU, ddAcc, nwAcc, dsP0, dsP1, dsP2, dsP3, colOf, lastOf, sel2, dtP, eP, dec1, decP, allP, lmT, dsT, scT, mT, dxsT, dbT, dcT, dgA, dgB, tot, ddA, ddB, ra0, ra1, ra2, ra3, rb0, rb1, rb2, rb3, hfU, sqU, lastU]

/-- The stored gradient of B of a chunk that begins a group. -/
theorem out0_A_17_u (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x1x128x512 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S1x128x128 .f32) (harg12 : arg12.IsWhole) (arg13 : Memref sig .tc .vmem S1x1x128 .f32) (harg13 : arg13.IsWhole) (arg14 : Memref sig .tc .vmem S1x128 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S128x512 .bf16) (harg17 : arg17.IsWhole) (arg18 : Memref sig .tc .vmem S128x512 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S1x128x128 .f32) (harg21 : arg21.IsWhole) (arg22 : Memref sig .tc .vmem S1x1x128 .f32) (harg22 : arg22.IsWhole) (arg23 : Memref sig .tc .vmem S1x1x128 .f32) (harg23 : arg23.IsWhole) (arg24 : Memref sig .tc .vmem S1x1x128 .f32) (harg24 : arg24.IsWhole) (arg25 : Memref sig .tc .vmem S1x1x512 .f32) (harg25 : arg25.IsWhole) (arg26 : Memref sig .tc .vmem S128x512 .f32) (harg26 : arg26.IsWhole) (arg27 : Memref sig .tc .vmem S128x128 .f32) (harg27 : arg27.IsWhole) (arg28 : Memref sig .tc .vmem S128x512 .f32) (harg28 : arg28.IsWhole) (hc0 : cond0_0 i)
    (x0 : Vec F S128x512 .f32) (x1 : Vec F S128x512 .f32) (x2 : Vec F S128x512 .f32) (x3 : Vec F S128x512 .f32) (x4 : Vec F S128x128 .f32) (x5 : Vec F S128x128 .f32) (x6 : Vec F S1x1x128x512 .f32) (x7 : Vec F S128x128 .f32) (x8 : Vec F S128x128 .f32) (x9 : Vec F S128x128 .f32) (x10 : Vec F S1x128x128 .f32) (x11 : Vec F S1x1x128 .f32) (x12 : Vec F S1x128 .f32) (x13 : Vec F S1x1x512 .f32) (x14 : Vec F S1x1x512 .f32) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 =
      dbU i x3 x5 x7 x9 x10 x11 (dyU x0 x1 x2 x14) k0_pay5 := by
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14)]
  unfold kernelRun0_A
  dsimp only
  sl_unfold_run_values
  simp only [View.readAt_eq_ld, (harg2).read_unread, (harg3).read_unread, (harg4).read_unread, (harg5).read_unread, (harg6).read_unread, (harg7).read_unread, (harg8).read_unread, (harg9).read_unread, (harg10).read_unread, (harg11).read_unread, (harg12).read_unread, (harg13).read_unread, (harg14).read_unread, (harg15).read_unread, (harg16).read_unread, (harg17).read_unread, (harg18).read_unread, (harg19).read_unread, (harg20).read_unread, (harg21).read_unread, (harg22).read_unread, (harg23).read_unread, (harg24).read_unread, (harg25).read_unread, (harg26).read_unread, (harg27).read_unread, (harg28).read_unread]
  refine (View.canon_cons_unit_lit _ _ _ (by decide)).trans ?_
  rw [dyL_A]
  rw [rd1, rd2 _ _ _ _ _ _ _ _ _ _ _ _ _ _ _ _ _ _ _ _ _ _ _ _ _ _ _ _ (le_refl _), rd3 _ _ _ _ _ _ _ _ _ _ _ _ _ _ _ _ _ _ _ _ _ _ _ _ _ _ _ _ (le_refl _), rd4 _ _ _ _ _ _ _ _ _ _ _ _ _ _ _ _ _ _ _ _ _ _ _ _ _ _ _ _ (le_refl _)]
  dsimp only [k0_pay1, k0_pay2, k0_pay3, k0_pay4, k0_pay127, k0_pay128, k0_pay129, k0_pay130, k0_pay131, k0_pay132, k0_pay133, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay260, k0_pay261, k0_pay262, k0_pay263, k0_pay264, k0_pay265, k0_pay266, k0_pay267, k0_pay268, k0_pay269, k0_pay329, k0_pay330, k0_pay331, k0_pay332, k0_pay333, k0_pay334, k0_pay335, k0_pay336]
  unfold dbU dgU
  simp only [← readCov_dy arg28.view]
  dsimp only [dbU, dgU, dcU, dxsU, dsU, ddU, ddAcc, nwAcc, dsP0, dsP1, dsP2, dsP3, colOf, lastOf, sel2, dtP, eP, dec1, decP, allP, lmT, dsT, scT, mT, dxsT, dbT, dcT, dgA, dgB, tot, ddA, ddB, ra0, ra1, ra2, ra3, rb0, rb1, rb2, rb3, hfU, sqU, lastU]

/-- The stored gradient of C of a chunk that begins a group. -/
theorem out0_A_18_u (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x1x128x512 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S1x128x128 .f32) (harg12 : arg12.IsWhole) (arg13 : Memref sig .tc .vmem S1x1x128 .f32) (harg13 : arg13.IsWhole) (arg14 : Memref sig .tc .vmem S1x128 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S128x512 .bf16) (harg17 : arg17.IsWhole) (arg18 : Memref sig .tc .vmem S128x512 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S1x128x128 .f32) (harg21 : arg21.IsWhole) (arg22 : Memref sig .tc .vmem S1x1x128 .f32) (harg22 : arg22.IsWhole) (arg23 : Memref sig .tc .vmem S1x1x128 .f32) (harg23 : arg23.IsWhole) (arg24 : Memref sig .tc .vmem S1x1x128 .f32) (harg24 : arg24.IsWhole) (arg25 : Memref sig .tc .vmem S1x1x512 .f32) (harg25 : arg25.IsWhole) (arg26 : Memref sig .tc .vmem S128x512 .f32) (harg26 : arg26.IsWhole) (arg27 : Memref sig .tc .vmem S128x128 .f32) (harg27 : arg27.IsWhole) (arg28 : Memref sig .tc .vmem S128x512 .f32) (harg28 : arg28.IsWhole) (hc0 : cond0_0 i)
    (x0 : Vec F S128x512 .f32) (x1 : Vec F S128x512 .f32) (x2 : Vec F S128x512 .f32) (x3 : Vec F S128x512 .f32) (x4 : Vec F S128x128 .f32) (x5 : Vec F S128x128 .f32) (x6 : Vec F S1x1x128x512 .f32) (x7 : Vec F S128x128 .f32) (x8 : Vec F S128x128 .f32) (x9 : Vec F S128x128 .f32) (x10 : Vec F S1x128x128 .f32) (x11 : Vec F S1x1x128 .f32) (x12 : Vec F S1x128 .f32) (x13 : Vec F S1x1x512 .f32) (x14 : Vec F S1x1x512 .f32) :
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 =
      dcU i x3 x4 x6 x7 x9 x10 (dyU x0 x1 x2 x14) := by
  unfold out0_A_18
  rw [View.read_writes_eq_canon _ _ _ (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14)]
  unfold kernelRun0_A
  dsimp only
  sl_unfold_run_values
  simp only [View.readAt_eq_ld, (harg2).read_unread, (harg3).read_unread, (harg4).read_unread, (harg5).read_unread, (harg6).read_unread, (harg7).read_unread, (harg8).read_unread, (harg9).read_unread, (harg10).read_unread, (harg11).read_unread, (harg12).read_unread, (harg13).read_unread, (harg14).read_unread, (harg15).read_unread, (harg16).read_unread, (harg17).read_unread, (harg18).read_unread, (harg19).read_unread, (harg20).read_unread, (harg21).read_unread, (harg22).read_unread, (harg23).read_unread, (harg24).read_unread, (harg25).read_unread, (harg26).read_unread, (harg27).read_unread, (harg28).read_unread]
  refine (View.canon_cons_unit_lit _ _ _ (by decide)).trans ?_
  rw [dyL_A]
  dsimp only [k0_pay1, k0_pay2, k0_pay3, k0_pay4, k0_pay127, k0_pay128, k0_pay129, k0_pay130, k0_pay131, k0_pay132, k0_pay133, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay260, k0_pay261, k0_pay262, k0_pay263, k0_pay264, k0_pay265, k0_pay266, k0_pay267, k0_pay268, k0_pay269, k0_pay329, k0_pay330, k0_pay331, k0_pay332, k0_pay333, k0_pay334, k0_pay335, k0_pay336]
  unfold dcU dgU
  simp only [← readCov_dy arg28.view]
  dsimp only [dbU, dgU, dcU, dxsU, dsU, ddU, ddAcc, nwAcc, dsP0, dsP1, dsP2, dsP3, colOf, lastOf, sel2, dtP, eP, dec1, decP, allP, lmT, dsT, scT, mT, dxsT, dbT, dcT, dgA, dgB, tot, ddA, ddB, ra0, ra1, ra2, ra3, rb0, rb1, rb2, rb3, hfU, sqU, lastU]

/-- The stored gradient of D of a chunk that begins a group. -/
theorem out0_A_22_u (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x1x128x512 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S1x128x128 .f32) (harg12 : arg12.IsWhole) (arg13 : Memref sig .tc .vmem S1x1x128 .f32) (harg13 : arg13.IsWhole) (arg14 : Memref sig .tc .vmem S1x128 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S128x512 .bf16) (harg17 : arg17.IsWhole) (arg18 : Memref sig .tc .vmem S128x512 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S1x128x128 .f32) (harg21 : arg21.IsWhole) (arg22 : Memref sig .tc .vmem S1x1x128 .f32) (harg22 : arg22.IsWhole) (arg23 : Memref sig .tc .vmem S1x1x128 .f32) (harg23 : arg23.IsWhole) (arg24 : Memref sig .tc .vmem S1x1x128 .f32) (harg24 : arg24.IsWhole) (arg25 : Memref sig .tc .vmem S1x1x512 .f32) (harg25 : arg25.IsWhole) (arg26 : Memref sig .tc .vmem S128x512 .f32) (harg26 : arg26.IsWhole) (arg27 : Memref sig .tc .vmem S128x128 .f32) (harg27 : arg27.IsWhole) (arg28 : Memref sig .tc .vmem S128x512 .f32) (harg28 : arg28.IsWhole) (hc0 : cond0_0 i)
    (x0 : Vec F S128x512 .f32) (x1 : Vec F S128x512 .f32) (x2 : Vec F S128x512 .f32) (x3 : Vec F S128x512 .f32) (x4 : Vec F S128x128 .f32) (x5 : Vec F S128x128 .f32) (x6 : Vec F S1x1x128x512 .f32) (x7 : Vec F S128x128 .f32) (x8 : Vec F S128x128 .f32) (x9 : Vec F S128x128 .f32) (x10 : Vec F S1x128x128 .f32) (x11 : Vec F S1x1x128 .f32) (x12 : Vec F S1x128 .f32) (x13 : Vec F S1x1x512 .f32) (x14 : Vec F S1x1x512 .f32) :
    out0_A_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 =
      ddAcc k0_pay8 (ddU i x3 (dyU x0 x1 x2 x14)) := by
  unfold out0_A_22
  rw [View.read_writes_eq_canon _ _ _ (cover0_A_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14)]
  unfold kernelRun0_A
  dsimp only
  sl_unfold_run_values
  simp only [View.readAt_eq_ld, (harg2).read_unread, (harg3).read_unread, (harg4).read_unread, (harg5).read_unread, (harg6).read_unread, (harg7).read_unread, (harg8).read_unread, (harg9).read_unread, (harg10).read_unread, (harg11).read_unread, (harg12).read_unread, (harg13).read_unread, (harg14).read_unread, (harg15).read_unread, (harg16).read_unread, (harg17).read_unread, (harg18).read_unread, (harg19).read_unread, (harg20).read_unread, (harg21).read_unread, (harg22).read_unread, (harg23).read_unread, (harg24).read_unread, (harg25).read_unread, (harg26).read_unread, (harg27).read_unread, (harg28).read_unread]
  refine (View.canon_cons_unit_lit _ _ _ (by decide)).trans ?_
  rw [dyL_A]
  unfold kernelRun0_A.sl.H21_1
  rw [View.readCov_cons_toLoadRect]
  unfold kernelRun0_A.sl.v1683 kernelRun0_A.sl.v1680 kernelRun0_A.sl.cst_590 k0_pay8
  dsimp only [k0_pay1]
  unfold ddU ddAcc
  simp only [← readCov_dy arg28.view]
  dsimp only [dbU, dgU, dcU, dxsU, dsU, ddU, ddAcc, nwAcc, dsP0, dsP1, dsP2, dsP3, colOf, lastOf, sel2, dtP, eP, dec1, decP, allP, lmT, dsT, scT, mT, dxsT, dbT, dcT, dgA, dgB, tot, ddA, ddB, ra0, ra1, ra2, ra3, rb0, rb1, rb2, rb3, hfU, sqU, lastU]

/-- The stored gradient of the norm weight of a chunk that begins a group. -/
theorem out0_A_23_u (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x1x128x512 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S1x128x128 .f32) (harg12 : arg12.IsWhole) (arg13 : Memref sig .tc .vmem S1x1x128 .f32) (harg13 : arg13.IsWhole) (arg14 : Memref sig .tc .vmem S1x128 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S128x512 .bf16) (harg17 : arg17.IsWhole) (arg18 : Memref sig .tc .vmem S128x512 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S1x128x128 .f32) (harg21 : arg21.IsWhole) (arg22 : Memref sig .tc .vmem S1x1x128 .f32) (harg22 : arg22.IsWhole) (arg23 : Memref sig .tc .vmem S1x1x128 .f32) (harg23 : arg23.IsWhole) (arg24 : Memref sig .tc .vmem S1x1x128 .f32) (harg24 : arg24.IsWhole) (arg25 : Memref sig .tc .vmem S1x1x512 .f32) (harg25 : arg25.IsWhole) (arg26 : Memref sig .tc .vmem S128x512 .f32) (harg26 : arg26.IsWhole) (arg27 : Memref sig .tc .vmem S128x128 .f32) (harg27 : arg27.IsWhole) (arg28 : Memref sig .tc .vmem S128x512 .f32) (harg28 : arg28.IsWhole) (hc0 : cond0_0 i)
    (x0 : Vec F S128x512 .f32) (x1 : Vec F S128x512 .f32) (x2 : Vec F S128x512 .f32) (x3 : Vec F S128x512 .f32) (x4 : Vec F S128x128 .f32) (x5 : Vec F S128x128 .f32) (x6 : Vec F S1x1x128x512 .f32) (x7 : Vec F S128x128 .f32) (x8 : Vec F S128x128 .f32) (x9 : Vec F S128x128 .f32) (x10 : Vec F S1x128x128 .f32) (x11 : Vec F S1x1x128 .f32) (x12 : Vec F S1x128 .f32) (x13 : Vec F S1x1x512 .f32) (x14 : Vec F S1x1x512 .f32) :
    out0_A_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 =
      nwAcc k0_pay9 (nwsU x0 x1 x2) := by
  unfold out0_A_23
  rw [View.read_writes_eq_canon _ _ _ (cover0_A_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14)]
  unfold kernelRun0_A
  dsimp only
  sl_unfold_run_values
  simp only [View.readAt_eq_ld, (harg2).read_unread, (harg3).read_unread, (harg4).read_unread, (harg5).read_unread, (harg6).read_unread, (harg7).read_unread, (harg8).read_unread, (harg9).read_unread, (harg10).read_unread, (harg11).read_unread, (harg12).read_unread, (harg13).read_unread, (harg14).read_unread, (harg15).read_unread, (harg16).read_unread, (harg17).read_unread, (harg18).read_unread, (harg19).read_unread, (harg20).read_unread, (harg21).read_unread, (harg22).read_unread, (harg23).read_unread, (harg24).read_unread, (harg25).read_unread, (harg26).read_unread, (harg27).read_unread, (harg28).read_unread]
  refine (View.canon_cons_unit_lit _ _ _ (by decide)).trans ?_
  unfold kernelRun0_A.sl.H23_1
  rw [View.readCov_cons_toLoadRect]
  unfold kernelRun0_A.sl.v1695 kernelRun0_A.sl.v1692 kernelRun0_A.sl.cst_590 k0_pay9
  dsimp only [nwAcc, nwsU, sgS, ygS, meanS, rsS, yhS, nwS, dhS, dyS, nwU, dyL]

/-- The carried gradient after a chunk that begins a group. -/
theorem sout0_A_0_u (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x1x128x512 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S1x128x128 .f32) (harg12 : arg12.IsWhole) (arg13 : Memref sig .tc .vmem S1x1x128 .f32) (harg13 : arg13.IsWhole) (arg14 : Memref sig .tc .vmem S1x128 .f32) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S128x512 .bf16) (harg17 : arg17.IsWhole) (arg18 : Memref sig .tc .vmem S128x512 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S1x128x128 .f32) (harg21 : arg21.IsWhole) (arg22 : Memref sig .tc .vmem S1x1x128 .f32) (harg22 : arg22.IsWhole) (arg23 : Memref sig .tc .vmem S1x1x128 .f32) (harg23 : arg23.IsWhole) (arg24 : Memref sig .tc .vmem S1x1x128 .f32) (harg24 : arg24.IsWhole) (arg25 : Memref sig .tc .vmem S1x1x512 .f32) (harg25 : arg25.IsWhole) (arg26 : Memref sig .tc .vmem S128x512 .f32) (harg26 : arg26.IsWhole) (arg27 : Memref sig .tc .vmem S128x128 .f32) (harg27 : arg27.IsWhole) (arg28 : Memref sig .tc .vmem S128x512 .f32) (harg28 : arg28.IsWhole) (hc0 : cond0_0 i)
    (x0 : Vec F S128x512 .f32) (x1 : Vec F S128x512 .f32) (x2 : Vec F S128x512 .f32) (x3 : Vec F S128x512 .f32) (x4 : Vec F S128x128 .f32) (x5 : Vec F S128x128 .f32) (x6 : Vec F S1x1x128x512 .f32) (x7 : Vec F S128x128 .f32) (x8 : Vec F S128x128 .f32) (x9 : Vec F S128x128 .f32) (x10 : Vec F S1x128x128 .f32) (x11 : Vec F S1x1x128 .f32) (x12 : Vec F S1x128 .f32) (x13 : Vec F S1x1x512 .f32) (x14 : Vec F S1x1x512 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 =
      dsU i x5 x9 x11 (dyU x0 x1 x2 x14) k0_pay5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14)]
  unfold kernelRun0_A
  dsimp only
  sl_unfold_run_values
  simp only [View.readAt_eq_ld, (harg2).read_unread, (harg3).read_unread, (harg4).read_unread, (harg5).read_unread, (harg6).read_unread, (harg7).read_unread, (harg8).read_unread, (harg9).read_unread, (harg10).read_unread, (harg11).read_unread, (harg12).read_unread, (harg13).read_unread, (harg14).read_unread, (harg15).read_unread, (harg16).read_unread, (harg17).read_unread, (harg18).read_unread, (harg19).read_unread, (harg20).read_unread, (harg21).read_unread, (harg22).read_unread, (harg23).read_unread, (harg24).read_unread, (harg25).read_unread, (harg26).read_unread, (harg27).read_unread, (harg28).read_unread]
  rw [rd4 _ _ _ _ _ _ _ _ _ _ _ _ _ _ _ _ _ _ _ _ _ _ _ _ _ _ _ _ (le_refl _)]
  unfold kernelRun0_A.sl.HS0_4
  sl_unfold_run_values
  simp only [View.readAt_eq_ld, (harg2).read_unread, (harg3).read_unread, (harg4).read_unread, (harg7).read_unread, (harg11).read_unread, (harg13).read_unread, (harg16).read_unread]
  rw [dyL_A, rd3 _ _ _ _ _ _ _ _ _ _ _ _ _ _ _ _ _ _ _ _ _ _ _ _ _ _ _ _ (le_refl _)]
  unfold kernelRun0_A.sl.HS0_3
  sl_unfold_run_values
  simp only [View.readAt_eq_ld, (harg2).read_unread, (harg3).read_unread, (harg4).read_unread, (harg7).read_unread, (harg11).read_unread, (harg13).read_unread, (harg16).read_unread]
  rw [rd2 _ _ _ _ _ _ _ _ _ _ _ _ _ _ _ _ _ _ _ _ _ _ _ _ _ _ _ _ (le_refl _)]
  unfold kernelRun0_A.sl.HS0_2
  sl_unfold_run_values
  simp only [View.readAt_eq_ld, (harg2).read_unread, (harg3).read_unread, (harg4).read_unread, (harg7).read_unread, (harg11).read_unread, (harg13).read_unread, (harg16).read_unread]
  rw [rd1]
  try rw [dyL_A]
  dsimp only [k0_pay1, k0_pay2, k0_pay3, k0_pay4, k0_pay127, k0_pay128, k0_pay129, k0_pay130, k0_pay131, k0_pay132, k0_pay133, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay260, k0_pay261, k0_pay262, k0_pay263, k0_pay264, k0_pay265, k0_pay266, k0_pay267, k0_pay268, k0_pay269, k0_pay329, k0_pay330, k0_pay331, k0_pay332, k0_pay333, k0_pay334, k0_pay335, k0_pay336]
  unfold dsU dsP0 dsP1 dsP2 dsP3
  simp only [← readCov_dy arg28.view]
  refine Eq.trans ?_ (canon_cols _ _ _ _ kernelRun0_A.sl.HS0_1)
  dsimp only [dbU, dgU, dcU, dxsU, dsU, ddU, ddAcc, nwAcc, dsP0, dsP1, dsP2, dsP3, colOf, lastOf, sel2, dtP, eP, dec1, decP, allP, lmT, dsT, scT, mT, dxsT, dbT, dcT, dgA, dgB, tot, ddA, ddB, ra0, ra1, ra2, ra3, rb0, rb1, rb2, rb3, hfU, sqU, lastU]

end Cert.KernelIdeal.U
-- ==== Proof.Carry.lean ====
module

public import proofs.«01_k».proof.Proof.Blocks
public import proofs.«01_k».proof.Proof.KernelB
public import proofs.«01_k».proof.Proof.KernelA

/-! The kernel over the sixteen steps of a group: the state gradient that is carried backwards through the chunks, the gradients
that are added up over the chunks, and the blocks that each step writes. -/

@[expose] public section
noncomputable section
namespace Cert.KernelIdeal.Pts
open Cert.KernelIdeal Cert.KernelIdeal.Gen Cert.KernelIdeal.U Cert.Ssd Cert.KernelIdeal.K
open Idealize.ShloMosaic Idealize.ShloMosaic.TcCoe Idealize.SL.Sem
open scoped BigOperators

/-- The cleared state gradient. -/
theorem pay5_apply (n : Fin 128) (k : Fin 512) : (k0_pay5 (F := Ideal) : Vec Ideal S128x512 .f32) (ix2 n k) = 0 := by
  simp only [k0_pay5, pointwise]
/-- The cleared gradient of D. -/
theorem pay8_apply (j : Fin 128) : (k0_pay8 (F := Ideal) : Vec Ideal S1x1x128 .f32) (ix3 0 0 j) = 0 := by
  simp only [k0_pay8, pointwise]
/-- The cleared gradient of the norm's weights. -/
theorem pay9_apply (k : Fin 512) : (k0_pay9 (F := Ideal) : Vec Ideal S1x1x512 .f32) (ix3 0 0 k) = 0 := by
  simp only [k0_pay9, pointwise]

/-- Adding to the running gradient of D. -/
theorem ddAcc_apply (old : Vec Ideal S1x1x128 .f32) (v : FVec Ideal S1x128 .f32) (j : Fin 128) :
    ddAcc old v (ix3 0 0 j) = old (ix3 0 0 j) + v (ix2 0 j) := by
  simp only [ddAcc, pointwise]
  <;> rfl
/-- Adding to the running gradient of the norm's weights. -/
theorem nwAcc_apply (old : Vec Ideal S1x1x512 .f32) (v : FVec Ideal S1x512 .f32) (k : Fin 512) :
    nwAcc old v (ix3 0 0 k) = old (ix3 0 0 k) + v (ix2 0 k) := by
  simp only [nwAcc, pointwise]
  <;> rfl

/-- The chunk that a group's step `n` works on: the chunks are taken from the last to the first. -/
abbrev bk (n : Nat) : Fin 16 := ⟨15 - n, by omega⟩

/-- The gradient of D, of one head, added up over the last `n` chunks. -/
def ddS (Q : Fin 16 → Pt) (n : Nat) (h : Fin 8) : EReal := ∑ i ∈ Finset.range n, (Q ⟨15 - i, by omega⟩).dd h
/-- The gradient of the norm's weights added up over the last `n` chunks. -/
def nwT (Q : Fin 16 → Pt) (n : Nat) (k : Fin 512) : EReal := ∑ i ∈ Finset.range n, (Q ⟨15 - i, by omega⟩).dnw k

/-- A sum over the chunks from the last to the first. -/
theorem sum_back (f : Fin 16 → EReal) : ∑ i ∈ Finset.range 16, f ⟨15 - i, by omega⟩ = ∑ c, f c := by
  rw [Finset.sum_range (fun i => f ⟨15 - i, by omega⟩), ← Equiv.sum_comp Fin.revPerm f]
  refine Finset.sum_congr rfl fun i _ => congrArg f (Fin.ext ?_)
  show 15 - i.val = 16 - (i.val + 1)
  omega

variable (m : (ℓ : Loc nD τ sig) → Buf (Elt Ideal) ℓ) (c : Dev nD)

/-- Which step of its group a grid point is. -/
theorem co1 : ∀ t : Fin cfg0.N, (grid0.coords t 1).val = t.val % 16 := (by decide +kernel : ∀ t : Fin grid0.N, _)
/-- Which group a grid point belongs to. -/
theorem co0 : ∀ t : Fin cfg0.N, (grid0.coords t 0).val = t.val / 16 := (by decide +kernel : ∀ t : Fin grid0.N, _)

/-- What is carried after `n` chunks of a group: the state gradient and the running sums. -/
structure Inv (g : Fin 4) (n : Nat) (ds : Vec Ideal S128x512 .f32) (dd : Vec Ideal S1x1x128 .f32) (nw : Vec Ideal S1x1x512 .f32) : Prop where
  ds : ∀ a k, ds (ix2 a k) = DS (fun ch => P m c ch g) n a k
  dd : ∀ j : Fin 128, dd (ix3 0 0 j) = if hj : 8 * g.val ≤ j.val ∧ j.val < 8 * g.val + 8 then ddS (fun ch => P m c ch g) n ⟨j.val - 8 * g.val, by omega⟩ else 0
  nw : ∀ k, nw (ix3 0 0 k) = nwT (fun ch => P m c ch g) n k

/-- Nothing has been carried before the first chunk. -/
theorem inv0 (g : Fin 4) : Inv m c g 0 (k0_pay5 (F := Ideal)) (k0_pay8 (F := Ideal)) (k0_pay9 (F := Ideal)) where
  ds a k := pay5_apply a k
  dd j := by
    rw [pay8_apply]
    split_ifs
    · exact (Finset.sum_range_zero _).symm
    · rfl
  nw k := (pay9_apply k).trans (Finset.sum_range_zero _).symm

section step
variable (t : Fin cfg0.N) (g : Fin 4) (n : Nat) (h1 : t.val % 16 = n) (hg : t.val / 16 = g.val)
    {ds : Vec Ideal S128x512 .f32} {dd : Vec Ideal S1x1x128 .f32} {nw : Vec Ideal S1x1x512 .f32} (I : Inv m c g n ds dd nw)
include h1 hg

/-- The blocks at a point, by the point's number. -/
theorem blk' : Blk (P m c (bk n) g) g (iblk m c 0 t) (iblk m c 1 t) (iblk m c 2 t) (iblk m c 3 t) (iblk m c 4 t) (iblk m c 5 t)
    (iblk m c 6 t) (iblk m c 7 t) (iblk m c 9 t) (iblk m c 10 t) (iblk m c 11 t) (iblk m c 13 t) (iblk m c 14 t) :=
  blk m c t (bk n) g (by rw [co1, h1]) (by rw [co0, hg])

/-- The gradient before the gate at a point. -/
theorem dyP (l : Fin 128) (k : Fin 512) :
    dyU (iblk m c 0 t) (iblk m c 1 t) (iblk m c 2 t) (iblk m c 14 t) (ix2 l k) = (P m c (bk n) g).dy l k :=
  dyU_apply (blk' m c t g n h1 hg) l k

include I in
/-- One more chunk. -/
theorem inv_step : Inv m c g (n + 1)
    (dsU (grid0.coords t) (iblk m c 5 t) (iblk m c 9 t) (iblk m c 11 t) (dyU (iblk m c 0 t) (iblk m c 1 t) (iblk m c 2 t) (iblk m c 14 t)) ds)
    (ddAcc dd (ddU (grid0.coords t) (iblk m c 3 t) (dyU (iblk m c 0 t) (iblk m c 1 t) (iblk m c 2 t) (iblk m c 14 t))))
    (nwAcc nw (nwsU (iblk m c 0 t) (iblk m c 1 t) (iblk m c 2 t))) where
  ds a k := dsU_apply (blk' m c t g n h1 hg) (grid0.coords t) ((co0 t).trans hg) _ ds _ (dyP m c t g n h1 hg) I.ds a k
  dd j := by
    rw [ddAcc_apply, I.dd, ddU_apply (blk' m c t g n h1 hg) (grid0.coords t) ((co0 t).trans hg) _ (dyP m c t g n h1 hg)]
    split_ifs
    · exact (Finset.sum_range_succ _ _).symm
    · exact zero_add _
  nw k := by
    rw [nwAcc_apply, I.nw, nwsU_apply (blk' m c t g n h1 hg)]
    exact (Finset.sum_range_succ _ _).symm

include I in
/-- The block of the input's gradient. -/
theorem dxs_step (s : Fin 128) (k : Fin 512) :
    dxsU (grid0.coords t) (iblk m c 4 t) (iblk m c 5 t) (iblk m c 7 t) (iblk m c 9 t) (iblk m c 10 t) (iblk m c 11 t) (iblk m c 13 t)
      (dyU (iblk m c 0 t) (iblk m c 1 t) (iblk m c 2 t) (iblk m c 14 t)) ds (ix2 s k)
      = (P m c (bk n) g).dxs (DS (fun ch => P m c ch g) n) s k :=
  dxsU_apply (blk' m c t g n h1 hg) (grid0.coords t) ((co0 t).trans hg) _ ds _ (dyP m c t g n h1 hg) I.ds s k
include I in
/-- The block of B's gradient. -/
theorem db_step (s a : Fin 128) :
    dbU (grid0.coords t) (iblk m c 3 t) (iblk m c 5 t) (iblk m c 7 t) (iblk m c 9 t) (iblk m c 10 t) (iblk m c 11 t)
      (dyU (iblk m c 0 t) (iblk m c 1 t) (iblk m c 2 t) (iblk m c 14 t)) ds (ix2 s a)
      = (P m c (bk n) g).db (DS (fun ch => P m c ch g) n) s a :=
  dbU_apply (blk' m c t g n h1 hg) (grid0.coords t) ((co0 t).trans hg) _ ds _ (dyP m c t g n h1 hg) I.ds s a
/-- The block of C's gradient. -/
theorem dc_step (l a : Fin 128) :
    dcU (grid0.coords t) (iblk m c 3 t) (iblk m c 4 t) (iblk m c 6 t) (iblk m c 7 t) (iblk m c 9 t) (iblk m c 10 t)
      (dyU (iblk m c 0 t) (iblk m c 1 t) (iblk m c 2 t) (iblk m c 14 t)) (ix2 l a)
      = (P m c (bk n) g).dc l a :=
  dcU_apply (blk' m c t g n h1 hg) (grid0.coords t) ((co0 t).trans hg) _ (dyP m c t g n h1 hg) l a
end step

/-- What holds after a point: the carried values, and the point's blocks of the three gradients. -/
structure Out (t : Fin cfg0.N) (g : Fin 4) (n : Nat) : Prop where
  inv : Inv m c g (n + 1) (outsAt0 m c t.val t.isLt).2.2.2.2.2.2.2.2.2 (outsAt0 m c t.val t.isLt).2.2.2.2.2.2.2.1 (outsAt0 m c t.val t.isLt).2.2.2.2.2.2.2.2.1
  dxs : ∀ s k, (outsAt0 m c t.val t.isLt).2.1 (ix2 s k) = (P m c (bk n) g).dxs (DS (fun ch => P m c ch g) n) s k
  db : ∀ s a, (outsAt0 m c t.val t.isLt).2.2.1 (ix2 s a) = (P m c (bk n) g).db (DS (fun ch => P m c ch g) n) s a
  dc : ∀ l a, (outsAt0 m c t.val t.isLt).2.2.2.1 (ix2 l a) = (P m c (bk n) g).dc l a

/-- The first point of a group. -/
theorem out_A (t : Fin cfg0.N) (g : Fin 4) (h0 : t.val % 16 = 0) (hg : t.val / 16 = g.val) : Out m c t g 0 := by
  have e16 := congrArg (fun o => o.2.1) (outsAt0_A m c t h0)
  have e17 := congrArg (fun o => o.2.2.1) (outsAt0_A m c t h0)
  have e18 := congrArg (fun o => o.2.2.2.1) (outsAt0_A m c t h0)
  have e22 := congrArg (fun o => o.2.2.2.2.2.2.2.1) (outsAt0_A m c t h0)
  have e23 := congrArg (fun o => o.2.2.2.2.2.2.2.2.1) (outsAt0_A m c t h0)
  have es := congrArg (fun o => o.2.2.2.2.2.2.2.2.2) (outsAt0_A m c t h0)
  dsimp only at e16 e17 e18 e22 e23 es
  rw [out0_A_16_u] at e16
  rw [out0_A_17_u] at e17
  rw [out0_A_18_u] at e18
  rw [out0_A_22_u] at e22
  rw [out0_A_23_u] at e23
  rw [sout0_A_0_u] at es
  constructor
  · rw [es, e22, e23]
    exact inv_step m c t g 0 h0 hg (inv0 m c g)
  · intro s k
    rw [e16]
    exact dxs_step m c t g 0 h0 hg (inv0 m c g) s k
  · intro s a
    rw [e17]
    exact db_step m c t g 0 h0 hg (inv0 m c g) s a
  · intro s a
    rw [e18]
    exact dc_step m c t g 0 h0 hg s a

/-- A later point of a group, after the point before it. -/
theorem out_B (t t' : Fin cfg0.N) (g : Fin 4) (n : Nat) (ht : t'.val = t.val - 1) (hn : n + 1 < 16) (h1 : t.val % 16 = n + 1) (hg : t.val / 16 = g.val)
    (I : Out m c t' g n) : Out m c t g (n + 1) := by
  obtain ⟨v, hv⟩ := t'
  dsimp only at ht
  subst ht
  have h0 : ¬ t.val % 16 = 0 := by omega
  have e16 := congrArg (fun o => o.2.1) (outsAt0_B m c t h0)
  have e17 := congrArg (fun o => o.2.2.1) (outsAt0_B m c t h0)
  have e18 := congrArg (fun o => o.2.2.2.1) (outsAt0_B m c t h0)
  have e22 := congrArg (fun o => o.2.2.2.2.2.2.2.1) (outsAt0_B m c t h0)
  have e23 := congrArg (fun o => o.2.2.2.2.2.2.2.2.1) (outsAt0_B m c t h0)
  have es := congrArg (fun o => o.2.2.2.2.2.2.2.2.2) (outsAt0_B m c t h0)
  dsimp only at e16 e17 e18 e22 e23 es
  rw [out0_B_16_u] at e16
  rw [out0_B_17_u] at e17
  rw [out0_B_18_u] at e18
  rw [out0_B_22_u] at e22
  rw [out0_B_23_u] at e23
  rw [sout0_B_0_u] at es
  constructor
  · rw [es, e22, e23]
    exact inv_step m c t g (n + 1) h1 hg I.inv
  · intro s k
    rw [e16]
    exact dxs_step m c t g (n + 1) h1 hg I.inv s k
  · intro s a
    rw [e17]
    exact db_step m c t g (n + 1) h1 hg I.inv s a
  · intro s a
    rw [e18]
    exact dc_step m c t g (n + 1) h1 hg s a

/-- Every point. -/
theorem out_all (g : Fin 4) : ∀ (n : Nat) (hn : n < 16) (t : Fin cfg0.N), t.val = 16 * g.val + n → Out m c t g n
  | 0, _, t, ht => out_A m c t g (by omega) (by omega)
  | n + 1, hn, t, ht => out_B m c t ⟨t.val - 1, by have := t.isLt; omega⟩ g n rfl hn (by omega) (by omega)
      (out_all g n (by omega) ⟨t.val - 1, by have := t.isLt; omega⟩ (by show t.val - 1 = _; omega))

end Cert.KernelIdeal.Pts
-- ==== Proof.Arrays.lean ====
module

public import proofs.«01_k».proof.Proof.Carry

/-! The result arrays of the kernel are the results of the reference. -/

@[expose] public section
noncomputable section
namespace Cert.KernelIdeal.Pts
open Cert.KernelIdeal Cert.KernelIdeal.Gen Cert.KernelIdeal.U Cert.Ssd Cert.KernelIdeal.K
open Idealize.ShloMosaic Idealize.ShloMosaic.TcCoe Idealize.SL.Sem
open scoped BigOperators

/-- Which block of its array window 16 writes. -/
theorem e16 : ∀ t : Fin cfg0.N, win0_16.index t = ![15 - (grid0.coords t 1).val, (grid0.coords t 0).val] := (by decide +kernel : ∀ t : Fin grid0.N, _)
/-- Which block of its array window 17 writes. -/
theorem e17 : ∀ t : Fin cfg0.N, win0_17.index t = ![15 - (grid0.coords t 1).val, (grid0.coords t 0).val] := (by decide +kernel : ∀ t : Fin grid0.N, _)
/-- Which block of its array window 18 writes. -/
theorem e18 : ∀ t : Fin cfg0.N, win0_18.index t = ![15 - (grid0.coords t 1).val, (grid0.coords t 0).val] := (by decide +kernel : ∀ t : Fin grid0.N, _)
/-- Which block of its array window 22 writes. -/
theorem e22 : ∀ t : Fin cfg0.N, win0_22.index t = ![(grid0.coords t 0).val, 0, 0] := (by decide +kernel : ∀ t : Fin grid0.N, _)
/-- Which block of its array window 23 writes. -/
theorem e23 : ∀ t : Fin cfg0.N, win0_23.index t = ![(grid0.coords t 0).val, 0, 0] := (by decide +kernel : ∀ t : Fin grid0.N, _)

/-- The carried sums leave the core at the last point of a group. -/
theorem fl22 : ∀ t : Fin cfg0.N, (cfg0.win 22).flush t = true → t.val % 16 = 15 := fun t h => (flush0_22 t).mp h
/-- The same for the norm's weights. -/
theorem fl23 : ∀ t : Fin cfg0.N, (cfg0.win 23).flush t = true → t.val % 16 = 15 := fun t h => (flush0_23 t).mp h

variable (m : (ℓ : Loc nD τ sig) → Buf (Elt Ideal) ℓ) (c : Dev nD)

/-- The group of a grid point. -/
abbrev tg (t : Fin cfg0.N) : Fin 4 := ⟨t.val / 16, by have h := lt_of_lt_of_eq t.isLt (show cfg0.N = 64 from N_0); omega⟩
/-- What holds after a grid point, by its number. -/
theorem out_at (t : Fin cfg0.N) : Out m c t (tg t) (t.val % 16) :=
  out_all m c (tg t) (t.val % 16) (Nat.mod_lt _ (by decide)) t (by show t.val = 16 * (t.val / 16) + t.val % 16; omega)
/-- Counting a chunk's place from the end twice. -/
theorem bk_back (n : Nat) (h : n < 16) : 15 - (bk n).val = n := by show 15 - (15 - n) = n; omega

set_option maxHeartbeats 1000000 in
/-- The gradient of the scan's input. -/
theorem arr16 : (dats m 0 c).arrAt 16 cfg0.N = Cert.ReferenceIdeal.Read.val_main_v646 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) := by
  refine (dats m 0 c).arrAt_eq_of_covers 16 _ (by decide +kernel) fun t hf y => ?_
  blk_simp
  rw [after0_16]
  have hm : t.val % 16 < 16 := Nat.mod_lt _ (by decide)
  obtain ⟨s, k, rfl⟩ : ∃ (s : Fin 128) (k : Fin 512), y = ix2 s k := ⟨y 0, y 1, (ix2_eta (n0 := 128) (n1 := 512) y).symm⟩
  refine ((out_at m c t).dxs s k).trans (Eq.trans ?_ (congrArg (Cert.ReferenceIdeal.Read.val_main_v646 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)))
    (show ValueIdx.ix2 (RefRead.row (bk (t.val % 16)) s) (RefRead.gc (tg t) k) = _ from ?_)))
  · rw [RefRead.r_v646 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (bk (t.val % 16)) s (tg t) k, bk_back _ hm]
  · rw [← ix2_eq_valueIdx]
    have h1 := co1 t
    have h0 := co0 t
    blk_ext [e16]

set_option maxHeartbeats 1000000 in
/-- The gradient of B. -/
theorem arr17 : (dats m 0 c).arrAt 17 cfg0.N = Cert.ReferenceIdeal.Read.val_main_v647 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) := by
  refine (dats m 0 c).arrAt_eq_of_covers 17 _ (by decide +kernel) fun t hf y => ?_
  blk_simp
  rw [after0_17]
  have hm : t.val % 16 < 16 := Nat.mod_lt _ (by decide)
  obtain ⟨s, k, rfl⟩ : ∃ (s : Fin 128) (k : Fin 128), y = ix2 s k := ⟨y 0, y 1, (ix2_eta (n0 := 128) (n1 := 128) y).symm⟩
  refine ((out_at m c t).db s k).trans (Eq.trans ?_ (congrArg (Cert.ReferenceIdeal.Read.val_main_v647 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)))
    (show ValueIdx.ix2 (RefRead.row (bk (t.val % 16)) s) (RefRead.gn (tg t) k) = _ from ?_)))
  · rw [RefRead.r_v647 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (bk (t.val % 16)) s (tg t) k, bk_back _ hm]
  · rw [← ix2_eq_valueIdx]
    have h1 := co1 t
    have h0 := co0 t
    blk_ext [e17]

set_option maxHeartbeats 1000000 in
/-- The gradient of C. -/
theorem arr18 : (dats m 0 c).arrAt 18 cfg0.N = Cert.ReferenceIdeal.Read.val_main_v648 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) := by
  refine (dats m 0 c).arrAt_eq_of_covers 18 _ (by decide +kernel) fun t hf y => ?_
  blk_simp
  rw [after0_18]
  have hm : t.val % 16 < 16 := Nat.mod_lt _ (by decide)
  obtain ⟨s, k, rfl⟩ : ∃ (s : Fin 128) (k : Fin 128), y = ix2 s k := ⟨y 0, y 1, (ix2_eta (n0 := 128) (n1 := 128) y).symm⟩
  refine ((out_at m c t).dc s k).trans (Eq.trans ?_ (congrArg (Cert.ReferenceIdeal.Read.val_main_v648 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)))
    (show ValueIdx.ix2 (RefRead.row (bk (t.val % 16)) s) (RefRead.gn (tg t) k) = _ from ?_)))
  · rw [RefRead.r_v648 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (bk (t.val % 16)) s (tg t) k]
  · rw [← ix2_eq_valueIdx]
    have h1 := co1 t
    have h0 := co0 t
    blk_ext [e18]

set_option maxHeartbeats 1000000 in
/-- The gradient of D. -/
theorem arr22 : (dats m 0 c).arrAt 22 cfg0.N = Cert.ReferenceIdeal.Read.val_main_v662 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) := by
  refine (dats m 0 c).arrAt_eq_of_covers 22 _ (by decide +kernel) fun t hf y => ?_
  have hm := fl22 t hf
  blk_simp
  rw [after0_22]
  obtain ⟨k, rfl⟩ : ∃ k : Fin 128, y = ix3 0 0 k := ⟨y 2, by
    refine (ix3_eta (n0 := 1) (n1 := 1) (n2 := 128) y).symm.trans ?_
    congr 1 <;> exact Subsingleton.elim _ _⟩
  refine ((out_at m c t).inv.dd k).trans (Eq.trans ?_ (congrArg (Cert.ReferenceIdeal.Read.val_main_v662 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)))
    (show ValueIdx.ix3 (tg t) (0 : Fin 1) k = _ from ?_)))
  · rw [RefRead.r_v662 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (tg t) k, hm]
    split_ifs
    · exact sum_back (fun ch => (P m c ch (tg t)).dd _)
    · rfl
  · rw [← ix3_eq_valueIdx]
    have h0 := co0 t
    blk_ext [e22]

set_option maxHeartbeats 1000000 in
/-- The gradient of the norm's weights. -/
theorem arr23 : (dats m 0 c).arrAt 23 cfg0.N = Cert.ReferenceIdeal.Read.val_main_v663 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg6)) := by
  refine (dats m 0 c).arrAt_eq_of_covers 23 _ (by decide +kernel) fun t hf y => ?_
  have hm := fl23 t hf
  blk_simp
  rw [after0_23]
  obtain ⟨k, rfl⟩ : ∃ k : Fin 512, y = ix3 0 0 k := ⟨y 2, by
    refine (ix3_eta (n0 := 1) (n1 := 1) (n2 := 512) y).symm.trans ?_
    congr 1 <;> exact Subsingleton.elim _ _⟩
  refine ((out_at m c t).inv.nw k).trans (Eq.trans ?_ (congrArg (Cert.ReferenceIdeal.Read.val_main_v663 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg6)))
    (show ValueIdx.ix3 (tg t) (0 : Fin 1) k = _ from ?_)))
  · rw [RefRead.r_v663 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (tg t) k, hm]
    exact sum_back (fun ch => (P m c ch (tg t)).dnw k)
  · rw [← ix3_eq_valueIdx]
    have h0 := co0 t
    blk_ext [e23]

end Cert.KernelIdeal.Pts
-- ==== Proof.Runs.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Proof.Arrays

/-! The runs of the two programs over the extended reals, their results named by the stages of the reference. -/

@[expose] public section

noncomputable section

namespace Cert.Proof

open Idealize.ShloMosaic Idealize.ShloMosaic.TcCoe Idealize.SL.Sem

/-- The kernel's run, its five results named by the reference's stages over the kernel's own arguments. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩ fun r => ∀ c : Dev Cert.KernelIdeal.nD,
      r.2.mem ((c.tc : Thread Cert.KernelIdeal.nD Cert.KernelIdeal.τ).loc Cert.KernelIdeal.main_v243_1) = Cert.ReferenceIdeal.Read.val_main_v646 (F := Ideal) (m (c, Proc.devRef .tc Cert.KernelIdeal.main_arg0)) (m (c, Proc.devRef .tc Cert.KernelIdeal.main_arg1)) (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg5)) (m (c, Proc.devRef .tc Cert.KernelIdeal.main_arg6))
      ∧ r.2.mem ((c.tc : Thread Cert.KernelIdeal.nD Cert.KernelIdeal.τ).loc Cert.KernelIdeal.main_v243_2) = Cert.ReferenceIdeal.Read.val_main_v647 (F := Ideal) (m (c, Proc.devRef .tc Cert.KernelIdeal.main_arg0)) (m (c, Proc.devRef .tc Cert.KernelIdeal.main_arg1)) (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg5)) (m (c, Proc.devRef .tc Cert.KernelIdeal.main_arg6))
      ∧ r.2.mem ((c.tc : Thread Cert.KernelIdeal.nD Cert.KernelIdeal.τ).loc Cert.KernelIdeal.main_v243_3) = Cert.ReferenceIdeal.Read.val_main_v648 (F := Ideal) (m (c, Proc.devRef .tc Cert.KernelIdeal.main_arg0)) (m (c, Proc.devRef .tc Cert.KernelIdeal.main_arg1)) (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg5)) (m (c, Proc.devRef .tc Cert.KernelIdeal.main_arg6))
      ∧ r.2.mem ((c.tc : Thread Cert.KernelIdeal.nD Cert.KernelIdeal.τ).loc Cert.KernelIdeal.main_v243_7) = Cert.ReferenceIdeal.Read.val_main_v662 (F := Ideal) (m (c, Proc.devRef .tc Cert.KernelIdeal.main_arg0)) (m (c, Proc.devRef .tc Cert.KernelIdeal.main_arg1)) (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg5)) (m (c, Proc.devRef .tc Cert.KernelIdeal.main_arg6))
      ∧ r.2.mem ((c.tc : Thread Cert.KernelIdeal.nD Cert.KernelIdeal.τ).loc Cert.KernelIdeal.main_v243_8) = Cert.ReferenceIdeal.Read.val_main_v663 (F := Ideal) (m (c, Proc.devRef .tc Cert.KernelIdeal.main_arg0)) (m (c, Proc.devRef .tc Cert.KernelIdeal.main_arg1)) (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg6))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6) := by
  refine (θ_run _ _ _).mono (fun r h c => ?_) (Cert.KernelIdeal.Value.run_blocks (F := Ideal) m g)
  obtain ⟨_, h1, h2, h3, _, _, _, h7, h8, ha⟩ := h c
  exact ⟨h1.trans (Cert.KernelIdeal.Pts.arr16 m c), h2.trans (Cert.KernelIdeal.Pts.arr17 m c), h3.trans (Cert.KernelIdeal.Pts.arr18 m c),
    h7.trans (Cert.KernelIdeal.Pts.arr22 m c), h8.trans (Cert.KernelIdeal.Pts.arr23 m c), ha⟩

/-- The reference's run, its five results named by their stages. -/
theorem reference_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ fun r => ∀ c : Dev Cert.ReferenceIdeal.nD,
      r.2.mem ((c.tc : Thread Cert.ReferenceIdeal.nD Cert.ReferenceIdeal.τ).loc Cert.ReferenceIdeal.main_v646) = Cert.ReferenceIdeal.Read.val_main_v646 (F := Ideal) (StableHlo.launchContents m' c (Proc.devRef .tc Cert.ReferenceIdeal.main_arg0)) (StableHlo.launchContents m' c (Proc.devRef .tc Cert.ReferenceIdeal.main_arg1)) (StableHlo.launchContents m' c (Proc.devRef .tc Cert.ReferenceIdeal.main_arg2)) (StableHlo.launchContents m' c (Proc.devRef .tc Cert.ReferenceIdeal.main_arg3)) (StableHlo.launchContents m' c (Proc.devRef .tc Cert.ReferenceIdeal.main_arg4)) (StableHlo.launchContents m' c (Proc.devRef .tc Cert.ReferenceIdeal.main_arg5)) (StableHlo.launchContents m' c (Proc.devRef .tc Cert.ReferenceIdeal.main_arg6))
      ∧ r.2.mem ((c.tc : Thread Cert.ReferenceIdeal.nD Cert.ReferenceIdeal.τ).loc Cert.ReferenceIdeal.main_v647) = Cert.ReferenceIdeal.Read.val_main_v647 (F := Ideal) (StableHlo.launchContents m' c (Proc.devRef .tc Cert.ReferenceIdeal.main_arg0)) (StableHlo.launchContents m' c (Proc.devRef .tc Cert.ReferenceIdeal.main_arg1)) (StableHlo.launchContents m' c (Proc.devRef .tc Cert.ReferenceIdeal.main_arg2)) (StableHlo.launchContents m' c (Proc.devRef .tc Cert.ReferenceIdeal.main_arg3)) (StableHlo.launchContents m' c (Proc.devRef .tc Cert.ReferenceIdeal.main_arg4)) (StableHlo.launchContents m' c (Proc.devRef .tc Cert.ReferenceIdeal.main_arg5)) (StableHlo.launchContents m' c (Proc.devRef .tc Cert.ReferenceIdeal.main_arg6))
      ∧ r.2.mem ((c.tc : Thread Cert.ReferenceIdeal.nD Cert.ReferenceIdeal.τ).loc Cert.ReferenceIdeal.main_v648) = Cert.ReferenceIdeal.Read.val_main_v648 (F := Ideal) (StableHlo.launchContents m' c (Proc.devRef .tc Cert.ReferenceIdeal.main_arg0)) (StableHlo.launchContents m' c (Proc.devRef .tc Cert.ReferenceIdeal.main_arg1)) (StableHlo.launchContents m' c (Proc.devRef .tc Cert.ReferenceIdeal.main_arg2)) (StableHlo.launchContents m' c (Proc.devRef .tc Cert.ReferenceIdeal.main_arg3)) (StableHlo.launchContents m' c (Proc.devRef .tc Cert.ReferenceIdeal.main_arg4)) (StableHlo.launchContents m' c (Proc.devRef .tc Cert.ReferenceIdeal.main_arg5)) (StableHlo.launchContents m' c (Proc.devRef .tc Cert.ReferenceIdeal.main_arg6))
      ∧ r.2.mem ((c.tc : Thread Cert.ReferenceIdeal.nD Cert.ReferenceIdeal.τ).loc Cert.ReferenceIdeal.main_v662) = Cert.ReferenceIdeal.Read.val_main_v662 (F := Ideal) (StableHlo.launchContents m' c (Proc.devRef .tc Cert.ReferenceIdeal.main_arg0)) (StableHlo.launchContents m' c (Proc.devRef .tc Cert.ReferenceIdeal.main_arg1)) (StableHlo.launchContents m' c (Proc.devRef .tc Cert.ReferenceIdeal.main_arg2)) (StableHlo.launchContents m' c (Proc.devRef .tc Cert.ReferenceIdeal.main_arg3)) (StableHlo.launchContents m' c (Proc.devRef .tc Cert.ReferenceIdeal.main_arg4)) (StableHlo.launchContents m' c (Proc.devRef .tc Cert.ReferenceIdeal.main_arg5)) (StableHlo.launchContents m' c (Proc.devRef .tc Cert.ReferenceIdeal.main_arg6))
      ∧ r.2.mem ((c.tc : Thread Cert.ReferenceIdeal.nD Cert.ReferenceIdeal.τ).loc Cert.ReferenceIdeal.main_v663) = Cert.ReferenceIdeal.Read.val_main_v663 (F := Ideal) (StableHlo.launchContents m' c (Proc.devRef .tc Cert.ReferenceIdeal.main_arg0)) (StableHlo.launchContents m' c (Proc.devRef .tc Cert.ReferenceIdeal.main_arg1)) (StableHlo.launchContents m' c (Proc.devRef .tc Cert.ReferenceIdeal.main_arg2)) (StableHlo.launchContents m' c (Proc.devRef .tc Cert.ReferenceIdeal.main_arg3)) (StableHlo.launchContents m' c (Proc.devRef .tc Cert.ReferenceIdeal.main_arg4)) (StableHlo.launchContents m' c (Proc.devRef .tc Cert.ReferenceIdeal.main_arg6))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6) := by
  refine (θ_run _ _ _).mono (fun r h c => ?_) (Cert.ReferenceIdeal.Value.run (F := Ideal) m' g')
  obtain ⟨r0, r1, r2, r3, r4, ha⟩ := h c
  exact ⟨r0.trans (Cert.ReferenceIdeal.Read.val_main_v646_eq (F := Ideal) (StableHlo.launchContents m' c)),
    r1.trans (Cert.ReferenceIdeal.Read.val_main_v647_eq (F := Ideal) (StableHlo.launchContents m' c)),
    r2.trans (Cert.ReferenceIdeal.Read.val_main_v648_eq (F := Ideal) (StableHlo.launchContents m' c)),
    r3.trans (Cert.ReferenceIdeal.Read.val_main_v662_eq (F := Ideal) (StableHlo.launchContents m' c)),
    r4.trans (Cert.ReferenceIdeal.Read.val_main_v663_eq (F := Ideal) (StableHlo.launchContents m' c)), ha⟩

/-- Equal arguments give an equal stage of seven arguments. -/
theorem congr7 {A0 A1 A2 A3 A4 A5 A6 B : Type} (f : A0 → A1 → A2 → A3 → A4 → A5 → A6 → B) {a0 b0 : A0} {a1 b1 : A1} {a2 b2 : A2} {a3 b3 : A3}
    {a4 b4 : A4} {a5 b5 : A5} {a6 b6 : A6} (h0 : a0 = b0) (h1 : a1 = b1) (h2 : a2 = b2) (h3 : a3 = b3) (h4 : a4 = b4) (h5 : a5 = b5) (h6 : a6 = b6) :
    f a0 a1 a2 a3 a4 a5 a6 = f b0 b1 b2 b3 b4 b5 b6 := by
  subst h0 h1 h2 h3 h4 h5 h6; rfl
/-- Equal arguments give an equal stage of six arguments. -/
theorem congr6 {A0 A1 A2 A3 A4 A5 B : Type} (f : A0 → A1 → A2 → A3 → A4 → A5 → B) {a0 b0 : A0} {a1 b1 : A1} {a2 b2 : A2} {a3 b3 : A3}
    {a4 b4 : A4} {a5 b5 : A5} (h0 : a0 = b0) (h1 : a1 = b1) (h2 : a2 = b2) (h3 : a3 = b3) (h4 : a4 = b4) (h5 : a5 = b5) :
    f a0 a1 a2 a3 a4 a5 = f b0 b1 b2 b3 b4 b5 := by
  subst h0 h1 h2 h3 h4 h5; rfl

end Cert.Proof

end
-- ==== Proof.Mlp.lean ====
module

public import Idealize.ShloMosaic.Lib.Pipeline.ValueKit

/-! Facts about the extended reals that the squared-ReLU MLP needs. -/

@[expose] public section
noncomputable section
namespace Cert.Mlp
open Idealize.ShloMosaic
open scoped BigOperators

/-- The word of two. -/
theorem two_eq : Ideal.ofBits .f32 1073741824#32 = 1 + 1 := by
  simp only [Ideal.ofBits, Ideal.ieee, show ((1073741824#32).extractLsb' (8 + 23) 1 == 1#1) = false from by decide,
    show ((1073741824#32).extractLsb' 23 8).toNat = 128 from by decide, show ((1073741824#32).extractLsb' 0 23).toNat = 0 from by decide]
  norm_num
  rfl

/-- The gradient through the squared ReLU: the kernel's one product is the reference's sum of two products, masked. -/
theorem relu_bwd (u s : EReal) :
    (if 0 < u then max u 0 * s + s * max u 0 else 0) = s * (Ideal.ofBits .f32 1073741824#32 * max u 0) := by
  rw [two_eq]
  split
  · rw [EReal.right_distrib_of_nonneg (by norm_num) (by norm_num), one_mul,
      EReal.left_distrib_of_nonneg (le_max_right _ _) (le_max_right _ _), mul_comm]
  · rename_i h
    rw [max_eq_right (not_lt.mp h), mul_zero, mul_zero]

/-- Equal arguments give equal weighted squared ReLUs. -/
theorem sq_congr {a b : EReal} (w : EReal) (h : a = b) : max a 0 * max a 0 * w = max b 0 * max b 0 * w := by rw [h]

/-- A sum over 4096 terms in two halves. -/
theorem sum_halves (f : Fin 4096 → EReal) :
    ∑ k, f k = ∑ k : Fin 2048, f ⟨k.val, by omega⟩ + ∑ k : Fin 2048, f ⟨2048 + k.val, by omega⟩ :=
  Fin.sum_univ_add (a := 2048) (b := 2048) f

/-- A sum over 2048 terms in four quarters. -/
theorem sum_quarters (f : Fin 2048 → EReal) :
    ∑ k, f k = ∑ k : Fin 512, f ⟨k.val, by omega⟩ + ∑ k : Fin 512, f ⟨512 + k.val, by omega⟩
      + ∑ k : Fin 512, f ⟨1024 + k.val, by omega⟩ + ∑ k : Fin 512, f ⟨1536 + k.val, by omega⟩ :=
  (Fin.sum_univ_add (a := 1536) (b := 512) f).trans (congrArg (· + _)
    ((Fin.sum_univ_add (a := 1024) (b := 512) _).trans (congrArg (· + _) (Fin.sum_univ_add (a := 512) (b := 512) _))))

/-- A sum over 4096 terms in eight shards. -/
theorem sum_shards (f : Fin 4096 → EReal) :
    ∑ k, f k = (∑ k : Fin 512, f ⟨k.val, by omega⟩ + ∑ k : Fin 512, f ⟨512 + k.val, by omega⟩
      + ∑ k : Fin 512, f ⟨1024 + k.val, by omega⟩ + ∑ k : Fin 512, f ⟨1536 + k.val, by omega⟩)
      + (∑ k : Fin 512, f ⟨2048 + k.val, by omega⟩ + ∑ k : Fin 512, f ⟨2048 + (512 + k.val), by omega⟩
      + ∑ k : Fin 512, f ⟨2048 + (1024 + k.val), by omega⟩ + ∑ k : Fin 512, f ⟨2048 + (1536 + k.val), by omega⟩) := by
  rw [sum_halves, sum_quarters, sum_quarters fun k => f ⟨2048 + k.val, _⟩]

end Cert.Mlp
-- ==== Proof.MlpUp.lean ====
module

public import proofs.«01_k».proof.Proof.Gen.KernelUpIdeal.Value
public import Idealize.ShloMosaic.Lib.Pipeline.ReadBack
public import proofs.«01_k».proof.Proof.Gen.ReferenceUpIdeal.Read
public import proofs.«01_k».proof.Proof.Mlp

/-! The up projection with its squared ReLU: the kernel's two arrays are the reference's. -/

@[expose] public section
set_option maxRecDepth 16384
noncomputable section
namespace Cert.KernelUpIdeal.Mlp
open Cert.KernelUpIdeal Cert.KernelUpIdeal.Gen
open Idealize.ShloMosaic Idealize.ShloMosaic.TcCoe Idealize.SL.Sem
open Cert.ReferenceUpIdeal.Read
open scoped BigOperators

variable (m : (ℓ : Loc nD τ sig) → Buf (Elt Ideal) ℓ)

/-- Which blocks of their arrays the windows hold at a grid point. -/
theorem idx : ∀ t : Fin cfg0.N, win0_0.index t = ![0, 0] ∧ win0_1.index t = ![t.val, 0, 0]
    ∧ win0_2.index t = ![0, t.val] ∧ win0_3.index t = ![0, t.val] :=
  (by decide +kernel : ∀ t : Fin grid0.N, _)

/-- What the body stores at an index of its block is the reference at the place of that index in the array. -/
theorem point_u (c : Dev nD) (t : Fin cfg0.N) (y) : k0_pay2 (iblk m c 0 t) (iblk m c 1 t) y
    = val_main_v2 (F := Ideal) (m ((c : Thread nD τ).loc main_arg0)) (m ((c : Thread nD τ).loc main_arg1)) (((cfg0.win 2).blk t).view.emb y) := by
  pointwise [k0_pay2, k0_pay1, val_main_v2, val_main_v0]
  blk_point [iblk, V, idx t]

/-- What the body stores at an index of its block is the reference at the place of that index in the array. -/
theorem point_s (c : Dev nD) (t : Fin cfg0.N) (y) : k0_pay3 (iblk m c 0 t) (iblk m c 1 t) y
    = val_main_v4 (F := Ideal) (m ((c : Thread nD τ).loc main_arg0)) (m ((c : Thread nD τ).loc main_arg1)) (((cfg0.win 3).blk t).view.emb y) := by
  pointwise [k0_pay3, k0_pay1, val_main_v4, val_main_v3, val_main_v1, val_main_call0_v0, val_main_call0_cst, val_main_v0]
  blk_point [iblk, V, idx t]

/-- The result array. -/
theorem final_u (c : Dev nD) : (dats m 0 c).arrAt 2 (cfgs 0).N = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point_u m c t y

/-- The result array. -/
theorem final_s (c : Dev nD) : (dats m 0 c).arrAt 3 (cfgs 0).N = val_main_v4 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  exact point_s m c t y

end Cert.KernelUpIdeal.Mlp
-- ==== Proof.MlpDown.lean ====
module

public import proofs.«01_k».proof.Proof.Gen.KernelDownIdeal.Value
public import Idealize.ShloMosaic.Lib.Pipeline.ReadBack
public import proofs.«01_k».proof.Proof.Gen.ReferenceDownIdeal.Read
public import proofs.«01_k».proof.Proof.Mlp

/-! The down projection of the squared ReLU: the kernel's array, added up over two points, is the reference's. -/

@[expose] public section
set_option maxRecDepth 16384
noncomputable section
namespace Cert.KernelDownIdeal.Mlp
open Cert.KernelDownIdeal Cert.KernelDownIdeal.Gen
open Idealize.ShloMosaic Idealize.ShloMosaic.TcCoe Idealize.SL.Sem
open Cert.ReferenceDownIdeal.Read
open scoped BigOperators

variable (m : (ℓ : Loc nD τ sig) → Buf (Elt Ideal) ℓ)

/-- Which blocks of their arrays the windows hold at a grid point. -/
theorem idx : ∀ t : Fin cfg0.N, win0_0.index t = ![t.val / 2, t.val % 2] ∧ win0_1.index t = ![t.val % 2, 0] ∧ win0_2.index t = ![t.val / 2, 0] :=
  (by decide +kernel : ∀ t : Fin grid0.N, _)

/-- The squared ReLU as the kernel is given it: each element's positive part times itself. -/
theorem act (c : Dev nD) (i : S2048x4096.Idx) : V m c main_v2 i
    = max (α := EReal) (m ((c : Thread nD τ).loc main_arg0) i) 0 * max (α := EReal) (m ((c : Thread nD τ).loc main_arg0) i) 0 := by
  simp only [V, hostOps0, hostOps0_1, List.flatten_cons, List.flatten_nil, List.append_nil, List.cons_append, List.nil_append]
  entry_read
  change (mulf (maximumf (m ((c : Thread nD τ).loc main_arg0)) (broadcastInDim S2048x4096 ![] bcast_S_S2048x4096 (constant S_ .f32 0#32)))
    (maximumf (m ((c : Thread nD τ).loc main_arg0)) (broadcastInDim S2048x4096 ![] bcast_S_S2048x4096 (constant S_ .f32 0#32)))
    : FVec Ideal S2048x4096 .f32) i = _
  pointwise

/-- The result array: at the second point of a row of blocks the sums of both points have been added. -/
theorem final (c : Dev nD) : (dats m 0 c).arrAt 2 (cfgs 0).N = val_main_v2 (F := Ideal) (m ((c : Thread nD τ).loc main_arg0)) (m ((c : Thread nD τ).loc main_arg1)) := by
  refine (dats m 0 c).arrAt_eq_of_covers 2 _ (by decide +kernel) fun t hf y => ?_
  blk_simp
  have h1 : t.val % 2 = 1 := (flush0_2 t).mp hf
  have hp : t.val - 1 < cfg0.N := Nat.lt_of_le_of_lt (Nat.sub_le _ _) t.isLt
  rw [after0_2, outsAt0_B m c t (by omega) h1]; frame_out
  rw [outsAt0_A m c ⟨t.val - 1, hp⟩ (show (t.val - 1) % 2 = 0 by omega) (show ¬(t.val - 1) % 2 = 1 by omega)]; frame_out
  rw [Idealize.ShloMosaic.read_unread_whole]
  pointwise [k0_pay1, k0_pay2, val_main_v2, val_main_v1, val_main_v0, val_main_call0_v0, val_main_call0_cst]
  rw [Cert.Mlp.sum_halves]
  blk_point [iblk, V, idx t, idx ⟨t.val - 1, hp⟩]
  all_goals rw [act]; refine Cert.Mlp.sq_congr _ ?_; blk_ext [idx t, idx ⟨t.val - 1, hp⟩]

end Cert.KernelDownIdeal.Mlp
-- ==== Proof.MlpDu.lean ====
module

public import proofs.«01_k».proof.Proof.Gen.KernelDuIdeal.Value
public import Idealize.ShloMosaic.Lib.Pipeline.ReadBack
public import proofs.«01_k».proof.Proof.Gen.ReferenceDuIdeal.Read
public import proofs.«01_k».proof.Proof.Mlp

/-! The gradient through the down projection and the squared ReLU: the kernel's array is the reference's. -/

@[expose] public section
set_option maxRecDepth 16384
noncomputable section
namespace Cert.KernelDuIdeal.Mlp
open Cert.KernelDuIdeal Cert.KernelDuIdeal.Gen
open Idealize.ShloMosaic Idealize.ShloMosaic.TcCoe Idealize.SL.Sem
open Cert.ReferenceDuIdeal.Read
open scoped BigOperators

variable (m : (ℓ : Loc nD τ sig) → Buf (Elt Ideal) ℓ)

/-- Which blocks of their arrays the windows hold at a grid point. -/
theorem idx : ∀ t : Fin cfg0.N, win0_0.index t = ![t.val / 4, 0] ∧ win0_1.index t = ![t.val % 4, 0]
    ∧ win0_2.index t = ![t.val / 4, t.val % 4] ∧ win0_3.index t = ![t.val / 4, t.val % 4] :=
  (by decide +kernel : ∀ t : Fin grid0.N, _)

/-- What the body stores at an index of its block is the reference at the place of that index in the array. -/
theorem point (c : Dev nD) (t : Fin cfg0.N) (y) : k0_pay1 (iblk m c 0 t) (iblk m c 1 t) (iblk m c 2 t) y
    = val_main_v14 (F := Ideal) (m ((c : Thread nD τ).loc main_arg0)) (m ((c : Thread nD τ).loc main_arg1)) (m ((c : Thread nD τ).loc main_arg2)) (((cfg0.win 3).blk t).view.emb y) := by
  pointwise [k0_pay1, val_main_v14, val_main_v13, val_main_v11, val_main_v12, val_main_v10, val_main_v9, val_main_v8, val_main_v2, val_main_v1, val_main_v0, val_main_call0_v0, val_main_call0_cst, val_main_cst, val_main_cst_1]
  rw [Cert.Mlp.relu_bwd]
  blk_point [iblk, V, idx t]

/-- The result array. -/
theorem final (c : Dev nD) : (dats m 0 c).arrAt 3 (cfgs 0).N = val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.KernelDuIdeal.Mlp
-- ==== Proof.MlpGdown.lean ====
module

public import proofs.«01_k».proof.Proof.Gen.KernelGdownIdeal.Value
public import Idealize.ShloMosaic.Lib.Pipeline.ReadBack
public import proofs.«01_k».proof.Proof.Gen.ReferenceGdownIdeal.Read
public import proofs.«01_k».proof.Proof.Mlp

/-! The gradient of the down projection's weights: the kernel's array is the reference's. -/

@[expose] public section
set_option maxRecDepth 16384
noncomputable section
namespace Cert.KernelGdownIdeal.Mlp
open Cert.KernelGdownIdeal Cert.KernelGdownIdeal.Gen
open Idealize.ShloMosaic Idealize.ShloMosaic.TcCoe Idealize.SL.Sem
open Cert.ReferenceGdownIdeal.Read
open scoped BigOperators

variable (m : (ℓ : Loc nD τ sig) → Buf (Elt Ideal) ℓ)

/-- Which blocks of their arrays the windows hold at a grid point. -/
theorem idx : ∀ t : Fin cfg0.N, win0_0.index t = ![0, t.val] ∧ win0_1.index t = ![0, 0] ∧ win0_2.index t = ![t.val, 0] :=
  (by decide +kernel : ∀ t : Fin grid0.N, _)

/-- The squared ReLU as the kernel is given it: each element's positive part times itself. -/
theorem act (c : Dev nD) (i : S2048x4096.Idx) : V m c main_v2 i
    = max (α := EReal) (m ((c : Thread nD τ).loc main_arg0) i) 0 * max (α := EReal) (m ((c : Thread nD τ).loc main_arg0) i) 0 := by
  simp only [V, hostOps0, hostOps0_1, List.flatten_cons, List.flatten_nil, List.append_nil, List.cons_append, List.nil_append]
  entry_read
  change (mulf (maximumf (m ((c : Thread nD τ).loc main_arg0)) (broadcastInDim S2048x4096 ![] bcast_S_S2048x4096 (constant S_ .f32 0#32)))
    (maximumf (m ((c : Thread nD τ).loc main_arg0)) (broadcastInDim S2048x4096 ![] bcast_S_S2048x4096 (constant S_ .f32 0#32)))
    : FVec Ideal S2048x4096 .f32) i = _
  pointwise

/-- What the body stores at an index of its block is the reference at the place of that index in the array. -/
theorem point (c : Dev nD) (t : Fin cfg0.N) (y) : k0_pay1 (iblk m c 0 t) (iblk m c 1 t) y
    = val_main_v14 (F := Ideal) (m ((c : Thread nD τ).loc main_arg0)) (m ((c : Thread nD τ).loc main_arg2)) (((cfg0.win 2).blk t).view.emb y) := by
  pointwise [k0_pay1, val_main_v14, val_main_v7, val_main_v6, val_main_v4, val_main_v0, val_main_call0_v0, val_main_call0_cst]
  conv_rhs => enter [2, k]; rw [mul_comm]
  blk_point [iblk, V, idx t]
  all_goals rw [act]; refine Cert.Mlp.sq_congr _ ?_; blk_ext [idx t]

/-- The result array. -/
theorem final (c : Dev nD) : (dats m 0 c).arrAt 2 (cfgs 0).N = val_main_v14 (F := Ideal) (m ((c : Thread nD τ).loc main_arg0)) (m ((c : Thread nD τ).loc main_arg2)) := by
  refine (dats m 0 c).arrAt_eq_of_covers 2 _ (by decide +kernel) fun t _ y => ?_
  blk_simp
  rw [after0_2]; frame_out
  exact point m c t y

end Cert.KernelGdownIdeal.Mlp
-- ==== Proof.MlpGup.lean ====
module

public import proofs.«01_k».proof.Proof.Gen.KernelGupIdeal.Value
public import Idealize.ShloMosaic.Lib.Pipeline.ReadBack
public import proofs.«01_k».proof.Proof.Gen.ReferenceGupIdeal.Read
public import proofs.«01_k».proof.Proof.Mlp

/-! The gradient of the up projection's weights, by shards of its columns: the kernel's array is the reference's. -/

@[expose] public section
set_option maxRecDepth 16384
noncomputable section
namespace Cert.KernelGupIdeal.Mlp
open Cert.KernelGupIdeal Cert.KernelGupIdeal.Gen
open Idealize.ShloMosaic Idealize.ShloMosaic.TcCoe Idealize.SL.Sem
open Cert.ReferenceGupIdeal.Read
open scoped BigOperators

variable (m : (ℓ : Loc nD τ sig) → Buf (Elt Ideal) ℓ)

/-- Which blocks of their arrays the windows hold at a grid point. -/
theorem idx : ∀ t : Fin cfg0.N, win0_0.index t = ![0, 0] ∧ win0_1.index t = ![0, t.val] ∧ win0_2.index t = ![t.val, 0, 0] :=
  (by decide +kernel : ∀ t : Fin grid0.N, _)

/-- What the body stores at an index of its block is the reference at the place of that index in the array. -/
theorem point (c : Dev nD) (t : Fin cfg0.N) (y) : k0_pay1 (iblk m c 0 t) (iblk m c 1 t) y
    = val_main_v6 (F := Ideal) (m ((c : Thread nD τ).loc main_arg0)) (m ((c : Thread nD τ).loc main_arg2)) (((cfg0.win 2).blk t).view.emb y) := by
  pointwise [k0_pay1, val_main_v6, val_main_v5, val_main_v4, val_main_v2, val_main_v1]
  conv_rhs => enter [2, k]; rw [mul_comm]
  blk_point [iblk, V, idx t]

/-- The result array. -/
theorem final (c : Dev nD) : (dats m 0 c).arrAt 2 (cfgs 0).N = val_main_v6 (F := Ideal) (m ((c : Thread nD τ).loc main_arg0)) (m ((c : Thread nD τ).loc main_arg2)) := by
  refine (dats m 0 c).arrAt_eq_of_covers 2 _ (by decide +kernel) fun t _ y => ?_
  blk_simp
  rw [after0_2]; frame_out
  exact point m c t y

end Cert.KernelGupIdeal.Mlp
-- ==== Proof.MlpDh.lean ====
module

public import proofs.«01_k».proof.Proof.Gen.KernelDhIdeal.Value
public import Idealize.ShloMosaic.Lib.Pipeline.ReadBack
public import proofs.«01_k».proof.Proof.Gen.ReferenceDhIdeal.Read
public import proofs.«01_k».proof.Proof.Mlp

/-! The gradient through the up projection: the kernel's array, added up over two points of four shards each, is the reference's. -/

@[expose] public section
set_option maxRecDepth 16384
noncomputable section
namespace Cert.KernelDhIdeal.Mlp
open Cert.KernelDhIdeal Cert.KernelDhIdeal.Gen
open Idealize.ShloMosaic Idealize.ShloMosaic.TcCoe Idealize.SL.Sem
open Cert.ReferenceDhIdeal.Read
open scoped BigOperators

variable (m : (ℓ : Loc nD τ sig) → Buf (Elt Ideal) ℓ)

/-- Which blocks of their arrays the windows hold at a grid point. -/
theorem idx : ∀ t : Fin cfg0.N, win0_0.index t = ![t.val / 2, t.val % 2] ∧ win0_1.index t = ![t.val % 2, 0, 0] ∧ win0_2.index t = ![t.val / 2, 0] :=
  (by decide +kernel : ∀ t : Fin grid0.N, _)

/-- The result array: at the second point of a row of blocks the sums of both points have been added. -/
theorem final (c : Dev nD) : (dats m 0 c).arrAt 2 (cfgs 0).N = val_main_v3 (F := Ideal) (m ((c : Thread nD τ).loc main_arg1)) (m ((c : Thread nD τ).loc main_arg2)) := by
  refine (dats m 0 c).arrAt_eq_of_covers 2 _ (by decide +kernel) fun t hf y => ?_
  blk_simp
  have h1 : t.val % 2 = 1 := (flush0_2 t).mp hf
  have hp : t.val - 1 < cfg0.N := Nat.lt_of_le_of_lt (Nat.sub_le _ _) t.isLt
  rw [after0_2, outsAt0_B m c t (by omega) h1]; frame_out
  rw [outsAt0_A m c ⟨t.val - 1, hp⟩ (show (t.val - 1) % 2 = 0 by omega) (show ¬(t.val - 1) % 2 = 1 by omega)]; frame_out
  rw [Idealize.ShloMosaic.read_unread_whole]
  pointwise [k0_pay1, k0_pay2, val_main_v3]
  rw [Cert.Mlp.sum_shards]
  blk_point [iblk, V, idx t, idx ⟨t.val - 1, hp⟩]

end Cert.KernelDhIdeal.Mlp
-- ==== Proof.MlpRuns.lean ====
module

public import proofs.«01_k».proof.Defs
public import proofs.«01_k».proof.Proof.Gen.ReferenceUpIdeal.Run
public import proofs.«01_k».proof.Proof.MlpUp
public import proofs.«01_k».proof.Proof.Gen.ReferenceDownIdeal.Run
public import proofs.«01_k».proof.Proof.MlpDown
public import proofs.«01_k».proof.Proof.Gen.ReferenceDuIdeal.Run
public import proofs.«01_k».proof.Proof.MlpDu
public import proofs.«01_k».proof.Proof.Gen.ReferenceGdownIdeal.Run
public import proofs.«01_k».proof.Proof.MlpGdown
public import proofs.«01_k».proof.Proof.Gen.ReferenceGupIdeal.Run
public import proofs.«01_k».proof.Proof.MlpGup
public import proofs.«01_k».proof.Proof.Gen.ReferenceDhIdeal.Run
public import proofs.«01_k».proof.Proof.MlpDh
public import Idealize.ShloMosaic.Adequacy
public import Idealize.ShloMosaic.Init

/-! The claims about the MLP's calls: each kernel ends with the reference's result, and each reference leaves its arguments unchanged. -/

@[expose] public section
noncomputable section
namespace Cert.Proof
open Idealize.ShloMosaic Idealize.ShloMosaic.TcCoe Idealize.SL.Sem

/-- Equal arguments give an equal stage of two arguments. -/
theorem congr2 {A B C : Type} (f : A → B → C) {a a' : A} {b b' : B} (h : a = a') (k : b = b') : f a b = f a' b' := by
  subst h k; rfl
/-- Equal arguments give an equal stage of three arguments. -/
theorem congr3 {A B C D : Type} (f : A → B → C → D) {a a' : A} {b b' : B} {c c' : C} (h : a = a') (k : b = b') (l : c = c') : f a b c = f a' b' c' := by
  subst h k l; rfl

/-- The up projection with its squared ReLU: the kernel and the reference end with equal results. -/
theorem alg_up : Cert.algebraic_KernelUpIdeal_ReferenceUpIdeal (hKernelUpIdeal := Cert.KernelUpIdeal.Gen.facts) (hReferenceUpIdeal := Cert.ReferenceUpIdeal.Gen.facts) := by
  intro m g m' g' _ hargs
  refine ⟨fun c => Cert.ReferenceUpIdeal.Read.val_main_v2 (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)), fun c => Cert.ReferenceUpIdeal.Read.val_main_v4 (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)),
    (θ_run _ _ _).mono (fun r h c => ?_) (Cert.KernelUpIdeal.Value.run_blocks (F := Ideal) m g),
    (θ_run _ _ _).mono (fun r h c => ?_) (Cert.ReferenceUpIdeal.Value.run (F := Ideal) m' g')⟩
  · exact ⟨(h c).1.trans (Cert.KernelUpIdeal.Mlp.final_u m c), (h c).2.1.trans (Cert.KernelUpIdeal.Mlp.final_s m c), (h c).2.2⟩
  · have h0 : @Eq ((⟨Cert.ReferenceUpIdeal.S2048x1024, .f32⟩ : BufTy).Contents (Elt Ideal)) (m' ((c.tc : Thread Cert.ReferenceUpIdeal.nD Cert.ReferenceUpIdeal.τ).loc Cert.ReferenceUpIdeal.main_arg0)) (m ((c.tc : Thread Cert.KernelUpIdeal.nD Cert.KernelUpIdeal.τ).loc Cert.KernelUpIdeal.main_arg0)) := (hargs c).1
    have h1 : @Eq ((⟨Cert.ReferenceUpIdeal.S1024x4096, .f32⟩ : BufTy).Contents (Elt Ideal)) (m' ((c.tc : Thread Cert.ReferenceUpIdeal.nD Cert.ReferenceUpIdeal.τ).loc Cert.ReferenceUpIdeal.main_arg1)) (m ((c.tc : Thread Cert.KernelUpIdeal.nD Cert.KernelUpIdeal.τ).loc Cert.KernelUpIdeal.main_arg1)) := (hargs c).2
    exact ⟨(h c).1.trans ((Cert.ReferenceUpIdeal.Read.val_main_v2_eq (F := Ideal) _ _).trans (congr2 (Cert.ReferenceUpIdeal.Read.val_main_v2 (F := Ideal)) h0 h1)), (h c).2.1.trans ((Cert.ReferenceUpIdeal.Read.val_main_v4_eq (F := Ideal) _ _).trans (congr2 (Cert.ReferenceUpIdeal.Read.val_main_v4 (F := Ideal)) h0 h1)), (h c).2.2⟩

/-- The up projection with its squared ReLU: the reference ends with its arguments unchanged and every counter at zero, of which it has none. -/
theorem frame_up : Cert.quiescent_ReferenceUpIdeal (hReferenceUpIdeal := Cert.ReferenceUpIdeal.Gen.facts) := by
  intro m ρ _
  exact (θ_run Cert.ReferenceUpIdeal.defs _ _).mono (fun r h => ⟨fun c => (h c).2.2, sem_eq_zero_of_no_sems (by decide) r.2⟩)
    (Cert.ReferenceUpIdeal.Value.run (F := Ideal) m ρ)

/-- The down projection: the kernel and the reference end with equal results. -/
theorem alg_down : Cert.algebraic_KernelDownIdeal_ReferenceDownIdeal (hKernelDownIdeal := Cert.KernelDownIdeal.Gen.facts) (hReferenceDownIdeal := Cert.ReferenceDownIdeal.Gen.facts) := by
  intro m g m' g' _ hargs
  refine ⟨fun c => Cert.ReferenceDownIdeal.Read.val_main_v2 (F := Ideal) (m ((c.tc : Thread Cert.KernelDownIdeal.nD Cert.KernelDownIdeal.τ).loc Cert.KernelDownIdeal.main_arg0)) (m ((c.tc : Thread Cert.KernelDownIdeal.nD Cert.KernelDownIdeal.τ).loc Cert.KernelDownIdeal.main_arg1)),
    (θ_run _ _ _).mono (fun r h c => ?_) (Cert.KernelDownIdeal.Value.run_blocks (F := Ideal) m g),
    (θ_run _ _ _).mono (fun r h c => ?_) (Cert.ReferenceDownIdeal.Value.run (F := Ideal) m' g')⟩
  · exact ⟨(h c).1.trans (Cert.KernelDownIdeal.Mlp.final m c), (h c).2⟩
  · have h0 : @Eq ((⟨Cert.ReferenceDownIdeal.S2048x4096, .f32⟩ : BufTy).Contents (Elt Ideal)) (m' ((c.tc : Thread Cert.ReferenceDownIdeal.nD Cert.ReferenceDownIdeal.τ).loc Cert.ReferenceDownIdeal.main_arg0)) (m ((c.tc : Thread Cert.KernelDownIdeal.nD Cert.KernelDownIdeal.τ).loc Cert.KernelDownIdeal.main_arg0)) := (hargs c).1
    have h1 : @Eq ((⟨Cert.ReferenceDownIdeal.S4096x1024, .f32⟩ : BufTy).Contents (Elt Ideal)) (m' ((c.tc : Thread Cert.ReferenceDownIdeal.nD Cert.ReferenceDownIdeal.τ).loc Cert.ReferenceDownIdeal.main_arg1)) (m ((c.tc : Thread Cert.KernelDownIdeal.nD Cert.KernelDownIdeal.τ).loc Cert.KernelDownIdeal.main_arg1)) := (hargs c).2
    exact ⟨(h c).1.trans ((Cert.ReferenceDownIdeal.Read.val_main_v2_eq (F := Ideal) _ _).trans (congr2 (Cert.ReferenceDownIdeal.Read.val_main_v2 (F := Ideal)) h0 h1)), (h c).2⟩

/-- The down projection: the reference ends with its arguments unchanged and every counter at zero, of which it has none. -/
theorem frame_down : Cert.quiescent_ReferenceDownIdeal (hReferenceDownIdeal := Cert.ReferenceDownIdeal.Gen.facts) := by
  intro m ρ _
  exact (θ_run Cert.ReferenceDownIdeal.defs _ _).mono (fun r h => ⟨fun c => (h c).2, sem_eq_zero_of_no_sems (by decide) r.2⟩)
    (Cert.ReferenceDownIdeal.Value.run (F := Ideal) m ρ)

/-- The gradient through the down projection and the squared ReLU: the kernel and the reference end with equal results. -/
theorem alg_du : Cert.algebraic_KernelDuIdeal_ReferenceDuIdeal (hKernelDuIdeal := Cert.KernelDuIdeal.Gen.facts) (hReferenceDuIdeal := Cert.ReferenceDuIdeal.Gen.facts) := by
  intro m g m' g' _ hargs
  refine ⟨fun c => Cert.ReferenceDuIdeal.Read.val_main_v14 (F := Ideal) (m ((c.tc : Thread Cert.KernelDuIdeal.nD Cert.KernelDuIdeal.τ).loc Cert.KernelDuIdeal.main_arg0)) (m ((c.tc : Thread Cert.KernelDuIdeal.nD Cert.KernelDuIdeal.τ).loc Cert.KernelDuIdeal.main_arg1)) (m ((c.tc : Thread Cert.KernelDuIdeal.nD Cert.KernelDuIdeal.τ).loc Cert.KernelDuIdeal.main_arg2)),
    (θ_run _ _ _).mono (fun r h c => ?_) (Cert.KernelDuIdeal.Value.run_blocks (F := Ideal) m g),
    (θ_run _ _ _).mono (fun r h c => ?_) (Cert.ReferenceDuIdeal.Value.run (F := Ideal) m' g')⟩
  · exact ⟨(h c).1.trans (Cert.KernelDuIdeal.Mlp.final m c), (h c).2⟩
  · have h0 : @Eq ((⟨Cert.ReferenceDuIdeal.S2048x4096, .f32⟩ : BufTy).Contents (Elt Ideal)) (m' ((c.tc : Thread Cert.ReferenceDuIdeal.nD Cert.ReferenceDuIdeal.τ).loc Cert.ReferenceDuIdeal.main_arg0)) (m ((c.tc : Thread Cert.KernelDuIdeal.nD Cert.KernelDuIdeal.τ).loc Cert.KernelDuIdeal.main_arg0)) := (hargs c).1
    have h1 : @Eq ((⟨Cert.ReferenceDuIdeal.S4096x1024, .f32⟩ : BufTy).Contents (Elt Ideal)) (m' ((c.tc : Thread Cert.ReferenceDuIdeal.nD Cert.ReferenceDuIdeal.τ).loc Cert.ReferenceDuIdeal.main_arg1)) (m ((c.tc : Thread Cert.KernelDuIdeal.nD Cert.KernelDuIdeal.τ).loc Cert.KernelDuIdeal.main_arg1)) := (hargs c).2.1
    have h2 : @Eq ((⟨Cert.ReferenceDuIdeal.S2048x1024, .f32⟩ : BufTy).Contents (Elt Ideal)) (m' ((c.tc : Thread Cert.ReferenceDuIdeal.nD Cert.ReferenceDuIdeal.τ).loc Cert.ReferenceDuIdeal.main_arg2)) (m ((c.tc : Thread Cert.KernelDuIdeal.nD Cert.KernelDuIdeal.τ).loc Cert.KernelDuIdeal.main_arg2)) := (hargs c).2.2
    exact ⟨(h c).1.trans ((Cert.ReferenceDuIdeal.Read.val_main_v14_eq (F := Ideal) _ _ _).trans (congr3 (Cert.ReferenceDuIdeal.Read.val_main_v14 (F := Ideal)) h0 h1 h2)), (h c).2⟩

/-- The gradient through the down projection and the squared ReLU: the reference ends with its arguments unchanged and every counter at zero, of which it has none. -/
theorem frame_du : Cert.quiescent_ReferenceDuIdeal (hReferenceDuIdeal := Cert.ReferenceDuIdeal.Gen.facts) := by
  intro m ρ _
  exact (θ_run Cert.ReferenceDuIdeal.defs _ _).mono (fun r h => ⟨fun c => (h c).2, sem_eq_zero_of_no_sems (by decide) r.2⟩)
    (Cert.ReferenceDuIdeal.Value.run (F := Ideal) m ρ)

/-- The gradient of the down projection's weights: the kernel and the reference end with equal results. -/
theorem alg_gdown : Cert.algebraic_KernelGdownIdeal_ReferenceGdownIdeal (hKernelGdownIdeal := Cert.KernelGdownIdeal.Gen.facts) (hReferenceGdownIdeal := Cert.ReferenceGdownIdeal.Gen.facts) := by
  intro m g m' g' _ hargs
  refine ⟨fun c => Cert.ReferenceGdownIdeal.Read.val_main_v14 (F := Ideal) (m ((c.tc : Thread Cert.KernelGdownIdeal.nD Cert.KernelGdownIdeal.τ).loc Cert.KernelGdownIdeal.main_arg0)) (m ((c.tc : Thread Cert.KernelGdownIdeal.nD Cert.KernelGdownIdeal.τ).loc Cert.KernelGdownIdeal.main_arg2)),
    (θ_run _ _ _).mono (fun r h c => ?_) (Cert.KernelGdownIdeal.Value.run_blocks (F := Ideal) m g),
    (θ_run _ _ _).mono (fun r h c => ?_) (Cert.ReferenceGdownIdeal.Value.run (F := Ideal) m' g')⟩
  · exact ⟨(h c).1.trans (Cert.KernelGdownIdeal.Mlp.final m c), (h c).2⟩
  · have h0 : @Eq ((⟨Cert.ReferenceGdownIdeal.S2048x4096, .f32⟩ : BufTy).Contents (Elt Ideal)) (m' ((c.tc : Thread Cert.ReferenceGdownIdeal.nD Cert.ReferenceGdownIdeal.τ).loc Cert.ReferenceGdownIdeal.main_arg0)) (m ((c.tc : Thread Cert.KernelGdownIdeal.nD Cert.KernelGdownIdeal.τ).loc Cert.KernelGdownIdeal.main_arg0)) := (hargs c).1
    have h2 : @Eq ((⟨Cert.ReferenceGdownIdeal.S2048x1024, .f32⟩ : BufTy).Contents (Elt Ideal)) (m' ((c.tc : Thread Cert.ReferenceGdownIdeal.nD Cert.ReferenceGdownIdeal.τ).loc Cert.ReferenceGdownIdeal.main_arg2)) (m ((c.tc : Thread Cert.KernelGdownIdeal.nD Cert.KernelGdownIdeal.τ).loc Cert.KernelGdownIdeal.main_arg2)) := (hargs c).2.2
    exact ⟨(h c).1.trans ((Cert.ReferenceGdownIdeal.Read.val_main_v14_eq (F := Ideal) _ _).trans (congr2 (Cert.ReferenceGdownIdeal.Read.val_main_v14 (F := Ideal)) h0 h2)), (h c).2⟩

/-- The gradient of the down projection's weights: the reference ends with its arguments unchanged and every counter at zero, of which it has none. -/
theorem frame_gdown : Cert.quiescent_ReferenceGdownIdeal (hReferenceGdownIdeal := Cert.ReferenceGdownIdeal.Gen.facts) := by
  intro m ρ _
  exact (θ_run Cert.ReferenceGdownIdeal.defs _ _).mono (fun r h => ⟨fun c => (h c).2, sem_eq_zero_of_no_sems (by decide) r.2⟩)
    (Cert.ReferenceGdownIdeal.Value.run (F := Ideal) m ρ)

/-- The gradient of the up projection's weights: the kernel and the reference end with equal results. -/
theorem alg_gup : Cert.algebraic_KernelGupIdeal_ReferenceGupIdeal (hKernelGupIdeal := Cert.KernelGupIdeal.Gen.facts) (hReferenceGupIdeal := Cert.ReferenceGupIdeal.Gen.facts) := by
  intro m g m' g' _ hargs
  refine ⟨fun c => Cert.ReferenceGupIdeal.Read.val_main_v6 (F := Ideal) (m ((c.tc : Thread Cert.KernelGupIdeal.nD Cert.KernelGupIdeal.τ).loc Cert.KernelGupIdeal.main_arg0)) (m ((c.tc : Thread Cert.KernelGupIdeal.nD Cert.KernelGupIdeal.τ).loc Cert.KernelGupIdeal.main_arg2)),
    (θ_run _ _ _).mono (fun r h c => ?_) (Cert.KernelGupIdeal.Value.run_blocks (F := Ideal) m g),
    (θ_run _ _ _).mono (fun r h c => ?_) (Cert.ReferenceGupIdeal.Value.run (F := Ideal) m' g')⟩
  · exact ⟨(h c).1.trans (Cert.KernelGupIdeal.Mlp.final m c), (h c).2⟩
  · have h0 : @Eq ((⟨Cert.ReferenceGupIdeal.S2048x1024, .f32⟩ : BufTy).Contents (Elt Ideal)) (m' ((c.tc : Thread Cert.ReferenceGupIdeal.nD Cert.ReferenceGupIdeal.τ).loc Cert.ReferenceGupIdeal.main_arg0)) (m ((c.tc : Thread Cert.KernelGupIdeal.nD Cert.KernelGupIdeal.τ).loc Cert.KernelGupIdeal.main_arg0)) := (hargs c).1
    have h2 : @Eq ((⟨Cert.ReferenceGupIdeal.S2048x4096, .f32⟩ : BufTy).Contents (Elt Ideal)) (m' ((c.tc : Thread Cert.ReferenceGupIdeal.nD Cert.ReferenceGupIdeal.τ).loc Cert.ReferenceGupIdeal.main_arg2)) (m ((c.tc : Thread Cert.KernelGupIdeal.nD Cert.KernelGupIdeal.τ).loc Cert.KernelGupIdeal.main_arg2)) := (hargs c).2.2
    exact ⟨(h c).1.trans ((Cert.ReferenceGupIdeal.Read.val_main_v6_eq (F := Ideal) _ _).trans (congr2 (Cert.ReferenceGupIdeal.Read.val_main_v6 (F := Ideal)) h0 h2)), (h c).2⟩

/-- The gradient of the up projection's weights: the reference ends with its arguments unchanged and every counter at zero, of which it has none. -/
theorem frame_gup : Cert.quiescent_ReferenceGupIdeal (hReferenceGupIdeal := Cert.ReferenceGupIdeal.Gen.facts) := by
  intro m ρ _
  exact (θ_run Cert.ReferenceGupIdeal.defs _ _).mono (fun r h => ⟨fun c => (h c).2, sem_eq_zero_of_no_sems (by decide) r.2⟩)
    (Cert.ReferenceGupIdeal.Value.run (F := Ideal) m ρ)

/-- The gradient through the up projection: the kernel and the reference end with equal results. -/
theorem alg_dh : Cert.algebraic_KernelDhIdeal_ReferenceDhIdeal (hKernelDhIdeal := Cert.KernelDhIdeal.Gen.facts) (hReferenceDhIdeal := Cert.ReferenceDhIdeal.Gen.facts) := by
  intro m g m' g' _ hargs
  refine ⟨fun c => Cert.ReferenceDhIdeal.Read.val_main_v3 (F := Ideal) (m ((c.tc : Thread Cert.KernelDhIdeal.nD Cert.KernelDhIdeal.τ).loc Cert.KernelDhIdeal.main_arg1)) (m ((c.tc : Thread Cert.KernelDhIdeal.nD Cert.KernelDhIdeal.τ).loc Cert.KernelDhIdeal.main_arg2)),
    (θ_run _ _ _).mono (fun r h c => ?_) (Cert.KernelDhIdeal.Value.run_blocks (F := Ideal) m g),
    (θ_run _ _ _).mono (fun r h c => ?_) (Cert.ReferenceDhIdeal.Value.run (F := Ideal) m' g')⟩
  · exact ⟨(h c).1.trans (Cert.KernelDhIdeal.Mlp.final m c), (h c).2⟩
  · have h1 : @Eq ((⟨Cert.ReferenceDhIdeal.S1024x4096, .f32⟩ : BufTy).Contents (Elt Ideal)) (m' ((c.tc : Thread Cert.ReferenceDhIdeal.nD Cert.ReferenceDhIdeal.τ).loc Cert.ReferenceDhIdeal.main_arg1)) (m ((c.tc : Thread Cert.KernelDhIdeal.nD Cert.KernelDhIdeal.τ).loc Cert.KernelDhIdeal.main_arg1)) := (hargs c).2.1
    have h2 : @Eq ((⟨Cert.ReferenceDhIdeal.S2048x4096, .f32⟩ : BufTy).Contents (Elt Ideal)) (m' ((c.tc : Thread Cert.ReferenceDhIdeal.nD Cert.ReferenceDhIdeal.τ).loc Cert.ReferenceDhIdeal.main_arg2)) (m ((c.tc : Thread Cert.KernelDhIdeal.nD Cert.KernelDhIdeal.τ).loc Cert.KernelDhIdeal.main_arg2)) := (hargs c).2.2
    exact ⟨(h c).1.trans ((Cert.ReferenceDhIdeal.Read.val_main_v3_eq (F := Ideal) _ _).trans (congr2 (Cert.ReferenceDhIdeal.Read.val_main_v3 (F := Ideal)) h1 h2)), (h c).2⟩

/-- The gradient through the up projection: the reference ends with its arguments unchanged and every counter at zero, of which it has none. -/
theorem frame_dh : Cert.quiescent_ReferenceDhIdeal (hReferenceDhIdeal := Cert.ReferenceDhIdeal.Gen.facts) := by
  intro m ρ _
  exact (θ_run Cert.ReferenceDhIdeal.defs _ _).mono (fun r h => ⟨fun c => (h c).2, sem_eq_zero_of_no_sems (by decide) r.2⟩)
    (Cert.ReferenceDhIdeal.Value.run (F := Ideal) m ρ)

end Cert.Proof
-- ==== Proof.lean ====
/- The proof of the claim: every program ends with every counter at zero and its arguments unchanged, the scan's kernel over the
   extended reals is the kernel with its mask named, its five gradients are those of the reference, and each of the six calls of
   the MLP ends with the reference's results. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.KernelUp.Frame
public import proofs.«01_k».proof.Proof.Gen.KernelUpIdeal.Value
public import proofs.«01_k».proof.Proof.Gen.ReferenceUpIdeal.Run
public import proofs.«01_k».proof.Proof.Gen.ReferenceUpIdeal.Read
public import proofs.«01_k».proof.Proof.Gen.KernelDown.Frame
public import proofs.«01_k».proof.Proof.Gen.KernelDownIdeal.Value
public import proofs.«01_k».proof.Proof.Gen.ReferenceDownIdeal.Run
public import proofs.«01_k».proof.Proof.Gen.ReferenceDownIdeal.Read
public import proofs.«01_k».proof.Proof.Gen.KernelDu.Frame
public import proofs.«01_k».proof.Proof.Gen.KernelDuIdeal.Value
public import proofs.«01_k».proof.Proof.Gen.ReferenceDuIdeal.Run
public import proofs.«01_k».proof.Proof.Gen.ReferenceDuIdeal.Read
public import proofs.«01_k».proof.Proof.Gen.KernelGdown.Frame
public import proofs.«01_k».proof.Proof.Gen.KernelGdownIdeal.Value
public import proofs.«01_k».proof.Proof.Gen.ReferenceGdownIdeal.Run
public import proofs.«01_k».proof.Proof.Gen.ReferenceGdownIdeal.Read
public import proofs.«01_k».proof.Proof.Gen.KernelGup.Frame
public import proofs.«01_k».proof.Proof.Gen.KernelGupIdeal.Value
public import proofs.«01_k».proof.Proof.Gen.ReferenceGupIdeal.Run
public import proofs.«01_k».proof.Proof.Gen.ReferenceGupIdeal.Read
public import proofs.«01_k».proof.Proof.Gen.KernelDh.Frame
public import proofs.«01_k».proof.Proof.Gen.KernelDhIdeal.Value
public import proofs.«01_k».proof.Proof.Gen.ReferenceDhIdeal.Run
public import proofs.«01_k».proof.Proof.Gen.ReferenceDhIdeal.Read
public import proofs.«01_k».proof.Proof.Runs
public import proofs.«01_k».proof.Proof.MlpRuns
public import Idealize.ShloMosaic.Adequacy
public import Idealize.ShloMosaic.Init

@[expose] public section

noncomputable section

namespace Cert.Proof

open Idealize.ShloMosaic Idealize.ShloMosaic.TcCoe Idealize.SL.Sem

/-- The claim about the values, with the shape of every compared array written out. -/
def Alg [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      @Eq ((⟨Cert.ReferenceIdeal.S2048x5152, .f32⟩ : BufTy).Contents (Elt Ideal)) (m' ((c.tc : Thread Cert.ReferenceIdeal.nD Cert.ReferenceIdeal.τ).loc Cert.ReferenceIdeal.main_arg0)) (m ((c.tc : Thread Cert.KernelIdeal.nD Cert.KernelIdeal.τ).loc Cert.KernelIdeal.main_arg0))
      ∧ @Eq ((⟨Cert.ReferenceIdeal.S2048x3072, .f32⟩ : BufTy).Contents (Elt Ideal)) (m' ((c.tc : Thread Cert.ReferenceIdeal.nD Cert.ReferenceIdeal.τ).loc Cert.ReferenceIdeal.main_arg1)) (m ((c.tc : Thread Cert.KernelIdeal.nD Cert.KernelIdeal.τ).loc Cert.KernelIdeal.main_arg1))
      ∧ @Eq ((⟨Cert.ReferenceIdeal.S32, .f32⟩ : BufTy).Contents (Elt Ideal)) (m' ((c.tc : Thread Cert.ReferenceIdeal.nD Cert.ReferenceIdeal.τ).loc Cert.ReferenceIdeal.main_arg2)) (m ((c.tc : Thread Cert.KernelIdeal.nD Cert.KernelIdeal.τ).loc Cert.KernelIdeal.main_arg2))
      ∧ @Eq ((⟨Cert.ReferenceIdeal.S32, .f32⟩ : BufTy).Contents (Elt Ideal)) (m' ((c.tc : Thread Cert.ReferenceIdeal.nD Cert.ReferenceIdeal.τ).loc Cert.ReferenceIdeal.main_arg3)) (m ((c.tc : Thread Cert.KernelIdeal.nD Cert.KernelIdeal.τ).loc Cert.KernelIdeal.main_arg3))
      ∧ @Eq ((⟨Cert.ReferenceIdeal.S32, .f32⟩ : BufTy).Contents (Elt Ideal)) (m' ((c.tc : Thread Cert.ReferenceIdeal.nD Cert.ReferenceIdeal.τ).loc Cert.ReferenceIdeal.main_arg4)) (m ((c.tc : Thread Cert.KernelIdeal.nD Cert.KernelIdeal.τ).loc Cert.KernelIdeal.main_arg4))
      ∧ @Eq ((⟨Cert.ReferenceIdeal.S2048, .f32⟩ : BufTy).Contents (Elt Ideal)) (m' ((c.tc : Thread Cert.ReferenceIdeal.nD Cert.ReferenceIdeal.τ).loc Cert.ReferenceIdeal.main_arg5)) (m ((c.tc : Thread Cert.KernelIdeal.nD Cert.KernelIdeal.τ).loc Cert.KernelIdeal.main_arg5))
      ∧ @Eq ((⟨Cert.ReferenceIdeal.S2048x2048, .f32⟩ : BufTy).Contents (Elt Ideal)) (m' ((c.tc : Thread Cert.ReferenceIdeal.nD Cert.ReferenceIdeal.τ).loc Cert.ReferenceIdeal.main_arg6)) (m ((c.tc : Thread Cert.KernelIdeal.nD Cert.KernelIdeal.τ).loc Cert.KernelIdeal.main_arg6))) →
    ∃ (v0 : (c : Dev Cert.KernelIdeal.nD) → Buf (Elt Ideal) ((c.tc : Thread Cert.KernelIdeal.nD Cert.KernelIdeal.τ).loc Cert.KernelIdeal.main_v243_1)) (v1 : (c : Dev Cert.KernelIdeal.nD) → Buf (Elt Ideal) ((c.tc : Thread Cert.KernelIdeal.nD Cert.KernelIdeal.τ).loc Cert.KernelIdeal.main_v243_2)) (v2 : (c : Dev Cert.KernelIdeal.nD) → Buf (Elt Ideal) ((c.tc : Thread Cert.KernelIdeal.nD Cert.KernelIdeal.τ).loc Cert.KernelIdeal.main_v243_3)) (v3 : (c : Dev Cert.KernelIdeal.nD) → Buf (Elt Ideal) ((c.tc : Thread Cert.KernelIdeal.nD Cert.KernelIdeal.τ).loc Cert.KernelIdeal.main_v243_7)) (v4 : (c : Dev Cert.KernelIdeal.nD) → Buf (Elt Ideal) ((c.tc : Thread Cert.KernelIdeal.nD Cert.KernelIdeal.τ).loc Cert.KernelIdeal.main_v243_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v243_1) = v0 c
          ∧ r.2.mem ((c.tc : Thread Cert.KernelIdeal.nD Cert.KernelIdeal.τ).loc Cert.KernelIdeal.main_v243_2) = v1 c
          ∧ r.2.mem ((c.tc : Thread Cert.KernelIdeal.nD Cert.KernelIdeal.τ).loc Cert.KernelIdeal.main_v243_3) = v2 c
          ∧ r.2.mem ((c.tc : Thread Cert.KernelIdeal.nD Cert.KernelIdeal.τ).loc Cert.KernelIdeal.main_v243_7) = v3 c
          ∧ r.2.mem ((c.tc : Thread Cert.KernelIdeal.nD Cert.KernelIdeal.τ).loc Cert.KernelIdeal.main_v243_8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          @Eq ((⟨Cert.ReferenceIdeal.S2048x2048, .f32⟩ : BufTy).Contents (Elt Ideal)) (r.2.mem ((c.tc : Thread Cert.ReferenceIdeal.nD Cert.ReferenceIdeal.τ).loc Cert.ReferenceIdeal.main_v646)) (v0 c)
          ∧ @Eq ((⟨Cert.ReferenceIdeal.S2048x512, .f32⟩ : BufTy).Contents (Elt Ideal)) (r.2.mem ((c.tc : Thread Cert.ReferenceIdeal.nD Cert.ReferenceIdeal.τ).loc Cert.ReferenceIdeal.main_v647)) (v1 c)
          ∧ @Eq ((⟨Cert.ReferenceIdeal.S2048x512, .f32⟩ : BufTy).Contents (Elt Ideal)) (r.2.mem ((c.tc : Thread Cert.ReferenceIdeal.nD Cert.ReferenceIdeal.τ).loc Cert.ReferenceIdeal.main_v648)) (v2 c)
          ∧ @Eq ((⟨Cert.ReferenceIdeal.S4x1x128, .f32⟩ : BufTy).Contents (Elt Ideal)) (r.2.mem ((c.tc : Thread Cert.ReferenceIdeal.nD Cert.ReferenceIdeal.τ).loc Cert.ReferenceIdeal.main_v662)) (v3 c)
          ∧ @Eq ((⟨Cert.ReferenceIdeal.S4x1x512, .f32⟩ : BufTy).Contents (Elt Ideal)) (r.2.mem ((c.tc : Thread Cert.ReferenceIdeal.nD Cert.ReferenceIdeal.τ).loc Cert.ReferenceIdeal.main_v663)) (v4 c)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

/-- The kernel and the reference end with equal results, the shapes written out. -/
theorem alg_shapes : Alg (hKernelIdeal := Cert.KernelIdeal.Gen.facts) (hReferenceIdeal := Cert.ReferenceIdeal.Gen.facts) := by
  unfold Alg
  intro m g m' g' _ hargs
  refine ⟨fun c => Cert.ReferenceIdeal.Read.val_main_v646 (F := Ideal) (m (c, Proc.devRef .tc Cert.KernelIdeal.main_arg0)) (m (c, Proc.devRef .tc Cert.KernelIdeal.main_arg1)) (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg5)) (m (c, Proc.devRef .tc Cert.KernelIdeal.main_arg6)), fun c => Cert.ReferenceIdeal.Read.val_main_v647 (F := Ideal) (m (c, Proc.devRef .tc Cert.KernelIdeal.main_arg0)) (m (c, Proc.devRef .tc Cert.KernelIdeal.main_arg1)) (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg5)) (m (c, Proc.devRef .tc Cert.KernelIdeal.main_arg6)), fun c => Cert.ReferenceIdeal.Read.val_main_v648 (F := Ideal) (m (c, Proc.devRef .tc Cert.KernelIdeal.main_arg0)) (m (c, Proc.devRef .tc Cert.KernelIdeal.main_arg1)) (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg5)) (m (c, Proc.devRef .tc Cert.KernelIdeal.main_arg6)), fun c => Cert.ReferenceIdeal.Read.val_main_v662 (F := Ideal) (m (c, Proc.devRef .tc Cert.KernelIdeal.main_arg0)) (m (c, Proc.devRef .tc Cert.KernelIdeal.main_arg1)) (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg5)) (m (c, Proc.devRef .tc Cert.KernelIdeal.main_arg6)), fun c => Cert.ReferenceIdeal.Read.val_main_v663 (F := Ideal) (m (c, Proc.devRef .tc Cert.KernelIdeal.main_arg0)) (m (c, Proc.devRef .tc Cert.KernelIdeal.main_arg1)) (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg6)), kernel_run m g, ?_⟩
  refine (θ_run _ _ _).mono (fun r h c => ?_) (reference_run m' g')
  have h0 : @Eq ((⟨Cert.ReferenceIdeal.S2048x5152, .f32⟩ : BufTy).Contents (Elt Ideal)) (StableHlo.launchContents m' c (Proc.devRef .tc Cert.ReferenceIdeal.main_arg0))
      (m (c, Proc.devRef .tc Cert.KernelIdeal.main_arg0)) := (hargs c).1
  have h1 : @Eq ((⟨Cert.ReferenceIdeal.S2048x3072, .f32⟩ : BufTy).Contents (Elt Ideal)) (StableHlo.launchContents m' c (Proc.devRef .tc Cert.ReferenceIdeal.main_arg1))
      (m (c, Proc.devRef .tc Cert.KernelIdeal.main_arg1)) := (hargs c).2.1
  have h2 : @Eq ((⟨Cert.ReferenceIdeal.S32, .f32⟩ : BufTy).Contents (Elt Ideal)) (StableHlo.launchContents m' c (Proc.devRef .tc Cert.ReferenceIdeal.main_arg2))
      (m (c, Proc.devRef .tc Cert.KernelIdeal.main_arg2)) := (hargs c).2.2.1
  have h3 : @Eq ((⟨Cert.ReferenceIdeal.S32, .f32⟩ : BufTy).Contents (Elt Ideal)) (StableHlo.launchContents m' c (Proc.devRef .tc Cert.ReferenceIdeal.main_arg3))
      (m (c, Proc.devRef .tc Cert.KernelIdeal.main_arg3)) := (hargs c).2.2.2.1
  have h4 : @Eq ((⟨Cert.ReferenceIdeal.S32, .f32⟩ : BufTy).Contents (Elt Ideal)) (StableHlo.launchContents m' c (Proc.devRef .tc Cert.ReferenceIdeal.main_arg4))
      (m (c, Proc.devRef .tc Cert.KernelIdeal.main_arg4)) := (hargs c).2.2.2.2.1
  have h5 : @Eq ((⟨Cert.ReferenceIdeal.S2048, .f32⟩ : BufTy).Contents (Elt Ideal)) (StableHlo.launchContents m' c (Proc.devRef .tc Cert.ReferenceIdeal.main_arg5))
      (m (c, Proc.devRef .tc Cert.KernelIdeal.main_arg5)) := (hargs c).2.2.2.2.2.1
  have h6 : @Eq ((⟨Cert.ReferenceIdeal.S2048x2048, .f32⟩ : BufTy).Contents (Elt Ideal)) (StableHlo.launchContents m' c (Proc.devRef .tc Cert.ReferenceIdeal.main_arg6))
      (m (c, Proc.devRef .tc Cert.KernelIdeal.main_arg6)) := (hargs c).2.2.2.2.2.2
  obtain ⟨r0, r1, r2, r3, r4, ha⟩ := h c
  exact ⟨r0.trans (congr7 (Cert.ReferenceIdeal.Read.val_main_v646 (F := Ideal)) h0 h1 h2 h3 h4 h5 h6),
    r1.trans (congr7 (Cert.ReferenceIdeal.Read.val_main_v647 (F := Ideal)) h0 h1 h2 h3 h4 h5 h6),
    r2.trans (congr7 (Cert.ReferenceIdeal.Read.val_main_v648 (F := Ideal)) h0 h1 h2 h3 h4 h5 h6),
    r3.trans (congr7 (Cert.ReferenceIdeal.Read.val_main_v662 (F := Ideal)) h0 h1 h2 h3 h4 h5 h6),
    r4.trans (congr6 (Cert.ReferenceIdeal.Read.val_main_v663 (F := Ideal)) h0 h1 h2 h3 h4 h6), ha⟩

/-- The kernel and the reference end with equal results. -/
theorem alg : Cert.algebraic_KernelIdeal_ReferenceIdeal (hKernelIdeal := Cert.KernelIdeal.Gen.facts) (hReferenceIdeal := Cert.ReferenceIdeal.Gen.facts) :=
  alg_shapes

/-- The reference ends with its arguments unchanged and every counter at zero, of which it has none. -/
theorem frame_reference : Cert.quiescent_ReferenceIdeal (hReferenceIdeal := Cert.ReferenceIdeal.Gen.facts) := by
  intro m ρ _
  exact (θ_run Cert.ReferenceIdeal.defs _ _).mono (fun r h => ⟨fun c => (h c).2.2.2.2.2, sem_eq_zero_of_no_sems (by decide) r.2⟩)
    (Cert.ReferenceIdeal.Value.run (F := Ideal) m ρ)

/-- Everything that is claimed. -/
theorem claim : Cert.Claim :=
  ⟨Cert.Kernel.Gen.facts, Cert.KernelIdeal.Gen.facts, Cert.ReferenceIdeal.Gen.facts,
    Cert.KernelUp.Gen.facts, Cert.KernelUpIdeal.Gen.facts, Cert.ReferenceUpIdeal.Gen.facts, Cert.KernelDown.Gen.facts, Cert.KernelDownIdeal.Gen.facts, Cert.ReferenceDownIdeal.Gen.facts,
    Cert.KernelDu.Gen.facts, Cert.KernelDuIdeal.Gen.facts, Cert.ReferenceDuIdeal.Gen.facts, Cert.KernelGdown.Gen.facts, Cert.KernelGdownIdeal.Gen.facts, Cert.ReferenceGdownIdeal.Gen.facts,
    Cert.KernelGup.Gen.facts, Cert.KernelGupIdeal.Gen.facts, Cert.ReferenceGupIdeal.Gen.facts, Cert.KernelDh.Gen.facts, Cert.KernelDhIdeal.Gen.facts, Cert.ReferenceDhIdeal.Gen.facts,
    fun m ρ _ => Cert.Kernel.Gen.frame m ρ, fun m ρ _ => Cert.KernelIdeal.Gen.frame m ρ, frame_reference,
    fun m ρ _ => Cert.KernelUp.Gen.frame m ρ, fun m ρ _ => Cert.KernelUpIdeal.Gen.frame m ρ, frame_up,
    fun m ρ _ => Cert.KernelDown.Gen.frame m ρ, fun m ρ _ => Cert.KernelDownIdeal.Gen.frame m ρ, frame_down,
    fun m ρ _ => Cert.KernelDu.Gen.frame m ρ, fun m ρ _ => Cert.KernelDuIdeal.Gen.frame m ρ, frame_du,
    fun m ρ _ => Cert.KernelGdown.Gen.frame m ρ, fun m ρ _ => Cert.KernelGdownIdeal.Gen.frame m ρ, frame_gdown,
    fun m ρ _ => Cert.KernelGup.Gen.frame m ρ, fun m ρ _ => Cert.KernelGupIdeal.Gen.frame m ρ, frame_gup,
    fun m ρ _ => Cert.KernelDh.Gen.frame m ρ, fun m ρ _ => Cert.KernelDhIdeal.Gen.frame m ρ, frame_dh,
    IdealRules.named_const.statement Cert.KernelIdeal.κ "mask" .f32 0xF149F2CA#32 ⊥ rfl, alg,
    trivial, alg_up,
    trivial, alg_down,
    trivial, alg_du,
    trivial, alg_gdown,
    trivial, alg_gup,
    trivial, alg_dh⟩

end Cert.Proof

end
